-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v15)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v71) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v52_0)) (v1 : (c : Dev Cert.Kernel4Ideal.nD) → Buf (Elt Ideal) ((c.tc : Thread Cert.Kernel4Ideal.nD Cert.Kernel4Ideal.τ).loc Cert.Kernel4Ideal.main_v52_1)) (v2 : (c : Dev Cert.Kernel4Ideal.nD) → Buf (Elt Ideal) ((c.tc : Thread Cert.Kernel4Ideal.nD Cert.Kernel4Ideal.τ).loc Cert.Kernel4Ideal.main_v52_2)) (v3 : (c : Dev Cert.Kernel4Ideal.nD) → Buf (Elt Ideal) ((c.tc : Thread Cert.Kernel4Ideal.nD Cert.Kernel4Ideal.τ).loc Cert.Kernel4Ideal.main_v52_3)) (v4 : (c : Dev Cert.Kernel4Ideal.nD) → Buf (Elt Ideal) ((c.tc : Thread Cert.Kernel4Ideal.nD Cert.Kernel4Ideal.τ).loc Cert.Kernel4Ideal.main_v52_4)) (v5 : (c : Dev Cert.Kernel4Ideal.nD) → Buf (Elt Ideal) ((c.tc : Thread Cert.Kernel4Ideal.nD Cert.Kernel4Ideal.τ).loc Cert.Kernel4Ideal.main_v52_5)) (v6 : (c : Dev Cert.Kernel4Ideal.nD) → Buf (Elt Ideal) ((c.tc : Thread Cert.Kernel4Ideal.nD Cert.Kernel4Ideal.τ).loc Cert.Kernel4Ideal.main_v52_6)) (v7 : (c : Dev Cert.Kernel4Ideal.nD) → Buf (Elt Ideal) ((c.tc : Thread Cert.Kernel4Ideal.nD Cert.Kernel4Ideal.τ).loc Cert.Kernel4Ideal.main_v52_7)) (v8 : (c : Dev Cert.Kernel4Ideal.nD) → Buf (Elt Ideal) ((c.tc : Thread Cert.Kernel4Ideal.nD Cert.Kernel4Ideal.τ).loc Cert.Kernel4Ideal.main_v52_8)) (v9 : (c : Dev Cert.Kernel4Ideal.nD) → Buf (Elt Ideal) ((c.tc : Thread Cert.Kernel4Ideal.nD Cert.Kernel4Ideal.τ).loc Cert.Kernel4Ideal.main_v52_9)) (v10 : (c : Dev Cert.Kernel4Ideal.nD) → Buf (Elt Ideal) ((c.tc : Thread Cert.Kernel4Ideal.nD Cert.Kernel4Ideal.τ).loc Cert.Kernel4Ideal.main_v52_10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v52_0) = v0 c
          ∧ r.2.mem ((c.tc : Thread Cert.Kernel4Ideal.nD Cert.Kernel4Ideal.τ).loc Cert.Kernel4Ideal.main_v52_1) = v1 c
          ∧ r.2.mem ((c.tc : Thread Cert.Kernel4Ideal.nD Cert.Kernel4Ideal.τ).loc Cert.Kernel4Ideal.main_v52_2) = v2 c
          ∧ r.2.mem ((c.tc : Thread Cert.Kernel4Ideal.nD Cert.Kernel4Ideal.τ).loc Cert.Kernel4Ideal.main_v52_3) = v3 c
          ∧ r.2.mem ((c.tc : Thread Cert.Kernel4Ideal.nD Cert.Kernel4Ideal.τ).loc Cert.Kernel4Ideal.main_v52_4) = v4 c
          ∧ r.2.mem ((c.tc : Thread Cert.Kernel4Ideal.nD Cert.Kernel4Ideal.τ).loc Cert.Kernel4Ideal.main_v52_5) = v5 c
          ∧ r.2.mem ((c.tc : Thread Cert.Kernel4Ideal.nD Cert.Kernel4Ideal.τ).loc Cert.Kernel4Ideal.main_v52_6) = v6 c
          ∧ r.2.mem ((c.tc : Thread Cert.Kernel4Ideal.nD Cert.Kernel4Ideal.τ).loc Cert.Kernel4Ideal.main_v52_7) = v7 c
          ∧ r.2.mem ((c.tc : Thread Cert.Kernel4Ideal.nD Cert.Kernel4Ideal.τ).loc Cert.Kernel4Ideal.main_v52_8) = v8 c
          ∧ r.2.mem ((c.tc : Thread Cert.Kernel4Ideal.nD Cert.Kernel4Ideal.τ).loc Cert.Kernel4Ideal.main_v52_9) = v9 c
          ∧ r.2.mem ((c.tc : Thread Cert.Kernel4Ideal.nD Cert.Kernel4Ideal.τ).loc Cert.Kernel4Ideal.main_v52_10) = v10 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v157) = v0 c
          ∧ r.2.mem ((c.tc : Thread Cert.Reference4Ideal.nD Cert.Reference4Ideal.τ).loc Cert.Reference4Ideal.main_v158) = v1 c
          ∧ r.2.mem ((c.tc : Thread Cert.Reference4Ideal.nD Cert.Reference4Ideal.τ).loc Cert.Reference4Ideal.main_v150) = v2 c
          ∧ r.2.mem ((c.tc : Thread Cert.Reference4Ideal.nD Cert.Reference4Ideal.τ).loc Cert.Reference4Ideal.main_v153) = v3 c
          ∧ r.2.mem ((c.tc : Thread Cert.Reference4Ideal.nD Cert.Reference4Ideal.τ).loc Cert.Reference4Ideal.main_v152) = v4 c
          ∧ r.2.mem ((c.tc : Thread Cert.Reference4Ideal.nD Cert.Reference4Ideal.τ).loc Cert.Reference4Ideal.main_v156) = v5 c
          ∧ r.2.mem ((c.tc : Thread Cert.Reference4Ideal.nD Cert.Reference4Ideal.τ).loc Cert.Reference4Ideal.main_v159) = v6 c
          ∧ r.2.mem ((c.tc : Thread Cert.Reference4Ideal.nD Cert.Reference4Ideal.τ).loc Cert.Reference4Ideal.main_v160) = v7 c
          ∧ r.2.mem ((c.tc : Thread Cert.Reference4Ideal.nD Cert.Reference4Ideal.τ).loc Cert.Reference4Ideal.main_v161) = v8 c
          ∧ r.2.mem ((c.tc : Thread Cert.Reference4Ideal.nD Cert.Reference4Ideal.τ).loc Cert.Reference4Ideal.main_v162) = v9 c
          ∧ r.2.mem ((c.tc : Thread Cert.Reference4Ideal.nD Cert.Reference4Ideal.τ).loc Cert.Reference4Ideal.main_v163) = v10 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v15)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v15) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v71) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v57_0)) (v1 : (c : Dev Cert.Kernel6Ideal.nD) → Buf (Elt Ideal) ((c.tc : Thread Cert.Kernel6Ideal.nD Cert.Kernel6Ideal.τ).loc Cert.Kernel6Ideal.main_v57_1)) (v2 : (c : Dev Cert.Kernel6Ideal.nD) → Buf (Elt Ideal) ((c.tc : Thread Cert.Kernel6Ideal.nD Cert.Kernel6Ideal.τ).loc Cert.Kernel6Ideal.main_v57_2)) (v3 : (c : Dev Cert.Kernel6Ideal.nD) → Buf (Elt Ideal) ((c.tc : Thread Cert.Kernel6Ideal.nD Cert.Kernel6Ideal.τ).loc Cert.Kernel6Ideal.main_v57_3)) (v4 : (c : Dev Cert.Kernel6Ideal.nD) → Buf (Elt Ideal) ((c.tc : Thread Cert.Kernel6Ideal.nD Cert.Kernel6Ideal.τ).loc Cert.Kernel6Ideal.main_v57_4)) (v5 : (c : Dev Cert.Kernel6Ideal.nD) → Buf (Elt Ideal) ((c.tc : Thread Cert.Kernel6Ideal.nD Cert.Kernel6Ideal.τ).loc Cert.Kernel6Ideal.main_v57_5)) (v6 : (c : Dev Cert.Kernel6Ideal.nD) → Buf (Elt Ideal) ((c.tc : Thread Cert.Kernel6Ideal.nD Cert.Kernel6Ideal.τ).loc Cert.Kernel6Ideal.main_v57_6)) (v7 : (c : Dev Cert.Kernel6Ideal.nD) → Buf (Elt Ideal) ((c.tc : Thread Cert.Kernel6Ideal.nD Cert.Kernel6Ideal.τ).loc Cert.Kernel6Ideal.main_v57_7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v57_0) = v0 c
          ∧ r.2.mem ((c.tc : Thread Cert.Kernel6Ideal.nD Cert.Kernel6Ideal.τ).loc Cert.Kernel6Ideal.main_v57_1) = v1 c
          ∧ r.2.mem ((c.tc : Thread Cert.Kernel6Ideal.nD Cert.Kernel6Ideal.τ).loc Cert.Kernel6Ideal.main_v57_2) = v2 c
          ∧ r.2.mem ((c.tc : Thread Cert.Kernel6Ideal.nD Cert.Kernel6Ideal.τ).loc Cert.Kernel6Ideal.main_v57_3) = v3 c
          ∧ r.2.mem ((c.tc : Thread Cert.Kernel6Ideal.nD Cert.Kernel6Ideal.τ).loc Cert.Kernel6Ideal.main_v57_4) = v4 c
          ∧ r.2.mem ((c.tc : Thread Cert.Kernel6Ideal.nD Cert.Kernel6Ideal.τ).loc Cert.Kernel6Ideal.main_v57_5) = v5 c
          ∧ r.2.mem ((c.tc : Thread Cert.Kernel6Ideal.nD Cert.Kernel6Ideal.τ).loc Cert.Kernel6Ideal.main_v57_6) = v6 c
          ∧ r.2.mem ((c.tc : Thread Cert.Kernel6Ideal.nD Cert.Kernel6Ideal.τ).loc Cert.Kernel6Ideal.main_v57_7) = v7 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v154) = v0 c
          ∧ r.2.mem ((c.tc : Thread Cert.Reference6Ideal.nD Cert.Reference6Ideal.τ).loc Cert.Reference6Ideal.main_v155) = v1 c
          ∧ r.2.mem ((c.tc : Thread Cert.Reference6Ideal.nD Cert.Reference6Ideal.τ).loc Cert.Reference6Ideal.main_v156) = v2 c
          ∧ r.2.mem ((c.tc : Thread Cert.Reference6Ideal.nD Cert.Reference6Ideal.τ).loc Cert.Reference6Ideal.main_v157) = v3 c
          ∧ r.2.mem ((c.tc : Thread Cert.Reference6Ideal.nD Cert.Reference6Ideal.τ).loc Cert.Reference6Ideal.main_v158) = v4 c
          ∧ r.2.mem ((c.tc : Thread Cert.Reference6Ideal.nD Cert.Reference6Ideal.τ).loc Cert.Reference6Ideal.main_v153) = v5 c
          ∧ r.2.mem ((c.tc : Thread Cert.Reference6Ideal.nD Cert.Reference6Ideal.τ).loc Cert.Reference6Ideal.main_v159) = v6 c
          ∧ r.2.mem ((c.tc : Thread Cert.Reference6Ideal.nD Cert.Reference6Ideal.τ).loc Cert.Reference6Ideal.main_v160) = v7 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v39) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S16x2048x8x64 : Shape := ⟨4, ![16, 2048, 8, 64]⟩
abbrev S16x2048x2x64 : Shape := ⟨4, ![16, 2048, 2, 64]⟩
abbrev S16x2048x64 : Shape := ⟨3, ![16, 2048, 64]⟩
abbrev S16x2048x8 : Shape := ⟨3, ![16, 2048, 8]⟩
abbrev S_ : Shape := ⟨0, ![]⟩

class Facts : Prop where
  bcast_S_S16x2048x8x64 : S_.BroadcastsInDim S16x2048x8x64 (![] : Fin 0 → Fin S16x2048x8x64.rank)
  reducesTo_S16x2048x8x64_S_d0_1_2_3 : S16x2048x8x64.ReducesTo [0, 1, 2, 3] S_
  h_S_ : 0 < S_.numel
  bcast_S_S16x2048x2x64 : S_.BroadcastsInDim S16x2048x2x64 (![] : Fin 0 → Fin S16x2048x2x64.rank)
  reducesTo_S16x2048x2x64_S_d0_1_2_3 : S16x2048x2x64.ReducesTo [0, 1, 2, 3] S_
  bcast_S_S16x2048x64 : S_.BroadcastsInDim S16x2048x64 (![] : Fin 0 → Fin S16x2048x64.rank)
  reducesTo_S16x2048x64_S_d0_1_2 : S16x2048x64.ReducesTo [0, 1, 2] S_
  bcast_S_S16x2048x8 : S_.BroadcastsInDim S16x2048x8 (![] : Fin 0 → Fin S16x2048x8.rank)
  reducesTo_S16x2048x8_S_d0_1_2 : S16x2048x8.ReducesTo [0, 1, 2] S_

variable [Facts]

def fn_part1 {F : FTy → Type} [FloatOps F] (main_arg5 : FVec F S16x2048x8 .f32) (main_v13 : IVec S_ 1) (main_v16 : IVec S16x2048x64 1) : IVec S_ 1 :=
  let main_c_5 : IVec S_ 1 := constantI S_ 1 1#1
  let main_v17 : IVec S_ 1 := (fun x v => Host.reduce IntOp.andi x v reducesTo_S16x2048x64_S_d0_1_2 h_S_) main_v16 main_c_5
  let main_v18 : IVec S_ 1 := andi main_v13 main_v17
  let main_v19 : FVec F S16x2048x8 .f32 := Host.absf main_arg5
  let main_cst_6 : FVec F S_ .f32 := constant S_ .f32 0x7F800000#32
  let main_v20 : FVec F S16x2048x8 .f32 := broadcastInDim S16x2048x8 ![] bcast_S_S16x2048x8 main_cst_6
  let main_v21 : IVec S16x2048x8 1 := cmpf .olt main_v19 main_v20
  let main_c_7 : IVec S_ 1 := constantI S_ 1 1#1
  let main_v22 : IVec S_ 1 := (fun x v => Host.reduce IntOp.andi x v reducesTo_S16x2048x8_S_d0_1_2 h_S_) main_v21 main_c_7
  let main_v23 : IVec S_ 1 := andi main_v18 main_v22
  main_v23

def fn {F : FTy → Type} [FloatOps F] (main_arg0 : FVec F S16x2048x8x64 .f32) (main_arg1 : FVec F S16x2048x2x64 .f32) (main_arg2 : FVec F S16x2048x2x64 .f32) (main_arg3 : FVec F S16x2048x8x64 .f32) (main_arg4 : FVec F S16x2048x64 .f32) (main_arg5 : FVec F S16x2048x8 .f32) : IVec S_ 1 :=
  let main_v0 : FVec F S16x2048x8x64 .f32 := Host.absf main_arg0
  let main_cst : FVec F S_ .f32 := constant S_ .f32 0x7F800000#32
  let main_v1 : FVec F S16x2048x8x64 .f32 := broadcastInDim S16x2048x8x64 ![] bcast_S_S16x2048x8x64 main_cst
  let main_v2 : IVec S16x2048x8x64 1 := cmpf .olt main_v0 main_v1
  let main_c : IVec S_ 1 := constantI S_ 1 1#1
  let main_v3 : IVec S_ 1 := (fun x v => Host.reduce IntOp.andi x v reducesTo_S16x2048x8x64_S_d0_1_2_3 h_S_) main_v2 main_c
  let main_v4 : FVec F S16x2048x2x64 .f32 := Host.absf main_arg1
  let main_cst_0 : FVec F S_ .f32 := constant S_ .f32 0x7F800000#32
  let main_v5 : FVec F S16x2048x2x64 .f32 := broadcastInDim S16x2048x2x64 ![] bcast_S_S16x2048x2x64 main_cst_0
  let main_v6 : IVec S16x2048x2x64 1 := cmpf .olt main_v4 main_v5
  let main_c_1 : IVec S_ 1 := constantI S_ 1 1#1
  let main_v7 : IVec S_ 1 := (fun x v => Host.reduce IntOp.andi x v reducesTo_S16x2048x2x64_S_d0_1_2_3 h_S_) main_v6 main_c_1
  let main_v8 : IVec S_ 1 := andi main_v3 main_v7
  let main_v9 : FVec F S16x2048x8x64 .f32 := Host.absf main_arg3
  let main_cst_2 : FVec F S_ .f32 := constant S_ .f32 0x7F800000#32
  let main_v10 : FVec F S16x2048x8x64 .f32 := broadcastInDim S16x2048x8x64 ![] bcast_S_S16x2048x8x64 main_cst_2
  let main_v11 : IVec S16x2048x8x64 1 := cmpf .olt main_v9 main_v10
  let main_c_3 : IVec S_ 1 := constantI S_ 1 1#1
  let main_v12 : IVec S_ 1 := (fun x v => Host.reduce IntOp.andi x v reducesTo_S16x2048x8x64_S_d0_1_2_3 h_S_) main_v11 main_c_3
  let main_v13 : IVec S_ 1 := andi main_v8 main_v12
  let main_v14 : FVec F S16x2048x64 .f32 := Host.absf main_arg4
  let main_cst_4 : FVec F S_ .f32 := constant S_ .f32 0x7F800000#32
  let main_v15 : FVec F S16x2048x64 .f32 := broadcastInDim S16x2048x64 ![] bcast_S_S16x2048x64 main_cst_4
  let main_v16 : IVec S16x2048x64 1 := cmpf .olt main_v14 main_v15
  fn_part1 (F := F) main_arg5 main_v13 main_v16
-- ==== Kernel.lean ====
abbrev S16x2048x8x64 : Shape := ⟨4, ![16, 2048, 8, 64]⟩
abbrev S16x2048x2x64 : Shape := ⟨4, ![16, 2048, 2, 64]⟩
abbrev S16x2048x64 : Shape := ⟨3, ![16, 2048, 64]⟩
abbrev S16x2048x8 : Shape := ⟨3, ![16, 2048, 8]⟩
abbrev S16x2x64x2048 : Shape := ⟨4, ![16, 2, 64, 2048]⟩
abbrev S16x128x2048 : Shape := ⟨3, ![16, 128, 2048]⟩
abbrev S16x64x2048 : Shape := ⟨3, ![16, 64, 2048]⟩
abbrev S32768x8 : Shape := ⟨2, ![32768, 8]⟩
abbrev S_ : Shape := ⟨0, ![]⟩
abbrev S32768x128 : Shape := ⟨2, ![32768, 128]⟩
abbrev S32768x512 : Shape := ⟨2, ![32768, 512]⟩
abbrev S128x512 : Shape := ⟨2, ![128, 512]⟩
abbrev S128x128 : Shape := ⟨2, ![128, 128]⟩
abbrev S1x128x2048 : Shape := ⟨3, ![1, 128, 2048]⟩
abbrev S1x64x2048 : Shape := ⟨3, ![1, 64, 2048]⟩
abbrev S128x256 : Shape := ⟨2, ![128, 256]⟩
abbrev S1x128x256 : Shape := ⟨3, ![1, 128, 256]⟩
abbrev S64x256 : Shape := ⟨2, ![64, 256]⟩
abbrev S128x64 : Shape := ⟨2, ![128, 64]⟩
abbrev S128 : Shape := ⟨1, ![128]⟩
abbrev S128x1 : Shape := ⟨2, ![128, 1]⟩
abbrev S1x64x256 : Shape := ⟨3, ![1, 64, 256]⟩
abbrev S1x128x1 : Shape := ⟨3, ![1, 128, 1]⟩
abbrev S1 : Shape := ⟨1, ![1]⟩
abbrev S1x1x1 : Shape := ⟨3, ![1, 1, 1]⟩
abbrev S1x128x512 : Shape := ⟨3, ![1, 128, 512]⟩
abbrev S64x512 : Shape := ⟨2, ![64, 512]⟩
abbrev S128x1024 : Shape := ⟨2, ![128, 1024]⟩
abbrev S1x128x1024 : Shape := ⟨3, ![1, 128, 1024]⟩
abbrev S64x1024 : Shape := ⟨2, ![64, 1024]⟩
abbrev S128x1536 : Shape := ⟨2, ![128, 1536]⟩
abbrev S1x128x1536 : Shape := ⟨3, ![1, 128, 1536]⟩
abbrev S64x1536 : Shape := ⟨2, ![64, 1536]⟩
abbrev S128x2048 : Shape := ⟨2, ![128, 2048]⟩
abbrev S64x2048 : Shape := ⟨2, ![64, 2048]⟩

abbrev nBuf : Space → Nat
  | .hbm => 21
  | .vmem => 14
  | .smem => 0
  | _ => 0

abbrev bufTy : (tb : Table) → Fin (tcTables nBuf tb) → BufTy
  | .hbm, ⟨0, _⟩ => ⟨S16x2048x8x64, .f32⟩
  | .hbm, ⟨1, _⟩ => ⟨S16x2048x2x64, .f32⟩
  | .hbm, ⟨2, _⟩ => ⟨S16x2048x2x64, .f32⟩
  | .hbm, ⟨3, _⟩ => ⟨S16x2048x8x64, .f32⟩
  | .hbm, ⟨4, _⟩ => ⟨S16x2048x64, .f32⟩
  | .hbm, ⟨5, _⟩ => ⟨S16x2048x8, .f32⟩
  | .hbm, ⟨6, _⟩ => ⟨S16x2x64x2048, .f32⟩
  | .hbm, ⟨7, _⟩ => ⟨S16x128x2048, .f32⟩
  | .hbm, ⟨8, _⟩ => ⟨S16x128x2048, .bf16⟩
  | .hbm, ⟨9, _⟩ => ⟨S16x2x64x2048, .f32⟩
  | .hbm, ⟨10, _⟩ => ⟨S16x128x2048, .f32⟩
  | .hbm, ⟨11, _⟩ => ⟨S16x128x2048, .bf16⟩
  | .hbm, ⟨12, _⟩ => ⟨S16x64x2048, .f32⟩
  | .hbm, ⟨13, _⟩ => ⟨S16x64x2048, .bf16⟩
  | .hbm, ⟨14, _⟩ => ⟨S32768x8, .f32⟩
  | .hbm, ⟨15, _⟩ => ⟨S_, .i32⟩
  | .hbm, ⟨16, _⟩ => ⟨S_, .f32⟩
  | .hbm, ⟨17, _⟩ => ⟨S32768x128, .f32⟩
  | .hbm, ⟨18, _⟩ => ⟨S32768x512, .f32⟩
  | .hbm, ⟨19, _⟩ => ⟨S32768x512, .f32⟩
  | .hbm, ⟨20, _⟩ => ⟨S32768x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x128, .f32⟩
  | .local _ .vmem, ⟨5, _⟩ => ⟨S128x128, .f32⟩
  | .local _ .vmem, ⟨6, _⟩ => ⟨S1x128x2048, .bf16⟩
  | .local _ .vmem, ⟨7, _⟩ => ⟨S1x128x2048, .bf16⟩
  | .local _ .vmem, ⟨8, _⟩ => ⟨S1x64x2048, .bf16⟩
  | .local _ .vmem, ⟨9, _⟩ => ⟨S1x64x2048, .bf16⟩
  | .local _ .vmem, ⟨10, _⟩ => ⟨S1x128x2048, .bf16⟩
  | .local _ .vmem, ⟨11, _⟩ => ⟨S1x128x2048, .bf16⟩
  | .local _ .vmem, ⟨12, _⟩ => ⟨S128x512, .f32⟩
  | .local _ .vmem, ⟨13, _⟩ => ⟨S128x512, .f32⟩
  | _, _ => ⟨S16x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c2_i32_0 : BitVec 32 := 2#32
  let v3 : BitVec 1 := Scalar.cmpi .sge arg1 c2_i32_0
  let c4_i32 : BitVec 32 := 4#32
  let v4 : BitVec 1 := Scalar.cmpi .slt arg1 c4_i32
  let v5 : BitVec 1 := Scalar.andi v3 v4
  let v6 : BitVec 32 := Scalar.extui v5
  let c0_i32_1 : BitVec 32 := 0#32
  let v7 : BitVec 1 := Scalar.cmpi .ne v6 c0_i32_1
  v7

@[reducible] def k0_t1_loop : Scf.Loop 32 :=
  let c0_i32_53 : BitVec 32 := 0#32
  let c10_i32 : BitVec 32 := 10#32
  let v189 : BitVec 32 := Scalar.addi c0_i32_53 c10_i32
  let c1_i32 : BitVec 32 := 1#32
  ⟨c0_i32_53, v189, c1_i32⟩
@[reducible] def k0_t2_loop : Scf.Loop 32 :=
  let c0_i32_60 : BitVec 32 := 0#32
  let c513_i32 : BitVec 32 := 513#32
  let v203 : BitVec 32 := Scalar.addi c0_i32_60 c513_i32
  let c1_i32_61 : BitVec 32 := 1#32
  ⟨c0_i32_60, v203, c1_i32_61⟩
def k0_cond5 (i : grid0.Coords) : BitVec 1 :=
  let arg1 : BitVec 32 := BitVec.ofNat 32 (i 1).val
  let c4_i32_2 : BitVec 32 := 4#32
  let v8 : BitVec 1 := Scalar.cmpi .sge arg1 c4_i32_2
  let c8_i32 : BitVec 32 := 8#32
  let v9 : BitVec 1 := Scalar.cmpi .slt arg1 c8_i32
  let v10 : BitVec 1 := Scalar.andi v8 v9
  let v11 : BitVec 32 := Scalar.extui v10
  let c0_i32_3 : BitVec 32 := 0#32
  let v12 : BitVec 1 := Scalar.cmpi .ne v11 c0_i32_3
  v12

@[reducible] def k0_t3_loop : Scf.Loop 32 :=
  let c0_i32_89 : BitVec 32 := 0#32
  let c10_i32 : BitVec 32 := 10#32
  let v331 : BitVec 32 := Scalar.addi c0_i32_89 c10_i32
  let c1_i32 : BitVec 32 := 1#32
  ⟨c0_i32_89, v331, c1_i32⟩
@[reducible] def k0_t4_loop : Scf.Loop 32 :=
  let c0_i32_96 : BitVec 32 := 0#32
  let c1025_i32 : BitVec 32 := 1025#32
  let v345 : BitVec 32 := Scalar.addi c0_i32_96 c1025_i32
  let c1_i32_97 : BitVec 32 := 1#32
  ⟨c0_i32_96, v345, c1_i32_97⟩
def k0_cond8 (i : grid0.Coords) : BitVec 1 :=
  let arg1 : BitVec 32 := BitVec.ofNat 32 (i 1).val
  let c8_i32_4 : BitVec 32 := 8#32
  let v13 : BitVec 1 := Scalar.cmpi .sge arg1 c8_i32_4
  let c12_i32 : BitVec 32 := 12#32
  let v14 : BitVec 1 := Scalar.cmpi .slt arg1 c12_i32
  let v15 : BitVec 1 := Scalar.andi v13 v14
  let v16 : BitVec 32 := Scalar.extui v15
  let c0_i32_5 : BitVec 32 := 0#32
  let v17 : BitVec 1 := Scalar.cmpi .ne v16 c0_i32_5
  v17

@[reducible] def k0_t5_loop : Scf.Loop 32 :=
  let c0_i32_125 : BitVec 32 := 0#32
  let c20_i32 : BitVec 32 := 20#32
  let v473 : BitVec 32 := Scalar.addi c0_i32_125 c20_i32
  let c1_i32 : BitVec 32 := 1#32
  ⟨c0_i32_125, v473, c1_i32⟩
@[reducible] def k0_t6_loop : Scf.Loop 32 :=
  let c0_i32_132 : BitVec 32 := 0#32
  let c1537_i32 : BitVec 32 := 1537#32
  let v487 : BitVec 32 := Scalar.addi c0_i32_132 c1537_i32
  let c1_i32_133 : BitVec 32 := 1#32
  ⟨c0_i32_132, v487, c1_i32_133⟩
def k0_cond11 (i : grid0.Coords) : BitVec 1 :=
  let arg1 : BitVec 32 := BitVec.ofNat 32 (i 1).val
  let c12_i32_6 : BitVec 32 := 12#32
  let v18 : BitVec 1 := Scalar.cmpi .sge arg1 c12_i32_6
  let c16_i32 : BitVec 32 := 16#32
  let v19 : BitVec 1 := Scalar.cmpi .slt arg1 c16_i32
  let v20 : BitVec 1 := Scalar.andi v18 v19
  let v21 : BitVec 32 := Scalar.extui v20
  let c0_i32_7 : BitVec 32 := 0#32
  let v22 : BitVec 1 := Scalar.cmpi .ne v21 c0_i32_7
  v22

@[reducible] def k0_t7_loop : Scf.Loop 32 :=
  let c0_i32_161 : BitVec 32 := 0#32
  let c20_i32 : BitVec 32 := 20#32
  let v615 : BitVec 32 := Scalar.addi c0_i32_161 c20_i32
  let c1_i32 : BitVec 32 := 1#32
  ⟨c0_i32_161, v615, c1_i32⟩
@[reducible] def k0_t8_loop : Scf.Loop 32 :=
  let c0_i32_168 : BitVec 32 := 0#32
  let c2049_i32 : BitVec 32 := 2049#32
  let v629 : BitVec 32 := Scalar.addi c0_i32_168 c2049_i32
  let c1_i32_169 : BitVec 32 := 1#32
  ⟨c0_i32_168, v629, c1_i32_169⟩
def k0_cond1 (i : grid0.Coords) : BitVec 1 :=
  let arg1 : BitVec 32 := BitVec.ofNat 32 (i 1).val
  let c2_i32 : BitVec 32 := 2#32
  let v0 : BitVec 1 := Scalar.cmpi .slt arg1 c2_i32
  let v1 : BitVec 32 := Scalar.extui v0
  let c0_i32 : BitVec 32 := 0#32
  let v2 : BitVec 1 := Scalar.cmpi .ne v1 c0_i32
  v2

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x64x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S16x2048x8x64 : Shape := ⟨4, ![16, 2048, 8, 64]⟩
abbrev S16x2048x2x64 : Shape := ⟨4, ![16, 2048, 2, 64]⟩
abbrev S16x2048x64 : Shape := ⟨3, ![16, 2048, 64]⟩
abbrev S16x2048x8 : Shape := ⟨3, ![16, 2048, 8]⟩
abbrev S2048 : Shape := ⟨1, ![2048]⟩
abbrev S16 : Shape := ⟨1, ![16]⟩
abbrev S16x1x1 : Shape := ⟨3, ![16, 1, 1]⟩
abbrev S16x2048x8x2048 : Shape := ⟨4, ![16, 2048, 8, 2048]⟩
abbrev S_ : Shape := ⟨0, ![]⟩
abbrev S16x2048x2048 : Shape := ⟨3, ![16, 2048, 2048]⟩
abbrev S1x1x2048 : Shape := ⟨3, ![1, 1, 2048]⟩
abbrev S1x2048x1 : Shape := ⟨3, ![1, 2048, 1]⟩
abbrev S1x2048x2048 : Shape := ⟨3, ![1, 2048, 2048]⟩
abbrev S16x2048x256 : Shape := ⟨3, ![16, 2048, 256]⟩
abbrev S16x2048x256x1 : Shape := ⟨4, ![16, 2048, 256, 1]⟩
abbrev S16x2048x256x2 : Shape := ⟨4, ![16, 2048, 256, 2]⟩
abbrev S16x2048x256x2x64 : Shape := ⟨5, ![16, 2048, 256, 2, 64]⟩
abbrev S16x2048x2x4x64 : Shape := ⟨5, ![16, 2048, 2, 4, 64]⟩
abbrev S16x2048x2x4x256 : Shape := ⟨5, ![16, 2048, 2, 4, 256]⟩
abbrev S16x2048x1x1x256 : Shape := ⟨5, ![16, 2048, 1, 1, 256]⟩
abbrev S16x2048x2x4 : Shape := ⟨4, ![16, 2048, 2, 4]⟩
abbrev S16x2048x2x4x1 : Shape := ⟨5, ![16, 2048, 2, 4, 1]⟩
abbrev S32768x512 : Shape := ⟨2, ![32768, 512]⟩

abbrev nBuf : Space → Nat
  | .hbm => 97
  | .vmem => 0
  | .smem => 0
  | _ => 0

abbrev bufTy : (tb : Table) → Fin (tcTables nBuf tb) → BufTy
  | .hbm, ⟨0, _⟩ => ⟨S16x2048x8x64, .f32⟩
  | .hbm, ⟨1, _⟩ => ⟨S16x2048x2x64, .f32⟩
  | .hbm, ⟨2, _⟩ => ⟨S16x2048x2x64, .f32⟩
  | .hbm, ⟨3, _⟩ => ⟨S16x2048x8x64, .f32⟩
  | .hbm, ⟨4, _⟩ => ⟨S16x2048x64, .f32⟩
  | .hbm, ⟨5, _⟩ => ⟨S16x2048x8, .f32⟩
  | .hbm, ⟨6, _⟩ => ⟨S2048, .i32⟩
  | .hbm, ⟨7, _⟩ => ⟨S16, .i32⟩
  | .hbm, ⟨8, _⟩ => ⟨S16x1x1, .i32⟩
  | .hbm, ⟨9, _⟩ => ⟨S16x2048x8x2048, .f32⟩
  | .hbm, ⟨10, _⟩ => ⟨S_, .f32⟩
  | .hbm, ⟨11, _⟩ => ⟨S16x2048x8x2048, .f32⟩
  | .hbm, ⟨12, _⟩ => ⟨S16x2048x8x2048, .f32⟩
  | .hbm, ⟨13, _⟩ => ⟨S_, .f32⟩
  | .hbm, ⟨14, _⟩ => ⟨S16x2048x8x2048, .f32⟩
  | .hbm, ⟨15, _⟩ => ⟨S16x2048x8x2048, .f32⟩
  | .hbm, ⟨16, _⟩ => ⟨S16x2048x2048, .f32⟩
  | .hbm, ⟨17, _⟩ => ⟨S1x1x2048, .i32⟩
  | .hbm, ⟨18, _⟩ => ⟨S1x2048x1, .i32⟩
  | .hbm, ⟨19, _⟩ => ⟨S1x2048x2048, .i32⟩
  | .hbm, ⟨20, _⟩ => ⟨S1x2048x2048, .i32⟩
  | .hbm, ⟨21, _⟩ => ⟨S1x2048x2048, .i1⟩
  | .hbm, ⟨22, _⟩ => ⟨S_, .f32⟩
  | .hbm, ⟨23, _⟩ => ⟨S_, .f32⟩
  | .hbm, ⟨24, _⟩ => ⟨S16x2048x2048, .i1⟩
  | .hbm, ⟨25, _⟩ => ⟨S16x2048x2048, .f32⟩
  | .hbm, ⟨26, _⟩ => ⟨S16x2048x2048, .f32⟩
  | .hbm, ⟨27, _⟩ => ⟨S16x2048x256, .f32⟩
  | .hbm, ⟨28, _⟩ => ⟨S16x2048x256, .i32⟩
  | .hbm, ⟨29, _⟩ => ⟨S1x2048x1, .i32⟩
  | .hbm, ⟨30, _⟩ => ⟨S16x2048x256, .i32⟩
  | .hbm, ⟨31, _⟩ => ⟨S16x2048x256, .i1⟩
  | .hbm, ⟨32, _⟩ => ⟨S_, .i32⟩
  | .hbm, ⟨33, _⟩ => ⟨S16x1x1, .i32⟩
  | .hbm, ⟨34, _⟩ => ⟨S16x1x1, .i1⟩
  | .hbm, ⟨35, _⟩ => ⟨S_, .i32⟩
  | .hbm, ⟨36, _⟩ => ⟨S16x1x1, .i32⟩
  | .hbm, ⟨37, _⟩ => ⟨S16x1x1, .i32⟩
  | .hbm, ⟨38, _⟩ => ⟨S16x1x1, .i32⟩
  | .hbm, ⟨39, _⟩ => ⟨S_, .i32⟩
  | .hbm, ⟨40, _⟩ => ⟨S16x2048x256, .i32⟩
  | .hbm, ⟨41, _⟩ => ⟨S16x2048x256, .i1⟩
  | .hbm, ⟨42, _⟩ => ⟨S_, .i32⟩
  | .hbm, ⟨43, _⟩ => ⟨S16x2048x256, .i32⟩
  | .hbm, ⟨44, _⟩ => ⟨S16x2048x256, .i32⟩
  | .hbm, ⟨45, _⟩ => ⟨S16x2048x256, .i32⟩
  | .hbm, ⟨46, _⟩ => ⟨S16x2048x256, .i32⟩
  | .hbm, ⟨47, _⟩ => ⟨S16x2048x256x1, .i32⟩
  | .hbm, ⟨48, _⟩ => ⟨S16x2048x256x1, .i32⟩
  | .hbm, ⟨49, _⟩ => ⟨S16x2048x256x2, .i32⟩
  | .hbm, ⟨50, _⟩ => ⟨S16x2048x256x2x64, .f32⟩
  | .hbm, ⟨51, _⟩ => ⟨S_, .i32⟩
  | .hbm, ⟨52, _⟩ => ⟨S16x1x1, .i32⟩
  | .hbm, ⟨53, _⟩ => ⟨S16x1x1, .i1⟩
  | .hbm, ⟨54, _⟩ => ⟨S_, .i32⟩
  | .hbm, ⟨55, _⟩ => ⟨S16x1x1, .i32⟩
  | .hbm, ⟨56, _⟩ => ⟨S16x1x1, .i32⟩
  | .hbm, ⟨57, _⟩ => ⟨S16x1x1, .i32⟩
  | .hbm, ⟨58, _⟩ => ⟨S_, .i32⟩
  | .hbm, ⟨59, _⟩ => ⟨S16x2048x256, .i32⟩
  | .hbm, ⟨60, _⟩ => ⟨S16x2048x256, .i1⟩
  | .hbm, ⟨61, _⟩ => ⟨S_, .i32⟩
  | .hbm, ⟨62, _⟩ => ⟨S16x2048x256, .i32⟩
  | .hbm, ⟨63, _⟩ => ⟨S16x2048x256, .i32⟩
  | .hbm, ⟨64, _⟩ => ⟨S16x2048x256, .i32⟩
  | .hbm, ⟨65, _⟩ => ⟨S16x2048x256, .i32⟩
  | .hbm, ⟨66, _⟩ => ⟨S16x2048x256x1, .i32⟩
  | .hbm, ⟨67, _⟩ => ⟨S16x2048x256x1, .i32⟩
  | .hbm, ⟨68, _⟩ => ⟨S16x2048x256x2, .i32⟩
  | .hbm, ⟨69, _⟩ => ⟨S16x2048x256x2x64, .f32⟩
  | .hbm, ⟨70, _⟩ => ⟨S16x2048x2x4x64, .f32⟩
  | .hbm, ⟨71, _⟩ => ⟨S16x2048x2x4x256, .f32⟩
  | .hbm, ⟨72, _⟩ => ⟨S_, .f32⟩
  | .hbm, ⟨73, _⟩ => ⟨S16x2048x2x4x256, .f32⟩
  | .hbm, ⟨74, _⟩ => ⟨S16x2048x2x4x256, .f32⟩
  | .hbm, ⟨75, _⟩ => ⟨S16x2048x1x1x256, .i1⟩
  | .hbm, ⟨76, _⟩ => ⟨S_, .f32⟩
  | .hbm, ⟨77, _⟩ => ⟨S_, .f32⟩
  | .hbm, ⟨78, _⟩ => ⟨S16x2048x2x4x256, .i1⟩
  | .hbm, ⟨79, _⟩ => ⟨S16x2048x2x4x256, .f32⟩
  | .hbm, ⟨80, _⟩ => ⟨S16x2048x2x4x256, .f32⟩
  | .hbm, ⟨81, _⟩ => ⟨S_, .f32⟩
  | .hbm, ⟨82, _⟩ => ⟨S16x2048x2x4, .f32⟩
  | .hbm, ⟨83, _⟩ => ⟨S_, .f32⟩
  | .hbm, ⟨84, _⟩ => ⟨S16x2048x2x4, .f32⟩
  | .hbm, ⟨85, _⟩ => ⟨S16x2048x2x4, .f32⟩
  | .hbm, ⟨86, _⟩ => ⟨S16x2048x2x4x1, .f32⟩
  | .hbm, ⟨87, _⟩ => ⟨S16x2048x2x4x256, .f32⟩
  | .hbm, ⟨88, _⟩ => ⟨S16x2048x2x4x256, .f32⟩
  | .hbm, ⟨89, _⟩ => ⟨S16x2048x2x4x256, .f32⟩
  | .hbm, ⟨90, _⟩ => ⟨S_, .f32⟩
  | .hbm, ⟨91, _⟩ => ⟨S16x2048x2x4, .f32⟩
  | .hbm, ⟨92, _⟩ => ⟨S16x2048x2x4x1, .f32⟩
  | .hbm, ⟨93, _⟩ => ⟨S16x2048x2x4x256, .f32⟩
  | .hbm, ⟨94, _⟩ => ⟨S16x2048x2x4x256, .f32⟩
  | .hbm, ⟨95, _⟩ => ⟨S16x2048x2x4x64, .f32⟩
  | .hbm, ⟨96, _⟩ => ⟨S32768x512, .f32⟩
  | _, _ => ⟨S16x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_call0_cst : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v13 : Ref sig .tc := ⟨.hbm, 26, rfl⟩
abbrev main_values : Ref sig .tc := ⟨.hbm, 27, rfl⟩
abbrev main_indices : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_2 : Ref sig .tc := ⟨.hbm, 39, rfl⟩
abbrev main_v22 : Ref sig .tc := ⟨.hbm, 40, rfl⟩
abbrev main_v23 : Ref sig .tc := ⟨.hbm, 41, rfl⟩
abbrev main_c_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_6 : Ref sig .tc := ⟨.hbm, 58, rfl⟩
abbrev main_v37 : Ref sig .tc := ⟨.hbm, 59, rfl⟩
abbrev main_v38 : Ref sig .tc := ⟨.hbm, 60, rfl⟩
abbrev main_c_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_8 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_v52 : Ref sig .tc := ⟨.hbm, 80, rfl⟩
abbrev main_cst_10 : Ref sig .tc := ⟨.hbm, 81, rfl⟩
abbrev main_v53 : Ref sig .tc := ⟨.hbm, 82, rfl⟩
abbrev main_cst_11 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_12 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩

abbrev nD : Nat := 1
abbrev τ : Topo := Topo.v7x

variable {F : FTy → Type} [FloatOps F]
-- ==== Kernel2.lean ====
abbrev S16x2048x1024 : Shape := ⟨3, ![16, 2048, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S32768x1024 : Shape := ⟨2, ![32768, 1024]⟩
abbrev S1024x2816 : Shape := ⟨2, ![1024, 2816]⟩
abbrev S2816x1024 : Shape := ⟨2, ![2816, 1024]⟩
abbrev S512x1024 : Shape := ⟨2, ![512, 1024]⟩
abbrev S1024x1408 : Shape := ⟨2, ![1024, 1408]⟩
abbrev S1408x1024 : Shape := ⟨2, ![1408, 1024]⟩
abbrev S512x1408 : Shape := ⟨2, ![512, 1408]⟩
abbrev S512 : Shape := ⟨1, ![512]⟩
abbrev S512x1 : Shape := ⟨2, ![512, 1]⟩

abbrev nBuf : Space → Nat
  | .hbm => 14
  | .vmem => 13
  | .smem => 0
  | _ => 0

abbrev bufTy : (tb : Table) → Fin (tcTables nBuf tb) → BufTy
  | .hbm, ⟨0, _⟩ => ⟨S16x2048x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S1x1024, .f32⟩
  | .hbm, ⟨5, _⟩ => ⟨S1x1024, .f32⟩
  | .hbm, ⟨6, _⟩ => ⟨S32768x1024, .f32⟩
  | .hbm, ⟨7, _⟩ => ⟨S1024x2816, .f32⟩
  | .hbm, ⟨8, _⟩ => ⟨S1024x2816, .bf16⟩
  | .hbm, ⟨9, _⟩ => ⟨S1024x2816, .f32⟩
  | .hbm, ⟨10, _⟩ => ⟨S1024x2816, .bf16⟩
  | .hbm, ⟨11, _⟩ => ⟨S2816x1024, .f32⟩
  | .hbm, ⟨12, _⟩ => ⟨S2816x1024, .bf16⟩
  | .hbm, ⟨13, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1408x1024, .bf16⟩
  | .local _ .vmem, ⟨7, _⟩ => ⟨S1408x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![64, 2], ![false, false]⟩

def k0_cond3 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_12 : BitVec 32 := 0#32
  let v24 : BitVec 1 := Scalar.cmpi .ne v23 c0_i32_12
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Kernel2Ideal.lean ====
abbrev S16x2048x1024 : Shape := ⟨3, ![16, 2048, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S32768x1024 : Shape := ⟨2, ![32768, 1024]⟩
abbrev S1024x2816 : Shape := ⟨2, ![1024, 2816]⟩
abbrev S2816x1024 : Shape := ⟨2, ![2816, 1024]⟩
abbrev S512x1024 : Shape := ⟨2, ![512, 1024]⟩
abbrev S1024x1408 : Shape := ⟨2, ![1024, 1408]⟩
abbrev S1408x1024 : Shape := ⟨2, ![1408, 1024]⟩
abbrev S512x1408 : Shape := ⟨2, ![512, 1408]⟩
abbrev S512 : Shape := ⟨1, ![512]⟩
abbrev S512x1 : Shape := ⟨2, ![512, 1]⟩

abbrev nBuf : Space → Nat
  | .hbm => 14
  | .vmem => 13
  | .smem => 0
  | _ => 0

abbrev bufTy : (tb : Table) → Fin (tcTables nBuf tb) → BufTy
  | .hbm, ⟨0, _⟩ => ⟨S16x2048x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S1x1024, .f32⟩
  | .hbm, ⟨5, _⟩ => ⟨S1x1024, .f32⟩
  | .hbm, ⟨6, _⟩ => ⟨S32768x1024, .f32⟩
  | .hbm, ⟨7, _⟩ => ⟨S1024x2816, .f32⟩
  | .hbm, ⟨8, _⟩ => ⟨S1024x2816, .bf16⟩
  | .hbm, ⟨9, _⟩ => ⟨S1024x2816, .f32⟩
  | .hbm, ⟨10, _⟩ => ⟨S1024x2816, .bf16⟩
  | .hbm, ⟨11, _⟩ => ⟨S2816x1024, .f32⟩
  | .hbm, ⟨12, _⟩ => ⟨S2816x1024, .bf16⟩
  | .hbm, ⟨13, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1408x1024, .bf16⟩
  | .local _ .vmem, ⟨7, _⟩ => ⟨S1408x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![64, 2], ![false, false]⟩

def k0_cond3 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_12 : BitVec 32 := 0#32
  let v24 : BitVec 1 := Scalar.cmpi .ne v23 c0_i32_12
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S16x2048x1024 : Shape := ⟨3, ![16, 2048, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S16x2048x2816 : Shape := ⟨3, ![16, 2048, 2816]⟩
abbrev S16x2048 : Shape := ⟨2, ![16, 2048]⟩
abbrev S16x2048x1 : Shape := ⟨3, ![16, 2048, 1]⟩
abbrev S1x1x1024 : Shape := ⟨3, ![1, 1, 1024]⟩
abbrev S32768x1024 : Shape := ⟨2, ![32768, 1024]⟩

abbrev nBuf : Space → Nat
  | .hbm => 61
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S1x1024, .f32⟩
  | .hbm, ⟨5, _⟩ => ⟨S1x1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S16x2048x1024, .f32⟩
  | .hbm, ⟨13, _⟩ => ⟨S16x2048x1024, .f32⟩
  | .hbm, ⟨14, _⟩ => ⟨S16x2048x2816, .f32⟩
  | .hbm, ⟨15, _⟩ => ⟨S16x2048x2816, .f32⟩
  | .hbm, ⟨16, _⟩ => ⟨S16x2048x2816, .f32⟩
  | .hbm, ⟨17, _⟩ => ⟨S_, .f32⟩
  | .hbm, ⟨18, _⟩ => ⟨S16x2048x2816, .f32⟩
  | .hbm, ⟨19, _⟩ => ⟨S16x2048x2816, .f32⟩
  | .hbm, ⟨20, _⟩ => ⟨S_, .f32⟩
  | .hbm, ⟨21, _⟩ => ⟨S16x2048x2816, .f32⟩
  | .hbm, ⟨22, _⟩ => ⟨S16x2048x2816, .f32⟩
  | .hbm, ⟨23, _⟩ => ⟨S16x2048x2816, .f32⟩
  | .hbm, ⟨24, _⟩ => ⟨S16x2048x2816, .f32⟩
  | .hbm, ⟨25, _⟩ => ⟨S16x2048x2816, .f32⟩
  | .hbm, ⟨26, _⟩ => ⟨S16x2048x1024, .f32⟩
  | .hbm, ⟨27, _⟩ => ⟨S_, .f32⟩
  | .hbm, ⟨28, _⟩ => ⟨S16x2048x1024, .f32⟩
  | .hbm, ⟨29, _⟩ => ⟨S16x2048x1024, .f32⟩
  | .hbm, ⟨30, _⟩ => ⟨S16x2048x1024, .f32⟩
  | .hbm, ⟨31, _⟩ => ⟨S_, .f32⟩
  | .hbm, ⟨32, _⟩ => ⟨S16x2048, .f32⟩
  | .hbm, ⟨33, _⟩ => ⟨S16x2048x1, .f32⟩
  | .hbm, ⟨34, _⟩ => ⟨S_, .f32⟩
  | .hbm, ⟨35, _⟩ => ⟨S16x2048x1, .f32⟩
  | .hbm, ⟨36, _⟩ => ⟨S16x2048x1, .f32⟩
  | .hbm, ⟨37, _⟩ => ⟨S16x2048x1024, .f32⟩
  | .hbm, ⟨38, _⟩ => ⟨S16x2048x1024, .f32⟩
  | .hbm, ⟨39, _⟩ => ⟨S16x2048x1024, .f32⟩
  | .hbm, ⟨40, _⟩ => ⟨S_, .f32⟩
  | .hbm, ⟨41, _⟩ => ⟨S16x2048, .f32⟩
  | .hbm, ⟨42, _⟩ => ⟨S16x2048x1, .f32⟩
  | .hbm, ⟨43, _⟩ => ⟨S_, .f32⟩
  | .hbm, ⟨44, _⟩ => ⟨S16x2048x1, .f32⟩
  | .hbm, ⟨45, _⟩ => ⟨S16x2048x1, .f32⟩
  | .hbm, ⟨46, _⟩ => ⟨S16x2048x1024, .f32⟩
  | .hbm, ⟨47, _⟩ => ⟨S16x2048x1024, .f32⟩
  | .hbm, ⟨48, _⟩ => ⟨S_, .f32⟩
  | .hbm, ⟨49, _⟩ => ⟨S16x2048x1, .f32⟩
  | .hbm, ⟨50, _⟩ => ⟨S16x2048x1, .f32⟩
  | .hbm, ⟨51, _⟩ => ⟨S16x2048x1, .f32⟩
  | .hbm, ⟨52, _⟩ => ⟨S16x2048x1024, .f32⟩
  | .hbm, ⟨53, _⟩ => ⟨S16x2048x1024, .f32⟩
  | .hbm, ⟨54, _⟩ => ⟨S1x1x1024, .f32⟩
  | .hbm, ⟨55, _⟩ => ⟨S16x2048x1024, .f32⟩
  | .hbm, ⟨56, _⟩ => ⟨S16x2048x1024, .f32⟩
  | .hbm, ⟨57, _⟩ => ⟨S1x1x1024, .f32⟩
  | .hbm, ⟨58, _⟩ => ⟨S16x2048x1024, .f32⟩
  | .hbm, ⟨59, _⟩ => ⟨S16x2048x1024, .f32⟩
  | .hbm, ⟨60, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]
-- ==== Kernel3.lean ====
abbrev S16x2048x1024 : Shape := ⟨3, ![16, 2048, 1024]⟩
abbrev S16x2048x512 : Shape := ⟨3, ![16, 2048, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S512x1024 : Shape := ⟨2, ![512, 1024]⟩
abbrev S32768x1024 : Shape := ⟨2, ![32768, 1024]⟩
abbrev S1024x2816 : Shape := ⟨2, ![1024, 2816]⟩
abbrev S2816x1024 : Shape := ⟨2, ![2816, 1024]⟩
abbrev S32768x512 : Shape := ⟨2, ![32768, 512]⟩
abbrev S512x512 : Shape := ⟨2, ![512, 512]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 27
  | .vmem => 22
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x512, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S1x1024, .f32⟩
  | .hbm, ⟨10, _⟩ => ⟨S1x1024, .f32⟩
  | .hbm, ⟨11, _⟩ => ⟨S1024x1024, .f32⟩
  | .hbm, ⟨12, _⟩ => ⟨S512x1024, .f32⟩
  | .hbm, ⟨13, _⟩ => ⟨S512x1024, .bf16⟩
  | .hbm, ⟨14, _⟩ => ⟨S1024x1024, .f32⟩
  | .hbm, ⟨15, _⟩ => ⟨S512x1024, .f32⟩
  | .hbm, ⟨16, _⟩ => ⟨S512x1024, .bf16⟩
  | .hbm, ⟨17, _⟩ => ⟨S32768x1024, .f32⟩
  | .hbm, ⟨18, _⟩ => ⟨S1024x2816, .f32⟩
  | .hbm, ⟨19, _⟩ => ⟨S1024x2816, .bf16⟩
  | .hbm, ⟨20, _⟩ => ⟨S1024x2816, .f32⟩
  | .hbm, ⟨21, _⟩ => ⟨S1024x2816, .bf16⟩
  | .hbm, ⟨22, _⟩ => ⟨S2816x1024, .f32⟩
  | .hbm, ⟨23, _⟩ => ⟨S2816x1024, .bf16⟩
  | .hbm, ⟨24, _⟩ => ⟨S32768x512, .f32⟩
  | .hbm, ⟨25, _⟩ => ⟨S32768x512, .f32⟩
  | .hbm, ⟨26, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S1024x1408, .bf16⟩
  | .local _ .vmem, ⟨11, _⟩ => ⟨S1024x1408, .bf16⟩
  | .local _ .vmem, ⟨12, _⟩ => ⟨S1024x1408, .bf16⟩
  | .local _ .vmem, ⟨13, _⟩ => ⟨S1024x1408, .bf16⟩
  | .local _ .vmem, ⟨14, _⟩ => ⟨S1408x1024, .bf16⟩
  | .local _ .vmem, ⟨15, _⟩ => ⟨S1408x1024, .bf16⟩
  | .local _ .vmem, ⟨16, _⟩ => ⟨S1x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![64, 2], ![false, false]⟩

def k0_cond4 (i : grid0.Coords) : BitVec 1 :=
  let arg1 : BitVec 32 := BitVec.ofNat 32 (i 1).val
  let c1_i32 : BitVec 32 := 1#32
  let v24 : BitVec 1 := Scalar.cmpi .eq arg1 c1_i32
  let v25 : BitVec 32 := Scalar.extui v24
  let c0_i32_14 : BitVec 32 := 0#32
  let v26 : BitVec 1 := Scalar.cmpi .ne v25 c0_i32_14
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1408x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Kernel3Ideal.lean ====
abbrev S16x2048x1024 : Shape := ⟨3, ![16, 2048, 1024]⟩
abbrev S16x2048x512 : Shape := ⟨3, ![16, 2048, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S512x1024 : Shape := ⟨2, ![512, 1024]⟩
abbrev S32768x1024 : Shape := ⟨2, ![32768, 1024]⟩
abbrev S1024x2816 : Shape := ⟨2, ![1024, 2816]⟩
abbrev S2816x1024 : Shape := ⟨2, ![2816, 1024]⟩
abbrev S32768x512 : Shape := ⟨2, ![32768, 512]⟩
abbrev S512x512 : Shape := ⟨2, ![512, 512]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 27
  | .vmem => 22
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x512, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S1x1024, .f32⟩
  | .hbm, ⟨10, _⟩ => ⟨S1x1024, .f32⟩
  | .hbm, ⟨11, _⟩ => ⟨S1024x1024, .f32⟩
  | .hbm, ⟨12, _⟩ => ⟨S512x1024, .f32⟩
  | .hbm, ⟨13, _⟩ => ⟨S512x1024, .bf16⟩
  | .hbm, ⟨14, _⟩ => ⟨S1024x1024, .f32⟩
  | .hbm, ⟨15, _⟩ => ⟨S512x1024, .f32⟩
  | .hbm, ⟨16, _⟩ => ⟨S512x1024, .bf16⟩
  | .hbm, ⟨17, _⟩ => ⟨S32768x1024, .f32⟩
  | .hbm, ⟨18, _⟩ => ⟨S1024x2816, .f32⟩
  | .hbm, ⟨19, _⟩ => ⟨S1024x2816, .bf16⟩
  | .hbm, ⟨20, _⟩ => ⟨S1024x2816, .f32⟩
  | .hbm, ⟨21, _⟩ => ⟨S1024x2816, .bf16⟩
  | .hbm, ⟨22, _⟩ => ⟨S2816x1024, .f32⟩
  | .hbm, ⟨23, _⟩ => ⟨S2816x1024, .bf16⟩
  | .hbm, ⟨24, _⟩ => ⟨S32768x512, .f32⟩
  | .hbm, ⟨25, _⟩ => ⟨S32768x512, .f32⟩
  | .hbm, ⟨26, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S1024x1408, .bf16⟩
  | .local _ .vmem, ⟨11, _⟩ => ⟨S1024x1408, .bf16⟩
  | .local _ .vmem, ⟨12, _⟩ => ⟨S1024x1408, .bf16⟩
  | .local _ .vmem, ⟨13, _⟩ => ⟨S1024x1408, .bf16⟩
  | .local _ .vmem, ⟨14, _⟩ => ⟨S1408x1024, .bf16⟩
  | .local _ .vmem, ⟨15, _⟩ => ⟨S1408x1024, .bf16⟩
  | .local _ .vmem, ⟨16, _⟩ => ⟨S1x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![64, 2], ![false, false]⟩

def k0_cond4 (i : grid0.Coords) : BitVec 1 :=
  let arg1 : BitVec 32 := BitVec.ofNat 32 (i 1).val
  let c1_i32 : BitVec 32 := 1#32
  let v24 : BitVec 1 := Scalar.cmpi .eq arg1 c1_i32
  let v25 : BitVec 32 := Scalar.extui v24
  let c0_i32_14 : BitVec 32 := 0#32
  let v26 : BitVec 1 := Scalar.cmpi .ne v25 c0_i32_14
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1408x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference3Ideal.lean ====
abbrev S16x2048x1024 : Shape := ⟨3, ![16, 2048, 1024]⟩
abbrev S16x2048x512 : Shape := ⟨3, ![16, 2048, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x2816 : Shape := ⟨2, ![1024, 2816]⟩
abbrev S2816x1024 : Shape := ⟨2, ![2816, 1024]⟩
abbrev S16x2048x2816 : Shape := ⟨3, ![16, 2048, 2816]⟩
abbrev S32768x1024 : Shape := ⟨2, ![32768, 1024]⟩

abbrev nBuf : Space → Nat
  | .hbm => 104
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x512, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S1x1024, .f32⟩
  | .hbm, ⟨10, _⟩ => ⟨S1x1024, .f32⟩
  | .hbm, ⟨11, _⟩ => ⟨S1024x1024, .f32⟩
  | .hbm, ⟨12, _⟩ => ⟨S1024, .f32⟩
  | .hbm, ⟨13, _⟩ => ⟨S1024, .f32⟩
  | .hbm, ⟨14, _⟩ => ⟨S_, .f32⟩
  | .hbm, ⟨15, _⟩ => ⟨S16x2048x1024, .f32⟩
  | .hbm, ⟨16, _⟩ => ⟨S16x2048x1024, .f32⟩
  | .hbm, ⟨17, _⟩ => ⟨S16x2048x1024, .f32⟩
  | .hbm, ⟨18, _⟩ => ⟨S16x2048x1024, .f32⟩
  | .hbm, ⟨19, _⟩ => ⟨S16x2048x1024, .f32⟩
  | .hbm, ⟨20, _⟩ => ⟨S_, .f32⟩
  | .hbm, ⟨21, _⟩ => ⟨S16x2048, .f32⟩
  | .hbm, ⟨22, _⟩ => ⟨S16x2048x1, .f32⟩
  | .hbm, ⟨23, _⟩ => ⟨S_, .f32⟩
  | .hbm, ⟨24, _⟩ => ⟨S16x2048x1, .f32⟩
  | .hbm, ⟨25, _⟩ => ⟨S16x2048x1, .f32⟩
  | .hbm, ⟨26, _⟩ => ⟨S16x2048x1024, .f32⟩
  | .hbm, ⟨27, _⟩ => ⟨S16x2048x1024, .f32⟩
  | .hbm, ⟨28, _⟩ => ⟨S16x2048x1024, .f32⟩
  | .hbm, ⟨29, _⟩ => ⟨S_, .f32⟩
  | .hbm, ⟨30, _⟩ => ⟨S16x2048, .f32⟩
  | .hbm, ⟨31, _⟩ => ⟨S16x2048x1, .f32⟩
  | .hbm, ⟨32, _⟩ => ⟨S_, .f32⟩
  | .hbm, ⟨33, _⟩ => ⟨S16x2048x1, .f32⟩
  | .hbm, ⟨34, _⟩ => ⟨S16x2048x1, .f32⟩
  | .hbm, ⟨35, _⟩ => ⟨S16x2048x1024, .f32⟩
  | .hbm, ⟨36, _⟩ => ⟨S16x2048x1024, .f32⟩
  | .hbm, ⟨37, _⟩ => ⟨S_, .f32⟩
  | .hbm, ⟨38, _⟩ => ⟨S16x2048x1, .f32⟩
  | .hbm, ⟨39, _⟩ => ⟨S16x2048x1, .f32⟩
  | .hbm, ⟨40, _⟩ => ⟨S16x2048x1, .f32⟩
  | .hbm, ⟨41, _⟩ => ⟨S16x2048x1024, .f32⟩
  | .hbm, ⟨42, _⟩ => ⟨S16x2048x1024, .f32⟩
  | .hbm, ⟨43, _⟩ => ⟨S1x1x1024, .f32⟩
  | .hbm, ⟨44, _⟩ => ⟨S16x2048x1024, .f32⟩
  | .hbm, ⟨45, _⟩ => ⟨S16x2048x1024, .f32⟩
  | .hbm, ⟨46, _⟩ => ⟨S1x1x1024, .f32⟩
  | .hbm, ⟨47, _⟩ => ⟨S16x2048x1024, .f32⟩
  | .hbm, ⟨48, _⟩ => ⟨S16x2048x1024, .f32⟩
  | .hbm, ⟨49, _⟩ => ⟨S1024x2816, .f32⟩
  | .hbm, ⟨50, _⟩ => ⟨S1024x2816, .f32⟩
  | .hbm, ⟨51, _⟩ => ⟨S2816x1024, .f32⟩
  | .hbm, ⟨52, _⟩ => ⟨S1024, .f32⟩
  | .hbm, ⟨53, _⟩ => ⟨S1024, .f32⟩
  | .hbm, ⟨54, _⟩ => ⟨S_, .f32⟩
  | .hbm, ⟨55, _⟩ => ⟨S16x2048x1024, .f32⟩
  | .hbm, ⟨56, _⟩ => ⟨S16x2048x1024, .f32⟩
  | .hbm, ⟨57, _⟩ => ⟨S16x2048x2816, .f32⟩
  | .hbm, ⟨58, _⟩ => ⟨S16x2048x2816, .f32⟩
  | .hbm, ⟨59, _⟩ => ⟨S16x2048x2816, .f32⟩
  | .hbm, ⟨60, _⟩ => ⟨S_, .f32⟩
  | .hbm, ⟨61, _⟩ => ⟨S16x2048x2816, .f32⟩
  | .hbm, ⟨62, _⟩ => ⟨S16x2048x2816, .f32⟩
  | .hbm, ⟨63, _⟩ => ⟨S_, .f32⟩
  | .hbm, ⟨64, _⟩ => ⟨S16x2048x2816, .f32⟩
  | .hbm, ⟨65, _⟩ => ⟨S16x2048x2816, .f32⟩
  | .hbm, ⟨66, _⟩ => ⟨S16x2048x2816, .f32⟩
  | .hbm, ⟨67, _⟩ => ⟨S16x2048x2816, .f32⟩
  | .hbm, ⟨68, _⟩ => ⟨S16x2048x2816, .f32⟩
  | .hbm, ⟨69, _⟩ => ⟨S16x2048x1024, .f32⟩
  | .hbm, ⟨70, _⟩ => ⟨S_, .f32⟩
  | .hbm, ⟨71, _⟩ => ⟨S16x2048x1024, .f32⟩
  | .hbm, ⟨72, _⟩ => ⟨S16x2048x1024, .f32⟩
  | .hbm, ⟨73, _⟩ => ⟨S16x2048x1024, .f32⟩
  | .hbm, ⟨74, _⟩ => ⟨S_, .f32⟩
  | .hbm, ⟨75, _⟩ => ⟨S16x2048, .f32⟩
  | .hbm, ⟨76, _⟩ => ⟨S16x2048x1, .f32⟩
  | .hbm, ⟨77, _⟩ => ⟨S_, .f32⟩
  | .hbm, ⟨78, _⟩ => ⟨S16x2048x1, .f32⟩
  | .hbm, ⟨79, _⟩ => ⟨S16x2048x1, .f32⟩
  | .hbm, ⟨80, _⟩ => ⟨S16x2048x1024, .f32⟩
  | .hbm, ⟨81, _⟩ => ⟨S16x2048x1024, .f32⟩
  | .hbm, ⟨82, _⟩ => ⟨S16x2048x1024, .f32⟩
  | .hbm, ⟨83, _⟩ => ⟨S_, .f32⟩
  | .hbm, ⟨84, _⟩ => ⟨S16x2048, .f32⟩
  | .hbm, ⟨85, _⟩ => ⟨S16x2048x1, .f32⟩
  | .hbm, ⟨86, _⟩ => ⟨S_, .f32⟩
  | .hbm, ⟨87, _⟩ => ⟨S16x2048x1, .f32⟩
  | .hbm, ⟨88, _⟩ => ⟨S16x2048x1, .f32⟩
  | .hbm, ⟨89, _⟩ => ⟨S16x2048x1024, .f32⟩
  | .hbm, ⟨90, _⟩ => ⟨S16x2048x1024, .f32⟩
  | .hbm, ⟨91, _⟩ => ⟨S_, .f32⟩
  | .hbm, ⟨92, _⟩ => ⟨S16x2048x1, .f32⟩
  | .hbm, ⟨93, _⟩ => ⟨S16x2048x1, .f32⟩
  | .hbm, ⟨94, _⟩ => ⟨S16x2048x1, .f32⟩
  | .hbm, ⟨95, _⟩ => ⟨S16x2048x1024, .f32⟩
  | .hbm, ⟨96, _⟩ => ⟨S16x2048x1024, .f32⟩
  | .hbm, ⟨97, _⟩ => ⟨S1x1x1024, .f32⟩
  | .hbm, ⟨98, _⟩ => ⟨S16x2048x1024, .f32⟩
  | .hbm, ⟨99, _⟩ => ⟨S16x2048x1024, .f32⟩
  | .hbm, ⟨100, _⟩ => ⟨S1x1x1024, .f32⟩
  | .hbm, ⟨101, _⟩ => ⟨S16x2048x1024, .f32⟩
  | .hbm, ⟨102, _⟩ => ⟨S16x2048x1024, .f32⟩
  | .hbm, ⟨103, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_6 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_7 : Ref sig .tc := ⟨.hbm, 74, rfl⟩
abbrev main_v47 : Ref sig .tc := ⟨.hbm, 75, rfl⟩
abbrev main_v48 : Ref sig .tc := ⟨.hbm, 76, rfl⟩
abbrev main_cst_8 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_9 : Ref sig .tc := ⟨.hbm, 83, rfl⟩
abbrev main_v54 : Ref sig .tc := ⟨.hbm, 84, rfl⟩
abbrev main_v55 : Ref sig .tc := ⟨.hbm, 85, rfl⟩
abbrev main_cst_10 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_11 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩

abbrev nD : Nat := 1
abbrev τ : Topo := Topo.v7x

variable {F : FTy → Type} [FloatOps F]
-- ==== Kernel4.lean ====
abbrev S16x2048x1024 : Shape := ⟨3, ![16, 2048, 1024]⟩
abbrev S1x1024x3408 : Shape := ⟨3, ![1, 1024, 3408]⟩
abbrev S32768x1024 : Shape := ⟨2, ![32768, 1024]⟩
abbrev S1024x3408 : Shape := ⟨2, ![1024, 3408]⟩
abbrev S1024x512 : Shape := ⟨2, ![1024, 512]⟩
abbrev S1024x128 : Shape := ⟨2, ![1024, 128]⟩
abbrev S1024x64 : Shape := ⟨2, ![1024, 64]⟩
abbrev S1024x8 : Shape := ⟨2, ![1024, 8]⟩
abbrev S1024x1536 : Shape := ⟨2, ![1024, 1536]⟩
abbrev S1024x4 : Shape := ⟨2, ![1024, 4]⟩
abbrev S_ : Shape := ⟨0, ![]⟩
abbrev S1024x1280 : Shape := ⟨2, ![1024, 1280]⟩
abbrev S1024x112 : Shape := ⟨2, ![1024, 112]⟩
abbrev S2048 : Shape := ⟨1, ![2048]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S32768x512 : Shape := ⟨2, ![32768, 512]⟩
abbrev S16x128x2048 : Shape := ⟨3, ![16, 128, 2048]⟩
abbrev S16x64x2048 : Shape := ⟨3, ![16, 64, 2048]⟩
abbrev S32768x128 : Shape := ⟨2, ![32768, 128]⟩
abbrev S32768x1536 : Shape := ⟨2, ![32768, 1536]⟩
abbrev S512x1024 : Shape := ⟨2, ![512, 1024]⟩
abbrev S512x128 : Shape := ⟨2, ![512, 128]⟩
abbrev S512x512 : Shape := ⟨2, ![512, 512]⟩
abbrev S1x128x512 : Shape := ⟨3, ![1, 128, 512]⟩
abbrev S1x64x512 : Shape := ⟨3, ![1, 64, 512]⟩
abbrev S512x1536 : Shape := ⟨2, ![512, 1536]⟩
abbrev S512x1280 : Shape := ⟨2, ![512, 1280]⟩
abbrev S128x512 : Shape := ⟨2, ![128, 512]⟩
abbrev S64x512 : Shape := ⟨2, ![64, 512]⟩

abbrev nBuf : Space → Nat
  | .hbm => 72
  | .vmem => 35
  | .smem => 0
  | _ => 0

abbrev bufTy : (tb : Table) → Fin (tcTables nBuf tb) → BufTy
  | .hbm, ⟨0, _⟩ => ⟨S16x2048x1024, .f32⟩
  | .hbm, ⟨1, _⟩ => ⟨S1x1024x3408, .f32⟩
  | .hbm, ⟨2, _⟩ => ⟨S32768x1024, .f32⟩
  | .hbm, ⟨3, _⟩ => ⟨S1024x3408, .f32⟩
  | .hbm, ⟨4, _⟩ => ⟨S1024x512, .f32⟩
  | .hbm, ⟨5, _⟩ => ⟨S1024x128, .f32⟩
  | .hbm, ⟨6, _⟩ => ⟨S1024x128, .f32⟩
  | .hbm, ⟨7, _⟩ => ⟨S1024x512, .f32⟩
  | .hbm, ⟨8, _⟩ => ⟨S1024x64, .f32⟩
  | .hbm, ⟨9, _⟩ => ⟨S1024x8, .f32⟩
  | .hbm, ⟨10, _⟩ => ⟨S1024x1536, .f32⟩
  | .hbm, ⟨11, _⟩ => ⟨S1024x512, .f32⟩
  | .hbm, ⟨12, _⟩ => ⟨S1024x4, .f32⟩
  | .hbm, ⟨13, _⟩ => ⟨S1024x4, .f32⟩
  | .hbm, ⟨14, _⟩ => ⟨S_, .f32⟩
  | .hbm, ⟨15, _⟩ => ⟨S1024x64, .f32⟩
  | .hbm, ⟨16, _⟩ => ⟨S1024x1280, .f32⟩
  | .hbm, ⟨17, _⟩ => ⟨S_, .f32⟩
  | .hbm, ⟨18, _⟩ => ⟨S1024x112, .f32⟩
  | .hbm, ⟨19, _⟩ => ⟨S1024x128, .f32⟩
  | .hbm, ⟨20, _⟩ => ⟨S1024x1280, .bf16⟩
  | .hbm, ⟨21, _⟩ => ⟨S1024x128, .bf16⟩
  | .hbm, ⟨22, _⟩ => ⟨S1024x128, .bf16⟩
  | .hbm, ⟨23, _⟩ => ⟨S1024x1536, .bf16⟩
  | .hbm, ⟨24, _⟩ => ⟨S1024x512, .bf16⟩
  | .hbm, ⟨25, _⟩ => ⟨S2048, .i32⟩
  | .hbm, ⟨26, _⟩ => ⟨S8, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S2048, .f32⟩
  | .hbm, ⟨35, _⟩ => ⟨S2048x1, .f32⟩
  | .hbm, ⟨36, _⟩ => ⟨S1x8, .f32⟩
  | .hbm, ⟨37, _⟩ => ⟨S2048x8, .f32⟩
  | .hbm, ⟨38, _⟩ => ⟨S2048x8, .f32⟩
  | .hbm, ⟨39, _⟩ => ⟨S2048x8, .f32⟩
  | .hbm, ⟨40, _⟩ => ⟨S2048x8, .f32⟩
  | .hbm, ⟨41, _⟩ => ⟨S2048x8, .f32⟩
  | .hbm, ⟨42, _⟩ => ⟨S_, .f32⟩
  | .hbm, ⟨43, _⟩ => ⟨S2048x48, .f32⟩
  | .hbm, ⟨44, _⟩ => ⟨S_, .f32⟩
  | .hbm, ⟨45, _⟩ => ⟨S2048x48, .f32⟩
  | .hbm, ⟨46, _⟩ => ⟨S_, .f32⟩
  | .hbm, ⟨47, _⟩ => ⟨S2048x8, .f32⟩
  | .hbm, ⟨48, _⟩ => ⟨S2048x64, .f32⟩
  | .hbm, ⟨49, _⟩ => ⟨S2048x8, .f32⟩
  | .hbm, ⟨50, _⟩ => ⟨S2048x64, .f32⟩
  | .hbm, ⟨51, _⟩ => ⟨S2048x64, .f32⟩
  | .hbm, ⟨52, _⟩ => ⟨S1x2048x1x64, .f32⟩
  | .hbm, ⟨53, _⟩ => ⟨S1x2048x2x64, .f32⟩
  | .hbm, ⟨54, _⟩ => ⟨S2048x128, .f32⟩
  | .hbm, ⟨55, _⟩ => ⟨S1x2048x1x64, .f32⟩
  | .hbm, ⟨56, _⟩ => ⟨S1x2048x2x64, .f32⟩
  | .hbm, ⟨57, _⟩ => ⟨S2048x128, .f32⟩
  | .hbm, ⟨58, _⟩ => ⟨S1x2048x1x64, .f32⟩
  | .hbm, ⟨59, _⟩ => ⟨S1x2048x2x64, .f32⟩
  | .hbm, ⟨60, _⟩ => ⟨S2048x128, .f32⟩
  | .hbm, ⟨61, _⟩ => ⟨S32768x512, .f32⟩
  | .hbm, ⟨62, _⟩ => ⟨S32768x512, .f32⟩
  | .hbm, ⟨63, _⟩ => ⟨S16x128x2048, .f32⟩
  | .hbm, ⟨64, _⟩ => ⟨S16x64x2048, .f32⟩
  | .hbm, ⟨65, _⟩ => ⟨S16x128x2048, .f32⟩
  | .hbm, ⟨66, _⟩ => ⟨S32768x128, .f32⟩
  | .hbm, ⟨67, _⟩ => ⟨S32768x1536, .f32⟩
  | .hbm, ⟨68, _⟩ => ⟨S32768x512, .f32⟩
  | .hbm, ⟨69, _⟩ => ⟨S16x128x2048, .bf16⟩
  | .hbm, ⟨70, _⟩ => ⟨S16x64x2048, .bf16⟩
  | .hbm, ⟨71, _⟩ => ⟨S16x128x2048, .bf16⟩
  | .local _ .vmem, ⟨0, _⟩ => ⟨S512x1024, .f32⟩
  | .local _ .vmem, ⟨1, _⟩ => ⟨S512x1024, .f32⟩
  | .local _ .vmem, ⟨2, _⟩ => ⟨S1024x1280, .bf16⟩
  | .local _ .vmem, ⟨3, _⟩ => ⟨S1024x128, .bf16⟩
  | .local _ .vmem, ⟨4, _⟩ => ⟨S1024x128, .bf16⟩
  | .local _ .vmem, ⟨5, _⟩ => ⟨S1024x1536, .bf16⟩
  | .local _ .vmem, ⟨6, _⟩ => ⟨S1024x512, .bf16⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S1x128x512, .f32⟩
  | .local _ .vmem, ⟨18, _⟩ => ⟨S1x128x512, .f32⟩
  | .local _ .vmem, ⟨19, _⟩ => ⟨S1x64x512, .f32⟩
  | .local _ .vmem, ⟨20, _⟩ => ⟨S1x64x512, .f32⟩
  | .local _ .vmem, ⟨21, _⟩ => ⟨S1x128x512, .f32⟩
  | .local _ .vmem, ⟨22, _⟩ => ⟨S1x128x512, .f32⟩
  | .local _ .vmem, ⟨23, _⟩ => ⟨S512x128, .f32⟩
  | .local _ .vmem, ⟨24, _⟩ => ⟨S512x128, .f32⟩
  | .local _ .vmem, ⟨25, _⟩ => ⟨S512x1536, .f32⟩
  | .local _ .vmem, ⟨26, _⟩ => ⟨S512x1536, .f32⟩
  | .local _ .vmem, ⟨27, _⟩ => ⟨S512x512, .f32⟩
  | .local _ .vmem, ⟨28, _⟩ => ⟨S512x512, .f32⟩
  | .local _ .vmem, ⟨29, _⟩ => ⟨S1x128x512, .bf16⟩
  | .local _ .vmem, ⟨30, _⟩ => ⟨S1x128x512, .bf16⟩
  | .local _ .vmem, ⟨31, _⟩ => ⟨S1x64x512, .bf16⟩
  | .local _ .vmem, ⟨32, _⟩ => ⟨S1x64x512, .bf16⟩
  | .local _ .vmem, ⟨33, _⟩ => ⟨S1x128x512, .bf16⟩
  | .local _ .vmem, ⟨34, _⟩ => ⟨S1x128x512, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_1 : Ref sig .tc := ⟨.hbm, 28, rfl⟩
abbrev main_v24 : Ref sig .tc := ⟨.hbm, 29, rfl⟩
abbrev main_v25 : Ref sig .tc := ⟨.hbm, 30, rfl⟩
abbrev main_cst_2 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_3 : Ref sig .tc := ⟨.hbm, 42, rfl⟩
abbrev main_v36 : Ref sig .tc := ⟨.hbm, 43, rfl⟩
abbrev main_cst_4 : Ref sig .tc := ⟨.hbm, 44, rfl⟩
abbrev main_v37 : Ref sig .tc := ⟨.hbm, 45, rfl⟩
abbrev main_cst_5 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52_0 : Ref sig .tc := ⟨.hbm, 61, rfl⟩
abbrev main_v52_1 : Ref sig .tc := ⟨.hbm, 62, rfl⟩
abbrev main_v52_2 : Ref sig .tc := ⟨.hbm, 63, rfl⟩
abbrev main_v52_3 : Ref sig .tc := ⟨.hbm, 64, rfl⟩
abbrev main_v52_4 : Ref sig .tc := ⟨.hbm, 65, rfl⟩
abbrev main_v52_5 : Ref sig .tc := ⟨.hbm, 66, rfl⟩
abbrev main_v52_6 : Ref sig .tc := ⟨.hbm, 67, rfl⟩
abbrev main_v52_7 : Ref sig .tc := ⟨.hbm, 68, rfl⟩
abbrev main_v52_8 : Ref sig .tc := ⟨.hbm, 69, rfl⟩
abbrev main_v52_9 : Ref sig .tc := ⟨.hbm, 70, rfl⟩
abbrev main_v52_10 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_12 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_13 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_18 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_19 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x64x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1536 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x128x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x64x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x128x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference4Ideal.lean ====
abbrev S16x2048x1024 : Shape := ⟨3, ![16, 2048, 1024]⟩
abbrev S1x1024x3408 : Shape := ⟨3, ![1, 1024, 3408]⟩
abbrev S1024x3408 : Shape := ⟨2, ![1024, 3408]⟩
abbrev S2048 : Shape := ⟨1, ![2048]⟩
abbrev S16x2048x3408 : Shape := ⟨3, ![16, 2048, 3408]⟩
abbrev S16x2048x512 : Shape := ⟨3, ![16, 2048, 512]⟩
abbrev S16x2048x128 : Shape := ⟨3, ![16, 2048, 128]⟩
abbrev S16x2048x64 : Shape := ⟨3, ![16, 2048, 64]⟩
abbrev S16x2048x8 : Shape := ⟨3, ![16, 2048, 8]⟩
abbrev S16x2048x1536 : Shape := ⟨3, ![16, 2048, 1536]⟩
abbrev S16x2048x4 : Shape := ⟨3, ![16, 2048, 4]⟩
abbrev S16x2048x8x64 : Shape := ⟨4, ![16, 2048, 8, 64]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S1x2048x1x8 : Shape := ⟨4, ![1, 2048, 1, 8]⟩
abbrev S16x2048x8x16 : Shape := ⟨4, ![16, 2048, 8, 16]⟩
abbrev S16x2048x8x8 : Shape := ⟨4, ![16, 2048, 8, 8]⟩
abbrev S16x2048x8x48 : Shape := ⟨4, ![16, 2048, 8, 48]⟩
abbrev S16x2048x2x64 : Shape := ⟨4, ![16, 2048, 2, 64]⟩
abbrev S16x2048x2x16 : Shape := ⟨4, ![16, 2048, 2, 16]⟩
abbrev S16x2048x2x8 : Shape := ⟨4, ![16, 2048, 2, 8]⟩
abbrev S16x2048x2x48 : Shape := ⟨4, ![16, 2048, 2, 48]⟩
abbrev S16x2048x1x64 : Shape := ⟨4, ![16, 2048, 1, 64]⟩
abbrev S16x2048x1x16 : Shape := ⟨4, ![16, 2048, 1, 16]⟩
abbrev S16x2048x1x8 : Shape := ⟨4, ![16, 2048, 1, 8]⟩
abbrev S16x2048x1x48 : Shape := ⟨4, ![16, 2048, 1, 48]⟩
abbrev S16x2x64x2048 : Shape := ⟨4, ![16, 2, 64, 2048]⟩
abbrev S16x128x2048 : Shape := ⟨3, ![16, 128, 2048]⟩
abbrev S16x64x2048 : Shape := ⟨3, ![16, 64, 2048]⟩
abbrev S16x2048x16 : Shape := ⟨3, ![16, 2048, 16]⟩
abbrev S32768x16 : Shape := ⟨2, ![32768, 16]⟩
abbrev S32768x128 : Shape := ⟨2, ![32768, 128]⟩
abbrev S32768x512 : Shape := ⟨2, ![32768, 512]⟩
abbrev S32768x1536 : Shape := ⟨2, ![32768, 1536]⟩

abbrev nBuf : Space → Nat
  | .hbm => 177
  | .vmem => 0
  | .smem => 0
  | _ => 0

abbrev hbmTy0_0 (i : Nat) : BufTy := match i % 128 with
  | 0 => ⟨S16x2048x1024, .f32⟩
  | 1 => ⟨S1x1024x3408, .f32⟩
  | 2 => ⟨S1024x3408, .f32⟩
  | 3 => ⟨S2048, .i32⟩
  | 4 => ⟨S16x2048x3408, .f32⟩
  | 5 => ⟨S16x2048x512, .f32⟩
  | 6 => ⟨S16x2048x128, .f32⟩
  | 7 => ⟨S16x2048x128, .f32⟩
  | 8 => ⟨S16x2048x512, .f32⟩
  | 9 => ⟨S16x2048x64, .f32⟩
  | 10 => ⟨S16x2048x8, .f32⟩
  | 11 => ⟨S16x2048x1536, .f32⟩
  | 12 => ⟨S16x2048x512, .f32⟩
  | 13 => ⟨S16x2048x4, .f32⟩
  | 14 => ⟨S16x2048x4, .f32⟩
  | 15 => ⟨S16x2048x8x64, .f32⟩
  | 16 => ⟨S8, .f32⟩
  | 17 => ⟨S8, .f32⟩
  | 18 => ⟨S_, .f32⟩
  | 19 => ⟨S8, .f32⟩
  | 20 => ⟨S8, .f32⟩
  | 21 => ⟨S_, .f32⟩
  | 22 => ⟨S8, .f32⟩
  | 23 => ⟨S8, .f32⟩
  | 24 => ⟨S2048, .f32⟩
  | 25 => ⟨S2048x1, .f32⟩
  | 26 => ⟨S1x8, .f32⟩
  | 27 => ⟨S2048x8, .f32⟩
  | 28 => ⟨S2048x8, .f32⟩
  | 29 => ⟨S2048x8, .f32⟩
  | 30 => ⟨S2048x8, .f32⟩
  | 31 => ⟨S1x2048x1x8, .f32⟩
  | 32 => ⟨S2048x8, .f32⟩
  | 33 => ⟨S1x2048x1x8, .f32⟩
  | 34 => ⟨S16x2048x8x16, .f32⟩
  | 35 => ⟨S16x2048x8x8, .f32⟩
  | 36 => ⟨S16x2048x8x8, .f32⟩
  | 37 => ⟨S16x2048x8x8, .f32⟩
  | 38 => ⟨S16x2048x8x8, .f32⟩
  | 39 => ⟨S16x2048x8x8, .f32⟩
  | 40 => ⟨S16x2048x8x8, .f32⟩
  | 41 => ⟨S16x2048x8x8, .f32⟩
  | 42 => ⟨S16x2048x8x8, .f32⟩
  | 43 => ⟨S16x2048x8x8, .f32⟩
  | 44 => ⟨S16x2048x8x8, .f32⟩
  | 45 => ⟨S16x2048x8x8, .f32⟩
  | 46 => ⟨S16x2048x8x8, .f32⟩
  | 47 => ⟨S16x2048x8x16, .f32⟩
  | 48 => ⟨S16x2048x8x48, .f32⟩
  | 49 => ⟨S16x2048x8x64, .f32⟩
  | 50 => ⟨S16x2048x2x64, .f32⟩
  | 51 => ⟨S8, .f32⟩
  | 52 => ⟨S8, .f32⟩
  | 53 => ⟨S_, .f32⟩
  | 54 => ⟨S8, .f32⟩
  | 55 => ⟨S8, .f32⟩
  | 56 => ⟨S_, .f32⟩
  | 57 => ⟨S8, .f32⟩
  | 58 => ⟨S8, .f32⟩
  | 59 => ⟨S2048, .f32⟩
  | 60 => ⟨S2048x1, .f32⟩
  | 61 => ⟨S1x8, .f32⟩
  | 62 => ⟨S2048x8, .f32⟩
  | 63 => ⟨S2048x8, .f32⟩
  | 64 => ⟨S2048x8, .f32⟩
  | 65 => ⟨S2048x8, .f32⟩
  | 66 => ⟨S1x2048x1x8, .f32⟩
  | 67 => ⟨S2048x8, .f32⟩
  | 68 => ⟨S1x2048x1x8, .f32⟩
  | 69 => ⟨S16x2048x2x16, .f32⟩
  | 70 => ⟨S16x2048x2x8, .f32⟩
  | 71 => ⟨S16x2048x2x8, .f32⟩
  | 72 => ⟨S16x2048x2x8, .f32⟩
  | 73 => ⟨S16x2048x2x8, .f32⟩
  | 74 => ⟨S16x2048x2x8, .f32⟩
  | 75 => ⟨S16x2048x2x8, .f32⟩
  | 76 => ⟨S16x2048x2x8, .f32⟩
  | 77 => ⟨S16x2048x2x8, .f32⟩
  | 78 => ⟨S16x2048x2x8, .f32⟩
  | 79 => ⟨S16x2048x2x8, .f32⟩
  | 80 => ⟨S16x2048x2x8, .f32⟩
  | 81 => ⟨S16x2048x2x8, .f32⟩
  | 82 => ⟨S16x2048x2x16, .f32⟩
  | 83 => ⟨S16x2048x2x48, .f32⟩
  | 84 => ⟨S16x2048x2x64, .f32⟩
  | 85 => ⟨S16x2048x2x64, .f32⟩
  | 86 => ⟨S16x2048x8x64, .f32⟩
  | 87 => ⟨S8, .f32⟩
  | 88 => ⟨S8, .f32⟩
  | 89 => ⟨S_, .f32⟩
  | 90 => ⟨S8, .f32⟩
  | 91 => ⟨S8, .f32⟩
  | 92 => ⟨S_, .f32⟩
  | 93 => ⟨S8, .f32⟩
  | 94 => ⟨S8, .f32⟩
  | 95 => ⟨S2048, .f32⟩
  | 96 => ⟨S2048x1, .f32⟩
  | 97 => ⟨S1x8, .f32⟩
  | 98 => ⟨S2048x8, .f32⟩
  | 99 => ⟨S2048x8, .f32⟩
  | 100 => ⟨S2048x8, .f32⟩
  | 101 => ⟨S2048x8, .f32⟩
  | 102 => ⟨S1x2048x1x8, .f32⟩
  | 103 => ⟨S2048x8, .f32⟩
  | 104 => ⟨S1x2048x1x8, .f32⟩
  | 105 => ⟨S16x2048x8x16, .f32⟩
  | 106 => ⟨S16x2048x8x8, .f32⟩
  | 107 => ⟨S16x2048x8x8, .f32⟩
  | 108 => ⟨S16x2048x8x8, .f32⟩
  | 109 => ⟨S16x2048x8x8, .f32⟩
  | 110 => ⟨S16x2048x8x8, .f32⟩
  | 111 => ⟨S16x2048x8x8, .f32⟩
  | 112 => ⟨S16x2048x8x8, .f32⟩
  | 113 => ⟨S16x2048x8x8, .f32⟩
  | 114 => ⟨S16x2048x8x8, .f32⟩
  | 115 => ⟨S16x2048x8x8, .f32⟩
  | 116 => ⟨S16x2048x8x8, .f32⟩
  | 117 => ⟨S16x2048x8x8, .f32⟩
  | 118 => ⟨S16x2048x8x16, .f32⟩
  | 119 => ⟨S16x2048x8x48, .f32⟩
  | 120 => ⟨S16x2048x8x64, .f32⟩
  | 121 => ⟨S16x2048x1x64, .f32⟩
  | 122 => ⟨S8, .f32⟩
  | 123 => ⟨S8, .f32⟩
  | 124 => ⟨S_, .f32⟩
  | 125 => ⟨S8, .f32⟩
  | 126 => ⟨S8, .f32⟩
  | 127 => ⟨S_, .f32⟩
  | _ => ⟨S16x2048x1024, .f32⟩

abbrev hbmTy0_1 (i : Nat) : BufTy := match i % 128 with
  | 0 => ⟨S8, .f32⟩
  | 1 => ⟨S8, .f32⟩
  | 2 => ⟨S2048, .f32⟩
  | 3 => ⟨S2048x1, .f32⟩
  | 4 => ⟨S1x8, .f32⟩
  | 5 => ⟨S2048x8, .f32⟩
  | 6 => ⟨S2048x8, .f32⟩
  | 7 => ⟨S2048x8, .f32⟩
  | 8 => ⟨S2048x8, .f32⟩
  | 9 => ⟨S1x2048x1x8, .f32⟩
  | 10 => ⟨S2048x8, .f32⟩
  | 11 => ⟨S1x2048x1x8, .f32⟩
  | 12 => ⟨S16x2048x1x16, .f32⟩
  | 13 => ⟨S16x2048x1x8, .f32⟩
  | 14 => ⟨S16x2048x1x8, .f32⟩
  | 15 => ⟨S16x2048x1x8, .f32⟩
  | 16 => ⟨S16x2048x1x8, .f32⟩
  | 17 => ⟨S16x2048x1x8, .f32⟩
  | 18 => ⟨S16x2048x1x8, .f32⟩
  | 19 => ⟨S16x2048x1x8, .f32⟩
  | 20 => ⟨S16x2048x1x8, .f32⟩
  | 21 => ⟨S16x2048x1x8, .f32⟩
  | 22 => ⟨S16x2048x1x8, .f32⟩
  | 23 => ⟨S16x2048x1x8, .f32⟩
  | 24 => ⟨S16x2048x1x8, .f32⟩
  | 25 => ⟨S16x2048x1x16, .f32⟩
  | 26 => ⟨S16x2048x1x48, .f32⟩
  | 27 => ⟨S16x2048x1x64, .f32⟩
  | 28 => ⟨S16x2048x64, .f32⟩
  | 29 => ⟨S_, .f32⟩
  | 30 => ⟨S16x2048x8, .f32⟩
  | 31 => ⟨S16x2048x8, .f32⟩
  | 32 => ⟨S16x2x64x2048, .f32⟩
  | 33 => ⟨S16x128x2048, .f32⟩
  | 34 => ⟨S16x2x64x2048, .f32⟩
  | 35 => ⟨S16x128x2048, .f32⟩
  | 36 => ⟨S16x64x2048, .f32⟩
  | 37 => ⟨S16x2048x16, .f32⟩
  | 38 => ⟨S32768x16, .f32⟩
  | 39 => ⟨S_, .i32⟩
  | 40 => ⟨S_, .f32⟩
  | 41 => ⟨S32768x128, .f32⟩
  | 42 => ⟨S32768x512, .f32⟩
  | 43 => ⟨S32768x512, .f32⟩
  | 44 => ⟨S32768x1536, .f32⟩
  | 45 => ⟨S32768x512, .f32⟩
  | 46 => ⟨S16x128x2048, .bf16⟩
  | 47 => ⟨S16x64x2048, .bf16⟩
  | 48 => ⟨S16x128x2048, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩
abbrev main_cst_0 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_cst_1 : Ref sig .tc := ⟨.hbm, 53, rfl⟩
abbrev main_v49 : Ref sig .tc := ⟨.hbm, 54, rfl⟩
abbrev main_v50 : Ref sig .tc := ⟨.hbm, 55, rfl⟩
abbrev main_cst_2 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_cst_3 : Ref sig .tc := ⟨.hbm, 89, rfl⟩
abbrev main_v83 : Ref sig .tc := ⟨.hbm, 90, rfl⟩
abbrev main_v84 : Ref sig .tc := ⟨.hbm, 91, rfl⟩
abbrev main_cst_4 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_cst_5 : Ref sig .tc := ⟨.hbm, 124, rfl⟩
abbrev main_v116 : Ref sig .tc := ⟨.hbm, 125, rfl⟩
abbrev main_v117 : Ref sig .tc := ⟨.hbm, 126, rfl⟩
abbrev main_cst_6 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_cst_7 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_c : Ref sig .tc := ⟨.hbm, 167, rfl⟩
abbrev main_call0_v0 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_v163 : Ref sig .tc := ⟨.hbm, 176, rfl⟩

abbrev nD : Nat := 1
abbrev τ : Topo := Topo.v7x

variable {F : FTy → Type} [FloatOps F]
-- ==== Kernel5.lean ====
abbrev S128x8x1024 : Shape := ⟨3, ![128, 8, 1024]⟩
abbrev S128x8x512 : Shape := ⟨3, ![128, 8, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S512x1024 : Shape := ⟨2, ![512, 1024]⟩
abbrev S1024x2816 : Shape := ⟨2, ![1024, 2816]⟩
abbrev S2816x1024 : Shape := ⟨2, ![2816, 1024]⟩
abbrev S1024x512 : Shape := ⟨2, ![1024, 512]⟩
abbrev S512x512 : Shape := ⟨2, ![512, 512]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 27
  | .vmem => 22
  | .smem => 0
  | _ => 0

abbrev bufTy : (tb : Table) → Fin (tcTables nBuf tb) → BufTy
  | .hbm, ⟨0, _⟩ => ⟨S128x8x1024, .f32⟩
  | .hbm, ⟨1, _⟩ => ⟨S128x8x512, .f32⟩
  | .hbm, ⟨2, _⟩ => ⟨S128x8x512, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S1x1024, .f32⟩
  | .hbm, ⟨10, _⟩ => ⟨S1x1024, .f32⟩
  | .hbm, ⟨11, _⟩ => ⟨S1024x1024, .f32⟩
  | .hbm, ⟨12, _⟩ => ⟨S512x1024, .f32⟩
  | .hbm, ⟨13, _⟩ => ⟨S512x1024, .bf16⟩
  | .hbm, ⟨14, _⟩ => ⟨S1024x1024, .f32⟩
  | .hbm, ⟨15, _⟩ => ⟨S512x1024, .f32⟩
  | .hbm, ⟨16, _⟩ => ⟨S512x1024, .bf16⟩
  | .hbm, ⟨17, _⟩ => ⟨S1024x1024, .f32⟩
  | .hbm, ⟨18, _⟩ => ⟨S1024x2816, .f32⟩
  | .hbm, ⟨19, _⟩ => ⟨S1024x2816, .bf16⟩
  | .hbm, ⟨20, _⟩ => ⟨S1024x2816, .f32⟩
  | .hbm, ⟨21, _⟩ => ⟨S1024x2816, .bf16⟩
  | .hbm, ⟨22, _⟩ => ⟨S2816x1024, .f32⟩
  | .hbm, ⟨23, _⟩ => ⟨S2816x1024, .bf16⟩
  | .hbm, ⟨24, _⟩ => ⟨S1024x512, .f32⟩
  | .hbm, ⟨25, _⟩ => ⟨S1024x512, .f32⟩
  | .hbm, ⟨26, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S1024x1408, .bf16⟩
  | .local _ .vmem, ⟨11, _⟩ => ⟨S1024x1408, .bf16⟩
  | .local _ .vmem, ⟨12, _⟩ => ⟨S1024x1408, .bf16⟩
  | .local _ .vmem, ⟨13, _⟩ => ⟨S1024x1408, .bf16⟩
  | .local _ .vmem, ⟨14, _⟩ => ⟨S1408x1024, .bf16⟩
  | .local _ .vmem, ⟨15, _⟩ => ⟨S1408x1024, .bf16⟩
  | .local _ .vmem, ⟨16, _⟩ => ⟨S1x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![2, 2], ![false, false]⟩

def k0_cond4 (i : grid0.Coords) : BitVec 1 :=
  let arg1 : BitVec 32 := BitVec.ofNat 32 (i 1).val
  let c1_i32 : BitVec 32 := 1#32
  let v24 : BitVec 1 := Scalar.cmpi .eq arg1 c1_i32
  let v25 : BitVec 32 := Scalar.extui v24
  let c0_i32_14 : BitVec 32 := 0#32
  let v26 : BitVec 1 := Scalar.cmpi .ne v25 c0_i32_14
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1408x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference5Ideal.lean ====
abbrev S128x8x1024 : Shape := ⟨3, ![128, 8, 1024]⟩
abbrev S128x8x512 : Shape := ⟨3, ![128, 8, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S1024 : Shape := ⟨1, ![1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S1024x2816 : Shape := ⟨2, ![1024, 2816]⟩
abbrev S2816x1024 : Shape := ⟨2, ![2816, 1024]⟩
abbrev S128x8x2816 : Shape := ⟨3, ![128, 8, 2816]⟩

abbrev nBuf : Space → Nat
  | .hbm => 104
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S128x8x512, .f32⟩
  | .hbm, ⟨2, _⟩ => ⟨S128x8x512, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S1x1024, .f32⟩
  | .hbm, ⟨10, _⟩ => ⟨S1x1024, .f32⟩
  | .hbm, ⟨11, _⟩ => ⟨S1024x1024, .f32⟩
  | .hbm, ⟨12, _⟩ => ⟨S1024, .f32⟩
  | .hbm, ⟨13, _⟩ => ⟨S1024, .f32⟩
  | .hbm, ⟨14, _⟩ => ⟨S_, .f32⟩
  | .hbm, ⟨15, _⟩ => ⟨S128x8x1024, .f32⟩
  | .hbm, ⟨16, _⟩ => ⟨S128x8x1024, .f32⟩
  | .hbm, ⟨17, _⟩ => ⟨S128x8x1024, .f32⟩
  | .hbm, ⟨18, _⟩ => ⟨S128x8x1024, .f32⟩
  | .hbm, ⟨19, _⟩ => ⟨S128x8x1024, .f32⟩
  | .hbm, ⟨20, _⟩ => ⟨S_, .f32⟩
  | .hbm, ⟨21, _⟩ => ⟨S128x8, .f32⟩
  | .hbm, ⟨22, _⟩ => ⟨S128x8x1, .f32⟩
  | .hbm, ⟨23, _⟩ => ⟨S_, .f32⟩
  | .hbm, ⟨24, _⟩ => ⟨S128x8x1, .f32⟩
  | .hbm, ⟨25, _⟩ => ⟨S128x8x1, .f32⟩
  | .hbm, ⟨26, _⟩ => ⟨S128x8x1024, .f32⟩
  | .hbm, ⟨27, _⟩ => ⟨S128x8x1024, .f32⟩
  | .hbm, ⟨28, _⟩ => ⟨S128x8x1024, .f32⟩
  | .hbm, ⟨29, _⟩ => ⟨S_, .f32⟩
  | .hbm, ⟨30, _⟩ => ⟨S128x8, .f32⟩
  | .hbm, ⟨31, _⟩ => ⟨S128x8x1, .f32⟩
  | .hbm, ⟨32, _⟩ => ⟨S_, .f32⟩
  | .hbm, ⟨33, _⟩ => ⟨S128x8x1, .f32⟩
  | .hbm, ⟨34, _⟩ => ⟨S128x8x1, .f32⟩
  | .hbm, ⟨35, _⟩ => ⟨S128x8x1024, .f32⟩
  | .hbm, ⟨36, _⟩ => ⟨S128x8x1024, .f32⟩
  | .hbm, ⟨37, _⟩ => ⟨S_, .f32⟩
  | .hbm, ⟨38, _⟩ => ⟨S128x8x1, .f32⟩
  | .hbm, ⟨39, _⟩ => ⟨S128x8x1, .f32⟩
  | .hbm, ⟨40, _⟩ => ⟨S128x8x1, .f32⟩
  | .hbm, ⟨41, _⟩ => ⟨S128x8x1024, .f32⟩
  | .hbm, ⟨42, _⟩ => ⟨S128x8x1024, .f32⟩
  | .hbm, ⟨43, _⟩ => ⟨S1x1x1024, .f32⟩
  | .hbm, ⟨44, _⟩ => ⟨S128x8x1024, .f32⟩
  | .hbm, ⟨45, _⟩ => ⟨S128x8x1024, .f32⟩
  | .hbm, ⟨46, _⟩ => ⟨S1x1x1024, .f32⟩
  | .hbm, ⟨47, _⟩ => ⟨S128x8x1024, .f32⟩
  | .hbm, ⟨48, _⟩ => ⟨S128x8x1024, .f32⟩
  | .hbm, ⟨49, _⟩ => ⟨S1024x2816, .f32⟩
  | .hbm, ⟨50, _⟩ => ⟨S1024x2816, .f32⟩
  | .hbm, ⟨51, _⟩ => ⟨S2816x1024, .f32⟩
  | .hbm, ⟨52, _⟩ => ⟨S1024, .f32⟩
  | .hbm, ⟨53, _⟩ => ⟨S1024, .f32⟩
  | .hbm, ⟨54, _⟩ => ⟨S_, .f32⟩
  | .hbm, ⟨55, _⟩ => ⟨S128x8x1024, .f32⟩
  | .hbm, ⟨56, _⟩ => ⟨S128x8x1024, .f32⟩
  | .hbm, ⟨57, _⟩ => ⟨S128x8x2816, .f32⟩
  | .hbm, ⟨58, _⟩ => ⟨S128x8x2816, .f32⟩
  | .hbm, ⟨59, _⟩ => ⟨S128x8x2816, .f32⟩
  | .hbm, ⟨60, _⟩ => ⟨S_, .f32⟩
  | .hbm, ⟨61, _⟩ => ⟨S128x8x2816, .f32⟩
  | .hbm, ⟨62, _⟩ => ⟨S128x8x2816, .f32⟩
  | .hbm, ⟨63, _⟩ => ⟨S_, .f32⟩
  | .hbm, ⟨64, _⟩ => ⟨S128x8x2816, .f32⟩
  | .hbm, ⟨65, _⟩ => ⟨S128x8x2816, .f32⟩
  | .hbm, ⟨66, _⟩ => ⟨S128x8x2816, .f32⟩
  | .hbm, ⟨67, _⟩ => ⟨S128x8x2816, .f32⟩
  | .hbm, ⟨68, _⟩ => ⟨S128x8x2816, .f32⟩
  | .hbm, ⟨69, _⟩ => ⟨S128x8x1024, .f32⟩
  | .hbm, ⟨70, _⟩ => ⟨S_, .f32⟩
  | .hbm, ⟨71, _⟩ => ⟨S128x8x1024, .f32⟩
  | .hbm, ⟨72, _⟩ => ⟨S128x8x1024, .f32⟩
  | .hbm, ⟨73, _⟩ => ⟨S128x8x1024, .f32⟩
  | .hbm, ⟨74, _⟩ => ⟨S_, .f32⟩
  | .hbm, ⟨75, _⟩ => ⟨S128x8, .f32⟩
  | .hbm, ⟨76, _⟩ => ⟨S128x8x1, .f32⟩
  | .hbm, ⟨77, _⟩ => ⟨S_, .f32⟩
  | .hbm, ⟨78, _⟩ => ⟨S128x8x1, .f32⟩
  | .hbm, ⟨79, _⟩ => ⟨S128x8x1, .f32⟩
  | .hbm, ⟨80, _⟩ => ⟨S128x8x1024, .f32⟩
  | .hbm, ⟨81, _⟩ => ⟨S128x8x1024, .f32⟩
  | .hbm, ⟨82, _⟩ => ⟨S128x8x1024, .f32⟩
  | .hbm, ⟨83, _⟩ => ⟨S_, .f32⟩
  | .hbm, ⟨84, _⟩ => ⟨S128x8, .f32⟩
  | .hbm, ⟨85, _⟩ => ⟨S128x8x1, .f32⟩
  | .hbm, ⟨86, _⟩ => ⟨S_, .f32⟩
  | .hbm, ⟨87, _⟩ => ⟨S128x8x1, .f32⟩
  | .hbm, ⟨88, _⟩ => ⟨S128x8x1, .f32⟩
  | .hbm, ⟨89, _⟩ => ⟨S128x8x1024, .f32⟩
  | .hbm, ⟨90, _⟩ => ⟨S128x8x1024, .f32⟩
  | .hbm, ⟨91, _⟩ => ⟨S_, .f32⟩
  | .hbm, ⟨92, _⟩ => ⟨S128x8x1, .f32⟩
  | .hbm, ⟨93, _⟩ => ⟨S128x8x1, .f32⟩
  | .hbm, ⟨94, _⟩ => ⟨S128x8x1, .f32⟩
  | .hbm, ⟨95, _⟩ => ⟨S128x8x1024, .f32⟩
  | .hbm, ⟨96, _⟩ => ⟨S128x8x1024, .f32⟩
  | .hbm, ⟨97, _⟩ => ⟨S1x1x1024, .f32⟩
  | .hbm, ⟨98, _⟩ => ⟨S128x8x1024, .f32⟩
  | .hbm, ⟨99, _⟩ => ⟨S128x8x1024, .f32⟩
  | .hbm, ⟨100, _⟩ => ⟨S1x1x1024, .f32⟩
  | .hbm, ⟨101, _⟩ => ⟨S128x8x1024, .f32⟩
  | .hbm, ⟨102, _⟩ => ⟨S128x8x1024, .f32⟩
  | .hbm, ⟨103, _⟩ => ⟨S1024x1024, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_6 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_7 : Ref sig .tc := ⟨.hbm, 74, rfl⟩
abbrev main_v47 : Ref sig .tc := ⟨.hbm, 75, rfl⟩
abbrev main_v48 : Ref sig .tc := ⟨.hbm, 76, rfl⟩
abbrev main_cst_8 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_9 : Ref sig .tc := ⟨.hbm, 83, rfl⟩
abbrev main_v54 : Ref sig .tc := ⟨.hbm, 84, rfl⟩
abbrev main_v55 : Ref sig .tc := ⟨.hbm, 85, rfl⟩
abbrev main_cst_10 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_11 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩

abbrev nD : Nat := 1
abbrev τ : Topo := Topo.v7x

variable {F : FTy → Type} [FloatOps F]
-- ==== Kernel6.lean ====
abbrev S128x8x1024 : Shape := ⟨3, ![128, 8, 1024]⟩
abbrev S1x1024x3408 : Shape := ⟨3, ![1, 1024, 3408]⟩
abbrev S8 : Shape := ⟨1, ![8]⟩
abbrev S_ : Shape := ⟨0, ![]⟩
abbrev S1x8 : Shape := ⟨2, ![1, 8]⟩
abbrev S128x8 : Shape := ⟨2, ![128, 8]⟩
abbrev S1024 : Shape := ⟨1, ![1024]⟩
abbrev S1024x1024 : Shape := ⟨2, ![1024, 1024]⟩
abbrev S1024x3408 : Shape := ⟨2, ![1024, 3408]⟩
abbrev S1024x512 : Shape := ⟨2, ![1024, 512]⟩
abbrev S1024x128 : Shape := ⟨2, ![1024, 128]⟩
abbrev S1024x64 : Shape := ⟨2, ![1024, 64]⟩
abbrev S1024x8 : Shape := ⟨2, ![1024, 8]⟩
abbrev S1024x1536 : Shape := ⟨2, ![1024, 1536]⟩
abbrev S1024x4 : Shape := ⟨2, ![1024, 4]⟩
abbrev S1024x1280 : Shape := ⟨2, ![1024, 1280]⟩
abbrev S1024x112 : Shape := ⟨2, ![1024, 112]⟩
abbrev S1024x1 : Shape := ⟨2, ![1024, 1]⟩
abbrev S1024x48 : Shape := ⟨2, ![1024, 48]⟩
abbrev S1x1024x1x64 : Shape := ⟨4, ![1, 1024, 1, 64]⟩
abbrev S1x1024x2x64 : Shape := ⟨4, ![1, 1024, 2, 64]⟩
abbrev S512x1024 : Shape := ⟨2, ![512, 1024]⟩
abbrev S512x128 : Shape := ⟨2, ![512, 128]⟩
abbrev S512x512 : Shape := ⟨2, ![512, 512]⟩
abbrev S512x64 : Shape := ⟨2, ![512, 64]⟩
abbrev S512x1536 : Shape := ⟨2, ![512, 1536]⟩
abbrev S512x1280 : Shape := ⟨2, ![512, 1280]⟩

abbrev nBuf : Space → Nat
  | .hbm => 75
  | .vmem => 29
  | .smem => 0
  | _ => 0

abbrev bufTy : (tb : Table) → Fin (tcTables nBuf tb) → BufTy
  | .hbm, ⟨0, _⟩ => ⟨S128x8x1024, .f32⟩
  | .hbm, ⟨1, _⟩ => ⟨S1x1024x3408, .f32⟩
  | .hbm, ⟨2, _⟩ => ⟨S8, .i32⟩
  | .hbm, ⟨3, _⟩ => ⟨S_, .i32⟩
  | .hbm, ⟨4, _⟩ => ⟨S8, .i32⟩
  | .hbm, ⟨5, _⟩ => ⟨S8, .i32⟩
  | .hbm, ⟨6, _⟩ => ⟨S1x8, .i32⟩
  | .hbm, ⟨7, _⟩ => ⟨S128x8, .i32⟩
  | .hbm, ⟨8, _⟩ => ⟨S1024, .i32⟩
  | .hbm, ⟨9, _⟩ => ⟨S1024x1024, .f32⟩
  | .hbm, ⟨10, _⟩ => ⟨S1024x3408, .f32⟩
  | .hbm, ⟨11, _⟩ => ⟨S1024x512, .f32⟩
  | .hbm, ⟨12, _⟩ => ⟨S1024x128, .f32⟩
  | .hbm, ⟨13, _⟩ => ⟨S1024x128, .f32⟩
  | .hbm, ⟨14, _⟩ => ⟨S1024x512, .f32⟩
  | .hbm, ⟨15, _⟩ => ⟨S1024x64, .f32⟩
  | .hbm, ⟨16, _⟩ => ⟨S1024x8, .f32⟩
  | .hbm, ⟨17, _⟩ => ⟨S1024x1536, .f32⟩
  | .hbm, ⟨18, _⟩ => ⟨S1024x512, .f32⟩
  | .hbm, ⟨19, _⟩ => ⟨S1024x4, .f32⟩
  | .hbm, ⟨20, _⟩ => ⟨S1024x4, .f32⟩
  | .hbm, ⟨21, _⟩ => ⟨S_, .f32⟩
  | .hbm, ⟨22, _⟩ => ⟨S1024x64, .f32⟩
  | .hbm, ⟨23, _⟩ => ⟨S1024x1280, .f32⟩
  | .hbm, ⟨24, _⟩ => ⟨S_, .f32⟩
  | .hbm, ⟨25, _⟩ => ⟨S1024x112, .f32⟩
  | .hbm, ⟨26, _⟩ => ⟨S1024x128, .f32⟩
  | .hbm, ⟨27, _⟩ => ⟨S1024x1280, .bf16⟩
  | .hbm, ⟨28, _⟩ => ⟨S1024x128, .bf16⟩
  | .hbm, ⟨29, _⟩ => ⟨S1024x128, .bf16⟩
  | .hbm, ⟨30, _⟩ => ⟨S1024x1536, .bf16⟩
  | .hbm, ⟨31, _⟩ => ⟨S1024x512, .bf16⟩
  | .hbm, ⟨32, _⟩ => ⟨S8, .f32⟩
  | .hbm, ⟨33, _⟩ => ⟨S8, .f32⟩
  | .hbm, ⟨34, _⟩ => ⟨S_, .f32⟩
  | .hbm, ⟨35, _⟩ => ⟨S8, .f32⟩
  | .hbm, ⟨36, _⟩ => ⟨S8, .f32⟩
  | .hbm, ⟨37, _⟩ => ⟨S_, .f32⟩
  | .hbm, ⟨38, _⟩ => ⟨S8, .f32⟩
  | .hbm, ⟨39, _⟩ => ⟨S8, .f32⟩
  | .hbm, ⟨40, _⟩ => ⟨S1024, .f32⟩
  | .hbm, ⟨41, _⟩ => ⟨S1024x1, .f32⟩
  | .hbm, ⟨42, _⟩ => ⟨S1x8, .f32⟩
  | .hbm, ⟨43, _⟩ => ⟨S1024x8, .f32⟩
  | .hbm, ⟨44, _⟩ => ⟨S1024x8, .f32⟩
  | .hbm, ⟨45, _⟩ => ⟨S1024x8, .f32⟩
  | .hbm, ⟨46, _⟩ => ⟨S1024x8, .f32⟩
  | .hbm, ⟨47, _⟩ => ⟨S1024x8, .f32⟩
  | .hbm, ⟨48, _⟩ => ⟨S_, .f32⟩
  | .hbm, ⟨49, _⟩ => ⟨S1024x48, .f32⟩
  | .hbm, ⟨50, _⟩ => ⟨S_, .f32⟩
  | .hbm, ⟨51, _⟩ => ⟨S1024x48, .f32⟩
  | .hbm, ⟨52, _⟩ => ⟨S_, .f32⟩
  | .hbm, ⟨53, _⟩ => ⟨S1024x8, .f32⟩
  | .hbm, ⟨54, _⟩ => ⟨S1024x64, .f32⟩
  | .hbm, ⟨55, _⟩ => ⟨S1024x8, .f32⟩
  | .hbm, ⟨56, _⟩ => ⟨S1024x64, .f32⟩
  | .hbm, ⟨57, _⟩ => ⟨S1024x64, .f32⟩
  | .hbm, ⟨58, _⟩ => ⟨S1x1024x1x64, .f32⟩
  | .hbm, ⟨59, _⟩ => ⟨S1x1024x2x64, .f32⟩
  | .hbm, ⟨60, _⟩ => ⟨S1024x128, .f32⟩
  | .hbm, ⟨61, _⟩ => ⟨S1x1024x1x64, .f32⟩
  | .hbm, ⟨62, _⟩ => ⟨S1x1024x2x64, .f32⟩
  | .hbm, ⟨63, _⟩ => ⟨S1024x128, .f32⟩
  | .hbm, ⟨64, _⟩ => ⟨S1x1024x1x64, .f32⟩
  | .hbm, ⟨65, _⟩ => ⟨S1x1024x2x64, .f32⟩
  | .hbm, ⟨66, _⟩ => ⟨S1024x128, .f32⟩
  | .hbm, ⟨67, _⟩ => ⟨S1024x512, .f32⟩
  | .hbm, ⟨68, _⟩ => ⟨S1024x512, .f32⟩
  | .hbm, ⟨69, _⟩ => ⟨S1024x128, .f32⟩
  | .hbm, ⟨70, _⟩ => ⟨S1024x64, .f32⟩
  | .hbm, ⟨71, _⟩ => ⟨S1024x128, .f32⟩
  | .hbm, ⟨72, _⟩ => ⟨S1024x128, .f32⟩
  | .hbm, ⟨73, _⟩ => ⟨S1024x1536, .f32⟩
  | .hbm, ⟨74, _⟩ => ⟨S1024x512, .f32⟩
  | .local _ .vmem, ⟨0, _⟩ => ⟨S512x1024, .f32⟩
  | .local _ .vmem, ⟨1, _⟩ => ⟨S512x1024, .f32⟩
  | .local _ .vmem, ⟨2, _⟩ => ⟨S1024x1280, .bf16⟩
  | .local _ .vmem, ⟨3, _⟩ => ⟨S1024x128, .bf16⟩
  | .local _ .vmem, ⟨4, _⟩ => ⟨S1024x128, .bf16⟩
  | .local _ .vmem, ⟨5, _⟩ => ⟨S1024x1536, .bf16⟩
  | .local _ .vmem, ⟨6, _⟩ => ⟨S1024x512, .bf16⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x128, .f32⟩
  | .local _ .vmem, ⟨18, _⟩ => ⟨S512x128, .f32⟩
  | .local _ .vmem, ⟨19, _⟩ => ⟨S512x64, .f32⟩
  | .local _ .vmem, ⟨20, _⟩ => ⟨S512x64, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x1536, .f32⟩
  | .local _ .vmem, ⟨26, _⟩ => ⟨S512x1536, .f32⟩
  | .local _ .vmem, ⟨27, _⟩ => ⟨S512x512, .f32⟩
  | .local _ .vmem, ⟨28, _⟩ => ⟨S512x512, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_1 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_3 : Ref sig .tc := ⟨.hbm, 48, rfl⟩
abbrev main_v41 : Ref sig .tc := ⟨.hbm, 49, rfl⟩
abbrev main_cst_4 : Ref sig .tc := ⟨.hbm, 50, rfl⟩
abbrev main_v42 : Ref sig .tc := ⟨.hbm, 51, rfl⟩
abbrev main_cst_5 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57_0 : Ref sig .tc := ⟨.hbm, 67, rfl⟩
abbrev main_v57_1 : Ref sig .tc := ⟨.hbm, 68, rfl⟩
abbrev main_v57_2 : Ref sig .tc := ⟨.hbm, 69, rfl⟩
abbrev main_v57_3 : Ref sig .tc := ⟨.hbm, 70, rfl⟩
abbrev main_v57_4 : Ref sig .tc := ⟨.hbm, 71, rfl⟩
abbrev main_v57_5 : Ref sig .tc := ⟨.hbm, 72, rfl⟩
abbrev main_v57_6 : Ref sig .tc := ⟨.hbm, 73, rfl⟩
abbrev main_v57_7 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1536 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference6Ideal.lean ====
abbrev S128x8x1024 : Shape := ⟨3, ![128, 8, 1024]⟩
abbrev S1x1024x3408 : Shape := ⟨3, ![1, 1024, 3408]⟩
abbrev S1024x3408 : Shape := ⟨2, ![1024, 3408]⟩
abbrev S8 : Shape := ⟨1, ![8]⟩
abbrev S_ : Shape := ⟨0, ![]⟩
abbrev S128x8x3408 : Shape := ⟨3, ![128, 8, 3408]⟩
abbrev S128x8x512 : Shape := ⟨3, ![128, 8, 512]⟩
abbrev S128x8x128 : Shape := ⟨3, ![128, 8, 128]⟩
abbrev S128x8x64 : Shape := ⟨3, ![128, 8, 64]⟩
abbrev S128x8x8 : Shape := ⟨3, ![128, 8, 8]⟩
abbrev S128x8x1536 : Shape := ⟨3, ![128, 8, 1536]⟩
abbrev S128x8x4 : Shape := ⟨3, ![128, 8, 4]⟩
abbrev S128x8x8x64 : Shape := ⟨4, ![128, 8, 8, 64]⟩
abbrev S8x1 : Shape := ⟨2, ![8, 1]⟩
abbrev S1x8 : Shape := ⟨2, ![1, 8]⟩
abbrev S8x8 : Shape := ⟨2, ![8, 8]⟩
abbrev S1x8x1x8 : Shape := ⟨4, ![1, 8, 1, 8]⟩
abbrev S128x8x8x16 : Shape := ⟨4, ![128, 8, 8, 16]⟩
abbrev S128x8x8x8 : Shape := ⟨4, ![128, 8, 8, 8]⟩
abbrev S128x8x8x48 : Shape := ⟨4, ![128, 8, 8, 48]⟩
abbrev S128x8x2x64 : Shape := ⟨4, ![128, 8, 2, 64]⟩
abbrev S128x8x2x16 : Shape := ⟨4, ![128, 8, 2, 16]⟩
abbrev S128x8x2x8 : Shape := ⟨4, ![128, 8, 2, 8]⟩
abbrev S128x8x2x48 : Shape := ⟨4, ![128, 8, 2, 48]⟩
abbrev S128x8x1x64 : Shape := ⟨4, ![128, 8, 1, 64]⟩
abbrev S128x8x1x16 : Shape := ⟨4, ![128, 8, 1, 16]⟩
abbrev S128x8x1x8 : Shape := ⟨4, ![128, 8, 1, 8]⟩
abbrev S128x8x1x48 : Shape := ⟨4, ![128, 8, 1, 48]⟩
abbrev S128x8x16 : Shape := ⟨3, ![128, 8, 16]⟩
abbrev S1024x16 : Shape := ⟨2, ![1024, 16]⟩
abbrev S1024x128 : Shape := ⟨2, ![1024, 128]⟩
abbrev S1024x512 : Shape := ⟨2, ![1024, 512]⟩
abbrev S1024x64 : Shape := ⟨2, ![1024, 64]⟩
abbrev S1024x1536 : Shape := ⟨2, ![1024, 1536]⟩

abbrev nBuf : Space → Nat
  | .hbm => 175
  | .vmem => 0
  | .smem => 0
  | _ => 0

abbrev hbmTy0_0 (i : Nat) : BufTy := match i % 128 with
  | 0 => ⟨S128x8x1024, .f32⟩
  | 1 => ⟨S1x1024x3408, .f32⟩
  | 2 => ⟨S1024x3408, .f32⟩
  | 3 => ⟨S8, .i32⟩
  | 4 => ⟨S_, .i32⟩
  | 5 => ⟨S8, .i32⟩
  | 6 => ⟨S8, .i32⟩
  | 7 => ⟨S128x8x3408, .f32⟩
  | 8 => ⟨S128x8x512, .f32⟩
  | 9 => ⟨S128x8x128, .f32⟩
  | 10 => ⟨S128x8x128, .f32⟩
  | 11 => ⟨S128x8x512, .f32⟩
  | 12 => ⟨S128x8x64, .f32⟩
  | 13 => ⟨S128x8x8, .f32⟩
  | 14 => ⟨S128x8x1536, .f32⟩
  | 15 => ⟨S128x8x512, .f32⟩
  | 16 => ⟨S128x8x4, .f32⟩
  | 17 => ⟨S128x8x4, .f32⟩
  | 18 => ⟨S128x8x8x64, .f32⟩
  | 19 => ⟨S8, .f32⟩
  | 20 => ⟨S8, .f32⟩
  | 21 => ⟨S_, .f32⟩
  | 22 => ⟨S8, .f32⟩
  | 23 => ⟨S8, .f32⟩
  | 24 => ⟨S_, .f32⟩
  | 25 => ⟨S8, .f32⟩
  | 26 => ⟨S8, .f32⟩
  | 27 => ⟨S8, .f32⟩
  | 28 => ⟨S8x1, .f32⟩
  | 29 => ⟨S1x8, .f32⟩
  | 30 => ⟨S8x8, .f32⟩
  | 31 => ⟨S8x8, .f32⟩
  | 32 => ⟨S8x8, .f32⟩
  | 33 => ⟨S8x8, .f32⟩
  | 34 => ⟨S1x8x1x8, .f32⟩
  | 35 => ⟨S8x8, .f32⟩
  | 36 => ⟨S1x8x1x8, .f32⟩
  | 37 => ⟨S128x8x8x16, .f32⟩
  | 38 => ⟨S128x8x8x8, .f32⟩
  | 39 => ⟨S128x8x8x8, .f32⟩
  | 40 => ⟨S128x8x8x8, .f32⟩
  | 41 => ⟨S128x8x8x8, .f32⟩
  | 42 => ⟨S128x8x8x8, .f32⟩
  | 43 => ⟨S128x8x8x8, .f32⟩
  | 44 => ⟨S128x8x8x8, .f32⟩
  | 45 => ⟨S128x8x8x8, .f32⟩
  | 46 => ⟨S128x8x8x8, .f32⟩
  | 47 => ⟨S128x8x8x8, .f32⟩
  | 48 => ⟨S128x8x8x8, .f32⟩
  | 49 => ⟨S128x8x8x8, .f32⟩
  | 50 => ⟨S128x8x8x16, .f32⟩
  | 51 => ⟨S128x8x8x48, .f32⟩
  | 52 => ⟨S128x8x8x64, .f32⟩
  | 53 => ⟨S128x8x2x64, .f32⟩
  | 54 => ⟨S8, .f32⟩
  | 55 => ⟨S8, .f32⟩
  | 56 => ⟨S_, .f32⟩
  | 57 => ⟨S8, .f32⟩
  | 58 => ⟨S8, .f32⟩
  | 59 => ⟨S_, .f32⟩
  | 60 => ⟨S8, .f32⟩
  | 61 => ⟨S8, .f32⟩
  | 62 => ⟨S8, .f32⟩
  | 63 => ⟨S8x1, .f32⟩
  | 64 => ⟨S1x8, .f32⟩
  | 65 => ⟨S8x8, .f32⟩
  | 66 => ⟨S8x8, .f32⟩
  | 67 => ⟨S8x8, .f32⟩
  | 68 => ⟨S8x8, .f32⟩
  | 69 => ⟨S1x8x1x8, .f32⟩
  | 70 => ⟨S8x8, .f32⟩
  | 71 => ⟨S1x8x1x8, .f32⟩
  | 72 => ⟨S128x8x2x16, .f32⟩
  | 73 => ⟨S128x8x2x8, .f32⟩
  | 74 => ⟨S128x8x2x8, .f32⟩
  | 75 => ⟨S128x8x2x8, .f32⟩
  | 76 => ⟨S128x8x2x8, .f32⟩
  | 77 => ⟨S128x8x2x8, .f32⟩
  | 78 => ⟨S128x8x2x8, .f32⟩
  | 79 => ⟨S128x8x2x8, .f32⟩
  | 80 => ⟨S128x8x2x8, .f32⟩
  | 81 => ⟨S128x8x2x8, .f32⟩
  | 82 => ⟨S128x8x2x8, .f32⟩
  | 83 => ⟨S128x8x2x8, .f32⟩
  | 84 => ⟨S128x8x2x8, .f32⟩
  | 85 => ⟨S128x8x2x16, .f32⟩
  | 86 => ⟨S128x8x2x48, .f32⟩
  | 87 => ⟨S128x8x2x64, .f32⟩
  | 88 => ⟨S128x8x2x64, .f32⟩
  | 89 => ⟨S128x8x8x64, .f32⟩
  | 90 => ⟨S8, .f32⟩
  | 91 => ⟨S8, .f32⟩
  | 92 => ⟨S_, .f32⟩
  | 93 => ⟨S8, .f32⟩
  | 94 => ⟨S8, .f32⟩
  | 95 => ⟨S_, .f32⟩
  | 96 => ⟨S8, .f32⟩
  | 97 => ⟨S8, .f32⟩
  | 98 => ⟨S8, .f32⟩
  | 99 => ⟨S8x1, .f32⟩
  | 100 => ⟨S1x8, .f32⟩
  | 101 => ⟨S8x8, .f32⟩
  | 102 => ⟨S8x8, .f32⟩
  | 103 => ⟨S8x8, .f32⟩
  | 104 => ⟨S8x8, .f32⟩
  | 105 => ⟨S1x8x1x8, .f32⟩
  | 106 => ⟨S8x8, .f32⟩
  | 107 => ⟨S1x8x1x8, .f32⟩
  | 108 => ⟨S128x8x8x16, .f32⟩
  | 109 => ⟨S128x8x8x8, .f32⟩
  | 110 => ⟨S128x8x8x8, .f32⟩
  | 111 => ⟨S128x8x8x8, .f32⟩
  | 112 => ⟨S128x8x8x8, .f32⟩
  | 113 => ⟨S128x8x8x8, .f32⟩
  | 114 => ⟨S128x8x8x8, .f32⟩
  | 115 => ⟨S128x8x8x8, .f32⟩
  | 116 => ⟨S128x8x8x8, .f32⟩
  | 117 => ⟨S128x8x8x8, .f32⟩
  | 118 => ⟨S128x8x8x8, .f32⟩
  | 119 => ⟨S128x8x8x8, .f32⟩
  | 120 => ⟨S128x8x8x8, .f32⟩
  | 121 => ⟨S128x8x8x16, .f32⟩
  | 122 => ⟨S128x8x8x48, .f32⟩
  | 123 => ⟨S128x8x8x64, .f32⟩
  | 124 => ⟨S128x8x1x64, .f32⟩
  | 125 => ⟨S8, .f32⟩
  | 126 => ⟨S8, .f32⟩
  | 127 => ⟨S_, .f32⟩
  | _ => ⟨S128x8x1024, .f32⟩

abbrev hbmTy0_1 (i : Nat) : BufTy := match i % 128 with
  | 0 => ⟨S8, .f32⟩
  | 1 => ⟨S8, .f32⟩
  | 2 => ⟨S_, .f32⟩
  | 3 => ⟨S8, .f32⟩
  | 4 => ⟨S8, .f32⟩
  | 5 => ⟨S8, .f32⟩
  | 6 => ⟨S8x1, .f32⟩
  | 7 => ⟨S1x8, .f32⟩
  | 8 => ⟨S8x8, .f32⟩
  | 9 => ⟨S8x8, .f32⟩
  | 10 => ⟨S8x8, .f32⟩
  | 11 => ⟨S8x8, .f32⟩
  | 12 => ⟨S1x8x1x8, .f32⟩
  | 13 => ⟨S8x8, .f32⟩
  | 14 => ⟨S1x8x1x8, .f32⟩
  | 15 => ⟨S128x8x1x16, .f32⟩
  | 16 => ⟨S128x8x1x8, .f32⟩
  | 17 => ⟨S128x8x1x8, .f32⟩
  | 18 => ⟨S128x8x1x8, .f32⟩
  | 19 => ⟨S128x8x1x8, .f32⟩
  | 20 => ⟨S128x8x1x8, .f32⟩
  | 21 => ⟨S128x8x1x8, .f32⟩
  | 22 => ⟨S128x8x1x8, .f32⟩
  | 23 => ⟨S128x8x1x8, .f32⟩
  | 24 => ⟨S128x8x1x8, .f32⟩
  | 25 => ⟨S128x8x1x8, .f32⟩
  | 26 => ⟨S128x8x1x8, .f32⟩
  | 27 => ⟨S128x8x1x8, .f32⟩
  | 28 => ⟨S128x8x1x16, .f32⟩
  | 29 => ⟨S128x8x1x48, .f32⟩
  | 30 => ⟨S128x8x1x64, .f32⟩
  | 31 => ⟨S128x8x64, .f32⟩
  | 32 => ⟨S_, .f32⟩
  | 33 => ⟨S128x8x8, .f32⟩
  | 34 => ⟨S128x8x8, .f32⟩
  | 35 => ⟨S128x8x16, .f32⟩
  | 36 => ⟨S1024x16, .f32⟩
  | 37 => ⟨S_, .i32⟩
  | 38 => ⟨S_, .f32⟩
  | 39 => ⟨S1024x128, .f32⟩
  | 40 => ⟨S1024x512, .f32⟩
  | 41 => ⟨S1024x512, .f32⟩
  | 42 => ⟨S1024x128, .f32⟩
  | 43 => ⟨S1024x64, .f32⟩
  | 44 => ⟨S1024x128, .f32⟩
  | 45 => ⟨S1024x1536, .f32⟩
  | 46 => ⟨S1024x512, .f32⟩
  | _ => ⟨S128x8x1024, .f32⟩

abbrev hbmTy (i : Nat) : BufTy := match i / 128 with
  | 0 => hbmTy0_0 i
  | 1 => hbmTy0_1 i
  | _ => ⟨S128x8x1024, .f32⟩

abbrev bufTy : (tb : Table) → Fin (tcTables nBuf tb) → BufTy
  | .hbm, ⟨i, _⟩ => hbmTy i
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_cst_1 : Ref sig .tc := ⟨.hbm, 56, rfl⟩
abbrev main_v51 : Ref sig .tc := ⟨.hbm, 57, rfl⟩
abbrev main_v52 : Ref sig .tc := ⟨.hbm, 58, rfl⟩
abbrev main_cst_2 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_cst_3 : Ref sig .tc := ⟨.hbm, 92, rfl⟩
abbrev main_v85 : Ref sig .tc := ⟨.hbm, 93, rfl⟩
abbrev main_v86 : Ref sig .tc := ⟨.hbm, 94, rfl⟩
abbrev main_cst_4 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_cst_5 : Ref sig .tc := ⟨.hbm, 127, rfl⟩
abbrev main_v118 : Ref sig .tc := ⟨.hbm, 128, rfl⟩
abbrev main_v119 : Ref sig .tc := ⟨.hbm, 129, rfl⟩
abbrev main_cst_6 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_cst_7 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_c_8 : Ref sig .tc := ⟨.hbm, 165, rfl⟩
abbrev main_call0_v0 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩

abbrev nD : Nat := 1
abbrev τ : Topo := Topo.v7x

variable {F : FTy → Type} [FloatOps F]
-- ==== Kernel7.lean ====
abbrev S128x8x1024 : Shape := ⟨3, ![128, 8, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S1024x1024 : Shape := ⟨2, ![1024, 1024]⟩
abbrev S1024x2816 : Shape := ⟨2, ![1024, 2816]⟩
abbrev S2816x1024 : Shape := ⟨2, ![2816, 1024]⟩
abbrev S512x1024 : Shape := ⟨2, ![512, 1024]⟩
abbrev S1024x1408 : Shape := ⟨2, ![1024, 1408]⟩
abbrev S1408x1024 : Shape := ⟨2, ![1408, 1024]⟩
abbrev S512x1408 : Shape := ⟨2, ![512, 1408]⟩
abbrev S512 : Shape := ⟨1, ![512]⟩
abbrev S512x1 : Shape := ⟨2, ![512, 1]⟩

abbrev nBuf : Space → Nat
  | .hbm => 14
  | .vmem => 13
  | .smem => 0
  | _ => 0

abbrev bufTy : (tb : Table) → Fin (tcTables nBuf tb) → BufTy
  | .hbm, ⟨0, _⟩ => ⟨S128x8x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S1x1024, .f32⟩
  | .hbm, ⟨5, _⟩ => ⟨S1x1024, .f32⟩
  | .hbm, ⟨6, _⟩ => ⟨S1024x1024, .f32⟩
  | .hbm, ⟨7, _⟩ => ⟨S1024x2816, .f32⟩
  | .hbm, ⟨8, _⟩ => ⟨S1024x2816, .bf16⟩
  | .hbm, ⟨9, _⟩ => ⟨S1024x2816, .f32⟩
  | .hbm, ⟨10, _⟩ => ⟨S1024x2816, .bf16⟩
  | .hbm, ⟨11, _⟩ => ⟨S2816x1024, .f32⟩
  | .hbm, ⟨12, _⟩ => ⟨S2816x1024, .bf16⟩
  | .hbm, ⟨13, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1408x1024, .bf16⟩
  | .local _ .vmem, ⟨7, _⟩ => ⟨S1408x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 2], ![false, false]⟩

def k0_cond3 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_12 : BitVec 32 := 0#32
  let v24 : BitVec 1 := Scalar.cmpi .ne v23 c0_i32_12
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference7Ideal.lean ====
abbrev S128x8x1024 : Shape := ⟨3, ![128, 8, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S128x8x2816 : Shape := ⟨3, ![128, 8, 2816]⟩
abbrev S128x8 : Shape := ⟨2, ![128, 8]⟩
abbrev S128x8x1 : Shape := ⟨3, ![128, 8, 1]⟩
abbrev S1x1x1024 : Shape := ⟨3, ![1, 1, 1024]⟩
abbrev S1024x1024 : Shape := ⟨2, ![1024, 1024]⟩

abbrev nBuf : Space → Nat
  | .hbm => 61
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S1x1024, .f32⟩
  | .hbm, ⟨5, _⟩ => ⟨S1x1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S128x8x1024, .f32⟩
  | .hbm, ⟨13, _⟩ => ⟨S128x8x1024, .f32⟩
  | .hbm, ⟨14, _⟩ => ⟨S128x8x2816, .f32⟩
  | .hbm, ⟨15, _⟩ => ⟨S128x8x2816, .f32⟩
  | .hbm, ⟨16, _⟩ => ⟨S128x8x2816, .f32⟩
  | .hbm, ⟨17, _⟩ => ⟨S_, .f32⟩
  | .hbm, ⟨18, _⟩ => ⟨S128x8x2816, .f32⟩
  | .hbm, ⟨19, _⟩ => ⟨S128x8x2816, .f32⟩
  | .hbm, ⟨20, _⟩ => ⟨S_, .f32⟩
  | .hbm, ⟨21, _⟩ => ⟨S128x8x2816, .f32⟩
  | .hbm, ⟨22, _⟩ => ⟨S128x8x2816, .f32⟩
  | .hbm, ⟨23, _⟩ => ⟨S128x8x2816, .f32⟩
  | .hbm, ⟨24, _⟩ => ⟨S128x8x2816, .f32⟩
  | .hbm, ⟨25, _⟩ => ⟨S128x8x2816, .f32⟩
  | .hbm, ⟨26, _⟩ => ⟨S128x8x1024, .f32⟩
  | .hbm, ⟨27, _⟩ => ⟨S_, .f32⟩
  | .hbm, ⟨28, _⟩ => ⟨S128x8x1024, .f32⟩
  | .hbm, ⟨29, _⟩ => ⟨S128x8x1024, .f32⟩
  | .hbm, ⟨30, _⟩ => ⟨S128x8x1024, .f32⟩
  | .hbm, ⟨31, _⟩ => ⟨S_, .f32⟩
  | .hbm, ⟨32, _⟩ => ⟨S128x8, .f32⟩
  | .hbm, ⟨33, _⟩ => ⟨S128x8x1, .f32⟩
  | .hbm, ⟨34, _⟩ => ⟨S_, .f32⟩
  | .hbm, ⟨35, _⟩ => ⟨S128x8x1, .f32⟩
  | .hbm, ⟨36, _⟩ => ⟨S128x8x1, .f32⟩
  | .hbm, ⟨37, _⟩ => ⟨S128x8x1024, .f32⟩
  | .hbm, ⟨38, _⟩ => ⟨S128x8x1024, .f32⟩
  | .hbm, ⟨39, _⟩ => ⟨S128x8x1024, .f32⟩
  | .hbm, ⟨40, _⟩ => ⟨S_, .f32⟩
  | .hbm, ⟨41, _⟩ => ⟨S128x8, .f32⟩
  | .hbm, ⟨42, _⟩ => ⟨S128x8x1, .f32⟩
  | .hbm, ⟨43, _⟩ => ⟨S_, .f32⟩
  | .hbm, ⟨44, _⟩ => ⟨S128x8x1, .f32⟩
  | .hbm, ⟨45, _⟩ => ⟨S128x8x1, .f32⟩
  | .hbm, ⟨46, _⟩ => ⟨S128x8x1024, .f32⟩
  | .hbm, ⟨47, _⟩ => ⟨S128x8x1024, .f32⟩
  | .hbm, ⟨48, _⟩ => ⟨S_, .f32⟩
  | .hbm, ⟨49, _⟩ => ⟨S128x8x1, .f32⟩
  | .hbm, ⟨50, _⟩ => ⟨S128x8x1, .f32⟩
  | .hbm, ⟨51, _⟩ => ⟨S128x8x1, .f32⟩
  | .hbm, ⟨52, _⟩ => ⟨S128x8x1024, .f32⟩
  | .hbm, ⟨53, _⟩ => ⟨S128x8x1024, .f32⟩
  | .hbm, ⟨54, _⟩ => ⟨S1x1x1024, .f32⟩
  | .hbm, ⟨55, _⟩ => ⟨S128x8x1024, .f32⟩
  | .hbm, ⟨56, _⟩ => ⟨S128x8x1024, .f32⟩
  | .hbm, ⟨57, _⟩ => ⟨S1x1x1024, .f32⟩
  | .hbm, ⟨58, _⟩ => ⟨S128x8x1024, .f32⟩
  | .hbm, ⟨59, _⟩ => ⟨S128x8x1024, .f32⟩
  | .hbm, ⟨60, _⟩ => ⟨S1024x1024, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]
-- ==== Proof.Vocab.lean ====
/-
  The operations of the kernel's five branches, written once for a row of `256 * m` keys: the indexer's scores, the search for the
  threshold of the 256 largest, the additive mask it gives, and one head's attention under that mask.  The branch of queries
  whose visible keys number at most 256 takes `m = 1` and needs no search; the other four take `m = 2, 4, 6, 8`.
-/
module

public import proofs.«01_k».proof.Proof.Gen.KernelIdeal
public import Idealize.ShloMosaic.Lib.Exec

@[expose] public section

noncomputable section

namespace Attn

open Idealize.ShloMosaic Idealize.SL.Sem
open Cert.KernelIdeal Cert.KernelIdeal.Gen

/-- 128 queries by `256 * m` keys. -/
abbrev W (m : ℕ) : Shape := ⟨2, ![128, 256 * m]⟩

/-- What the operations below ask of the extents: each holds at every `m` the kernel uses. -/
structure Wide (m : ℕ) : Prop where
  bc : S128x1.Broadcasts (W m)
  red : (W m).Reduces [1] S128
  it0 : (W m).Iotas .tc 32 [0]
  it1 : (W m).Iotas .tc 32 [1]
  blk : ∀ b : Fin (2 * m), (W m).Slices ![0, 128 * b.val] S128x128
  last : (W m).Slices ![0, 256 * m - 1] S128x1
  keys : ∀ g : Fin 2, (W m).Slices ![64 * g.val, 0] ⟨2, ![64, 256 * m]⟩
  cast : (⟨3, ![1, 128, 256 * m]⟩ : Shape).ShapeCasts (W m)
  cat128 : Shape.Concatenates ((List.finRange (2 * m)).map fun _ => S128x128) (W m) 1
  cat256 : 1 < m → Shape.Concatenates ((List.finRange m).map fun _ => S128x256) (W m) 1

theorem wide1 : Wide 1 := ⟨by decide, by decide, by decide, by decide, by decide, by decide, by decide, by decide, by decide, by decide⟩
theorem wide2 : Wide 2 := ⟨by decide, by decide, by decide, by decide, by decide, by decide, by decide, by decide, by decide, by decide⟩
theorem wide4 : Wide 4 := ⟨by decide, by decide, by decide, by decide, by decide, by decide, by decide, by decide, by decide, by decide⟩
theorem wide6 : Wide 6 := ⟨by decide, by decide, by decide, by decide, by decide, by decide, by decide, by decide, by decide, by decide⟩
theorem wide8 : Wide 8 := ⟨by decide, by decide, by decide, by decide, by decide, by decide, by decide, by decide, by decide, by decide⟩

theorem head_slice (h : Fin 8) : S128x512.Slices ![0, 64 * h.val] S128x64 := by revert h; decide
theorem weight_slice (h : Fin 8) : S128x128.Slices ![0, h.val] S128x1 := by revert h; decide
theorem half_slice (b : Fin 2) : S128x256.Slices ![0, 128 * b.val] S128x128 := by revert b; decide

variable {F : FTy → Type} [FloatOps F]

/-! ## The indexer's scores -/

/-- The indexer's queries, narrowed. -/
def iq (x : Vec F S128x512 .f32) : FVec F S128x512 .bf16 := truncf .bf16 (shapeCast S128x512 x shapeCasts_S128x512_S128x512) bitsLt_bf16_f32

/-- The indexer's head weights times 1/8. -/
def iw (x : Vec F S128x128 .f32) : FVec F S128x128 .f32 :=
  mulf (shapeCast S128x128 x shapeCasts_S128x128_S128x128) (broadcast S128x128 (Scalar.ofBits .f32 0x3E000000#32))

/-- One indexer head's term of the score against 256 keys: the weight times the positive part of the dot product. -/
def term (q : FVec F S128x512 .bf16) (w : FVec F S128x128 .f32) (k : Vec F S1x64x256 .bf16) (h : Fin 8) : FVec F S128x256 .f32 :=
  mulf (maximumf (matmul (DotDims.plain 128 64 256) none
        (extractStridedSlice S128x64 ![0, 64 * h.val] q (head_slice h)) (shapeCast S64x256 k shapeCasts_S1x64x256_S64x256)
        (constant S128x256 .f32 0x00000000#32)) (broadcast S128x256 (Scalar.ofBits .f32 0x00000000#32)))
    (broadcastTo S128x256 (extractStridedSlice S128x1 ![0, h.val] w (weight_slice h)) broadcasts_S128x1_S128x256)

/-- The scores against 256 keys: the eight heads' terms summed in order. -/
def chunk (xq : Vec F S128x512 .f32) (xw : Vec F S128x128 .f32) (k : Vec F S1x64x256 .bf16) : FVec F S128x256 .f32 :=
  addf (addf (addf (addf (addf (addf (addf (term (iq xq) (iw xw) k 0) (term (iq xq) (iw xw) k 1)) (term (iq xq) (iw xw) k 2))
    (term (iq xq) (iw xw) k 3)) (term (iq xq) (iw xw) k 4)) (term (iq xq) (iw xw) k 5)) (term (iq xq) (iw xw) k 6)) (term (iq xq) (iw xw) k 7)

/-- One half of a chunk's columns. -/
def half (c : FVec F S128x256 .f32) (b : Fin 2) : FVec F S128x128 .f32 := extractStridedSlice S128x128 ![0, 128 * b.val] c (half_slice b)

/-- The least entry so far, lane by lane, over the halves of the first `j + 1` chunks. -/
def runMin (c : ℕ → FVec F S128x256 .f32) : ℕ → FVec F S128x128 .f32
  | 0 => minimumf (half (c 0) 0) (half (c 0) 1)
  | j + 1 => minimumf (minimumf (runMin c j) (half (c (j + 1)) 0)) (half (c (j + 1)) 1)

/-- The greatest entry so far, likewise. -/
def runMax (c : ℕ → FVec F S128x256 .f32) : ℕ → FVec F S128x128 .f32
  | 0 => maximumf (half (c 0) 0) (half (c 0) 1)
  | j + 1 => maximumf (maximumf (runMax c j) (half (c (j + 1)) 0)) (half (c (j + 1)) 1)

/-- The lower end the search starts from: a row's least score. -/
def low0 (c : FVec F S128x128 .f32) : FVec F S128x1 .f32 :=
  shapeCast S128x1 (multiReduction .minimumf [1] S128 c 0x7F800000#32 reduces_S128x128_S128 (.inl rfl) rfl) shapeCasts_S128_S128x1

/-- The upper end the search starts from: above a row's greatest score. -/
def high0 (c : FVec F S128x128 .f32) : FVec F S128x1 .f32 :=
  have m : FVec F S128x1 .f32 :=
    shapeCast S128x1 (multiReduction .maximumf [1] S128 c 0xFF800000#32 reduces_S128x128_S128 (.inl rfl) rfl) shapeCasts_S128_S128x1
  addf (addf m (mulf (absf m) (broadcast S128x1 (Scalar.ofBits .f32 0x3A800000#32)))) (broadcast S128x1 (Scalar.ofBits .f32 0x3F800000#32))

variable {m : ℕ} (H : Wide m)

/-- The queries' positions, on every column. -/
def qpos (a : BitVec 32) : IVec (W m) 32 := addi (broadcast (W m) (Scalar.muli a 128#32)) (iota .tc (W m) 32 [0] H.it0)

/-- Which keys a query may see: those not after it. -/
def seen (a : BitVec 32) : IVec (W m) 1 := cmpi .sle (iota .tc (W m) 32 [1] H.it1) (qpos H a)

/-- The scores of all the keys, `-∞` at the keys a query may not see. -/
def masked (hm : 1 < m) (a : BitVec 32) (c : ℕ → FVec F S128x256 .f32) : FVec F (W m) .f32 :=
  select (seen H a)
    (concatenate (W m) 1 ((List.finRange m).map fun j => ⟨S128x256, c j.val⟩) (by rw [List.map_map]; exact H.cat256 hm))
    (broadcast (W m) (Scalar.ofBits .f32 0xFF800000#32))

/-! ## The search -/

/-- A mask's ones as floats. -/
def ones (b : IVec (W m) 1) : FVec F (W m) .f32 :=
  select b (broadcast (W m) (Scalar.ofBits .f32 0x3F800000#32)) (broadcast (W m) (Scalar.ofBits .f32 0x00000000#32))

/-- A row's sum. -/
def rowSum (x : FVec F (W m) .f32) : FVec F S128x1 .f32 :=
  shapeCast S128x1 (multiReduction .add [1] S128 x 0x00000000#32 H.red (.inl rfl) rfl) shapeCasts_S128_S128x1

/-- A row's greatest entry. -/
def rowMax (x : FVec F (W m) .f32) : FVec F S128x1 .f32 :=
  shapeCast S128x1 (multiReduction .maximumf [1] S128 x 0xFF800000#32 H.red (.inl rfl) rfl) shapeCasts_S128_S128x1

/-- How many of a row's entries are at least the row's threshold. -/
def count (x : FVec F (W m) .f32) (t : FVec F S128x1 .f32) : FVec F S128x1 .f32 :=
  rowSum H (ones (cmpf .oge x (broadcastTo (W m) t H.bc)))

/-- Whether that is at least 256. -/
def full (x : FVec F (W m) .f32) (t : FVec F S128x1 .f32) : IVec S128x1 1 :=
  cmpf .oge (count H x t) (broadcast S128x1 (Scalar.ofBits .f32 0x43800000#32))

/-- The point a given fraction of the way from one threshold to another. -/
def mid (f : BitVec 32) (lo hi : FVec F S128x1 .f32) : FVec F S128x1 .f32 :=
  addf lo (mulf (subf hi lo) (broadcast S128x1 (Scalar.ofBits .f32 f)))

/-- One step of the search in quarters. -/
def quarter (x : FVec F (W m) .f32) (s : FVec F S128x1 .f32 × FVec F S128x1 .f32) : FVec F S128x1 .f32 × FVec F S128x1 .f32 :=
  have m1 : FVec F S128x1 .f32 := mid 0x3E800000#32 s.1 s.2
  have m2 : FVec F S128x1 .f32 := mid 0x3F000000#32 s.1 s.2
  have m3 : FVec F S128x1 .f32 := mid 0x3F400000#32 s.1 s.2
  (select (full H x m3) m3 (select (full H x m2) m2 (select (full H x m1) m1 s.1)),
   select (full H x m1) (select (full H x m2) (select (full H x m3) s.2 m3) m2) m1)

/-- One step of the search in halves. -/
def bisect (x : FVec F (W m) .f32) (s : FVec F S128x1 .f32 × FVec F S128x1 .f32) : FVec F S128x1 .f32 × FVec F S128x1 .f32 :=
  have m1 : FVec F S128x1 .f32 := mid 0x3F000000#32 s.1 s.2
  (select (full H x m1) m1 s.1, select (full H x m1) s.2 m1)

/-- Which rows hold more than 256 entries at or above their threshold, as floats. -/
def open0 (c : FVec F S128x1 .f32) : FVec F S128x1 .f32 :=
  select (cmpf .ogt c (broadcast S128x1 (Scalar.ofBits .f32 0x43800000#32)))
    (broadcast S128x1 (Scalar.ofBits .f32 0x3F800000#32)) (broadcast S128x1 (Scalar.ofBits .f32 0x00000000#32))

/-- The greatest entry of a column. -/
def top (c : FVec F S128x1 .f32) : F .f32 :=
  extractAt ![0, 0, 0] (shapeCast S1x1x1 (multiReduction .maximumf [1, 2] S1 (shapeCast S1x128x1 c shapeCasts_S128x1_S1x128x1)
    0xFF800000#32 reduces_S1x128x1_S1 (.inl rfl) rfl) shapeCasts_S1_S1x1x1) inpos_S1x1x1_p0_0_0

/-- The state of the closing search: lower threshold, upper threshold, count at the lower one, and which rows are still open. -/
abbrev St (F : FTy → Type) : Type := FVec F S128x1 .f32 × FVec F S128x1 .f32 × FVec F S128x1 .f32 × FVec F S128x1 .f32

/-- One step of the closing search: the greatest entry under the upper threshold is tried as the lower one. -/
def descend (x : FVec F (W m) .f32) (s : St F) : St F :=
  have v : FVec F S128x1 .f32 := rowMax H (select (cmpf .olt x (broadcastTo (W m) s.2.1 H.bc)) x (broadcast (W m) (Scalar.ofBits .f32 0xFF800000#32)))
  have live : IVec S128x1 1 := cmpf .ogt s.2.2.2 (broadcast S128x1 (Scalar.ofBits .f32 0x00000000#32))
  have hit : IVec S128x1 1 := full H x v
  (select (andi live hit) v s.1,
   select (andi live (xori hit (constantI S128x1 1 1#1))) v s.2.1,
   select (andi live hit) (count H x v) s.2.2.1,
   select hit (broadcast S128x1 (Scalar.ofBits .f32 0x00000000#32)) s.2.2.2)

/-- The step is taken while a row is open. -/
def descend? (x : FVec F (W m) .f32) (s : St F) : St F :=
  if Scalar.cmpi .ne (Scalar.extui (Scalar.cmpf .ogt (top s.2.2.2) (Scalar.ofBits .f32 0x00000000#32))) 0#32 = 1#1 then descend H x s else s

/-- The state the closing search starts from. -/
def start (x : FVec F (W m) .f32) (s : FVec F S128x1 .f32 × FVec F S128x1 .f32) : St F :=
  (s.1, s.2, count H x s.1, open0 (count H x s.1))

/-! ## The additive mask -/

/-- `0` where a mask holds and `-∞` where it does not. -/
def bias (b : IVec (W m) 1) : FVec F (W m) .f32 :=
  select b (broadcast (W m) (Scalar.ofBits .f32 0x00000000#32)) (broadcast (W m) (Scalar.ofBits .f32 0xFF800000#32))

/-- The upper triangle of ones: the products with it are running counts. -/
def tri : FVec F S128x128 .bf16 :=
  truncf .bf16 (select (cmpi .sle (iota .tc S128x128 32 [0] iota_S128x128_d0_w32) (iota .tc S128x128 32 [1] iota_S128x128_d1_w32))
    (broadcast S128x128 (Scalar.ofBits .f32 0x3F800000#32)) (broadcast S128x128 (Scalar.ofBits .f32 0x00000000#32))) bitsLt_bf16_f32

/-- The running counts inside block `b` of 128 columns. -/
def loc (e : FVec F (W m) .f32) (b : Fin (2 * m)) : FVec F S128x128 .f32 :=
  matmul (DotDims.plain 128 128 128) none (truncf .bf16 (extractStridedSlice S128x128 ![0, 128 * b.val] e (H.blk b)) bitsLt_bf16_f32)
    (tri (F := F)) (constant S128x128 .f32 0x00000000#32)

/-- The count of the blocks before block `b`. -/
def before (e : FVec F (W m) .f32) : (b : ℕ) → b ≤ 2 * m → FVec F S128x1 .f32
  | 0, _ => broadcast S128x1 (Scalar.ofBits .f32 0x00000000#32)
  | b + 1, h => addf (before e b (Nat.le_of_succ_le h)) (extractStridedSlice S128x1 ![0, 127] (loc H e ⟨b, h⟩) slices_S128x128_o0_127_S128x1)

/-- The running counts of a row. -/
def prefixCount (e : FVec F (W m) .f32) : FVec F (W m) .f32 :=
  concatenate (W m) 1 ((List.finRange (2 * m)).map fun b =>
      ⟨S128x128, addf (loc H e b) (broadcastTo S128x128 (before H e b.val b.isLt.le) broadcasts_S128x1_S128x128)⟩)
    (by rw [List.map_map]; exact H.cat128)

/-- Which entries are a negative zero, told by the sign of their reciprocal. -/
def negZero (x : FVec F (W m) .f32) : IVec (W m) 1 :=
  andi (cmpf .oeq x (broadcast (W m) (Scalar.ofBits .f32 0x00000000#32)))
    (cmpf .olt (divf (broadcast (W m) (Scalar.ofBits .f32 0x3F800000#32)) x) (broadcast (W m) (Scalar.ofBits .f32 0x00000000#32)))

/-- The mask of a tile with ties at a threshold: what is above it, then what equals it, in order, as long as there is room. -/
def ties (x : FVec F (W m) .f32) (t : FVec F S128x1 .f32) : FVec F (W m) .f32 :=
  have gt : IVec (W m) 1 := cmpf .ogt x (broadcastTo (W m) t H.bc)
  have eq : IVec (W m) 1 := cmpf .oeq x (broadcastTo (W m) t H.bc)
  have hi : IVec (W m) 1 := andi eq (xori (negZero x) (constantI (W m) 1 1#1))
  have lo : IVec (W m) 1 := andi eq (negZero x)
  have room : FVec F S128x1 .f32 := subf (broadcast S128x1 (Scalar.ofBits .f32 0x43800000#32)) (rowSum H (ones gt))
  have r1 : FVec F (W m) .f32 := prefixCount H (ones hi)
  have r2 : FVec F (W m) .f32 := addf (prefixCount H (ones lo)) (broadcastTo (W m) (extractStridedSlice S128x1 ![0, 256 * m - 1] r1 H.last) H.bc)
  bias (ori gt (ori (andi hi (cmpf .ole r1 (broadcastTo (W m) room H.bc))) (andi lo (cmpf .ole r2 (broadcastTo (W m) room H.bc)))))

/-- The mask of a tile without: what is at or above the threshold. -/
def plain (x : FVec F (W m) .f32) (t : FVec F S128x1 .f32) : FVec F (W m) .f32 := bias (cmpf .oge x (broadcastTo (W m) t H.bc))

/-- The mask the search's last state gives. -/
def chosen (x : FVec F (W m) .f32) (s : St F) : FVec F (W m) .f32 :=
  if Scalar.cmpi .ne (Scalar.extui (Scalar.cmpf .ogt (top s.2.2.1) (Scalar.ofBits .f32 0x43800000#32))) 0#32 = 1#1
  then ties H x s.1 else plain H x s.1

/-- The mask of the queries whose visible keys number at most 256: all of them. -/
def dense (a : BitVec 32) : FVec F (W m) .f32 := bias (seen H a)

/-! ## Attention -/

/-- The queries over 8, narrowed. -/
def aq (x : Vec F S128x512 .f32) : FVec F S128x512 .bf16 :=
  truncf .bf16 (mulf (shapeCast S128x512 x shapeCasts_S128x512_S128x512) (broadcast S128x512 (Scalar.ofBits .f32 0x3E000000#32))) bitsLt_bf16_f32

/-- A head's scores under a mask. -/
def logits (bs : FVec F (W m) .f32) (xq : Vec F S128x512 .f32) (xk : Vec F ⟨3, ![1, 128, 256 * m]⟩ .bf16) (h : Fin 8) (g : Fin 2) :
    FVec F (W m) .f32 :=
  addf (matmul (DotDims.plain 128 64 (256 * m)) none (extractStridedSlice S128x64 ![0, 64 * h.val] (aq xq) (head_slice h))
    (extractStridedSlice ⟨2, ![64, 256 * m]⟩ ![64 * g.val, 0] (shapeCast (W m) xk H.cast) (H.keys g)) (constant (W m) .f32 0x00000000#32)) bs

/-- A head's weights before they are normalised. -/
def weights (s : FVec F (W m) .f32) : FVec F (W m) .f32 := exp (subf s (broadcastTo (W m) (rowMax H s) H.bc))

/-- A head's output: the weighted values of both key heads, over the weights' sum. -/
def mix (s : FVec F (W m) .f32) (xv : Vec F ⟨3, ![1, 128, 256 * m]⟩ .bf16) : FVec F S128x128 .f32 :=
  divf (matmul (DotDims.transposedRhs 128 (256 * m) 128) none (truncf .bf16 (weights H s) bitsLt_bf16_f32)
      (shapeCast (W m) xv H.cast) (constant S128x128 .f32 0x00000000#32))
    (broadcastTo S128x128 (rowSum H (weights H s)) broadcasts_S128x1_S128x128)

/-- A head's output from its queries, the keys and the values. -/
def headOut (bs : FVec F (W m) .f32) (xq : Vec F S128x512 .f32) (xk xv : Vec F ⟨3, ![1, 128, 256 * m]⟩ .bf16) (h : Fin 8) (g : Fin 2) :
    FVec F S128x128 .f32 := mix H (logits H bs xq xk h g) xv

/-- Two columns of 64 side by side. -/
def beside (a b : FVec F S128x128 .f32) : FVec F S128x128 .f32 :=
  select (cmpi .slt (iota .tc S128x128 32 [1] iota_S128x128_d1_w32) (broadcast S128x128 64#32)) a b

/-- A column block turned by 64 lanes. -/
def turn (a : FVec F S128x128 .f32) : FVec F S128x128 .f32 := dynamicRotate 1 64#32 none a rotates_S128x128_d1

/-- Heads 0 and 1, or 2 and 3: the first key head's values lie in the low lanes. -/
def pairLow (bs : FVec F (W m) .f32) (xq : Vec F S128x512 .f32) (xk xv : Vec F ⟨3, ![1, 128, 256 * m]⟩ .bf16) (h h' : Fin 8) :
    FVec F S128x128 .f32 := beside (headOut H bs xq xk xv h 0) (turn (headOut H bs xq xk xv h' 0))

/-- Heads 4 and 5, or 6 and 7: the second key head's values lie in the high lanes. -/
def pairHigh (bs : FVec F (W m) .f32) (xq : Vec F S128x512 .f32) (xk xv : Vec F ⟨3, ![1, 128, 256 * m]⟩ .bf16) (h h' : Fin 8) :
    FVec F S128x128 .f32 := beside (turn (headOut H bs xq xk xv h 1)) (headOut H bs xq xk xv h' 1)

end Attn
-- ==== Proof.Body.lean ====
/-
  The kernel's body as one program per branch: the loads, in the printed order, and between them the operations of
  `Vocab`.  A branch's counted loops carry values alone, so each is the fold of its step.
-/
module

public import proofs.«01_k».proof.Proof.Vocab
public import proofs.«01_k».proof.Proof.Gen.KernelIdeal.Skeleton

@[expose] public section

noncomputable section

namespace Attn

open Idealize.ShloMosaic Idealize.SL.Sem
open Cert.KernelIdeal Cert.KernelIdeal.Gen

variable {F : FTy → Type} [FloatOps F]

/-- A tensor core's program. -/
abbrev PT (F : FTy → Type) [FloatOps F] (α : Type) := Prog (TpuEff nD τ sig (Elt F) Λ₀ .tc) α

/-- A pair of thresholds. -/
abbrev Two (F : FTy → Type) := FVec F S128x1 .f32 × FVec F S128x1 .f32

/-- The chunks of scores from the loaded chunks of keys. -/
def chunks (xq : Vec F S128x512 .f32) (xw : Vec F S128x128 .f32) (d : Vec F S1x64x256 .bf16) (ks : List (Vec F S1x64x256 .bf16)) (j : ℕ) :
    FVec F S128x256 .f32 := chunk xq xw (ks.getD j d)

/-- The four blocks of 128 columns stored in order, each after a load of what was there. -/
def finish (arg8 : Memref sig .tc .vmem S128x512 .f32) (p0 p1 p2 p3 : FVec F S128x128 .f32) : PT F PUnit := do
  let _ : Vec F S128x128 .f32 ← Prog.lift (.load arg8 (Rect.unit (s := S128x512) ![0, 0] S128x128.size inb_S128x512_S128x128_0_0).toLoadRect (View.loadsAt_vmem h_S128x128))
  Prog.lift (.store arg8 (Rect.unit (s := S128x512) ![0, 0] S128x128.size inb_S128x512_S128x128_0_0) p0 Finset.univ (View.stores_vmem_bits_univ h_S128x128 rfl) (.inl rfl))
  let _ : Vec F S128x128 .f32 ← Prog.lift (.load arg8 (Rect.unit (s := S128x512) ![0, 128] S128x128.size inb_S128x512_S128x128_0_128).toLoadRect (View.loadsAt_vmem h_S128x128))
  Prog.lift (.store arg8 (Rect.unit (s := S128x512) ![0, 128] S128x128.size inb_S128x512_S128x128_0_128) p1 Finset.univ (View.stores_vmem_bits_univ h_S128x128 rfl) (.inl rfl))
  let _ : Vec F S128x128 .f32 ← Prog.lift (.load arg8 (Rect.unit (s := S128x512) ![0, 256] S128x128.size inb_S128x512_S128x128_0_256).toLoadRect (View.loadsAt_vmem h_S128x128))
  Prog.lift (.store arg8 (Rect.unit (s := S128x512) ![0, 256] S128x128.size inb_S128x512_S128x128_0_256) p2 Finset.univ (View.stores_vmem_bits_univ h_S128x128 rfl) (.inl rfl))
  let _ : Vec F S128x128 .f32 ← Prog.lift (.load arg8 (Rect.unit (s := S128x512) ![0, 384] S128x128.size inb_S128x512_S128x128_0_384).toLoadRect (View.loadsAt_vmem h_S128x128))
  Prog.lift (.store arg8 (Rect.unit (s := S128x512) ![0, 384] S128x128.size inb_S128x512_S128x128_0_384) p3 Finset.univ (View.stores_vmem_bits_univ h_S128x128 rfl) (.inl rfl))
  pure ⟨⟩

variable {m : ℕ} (H : Wide m)

/-- The attention under a mask: keys, values and queries loaded, the four pairs of heads stored. -/
def attend (arg2 : Memref sig .tc .vmem S128x512 .f32) (arg5 arg7 : Memref sig .tc .vmem S1x128x2048 .bf16)
    (arg8 : Memref sig .tc .vmem S128x512 .f32)
    (inb : ∀ a, (![0, 0, 0] : Fin 3 → Nat) a + (⟨3, ![1, 128, 256 * m]⟩ : Shape).size a ≤ S1x128x2048.size a)
    (hn : 0 < (⟨3, ![1, 128, 256 * m]⟩ : Shape).numel) (bs : FVec F (W m) .f32) : PT F PUnit := do
  let xk : Vec F ⟨3, ![1, 128, 256 * m]⟩ .bf16 ← Prog.lift (.load arg5 (Rect.unit (s := S1x128x2048) ![0, 0, 0] (⟨3, ![1, 128, 256 * m]⟩ : Shape).size inb).toLoadRect (View.loadsAt_vmem hn))
  let xv : Vec F ⟨3, ![1, 128, 256 * m]⟩ .bf16 ← Prog.lift (.load arg7 (Rect.unit (s := S1x128x2048) ![0, 0, 0] (⟨3, ![1, 128, 256 * m]⟩ : Shape).size inb).toLoadRect (View.loadsAt_vmem hn))
  let xq : Vec F S128x512 .f32 ← Prog.lift (.load arg2 (Rect.unit (s := S128x512) ![0, 0] S128x512.size inb_S128x512_S128x512_0_0).toLoadRect (View.loadsAt_vmem h_S128x512))
  finish arg8 (pairLow H bs xq xk xv 0 1) (pairLow H bs xq xk xv 2 3) (pairHigh H bs xq xk xv 4 5) (pairHigh H bs xq xk xv 6 7)

/-- The mask of the branches that search: both loops as folds of their steps. -/
def searched (L L' : Scf.Loop 32) (g : FVec F (W m) .f32 → Two F → Two F)
    (x : FVec F (W m) .f32) (lo hi : FVec F S128x1 .f32) : FVec F (W m) .f32 :=
  chosen H x (Scf.fold (fun (_ : Fin L'.trips) t => descend? H x t) (start H x (Scf.fold (fun (_ : Fin L.trips) s => g x s) (lo, hi))))

theorem chunk_inb (j : Fin 8) : ∀ a, (![0, 0, 256 * j.val] : Fin 3 → Nat) a + S1x64x256.size a ≤ S1x64x2048.size a := by revert j; decide

/-- The load of the indexer's keys' chunk `j`. -/
def loadK (arg6 : Memref sig .tc .vmem S1x64x2048 .bf16) (j : Fin 8) : PT F (Vec F S1x64x256 .bf16) :=
  Prog.lift (.load arg6 (Rect.unit (s := S1x64x2048) ![0, 0, 256 * j.val] S1x64x256.size (chunk_inb j)).toLoadRect (View.loadsAt_vmem h_S1x64x256))

/-- The load of the indexer's queries. -/
def loadQ (arg3 : Memref sig .tc .vmem S128x512 .f32) : PT F (Vec F S128x512 .f32) :=
  Prog.lift (.load arg3 (Rect.unit (s := S128x512) ![0, 0] S128x512.size inb_S128x512_S128x512_0_0).toLoadRect (View.loadsAt_vmem h_S128x512))

/-- The load of the indexer's head weights. -/
def loadW (arg4 : Memref sig .tc .vmem S128x128 .f32) : PT F (Vec F S128x128 .f32) :=
  Prog.lift (.load arg4 (Rect.unit (s := S128x128) ![0, 0] S128x128.size inb_S128x128_S128x128_0_0).toLoadRect (View.loadsAt_vmem h_S128x128))

end Attn
-- ==== Proof.Body256.lean ====
/-
  The kernel's body at the grid points whose queries may see 256 keys.
-/
module

public import proofs.«01_k».proof.Proof.Body

@[expose] public section

noncomputable section

namespace Attn

open Idealize.ShloMosaic Idealize.SL.Sem
open Cert.KernelIdeal Cert.KernelIdeal.Gen

variable {F : FTy → Type} [FloatOps F]

set_option maxRecDepth 65536 in
/-- The body where the branch of 256 keys is taken. -/
theorem body_256 (i : grid0.Coords) (arg2 : Memref sig .tc .vmem S128x512 .f32) (harg2 : arg2.IsWhole) (arg3 : Memref sig .tc .vmem S128x512 .f32) (harg3 : arg3.IsWhole) (arg4 : Memref sig .tc .vmem S128x128 .f32) (harg4 : arg4.IsWhole) (arg5 : Memref sig .tc .vmem S1x128x2048 .bf16) (harg5 : arg5.IsWhole) (arg6 : Memref sig .tc .vmem S1x64x2048 .bf16) (harg6 : arg6.IsWhole) (arg7 : Memref sig .tc .vmem S1x128x2048 .bf16) (harg7 : arg7.IsWhole) (arg8 : Memref sig .tc .vmem S128x512 .f32) (harg8 : arg8.IsWhole)
    (h1 : k0_cond1 i = 1#1) (h2 : ¬k0_cond2 i = 1#1) (h5 : ¬k0_cond5 i = 1#1) (h8 : ¬k0_cond8 i = 1#1) (h11 : ¬k0_cond11 i = 1#1) :
    cc0_dsa_prompt (F := F) i arg2 harg2 arg3 harg3 arg4 harg4 arg5 harg5 arg6 harg6 arg7 harg7 arg8 harg8 =
    attend wide1 arg2 arg5 arg7 arg8 inb_S1x128x2048_S1x128x256_0_0_0 h_S1x128x256 (dense wide1 (BitVec.ofNat 32 (i 1).val)) := by
  rw [cc0_dsa_prompt_eq_skeleton]
  unfold cc0_dsa_prompt_skel
  rw [dif_pos h1, dif_neg h2, dif_neg h5, dif_neg h8, dif_neg h11]
  rfl

end Attn
-- ==== Proof.Body512.lean ====
/-
  The kernel's body at the grid points whose queries may see more than 256 of 512 keys.
-/
module

public import proofs.«01_k».proof.Proof.Body

@[expose] public section

noncomputable section

namespace Attn

open Idealize.ShloMosaic Idealize.SL.Sem
open Cert.KernelIdeal Cert.KernelIdeal.Gen

variable {F : FTy → Type} [FloatOps F]
variable (i : grid0.Coords) (arg2 : Memref sig .tc .vmem S128x512 .f32) (harg2 : arg2.IsWhole) (arg3 : Memref sig .tc .vmem S128x512 .f32) (harg3 : arg3.IsWhole)
  (arg4 : Memref sig .tc .vmem S128x128 .f32) (harg4 : arg4.IsWhole) (arg5 : Memref sig .tc .vmem S1x128x2048 .bf16) (harg5 : arg5.IsWhole)
  (arg6 : Memref sig .tc .vmem S1x64x2048 .bf16) (harg6 : arg6.IsWhole) (arg7 : Memref sig .tc .vmem S1x128x2048 .bf16) (harg7 : arg7.IsWhole)
  (arg8 : Memref sig .tc .vmem S128x512 .f32) (harg8 : arg8.IsWhole)

/-- The opening search of the branch of 512 keys is the fold of its step, and what it starts the closing search from. -/
theorem opening_512 (k0_h2 : k0_cond2 i = 1#1) (v26 : IVec S128x512 32) (v27 : IVec S128x512 32) (v30 : FVec F S128x512 .bf16) (v34 : FVec F S128x128 .f32) (v99 : FVec F S128x256 .f32) (v102 : FVec F S128x128 .f32) (v103 : FVec F S128x128 .f32) (v105 : FVec F S64x256 .bf16) (v160 : FVec F S128x256 .f32) :
    k0_part10 (F := F) i arg2 harg2 arg3 harg3 arg4 harg4 arg5 harg5 arg6 harg6 arg7 harg7 arg8 harg8 k0_h2 v26 v27 v30 v34 v99 v102 v103 v105 v160 =
    (fun s : Two F => pure ⟨k0_pay104 v26 v27 v30 v34 v99 v105 v160, s.1, s.2, count wide2 (k0_pay104 v26 v27 v30 v34 v99 v105 v160) s.1, open0 (count wide2 (k0_pay104 v26 v27 v30 v34 v99 v105 v160) s.1), 0#32, 513#32⟩)
      (Scf.fold (fun (_ : Fin k0_t1_loop.trips) s => quarter wide2 (k0_pay104 v26 v27 v30 v34 v99 v105 v160) s) (k0_pay103 v30 v34 v102 v105 v160, k0_pay105 v30 v34 v103 v105 v160)) := by
  rw [k0_part10_eq_skeleton]
  unfold k0_part10_skel
  exact Scf.for_pure_bind _ _ _ (k0_t1_ok i k0_h2) _ _ (fun _ s => quarter wide2 (k0_pay104 v26 v27 v30 v34 v99 v105 v160) s) (fun _ _ => rfl) _

set_option maxRecDepth 1000000 in
/-- The closing search of the branch of 512 keys is the fold of its step, and the mask the one its last state gives. -/
theorem closing_512 (k0_h2 : k0_cond2 i = 1#1) (v182 : FVec F S128x512 .f32) (v190_0 : FVec F S128x1 .f32) (v190_1 : FVec F S128x1 .f32) (v197 : FVec F S128x1 .f32) (v202 : FVec F S128x1 .f32) (c0_i32_60 : BitVec 32) (c513_i32 : BitVec 32) :
    k0_part11 (F := F) i arg2 harg2 arg3 harg3 arg4 harg4 arg5 harg5 arg6 harg6 arg7 harg7 arg8 harg8 k0_h2 v182 v190_0 v190_1 v197 v202 c0_i32_60 c513_i32 =
    (fun v212 : FVec F (W 2) .f32 => do
      let v213 : Vec F S1x128x512 .bf16 ← Prog.lift (.load arg5 (Rect.unit (s := S1x128x2048) ![0, 0, 0] S1x128x512.size inb_S1x128x2048_S1x128x512_0_0_0).toLoadRect (View.loadsAt_vmem h_S1x128x512))
      let v215 : Vec F S1x128x512 .bf16 ← Prog.lift (.load arg7 (Rect.unit (s := S1x128x2048) ![0, 0, 0] S1x128x512.size inb_S1x128x2048_S1x128x512_0_0_0).toLoadRect (View.loadsAt_vmem h_S1x128x512))
      let v217 : Vec F S128x512 .f32 ← Prog.lift (.load arg2 (Rect.unit (s := S128x512) ![0, 0] S128x512.size inb_S128x512_S128x512_0_0).toLoadRect (View.loadsAt_vmem h_S128x512))
      pure ⟨v212, k0_pay122 v213, k0_pay123 v215, k0_pay124 v217, (iota .tc S128x128 32 [1] iota_S128x128_d1_w32), k0_pay126 v212 v213 v217, k0_pay127 v212 v213 v217, k0_pay128 v212 v213 v217, k0_pay129 v212 v213 v217, k0_pay130 v212 v213 v217, k0_pay131 v212 v213 v217, k0_pay132 v212 v213 v217⟩)
      (chosen wide2 v182 (Scf.fold (fun (_ : Fin k0_t2_loop.trips) t => descend? wide2 v182 t) (v190_0, v190_1, v197, v202))) := by
  rw [k0_part11_eq_skeleton]
  unfold k0_part11_skel
  refine (Scf.for_pure_bind _ _ _ (k0_t2_ok i k0_h2) _ _ (fun _ t => descend? wide2 v182 t) (fun _ t => ?_) _).trans ?_
  · unfold descend? k0_t2_body
    dsimp only
    split <;> rename_i hc
    · exact (if_pos hc).symm ▸ rfl
    · exact (if_neg hc).symm ▸ rfl
  · unfold chosen
    dsimp only
    split <;> rename_i hc
    · exact (if_pos hc).symm ▸ rfl
    · exact (if_neg hc).symm ▸ rfl

set_option maxRecDepth 1000000 in
/-- The body where the branch of 512 keys is taken. -/
theorem body_512
    (h1 : ¬k0_cond1 i = 1#1) (h2 : k0_cond2 i = 1#1) (h5 : ¬k0_cond5 i = 1#1) (h8 : ¬k0_cond8 i = 1#1) (h11 : ¬k0_cond11 i = 1#1) :
    cc0_dsa_prompt (F := F) i arg2 harg2 arg3 harg3 arg4 harg4 arg5 harg5 arg6 harg6 arg7 harg7 arg8 harg8 =
    (do
      let xq ← loadQ arg3
      let xw ← loadW arg4
      let k0 ← loadK arg6 0
      let k1 ← loadK arg6 1
      attend wide2 arg2 arg5 arg7 arg8 inb_S1x128x2048_S1x128x512_0_0_0 h_S1x128x512
        (searched wide2 k0_t1_loop k0_t2_loop (quarter wide2) (masked wide2 (by decide) (BitVec.ofNat 32 (i 1).val) (chunks xq xw k0 [k0, k1]))
          (low0 (runMin (chunks xq xw k0 [k0, k1]) 1)) (high0 (runMax (chunks xq xw k0 [k0, k1]) 1)))) := by
  rw [cc0_dsa_prompt_eq_skeleton]
  unfold cc0_dsa_prompt_skel
  rw [dif_neg h1, dif_pos h2, dif_neg h5, dif_neg h8, dif_neg h11]
  simp only [opening_512, closing_512]
  rfl

end Attn
-- ==== Proof.Body1024.lean ====
/-
  The kernel's body at the grid points whose queries may see more than 256 of 1024 keys.
-/
module

public import proofs.«01_k».proof.Proof.Body

@[expose] public section

noncomputable section

namespace Attn

open Idealize.ShloMosaic Idealize.SL.Sem
open Cert.KernelIdeal Cert.KernelIdeal.Gen

variable {F : FTy → Type} [FloatOps F]
variable (i : grid0.Coords) (arg2 : Memref sig .tc .vmem S128x512 .f32) (harg2 : arg2.IsWhole) (arg3 : Memref sig .tc .vmem S128x512 .f32) (harg3 : arg3.IsWhole)
  (arg4 : Memref sig .tc .vmem S128x128 .f32) (harg4 : arg4.IsWhole) (arg5 : Memref sig .tc .vmem S1x128x2048 .bf16) (harg5 : arg5.IsWhole)
  (arg6 : Memref sig .tc .vmem S1x64x2048 .bf16) (harg6 : arg6.IsWhole) (arg7 : Memref sig .tc .vmem S1x128x2048 .bf16) (harg7 : arg7.IsWhole)
  (arg8 : Memref sig .tc .vmem S128x512 .f32) (harg8 : arg8.IsWhole)

/-- The opening search of the branch of 1024 keys is the fold of its step, and what it starts the closing search from. -/
theorem opening_1024 (k0_h5 : k0_cond5 i = 1#1) (v26 : IVec S128x1024 32) (v27 : IVec S128x1024 32) (v30 : FVec F S128x512 .bf16) (v34 : FVec F S128x128 .f32) (v99 : FVec F S128x256 .f32) (v168 : FVec F S128x256 .f32) (v239 : FVec F S128x256 .f32) (v244 : FVec F S128x128 .f32) (v245 : FVec F S128x128 .f32) (v247 : FVec F S64x256 .bf16) (v302 : FVec F S128x256 .f32) :
    k0_part24 (F := F) i arg2 harg2 arg3 harg3 arg4 harg4 arg5 harg5 arg6 harg6 arg7 harg7 arg8 harg8 k0_h5 v26 v27 v30 v34 v99 v168 v239 v244 v245 v247 v302 =
    (fun s : Two F => pure ⟨k0_pay231 v26 v27 v30 v34 v99 v168 v239 v247 v302, s.1, s.2, count wide4 (k0_pay231 v26 v27 v30 v34 v99 v168 v239 v247 v302) s.1, open0 (count wide4 (k0_pay231 v26 v27 v30 v34 v99 v168 v239 v247 v302) s.1), 0#32, 1025#32⟩)
      (Scf.fold (fun (_ : Fin k0_t3_loop.trips) s => quarter wide4 (k0_pay231 v26 v27 v30 v34 v99 v168 v239 v247 v302) s) (k0_pay230 v30 v34 v244 v247 v302, k0_pay232 v30 v34 v245 v247 v302)) := by
  rw [k0_part24_eq_skeleton]
  unfold k0_part24_skel
  exact Scf.for_pure_bind _ _ _ (k0_t3_ok i k0_h5) _ _ (fun _ s => quarter wide4 (k0_pay231 v26 v27 v30 v34 v99 v168 v239 v247 v302) s) (fun _ _ => rfl) _

set_option maxRecDepth 1000000 in
/-- The closing search of the branch of 1024 keys is the fold of its step, and the mask the one its last state gives. -/
theorem closing_1024 (k0_h5 : k0_cond5 i = 1#1) (v324 : FVec F S128x1024 .f32) (v332_0 : FVec F S128x1 .f32) (v332_1 : FVec F S128x1 .f32) (v339 : FVec F S128x1 .f32) (v344 : FVec F S128x1 .f32) (c0_i32_96 : BitVec 32) (c1025_i32 : BitVec 32) :
    k0_part25 (F := F) i arg2 harg2 arg3 harg3 arg4 harg4 arg5 harg5 arg6 harg6 arg7 harg7 arg8 harg8 k0_h5 v324 v332_0 v332_1 v339 v344 c0_i32_96 c1025_i32 =
    (fun v354 : FVec F (W 4) .f32 => do
      let v355 : Vec F S1x128x1024 .bf16 ← Prog.lift (.load arg5 (Rect.unit (s := S1x128x2048) ![0, 0, 0] S1x128x1024.size inb_S1x128x2048_S1x128x1024_0_0_0).toLoadRect (View.loadsAt_vmem h_S1x128x1024))
      let v357 : Vec F S1x128x1024 .bf16 ← Prog.lift (.load arg7 (Rect.unit (s := S1x128x2048) ![0, 0, 0] S1x128x1024.size inb_S1x128x2048_S1x128x1024_0_0_0).toLoadRect (View.loadsAt_vmem h_S1x128x1024))
      let v359 : Vec F S128x512 .f32 ← Prog.lift (.load arg2 (Rect.unit (s := S128x512) ![0, 0] S128x512.size inb_S128x512_S128x512_0_0).toLoadRect (View.loadsAt_vmem h_S128x512))
      pure ⟨v354, k0_pay249 v355, k0_pay250 v357, k0_pay251 v359, (iota .tc S128x128 32 [1] iota_S128x128_d1_w32), k0_pay253 v354 v355 v359, k0_pay254 v354 v355 v359, k0_pay255 v354 v355 v359, k0_pay256 v354 v355 v359, k0_pay257 v354 v355 v359, k0_pay258 v354 v355 v359, k0_pay259 v354 v355 v359⟩)
      (chosen wide4 v324 (Scf.fold (fun (_ : Fin k0_t4_loop.trips) t => descend? wide4 v324 t) (v332_0, v332_1, v339, v344))) := by
  rw [k0_part25_eq_skeleton]
  unfold k0_part25_skel
  refine (Scf.for_pure_bind _ _ _ (k0_t4_ok i k0_h5) _ _ (fun _ t => descend? wide4 v324 t) (fun _ t => ?_) _).trans ?_
  · unfold descend? k0_t4_body
    dsimp only
    split <;> rename_i hc
    · exact (if_pos hc).symm ▸ rfl
    · exact (if_neg hc).symm ▸ rfl
  · unfold chosen
    dsimp only
    split <;> rename_i hc
    · exact (if_pos hc).symm ▸ rfl
    · exact (if_neg hc).symm ▸ rfl

set_option maxRecDepth 1000000 in
/-- The body where the branch of 1024 keys is taken. -/
theorem body_1024
    (h1 : ¬k0_cond1 i = 1#1) (h2 : ¬k0_cond2 i = 1#1) (h5 : k0_cond5 i = 1#1) (h8 : ¬k0_cond8 i = 1#1) (h11 : ¬k0_cond11 i = 1#1) :
    cc0_dsa_prompt (F := F) i arg2 harg2 arg3 harg3 arg4 harg4 arg5 harg5 arg6 harg6 arg7 harg7 arg8 harg8 =
    (do
      let xq ← loadQ arg3
      let xw ← loadW arg4
      let k0 ← loadK arg6 0
      let k1 ← loadK arg6 1
      let k2 ← loadK arg6 2
      let k3 ← loadK arg6 3
      attend wide4 arg2 arg5 arg7 arg8 inb_S1x128x2048_S1x128x1024_0_0_0 h_S1x128x1024
        (searched wide4 k0_t3_loop k0_t4_loop (quarter wide4) (masked wide4 (by decide) (BitVec.ofNat 32 (i 1).val) (chunks xq xw k0 [k0, k1, k2, k3]))
          (low0 (runMin (chunks xq xw k0 [k0, k1, k2, k3]) 3)) (high0 (runMax (chunks xq xw k0 [k0, k1, k2, k3]) 3)))) := by
  rw [cc0_dsa_prompt_eq_skeleton]
  unfold cc0_dsa_prompt_skel
  rw [dif_neg h1, dif_neg h2, dif_pos h5, dif_neg h8, dif_neg h11]
  simp only [opening_1024, closing_1024]
  rfl

end Attn
-- ==== Proof.Body1536.lean ====
/-
  The kernel's body at the grid points whose queries may see more than 256 of 1536 keys.
-/
module

public import proofs.«01_k».proof.Proof.Body

@[expose] public section

noncomputable section

namespace Attn

open Idealize.ShloMosaic Idealize.SL.Sem
open Cert.KernelIdeal Cert.KernelIdeal.Gen

variable {F : FTy → Type} [FloatOps F]
variable (i : grid0.Coords) (arg2 : Memref sig .tc .vmem S128x512 .f32) (harg2 : arg2.IsWhole) (arg3 : Memref sig .tc .vmem S128x512 .f32) (harg3 : arg3.IsWhole)
  (arg4 : Memref sig .tc .vmem S128x128 .f32) (harg4 : arg4.IsWhole) (arg5 : Memref sig .tc .vmem S1x128x2048 .bf16) (harg5 : arg5.IsWhole)
  (arg6 : Memref sig .tc .vmem S1x64x2048 .bf16) (harg6 : arg6.IsWhole) (arg7 : Memref sig .tc .vmem S1x128x2048 .bf16) (harg7 : arg7.IsWhole)
  (arg8 : Memref sig .tc .vmem S128x512 .f32) (harg8 : arg8.IsWhole)

/-- The opening search of the branch of 1536 keys is the fold of its step, and what it starts the closing search from. -/
theorem opening_1536 (k0_h8 : k0_cond8 i = 1#1) (v26 : IVec S128x1536 32) (v27 : IVec S128x1536 32) (v30 : FVec F S128x512 .bf16) (v34 : FVec F S128x128 .f32) (v99 : FVec F S128x256 .f32) (v168 : FVec F S128x256 .f32) (v239 : FVec F S128x256 .f32) (v310 : FVec F S128x256 .f32) (v381 : FVec F S128x256 .f32) (v386 : FVec F S128x128 .f32) (v387 : FVec F S128x128 .f32) (v389 : FVec F S64x256 .bf16) (v444 : FVec F S128x256 .f32) :
    k0_part41 (F := F) i arg2 harg2 arg3 harg3 arg4 harg4 arg5 harg5 arg6 harg6 arg7 harg7 arg8 harg8 k0_h8 v26 v27 v30 v34 v99 v168 v239 v310 v381 v386 v387 v389 v444 =
    (fun s : Two F => pure ⟨k0_pay395 v26 v27 v30 v34 v99 v168 v239 v310 v381 v389 v444, s.1, s.2, count wide6 (k0_pay395 v26 v27 v30 v34 v99 v168 v239 v310 v381 v389 v444) s.1, open0 (count wide6 (k0_pay395 v26 v27 v30 v34 v99 v168 v239 v310 v381 v389 v444) s.1), 0#32, 1537#32⟩)
      (Scf.fold (fun (_ : Fin k0_t5_loop.trips) s => bisect wide6 (k0_pay395 v26 v27 v30 v34 v99 v168 v239 v310 v381 v389 v444) s) (k0_pay394 v30 v34 v386 v389 v444, k0_pay396 v30 v34 v387 v389 v444)) := by
  rw [k0_part41_eq_skeleton]
  unfold k0_part41_skel
  exact Scf.for_pure_bind _ _ _ (k0_t5_ok i k0_h8) _ _ (fun _ s => bisect wide6 (k0_pay395 v26 v27 v30 v34 v99 v168 v239 v310 v381 v389 v444) s) (fun _ _ => rfl) _

set_option maxRecDepth 1000000 in
/-- The closing search of the branch of 1536 keys is the fold of its step, and the mask the one its last state gives. -/
theorem closing_1536 (k0_h8 : k0_cond8 i = 1#1) (v466 : FVec F S128x1536 .f32) (v474_0 : FVec F S128x1 .f32) (v474_1 : FVec F S128x1 .f32) (v481 : FVec F S128x1 .f32) (v486 : FVec F S128x1 .f32) (c0_i32_132 : BitVec 32) (c1537_i32 : BitVec 32) :
    k0_part42 (F := F) i arg2 harg2 arg3 harg3 arg4 harg4 arg5 harg5 arg6 harg6 arg7 harg7 arg8 harg8 k0_h8 v466 v474_0 v474_1 v481 v486 c0_i32_132 c1537_i32 =
    (fun v496 : FVec F (W 6) .f32 => do
      let v497 : Vec F S1x128x1536 .bf16 ← Prog.lift (.load arg5 (Rect.unit (s := S1x128x2048) ![0, 0, 0] S1x128x1536.size inb_S1x128x2048_S1x128x1536_0_0_0).toLoadRect (View.loadsAt_vmem h_S1x128x1536))
      let v499 : Vec F S1x128x1536 .bf16 ← Prog.lift (.load arg7 (Rect.unit (s := S1x128x2048) ![0, 0, 0] S1x128x1536.size inb_S1x128x2048_S1x128x1536_0_0_0).toLoadRect (View.loadsAt_vmem h_S1x128x1536))
      let v501 : Vec F S128x512 .f32 ← Prog.lift (.load arg2 (Rect.unit (s := S128x512) ![0, 0] S128x512.size inb_S128x512_S128x512_0_0).toLoadRect (View.loadsAt_vmem h_S128x512))
      pure ⟨v496, k0_pay417 v497, k0_pay418 v499, k0_pay419 v501, (iota .tc S128x128 32 [1] iota_S128x128_d1_w32), k0_pay421 v496 v497 v501, k0_pay422 v496 v497 v501, k0_pay423 v496 v497 v501, k0_pay424 v496 v497 v501, k0_pay425 v496 v497 v501, k0_pay426 v496 v497 v501, k0_pay427 v496 v497 v501⟩)
      (chosen wide6 v466 (Scf.fold (fun (_ : Fin k0_t6_loop.trips) t => descend? wide6 v466 t) (v474_0, v474_1, v481, v486))) := by
  rw [k0_part42_eq_skeleton]
  unfold k0_part42_skel
  refine (Scf.for_pure_bind _ _ _ (k0_t6_ok i k0_h8) _ _ (fun _ t => descend? wide6 v466 t) (fun _ t => ?_) _).trans ?_
  · unfold descend? k0_t6_body
    dsimp only
    split <;> rename_i hc
    · exact (if_pos hc).symm ▸ rfl
    · exact (if_neg hc).symm ▸ rfl
  · unfold chosen
    dsimp only
    split <;> rename_i hc
    · exact (if_pos hc).symm ▸ rfl
    · exact (if_neg hc).symm ▸ rfl

set_option maxRecDepth 1000000 in
/-- The body where the branch of 1536 keys is taken. -/
theorem body_1536
    (h1 : ¬k0_cond1 i = 1#1) (h2 : ¬k0_cond2 i = 1#1) (h5 : ¬k0_cond5 i = 1#1) (h8 : k0_cond8 i = 1#1) (h11 : ¬k0_cond11 i = 1#1) :
    cc0_dsa_prompt (F := F) i arg2 harg2 arg3 harg3 arg4 harg4 arg5 harg5 arg6 harg6 arg7 harg7 arg8 harg8 =
    (do
      let xq ← loadQ arg3
      let xw ← loadW arg4
      let k0 ← loadK arg6 0
      let k1 ← loadK arg6 1
      let k2 ← loadK arg6 2
      let k3 ← loadK arg6 3
      let k4 ← loadK arg6 4
      let k5 ← loadK arg6 5
      attend wide6 arg2 arg5 arg7 arg8 inb_S1x128x2048_S1x128x1536_0_0_0 h_S1x128x1536
        (searched wide6 k0_t5_loop k0_t6_loop (bisect wide6) (masked wide6 (by decide) (BitVec.ofNat 32 (i 1).val) (chunks xq xw k0 [k0, k1, k2, k3, k4, k5]))
          (low0 (runMin (chunks xq xw k0 [k0, k1, k2, k3, k4, k5]) 5)) (high0 (runMax (chunks xq xw k0 [k0, k1, k2, k3, k4, k5]) 5)))) := by
  rw [cc0_dsa_prompt_eq_skeleton]
  unfold cc0_dsa_prompt_skel
  rw [dif_neg h1, dif_neg h2, dif_neg h5, dif_pos h8, dif_neg h11]
  simp only [opening_1536, closing_1536]
  rfl

end Attn
-- ==== Proof.Body2048.lean ====
/-
  The kernel's body at the grid points whose queries may see more than 256 of 2048 keys.
-/
module

public import proofs.«01_k».proof.Proof.Body

@[expose] public section

noncomputable section

namespace Attn

open Idealize.ShloMosaic Idealize.SL.Sem
open Cert.KernelIdeal Cert.KernelIdeal.Gen

variable {F : FTy → Type} [FloatOps F]
variable (i : grid0.Coords) (arg2 : Memref sig .tc .vmem S128x512 .f32) (harg2 : arg2.IsWhole) (arg3 : Memref sig .tc .vmem S128x512 .f32) (harg3 : arg3.IsWhole)
  (arg4 : Memref sig .tc .vmem S128x128 .f32) (harg4 : arg4.IsWhole) (arg5 : Memref sig .tc .vmem S1x128x2048 .bf16) (harg5 : arg5.IsWhole)
  (arg6 : Memref sig .tc .vmem S1x64x2048 .bf16) (harg6 : arg6.IsWhole) (arg7 : Memref sig .tc .vmem S1x128x2048 .bf16) (harg7 : arg7.IsWhole)
  (arg8 : Memref sig .tc .vmem S128x512 .f32) (harg8 : arg8.IsWhole)

/-- The opening search of the branch of 2048 keys is the fold of its step, and what it starts the closing search from. -/
theorem opening_2048 (k0_h11 : k0_cond11 i = 1#1) (v26 : IVec S128x2048 32) (v27 : IVec S128x2048 32) (v30 : FVec F S128x512 .bf16) (v34 : FVec F S128x128 .f32) (v99 : FVec F S128x256 .f32) (v168 : FVec F S128x256 .f32) (v239 : FVec F S128x256 .f32) (v310 : FVec F S128x256 .f32) (v381 : FVec F S128x256 .f32) (v452 : FVec F S128x256 .f32) (v523 : FVec F S128x256 .f32) (v528 : FVec F S128x128 .f32) (v529 : FVec F S128x128 .f32) (v531 : FVec F S64x256 .bf16) (v586 : FVec F S128x256 .f32) :
    k0_part62 (F := F) i arg2 harg2 arg3 harg3 arg4 harg4 arg5 harg5 arg6 harg6 arg7 harg7 arg8 harg8 k0_h11 v26 v27 v30 v34 v99 v168 v239 v310 v381 v452 v523 v528 v529 v531 v586 =
    (fun s : Two F => pure ⟨k0_pay590 v26 v27 v30 v34 v99 v168 v239 v310 v381 v452 v523 v531 v586, s.1, s.2, count wide8 (k0_pay590 v26 v27 v30 v34 v99 v168 v239 v310 v381 v452 v523 v531 v586) s.1, open0 (count wide8 (k0_pay590 v26 v27 v30 v34 v99 v168 v239 v310 v381 v452 v523 v531 v586) s.1), 0#32, 2049#32⟩)
      (Scf.fold (fun (_ : Fin k0_t7_loop.trips) s => bisect wide8 (k0_pay590 v26 v27 v30 v34 v99 v168 v239 v310 v381 v452 v523 v531 v586) s) (k0_pay589 v30 v34 v528 v531 v586, k0_pay591 v30 v34 v529 v531 v586)) := by
  rw [k0_part62_eq_skeleton]
  unfold k0_part62_skel
  exact Scf.for_pure_bind _ _ _ (k0_t7_ok i k0_h11) _ _ (fun _ s => bisect wide8 (k0_pay590 v26 v27 v30 v34 v99 v168 v239 v310 v381 v452 v523 v531 v586) s) (fun _ _ => rfl) _

set_option maxRecDepth 1000000 in
/-- The closing search of the branch of 2048 keys is the fold of its step, and the mask the one its last state gives. -/
theorem closing_2048 (k0_h11 : k0_cond11 i = 1#1) (v608 : FVec F S128x2048 .f32) (v616_0 : FVec F S128x1 .f32) (v616_1 : FVec F S128x1 .f32) (v623 : FVec F S128x1 .f32) (v628 : FVec F S128x1 .f32) (c0_i32_168 : BitVec 32) (c2049_i32 : BitVec 32) :
    k0_part63 (F := F) i arg2 harg2 arg3 harg3 arg4 harg4 arg5 harg5 arg6 harg6 arg7 harg7 arg8 harg8 k0_h11 v608 v616_0 v616_1 v623 v628 c0_i32_168 c2049_i32 =
    (fun v638 : FVec F (W 8) .f32 => do
      let v639 : Vec F S1x128x2048 .bf16 ← Prog.lift (.load arg5 (Rect.unit (s := S1x128x2048) ![0, 0, 0] S1x128x2048.size inb_S1x128x2048_S1x128x2048_0_0_0).toLoadRect (View.loadsAt_vmem h_S1x128x2048))
      let v641 : Vec F S1x128x2048 .bf16 ← Prog.lift (.load arg7 (Rect.unit (s := S1x128x2048) ![0, 0, 0] S1x128x2048.size inb_S1x128x2048_S1x128x2048_0_0_0).toLoadRect (View.loadsAt_vmem h_S1x128x2048))
      let v643 : Vec F S128x512 .f32 ← Prog.lift (.load arg2 (Rect.unit (s := S128x512) ![0, 0] S128x512.size inb_S128x512_S128x512_0_0).toLoadRect (View.loadsAt_vmem h_S128x512))
      pure ⟨v638, k0_pay614 v639, k0_pay615 v641, k0_pay616 v643, (iota .tc S128x128 32 [1] iota_S128x128_d1_w32), k0_pay618 v638 v639 v643, k0_pay619 v638 v639 v643, k0_pay620 v638 v639 v643, k0_pay621 v638 v639 v643, k0_pay622 v638 v639 v643, k0_pay623 v638 v639 v643, k0_pay624 v638 v639 v643⟩)
      (chosen wide8 v608 (Scf.fold (fun (_ : Fin k0_t8_loop.trips) t => descend? wide8 v608 t) (v616_0, v616_1, v623, v628))) := by
  rw [k0_part63_eq_skeleton]
  unfold k0_part63_skel
  refine (Scf.for_pure_bind _ _ _ (k0_t8_ok i k0_h11) _ _ (fun _ t => descend? wide8 v608 t) (fun _ t => ?_) _).trans ?_
  · unfold descend? k0_t8_body
    dsimp only
    split <;> rename_i hc
    · exact (if_pos hc).symm ▸ rfl
    · exact (if_neg hc).symm ▸ rfl
  · unfold chosen
    dsimp only
    split <;> rename_i hc
    · exact (if_pos hc).symm ▸ rfl
    · exact (if_neg hc).symm ▸ rfl

set_option maxRecDepth 1000000 in
/-- The body where the branch of 2048 keys is taken. -/
theorem body_2048
    (h1 : ¬k0_cond1 i = 1#1) (h2 : ¬k0_cond2 i = 1#1) (h5 : ¬k0_cond5 i = 1#1) (h8 : ¬k0_cond8 i = 1#1) (h11 : k0_cond11 i = 1#1) :
    cc0_dsa_prompt (F := F) i arg2 harg2 arg3 harg3 arg4 harg4 arg5 harg5 arg6 harg6 arg7 harg7 arg8 harg8 =
    (do
      let xq ← loadQ arg3
      let xw ← loadW arg4
      let k0 ← loadK arg6 0
      let k1 ← loadK arg6 1
      let k2 ← loadK arg6 2
      let k3 ← loadK arg6 3
      let k4 ← loadK arg6 4
      let k5 ← loadK arg6 5
      let k6 ← loadK arg6 6
      let k7 ← loadK arg6 7
      attend wide8 arg2 arg5 arg7 arg8 inb_S1x128x2048_S1x128x2048_0_0_0 h_S1x128x2048
        (searched wide8 k0_t7_loop k0_t8_loop (bisect wide8) (masked wide8 (by decide) (BitVec.ofNat 32 (i 1).val) (chunks xq xw k0 [k0, k1, k2, k3, k4, k5, k6, k7]))
          (low0 (runMin (chunks xq xw k0 [k0, k1, k2, k3, k4, k5, k6, k7]) 7)) (high0 (runMax (chunks xq xw k0 [k0, k1, k2, k3, k4, k5, k6, k7]) 7)))) := by
  rw [cc0_dsa_prompt_eq_skeleton]
  unfold cc0_dsa_prompt_skel
  rw [dif_neg h1, dif_neg h2, dif_neg h5, dif_neg h8, dif_pos h11]
  simp only [opening_2048, closing_2048]
  rfl

end Attn
-- ==== Proof.Run.lean ====
/-
  The run of the kernel: what the body leaves in the output window's buffer at each grid point, the proof data of its pipeline,
  and the launch, with the frame (the arguments end unchanged and every counter is back at zero).
-/
module

public import proofs.«01_k».proof.Proof.Body256
public import proofs.«01_k».proof.Proof.Body512
public import proofs.«01_k».proof.Proof.Body1024
public import proofs.«01_k».proof.Proof.Body1536
public import proofs.«01_k».proof.Proof.Body2048
public import proofs.«01_k».proof.Proof.Gen.KernelIdeal.Frame
public import Idealize.ShloMosaic.Lib.Claim

@[expose] public section

noncomputable section

namespace Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

/-- The whole block of queries, of the indexer's queries and of what is written. -/
abbrev rQ : Rect S128x512 := Rect.unit (s := S128x512) ![0, 0] S128x512.size inb_S128x512_S128x512_0_0
/-- The whole block of the indexer's weights. -/
abbrev rW : Rect S128x128 := Rect.unit (s := S128x128) ![0, 0] S128x128.size inb_S128x128_S128x128_0_0
/-- Chunk `j` of the indexer's keys. -/
abbrev rK (j : Fin 8) : Rect S1x64x2048 := Rect.unit (s := S1x64x2048) ![0, 0, 256 * j.val] S1x64x256.size (chunk_inb j)
/-- The first `256 * w` keys, or values. -/
abbrev rKV (w : ℕ) (inb : ∀ a, (![0, 0, 0] : Fin 3 → Nat) a + (⟨3, ![1, 128, 256 * w]⟩ : Shape).size a ≤ S1x128x2048.size a) :
    Rect S1x128x2048 := Rect.unit (s := S1x128x2048) ![0, 0, 0] (⟨3, ![1, 128, 256 * w]⟩ : Shape).size inb
/-- Columns 0 to 127 of what is written. -/
abbrev rO0 : Rect S128x512 := Rect.unit (s := S128x512) ![0, 0] S128x128.size inb_S128x512_S128x128_0_0
/-- Columns 128 to 255 of what is written. -/
abbrev rO1 : Rect S128x512 := Rect.unit (s := S128x512) ![0, 128] S128x128.size inb_S128x512_S128x128_0_128
/-- Columns 256 to 383 of what is written. -/
abbrev rO2 : Rect S128x512 := Rect.unit (s := S128x512) ![0, 256] S128x128.size inb_S128x512_S128x128_0_256
/-- Columns 384 to 511 of what is written. -/
abbrev rO3 : Rect S128x512 := Rect.unit (s := S128x512) ![0, 384] S128x128.size inb_S128x512_S128x128_0_384

/-! ## What the body leaves in the output window's buffer -/

/-- Four blocks of 128 columns side by side. -/
def written (p0 p1 p2 p3 : FVec F S128x128 .f32) : Vec F S128x512 .f32 :=
  View.canon [⟨rO3, p3⟩, ⟨rO2, p2⟩, ⟨rO1, p1⟩, ⟨rO0, p0⟩]

theorem cover_written (p0 p1 p2 p3 : FVec F S128x128 .f32) (y : S128x512.Idx) :
    ∃ pc ∈ ([⟨rO3, p3⟩, ⟨rO2, p2⟩, ⟨rO1, p1⟩, ⟨rO0, p0⟩] : List (View.Piece (Elt F) S128x512 .f32)), y ∈ pc.1.set :=
  View.cover_of_tiled ([⟨rO3, p3⟩, ⟨rO2, p2⟩, ⟨rO1, p1⟩, ⟨rO0, p0⟩] : List (View.Piece (Elt F) S128x512 .f32)) S128x128.size (by rfl) y

/-- The attention under a mask, from whole blocks of queries, keys and values. -/
def attended {w : ℕ} (H : Wide w) (inb : ∀ a, (![0, 0, 0] : Fin 3 → Nat) a + (⟨3, ![1, 128, 256 * w]⟩ : Shape).size a ≤ S1x128x2048.size a)
    (bs : FVec F (W w) .f32) (x0 : Vec F S128x512 .f32) (x3 x5 : Vec F S1x128x2048 .bf16) : Vec F S128x512 .f32 :=
  written (pairLow H bs (View.ld x0 rQ) (View.ld x3 (rKV w inb)) (View.ld x5 (rKV w inb)) 0 1)
    (pairLow H bs (View.ld x0 rQ) (View.ld x3 (rKV w inb)) (View.ld x5 (rKV w inb)) 2 3)
    (pairHigh H bs (View.ld x0 rQ) (View.ld x3 (rKV w inb)) (View.ld x5 (rKV w inb)) 4 5)
    (pairHigh H bs (View.ld x0 rQ) (View.ld x3 (rKV w inb)) (View.ld x5 (rKV w inb)) 6 7)

/-- The scores' chunks of the branch of 512 keys. -/
def chunks512 (x1 : Vec F S128x512 .f32) (x2 : Vec F S128x128 .f32) (x4 : Vec F S1x64x2048 .bf16) : ℕ → FVec F S128x256 .f32 :=
  chunks (View.ld x1 rQ) (View.ld x2 rW) (View.ld x4 (rK 0)) [View.ld x4 (rK 0), View.ld x4 (rK 1)]

/-- The mask of the branch of 512 keys at grid column `a`. -/
def mask512 (a : BitVec 32) (x1 : Vec F S128x512 .f32) (x2 : Vec F S128x128 .f32) (x4 : Vec F S1x64x2048 .bf16) : FVec F (W 2) .f32 :=
  searched wide2 k0_t1_loop k0_t2_loop (quarter wide2) (masked wide2 (by decide) a (chunks512 x1 x2 x4))
    (low0 (runMin (chunks512 x1 x2 x4) 1)) (high0 (runMax (chunks512 x1 x2 x4) 1))

/-- The scores' chunks of the branch of 1024 keys. -/
def chunks1024 (x1 : Vec F S128x512 .f32) (x2 : Vec F S128x128 .f32) (x4 : Vec F S1x64x2048 .bf16) : ℕ → FVec F S128x256 .f32 :=
  chunks (View.ld x1 rQ) (View.ld x2 rW) (View.ld x4 (rK 0)) [View.ld x4 (rK 0), View.ld x4 (rK 1), View.ld x4 (rK 2), View.ld x4 (rK 3)]

/-- The mask of the branch of 1024 keys at grid column `a`. -/
def mask1024 (a : BitVec 32) (x1 : Vec F S128x512 .f32) (x2 : Vec F S128x128 .f32) (x4 : Vec F S1x64x2048 .bf16) : FVec F (W 4) .f32 :=
  searched wide4 k0_t3_loop k0_t4_loop (quarter wide4) (masked wide4 (by decide) a (chunks1024 x1 x2 x4))
    (low0 (runMin (chunks1024 x1 x2 x4) 3)) (high0 (runMax (chunks1024 x1 x2 x4) 3))

/-- The scores' chunks of the branch of 1536 keys. -/
def chunks1536 (x1 : Vec F S128x512 .f32) (x2 : Vec F S128x128 .f32) (x4 : Vec F S1x64x2048 .bf16) : ℕ → FVec F S128x256 .f32 :=
  chunks (View.ld x1 rQ) (View.ld x2 rW) (View.ld x4 (rK 0)) [View.ld x4 (rK 0), View.ld x4 (rK 1), View.ld x4 (rK 2), View.ld x4 (rK 3), View.ld x4 (rK 4), View.ld x4 (rK 5)]

/-- The mask of the branch of 1536 keys at grid column `a`. -/
def mask1536 (a : BitVec 32) (x1 : Vec F S128x512 .f32) (x2 : Vec F S128x128 .f32) (x4 : Vec F S1x64x2048 .bf16) : FVec F (W 6) .f32 :=
  searched wide6 k0_t5_loop k0_t6_loop (bisect wide6) (masked wide6 (by decide) a (chunks1536 x1 x2 x4))
    (low0 (runMin (chunks1536 x1 x2 x4) 5)) (high0 (runMax (chunks1536 x1 x2 x4) 5))

/-- The scores' chunks of the branch of 2048 keys. -/
def chunks2048 (x1 : Vec F S128x512 .f32) (x2 : Vec F S128x128 .f32) (x4 : Vec F S1x64x2048 .bf16) : ℕ → FVec F S128x256 .f32 :=
  chunks (View.ld x1 rQ) (View.ld x2 rW) (View.ld x4 (rK 0)) [View.ld x4 (rK 0), View.ld x4 (rK 1), View.ld x4 (rK 2), View.ld x4 (rK 3), View.ld x4 (rK 4), View.ld x4 (rK 5), View.ld x4 (rK 6), View.ld x4 (rK 7)]

/-- The mask of the branch of 2048 keys at grid column `a`. -/
def mask2048 (a : BitVec 32) (x1 : Vec F S128x512 .f32) (x2 : Vec F S128x128 .f32) (x4 : Vec F S1x64x2048 .bf16) : FVec F (W 8) .f32 :=
  searched wide8 k0_t7_loop k0_t8_loop (bisect wide8) (masked wide8 (by decide) a (chunks2048 x1 x2 x4))
    (low0 (runMin (chunks2048 x1 x2 x4) 7)) (high0 (runMax (chunks2048 x1 x2 x4) 7))

/-- The output window's buffer after the body at grid point `i`, from the input windows' blocks. -/
def out0_6 (i : grid0.Coords) (x0 : Vec F S128x512 .f32) (x1 : Vec F S128x512 .f32) (x2 : Vec F S128x128 .f32) (x3 : Vec F S1x128x2048 .bf16) (x4 : Vec F S1x64x2048 .bf16) (x5 : Vec F S1x128x2048 .bf16) :
    Vec F S128x512 .f32 :=
  if k0_cond1 i = 1#1 then attended wide1 inb_S1x128x2048_S1x128x256_0_0_0 (dense wide1 (BitVec.ofNat 32 (i 1).val)) x0 x3 x5
  else if k0_cond2 i = 1#1 then attended wide2 inb_S1x128x2048_S1x128x512_0_0_0 (mask512 (BitVec.ofNat 32 (i 1).val) x1 x2 x4) x0 x3 x5
  else if k0_cond5 i = 1#1 then attended wide4 inb_S1x128x2048_S1x128x1024_0_0_0 (mask1024 (BitVec.ofNat 32 (i 1).val) x1 x2 x4) x0 x3 x5
  else if k0_cond8 i = 1#1 then attended wide6 inb_S1x128x2048_S1x128x1536_0_0_0 (mask1536 (BitVec.ofNat 32 (i 1).val) x1 x2 x4) x0 x3 x5
  else attended wide8 inb_S1x128x2048_S1x128x2048_0_0_0 (mask2048 (BitVec.ofNat 32 (i 1).val) x1 x2 x4) x0 x3 x5

/-- Exactly one branch is taken at every grid point. -/
theorem one_branch : ∀ i : grid0.Coords,
    (k0_cond1 i = 1#1 ∧ ¬k0_cond2 i = 1#1 ∧ ¬k0_cond5 i = 1#1 ∧ ¬k0_cond8 i = 1#1 ∧ ¬k0_cond11 i = 1#1)
    ∨ (¬k0_cond1 i = 1#1 ∧ k0_cond2 i = 1#1 ∧ ¬k0_cond5 i = 1#1 ∧ ¬k0_cond8 i = 1#1 ∧ ¬k0_cond11 i = 1#1)
    ∨ (¬k0_cond1 i = 1#1 ∧ ¬k0_cond2 i = 1#1 ∧ k0_cond5 i = 1#1 ∧ ¬k0_cond8 i = 1#1 ∧ ¬k0_cond11 i = 1#1)
    ∨ (¬k0_cond1 i = 1#1 ∧ ¬k0_cond2 i = 1#1 ∧ ¬k0_cond5 i = 1#1 ∧ k0_cond8 i = 1#1 ∧ ¬k0_cond11 i = 1#1)
    ∨ (¬k0_cond1 i = 1#1 ∧ ¬k0_cond2 i = 1#1 ∧ ¬k0_cond5 i = 1#1 ∧ ¬k0_cond8 i = 1#1 ∧ k0_cond11 i = 1#1) := by
  decide +kernel

/-! ## The body's triple -/

set_option maxRecDepth 1000000 in
set_option maxHeartbeats 4000000 in
/-- The kernel body on whole staging memrefs, the inputs' at read contents and the output's at anything, runs to the
    continuation holding the inputs' as they were and the output's at `out0_6` of the inputs'. -/
theorem sound_kernel (c : Dev nD) (E : Set ℕ) (i : grid0.Coords)
    (arg2 : Memref sig .tc .vmem S128x512 .f32) (harg2 : arg2.IsWhole)
    (arg3 : Memref sig .tc .vmem S128x512 .f32) (harg3 : arg3.IsWhole)
    (arg4 : Memref sig .tc .vmem S128x128 .f32) (harg4 : arg4.IsWhole)
    (arg5 : Memref sig .tc .vmem S1x128x2048 .bf16) (harg5 : arg5.IsWhole)
    (arg6 : Memref sig .tc .vmem S1x64x2048 .bf16) (harg6 : arg6.IsWhole)
    (arg7 : Memref sig .tc .vmem S1x128x2048 .bf16) (harg7 : arg7.IsWhole)
    (arg8 : Memref sig .tc .vmem S128x512 .f32) (harg8 : arg8.IsWhole)
    (x0 : Vec F S128x512 .f32) (x1 : Vec F S128x512 .f32) (x2 : Vec F S128x128 .f32) (x3 : Vec F S1x128x2048 .bf16) (x4 : Vec F S1x64x2048 .bf16) (x5 : Vec F S1x128x2048 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out0_6 i x0 x1 x2 x3 x4 x5)) -∗ K ⟨⟩))
      ⊢ wp frame (wpE (defs₀ (F := F)) Variants.none c none) E (cc0_dsa_prompt i arg2 harg2 arg3 harg3 arg4 harg4 arg5 harg5 arg6 harg6 arg7 harg7 arg8 harg8) K := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  rcases one_branch i with ⟨h1, h2, h5, h8, h11⟩ | ⟨h1, h2, h5, h8, h11⟩ | ⟨h1, h2, h5, h8, h11⟩ | ⟨h1, h2, h5, h8, h11⟩ | ⟨h1, h2, h5, h8, h11⟩
  all_goals
    first
      | (rw [body_256 i arg2 harg2 arg3 harg3 arg4 harg4 arg5 harg5 arg6 harg6 arg7 harg7 arg8 harg8 h1 h2 h5 h8 h11]; unfold out0_6; rw [if_pos h1])
      | (rw [body_512 i arg2 harg2 arg3 harg3 arg4 harg4 arg5 harg5 arg6 harg6 arg7 harg7 arg8 harg8 h1 h2 h5 h8 h11]; unfold out0_6; rw [if_neg h1, if_pos h2])
      | (rw [body_1024 i arg2 harg2 arg3 harg3 arg4 harg4 arg5 harg5 arg6 harg6 arg7 harg7 arg8 harg8 h1 h2 h5 h8 h11]; unfold out0_6; rw [if_neg h1, if_neg h2, if_pos h5])
      | (rw [body_1536 i arg2 harg2 arg3 harg3 arg4 harg4 arg5 harg5 arg6 harg6 arg7 harg7 arg8 harg8 h1 h2 h5 h8 h11]; unfold out0_6; rw [if_neg h1, if_neg h2, if_neg h5, if_pos h8])
      | (rw [body_2048 i arg2 harg2 arg3 harg3 arg4 harg4 arg5 harg5 arg6 harg6 arg7 harg7 arg8 harg8 h1 h2 h5 h8 h11]; unfold out0_6; rw [if_neg h1, if_neg h2, if_neg h5, if_neg h8])
    unfold attend finish
    try unfold loadQ loadW loadK
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    iexists _; isplitr
    swap; · iexact H6
    ipureintro
    exact View.read_writes_eq_canon _ _ _ (cover_written _ _ _ _)

end Attn
-- ==== Proof.Launch.lean ====
/-
  The launch of the kernel: the proof data of its pipeline, the body at every grid point, the run to completion, and the frame
  (the arguments end unchanged and every counter is back at zero).
-/
module

public import proofs.«01_k».proof.Proof.Run

@[expose] public section

noncomputable section

namespace Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the pipeline on core `c`: the arrays as the region finds them; after the body at point `t` each input's
    buffer at its block and the output's at `out0_6` of the input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (grid0.coords t) (iblk m c 0 t) (iblk m c 1 t) (iblk m c 2 t) (iblk m c 3 t) (iblk m c 4 t) (iblk m c 5 t)
  Φ _ := Pipeline.ΦA spec0 c
  q _ := fullShare
  owed _ := 0

/-- The arrays are what the region finds. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) :
    (dats m 0 c).after 6 t = out0_6 (grid0.coords t) (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body at `t`. -/
theorem defs₀_row (t : Fin cfg0.N) :
    defs₀ (F := F) .tc cfg0.body (cfg0.bodyArgs t (cfg0.slots t)) = bodyAt0 t := by
  unfold defs₀; rw [Defs.onTc_tc]

/-- The output's block is written at every point. -/
theorem live6 : ∀ i : grid0.Coords, cfg0.idle 6 i = false := by
  intro i
  show idle0 6 i = false
  revert i
  decide +kernel

/-- The body obligation, at every point. -/
theorem body_obligation (c : Dev nD) : BodyObligation (dats (F := F) m 0 c) (defs₀ (F := F)) Variants.none () Set.univ := fun t => by
  rw [bigSep_W0, bigSep_W0, defs₀_row, live6]
  exact triple_restated (sound_body m c t) rfl .rfl fun _ => .rfl

-- the launch theorem's implicit arguments are found by unfolding plain definitions in a metavariable's type
set_option backward.isDefEq.respectTransparency.types false in
/-- The launch: every array of the pipeline ends at what its proof data says, the rest as the region found it, and every
    counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame, over any float instance: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Attn
-- ==== Proof.Rank.lean ====
/-
  Ranks in a row of extended reals, by value and then by position; what a threshold tells of them; the steps that close in on a
  threshold of the 256 greatest; and the stable sort that lists the positions by rank.
-/
module

public import Mathlib.Data.EReal.Basic
public import Mathlib.Data.Fintype.Card
public import Mathlib.Data.Finset.Lattice.Fold
public import Idealize.ShloMosaic.Lib.SortFacts

@[expose] public section

noncomputable section

namespace Attn

open Idealize.ShloMosaic
open scoped Classical

section rank

variable {L : ℕ} (X : Fin L → EReal)

/-- Entry `i` comes before entry `j`: it is greater, or equal and at an earlier position. -/
def Ahead (i j : Fin L) : Prop := X j < X i ∨ (X i = X j ∧ i < j)

/-- How many entries come before entry `j`. -/
def rank (j : Fin L) : ℕ := (Finset.univ.filter fun i => Ahead X i j).card

/-- How many entries are at least `t`. -/
def ge (t : EReal) : ℕ := (Finset.univ.filter fun i => t ≤ X i).card

/-- How many entries are above `t`. -/
def gt (t : EReal) : ℕ := (Finset.univ.filter fun i => t < X i).card

/-- How many entries equal `t`, up to position `j`. -/
def eqUpTo (t : EReal) (j : Fin L) : ℕ := (Finset.univ.filter fun i => X i = t ∧ i ≤ j).card

variable {X}

theorem Ahead.trans {i j k : Fin L} (h : Ahead X i j) (h' : Ahead X j k) : Ahead X i k := by
  rcases h with h | ⟨h, hij⟩ <;> rcases h' with h' | ⟨h', hjk⟩
  · exact .inl (h'.trans h)
  · exact .inl (h' ▸ h)
  · exact .inl (h ▸ h')
  · exact .inr ⟨h.trans h', hij.trans hjk⟩

theorem Ahead.irrefl (i : Fin L) : ¬ Ahead X i i := by
  rintro (h | ⟨_, h⟩) <;> exact lt_irrefl _ h

theorem ahead_total {i j : Fin L} (h : i ≠ j) : Ahead X i j ∨ Ahead X j i := by
  rcases lt_trichotomy (X i) (X j) with h' | h' | h'
  · exact .inr (.inl h')
  · rcases lt_or_gt_of_ne h with h | h
    · exact .inl (.inr ⟨h', h⟩)
    · exact .inr (.inr ⟨h'.symm, h⟩)
  · exact .inl (.inl h')

/-- An entry at or above a threshold ranks below the number of those that are. -/
theorem rank_lt_ge {t : EReal} {j : Fin L} (h : t ≤ X j) : rank X j < ge X t := by
  refine Finset.card_lt_card (Finset.ssubset_iff_of_subset ?_ |>.mpr ⟨j, by simpa using h, by simp [Ahead.irrefl]⟩)
  intro i hi
  simp only [Finset.mem_filter, Finset.mem_univ, true_and] at hi ⊢
  rcases hi with hi | ⟨hi, _⟩
  · exact h.trans hi.le
  · exact hi ▸ h

/-- An entry below a threshold ranks at or after the number of those that are not. -/
theorem ge_le_rank {t : EReal} {j : Fin L} (h : X j < t) : ge X t ≤ rank X j := by
  refine Finset.card_le_card fun i hi => ?_
  simp only [Finset.mem_filter, Finset.mem_univ, true_and] at hi ⊢
  exact .inl (h.trans_le hi)

/-- The rank of an entry equal to a threshold. -/
theorem rank_eq {t : EReal} {j : Fin L} (h : X j = t) : rank X j + 1 = gt X t + eqUpTo X t j := by
  have hd : Disjoint (Finset.univ.filter fun i => t < X i) (Finset.univ.filter fun i => X i = t ∧ i ≤ j) := by
    rw [Finset.disjoint_filter]
    rintro i - hi ⟨hi', -⟩
    exact absurd hi' hi.ne'
  have hn : j ∉ Finset.univ.filter fun i => Ahead X i j := by simp [Ahead.irrefl]
  unfold rank gt eqUpTo
  rw [← Finset.card_union_of_disjoint hd, ← Finset.card_insert_of_notMem hn]
  congr 1
  ext i
  simp only [Finset.mem_insert, Finset.mem_filter, Finset.mem_univ, true_and, Finset.mem_union, Ahead, h]
  constructor
  · rintro (rfl | hi | ⟨hi, hij⟩)
    · exact .inr ⟨h, le_refl _⟩
    · exact .inl hi
    · exact .inr ⟨hi, hij.le⟩
  · rintro (hi | ⟨hi, hij⟩)
    · exact .inr (.inl hi)
    · rcases hij.eq_or_lt with rfl | hij
      · exact .inl rfl
      · exact .inr (.inr ⟨hi, hij⟩)

/-- Where exactly `k` entries are at or above a threshold, they are those of rank below `k`. -/
theorem rank_lt_iff_of_ge {t : EReal} {k : ℕ} (h : ge X t = k) (j : Fin L) : rank X j < k ↔ t ≤ X j := by
  subst h
  exact ⟨fun hr => not_lt.1 fun hj => absurd (ge_le_rank hj) (not_le.2 hr), rank_lt_ge⟩

theorem gt_le_ge (t : EReal) : gt X t ≤ ge X t :=
  Finset.card_le_card fun i hi => by
    simp only [Finset.mem_filter, Finset.mem_univ, true_and] at hi ⊢; exact hi.le

/-- An entry above a threshold ranks below the number of those that are. -/
theorem rank_lt_gt {t : EReal} {j : Fin L} (h : t < X j) : rank X j < gt X t := by
  refine Finset.card_lt_card (Finset.ssubset_iff_of_subset ?_ |>.mpr ⟨j, by simpa using h, by simp [Ahead.irrefl]⟩)
  intro i hi
  simp only [Finset.mem_filter, Finset.mem_univ, true_and] at hi ⊢
  rcases hi with hi | ⟨hi, _⟩
  · exact h.trans hi
  · exact hi ▸ h

/-- Where at least `k` entries are at or above a threshold and at most `k` above it, those of rank below `k` are the ones above
    it and, of the ones equal to it, the first that there is room for. -/
theorem rank_lt_iff_of_gt {t : EReal} {k : ℕ} (h : k ≤ ge X t) (h' : gt X t ≤ k) (j : Fin L) :
    rank X j < k ↔ t < X j ∨ (X j = t ∧ gt X t + eqUpTo X t j ≤ k) := by
  rcases lt_trichotomy (X j) t with hj | hj | hj
  · have := ge_le_rank hj
    constructor
    · intro hr; omega
    · rintro (h1 | ⟨h1, -⟩)
      · exact absurd h1 hj.not_gt
      · exact absurd h1 hj.ne
  · have := rank_eq hj
    constructor
    · intro hr; exact .inr ⟨hj, by omega⟩
    · rintro (h1 | ⟨-, h1⟩)
      · exact absurd hj h1.ne'
      · omega
  · have := rank_lt_gt hj
    exact ⟨fun _ => .inl hj, fun _ => by omega⟩

/-! ## The search -/

variable (X)

/-- The greatest entry below `h`, `⊥` if there is none. -/
def under (h : EReal) : EReal := Finset.univ.sup fun i => if X i < h then X i else ⊥

variable {X}

theorem le_under {h : EReal} {i : Fin L} (hi : X i < h) : X i ≤ under X h := by
  have := Finset.le_sup (f := fun i => if X i < h then X i else ⊥) (Finset.mem_univ i)
  rw [if_pos hi] at this
  exact this

theorem under_attained {h : EReal} (hh : ∃ i, X i < h) : ∃ i, X i < h ∧ X i = under X h := by
  obtain ⟨i₀, hi₀⟩ := hh
  obtain ⟨i, -, hi⟩ := Finset.exists_mem_eq_sup (Finset.univ : Finset (Fin L)) ⟨i₀, Finset.mem_univ _⟩
    (fun i => if X i < h then X i else ⊥)
  change under X h = _ at hi
  by_cases hc : X i < h
  · rw [if_pos hc] at hi; exact ⟨i, hc, hi.symm⟩
  · rw [if_neg hc] at hi
    have := le_under hi₀
    rw [hi] at this
    exact ⟨i₀, hi₀, by rw [hi]; exact le_bot_iff.1 this⟩

/-- Fewer entries are above the greatest one below `h` than are at or above `h`. -/
theorem gt_under_le (h : EReal) : gt X (under X h) ≤ ge X h :=
  Finset.card_le_card fun i hi => by
    simp only [Finset.mem_filter, Finset.mem_univ, true_and] at hi ⊢
    exact not_lt.1 fun hc => absurd (le_under hc) hi.not_ge

/-- More entries are at or above the greatest one below `h` than at or above `h`, if any is below `h`. -/
theorem ge_lt_ge_under {h : EReal} (hh : ∃ i, X i < h) : ge X h < ge X (under X h) := by
  obtain ⟨i, hi, hi'⟩ := under_attained hh
  refine Finset.card_lt_card (Finset.ssubset_iff_of_subset ?_ |>.mpr ⟨i, by simp [hi'], by simpa using hi⟩)
  intro j hj
  simp only [Finset.mem_filter, Finset.mem_univ, true_and] at hj ⊢
  rw [← hi']
  exact (hi.trans_le hj).le

variable (X)

/-- What the closing search keeps of a row after `n` trips: enough entries at or above its lower threshold `lo`, too few at or
    above its upper one `hi`, the count `c` at the lower one, and either the row is open (`p = 1`) and `hi` has come down `n`
    times, or it is closed (`p = 0`) and `lo` tells the 256 greatest. -/
structure Inv (n : ℕ) (lo hi c p : EReal) : Prop where
  lo_full : 256 ≤ ge X lo
  hi_low : ge X hi < 256
  cnt : c = ((ge X lo : ℝ) : EReal)
  state : (p = 1 ∧ n ≤ ge X hi) ∨ (p = 0 ∧ (ge X lo = 256 ∨ gt X lo < 256))

variable {X}

/-- A trip at an open row whose try is a hit. -/
theorem Inv.hit {n : ℕ} {lo hi c p : EReal} (h : Inv X n lo hi c p) (hv : 256 ≤ ge X (under X hi)) :
    Inv X (n + 1) (under X hi) hi ((ge X (under X hi) : ℝ) : EReal) 0 :=
  ⟨hv, h.hi_low, rfl, .inr ⟨rfl, .inr ((gt_under_le hi).trans_lt h.hi_low)⟩⟩

/-- A trip at an open row whose try is none. -/
theorem Inv.miss {n : ℕ} {lo hi c : EReal} (h : Inv X n lo hi c 1) (hv : ge X (under X hi) < 256) :
    Inv X (n + 1) lo (under X hi) c 1 := by
  refine ⟨h.lo_full, hv, h.cnt, .inl ⟨rfl, ?_⟩⟩
  have hn : n ≤ ge X hi := by
    rcases h.state with ⟨_, h⟩ | ⟨h, _⟩
    · exact h
    · exact absurd h one_ne_zero
  have hex : ∃ i, X i < hi := by
    by_contra hc
    push Not at hc
    have h1 : ge X lo ≤ ge X hi := Finset.card_le_card fun i _ => by simpa using hc i
    have := h.lo_full
    have := h.hi_low
    omega
  have := ge_lt_ge_under hex
  omega

/-- A trip at a closed row. -/
theorem Inv.closed {n : ℕ} {lo hi c : EReal} (h : Inv X n lo hi c 0) (k : ℕ) : Inv X k lo hi c 0 := by
  refine ⟨h.lo_full, h.hi_low, h.cnt, .inr ⟨rfl, ?_⟩⟩
  rcases h.state with ⟨h, _⟩ | ⟨_, h⟩
  · exact absurd h zero_ne_one
  · exact h

/-- After 256 trips every row is closed. -/
theorem Inv.done {n : ℕ} {lo hi c p : EReal} (h : Inv X n lo hi c p) (hn : 256 ≤ n) : p = 0 ∧ (ge X lo = 256 ∨ gt X lo < 256) := by
  rcases h.state with ⟨_, h'⟩ | h'
  · have := h.hi_low; omega
  · exact h'

end rank

/-! ## The stable sort -/

/-- A stable sort of distinct positions in order is the sort by a relation that decides ties by position. -/
theorem stableSort_tie {L : ℕ} (R R' : Fin L → Fin L → Bool) (h : ∀ a b, a < b → R b a = R' b a) (l : List (Fin L))
    (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- The stable sort by "greater than" puts at position `i` the entry of rank `i`. -/
theorem rank_sortedFrom {L : ℕ} (X : Fin L → EReal) (R : Fin L → Fin L → Bool) (hR : ∀ a b, R a b = true ↔ X b < X a) (i : Fin L) :
    rank X (sortedFrom R i) = i.val := by
  let R' : Fin L → Fin L → Bool := fun a b => decide (Ahead X a b)
  have hRR : sortedFrom R = sortedFrom R' := by
    have : sortPositions L R = sortPositions L R' := stableSort_tie R R' (fun a b hab => by
      rw [Bool.eq_iff_iff, hR]
      exact ⟨fun h => decide_eq_true (.inl h), fun h => (of_decide_eq_true h).resolve_right fun h' => absurd h'.2 hab.not_gt⟩) _ (List.pairwise_lt_finRange L)
    funext k
    unfold sortedFrom
    have hl : ∀ (l l' : List (Fin L)) (h : L = l.length) (h' : L = l'.length), l = l' → l.get (k.cast h) = l'.get (k.cast h') := by
      rintro l _ h h' rfl; rfl
    exact hl _ _ _ _ this
  rw [hRR]
  have hno : ∀ i j : Fin L, i < j → Ahead X (sortedFrom R' i) (sortedFrom R' j) := fun i j hij => by
    have := sortedFrom_noInversion R' R'
      (fun a b h => by
        simp only [R', decide_eq_true_eq, decide_eq_false_iff_not] at h ⊢
        exact fun h' => Ahead.irrefl _ (h.trans h'))
      (fun a b h => h)
      (fun a b c h h' => by
        simp only [R', decide_eq_false_iff_not] at h h' ⊢
        intro hac
        rcases eq_or_ne b c with rfl | hbc
        · exact h hac
        · exact h (hac.trans ((ahead_total hbc).resolve_left h')))
      i j hij
    simp only [R', decide_eq_false_iff_not] at this
    exact (ahead_total (fun he => hij.ne (sortedFrom_injective R' he))).resolve_right this
  have hiff : ∀ k : Fin L, Ahead X (sortedFrom R' k) (sortedFrom R' i) ↔ k < i := fun k => by
    refine ⟨fun h => ?_, hno k i⟩
    rcases lt_trichotomy k i with hk | hk | hk
    · exact hk
    · subst hk; exact absurd h (Ahead.irrefl _)
    · exact absurd (h.trans (hno i k hk)) (Ahead.irrefl _)
  have hb : Function.Bijective (sortedFrom R') := ⟨sortedFrom_injective R', sortedFrom_surjective R'⟩
  unfold rank
  rw [show (Finset.univ.filter fun k => Ahead X k (sortedFrom R' i)) = (Finset.univ.filter fun k : Fin L => k < i).image (sortedFrom R') from by
    ext k
    obtain ⟨k', rfl⟩ := hb.2 k
    simp only [Finset.mem_filter, Finset.mem_univ, true_and, Finset.mem_image]
    constructor
    · intro h; exact ⟨k', (hiff k').1 h, rfl⟩
    · rintro ⟨k'', hk, he⟩
      rw [← he]
      exact (hiff k'').2 hk]
  rw [Finset.card_image_of_injective _ hb.1]
  rw [show (Finset.univ.filter fun k : Fin L => k < i) = Finset.Iio i from by ext k; simp]
  exact Fin.card_Iio i

end Attn
-- ==== Proof.RowOps.lean ====
/-
  The operations of `Vocab` read along a row at the exact instance: comparisons as orders of extended reals, the counts as ranks'
  counts, the search's steps as steps of `Inv`.
-/
module

public import proofs.«01_k».proof.Proof.Body
public import proofs.«01_k».proof.Proof.Rank
public import Idealize.ShloMosaic.Lib.IdealHost
public import Idealize.ShloMosaic.Lib.ValueIdx
public import Idealize.ShloMosaic.Lib.ValueLayout
public import Idealize.ShloMosaic.Lib.MatmulPlain
public import Idealize.ShloMosaic.Lib.Pipeline.Value

@[expose] public section

noncomputable section

namespace Attn

open Idealize.ShloMosaic Idealize.ShloMosaic.ValueIdx
open Cert.KernelIdeal Cert.KernelIdeal.Gen
open scoped Classical

/-! ## Scalars -/

theorem ofBits_256 : Ideal.ofBits .f32 0x43800000#32 = ((256 : ℝ) : EReal) := by
  simp [Ideal.ofBits, Ideal.ieee, -EReal.coe_mul]; norm_num
theorem ofBits_eighth : Ideal.ofBits .f32 0x3E000000#32 = ((8⁻¹ : ℝ) : EReal) := by
  simp [Ideal.ofBits, Ideal.ieee, -EReal.coe_mul]; norm_num
theorem ofBits_bot : Ideal.ofBits .f32 0xFF800000#32 = ⊥ := by
  simp [Ideal.ofBits, Ideal.ieee]
theorem ofBits_top : Ideal.ofBits .f32 0x7F800000#32 = ⊤ := by
  simp [Ideal.ofBits, Ideal.ieee]
theorem ofBits_small : Ideal.ofBits .f32 0x3A800000#32 = ((1024⁻¹ : ℝ) : EReal) := by
  simp [Ideal.ofBits, Ideal.ieee, -EReal.coe_mul]; norm_num

theorem ofBool_one {b : Bool} : BitVec.ofBool b = 1#1 ↔ b = true := by cases b <;> decide

section cmp
variable {s : Shape} (x y : FVec Ideal s .f32) (i : s.Idx)
theorem oge_one : cmpf .oge x y i = 1#1 ↔ y i ≤ x i := ofBool_one.trans decide_eq_true_iff
theorem ogt_one : cmpf .ogt x y i = 1#1 ↔ y i < x i := ofBool_one.trans decide_eq_true_iff
theorem olt_one : cmpf .olt x y i = 1#1 ↔ x i < y i := ofBool_one.trans decide_eq_true_iff
theorem ole_one : cmpf .ole x y i = 1#1 ↔ x i ≤ y i := ofBool_one.trans decide_eq_true_iff
theorem oeq_one : cmpf .oeq x y i = 1#1 ↔ x i = y i := ofBool_one.trans decide_eq_true_iff
end cmp

theorem andi_one {a b : BitVec 1} : a &&& b = 1#1 ↔ a = 1#1 ∧ b = 1#1 := by revert a b; decide
theorem ori_one {a b : BitVec 1} : a ||| b = 1#1 ↔ a = 1#1 ∨ b = 1#1 := by revert a b; decide
theorem xori_one {a : BitVec 1} : a ^^^ 1#1 = 1#1 ↔ ¬ a = 1#1 := by revert a; decide

theorem sel {s : Shape} {α : Type} (c : IVec s 1) (a b : s.Idx → α) (i : s.Idx) : select c a b i = if c i = 1#1 then a i else b i := rfl

/-- A zero-extended bit differs from zero exactly when it is set. -/
theorem guard_one (b : BitVec 1) : Scalar.cmpi .ne (Scalar.extui b : BitVec 32) 0#32 = 1#1 ↔ b = 1#1 := by revert b; decide

/-- The sum of a condition's ones is how many places it holds at. -/
theorem sum_ones {L : ℕ} (p : Fin L → Prop) [DecidablePred p] : ∑ k, (if p k then (1 : EReal) else 0) = (((Finset.univ.filter p).card : ℝ) : EReal) := by
  rw [Finset.sum_boole]; simp

theorem coe_nat_le {a b : ℕ} : (((a : ℝ) : EReal) ≤ ((b : ℝ) : EReal)) ↔ a ≤ b := by rw [EReal.coe_le_coe_iff, Nat.cast_le]

/-! ## Rows -/

variable {m : ℕ} (H : Wide m)

/-- A row. -/
def row (x : FVec Ideal (W m) .f32) (r : Fin 128) : Fin (256 * m) → EReal := fun j => x (ix2 r j)

/-- A column's entry. -/
abbrev at0 (t : FVec Ideal S128x1 .f32) (r : Fin 128) : EReal := t (ix2 r 0)

theorem spread_apply {α : Type} (t : S128x1.Idx → α) (r : Fin 128) (j : Fin (256 * m)) :
    broadcastTo (W m) t H.bc (ix2 r j) = t (ix2 r 0) :=
  broadcastTo_apply _ _ _ _ fun a => by fin_cases a <;> rfl

theorem column_apply {α : Type} (t : S128.Idx → α) (r : Fin 128) :
    shapeCast S128x1 t shapeCasts_S128_S128x1 (ix2 r 0) = t (ix1 r) :=
  shapeCast_apply _ _ _ _ (by rw [Shape.rowMajor_val_two]; simp [Shape.rowMajor_val_one, ix1, ix2])

theorem lift_row {n : ℕ} (h : (⟨2, ![128, n]⟩ : Shape).Reduces [1] S128) (r : Fin 128) (k : Fin n) : h.lift (ix1 r) k = ix2 r k := by
  funext c; apply Fin.ext; fin_cases c <;> rfl

theorem rowSum_apply (x : FVec Ideal (W m) .f32) (r : Fin 128) : at0 (rowSum H x) r = ∑ k : Fin (256 * m), x (ix2 r k) := by
  unfold at0 rowSum
  rw [column_apply]
  refine (Ideal.multiReduction_add_single _ _ _ _ _ _).trans ?_
  exact Finset.sum_congr rfl fun k _ => congrArg x (lift_row _ r k)

/-- The greatest of a row. -/
theorem rowMax_apply (x : FVec Ideal (W m) .f32) (r : Fin 128) : at0 (rowMax H x) r = Finset.univ.sup (row x r) := by
  unfold at0 rowMax
  rw [column_apply]
  refine (Ideal.multiReduction_maximumf_single _ _ _ _ _ _).trans ?_
  refine eq_of_forall_ge_iff fun c => ?_
  rw [Finset.fold_max_le, Finset.sup_le_iff]
  constructor
  · intro h k _; exact (congrArg x (lift_row H.red r k)).symm.le.trans (h.2 k (Finset.mem_univ _))
  · intro h
    refine ⟨?_, fun k _ => ?_⟩
    · show Ideal.ofBits .f32 0xFF800000#32 ≤ c; rw [ofBits_bot]; exact bot_le
    · exact (congrArg x (lift_row H.red r k)).le.trans (h k (Finset.mem_univ _))

theorem ones_apply (b : IVec (W m) 1) (i : (W m).Idx) : ones (F := Ideal) b i = if b i = 1#1 then (1 : EReal) else 0 := by
  unfold ones; rw [sel]
  show (if _ then Ideal.ofBits .f32 0x3F800000#32 else Ideal.ofBits .f32 0x00000000#32) = _
  rw [Ideal.ofBits_zero_f32, Ideal.ofBits_one_f32]

theorem count_apply (x : FVec Ideal (W m) .f32) (t : FVec Ideal S128x1 .f32) (r : Fin 128) :
    at0 (count H x t) r = ((ge (row x r) (at0 t r) : ℝ) : EReal) := by
  unfold count
  rw [rowSum_apply, ge]
  refine (Finset.sum_congr rfl fun k _ => ?_).trans (sum_ones fun i => at0 t r ≤ row x r i)
  exact (ones_apply _ _).trans (if_congr ((oge_one _ _ _).trans (by rw [spread_apply H]; rfl)) rfl rfl)

theorem full_one (x : FVec Ideal (W m) .f32) (t : FVec Ideal S128x1 .f32) (r : Fin 128) :
    full H x t (ix2 r 0) = 1#1 ↔ 256 ≤ ge (row x r) (at0 t r) := by
  unfold full
  rw [oge_one]
  show Ideal.ofBits .f32 0x43800000#32 ≤ at0 (count H x t) r ↔ _
  rw [count_apply, ofBits_256]
  exact_mod_cast coe_nat_le (a := 256)

/-- A tile's greatest entry is at most `c` exactly when every entry is. -/
theorem top_le (t : FVec Ideal S128x1 .f32) (c : EReal) : top t ≤ c ↔ ∀ r, at0 t r ≤ c := by
  unfold top extractAt
  rw [shapeCast_apply _ _ _ (ix1 0) (by rw [Shape.rowMajor_val_one]; rfl)]
  refine (iff_of_eq (congrArg (· ≤ c) (multiReduction_maximumf_eq_fold (F := Ideal) _ _ _ _ _ _))).trans ?_
  show Finset.fold max _ _ _ ≤ c ↔ _
  rw [Finset.fold_max_le]
  have hread : ∀ r : Fin 128, shapeCast S1x128x1 t shapeCasts_S128x1_S1x128x1 (ix3 0 r 0) = t (ix2 r 0) := fun r =>
    shapeCast_apply _ _ _ _ (by rw [Shape.rowMajor_val_two, Shape.rowMajor_val_three]; simp [ix2, ix3])
  constructor
  · intro h r
    have := h.2 (ix3 0 r 0) (Finset.mem_filter.2 ⟨Finset.mem_univ _, by
      funext a; apply Fin.ext; fin_cases a; exact Nat.lt_one_iff.1 (Fin.isLt _)⟩)
    rw [hread] at this; exact this
  · intro h
    refine ⟨?_, fun i _ => ?_⟩
    · show Ideal.ofBits .f32 0xFF800000#32 ≤ c; rw [ofBits_bot]; exact bot_le
    · have : i = ix3 0 (i 1) 0 := by
        funext a; fin_cases a
        · exact Subsingleton.elim (α := Fin 1) _ _
        · rfl
        · exact Subsingleton.elim (α := Fin 1) _ _
      rw [this]; exact (hread (i 1)).le.trans (h _)

theorem lt_top_iff (t : FVec Ideal S128x1 .f32) (c : EReal) : c < top t ↔ ∃ r, c < at0 t r := by
  rw [← not_le, top_le]; push Not; rfl

/-- The order of small numbers is that of their words. -/
theorem sle_one {a b : ℕ} (ha : a < 2 ^ 31) (hb : b < 2 ^ 31) : (IntOp.cmpi .sle (BitVec.ofNat 32 a) (BitVec.ofNat 32 b) = 1#1) ↔ a ≤ b := by
  refine ofBool_one.trans ?_
  rw [BitVec.sle_eq_decide, decide_eq_true_iff]
  rw [BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  exact Int.ofNat_le

/-- Blocks side by side, read at an index. -/
theorem cat_apply {α : Type} {n K N L : ℕ} (f : Fin N → ((⟨2, ![n, K]⟩ : Shape).Idx → α))
    (h : Shape.Concatenates (((List.finRange N).map fun b => (⟨⟨2, ![n, K]⟩, f b⟩ : (s : Shape) × (s.Idx → α))).map (·.1)) ⟨2, ![n, L]⟩ 1)
    (r : Fin n) (j : Fin L) (b : Fin N) (l : Fin K) (hj : j.val = K * b.val + l.val) :
    concatenate ⟨2, ![n, L]⟩ 1 ((List.finRange N).map fun b => (⟨⟨2, ![n, K]⟩, f b⟩ : (s : Shape) × (s.Idx → α))) h (ix2 r j) = f b (ix2 r l) := by
  have key : ∀ (xs : List ((s : Shape) × (s.Idx → α))) (h : Shape.Concatenates (xs.map (·.1)) ⟨2, ![n, L]⟩ 1),
      xs = List.ofFn (fun b : Fin N => (⟨⟨2, ![n, K]⟩, f b⟩ : (s : Shape) × (s.Idx → α))) →
      concatenate ⟨2, ![n, L]⟩ 1 xs h (ix2 r j) = f b (ix2 r l) := by
    rintro xs h rfl
    have hK : 0 < K := Fin.pos l
    refine concatenate_ofFn_apply (t := ⟨2, ![n, L]⟩) 1 f h rfl K rfl (ix2 r j) b ?_ (ix2 r l) ?_ ?_
    · show j.val / K = b.val
      rw [hj, Nat.mul_add_div hK, Nat.div_eq_of_lt l.isLt, Nat.add_zero]
    · show l.val = j.val % K
      rw [hj, Nat.mul_add_mod, Nat.mod_eq_of_lt l.isLt]
    · intro c hc
      fin_cases c
      · rfl
      · exact absurd rfl hc
  exact key _ h (List.ofFn_eq_map).symm

end Attn
-- ==== Proof.Search.lean ====
/-
  The search for the 256 greatest of a row: the two loops' invariants, the running counts, and the mask they give.
-/
module

public import proofs.«01_k».proof.Proof.RowOps

@[expose] public section

noncomputable section

namespace Attn

open Idealize.ShloMosaic Idealize.ShloMosaic.ValueIdx
open Cert.KernelIdeal Cert.KernelIdeal.Gen
open scoped Classical

variable {m : ℕ} (H : Wide m)

/-! ## The loops -/

/-- The thresholds enclose the 256th greatest. -/
def Good (x : FVec Ideal (W m) .f32) (r : Fin 128) (s : Two Ideal) : Prop :=
  256 ≤ ge (row x r) (at0 s.1 r) ∧ ge (row x r) (at0 s.2 r) < 256

theorem quarter_good {x : FVec Ideal (W m) .f32} {r : Fin 128} {s : Two Ideal} (h : Good x r s) : Good x r (quarter H x s) := by
  unfold quarter Good at0
  dsimp only
  simp only [sel]
  constructor
  · split_ifs with h3 h2 h1
    · exact (full_one H _ _ _).1 h3
    · exact (full_one H _ _ _).1 h2
    · exact (full_one H _ _ _).1 h1
    · exact h.1
  · split_ifs with h1 h2 h3
    · exact h.2
    · exact not_le.1 fun hc => h3 ((full_one H _ _ _).2 hc)
    · exact not_le.1 fun hc => h2 ((full_one H _ _ _).2 hc)
    · exact not_le.1 fun hc => h1 ((full_one H _ _ _).2 hc)

theorem bisect_good {x : FVec Ideal (W m) .f32} {r : Fin 128} {s : Two Ideal} (h : Good x r s) : Good x r (bisect H x s) := by
  unfold bisect Good at0
  dsimp only
  simp only [sel]
  constructor
  · split_ifs with h1
    · exact (full_one H _ _ _).1 h1
    · exact h.1
  · split_ifs with h1
    · exact h.2
    · exact not_le.1 fun hc => h1 ((full_one H _ _ _).2 hc)

/-- The closing search's invariant in a row. -/
def InvAt (x : FVec Ideal (W m) .f32) (r : Fin 128) (n : ℕ) (s : St Ideal) : Prop :=
  Inv (row x r) n (at0 s.1 r) (at0 s.2.1 r) (at0 s.2.2.1 r) (at0 s.2.2.2 r)

theorem open0_apply (c : FVec Ideal S128x1 .f32) (r : Fin 128) : at0 (open0 c) r = if ((256 : ℝ) : EReal) < at0 c r then 1 else 0 := by
  unfold at0 open0
  rw [sel]
  refine if_congr ((ogt_one _ _ _).trans ?_) Ideal.ofBits_one_f32 Ideal.ofBits_zero_f32
  show Ideal.ofBits .f32 0x43800000#32 < _ ↔ _
  rw [ofBits_256]

theorem start_inv {x : FVec Ideal (W m) .f32} {r : Fin 128} {s : Two Ideal} (h : Good x r s) : InvAt x r 0 (start H x s) := by
  unfold InvAt start
  dsimp only
  rw [open0_apply, count_apply]
  refine ⟨h.1, h.2, rfl, ?_⟩
  by_cases hc : ((256 : ℝ) : EReal) < ((ge (row x r) (at0 s.1 r) : ℝ) : EReal)
  · rw [if_pos hc]; exact .inl ⟨rfl, Nat.zero_le _⟩
  · rw [if_neg hc]
    refine .inr ⟨rfl, .inl (le_antisymm ?_ h.1)⟩
    have := not_lt.1 hc
    exact_mod_cast (coe_nat_le (b := 256)).1 (by exact_mod_cast this)

/-- What a step of the closing search tries. -/
def tried (x : FVec Ideal (W m) .f32) (s : St Ideal) : FVec Ideal S128x1 .f32 :=
  rowMax H (select (cmpf .olt x (broadcastTo (W m) s.2.1 H.bc)) x (broadcast (W m) (Scalar.ofBits .f32 0xFF800000#32)))

theorem tried_apply (x : FVec Ideal (W m) .f32) (s : St Ideal) (r : Fin 128) : at0 (tried H x s) r = under (row x r) (at0 s.2.1 r) := by
  unfold tried
  rw [rowMax_apply, under]
  refine Finset.sup_congr rfl fun k _ => ?_
  unfold row
  rw [sel]
  exact if_congr ((olt_one _ _ _).trans (by rw [spread_apply H])) rfl ofBits_bot

theorem descend_inv {x : FVec Ideal (W m) .f32} {r : Fin 128} {n : ℕ} {s : St Ideal} (h : InvAt x r n s) : InvAt x r (n + 1) (descend H x s) := by
  have hv := tried_apply H x s r
  have hlive : cmpf .ogt s.2.2.2 (broadcast S128x1 (Scalar.ofBits .f32 0x00000000#32)) (ix2 r 0) = 1#1 ↔ 0 < at0 s.2.2.2 r := by
    refine (ogt_one _ _ _).trans ?_
    show Ideal.ofBits .f32 0x00000000#32 < _ ↔ _
    rw [Ideal.ofBits_zero_f32]
  have hhit := full_one H x (tried H x s) r
  have hcount := count_apply H x (tried H x s) r
  rw [hv] at hhit hcount
  have e : descend H x s =
      (select (andi (cmpf .ogt s.2.2.2 (broadcast S128x1 (Scalar.ofBits .f32 0x00000000#32))) (full H x (tried H x s))) (tried H x s) s.1,
       select (andi (cmpf .ogt s.2.2.2 (broadcast S128x1 (Scalar.ofBits .f32 0x00000000#32))) (xori (full H x (tried H x s)) (constantI S128x1 1 1#1))) (tried H x s) s.2.1,
       select (andi (cmpf .ogt s.2.2.2 (broadcast S128x1 (Scalar.ofBits .f32 0x00000000#32))) (full H x (tried H x s))) (count H x (tried H x s)) s.2.2.1,
       select (full H x (tried H x s)) (broadcast S128x1 (Scalar.ofBits .f32 0x00000000#32)) s.2.2.2) := rfl
  rw [e]
  unfold InvAt at h ⊢
  dsimp only
  generalize cmpf .ogt s.2.2.2 (broadcast S128x1 (Scalar.ofBits .f32 0x00000000#32)) = live at hlive ⊢
  generalize full H x (tried H x s) = hit at hhit ⊢
  have h1 : at0 (select (andi live hit) (tried H x s) s.1) r
      = if live (ix2 r 0) = 1#1 ∧ hit (ix2 r 0) = 1#1 then at0 (tried H x s) r else at0 s.1 r := if_congr andi_one rfl rfl
  have h2 : at0 (select (andi live (xori hit (constantI S128x1 1 1#1))) (tried H x s) s.2.1) r
      = if live (ix2 r 0) = 1#1 ∧ ¬ hit (ix2 r 0) = 1#1 then at0 (tried H x s) r else at0 s.2.1 r :=
    if_congr (andi_one.trans (and_congr_right fun _ => xori_one)) rfl rfl
  have h3 : at0 (select (andi live hit) (count H x (tried H x s)) s.2.2.1) r
      = if live (ix2 r 0) = 1#1 ∧ hit (ix2 r 0) = 1#1 then at0 (count H x (tried H x s)) r else at0 s.2.2.1 r := if_congr andi_one rfl rfl
  have h4 : at0 (select hit (broadcast S128x1 (Scalar.ofBits .f32 0x00000000#32)) s.2.2.2) r
      = if hit (ix2 r 0) = 1#1 then (0 : EReal) else at0 s.2.2.2 r := if_congr Iff.rfl Ideal.ofBits_zero_f32 rfl
  rw [h1, h2, h3, h4, hcount, hv]
  simp only [hlive, hhit]
  rcases h.state with ⟨hp, -⟩ | ⟨hp, -⟩
  · rw [hp] at h ⊢
    by_cases hge : 256 ≤ ge (row x r) (under (row x r) (at0 s.2.1 r))
    · rw [if_pos ⟨zero_lt_one, hge⟩, if_neg (fun hc => hc.2 hge), if_pos ⟨zero_lt_one, hge⟩, if_pos hge]
      exact h.hit hge
    · rw [if_neg (fun hc => hge hc.2), if_pos ⟨zero_lt_one, hge⟩, if_neg (fun hc => hge hc.2), if_neg hge]
      exact h.miss (not_le.1 hge)
  · rw [hp] at h ⊢
    rw [if_neg (fun hc => lt_irrefl _ hc.1), if_neg (fun hc => lt_irrefl _ hc.1), if_neg (fun hc => lt_irrefl _ hc.1), ite_self]
    exact h.closed _

theorem descend?_inv {x : FVec Ideal (W m) .f32} {r : Fin 128} {n : ℕ} {s : St Ideal} (h : InvAt x r n s) : InvAt x r (n + 1) (descend? H x s) := by
  unfold descend?
  split_ifs with hg
  · exact descend_inv H h
  · rw [guard_one] at hg
    have hle : at0 s.2.2.2 r ≤ 0 := by
      refine not_lt.1 fun hc => hg (ofBool_one.2 (decide_eq_true ?_))
      show Ideal.ofBits .f32 0x00000000#32 < _
      rw [Ideal.ofBits_zero_f32]
      exact (lt_top_iff _ _).2 ⟨r, hc⟩
    unfold InvAt at h ⊢
    rcases h.state with ⟨hp, -⟩ | ⟨hp, -⟩
    · rw [hp] at hle; exact absurd hle (not_le.2 zero_lt_one)
    · rw [hp] at h ⊢; exact h.closed _

/-- A step that carries a counted property on carries it through a list of trips. -/
theorem foldl_inv {α β : Type} (f : β → β) (P : ℕ → β → Prop) (h : ∀ n s, P n s → P (n + 1) (f s)) :
    ∀ (l : List α) (n : ℕ) (s : β), P n s → P (n + l.length) (l.foldl (fun a _ => f a) s)
  | [], n, s, hs => hs
  | a :: l, n, s, hs => by
    rw [List.foldl_cons, List.length_cons, Nat.add_comm l.length 1, ← Nat.add_assoc]
    exact foldl_inv f P h l (n + 1) (f s) (h n s hs)

theorem fold_inv {β : Type} (N : ℕ) (f : β → β) (P : ℕ → β → Prop) (h : ∀ n s, P n s → P (n + 1) (f s)) (s : β) (hs : P 0 s) :
    P N (Scf.fold (fun (_ : Fin N) t => f t) s) := by
  rw [Scf.fold_eq]
  have := foldl_inv f P h (List.finRange N) 0 s hs
  rwa [List.length_finRange, Nat.zero_add] at this

/-! ## The running counts -/

/-- A sum up to a position, as a sum of the first so many. -/
theorem sum_upto {L : ℕ} (f : ℕ → EReal) (j : Fin L) : ∑ i : Fin L, (if i ≤ j then f i.val else 0) = ∑ n ∈ Finset.range (j.val + 1), f n := by
  have h1 : ∑ i : Fin L, (if i ≤ j then f i.val else 0) = ∑ n ∈ Finset.range L, (if n ≤ j.val then f n else 0) :=
    (Finset.sum_range fun n => if n ≤ j.val then f n else 0).symm
  rw [h1, ← Finset.sum_filter]
  refine Finset.sum_congr (Finset.ext fun n => ?_) fun _ _ => rfl
  have := j.isLt
  simp only [Finset.mem_filter, Finset.mem_range]
  omega

theorem tri_apply (k l : Fin 128) : tri (F := Ideal) (ix2 k l) = if k ≤ l then (1 : EReal) else 0 := by
  unfold tri
  rw [truncf_apply, sel]
  refine if_congr ?_ Ideal.ofBits_one_f32 Ideal.ofBits_zero_f32
  show IntOp.cmpi .sle (iota .tc S128x128 32 [0] iota_S128x128_d0_w32 (ix2 k l)) (iota .tc S128x128 32 [1] iota_S128x128_d1_w32 (ix2 k l)) = 1#1 ↔ _
  rw [iota_single_apply, iota_single_apply]
  exact sle_one (by have := k.isLt; show k.val < _; omega) (by have := l.isLt; show l.val < _; omega)

/-- A row's entry by number, zero past its end. -/
def nth (e : FVec Ideal (W m) .f32) (r : Fin 128) (n : ℕ) : EReal := if h : n < 256 * m then e (ix2 r ⟨n, h⟩) else 0

theorem loc_apply (e : FVec Ideal (W m) .f32) (b : Fin (2 * m)) (r l : Fin 128) :
    loc H e b (ix2 r l) = ∑ n ∈ Finset.range (l.val + 1), nth e r (128 * b.val + n) := by
  unfold loc
  refine (Ideal.matmul_plain_apply _ _ _ _ r l).trans ?_
  rw [show constant (F := Ideal) S128x128 .f32 0x00000000#32 (ix2 r l) = (0 : EReal) from Ideal.ofBits_zero_f32, zero_add,
    ← sum_upto (fun n => nth e r (128 * b.val + n)) l]
  refine Finset.sum_congr rfl fun k _ => ?_
  rw [tri_apply, truncf_apply]
  have hb := b.isLt
  have hk := k.isLt
  have hlt : 128 * b.val + k.val < 256 * m := by omega
  rw [extractStridedSlice_apply _ _ _ _ (ix2 r ⟨128 * b.val + k.val, hlt⟩) (by
    intro a; fin_cases a
    · exact (Nat.zero_add _).symm
    · rfl)]
  unfold nth
  rw [dif_pos hlt]
  by_cases h : k ≤ l
  · rw [if_pos h, if_pos h]; exact mul_one _
  · rw [if_neg h, if_neg h]; exact mul_zero _

theorem before_apply (e : FVec Ideal (W m) .f32) (r : Fin 128) : ∀ (b : ℕ) (h : b ≤ 2 * m),
    at0 (before H e b h) r = ∑ n ∈ Finset.range (128 * b), nth e r n
  | 0, h => by show Ideal.ofBits .f32 0x00000000#32 = _; rw [Ideal.ofBits_zero_f32]; rfl
  | b + 1, h => by
    show at0 (before H e b (Nat.le_of_succ_le h)) r + extractStridedSlice S128x1 ![0, 127] (loc H e ⟨b, h⟩) slices_S128x128_o0_127_S128x1 (ix2 r 0) = _
    rw [before_apply e r b, extractStridedSlice_apply _ _ _ _ (ix2 r 127) (by
      intro a; fin_cases a
      · exact (Nat.zero_add _).symm
      · rfl), loc_apply]
    exact (Finset.sum_range_add (nth e r) (128 * b) 128).symm

theorem prefixCount_apply (e : FVec Ideal (W m) .f32) (r : Fin 128) (j : Fin (256 * m)) :
    prefixCount H e (ix2 r j) = ∑ i : Fin (256 * m), if i ≤ j then e (ix2 r i) else 0 := by
  have hj := j.isLt
  have hsum : ∑ i : Fin (256 * m), (if i ≤ j then e (ix2 r i) else 0) = ∑ n ∈ Finset.range (j.val + 1), nth e r n := by
    rw [← sum_upto (nth e r) j]
    refine Finset.sum_congr rfl fun i _ => ?_
    unfold nth; rw [dif_pos i.isLt]
  rw [hsum]
  unfold prefixCount
  rw [cat_apply _ _ r j ⟨j.val / 128, by omega⟩ ⟨j.val % 128, Nat.mod_lt _ (by decide)⟩ (Nat.div_add_mod _ _).symm]
  show loc H e _ _ + broadcastTo S128x128 _ broadcasts_S128x1_S128x128 (ix2 r _) = _
  rw [broadcastTo_apply _ _ _ (ix2 r 0) (fun a => by fin_cases a <;> rfl)]
  show _ + at0 _ r = _
  rw [before_apply, loc_apply, add_comm, ← Finset.sum_range_add]
  congr 2
  show 128 * (j.val / 128) + (j.val % 128 + 1) = _
  omega

theorem prefixCount_ones (b : IVec (W m) 1) (r : Fin 128) (j : Fin (256 * m)) :
    prefixCount H (ones (F := Ideal) b) (ix2 r j) = (((Finset.univ.filter fun i : Fin (256 * m) => b (ix2 r i) = 1#1 ∧ i ≤ j).card : ℝ) : EReal) := by
  rw [prefixCount_apply, ← sum_ones]
  refine Finset.sum_congr rfl fun i _ => ?_
  rw [ones_apply]
  by_cases h : i ≤ j <;> by_cases h' : b (ix2 r i) = 1#1 <;> simp [h, h']

/-! ## The mask -/

theorem bias_apply (b : IVec (W m) 1) (i : (W m).Idx) : bias (F := Ideal) b i = if b i = 1#1 then (0 : EReal) else ⊥ :=
  if_congr Iff.rfl Ideal.ofBits_zero_f32 ofBits_bot

theorem negZero_apply (x : FVec Ideal (W m) .f32) (i : (W m).Idx) : ¬ negZero x i = 1#1 := by
  unfold negZero
  intro h
  obtain ⟨h1, h2⟩ := andi_one.1 h
  have h1 := (oeq_one _ _ _).1 h1
  have h2 := (olt_one _ _ _).1 h2
  change x i = Ideal.ofBits .f32 0x00000000#32 at h1
  change Ideal.div (Ideal.ofBits .f32 0x3F800000#32) (x i) < Ideal.ofBits .f32 0x00000000#32 at h2
  rw [h1, Ideal.ofBits_zero_f32, Ideal.ofBits_one_f32] at h2
  simp [Ideal.div] at h2

theorem plain_apply (x : FVec Ideal (W m) .f32) (t : FVec Ideal S128x1 .f32) (r : Fin 128) (j : Fin (256 * m)) :
    plain H x t (ix2 r j) = if at0 t r ≤ row x r j then (0 : EReal) else ⊥ := by
  unfold plain
  rw [bias_apply]
  exact if_congr ((oge_one _ _ _).trans (by rw [spread_apply H]; rfl)) rfl rfl

theorem ties_apply (x : FVec Ideal (W m) .f32) (t : FVec Ideal S128x1 .f32) (r : Fin 128) (j : Fin (256 * m)) :
    ties H x t (ix2 r j) = if at0 t r < row x r j ∨ (row x r j = at0 t r ∧ gt (row x r) (at0 t r) + eqUpTo (row x r) (at0 t r) j ≤ 256)
      then (0 : EReal) else ⊥ := by
  unfold ties
  rw [bias_apply]
  refine if_congr ?_ rfl rfl
  have hgt : ∀ i, cmpf .ogt x (broadcastTo (W m) t H.bc) (ix2 r i) = 1#1 ↔ at0 t r < row x r i := fun i =>
    (ogt_one _ _ _).trans (by rw [spread_apply H]; rfl)
  have hhi : ∀ i, andi (cmpf .oeq x (broadcastTo (W m) t H.bc)) (xori (negZero x) (constantI (W m) 1 1#1)) (ix2 r i) = 1#1 ↔ row x r i = at0 t r := fun i =>
    andi_one.trans ⟨fun h => by have := (oeq_one _ _ _).1 h.1; rw [spread_apply H] at this; exact this,
      fun h => ⟨(oeq_one _ _ _).2 (by rw [spread_apply H]; exact h), xori_one.2 (negZero_apply x _)⟩⟩
  refine ori_one.trans (or_congr (hgt j) (ori_one.trans ?_))
  have hlo : ¬ andi (andi (cmpf .oeq x (broadcastTo (W m) t H.bc)) (negZero x))
      (cmpf .ole (addf (prefixCount H (ones (F := Ideal) (andi (cmpf .oeq x (broadcastTo (W m) t H.bc)) (negZero x))))
          (broadcastTo (W m) (extractStridedSlice S128x1 ![0, 256 * m - 1] (prefixCount H (ones (F := Ideal)
            (andi (cmpf .oeq x (broadcastTo (W m) t H.bc)) (xori (negZero x) (constantI (W m) 1 1#1))))) H.last) H.bc))
        (broadcastTo (W m) (subf (broadcast S128x1 (Scalar.ofBits (F := Ideal) .f32 0x43800000#32)) (rowSum H (ones (F := Ideal) (cmpf .ogt x (broadcastTo (W m) t H.bc))))) H.bc))
      (ix2 r j) = 1#1 := fun h => negZero_apply x _ (andi_one.1 (andi_one.1 h).1).2
  rw [or_iff_left hlo]
  refine andi_one.trans (and_congr (hhi j) ((ole_one _ _ _).trans ?_))
  rw [spread_apply H, prefixCount_ones]
  show _ ≤ Ideal.ofBits .f32 0x43800000#32 - at0 (rowSum H (ones (F := Ideal) (cmpf .ogt x (broadcastTo (W m) t H.bc)))) r ↔ _
  have hsum : at0 (rowSum H (ones (F := Ideal) (cmpf .ogt x (broadcastTo (W m) t H.bc)))) r = ((gt (row x r) (at0 t r) : ℝ) : EReal) := by
    rw [rowSum_apply, gt]
    exact (Finset.sum_congr rfl fun k _ => (ones_apply _ _).trans (if_congr (hgt k) rfl rfl)).trans (sum_ones fun i => at0 t r < row x r i)
  have hcard : (Finset.univ.filter fun i : Fin (256 * m) =>
      andi (cmpf .oeq x (broadcastTo (W m) t H.bc)) (xori (negZero x) (constantI (W m) 1 1#1)) (ix2 r i) = 1#1 ∧ i ≤ j).card
      = eqUpTo (row x r) (at0 t r) j := by
    unfold eqUpTo
    refine congrArg Finset.card (Finset.filter_congr fun i _ => and_congr (hhi i) Iff.rfl)
  rw [hsum, hcard, ofBits_256, ← EReal.coe_sub, EReal.coe_le_coe_iff]
  rw [le_sub_iff_add_le, add_comm]
  exact_mod_cast Iff.rfl

/-- The mask of the search's last state, in terms of ranks. -/
theorem chosen_apply (x : FVec Ideal (W m) .f32) (s : St Ideal) {n : ℕ} (hn : 256 ≤ n) (h : ∀ r, InvAt x r n s) (r : Fin 128) (j : Fin (256 * m)) :
    chosen H x s (ix2 r j) = if rank (row x r) j < 256 then (0 : EReal) else ⊥ := by
  have hr := h r
  obtain ⟨-, hcase⟩ := hr.done hn
  unfold chosen
  split_ifs with hg hrank hrank
  · rw [ties_apply, if_pos]
    refine (rank_lt_iff_of_gt hr.lo_full ?_ j).1 hrank
    rcases hcase with hc | hc
    · exact (gt_le_ge _).trans hc.le
    · exact hc.le
  · rw [ties_apply, if_neg]
    refine fun hc' => hrank ((rank_lt_iff_of_gt hr.lo_full ?_ j).2 hc')
    rcases hcase with hc | hc
    · exact (gt_le_ge _).trans hc.le
    · exact hc.le
  all_goals
    rw [guard_one] at hg
    have hle : at0 s.2.2.1 r ≤ ((256 : ℝ) : EReal) := by
      refine not_lt.1 fun hc => hg (ofBool_one.2 (decide_eq_true ?_))
      show Ideal.ofBits .f32 0x43800000#32 < _
      rw [ofBits_256]
      exact (lt_top_iff _ _).2 ⟨r, hc⟩
    rw [hr.cnt] at hle
    have hle : ge (row x r) (at0 s.1 r) ≤ 256 := by exact_mod_cast (coe_nat_le (b := 256)).1 (by exact_mod_cast hle)
    have heq : ge (row x r) (at0 s.1 r) = 256 := le_antisymm hle hr.lo_full
    rw [plain_apply]
  · exact if_pos ((rank_lt_iff_of_ge heq j).1 hrank)
  · exact if_neg fun hc => hrank ((rank_lt_iff_of_ge heq j).2 hc)

/-- The two loops and the mask: what is left open is a row's 256 greatest, ties by position. -/
theorem searched_apply (L L' : Scf.Loop 32) (hL' : 256 ≤ L'.trips) (g : FVec Ideal (W m) .f32 → Two Ideal → Two Ideal)
    (x : FVec Ideal (W m) .f32) (hg : ∀ r s, Good x r s → Good x r (g x s)) (lo hi : FVec Ideal S128x1 .f32) (h : ∀ r, Good x r (lo, hi))
    (r : Fin 128) (j : Fin (256 * m)) :
    searched H L L' g x lo hi (ix2 r j) = if rank (row x r) j < 256 then (0 : EReal) else ⊥ := by
  unfold searched
  refine chosen_apply H x _ hL' (fun r => ?_) r j
  refine fold_inv L'.trips (fun t => descend? H x t) (InvAt x r) (fun n s hs => descend?_inv H hs) _ (start_inv H ?_)
  exact fold_inv L.trips (fun s => g x s) (fun _ => Good x r) (fun _ s hs => hg r s hs) _ (h r)

end Attn
-- ==== Proof.Spec.lean ====
/-
  What the layer computes for one query and one head, over extended reals: which keys are attended (those not after the query whose
  scores are among the 256 greatest) and the attention over them.  With it, how both programs' forms of it agree: over the first
  keys alone, and over the list of the 256 greatest in order.
-/
module

public import proofs.«01_k».proof.Proof.Rank
public import Idealize.ShloMosaic.PureOps.Ideal
public import Mathlib.Data.EReal.Inv
public import Mathlib.Data.EReal.Operations

@[expose] public section

noncomputable section

namespace Attn

open Idealize.ShloMosaic
open scoped Classical

/-! ## Sums and scalars -/

/-- A sum times a real that is not negative. -/
theorem sum_mul_real {ι : Type} (t : Finset ι) (f : ι → EReal) {x : EReal} (h0 : 0 ≤ x) (h : x ≠ ⊤) : (∑ i ∈ t, f i) * x = ∑ i ∈ t, f i * x := by
  induction t using Finset.induction_on with
  | empty => simp
  | insert a t ha ih => rw [Finset.sum_insert ha, Finset.sum_insert ha, EReal.right_distrib_of_nonneg_of_ne_top h0 h, ih]

/-- A positive part times a real that is not negative. -/
theorem pos_mul_real (y : EReal) {x : EReal} (h0 : 0 ≤ x) : max (y * x) 0 = max y 0 * x := by
  rcases le_total 0 y with h | h
  · rw [max_eq_left h, max_eq_left (mul_nonneg h h0)]
  · rw [max_eq_right h, zero_mul, max_eq_right (EReal.mul_nonpos_iff.2 (.inr ⟨h, h0⟩))]

/-- A value that is neither infinity. -/
def IsReal (x : EReal) : Prop := x ≠ ⊥ ∧ x ≠ ⊤

theorem isReal_iff {x : EReal} : IsReal x ↔ ∃ r : ℝ, x = (r : EReal) :=
  ⟨fun h => ⟨x.toReal, (EReal.coe_toReal h.2 h.1).symm⟩, by rintro ⟨r, rfl⟩; exact ⟨EReal.coe_ne_bot r, EReal.coe_ne_top r⟩⟩

theorem IsReal.mul {x y : EReal} (hx : IsReal x) (hy : IsReal y) : IsReal (x * y) := by
  obtain ⟨a, rfl⟩ := isReal_iff.1 hx; obtain ⟨b, rfl⟩ := isReal_iff.1 hy
  exact isReal_iff.2 ⟨a * b, (EReal.coe_mul a b).symm⟩

theorem IsReal.max_zero {x : EReal} (hx : IsReal x) : IsReal (max x 0) := by
  rcases le_total 0 x with h | h
  · rwa [max_eq_left h]
  · rw [max_eq_right h]; exact isReal_iff.2 ⟨0, rfl⟩

theorem IsReal.sum {ι : Type} (t : Finset ι) (f : ι → EReal) (h : ∀ i ∈ t, IsReal (f i)) : IsReal (∑ i ∈ t, f i) := by
  induction t using Finset.induction_on with
  | empty => exact isReal_iff.2 ⟨0, rfl⟩
  | insert a t ha ih =>
    rw [Finset.sum_insert ha]
    obtain ⟨x, hx⟩ := isReal_iff.1 (h a (Finset.mem_insert_self _ _))
    obtain ⟨y, hy⟩ := isReal_iff.1 (ih fun i hi => h i (Finset.mem_insert_of_mem hi))
    rw [hx, hy]
    exact isReal_iff.2 ⟨x + y, (EReal.coe_add x y).symm⟩

/-! ## The keys attended -/

section visible

variable {N : ℕ} (S : Fin N → EReal) (q : ℕ)

/-- The scores of the keys not after the query, `⊥` at the others. -/
def visible (j : Fin N) : EReal := if j.val ≤ q then S j else ⊥

/-- The keys attended. -/
def Sel (j : Fin N) : Prop := j.val ≤ q ∧ rank (visible S q) j < 256

variable {S q}

theorem visible_bot {j : Fin N} (h : q < j.val) : visible S q j = ⊥ := if_neg (by omega)

theorem le_of_bot_lt {j : Fin N} (h : ⊥ < visible S q j) : j.val ≤ q := by
  by_contra hc
  rw [visible_bot (by omega)] at h
  exact lt_irrefl _ h

/-- The rank of a visible key is the same among the first keys, if they hold all the visible ones. -/
theorem rank_first {L : ℕ} (hL : L ≤ N) (hq : q < L) (hS : ∀ j, ⊥ < S j) {j : Fin L} (hj : j.val ≤ q) :
    rank (visible (fun i : Fin L => S (Fin.castLE hL i)) q) j = rank (visible S q) (Fin.castLE hL j) := by
  unfold rank
  rw [← Finset.card_map (Fin.castLEEmb hL)]
  refine congrArg Finset.card (Finset.ext fun i => ?_)
  simp only [Finset.mem_map, Finset.mem_filter, Finset.mem_univ, true_and]
  have hjv : ⊥ < visible S q (Fin.castLE hL j) := by
    unfold visible; rw [if_pos (show (Fin.castLE hL j).val ≤ q from hj)]; exact hS _
  constructor
  · rintro ⟨a, ha, rfl⟩; exact ha
  · intro h
    have hi : ⊥ < visible S q i := by
      rcases h with h | ⟨h, -⟩
      · exact bot_le.trans_lt h
      · rw [h]; exact hjv
    have := le_of_bot_lt hi
    exact ⟨⟨i.val, by omega⟩, h, rfl⟩

/-- A key after the query ranks after all the visible ones. -/
theorem lt_rank (hq : q < N) (hS : ∀ j, ⊥ < S j) {j : Fin N} (hj : q < j.val) : q < rank (visible S q) j := by
  have h : (Finset.univ.map (Fin.castLEEmb (Nat.succ_le_of_lt hq))).card ≤ rank (visible S q) j := by
    refine Finset.card_le_card fun i hi => ?_
    obtain ⟨a, -, rfl⟩ := Finset.mem_map.1 hi
    refine Finset.mem_filter.2 ⟨Finset.mem_univ _, .inl ?_⟩
    rw [visible_bot hj]
    have ha : (Fin.castLEEmb (Nat.succ_le_of_lt hq) a).val ≤ q := Nat.lt_succ_iff.1 a.isLt
    unfold visible; rw [if_pos ha]; exact hS _
  rw [Finset.card_map, Finset.card_univ, Fintype.card_fin] at h
  exact h

/-- A visible key's rank is at most the query's position. -/
theorem rank_le (hS : ∀ j, ⊥ < S j) {j : Fin N} (hj : j.val ≤ q) : rank (visible S q) j ≤ q := by
  have h : ((Finset.univ.filter fun i => Ahead (visible S q) i j).map Fin.valEmbedding).card ≤ ((Finset.range (q + 1)).erase j.val).card := by
    refine Finset.card_le_card fun n hn => ?_
    obtain ⟨i, hi, rfl⟩ := Finset.mem_map.1 hn
    have hi := (Finset.mem_filter.1 hi).2
    have hv : ⊥ < visible S q i := by
      rcases hi with h | ⟨h, -⟩
      · exact bot_le.trans_lt h
      · rw [h]; unfold visible; rw [if_pos hj]; exact hS _
    refine Finset.mem_erase.2 ⟨fun hc => ?_, Finset.mem_range.2 (Nat.lt_succ_of_le (le_of_bot_lt hv))⟩
    have : i = j := Fin.ext hc
    rw [this] at hi
    exact Ahead.irrefl j hi
  rw [Finset.card_map, Finset.card_erase_of_mem (Finset.mem_range.2 (by omega)), Finset.card_range] at h
  exact h

/-- The keys attended, told by the ranks among the first keys. -/
theorem sel_first {L : ℕ} (hL : L ≤ N) (hq : q < L) (h256 : 256 ≤ q) (hS : ∀ j, ⊥ < S j) (j : Fin L) :
    rank (visible (fun i : Fin L => S (Fin.castLE hL i)) q) j < 256 ↔ Sel S q (Fin.castLE hL j) := by
  by_cases hj : j.val ≤ q
  · rw [rank_first hL hq hS hj]; exact ⟨fun h => ⟨hj, h⟩, fun h => h.2⟩
  · have := lt_rank (S := fun i : Fin L => S (Fin.castLE hL i)) hq (fun j => hS _) (Nat.lt_of_not_le hj)
    exact ⟨fun h => by omega, fun h => absurd h.1 hj⟩

theorem sel_dense (h256 : q < 256) (hS : ∀ j, ⊥ < S j) (j : Fin N) : j.val ≤ q ↔ Sel S q j :=
  ⟨fun h => ⟨h, (rank_le hS h).trans_lt h256⟩, fun h => h.1⟩

/-- Among the keys listed by rank, the first is attended. -/
theorem sel_nonempty (hq : q < N) (hS : ∀ j, ⊥ < S j) : ∃ j, Sel S q j := by
  by_cases h : q < 256
  · exact ⟨⟨0, by omega⟩, (sel_dense h hS _).1 (Nat.zero_le _)⟩
  · have hr := rank_sortedFrom (visible S q) (fun a b => decide (visible S q b < visible S q a)) (fun _ _ => decide_eq_true_iff) ⟨0, by omega⟩
    refine ⟨sortedFrom (fun a b => decide (visible S q b < visible S q a)) ⟨0, by omega⟩, ?_, by rw [hr]; exact Nat.zero_lt_succ 255⟩
    by_contra hc
    have := lt_rank hq hS (Nat.lt_of_not_le hc)
    rw [hr] at this
    exact absurd this (Nat.not_lt_zero _)

end visible

/-! ## The attention -/

section attn

variable {N : ℕ}

/-- The greatest attended score. -/
def peak (s : Fin N → EReal) (P : Fin N → Prop) : EReal := Finset.univ.sup fun j => if P j then s j else ⊥

/-- A key's weight before it is normalised. -/
def wt (s : Fin N → EReal) (P : Fin N → Prop) (j : Fin N) : EReal := if P j then Ideal.exp (s j - peak s P) else 0

/-- The weighted values, over the sum of the weights. -/
def attn (s : Fin N → EReal) (P : Fin N → Prop) (v : Fin N → EReal) : EReal :=
  Ideal.div (∑ j, wt s P j * v j) (∑ j, wt s P j)

/-- A sum over the first places, where nothing lies past them. -/
theorem sum_first {L : ℕ} (hL : L ≤ N) (f : Fin N → EReal) (h : ∀ j : Fin N, L ≤ j.val → f j = 0) : ∑ j : Fin L, f (Fin.castLE hL j) = ∑ j, f j := by
  refine (Finset.sum_map Finset.univ (Fin.castLEEmb hL) f).symm.trans ?_
  refine Finset.sum_subset (Finset.subset_univ _) fun j _ hj => h j ?_
  by_contra hc
  exact hj (Finset.mem_map.2 ⟨⟨j.val, by omega⟩, Finset.mem_univ _, rfl⟩)

theorem peak_first {L : ℕ} (hL : L ≤ N) (s : Fin N → EReal) (P : Fin N → Prop) (h : ∀ j, P j → j.val < L) :
    peak (fun j : Fin L => s (Fin.castLE hL j)) (fun j => P (Fin.castLE hL j)) = peak s P := by
  unfold peak
  refine eq_of_forall_ge_iff fun c => ?_
  rw [Finset.sup_le_iff, Finset.sup_le_iff]
  constructor
  · intro hc j _
    by_cases hj : P j
    · exact hc ⟨j.val, h j hj⟩ (Finset.mem_univ _)
    · rw [if_neg hj]; exact bot_le
  · intro hc j _; exact hc (Fin.castLE hL j) (Finset.mem_univ _)

theorem attn_first {L : ℕ} (hL : L ≤ N) (s : Fin N → EReal) (P : Fin N → Prop) (v : Fin N → EReal) (h : ∀ j, P j → j.val < L) :
    attn (fun j : Fin L => s (Fin.castLE hL j)) (fun j => P (Fin.castLE hL j)) (fun j => v (Fin.castLE hL j)) = attn s P v := by
  have hw : ∀ j : Fin L, wt (fun j : Fin L => s (Fin.castLE hL j)) (fun j => P (Fin.castLE hL j)) j = wt s P (Fin.castLE hL j) := fun j => by
    unfold wt; rw [peak_first hL s P h]
  have h0 : ∀ j : Fin N, L ≤ j.val → wt s P j = 0 := fun j hj => if_neg fun hc => by have := h j hc; omega
  unfold attn
  simp only [hw]
  rw [sum_first hL (fun j => wt s P j * v j) (fun j hj => by rw [h0 j hj, zero_mul]), sum_first hL (wt s P) h0]

theorem peak_real {s : Fin N → EReal} {P : Fin N → Prop} (hs : ∀ j, IsReal (s j)) (hP : ∃ j, P j) : IsReal (peak s P) := by
  obtain ⟨j, hj⟩ := hP
  obtain ⟨i, -, hi⟩ := Finset.exists_mem_eq_sup (Finset.univ : Finset (Fin N)) ⟨j, Finset.mem_univ _⟩ (fun j => if P j then s j else ⊥)
  change peak s P = _ at hi
  have hle : s j ≤ peak s P := by
    have := Finset.le_sup (f := fun j => if P j then s j else ⊥) (Finset.mem_univ j)
    rw [if_pos hj] at this; exact this
  have hb : peak s P ≠ ⊥ := fun hc => (hs j).1 (le_bot_iff.1 (hc ▸ hle))
  by_cases hPi : P i
  · rw [if_pos hPi] at hi; rw [hi]; exact hs i
  · rw [if_neg hPi] at hi; exact absurd hi hb

theorem wt_real {s : Fin N → EReal} {P : Fin N → Prop} (hs : ∀ j, IsReal (s j)) (hP : ∃ j, P j) (j : Fin N) :
    ∃ x : ℝ, wt s P j = (x : EReal) ∧ 0 ≤ x ∧ (P j → 0 < x) := by
  unfold wt
  split_ifs with h
  · obtain ⟨a, ha⟩ := isReal_iff.1 (hs j)
    obtain ⟨b, hb⟩ := isReal_iff.1 (peak_real hs hP)
    refine ⟨Real.exp (a - b), ?_, (Real.exp_pos _).le, fun _ => Real.exp_pos _⟩
    rw [ha, hb, ← EReal.coe_sub]; rfl
  · exact ⟨0, rfl, le_rfl, fun hc => absurd hc h⟩

/-- The sum of the weights is a positive real. -/
theorem total_real {s : Fin N → EReal} {P : Fin N → Prop} (hs : ∀ j, IsReal (s j)) (hP : ∃ j, P j) :
    ∃ x : ℝ, ∑ j, wt s P j = (x : EReal) ∧ 0 < x := by
  choose x hx h0 hpos using wt_real hs hP
  obtain ⟨j, hj⟩ := hP
  refine ⟨∑ j, x j, ?_, Finset.sum_pos' (fun i _ => h0 i) ⟨j, Finset.mem_univ _, hpos j hj⟩⟩
  simp only [hx]
  induction (Finset.univ : Finset (Fin N)) using Finset.induction_on with
  | empty => rfl
  | insert a t ha ih => rw [Finset.sum_insert ha, Finset.sum_insert ha, ih, EReal.coe_add]

/-- The attention with each weight normalised first. -/
theorem attn_normalised {s : Fin N → EReal} {P : Fin N → Prop} (hs : ∀ j, IsReal (s j)) (hP : ∃ j, P j) (v : Fin N → EReal) :
    ∑ j, Ideal.div (wt s P j) (∑ j, wt s P j) * v j = attn s P v := by
  obtain ⟨x, hx, hpos⟩ := total_real hs hP
  unfold attn
  rw [hx]
  have hne : (x : EReal) ≠ 0 := fun hc => hpos.ne' (EReal.coe_eq_zero.1 hc)
  unfold Ideal.div
  simp only [if_neg hne]
  rw [sum_mul_real _ _ (EReal.inv_nonneg_of_nonneg (EReal.coe_nonneg.2 hpos.le)) (by rw [← EReal.coe_inv]; exact EReal.coe_ne_top _)]
  exact Finset.sum_congr rfl fun j _ => by rw [mul_assoc, mul_comm _ (v j), ← mul_assoc]

/-- A sum over the list of the first 256 by rank is the sum over the places whose rank is below 256. -/
theorem sum_listed (hN : 256 ≤ N) (Y : Fin N → EReal) (R : Fin N → Fin N → Bool) (hR : ∀ a b, R a b = true ↔ Y b < Y a) (f : Fin N → EReal) :
    ∑ i : Fin 256, f (sortedFrom R (Fin.castLE hN i)) = ∑ j, if rank Y j < 256 then f j else 0 := by
  rw [← Equiv.sum_comp (Equiv.ofBijective _ ⟨sortedFrom_injective R, sortedFrom_surjective R⟩) fun j => if rank Y j < 256 then f j else 0]
  rw [← sum_first hN _ fun j hj => ?_]
  · refine Finset.sum_congr rfl fun i _ => ?_
    show _ = if rank Y (sortedFrom R (Fin.castLE hN i)) < 256 then f (sortedFrom R (Fin.castLE hN i)) else 0
    rw [rank_sortedFrom Y R hR, if_pos (show (Fin.castLE hN i).val < 256 from i.isLt)]
  · show (if rank Y (sortedFrom R j) < 256 then f (sortedFrom R j) else 0) = 0
    rw [rank_sortedFrom Y R hR, if_neg (by omega)]

/-- The greatest over the list, likewise. -/
theorem sup_listed (hN : 256 ≤ N) (Y : Fin N → EReal) (R : Fin N → Fin N → Bool) (hR : ∀ a b, R a b = true ↔ Y b < Y a) (f : Fin N → EReal) :
    (Finset.univ.sup fun i : Fin 256 => f (sortedFrom R (Fin.castLE hN i))) = Finset.univ.sup fun j => if rank Y j < 256 then f j else ⊥ := by
  refine eq_of_forall_ge_iff fun c => ?_
  rw [Finset.sup_le_iff, Finset.sup_le_iff]
  constructor
  · intro hc j _
    obtain ⟨i, rfl⟩ := sortedFrom_surjective R j
    rw [rank_sortedFrom Y R hR]
    split_ifs with h
    · exact hc ⟨i.val, h⟩ (Finset.mem_univ _)
    · exact bot_le
  · intro hc i _
    have := hc (sortedFrom R (Fin.castLE hN i)) (Finset.mem_univ _)
    rw [rank_sortedFrom Y R hR, if_pos (show (Fin.castLE hN i).val < 256 from i.isLt)] at this
    exact this

/-- The attention over the 256 keys listed by rank, the ones after the query masked: what the reference computes. -/
theorem attn_listed (hN : 256 ≤ N) {S : Fin N → EReal} {q : ℕ} (hq : q < N) (hS : ∀ j, ⊥ < S j) (s v : Fin N → EReal) (hs : ∀ j, IsReal (s j))
    (R : Fin N → Fin N → Bool) (hR : ∀ a b, R a b = true ↔ visible S q b < visible S q a) (t : Fin 256 → EReal)
    (ht : ∀ i, t i = if (sortedFrom R (Fin.castLE hN i)).val ≤ q then s (sortedFrom R (Fin.castLE hN i)) else ⊥) :
    ∑ i, Ideal.div (Ideal.exp (t i - Finset.univ.sup t)) (∑ i, Ideal.exp (t i - Finset.univ.sup t)) * v (sortedFrom R (Fin.castLE hN i))
      = attn s (Sel S q) v := by
  have hsup : Finset.univ.sup t = peak s (Sel S q) := by
    have := sup_listed hN (visible S q) R hR fun j => if j.val ≤ q then s j else ⊥
    rw [show t = _ from funext ht, this, peak]
    refine Finset.sup_congr rfl fun j _ => ?_
    unfold Sel
    by_cases h : j.val ≤ q <;> by_cases h' : rank (visible S q) j < 256 <;> simp [h, h']
  have hw : ∀ i, Ideal.exp (t i - Finset.univ.sup t) = wt s (Sel S q) (sortedFrom R (Fin.castLE hN i)) := fun i => by
    have hr : rank (visible S q) (sortedFrom R (Fin.castLE hN i)) < 256 := by rw [rank_sortedFrom _ R hR]; exact i.isLt
    rw [hsup, ht]
    unfold wt
    by_cases h : (sortedFrom R (Fin.castLE hN i)).val ≤ q
    · rw [if_pos h, if_pos ⟨h, hr⟩]
    · rw [if_neg h, if_neg fun hc => h hc.1, EReal.bot_sub]; rfl
  have h0 : ∀ j, ¬ rank (visible S q) j < 256 → wt s (Sel S q) j = 0 := fun j hj => if_neg fun hc => hj hc.2
  rw [← attn_normalised hs (sel_nonempty hq hS) v]
  simp only [hw]
  have htot : ∑ i, wt s (Sel S q) (sortedFrom R (Fin.castLE hN i)) = ∑ j, wt s (Sel S q) j := by
    rw [sum_listed hN (visible S q) R hR (wt s (Sel S q))]
    refine Finset.sum_congr rfl fun j _ => ?_
    split_ifs with h
    · rfl
    · exact (h0 j h).symm
  rw [htot, sum_listed hN (visible S q) R hR fun j => Ideal.div (wt s (Sel S q) j) (∑ j, wt s (Sel S q) j) * v j]
  refine Finset.sum_congr rfl fun j _ => ?_
  split_ifs with h
  · rfl
  · obtain ⟨x, hx, hpos⟩ := total_real hs (sel_nonempty hq hS)
    rw [h0 j h, hx, Ideal.div, if_neg fun hc => hpos.ne' (EReal.coe_eq_zero.1 hc), zero_mul, zero_mul]

end attn

end Attn
-- ==== Proof.Scores.lean ====
/-
  The indexer's scores and the masks of the five branches, read at a query and a key of a block.
-/
module

public import proofs.«01_k».proof.Proof.Search
public import proofs.«01_k».proof.Proof.Spec
public import proofs.«01_k».proof.Proof.Run

@[expose] public section

noncomputable section

namespace Attn

open Idealize.ShloMosaic Idealize.ShloMosaic.ValueIdx
open Cert.KernelIdeal Cert.KernelIdeal.Gen
open scoped Classical

/-- A lane of a head. -/
abbrev lane (h : Fin 8) (d : Fin 64) : Fin 512 := ⟨64 * h.val + d.val, by omega⟩

/-- A query's score against a key: over the eight heads, the positive part of the dot product times the weight over 8. -/
def score (x1 : Vec Ideal S128x512 .f32) (x2 : Vec Ideal S128x128 .f32) (x4 : Vec Ideal S1x64x2048 .bf16) (r : Fin 128) (j : Fin 2048) : EReal :=
  ∑ h : Fin 8, max (∑ d : Fin 64, x1 (ix2 r (lane h d)) * x4 (ix3 0 d j)) 0 * (x2 (ix2 r ⟨h.val, by omega⟩) * ((8⁻¹ : ℝ) : EReal))

theorem term_apply (q : FVec Ideal S128x512 .bf16) (w : FVec Ideal S128x128 .f32) (k : Vec Ideal S1x64x256 .bf16) (h : Fin 8) (r : Fin 128) (c : Fin 256) :
    term q w k h (ix2 r c) = max (∑ d : Fin 64, q (ix2 r (lane h d)) * k (ix3 0 d c)) 0 * w (ix2 r ⟨h.val, by omega⟩) := by
  unfold term
  rw [mulf_apply, maximumf_apply]
  rw [broadcastTo_apply _ _ _ (ix2 r 0) (fun a => by fin_cases a <;> rfl)]
  rw [extractStridedSlice_apply _ w _ _ (ix2 r ⟨h.val, by omega⟩) (by
    intro a; fin_cases a
    · exact (Nat.zero_add _).symm
    · rfl)]
  have e : matmul (DotDims.plain 128 64 256) none (extractStridedSlice S128x64 ![0, 64 * h.val] q (head_slice h))
      (shapeCast (α := Ideal .bf16) S64x256 k shapeCasts_S1x64x256_S64x256) (constant S128x256 .f32 0x00000000#32) (ix2 r c)
      = ∑ d : Fin 64, q (ix2 r (lane h d)) * k (ix3 0 d c) := by
    refine (Ideal.matmul_plain_apply _ _ _ _ r c).trans ?_
    rw [show constant (F := Ideal) S128x256 .f32 0x00000000#32 (ix2 r c) = (0 : EReal) from Ideal.ofBits_zero_f32, zero_add]
    refine Finset.sum_congr rfl fun d _ => ?_
    rw [shapeCast_1ab_ab_apply, extractStridedSlice_apply _ q _ _ (ix2 r (lane h d)) (by
      intro a; fin_cases a
      · exact (Nat.zero_add _).symm
      · rfl)]
  rw [e]
  show max _ (Ideal.ofBits .f32 0x00000000#32) * _ = _
  rw [Ideal.ofBits_zero_f32]

theorem iq_apply (x : Vec Ideal S128x512 .f32) (i : S128x512.Idx) : iq x i = x i := by
  unfold iq
  rw [truncf_apply]
  exact shapeCast_apply _ _ _ _ rfl

theorem iw_apply (x : Vec Ideal S128x128 .f32) (i : S128x128.Idx) : iw x i = x i * ((8⁻¹ : ℝ) : EReal) := by
  unfold iw
  rw [mulf_apply, shapeCast_apply _ _ _ i rfl]
  show _ * Ideal.ofBits .f32 0x3E000000#32 = _
  rw [ofBits_eighth]

theorem ld_q (x : Vec Ideal S128x512 .f32) (i : S128x512.Idx) : View.ld (Val := Elt Ideal) (e' := .f32) x rQ i = x i := by
  refine congrArg x (funext fun a => Fin.ext ?_)
  show (![0, 0] : Fin 2 → ℕ) a + 1 * (i a).val = (i a).val
  fin_cases a <;> simp

theorem ld_w (x : Vec Ideal S128x128 .f32) (i : S128x128.Idx) : View.ld (Val := Elt Ideal) (e' := .f32) x rW i = x i := by
  refine congrArg x (funext fun a => Fin.ext ?_)
  show (![0, 0] : Fin 2 → ℕ) a + 1 * (i a).val = (i a).val
  fin_cases a <;> simp

theorem ld_k (x : Vec Ideal S1x64x2048 .bf16) (j : Fin 8) (d : Fin 64) (c : Fin 256) :
    View.ld (Val := Elt Ideal) (e' := .bf16) x (rK j) (ix3 0 d c) = x (ix3 0 d ⟨256 * j.val + c.val, by omega⟩) := by
  refine congrArg x (funext fun a => Fin.ext ?_)
  show (![0, 0, 256 * j.val] : Fin 3 → ℕ) a + 1 * ((ix3 0 d c : S1x64x256.Idx) a).val = ((ix3 0 d ⟨256 * j.val + c.val, by omega⟩ : S1x64x2048.Idx) a).val
  fin_cases a <;> simp [ix3]

theorem chunk_apply (x1 : Vec Ideal S128x512 .f32) (x2 : Vec Ideal S128x128 .f32) (x4 : Vec Ideal S1x64x2048 .bf16) (j : Fin 8) (r : Fin 128) (c : Fin 256) :
    chunk (View.ld (Val := Elt Ideal) (e' := .f32) x1 rQ) (View.ld (Val := Elt Ideal) (e' := .f32) x2 rW) (View.ld (Val := Elt Ideal) (e' := .bf16) x4 (rK j)) (ix2 r c)
      = score x1 x2 x4 r ⟨256 * j.val + c.val, by omega⟩ := by
  have key : ∀ h : Fin 8, term (iq (View.ld (Val := Elt Ideal) (e' := .f32) x1 rQ)) (iw (View.ld (Val := Elt Ideal) (e' := .f32) x2 rW))
      (View.ld (Val := Elt Ideal) (e' := .bf16) x4 (rK j)) h (ix2 r c)
      = max (∑ d : Fin 64, x1 (ix2 r (lane h d)) * x4 (ix3 0 d ⟨256 * j.val + c.val, by omega⟩)) 0 * (x2 (ix2 r ⟨h.val, by omega⟩) * ((8⁻¹ : ℝ) : EReal)) := fun h => by
    rw [term_apply, iw_apply, ld_w]
    refine congrArg (fun y : EReal => max y 0 * _) (Finset.sum_congr rfl fun d _ => ?_)
    rw [iq_apply, ld_q, ld_k]
  unfold chunk score
  rw [Fin.sum_univ_eight]
  simp only [addf_apply, key]

section branch

variable {m : ℕ} (H : Wide m)

/-- The chunks of a branch hold the scores of its keys. -/
def Holds (m : ℕ) (hm : m ≤ 8) (S : Fin 128 → Fin 2048 → EReal) (c : ℕ → FVec Ideal S128x256 .f32) : Prop :=
  ∀ (j : ℕ) (hj : j < m) (r : Fin 128) (l : Fin 256), c j (ix2 r l) = S r ⟨256 * j + l.val, by omega⟩

theorem le8 (hm : m ≤ 8) : 256 * m ≤ 2048 := by omega

theorem seen_one (hm : m ≤ 8) (a : Fin 16) (r : Fin 128) (j : Fin (256 * m)) :
    seen H (BitVec.ofNat 32 a.val) (ix2 r j) = 1#1 ↔ j.val ≤ 128 * a.val + r.val := by
  unfold seen qpos
  have e : IntOp.addi (Scalar.muli (BitVec.ofNat 32 a.val) 128#32) (BitVec.ofNat 32 r.val) = BitVec.ofNat 32 (128 * a.val + r.val) := by
    rw [Nat.mul_comm, BitVec.ofNat_add, BitVec.ofNat_mul]; rfl
  show IntOp.cmpi .sle (iota .tc (W m) 32 [1] H.it1 (ix2 r j)) (IntOp.addi (Scalar.muli (BitVec.ofNat 32 a.val) 128#32) (iota .tc (W m) 32 [0] H.it0 (ix2 r j))) = 1#1 ↔ _
  rw [iota_single_apply, iota_single_apply]
  show IntOp.cmpi .sle (BitVec.ofNat 32 j.val) (IntOp.addi _ (BitVec.ofNat 32 r.val)) = 1#1 ↔ _
  rw [e]
  exact sle_one (by omega) (by omega)

theorem dense_apply (hm : m ≤ 8) (a : Fin 16) (r : Fin 128) (j : Fin (256 * m)) :
    dense (F := Ideal) H (BitVec.ofNat 32 a.val) (ix2 r j) = if j.val ≤ 128 * a.val + r.val then (0 : EReal) else ⊥ := by
  unfold dense
  rw [bias_apply]
  exact if_congr (seen_one H hm a r j) rfl rfl

theorem masked_apply (h1 : 1 < m) (hm : m ≤ 8) (a : Fin 16) {S : Fin 128 → Fin 2048 → EReal} {c : ℕ → FVec Ideal S128x256 .f32} (hc : Holds m hm S c)
    (r : Fin 128) : row (masked H h1 (BitVec.ofNat 32 a.val) c) r = visible (fun j => S r (Fin.castLE (le8 hm) j)) (128 * a.val + r.val) := by
  funext j
  unfold row masked visible
  rw [sel]
  refine if_congr (seen_one H hm a r j) ?_ ofBits_bot
  have hj := j.isLt
  rw [cat_apply (fun b : Fin m => c b.val) _ r j ⟨j.val / 256, by omega⟩ ⟨j.val % 256, Nat.mod_lt _ (by decide)⟩ (Nat.div_add_mod _ _).symm, hc _ (by show j.val / 256 < m; omega)]
  exact congrArg (S r) (Fin.ext (Nat.div_add_mod _ _))

theorem half_apply (x : FVec Ideal S128x256 .f32) (b : Fin 2) (r l : Fin 128) : half x b (ix2 r l) = x (ix2 r ⟨128 * b.val + l.val, by omega⟩) := by
  unfold half
  exact extractStridedSlice_apply _ _ _ _ _ (by
    intro a; fin_cases a
    · exact (Nat.zero_add _).symm
    · rfl)

/-- A column is in one of the two halves. -/
theorem half_cases (x : FVec Ideal S128x256 .f32) (r : Fin 128) (l : Fin 256) :
    ∃ (b : Fin 2) (l' : Fin 128), l'.val = l.val % 128 ∧ x (ix2 r l) = half x b (ix2 r l') := by
  refine ⟨⟨l.val / 128, by omega⟩, ⟨l.val % 128, Nat.mod_lt _ (by decide)⟩, rfl, ?_⟩
  rw [half_apply]
  exact congrArg x (congrArg (ix2 r) (Fin.ext (Nat.div_add_mod _ _).symm))

theorem runMin_le (c : ℕ → FVec Ideal S128x256 .f32) (r l : Fin 128) (b : Fin 2) : ∀ (n j : ℕ), j ≤ n → runMin c n (ix2 r l) ≤ half (c j) b (ix2 r l)
  | 0, j, h => by
    obtain rfl : j = 0 := by omega
    show min (half (c 0) 0 (ix2 r l)) (half (c 0) 1 (ix2 r l)) ≤ _
    fin_cases b
    · exact min_le_left _ _
    · exact min_le_right _ _
  | n + 1, j, h => by
    show min (min (runMin c n (ix2 r l)) (half (c (n + 1)) 0 (ix2 r l))) (half (c (n + 1)) 1 (ix2 r l)) ≤ _
    rcases Nat.lt_or_ge j (n + 1) with hj | hj
    · exact (min_le_left _ _).trans ((min_le_left _ _).trans (runMin_le c r l b n j (by omega)))
    · obtain rfl : j = n + 1 := by omega
      fin_cases b
      · exact (min_le_left _ _).trans (min_le_right _ _)
      · exact min_le_right _ _

theorem le_runMax (c : ℕ → FVec Ideal S128x256 .f32) (r l : Fin 128) (b : Fin 2) : ∀ (n j : ℕ), j ≤ n → half (c j) b (ix2 r l) ≤ runMax c n (ix2 r l)
  | 0, j, h => by
    obtain rfl : j = 0 := by omega
    show _ ≤ max (half (c 0) 0 (ix2 r l)) (half (c 0) 1 (ix2 r l))
    fin_cases b
    · exact le_max_left _ _
    · exact le_max_right _ _
  | n + 1, j, h => by
    show _ ≤ max (max (runMax c n (ix2 r l)) (half (c (n + 1)) 0 (ix2 r l))) (half (c (n + 1)) 1 (ix2 r l))
    rcases Nat.lt_or_ge j (n + 1) with hj | hj
    · exact (le_runMax c r l b n j (by omega)).trans ((le_max_left _ _).trans (le_max_left _ _))
    · obtain rfl : j = n + 1 := by omega
      fin_cases b
      · exact (le_max_right _ _).trans (le_max_left _ _)
      · exact le_max_right _ _

theorem runMax_lt (c : ℕ → FVec Ideal S128x256 .f32) (r l : Fin 128) : ∀ (n : ℕ), (∀ j ≤ n, ∀ b, half (c j) b (ix2 r l) < ⊤) → runMax c n (ix2 r l) < ⊤
  | 0, h => max_lt (h 0 le_rfl 0) (h 0 le_rfl 1)
  | n + 1, h => max_lt (max_lt (runMax_lt c r l n fun j hj => h j (by omega)) (h (n + 1) le_rfl 0)) (h (n + 1) le_rfl 1)

theorem low0_le (x : FVec Ideal S128x128 .f32) (r l : Fin 128) : at0 (low0 x) r ≤ x (ix2 r l) := by
  unfold at0 low0
  rw [column_apply]
  refine (le_of_eq (multiReduction_minimumf_eq_fold (F := Ideal) _ _ _ _ _ _)).trans ?_
  have := (Finset.le_fold_min (b := FloatOps.ofBits (F := Ideal) .f32 0x7F800000#32) (f := x)
    (s := Finset.univ.filter fun i => reduces_S128x128_S128.drop i = ix1 r) (c := Finset.fold min (FloatOps.ofBits (F := Ideal) .f32 0x7F800000#32) x
      (Finset.univ.filter fun i => reduces_S128x128_S128.drop i = ix1 r))).1 le_rfl
  refine this.2 (ix2 r l) (Finset.mem_filter.2 ⟨Finset.mem_univ _, ?_⟩)
  rw [← lift_row reduces_S128x128_S128 r l]
  exact Shape.Reduces.drop_lift reduces_S128x128_S128 (ix1 r) l

/-- A row's greatest entry, in the 128 lanes. -/
def peak0 (x : FVec Ideal S128x128 .f32) (r : Fin 128) : EReal := Finset.univ.fold max (⊥ : EReal) fun l : Fin 128 => x (ix2 r l)

theorem high0_apply (x : FVec Ideal S128x128 .f32) (r : Fin 128) :
    at0 (high0 x) r = peak0 x r + max (peak0 x r) (-peak0 x r) * ((1024⁻¹ : ℝ) : EReal) + 1 := by
  have e : shapeCast S128x1 (multiReduction .maximumf [1] S128 x 0xFF800000#32 reduces_S128x128_S128 (.inl rfl) rfl) shapeCasts_S128_S128x1 (ix2 r 0)
      = peak0 x r := by
    rw [column_apply]
    refine (Ideal.multiReduction_maximumf_single _ _ _ _ _ _).trans ?_
    unfold peak0
    rw [show FloatOps.ofBits (F := Ideal) .f32 0xFF800000#32 = (⊥ : EReal) from ofBits_bot]
    exact Finset.fold_congr fun k _ => congrArg x (lift_row reduces_S128x128_S128 r k)
  unfold at0 high0
  show _ + max _ (-_) * Ideal.ofBits .f32 0x3A800000#32 + Ideal.ofBits .f32 0x3F800000#32 = _
  rw [e, ofBits_small, Ideal.ofBits_one_f32]

/-- Where the scores are real, the two ends the search starts from enclose the 256th greatest of a row with at least 256 visible keys. -/
theorem start_good (h1 : 1 < m) (hm : m ≤ 8) (a : Fin 16) (ha : 2 ≤ a.val) {S : Fin 128 → Fin 2048 → EReal} (hS : ∀ r j, IsReal (S r j))
    {c : ℕ → FVec Ideal S128x256 .f32} (hc : Holds m hm S c) (r : Fin 128) :
    Good (masked H h1 (BitVec.ofNat 32 a.val) c) r (low0 (runMin c (m - 1)), high0 (runMax c (m - 1))) := by
  unfold Good
  rw [masked_apply H h1 hm a hc]
  have hat : ∀ j : Fin (256 * m), ∃ (b : Fin 2) (l : Fin 128), S r (Fin.castLE (le8 hm) j) = half (c (j.val / 256)) b (ix2 r l) := fun j => by
    obtain ⟨b, l, -, h⟩ := half_cases (c (j.val / 256)) r ⟨j.val % 256, Nat.mod_lt _ (by decide)⟩
    have hj := j.isLt
    refine ⟨b, l, h ▸ ?_⟩
    rw [hc _ (by omega)]
    exact congrArg (S r) (Fin.ext (Nat.div_add_mod _ _).symm)
  constructor
  · have hle : 256 ≤ 256 * m := by omega
    have : (Finset.univ.map (Fin.castLEEmb hle)).card ≤ ge (visible (fun j => S r (Fin.castLE (le8 hm) j)) (128 * a.val + r.val))
        (at0 (low0 (runMin c (m - 1))) r) := Finset.card_le_card fun i hi => by
        obtain ⟨k, -, rfl⟩ := Finset.mem_map.1 hi
        refine Finset.mem_filter.2 ⟨Finset.mem_univ _, ?_⟩
        have hk : (Fin.castLEEmb hle k).val ≤ 128 * a.val + r.val := by
          have := k.isLt
          show k.val ≤ _; omega
        unfold visible
        rw [if_pos hk]
        obtain ⟨b, l, h⟩ := hat (Fin.castLEEmb hle k)
        refine le_of_le_of_eq ?_ h.symm
        refine (low0_le _ r l).trans (runMin_le c r l b _ _ ?_)
        have := (Fin.castLEEmb hle k).isLt
        omega
    rw [Finset.card_map, Finset.card_univ, Fintype.card_fin] at this
    dsimp only
    exact this
  · have hle : ∀ j : Fin (256 * m), S r (Fin.castLE (le8 hm) j) ≤ peak0 (runMax c (m - 1)) r := fun j => by
      obtain ⟨b, l, h⟩ := hat j
      rw [h]
      have hj := j.isLt
      refine (le_runMax c r l b (m - 1) _ (by omega)).trans ?_
      unfold peak0
      exact ((Finset.fold_max_le (b := (⊥ : EReal)) (c := peak0 (runMax c (m - 1)) r)).1 le_rfl).2 l (Finset.mem_univ _)
    have hreal : IsReal (peak0 (runMax c (m - 1)) r) := by
      refine ⟨fun hb => ?_, ne_of_lt ?_⟩
      · have := hle ⟨0, by omega⟩
        rw [hb] at this
        exact (hS _ _).1 (le_bot_iff.1 this)
      · unfold peak0
        rw [Finset.fold_max_lt]
        refine ⟨bot_lt_top, fun l _ => runMax_lt c r l _ fun j hj b => ?_⟩
        rw [half_apply, hc j (by omega)]
        exact lt_top_iff_ne_top.2 (hS _ _).2
    have hlt : peak0 (runMax c (m - 1)) r < at0 (high0 (runMax c (m - 1))) r := by
      rw [high0_apply]
      obtain ⟨x, hx⟩ := isReal_iff.1 hreal
      have hmax : max ((x : ℝ) : EReal) (-(x : EReal)) = ((max x (-x) : ℝ) : EReal) := by
        rw [← EReal.coe_neg]; exact (EReal.coe_strictMono.monotone.map_max).symm
      rw [hx, hmax, ← EReal.coe_mul, ← EReal.coe_add, ← EReal.coe_one, ← EReal.coe_add, EReal.coe_lt_coe_iff]
      have : 0 ≤ max x (-x) := by rw [← abs_eq_max_neg]; exact abs_nonneg x
      have := mul_nonneg this (by norm_num : (0 : ℝ) ≤ 1024⁻¹)
      linarith
    show (Finset.univ.filter _).card < 256
    rw [Finset.filter_eq_empty_iff.2 fun i _ => not_le.2 ?_]
    · exact Nat.zero_lt_succ 255
    · unfold visible
      split_ifs
      · exact (hle i).trans_lt hlt
      · exact bot_le.trans_lt hlt

/-- A searching branch's mask: open exactly at the keys attended. -/
theorem mask_apply (h1 : 1 < m) (hm : m ≤ 8) (a : Fin 16) (ha : 2 ≤ a.val) (ha' : a.val < 2 * m) {S : Fin 128 → Fin 2048 → EReal} (hS : ∀ r j, IsReal (S r j))
    {c : ℕ → FVec Ideal S128x256 .f32} (hc : Holds m hm S c) (L L' : Scf.Loop 32) (hL' : 256 ≤ L'.trips)
    (g : FVec Ideal (W m) .f32 → Two Ideal → Two Ideal) (hg : ∀ x r s, Good x r s → Good x r (g x s)) (r : Fin 128) (j : Fin (256 * m)) :
    searched H L L' g (masked H h1 (BitVec.ofNat 32 a.val) c) (low0 (runMin c (m - 1))) (high0 (runMax c (m - 1))) (ix2 r j)
      = if Sel (S r) (128 * a.val + r.val) (Fin.castLE (le8 hm) j) then (0 : EReal) else ⊥ := by
  rw [searched_apply H L L' hL' g _ (hg _) _ _ (start_good H h1 hm a ha hS hc) r j, masked_apply H h1 hm a hc]
  exact if_congr (sel_first (le8 hm) (by omega) (by omega) (fun j => bot_lt_iff_ne_bot.2 (hS r j).1) j) rfl rfl

end branch

end Attn
-- ==== Proof.Heads.lean ====
/-
  The attention of a block, read at a query, a head and a lane.
-/
module

public import proofs.«01_k».proof.Proof.Scores
public import Idealize.ShloMosaic.Lib.KernelVsHost

@[expose] public section

noncomputable section

namespace Attn

open Idealize.ShloMosaic Idealize.ShloMosaic.ValueIdx
open Cert.KernelIdeal Cert.KernelIdeal.Gen
open scoped Classical

/-- A lane of a head's keys and values: four heads share each of the two. -/
abbrev kvLane (h : Fin 8) (d : Fin 64) : Fin 128 := ⟨64 * (h.val / 4) + d.val, by omega⟩

/-- A query's attention score against a key. -/
def sdot (x0 : Vec Ideal S128x512 .f32) (x3 : Vec Ideal S1x128x2048 .bf16) (r : Fin 128) (h : Fin 8) (j : Fin 2048) : EReal :=
  ∑ d : Fin 64, x0 (ix2 r (lane h d)) * ((8⁻¹ : ℝ) : EReal) * x3 (ix3 0 (kvLane h d) j)

/-- The attention of a block: query `r`, head `h`, lane `d`. -/
def att (x0 : Vec Ideal S128x512 .f32) (x3 x5 : Vec Ideal S1x128x2048 .bf16) (P : Fin 128 → Fin 2048 → Prop) (r : Fin 128) (h : Fin 8) (d : Fin 64) : EReal :=
  attn (sdot x0 x3 r h) (P r) fun j => x5 (ix3 0 (kvLane h d) j)

theorem aq_apply (x : Vec Ideal S128x512 .f32) (i : S128x512.Idx) : aq x i = x i * ((8⁻¹ : ℝ) : EReal) := by
  unfold aq
  rw [truncf_apply, mulf_apply, shapeCast_apply _ _ _ i rfl]
  show _ * Ideal.ofBits .f32 0x3E000000#32 = _
  rw [ofBits_eighth]

variable {m : ℕ} (H : Wide m)

theorem logits_apply (bs : FVec Ideal (W m) .f32) (xq : Vec Ideal S128x512 .f32) (xk : Vec Ideal ⟨3, ![1, 128, 256 * m]⟩ .bf16) (h : Fin 8) (g : Fin 2)
    (r : Fin 128) (j : Fin (256 * m)) :
    logits H bs xq xk h g (ix2 r j)
      = (∑ d : Fin 64, xq (ix2 r (lane h d)) * ((8⁻¹ : ℝ) : EReal) * xk (ix3 0 ⟨64 * g.val + d.val, by omega⟩ j)) + bs (ix2 r j) := by
  unfold logits
  rw [addf_apply]
  refine congrArg (· + bs (ix2 r j)) ?_
  refine (Ideal.matmul_plain_apply _ _ _ _ r j).trans ?_
  rw [show constant (F := Ideal) (W m) .f32 0x00000000#32 (ix2 r j) = (0 : EReal) from Ideal.ofBits_zero_f32, zero_add]
  refine Finset.sum_congr rfl fun d _ => ?_
  rw [extractStridedSlice_apply _ (aq xq) _ _ (ix2 r (lane h d)) (by
    intro a; fin_cases a
    · exact (Nat.zero_add _).symm
    · rfl), aq_apply]
  rw [extractStridedSlice_apply _ _ _ _ (ix2 ⟨64 * g.val + d.val, by omega⟩ j) (by
    intro a; fin_cases a
    · rfl
    · exact (Nat.zero_add _).symm)]
  rw [shapeCast_1ab_ab_apply]

theorem mix_apply (s : FVec Ideal (W m) .f32) (xv : Vec Ideal ⟨3, ![1, 128, 256 * m]⟩ .bf16) (r c : Fin 128) :
    mix H s xv (ix2 r c) = Ideal.div (∑ j, weights H s (ix2 r j) * xv (ix3 0 c j)) (∑ j, weights H s (ix2 r j)) := by
  unfold mix
  rw [divf_apply]
  refine congrArg₂ Ideal.div ?_ ?_
  · refine (Ideal.matmul_transposedRhs_apply _ _ _ _ r c).trans ?_
    rw [show constant (F := Ideal) S128x128 .f32 0x00000000#32 (ix2 r c) = (0 : EReal) from Ideal.ofBits_zero_f32, zero_add]
    refine Finset.sum_congr rfl fun j _ => ?_
    rw [truncf_apply, shapeCast_1ab_ab_apply]
  · rw [broadcastTo_apply _ _ _ (ix2 r 0) (fun a => by fin_cases a <;> rfl)]
    exact rowSum_apply H _ r

theorem weights_apply (s : FVec Ideal (W m) .f32) (r : Fin 128) (j : Fin (256 * m)) :
    weights H s (ix2 r j) = Ideal.exp (s (ix2 r j) - Finset.univ.sup (row s r)) := by
  unfold weights
  show Ideal.exp (s (ix2 r j) - broadcastTo (W m) (rowMax H s) H.bc (ix2 r j)) = _
  rw [spread_apply H]
  exact congrArg (fun y => Ideal.exp (s (ix2 r j) - y)) (rowMax_apply H s r)

/-- A head's output is the attention over the keys its mask leaves open. -/
theorem headOut_apply (bs : FVec Ideal (W m) .f32) (xq : Vec Ideal S128x512 .f32) (xk xv : Vec Ideal ⟨3, ![1, 128, 256 * m]⟩ .bf16) (h : Fin 8) (g : Fin 2)
    (r c : Fin 128) (P : Fin (256 * m) → Prop) (hP : ∀ j, bs (ix2 r j) = if P j then (0 : EReal) else ⊥) :
    headOut H bs xq xk xv h g (ix2 r c)
      = attn (fun j => ∑ d : Fin 64, xq (ix2 r (lane h d)) * ((8⁻¹ : ℝ) : EReal) * xk (ix3 0 ⟨64 * g.val + d.val, by omega⟩ j)) P
          (fun j => xv (ix3 0 c j)) := by
  unfold headOut
  rw [mix_apply]
  have hl : ∀ j, logits H bs xq xk h g (ix2 r j) = if P j then
      (∑ d : Fin 64, xq (ix2 r (lane h d)) * ((8⁻¹ : ℝ) : EReal) * xk (ix3 0 ⟨64 * g.val + d.val, by omega⟩ j)) else ⊥ := fun j => by
    rw [logits_apply, hP]
    split_ifs
    · exact add_zero _
    · exact EReal.add_bot _
  have hw : ∀ j, weights H (logits H bs xq xk h g) (ix2 r j)
      = wt (fun j => ∑ d : Fin 64, xq (ix2 r (lane h d)) * ((8⁻¹ : ℝ) : EReal) * xk (ix3 0 ⟨64 * g.val + d.val, by omega⟩ j)) P j := fun j => by
    rw [weights_apply, show row (logits H bs xq xk h g) r = _ from funext hl, hl]
    unfold wt peak
    split_ifs
    · rfl
    · rw [EReal.bot_sub]; rfl
  unfold attn
  simp only [hw]

theorem turn_apply (x : FVec Ideal S128x128 .f32) (r l l' : Fin 128) (h : l'.val = (l.val + 64) % 128) : turn x (ix2 r l) = x (ix2 r l') := by
  unfold turn
  refine dynamicRotate_apply _ _ _ _ _ _ ?_
  intro b; fin_cases b
  · rfl
  · show l'.val = _
    rw [h]; rfl

theorem beside_apply (a b : FVec Ideal S128x128 .f32) (r l : Fin 128) : beside a b (ix2 r l) = if l.val < 64 then a (ix2 r l) else b (ix2 r l) := by
  unfold beside
  rw [sel]
  refine if_congr ?_ rfl rfl
  show IntOp.cmpi .slt (iota .tc S128x128 32 [1] iota_S128x128_d1_w32 (ix2 r l)) 64#32 = 1#1 ↔ _
  rw [iota_single_apply]
  show IntOp.cmpi .slt (BitVec.ofNat 32 l.val) 64#32 = 1#1 ↔ l.val < 64
  revert l; decide

theorem ld_kv {w : ℕ} (hw : w ≤ 8) (inb : ∀ a, (![0, 0, 0] : Fin 3 → Nat) a + (⟨3, ![1, 128, 256 * w]⟩ : Shape).size a ≤ S1x128x2048.size a)
    (x : Vec Ideal S1x128x2048 .bf16) (p : Fin 128) (j : Fin (256 * w)) :
    View.ld (Val := Elt Ideal) (e' := .bf16) x (rKV w inb) (ix3 0 p j) = x (ix3 0 p (Fin.castLE (le8 hw) j)) := by
  refine congrArg x (funext fun a => Fin.ext ?_)
  show (![0, 0, 0] : Fin 3 → ℕ) a + 1 * ((ix3 0 p j : (⟨3, ![1, 128, 256 * w]⟩ : Shape).Idx) a).val = ((ix3 0 p (Fin.castLE (le8 hw) j) : S1x128x2048.Idx) a).val
  fin_cases a <;> simp [ix3]

/-- The place of a head and lane in the written block. -/
def spot (G : Fin 128 → Fin 8 → Fin 64 → EReal) (y : S128x512.Idx) : EReal :=
  G (y 0) ⟨(y 1).val / 64, by have := (y 1).isLt; change (y 1).val < 512 at this; omega⟩ ⟨(y 1).val % 64, Nat.mod_lt _ (by decide)⟩

theorem spot_emb (G : Fin 128 → Fin 8 → Fin 64 → EReal) (o : ℕ) (ho : o + 128 ≤ 512) (ho' : o % 128 = 0)
    (inb : ∀ a, (![0, o] : Fin 2 → ℕ) a + S128x128.size a ≤ S128x512.size a) (r l : Fin 128) :
    spot G ((Rect.unit (s := S128x512) ![0, o] S128x128.size inb).emb (ix2 r l))
      = if l.val < 64 then G r ⟨o / 64, by omega⟩ ⟨l.val % 64, Nat.mod_lt _ (by decide)⟩ else G r ⟨o / 64 + 1, by omega⟩ ⟨l.val % 64, Nat.mod_lt _ (by decide)⟩ := by
  have e0 : (Rect.unit (s := S128x512) ![0, o] S128x128.size inb).emb (ix2 r l) 0 = r := Fin.ext (by
    show 0 + 1 * r.val = r.val; omega)
  have e1 : ((Rect.unit (s := S128x512) ![0, o] S128x128.size inb).emb (ix2 r l) 1).val = o + l.val := by
    show o + 1 * l.val = o + l.val; omega
  unfold spot
  rw [e0]
  have hl := l.isLt
  split_ifs with h
  · congr 1 <;> refine Fin.ext ?_
    · show _ / 64 = o / 64; rw [e1]; omega
    · show _ % 64 = l.val % 64; rw [e1]; omega
  · congr 1 <;> refine Fin.ext ?_
    · show _ / 64 = o / 64 + 1; rw [e1]; omega
    · show _ % 64 = l.val % 64; rw [e1]; omega

theorem written_apply (G : Fin 128 → Fin 8 → Fin 64 → EReal) (p0 p1 p2 p3 : FVec Ideal S128x128 .f32)
    (h0 : ∀ r l : Fin 128, p0 (ix2 r l) = if l.val < 64 then G r 0 ⟨l.val % 64, Nat.mod_lt _ (by decide)⟩ else G r 1 ⟨l.val % 64, Nat.mod_lt _ (by decide)⟩)
    (h1 : ∀ r l : Fin 128, p1 (ix2 r l) = if l.val < 64 then G r 2 ⟨l.val % 64, Nat.mod_lt _ (by decide)⟩ else G r 3 ⟨l.val % 64, Nat.mod_lt _ (by decide)⟩)
    (h2 : ∀ r l : Fin 128, p2 (ix2 r l) = if l.val < 64 then G r 4 ⟨l.val % 64, Nat.mod_lt _ (by decide)⟩ else G r 5 ⟨l.val % 64, Nat.mod_lt _ (by decide)⟩)
    (h3 : ∀ r l : Fin 128, p3 (ix2 r l) = if l.val < 64 then G r 6 ⟨l.val % 64, Nat.mod_lt _ (by decide)⟩ else G r 7 ⟨l.val % 64, Nat.mod_lt _ (by decide)⟩)
    (y : S128x512.Idx) : written p0 p1 p2 p3 y = spot G y := by
  refine View.canon_apply_of_pieces (Val := Elt Ideal) (e := .f32) (spot G) _ ?_ y (cover_written (F := Ideal) p0 p1 p2 p3 y)
  intro p hp x
  simp only [List.mem_cons, List.mem_nil_iff, or_false] at hp
  rcases hp with rfl | rfl | rfl | rfl
  · exact (congrArg p3 (eq_ix2 x)).trans ((h3 _ _).trans ((spot_emb G 384 (by decide) (by decide) inb_S128x512_S128x128_0_384 _ _).symm.trans
      (congrArg (fun x => spot G (rO3.emb x)) (eq_ix2 x).symm)))
  · exact (congrArg p2 (eq_ix2 x)).trans ((h2 _ _).trans ((spot_emb G 256 (by decide) (by decide) inb_S128x512_S128x128_0_256 _ _).symm.trans
      (congrArg (fun x => spot G (rO2.emb x)) (eq_ix2 x).symm)))
  · exact (congrArg p1 (eq_ix2 x)).trans ((h1 _ _).trans ((spot_emb G 128 (by decide) (by decide) inb_S128x512_S128x128_0_128 _ _).symm.trans
      (congrArg (fun x => spot G (rO1.emb x)) (eq_ix2 x).symm)))
  · exact (congrArg p0 (eq_ix2 x)).trans ((h0 _ _).trans ((spot_emb G 0 (by decide) (by decide) inb_S128x512_S128x128_0_0 _ _).symm.trans
      (congrArg (fun x => spot G (rO0.emb x)) (eq_ix2 x).symm)))

section block

variable {w : ℕ} (hw : w ≤ 8) (K : Wide w) (inb : ∀ a, (![0, 0, 0] : Fin 3 → Nat) a + (⟨3, ![1, 128, 256 * w]⟩ : Shape).size a ≤ S1x128x2048.size a)
  (bs : FVec Ideal (W w) .f32) (x0 : Vec Ideal S128x512 .f32) (x3 x5 : Vec Ideal S1x128x2048 .bf16) (P : Fin 128 → Fin 2048 → Prop)
  (hbs : ∀ r j, bs (ix2 r j) = if P r (Fin.castLE (le8 hw) j) then (0 : EReal) else ⊥) (hP : ∀ r j, P r j → j.val < 256 * w)

include hbs hP

/-- A head's output in a block, at the lane its values lie in. -/
theorem head_block (h : Fin 8) (g : Fin 2) (hg : g.val = h.val / 4) (r c : Fin 128) (d : Fin 64) (hc : c.val = 64 * g.val + d.val) :
    headOut K bs (View.ld (Val := Elt Ideal) (e' := .f32) x0 rQ) (View.ld (Val := Elt Ideal) (e' := .bf16) x3 (rKV w inb))
      (View.ld (Val := Elt Ideal) (e' := .bf16) x5 (rKV w inb)) h g (ix2 r c) = att x0 x3 x5 P r h d := by
  rw [headOut_apply K _ _ _ _ h g r c (fun j => P r (Fin.castLE (le8 hw) j)) (hbs r)]
  unfold att
  rw [← attn_first (le8 hw) (sdot x0 x3 r h) (P r) (fun j => x5 (ix3 0 (kvLane h d) j)) (hP r)]
  have hcl : c = kvLane h d := Fin.ext (by show c.val = 64 * (h.val / 4) + d.val; rw [hc, hg])
  congr 1
  · funext j
    unfold sdot
    refine Finset.sum_congr rfl fun e _ => ?_
    rw [ld_q, ld_kv hw inb]
    refine congrArg (fun y => _ * x3 (ix3 0 y _)) (Fin.ext ?_)
    show 64 * g.val + e.val = 64 * (h.val / 4) + e.val
    rw [hg]
  · funext j
    rw [ld_kv hw inb, hcl]

theorem pairLow_block (h h' : Fin 8) (hh : h.val < 4) (hh' : h'.val < 4) (r l : Fin 128) :
    pairLow K bs (View.ld (Val := Elt Ideal) (e' := .f32) x0 rQ) (View.ld (Val := Elt Ideal) (e' := .bf16) x3 (rKV w inb))
      (View.ld (Val := Elt Ideal) (e' := .bf16) x5 (rKV w inb)) h h' (ix2 r l)
      = if l.val < 64 then att x0 x3 x5 P r h ⟨l.val % 64, Nat.mod_lt _ (by decide)⟩ else att x0 x3 x5 P r h' ⟨l.val % 64, Nat.mod_lt _ (by decide)⟩ := by
  unfold pairLow
  rw [beside_apply]
  split_ifs with hl
  · refine head_block hw K inb bs x0 x3 x5 P hbs hP h 0 ?_ r l _ ?_
    · show 0 = _; omega
    · show l.val = 64 * 0 + l.val % 64; omega
  · rw [turn_apply _ r l ⟨(l.val + 64) % 128, Nat.mod_lt _ (by decide)⟩ rfl]
    refine head_block hw K inb bs x0 x3 x5 P hbs hP h' 0 ?_ r _ _ ?_
    · show 0 = _; omega
    · show (l.val + 64) % 128 = 64 * 0 + l.val % 64; omega

theorem pairHigh_block (h h' : Fin 8) (hh : 4 ≤ h.val) (hh' : 4 ≤ h'.val) (r l : Fin 128) :
    pairHigh K bs (View.ld (Val := Elt Ideal) (e' := .f32) x0 rQ) (View.ld (Val := Elt Ideal) (e' := .bf16) x3 (rKV w inb))
      (View.ld (Val := Elt Ideal) (e' := .bf16) x5 (rKV w inb)) h h' (ix2 r l)
      = if l.val < 64 then att x0 x3 x5 P r h ⟨l.val % 64, Nat.mod_lt _ (by decide)⟩ else att x0 x3 x5 P r h' ⟨l.val % 64, Nat.mod_lt _ (by decide)⟩ := by
  unfold pairHigh
  rw [beside_apply]
  split_ifs with hl
  · rw [turn_apply _ r l ⟨(l.val + 64) % 128, Nat.mod_lt _ (by decide)⟩ rfl]
    refine head_block hw K inb bs x0 x3 x5 P hbs hP h 1 ?_ r _ _ ?_
    · show 1 = _; omega
    · show (l.val + 64) % 128 = 64 * 1 + l.val % 64; omega
  · refine head_block hw K inb bs x0 x3 x5 P hbs hP h' 1 ?_ r l _ ?_
    · show 1 = _; omega
    · show l.val = 64 * 1 + l.val % 64; omega

/-- What a branch writes. -/
theorem attended_apply (y : S128x512.Idx) :
    attended K inb bs x0 x3 x5 y = spot (att x0 x3 x5 P) y := by
  unfold attended
  exact written_apply (att x0 x3 x5 P) _ _ _ _
    (pairLow_block hw K inb bs x0 x3 x5 P hbs hP 0 1 (by decide) (by decide))
    (pairLow_block hw K inb bs x0 x3 x5 P hbs hP 2 3 (by decide) (by decide))
    (pairHigh_block hw K inb bs x0 x3 x5 P hbs hP 4 5 (by decide) (by decide))
    (pairHigh_block hw K inb bs x0 x3 x5 P hbs hP 6 7 (by decide) (by decide)) y

end block

end Attn
-- ==== Proof.Block.lean ====
/-
  What the body leaves at a grid point, read at an entry: the attention of the block's queries over the keys attended.
-/
module

public import proofs.«01_k».proof.Proof.Heads

@[expose] public section

noncomputable section

namespace Attn

open Idealize.ShloMosaic Idealize.ShloMosaic.ValueIdx
open Cert.KernelIdeal Cert.KernelIdeal.Gen
open scoped Classical

/-- Which branch a grid column takes. -/
theorem conds : ∀ i : grid0.Coords, (k0_cond1 i = 1#1 ↔ (i 1).val < 2) ∧ (k0_cond2 i = 1#1 ↔ 2 ≤ (i 1).val ∧ (i 1).val < 4)
    ∧ (k0_cond5 i = 1#1 ↔ 4 ≤ (i 1).val ∧ (i 1).val < 8) ∧ (k0_cond8 i = 1#1 ↔ 8 ≤ (i 1).val ∧ (i 1).val < 12) := by decide +kernel

variable (x0 x1 : Vec Ideal S128x512 .f32) (x2 : Vec Ideal S128x128 .f32) (x3 : Vec Ideal S1x128x2048 .bf16) (x4 : Vec Ideal S1x64x2048 .bf16)
  (x5 : Vec Ideal S1x128x2048 .bf16)

theorem holds512 : Holds 2 (by decide) (score x1 x2 x4) (chunks512 x1 x2 x4) := by
  intro j hj r l
  interval_cases j
  exacts [chunk_apply x1 x2 x4 0 r l, chunk_apply x1 x2 x4 1 r l]

theorem holds1024 : Holds 4 (by decide) (score x1 x2 x4) (chunks1024 x1 x2 x4) := by
  intro j hj r l
  interval_cases j
  exacts [chunk_apply x1 x2 x4 0 r l, chunk_apply x1 x2 x4 1 r l, chunk_apply x1 x2 x4 2 r l, chunk_apply x1 x2 x4 3 r l]

theorem holds1536 : Holds 6 (by decide) (score x1 x2 x4) (chunks1536 x1 x2 x4) := by
  intro j hj r l
  interval_cases j
  exacts [chunk_apply x1 x2 x4 0 r l, chunk_apply x1 x2 x4 1 r l, chunk_apply x1 x2 x4 2 r l, chunk_apply x1 x2 x4 3 r l, chunk_apply x1 x2 x4 4 r l,
    chunk_apply x1 x2 x4 5 r l]

theorem holds2048 : Holds 8 (by decide) (score x1 x2 x4) (chunks2048 x1 x2 x4) := by
  intro j hj r l
  interval_cases j
  exacts [chunk_apply x1 x2 x4 0 r l, chunk_apply x1 x2 x4 1 r l, chunk_apply x1 x2 x4 2 r l, chunk_apply x1 x2 x4 3 r l, chunk_apply x1 x2 x4 4 r l,
    chunk_apply x1 x2 x4 5 r l, chunk_apply x1 x2 x4 6 r l, chunk_apply x1 x2 x4 7 r l]

/-- The keys a block's queries attend to, at grid column `a`. -/
def Open (a : ℕ) (r : Fin 128) : Fin 2048 → Prop := Sel (score x1 x2 x4 r) (128 * a + r.val)

theorem out_apply (i : grid0.Coords) (hS : ∀ r j, IsReal (score x1 x2 x4 r j)) (y : S128x512.Idx) :
    out0_6 i x0 x1 x2 x3 x4 x5 y = spot (att x0 x3 x5 (Open x1 x2 x4 (i 1).val)) y := by
  have hbot : ∀ r j, ⊥ < score x1 x2 x4 r j := fun r j => bot_lt_iff_ne_bot.2 (hS r j).1
  obtain ⟨h1, h2, h5, h8⟩ := conds i
  have hi : (i 1).val < 16 := (i 1).isLt
  have hP : ∀ (w : ℕ), (i 1).val < 2 * w → ∀ r j, Open x1 x2 x4 (i 1).val r j → j.val < 256 * w := fun w hw r j h => by
    have := h.1
    have := r.isLt
    omega
  unfold out0_6
  split_ifs with c1 c2 c5 c8
  · have := h1.1 c1
    refine attended_apply (by decide) wide1 _ _ x0 x3 x5 (Open x1 x2 x4 (i 1).val) (fun r j => ?_) (hP 1 (by omega)) y
    rw [dense_apply wide1 (by decide) ⟨(i 1).val, hi⟩ r j]
    exact if_congr (sel_dense (by show 128 * (i 1).val + r.val < 256; omega) (hbot r) (Fin.castLE (le8 (by decide)) j)) rfl rfl
  · have := h2.1 c2
    refine attended_apply (by decide) wide2 _ _ x0 x3 x5 (Open x1 x2 x4 (i 1).val) (fun r j => ?_) (hP 2 (by omega)) y
    exact mask_apply wide2 (by decide) (by decide) ⟨(i 1).val, hi⟩ (by show 2 ≤ (i 1).val; omega) (by show (i 1).val < _; omega) hS (holds512 x1 x2 x4) _ _ (by decide) _
      (fun x r s => quarter_good wide2) r j
  · have := h5.1 c5
    refine attended_apply (by decide) wide4 _ _ x0 x3 x5 (Open x1 x2 x4 (i 1).val) (fun r j => ?_) (hP 4 (by omega)) y
    exact mask_apply wide4 (by decide) (by decide) ⟨(i 1).val, hi⟩ (by show 2 ≤ (i 1).val; omega) (by show (i 1).val < _; omega) hS (holds1024 x1 x2 x4) _ _ (by decide) _
      (fun x r s => quarter_good wide4) r j
  · have := h8.1 c8
    refine attended_apply (by decide) wide6 _ _ x0 x3 x5 (Open x1 x2 x4 (i 1).val) (fun r j => ?_) (hP 6 (by omega)) y
    exact mask_apply wide6 (by decide) (by decide) ⟨(i 1).val, hi⟩ (by show 2 ≤ (i 1).val; omega) (by show (i 1).val < _; omega) hS (holds1536 x1 x2 x4) _ _ (by decide) _
      (fun x r s => bisect_good wide6) r j
  · have := (not_congr h1).1 c1
    refine attended_apply (by decide) wide8 _ _ x0 x3 x5 (Open x1 x2 x4 (i 1).val) (fun r j => ?_) (hP 8 (by omega)) y
    exact mask_apply wide8 (by decide) (by decide) ⟨(i 1).val, hi⟩ (by show 2 ≤ (i 1).val; omega) (by show (i 1).val < _; omega) hS (holds2048 x1 x2 x4) _ _ (by decide) _
      (fun x r s => bisect_good wide8) r j

end Attn
-- ==== Proof.Target.lean ====
/-
  The attention as a function of the arguments: for every sequence, position, head and lane, the weighted mean of the values of the keys attended.
-/
module

public import proofs.«01_k».proof.Proof.Spec
public import Idealize.ShloMosaic.Lib.ValueIdx

@[expose] public section

noncomputable section

namespace Attn

open Idealize.ShloMosaic Idealize.ShloMosaic.ValueIdx
open scoped Classical

/-- The shapes of the arguments: queries, keys and values, index keys, index weights. -/
abbrev Qs : Shape := ⟨4, ![16, 2048, 8, 64]⟩
abbrev Ks : Shape := ⟨4, ![16, 2048, 2, 64]⟩
abbrev Is : Shape := ⟨3, ![16, 2048, 64]⟩
abbrev Ws : Shape := ⟨3, ![16, 2048, 8]⟩

/-- The key head a query head reads: four query heads share each of the two. -/
abbrev kvHead (h : Fin 8) : Fin 2 := ⟨h.val / 4, by omega⟩

variable (q : Qs.Idx → EReal) (k v : Ks.Idx → EReal) (qi : Qs.Idx → EReal) (ki : Is.Idx → EReal) (wi : Ws.Idx → EReal)

/-- The index score of key `j` for the query at position `p` of sequence `b`. -/
def indexScore (b : Fin 16) (p j : Fin 2048) : EReal :=
  ∑ h : Fin 8, max (∑ d : Fin 64, qi (ix4 b p h d) * ki (ix3 b j d)) 0 * (wi (ix3 b p h) * ((8⁻¹ : ℝ) : EReal))

/-- The attention score of key `j` for head `h` of that query. -/
def headScore (b : Fin 16) (p : Fin 2048) (h : Fin 8) (j : Fin 2048) : EReal :=
  ∑ d : Fin 64, q (ix4 b p h d) * ((8⁻¹ : ℝ) : EReal) * k (ix4 b j (kvHead h) d)

/-- The attention of that query, head by head and lane by lane, over the keys its index scores choose. -/
def attention (b : Fin 16) (p : Fin 2048) (h : Fin 8) (d : Fin 64) : EReal :=
  attn (headScore q k b p h) (Sel (indexScore qi ki wi b p) p.val) fun j => v (ix4 b j (kvHead h) d)

/-- The attention as the array it is returned in: a row per query, the heads' lanes side by side. -/
def result (i : (⟨2, ![32768, 512]⟩ : Shape).Idx) : EReal :=
  attention q k v qi ki wi ⟨(i 0).val / 2048, Nat.div_lt_of_lt_mul (i 0).isLt⟩ ⟨(i 0).val % 2048, Nat.mod_lt _ (by decide)⟩
    ⟨(i 1).val / 64, Nat.div_lt_of_lt_mul (i 1).isLt⟩ ⟨(i 1).val % 64, Nat.mod_lt _ (by decide)⟩

theorem result_at (i : (⟨2, ![32768, 512]⟩ : Shape).Idx) (b : Fin 16) (p : Fin 2048) (h : Fin 8) (d : Fin 64) (h0 : (i 0).val = b.val * 2048 + p.val)
    (h1 : (i 1).val = 64 * h.val + d.val) : result q k v qi ki wi i = attention q k v qi ki wi b p h d := by
  unfold result
  congr 1 <;> refine Fin.ext ?_
  · show (i 0).val / 2048 = b.val
    omega
  · show (i 0).val % 2048 = p.val
    omega
  · show (i 1).val / 64 = h.val
    omega
  · show (i 1).val % 64 = d.val
    omega

variable {q k qi ki wi}

/-- Of real queries, keys and weights the index scores are real. -/
theorem indexScore_real (hq : ∀ i, IsReal (qi i)) (hk : ∀ i, IsReal (ki i)) (hw : ∀ i, IsReal (wi i)) (b : Fin 16) (p j : Fin 2048) :
    IsReal (indexScore qi ki wi b p j) :=
  IsReal.sum _ _ fun h _ => ((IsReal.sum _ _ fun d _ => (hq _).mul (hk _)).max_zero).mul ((hw _).mul ((isReal_iff).2 ⟨_, rfl⟩))

/-- Of real queries and keys the attention scores are real. -/
theorem headScore_real (hq : ∀ i, IsReal (q i)) (hk : ∀ i, IsReal (k i)) (b : Fin 16) (p : Fin 2048) (h : Fin 8) (j : Fin 2048) :
    IsReal (headScore q k b p h j) :=
  IsReal.sum _ _ fun d _ => ((hq _).mul ((isReal_iff).2 ⟨_, rfl⟩)).mul (hk _)

end Attn
-- ==== Proof.Arrays.lean ====
/-
  The array the kernel leaves: the attention of the arguments.
-/
module

public import proofs.«01_k».proof.Proof.Block
public import proofs.«01_k».proof.Proof.Target
public import proofs.«01_k».proof.Proof.Launch
public import Idealize.ShloMosaic.Lib.Pipeline.ValueKit.Geometry
public import Idealize.ShloMosaic.Lib.Claim

@[expose] public section

set_option maxRecDepth 16384

noncomputable section

namespace Attn

open Idealize.ShloMosaic Idealize.ShloMosaic.TcCoe Idealize.SL.Sem
open Idealize.ShloMosaic.Pipeline (Dat)
open Idealize.ShloMosaic.ValueIdx
open Cert.KernelIdeal Cert.KernelIdeal.Gen
open scoped Classical

variable (m : (ℓ : Loc nD τ sig) → Buf (Elt Ideal) ℓ) (c : Dev nD)

/-- The arguments, as arrays. -/
abbrev argQ : Qs.Idx → EReal := m ((c : Thread nD τ).loc main_arg0)
abbrev argK : Ks.Idx → EReal := m ((c : Thread nD τ).loc main_arg1)
abbrev argV : Ks.Idx → EReal := m ((c : Thread nD τ).loc main_arg2)
abbrev argQi : Qs.Idx → EReal := m ((c : Thread nD τ).loc main_arg3)
abbrev argKi : Is.Idx → EReal := m ((c : Thread nD τ).loc main_arg4)
abbrev argWi : Ws.Idx → EReal := m ((c : Thread nD τ).loc main_arg5)

/-- The windows' index maps. -/
theorem idx : ∀ t : Fin cfg0.N, win0_0.index t = ![(grid0.coords t 0).val * 16 + (grid0.coords t 1).val, 0]
    ∧ win0_1.index t = ![(grid0.coords t 0).val * 16 + (grid0.coords t 1).val, 0]
    ∧ win0_2.index t = ![(grid0.coords t 0).val * 16 + (grid0.coords t 1).val, 0]
    ∧ win0_3.index t = ![(grid0.coords t 0).val, 0, 0] ∧ win0_4.index t = ![(grid0.coords t 0).val, 0, 0] ∧ win0_5.index t = ![(grid0.coords t 0).val, 0, 0]
    ∧ win0_6.index t = ![(grid0.coords t 0).val * 16 + (grid0.coords t 1).val, 0] :=
  (by decide +kernel : ∀ t : Fin grid0.N, _)

/-- The query of row `r` of the block at point `t`: its sequence and its position. -/
abbrev seqAt (t : Fin cfg0.N) : Fin 16 := ⟨(grid0.coords t 0).val, (grid0.coords t 0).isLt⟩
abbrev posAt (t : Fin cfg0.N) (r : Fin 128) : Fin 2048 := ⟨128 * (grid0.coords t 1).val + r.val, by have : (grid0.coords t 1).val < 16 := (grid0.coords t 1).isLt; omega⟩

/-- What the region finds in the arrays the blocks are read from. -/
theorem V_q : (V m c main_v10 : S32768x512.Idx → EReal) = shapeCast S32768x512 (argQ m c) shapeCasts_S16x2048x8x64_S32768x512 := rfl

theorem V_qi : (V m c main_v11 : S32768x512.Idx → EReal) = shapeCast S32768x512 (argQi m c) shapeCasts_S16x2048x8x64_S32768x512 := rfl

theorem V_k : (V m c main_v2 : S16x128x2048.Idx → EReal)
    = shapeCast S16x128x2048 (transpose S16x2x64x2048 [0, 2, 3, 1] (argK m c) transposes_S16x2048x2x64_S16x2x64x2048_0_2_3_1) shapeCasts_S16x2x64x2048_S16x128x2048 := rfl

theorem V_v : (V m c main_v5 : S16x128x2048.Idx → EReal)
    = shapeCast S16x128x2048 (transpose S16x2x64x2048 [0, 2, 3, 1] (argV m c) transposes_S16x2048x2x64_S16x2x64x2048_0_2_3_1) shapeCasts_S16x2x64x2048_S16x128x2048 := rfl

theorem V_ki : (V m c main_v7 : S16x64x2048.Idx → EReal) = transpose S16x64x2048 [0, 2, 1] (argKi m c) transposes_S16x2048x64_S16x64x2048_0_2_1 := rfl

theorem V_w : (V m c main_v9 : S32768x128.Idx → EReal)
    = pad S32768x128 ![0, 0] ![0, 120] ![0, 0] (shapeCast S32768x8 (argWi m c) shapeCasts_S16x2048x8_S32768x8) (sitofp (F := Ideal) .f32 (constantI S_ 32 0#32)) pads_S32768x8_S32768x128_000_01200 h_S_ := rfl

/-- A row of queries, their heads' lanes side by side, read at a position. -/
theorem rows_at (x : Qs.Idx → EReal) (t : Fin cfg0.N) (r : Fin 128) (h : Fin 8) (d : Fin 64) (i : S32768x512.Idx)
    (h0 : (i 0).val = ((grid0.coords t 0).val * 16 + (grid0.coords t 1).val) * 128 + r.val) (h1 : (i 1).val = 64 * h.val + d.val) :
    shapeCast S32768x512 x shapeCasts_S16x2048x8x64_S32768x512 i = x (ix4 (seqAt t) (posAt t r) h d) := by
  refine shapeCast_apply _ _ _ _ ?_
  rw [Shape.rowMajor_val_four, Shape.rowMajor_val_two]
  show (((grid0.coords t 0).val * 2048 + (128 * (grid0.coords t 1).val + r.val)) * 8 + h.val) * 64 + d.val = (i 0).val * 512 + (i 1).val
  rw [h0, h1]
  omega

/-- The keys of a sequence, a lane per row, read at a position. -/
theorem lanes_at (x : Ks.Idx → EReal) (t : Fin cfg0.N) (h : Fin 8) (d : Fin 64) (j : Fin 2048) (i : S16x128x2048.Idx)
    (h0 : (i 0).val = (grid0.coords t 0).val) (h1 : (i 1).val = 64 * (h.val / 4) + d.val) (h2 : (i 2).val = j.val) :
    shapeCast S16x128x2048 (transpose S16x2x64x2048 [0, 2, 3, 1] x transposes_S16x2048x2x64_S16x2x64x2048_0_2_3_1) shapeCasts_S16x2x64x2048_S16x128x2048 i
      = x (ix4 (seqAt t) j (kvHead h) d) := by
  refine (shapeCast_apply _ _ _ (ix4 (seqAt t) (kvHead h) d j) ?_).trans ?_
  · rw [Shape.rowMajor_val_four, Shape.rowMajor_val_three]
    show (((grid0.coords t 0).val * 2 + h.val / 4) * 64 + d.val) * 2048 + j.val = ((i 0).val * 128 + (i 1).val) * 2048 + (i 2).val
    rw [h0, h1, h2]
    omega
  · exact transpose_apply _ x _ _ _ fun a => match a with | ⟨0, _⟩ => rfl | ⟨1, _⟩ => rfl | ⟨2, _⟩ => rfl | ⟨3, _⟩ => rfl

theorem q_at (t : Fin cfg0.N) (r : Fin 128) (h : Fin 8) (d : Fin 64) :
    (show Vec Ideal S128x512 .f32 from iblk m c 0 t) (ix2 r (lane h d)) = argQ m c (ix4 (seqAt t) (posAt t r) h d) := by
  show (V m c main_v10 : S32768x512.Idx → EReal) (((cfg0.win 0).blk t).view.emb (ix2 r (lane h d))) = _
  rw [V_q]
  refine rows_at _ t r h d _ ?_ ?_
  · blk_simp [idx t]
  · blk_simp [idx t]

theorem qi_at (t : Fin cfg0.N) (r : Fin 128) (h : Fin 8) (d : Fin 64) :
    (show Vec Ideal S128x512 .f32 from iblk m c 1 t) (ix2 r (lane h d)) = argQi m c (ix4 (seqAt t) (posAt t r) h d) := by
  show (V m c main_v11 : S32768x512.Idx → EReal) (((cfg0.win 1).blk t).view.emb (ix2 r (lane h d))) = _
  rw [V_qi]
  refine rows_at _ t r h d _ ?_ ?_
  · blk_simp [idx t]
  · blk_simp [idx t]

theorem w_at (t : Fin cfg0.N) (r : Fin 128) (h : Fin 8) :
    (show Vec Ideal S128x128 .f32 from iblk m c 2 t) (ix2 r ⟨h.val, by omega⟩) = argWi m c (ix3 (seqAt t) (posAt t r) h) := by
  show (V m c main_v9 : S32768x128.Idx → EReal) (((cfg0.win 2).blk t).view.emb (ix2 r ⟨h.val, _⟩)) = _
  rw [V_w]
  have h0 : (grid0.coords t 0).val < 16 := (grid0.coords t 0).isLt
  have h1 : (grid0.coords t 1).val < 16 := (grid0.coords t 1).isLt
  refine (pad_apply_of_inside _ _ _ _ _ _ _ _ (ix2 ⟨((grid0.coords t 0).val * 16 + (grid0.coords t 1).val) * 128 + r.val, by omega⟩ h) ?_).trans ?_
  · intro a
    fin_cases a
    · show ((((cfg0.win 2).blk t).view.emb _) 0).val = _
      blk_simp [idx t]
      rfl
    · show ((((cfg0.win 2).blk t).view.emb _) 1).val = _
      blk_simp [idx t]
      rfl
  · refine shapeCast_apply _ _ _ _ ?_
    rw [Shape.rowMajor_val_three, Shape.rowMajor_val_two]
    show ((grid0.coords t 0).val * 2048 + (128 * (grid0.coords t 1).val + r.val)) * 8 + h.val = (((grid0.coords t 0).val * 16 + (grid0.coords t 1).val) * 128 + r.val) * 8 + h.val
    omega

theorem k_at (t : Fin cfg0.N) (h : Fin 8) (d : Fin 64) (j : Fin 2048) :
    (show Vec Ideal S1x128x2048 .bf16 from iblk m c 3 t) (ix3 0 (kvLane h d) j) = argK m c (ix4 (seqAt t) j (kvHead h) d) := by
  show (V m c main_v2 : S16x128x2048.Idx → EReal) (((cfg0.win 3).blk t).view.emb (ix3 0 (kvLane h d) j)) = _
  rw [V_k]
  refine lanes_at _ t h d j _ ?_ ?_ ?_
  · blk_simp [idx t]
  · blk_simp [idx t]
  · blk_simp [idx t]

theorem v_at (t : Fin cfg0.N) (h : Fin 8) (d : Fin 64) (j : Fin 2048) :
    (show Vec Ideal S1x128x2048 .bf16 from iblk m c 5 t) (ix3 0 (kvLane h d) j) = argV m c (ix4 (seqAt t) j (kvHead h) d) := by
  show (V m c main_v5 : S16x128x2048.Idx → EReal) (((cfg0.win 5).blk t).view.emb (ix3 0 (kvLane h d) j)) = _
  rw [V_v]
  refine lanes_at _ t h d j _ ?_ ?_ ?_
  · blk_simp [idx t]
  · blk_simp [idx t]
  · blk_simp [idx t]

theorem ki_at (t : Fin cfg0.N) (d : Fin 64) (j : Fin 2048) :
    (show Vec Ideal S1x64x2048 .bf16 from iblk m c 4 t) (ix3 0 d j) = argKi m c (ix3 (seqAt t) j d) := by
  show (V m c main_v7 : S16x64x2048.Idx → EReal) (((cfg0.win 4).blk t).view.emb (ix3 0 d j)) = _
  rw [V_ki]
  refine transpose_apply _ _ _ _ _ fun a => ?_
  fin_cases a
  · show _ = ((((cfg0.win 4).blk t).view.emb _) 0).val
    blk_simp [idx t]
    rfl
  · show _ = ((((cfg0.win 4).blk t).view.emb _) 1).val
    blk_simp [idx t]
    rfl
  · show _ = ((((cfg0.win 4).blk t).view.emb _) 2).val
    blk_simp [idx t]
    rfl

/-- The scores of a block's queries are those of the arguments. -/
theorem score_at (t : Fin cfg0.N) (r : Fin 128) :
    score (iblk m c 1 t) (iblk m c 2 t) (iblk m c 4 t) r = indexScore (argQi m c) (argKi m c) (argWi m c) (seqAt t) (posAt t r) := by
  funext j
  refine Finset.sum_congr rfl fun h _ => ?_
  rw [show (∑ d : Fin 64, _) = _ from Finset.sum_congr rfl fun d _ => congrArg₂ (· * ·) (qi_at m c t r h d) (ki_at m c t d j)]
  exact congrArg (_ * ·) (congrArg (· * _) (w_at m c t r h))

theorem sdot_at (t : Fin cfg0.N) (r : Fin 128) (h : Fin 8) :
    sdot (iblk m c 0 t) (iblk m c 3 t) r h = headScore (argQ m c) (argK m c) (seqAt t) (posAt t r) h := by
  funext j
  exact Finset.sum_congr rfl fun d _ => congrArg₂ (· * ·) (congrArg (· * _) (q_at m c t r h d)) (k_at m c t h d j)

/-- The attention of a block's queries is that of the arguments. -/
theorem att_at (t : Fin cfg0.N) (r : Fin 128) (h : Fin 8) (d : Fin 64) :
    att (iblk m c 0 t) (iblk m c 3 t) (iblk m c 5 t) (Open (iblk m c 1 t) (iblk m c 2 t) (iblk m c 4 t) (grid0.coords t 1).val) r h d
      = attention (argQ m c) (argK m c) (argV m c) (argQi m c) (argKi m c) (argWi m c) (seqAt t) (posAt t r) h d := by
  unfold att Open attention
  rw [score_at, sdot_at]
  exact congrArg (attn _ _) (funext fun j => v_at m c t h d j)

/-- The array the kernel leaves. -/
theorem array_eq (hS : ∀ b p j, IsReal (indexScore (argQi m c) (argKi m c) (argWi m c) b p j)) :
    (dats m 0 c).arrAt 6 (cfgs 0).N = result (argQ m c) (argK m c) (argV m c) (argQi m c) (argKi m c) (argWi m c) := by
  refine (dats m 0 c).arrAt_eq_of_covers 6 _ (by decide +kernel) fun t _ y => ?_
  blk_simp
  rw [after0_6]
  refine (out_apply _ _ _ _ _ _ (grid0.coords t) (fun r j => ?_) y).trans ((att_at m c t (y 0) _ _).trans ?_)
  · rw [score_at]
    exact hS _ _ _
  have h1 : (y 1).val < 512 := (y 1).isLt
  refine (result_at _ _ _ _ _ _ _ (seqAt t) (posAt t (y 0)) ⟨(y 1).val / 64, by omega⟩ ⟨(y 1).val % 64, by omega⟩ ?_ ?_).symm
  · blk_simp [idx t]
    show _ = (grid0.coords t 0).val * 2048 + (128 * (grid0.coords t 1).val + (y 0).val)
    omega
  · blk_simp [idx t]
    show (y 1).val = 64 * ((y 1).val / 64) + (y 1).val % 64
    omega

end Attn
-- ==== Proof.Chosen.lean ====
/-
  The keys the reference chooses: the scores, the keys hidden after a query, and the first of the sorted positions.
-/
module

public import proofs.«01_k».proof.Proof.Target
public import proofs.«01_k».proof.Proof.RowOps
public import proofs.«01_k».proof.Proof.Gen.ReferenceIdeal.Read

@[expose] public section

set_option maxRecDepth 16384

noncomputable section

namespace Attn

open Idealize.ShloMosaic Idealize.ShloMosaic.ValueIdx
open Cert.ReferenceIdeal Cert.ReferenceIdeal.Gen Cert.ReferenceIdeal.Read
open scoped Classical

variable (x3 : Qs.Idx → EReal) (x4 : Is.Idx → EReal) (x5 : Ws.Idx → EReal)

/-- The reference's scores are the index scores. -/
theorem scores_apply (b : Fin 16) (p j : Fin 2048) : val_main_v7 (F := Ideal) x3 x4 x5 (ix3 b p j) = indexScore x3 x4 x5 b p j := by
  refine (val_main_v7_apply x3 x4 x5 (ix3 b p j)).trans (Finset.sum_congr rfl fun h _ => ?_)
  have e : val_main_v6 (F := Ideal) x3 x4 (lidx_main_v7 (ix3 b p j) h)
      = max ((∑ d : Fin 64, x3 (ix4 b p h d) * x4 (ix3 b j d)) * ((8⁻¹ : ℝ) : EReal)) 0 := by
    rw [val_main_v6_apply, val_main_v5_apply, val_main_v4_apply, val_main_call0_v0_apply]
    show max (val_main_v3 (F := Ideal) x3 x4 _ * Ideal.ofBits .f32 0x3E000000#32) (Ideal.ofBits .f32 0x00000000#32) = _
    rw [ofBits_eighth, Ideal.ofBits_zero_f32]
    refine congrArg (fun z => max (z * _) 0) ?_
    refine (val_main_v3_apply x3 x4 _).trans (Finset.sum_congr rfl fun d _ => congrArg₂ (· * ·) (congrArg x3 ?_) (congrArg x4 ?_))
    · funext a; fin_cases a <;> rfl
    · funext a; fin_cases a <;> rfl
  rw [show x5 (ridx_main_v7 (ix3 b p j) h) = x5 (ix3 b p h) from congrArg x5 (by funext a; fin_cases a <;> rfl)]
  refine (congrArg (· * _) e).trans ?_
  rw [pos_mul_real _ (by norm_num), mul_assoc, mul_comm (x5 _)]

/-- The reference's scores with the keys after a query hidden. -/
theorem hidden_apply (b : Fin 16) (p j : Fin 2048) :
    val_main_v13 (F := Ideal) x3 x4 x5 (ix3 b p j) = visible (indexScore x3 x4 x5 b p) p.val j := by
  rw [val_main_v13_apply, val_main_call1_v1_apply, val_main_call1_v2_apply, scores_apply, val_main_v12_apply, val_main_v10_apply, val_main_v11_apply,
    val_main_v8_apply, val_main_v9_apply]
  show Scalar.select (IntOp.cmpi .sle (BitVec.ofNat 32 j.val) (BitVec.ofNat 32 p.val)) _ (Ideal.ofBits .f32 0xFF800000#32) = _
  rw [ofBits_bot]
  unfold visible Scalar.select
  exact if_congr (sle_one (by omega) (by omega)) rfl rfl

/-- Which of two keys comes first in the order the reference sorts by. -/
def ahead (b : Fin 16) (p a c : Fin 2048) : Bool :=
  decide (visible (indexScore x3 x4 x5 b p) p.val c < visible (indexScore x3 x4 x5 b p) p.val a)

theorem le256 : 256 ≤ 2048 := by decide

/-- The `i`-th key the reference chooses. -/
def pick (b : Fin 16) (p : Fin 2048) (i : Fin 256) : Fin 2048 := sortedFrom (ahead x3 x4 x5 b p) (Fin.castLE le256 i)

theorem along_eq (b : Fin 16) (p k l : Fin 2048) : Shape.Idx.along (s := S16x2048x2048) (ix3 b p l) 2 k = ix3 b p k := by
  funext a
  unfold Shape.Idx.along
  fin_cases a <;> rfl

/-- The positions a sort along the last axis carries, read at a row. -/
theorem sorted_apply {α β : Type} (cmp : α × β → α × β → BitVec 1) (x : S16x2048x2048.Idx → α) (y : S16x2048x2048.Idx → β) (b : Fin 16) (p l : Fin 2048) :
    (Host.sort2 S16x2048x2048 2 cmp x y).2 (ix3 b p l)
      = y (ix3 b p (sortedFrom (fun k k' : Fin 2048 => cmp (x (ix3 b p k), y (ix3 b p k)) (x (ix3 b p k'), y (ix3 b p k')) == 1#1) l)) := by
  unfold Host.sort2
  rw [dif_pos (show 2 < S16x2048x2048.rank by decide)]
  refine (congrArg y (along_eq b p _ l)).trans ?_
  refine congrArg (fun R => y (ix3 b p (sortedFrom R l))) ?_
  funext k k'
  exact congrArg₂ (fun i j => cmp (x i, y i) (x j, y j) == 1#1) (along_eq b p k l) (along_eq b p k' l)

theorem top_apply {α : Type} (gt : α → α → BitVec 1) (x : S16x2048x2048.Idx → α) (h : S16x2048x2048.Slices (fun _ => 0) S16x2048x256) (b : Fin 16)
    (p : Fin 2048) (i : Fin 256) : (Host.topK S16x2048x256 2 gt x h).2 (ix3 b p i)
      = BitVec.ofNat 32 (sortedFrom (fun k k' : Fin 2048 => gt (x (ix3 b p k)) (x (ix3 b p k')) == 1#1) (Fin.castLE le256 i)).val := by
  unfold Host.topK
  dsimp only
  refine (extractStridedSlice_apply _ _ _ _ (ix3 b p (Fin.castLE le256 i)) ?_).trans ?_
  · intro a
    fin_cases a <;> exact (Nat.zero_add _).symm
  · refine (sorted_apply _ _ _ b p _).trans ?_
    rw [dif_pos (show 2 < S16x2048x2048.rank by decide)]
    rfl

theorem indices_apply (b : Fin 16) (p : Fin 2048) (i : Fin 256) :
    val_main_indices (F := Ideal) x3 x4 x5 (ix3 b p i) = BitVec.ofNat 32 (pick x3 x4 x5 b p i).val := by
  unfold val_main_indices
  refine (top_apply _ _ _ b p i).trans ?_
  refine congrArg (fun R => BitVec.ofNat 32 (sortedFrom R (Fin.castLE le256 i)).val) ?_
  funext k k'
  rw [hidden_apply, hidden_apply, Bool.eq_iff_iff, beq_iff_eq]
  unfold ahead
  rw [decide_eq_true_iff]
  exact ofBool_one.trans decide_eq_true_iff

end Attn
-- ==== Proof.Gathered.lean ====
/-
  The keys and values the reference gathers, read at an entry.
-/
module

public import proofs.«01_k».proof.Proof.Chosen

@[expose] public section

set_option maxRecDepth 16384

noncomputable section

namespace Attn

open Idealize.ShloMosaic Idealize.ShloMosaic.ValueIdx
open Cert.ReferenceIdeal Cert.ReferenceIdeal.Gen Cert.ReferenceIdeal.Read
open scoped Classical

local notation "𝒟" => gather_S16x2048x2x64_S16x2048x256x2_S16x2048x256x2x64_34_01_n_n_01_3_11264

theorem start_at {n : ℕ} (hn : n < 2 ^ 31) (k : ℕ) (hk : n ≤ k) : min (BitVec.ofNat 32 n).toInt.toNat k = n := by
  rw [BitVec.toInt_eq_toNat_of_lt (by rw [BitVec.toNat_ofNat]; omega), BitVec.toNat_ofNat]
  omega

/-- A gather of rows of a batch of tables, read at an entry: the row the indices name. -/
theorem gather_apply {α : Type} (x : S16x2048x2x64.Idx → α) (idx : IVec S16x2048x256x2 32) (b : Fin 16) (p : Fin 2048) (i : Fin 256) (g : Fin 2) (d : Fin 64)
    (β : Fin 16) (κ : Fin 2048) (hβ : idx (ix4 b p i 0) = BitVec.ofNat 32 β.val) (hκ : idx (ix4 b p i 1) = BitVec.ofNat 32 κ.val) :
    Host.gather 𝒟 x idx (ix5 b p i g d) = x (ix4 β κ g d) := by
  unfold Host.gather
  refine congrArg x (funext fun a => Fin.ext ?_)
  show GatherDims.start 𝒟 (ix5 b p i g d) idx a + GatherDims.batchCoord 𝒟 (ix5 b p i g d) a + GatherDims.offCoord 𝒟 (ix5 b p i g d) a = _
  rw [GatherDims.batchCoord_eq_zero _ _ _ List.not_mem_nil, Nat.add_zero]
  have hc : (𝒟).collapsedSliceDims = [0, 1] := rfl
  have hs : (𝒟).startIndexMap = [0, 1] := rfl
  fin_cases a
  · rw [GatherDims.offCoord_eq_zero _ _ _ (fun h => ((GatherDims.mem_sKept _ _).mp h).1 (by rw [hc]; decide)), Nat.add_zero]
    unfold GatherDims.start
    rw [dif_pos (by rw [hs]; decide)]
    have hsi : ∀ h, GatherDims.siIdx 𝒟 (ix5 b p i g d) ⟨List.idxOf (0 : Fin 4) (𝒟).startIndexMap, h⟩ = ix4 b p i 0 := fun h => by
      funext c; refine Fin.ext ?_
      match c with
      | ⟨0, _⟩ => rfl
      | ⟨1, _⟩ => rfl
      | ⟨2, _⟩ => rfl
      | ⟨3, _⟩ => rfl
    refine (congrArg (fun z : BitVec 32 => min z.toInt.toNat _) ((congrArg idx (hsi _)).trans hβ)).trans ?_
    exact start_at (by omega) 15 (by omega)
  · rw [GatherDims.offCoord_eq_zero _ _ _ (fun h => ((GatherDims.mem_sKept _ _).mp h).1 (by rw [hc]; decide)), Nat.add_zero]
    unfold GatherDims.start
    rw [dif_pos (by rw [hs]; decide)]
    have hsi : ∀ h, GatherDims.siIdx 𝒟 (ix5 b p i g d) ⟨List.idxOf (1 : Fin 4) (𝒟).startIndexMap, h⟩ = ix4 b p i 1 := fun h => by
      funext c; refine Fin.ext ?_
      match c with
      | ⟨0, _⟩ => rfl
      | ⟨1, _⟩ => rfl
      | ⟨2, _⟩ => rfl
      | ⟨3, _⟩ => rfl
    refine (congrArg (fun z : BitVec 32 => min z.toInt.toNat _) ((congrArg idx (hsi _)).trans hκ)).trans ?_
    exact start_at (by omega) 2047 (by omega)
  · unfold GatherDims.start
    rw [dif_neg (by rw [hs]; decide), Nat.zero_add]
    rfl
  · unfold GatherDims.start
    rw [dif_neg (by rw [hs]; decide), Nat.zero_add]
    rfl

variable (x1 x2 : Ks.Idx → EReal) (x3 : Qs.Idx → EReal) (x4 : Is.Idx → EReal) (x5 : Ws.Idx → EReal)

/-- An index that is not negative is not moved. -/
theorem wrap_eq {n : ℕ} (hn : n < 2 ^ 31) (y : BitVec 32) :
    Scalar.select (IntOp.cmpi .slt (BitVec.ofNat 32 n) 0#32) y (BitVec.ofNat 32 n) = BitVec.ofNat 32 n := by
  unfold Scalar.select
  rw [if_neg]
  intro h
  have := ofBool_one.1 h
  rw [BitVec.slt_iff_toInt_lt, BitVec.toInt_eq_toNat_of_lt (by rw [BitVec.toNat_ofNat]; omega)] at this
  simp at this
  omega

/-- Two columns set side by side, the first read. -/
theorem pair_zero (u v : IVec S16x2048x256x1 32) (h : Shape.Concatenates [S16x2048x256x1, S16x2048x256x1] S16x2048x256x2 3) (b : Fin 16) (p : Fin 2048) (i : Fin 256) :
    concatenate S16x2048x256x2 3 [⟨S16x2048x256x1, u⟩, ⟨S16x2048x256x1, v⟩] h (ix4 b p i 0) = u (ix4 b p i 0) := by
  refine concatenate_pair_apply_left (t := S16x2048x256x2) 3 u v h (ix4 b p i 0) rfl (ix4 b p i 0) ?_
  intro a; fin_cases a <;> rfl

/-- Two columns set side by side, the second read. -/
theorem pair_one (u v : IVec S16x2048x256x1 32) (h : Shape.Concatenates [S16x2048x256x1, S16x2048x256x1] S16x2048x256x2 3) (b : Fin 16) (p : Fin 2048) (i : Fin 256) :
    concatenate S16x2048x256x2 3 [⟨S16x2048x256x1, u⟩, ⟨S16x2048x256x1, v⟩] h (ix4 b p i 1) = v (ix4 b p i 0) := by
  refine concatenate_pair_apply_right (t := S16x2048x256x2) 3 u v h (ix4 b p i 1) rfl rfl (ix4 b p i 0) ?_ rfl
  intro a ha; fin_cases a
  · rfl
  · rfl
  · rfl
  · exact absurd rfl ha

/-- The batch's number, as the gather of the keys lists it. -/
theorem batch31 (b : Fin 16) (p : Fin 2048) (i : Fin 256) : val_main_v28 (F := Ideal) (ix4 b p i 0) = BitVec.ofNat 32 b.val := by
  rw [val_main_v28_apply, val_main_v27_apply, val_main_v21_apply, val_main_v18_apply, val_main_v17_apply, val_main_v2_apply]
  exact wrap_eq (n := b.val) (by omega) _

/-- The chosen position, as the gather of the keys lists it. -/
theorem place31 (b : Fin 16) (p : Fin 2048) (i : Fin 256) : val_main_v29 (F := Ideal) x3 x4 x5 (ix4 b p i 0) = BitVec.ofNat 32 (pick x3 x4 x5 b p i).val := by
  rw [val_main_v29_apply, val_main_v26_apply, val_main_v23_apply, val_main_v22_apply]
  rw [show idx_main_v29 (ix4 b p i 0) = ix3 b p i from by funext a; fin_cases a <;> rfl, indices_apply]
  exact wrap_eq (by omega) _

/-- The batch's number, as the gather of the values lists it. -/
theorem batch46 (b : Fin 16) (p : Fin 2048) (i : Fin 256) : val_main_v43 (F := Ideal) (ix4 b p i 0) = BitVec.ofNat 32 b.val := by
  rw [val_main_v43_apply, val_main_v42_apply, val_main_v36_apply, val_main_v33_apply, val_main_v32_apply, val_main_v2_apply]
  exact wrap_eq (n := b.val) (by omega) _

/-- The chosen position, as the gather of the values lists it. -/
theorem place46 (b : Fin 16) (p : Fin 2048) (i : Fin 256) : val_main_v44 (F := Ideal) x3 x4 x5 (ix4 b p i 0) = BitVec.ofNat 32 (pick x3 x4 x5 b p i).val := by
  rw [val_main_v44_apply, val_main_v41_apply, val_main_v38_apply, val_main_v37_apply]
  rw [show idx_main_v44 (ix4 b p i 0) = ix3 b p i from by funext a; fin_cases a <;> rfl, indices_apply]
  exact wrap_eq (by omega) _

/-- The keys of the chosen positions. -/
theorem keys_apply (b : Fin 16) (p : Fin 2048) (i : Fin 256) (g : Fin 2) (d : Fin 64) :
    val_main_v31 (F := Ideal) x1 x3 x4 x5 (ix5 b p i g d) = x1 (ix4 b (pick x3 x4 x5 b p i) g d) :=
  gather_apply _ _ b p i g d b (pick x3 x4 x5 b p i) ((pair_zero _ _ _ b p i).trans (batch31 b p i)) ((pair_one _ _ _ b p i).trans (place31 x3 x4 x5 b p i))

/-- The values of the chosen positions. -/
theorem values_apply (b : Fin 16) (p : Fin 2048) (i : Fin 256) (g : Fin 2) (d : Fin 64) :
    val_main_v46 (F := Ideal) x2 x3 x4 x5 (ix5 b p i g d) = x2 (ix4 b (pick x3 x4 x5 b p i) g d) :=
  gather_apply _ _ b p i g d b (pick x3 x4 x5 b p i) ((pair_zero _ _ _ b p i).trans (batch46 b p i)) ((pair_one _ _ _ b p i).trans (place46 x3 x4 x5 b p i))

end Attn
-- ==== Proof.Answer.lean ====
/-
  The reference's answer: its scores of the keys it gathers, their softmax, and the values weighted by it, are the attention over the chosen keys.
-/
module

public import proofs.«01_k».proof.Proof.Gathered
public import Idealize.ShloMosaic.Lib.KernelVsHost

@[expose] public section

set_option maxRecDepth 16384

noncomputable section

namespace Attn

open Idealize.ShloMosaic Idealize.ShloMosaic.ValueIdx
open Cert.ReferenceIdeal Cert.ReferenceIdeal.Gen Cert.ReferenceIdeal.Read
open scoped Classical

variable (x0 : Qs.Idx → EReal) (x1 x2 : Ks.Idx → EReal) (x3 : Qs.Idx → EReal) (x4 : Is.Idx → EReal) (x5 : Ws.Idx → EReal)

/-- Where a head stands among the four that share its key head. -/
abbrev share (h : Fin 8) : Fin 4 := ⟨h.val % 4, by omega⟩

theorem query_apply (b : Fin 16) (p : Fin 2048) (h : Fin 8) (d : Fin 64) :
    val_main_v47 (F := Ideal) x0 (ix5 b p (kvHead h) (share h) d) = x0 (ix4 b p h d) := by
  rw [val_main_v47_apply]
  refine congrArg x0 (funext fun a => Fin.ext ?_)
  have := Nat.div_add_mod h.val 4
  fin_cases a
  · show ((((b.val * 2048 + p.val) * 2 + h.val / 4) * 4 + h.val % 4) * 64 + d.val) / 1048576 = b.val
    omega
  · show ((((b.val * 2048 + p.val) * 2 + h.val / 4) * 4 + h.val % 4) * 64 + d.val) / 512 % 2048 = p.val
    omega
  · show ((((b.val * 2048 + p.val) * 2 + h.val / 4) * 4 + h.val % 4) * 64 + d.val) / 64 % 8 = h.val
    omega
  · show ((((b.val * 2048 + p.val) * 2 + h.val / 4) * 4 + h.val % 4) * 64 + d.val) % 64 = d.val
    omega

/-- A gathered key's score. -/
theorem product_apply (b : Fin 16) (p : Fin 2048) (h : Fin 8) (i : Fin 256) :
    val_main_v50 (F := Ideal) x0 x1 x3 x4 x5 (ix5 b p (kvHead h) (share h) i) = headScore x0 x1 b p h (pick x3 x4 x5 b p i) := by
  rw [val_main_v50_apply, val_main_v49_apply]
  show val_main_v48 (F := Ideal) x0 x1 x3 x4 x5 _ * Ideal.ofBits .f32 0x3E000000#32 = _
  rw [ofBits_eighth]
  refine (congrArg (· * _) (val_main_v48_apply x0 x1 x3 x4 x5 _)).trans ?_
  refine (sum_mul_real _ _ (by norm_num) (EReal.coe_ne_top _)).trans (Finset.sum_congr rfl fun d _ => ?_)
  rw [mul_right_comm]
  refine congrArg₂ (fun y z => y * _ * z) ?_ ?_
  · refine (congrArg (val_main_v47 (F := Ideal) x0) ?_).trans (query_apply x0 b p h d)
    funext a; fin_cases a <;> rfl
  · refine (congrArg (val_main_v31 (F := Ideal) x1 x3 x4 x5) ?_).trans (keys_apply x1 x3 x4 x5 b p i (kvHead h) d)
    funext a; fin_cases a <;> rfl

/-- A gathered key's score, where the key is not after the query. -/
def listed (b : Fin 16) (p : Fin 2048) (h : Fin 8) (i : Fin 256) : EReal :=
  if (pick x3 x4 x5 b p i).val ≤ p.val then headScore x0 x1 b p h (pick x3 x4 x5 b p i) else ⊥

theorem listed_apply (b : Fin 16) (p : Fin 2048) (h : Fin 8) (i : Fin 256) :
    val_main_v52 (F := Ideal) x0 x1 x3 x4 x5 (ix5 b p (kvHead h) (share h) i) = listed x0 x1 x3 x4 x5 b p h i := by
  rw [val_main_v52_apply, product_apply, val_main_call2_v1_apply, val_main_v51_apply, val_main_v16_apply, val_main_v15_apply, val_main_v14_apply,
    val_main_v0_apply, val_main_call2_v2_apply, val_main_call2_v0_apply, val_main_cst_9_apply]
  rw [show idx_main_v51 (idx_main_call2_v1 (ix5 b p (kvHead h) (share h) i)) = ix3 b p i from by funext a; fin_cases a <;> rfl, indices_apply]
  show Scalar.select (IntOp.cmpi .sle (BitVec.ofNat 32 (pick x3 x4 x5 b p i).val) (BitVec.ofNat 32 p.val)) _ (Ideal.ofBits .f32 0xFF800000#32) = _
  rw [ofBits_bot]
  unfold listed Scalar.select
  exact if_congr (sle_one (by omega) (by omega)) rfl rfl

theorem reduces5 : S16x2048x2x4x256.Reduces [4] S16x2048x2x4 := by decide

/-- A maximum over the last axis, read at a row. -/
theorem lastMax_apply (y : FVec Ideal S16x2048x2x4x256 .f32) (b : Fin 16) (p : Fin 2048) (g : Fin 2) (r : Fin 4) :
    Host.reduce FloatOps.maximumf y (constant (F := Ideal) S_ .f32 0xFF800000#32) reducesTo_S16x2048x2x4x256_S16x2048x2x4_d4 h_S_ (ix4 b p g r)
      = Finset.univ.sup fun i : Fin 256 => y (ix5 b p g r i) := by
  have hl : ∀ i : Fin 256, reduces5.lift (ix4 b p g r) i = ix5 b p g r i := fun i => by
    funext a; fin_cases a <;> rfl
  refine (congrFun (hostReduce_maximumf_eq_multiReduction y _ _ _ reduces5 (Or.inl rfl) rfl) _).trans ?_
  refine (Ideal.multiReduction_maximumf_single _ _ _ _ _ _).trans ?_
  refine eq_of_forall_ge_iff fun c => ?_
  rw [Finset.fold_max_le, Finset.sup_le_iff]
  constructor
  · intro h k _; exact (congrArg y (hl k)).symm.le.trans (h.2 k (Finset.mem_univ _))
  · intro h
    refine ⟨?_, fun k _ => ?_⟩
    · show Ideal.ofBits .f32 0xFF800000#32 ≤ c; rw [ofBits_bot]; exact bot_le
    · exact (congrArg y (hl k)).le.trans (h k (Finset.mem_univ _))

/-- The greatest of a query's listed scores. -/
theorem peak_apply (b : Fin 16) (p : Fin 2048) (h : Fin 8) :
    val_main_v55 (F := Ideal) x0 x1 x3 x4 x5 (ix4 b p (kvHead h) (share h)) = Finset.univ.sup (listed x0 x1 x3 x4 x5 b p h) := by
  rw [val_main_v55_apply, val_main_v54_apply]
  show max (Ideal.ofBits .f32 0xFF800000#32) (val_main_v53 (F := Ideal) x0 x1 x3 x4 x5 _) = _
  rw [ofBits_bot, max_eq_right bot_le]
  have hm := listed_apply x0 x1 x3 x4 x5 b p h
  unfold val_main_v53 val_main_cst_10
  generalize val_main_v52 (F := Ideal) x0 x1 x3 x4 x5 = y at hm ⊢
  exact (lastMax_apply y b p (kvHead h) (share h)).trans (Finset.sup_congr rfl fun i _ => hm i)

/-- The exponential of a listed score below the greatest. -/
theorem power_apply (b : Fin 16) (p : Fin 2048) (h : Fin 8) (i : Fin 256) :
    val_main_v59 (F := Ideal) x0 x1 x3 x4 x5 (ix5 b p (kvHead h) (share h) i)
      = Ideal.exp (listed x0 x1 x3 x4 x5 b p h i - Finset.univ.sup (listed x0 x1 x3 x4 x5 b p h)) := by
  rw [val_main_v59_apply, val_main_v58_apply, listed_apply, val_main_v57_apply, val_main_v56_apply,
    show idx_main_v56 (idx_main_v57 (ix5 b p (kvHead h) (share h) i)) = ix4 b p (kvHead h) (share h) from by funext a; fin_cases a <;> rfl, peak_apply]
  generalize listed x0 x1 x3 x4 x5 b p h = t
  rfl

/-- The sum of those exponentials. -/
theorem total_apply (b : Fin 16) (p : Fin 2048) (h : Fin 8) :
    val_main_v60 (F := Ideal) x0 x1 x3 x4 x5 (ix4 b p (kvHead h) (share h))
      = ∑ i, Ideal.exp (listed x0 x1 x3 x4 x5 b p h i - Finset.univ.sup (listed x0 x1 x3 x4 x5 b p h)) := by
  refine (val_main_v60_apply x0 x1 x3 x4 x5 _).trans ?_
  refine (congrArg (· + _) (Ideal.ofBits_zero_f32 : val_main_cst_12 (F := Ideal) (Shape.Idx.first h_S_) = 0)).trans ?_
  refine (zero_add _).trans (Finset.sum_congr rfl fun i _ => ?_)
  refine (congrArg (val_main_v59 (F := Ideal) x0 x1 x3 x4 x5) ?_).trans (power_apply x0 x1 x3 x4 x5 b p h i)
  funext a; fin_cases a <;> rfl

/-- A listed key's weight. -/
theorem weight_apply (b : Fin 16) (p : Fin 2048) (h : Fin 8) (i : Fin 256) :
    val_main_v63 (F := Ideal) x0 x1 x3 x4 x5 (ix5 b p (kvHead h) (share h) i)
      = Ideal.div (Ideal.exp (listed x0 x1 x3 x4 x5 b p h i - Finset.univ.sup (listed x0 x1 x3 x4 x5 b p h)))
          (∑ i, Ideal.exp (listed x0 x1 x3 x4 x5 b p h i - Finset.univ.sup (listed x0 x1 x3 x4 x5 b p h))) := by
  rw [val_main_v63_apply, power_apply, val_main_v62_apply, val_main_v61_apply,
    show idx_main_v61 (idx_main_v62 (ix5 b p (kvHead h) (share h) i)) = ix4 b p (kvHead h) (share h) from by funext a; fin_cases a <;> rfl, total_apply]
  rfl

variable {x0 x1 x3 x4 x5}

/-- The reference's attention, head by head, is the attention over the chosen keys. -/
theorem answer_apply (h0 : ∀ i, IsReal (x0 i)) (h1 : ∀ i, IsReal (x1 i)) (h3 : ∀ i, IsReal (x3 i)) (h4 : ∀ i, IsReal (x4 i)) (h5 : ∀ i, IsReal (x5 i))
    (b : Fin 16) (p : Fin 2048) (h : Fin 8) (d : Fin 64) :
    val_main_v64 (F := Ideal) x0 x1 x2 x3 x4 x5 (ix5 b p (kvHead h) (share h) d) = attention x0 x1 x2 x3 x4 x5 b p h d := by
  refine (val_main_v64_apply x0 x1 x2 x3 x4 x5 _).trans ?_
  refine (Finset.sum_congr rfl fun i _ => congrArg₂ (· * ·)
    ((congrArg (val_main_v63 (F := Ideal) x0 x1 x3 x4 x5) (?_ : _ = ix5 b p (kvHead h) (share h) i)).trans (weight_apply x0 x1 x3 x4 x5 b p h i))
    ((congrArg (val_main_v46 (F := Ideal) x2 x3 x4 x5) (?_ : _ = ix5 b p i (kvHead h) d)).trans (values_apply x2 x3 x4 x5 b p i (kvHead h) d))).trans ?_
  · funext a; fin_cases a <;> rfl
  · funext a; fin_cases a <;> rfl
  · exact attn_listed le256 p.isLt (fun j => bot_lt_iff_ne_bot.2 (indexScore_real h3 h4 h5 b p j).1) (headScore x0 x1 b p h)
      (fun j => x2 (ix4 b j (kvHead h) d)) (fun j => headScore_real h0 h1 b p h j) (ahead x3 x4 x5 b p) (fun _ _ => decide_eq_true_iff)
      (listed x0 x1 x3 x4 x5 b p h) fun _ => rfl

/-- The reference's array is the attention. -/
theorem answer_eq (h0 : ∀ i, IsReal (x0 i)) (h1 : ∀ i, IsReal (x1 i)) (h3 : ∀ i, IsReal (x3 i)) (h4 : ∀ i, IsReal (x4 i)) (h5 : ∀ i, IsReal (x5 i)) :
    val_main_v65 (F := Ideal) x0 x1 x2 x3 x4 x5 = result x0 x1 x2 x3 x4 x5 := by
  funext i
  rw [val_main_v65_apply]
  refine Eq.trans (congrArg (val_main_v64 (F := Ideal) x0 x1 x2 x3 x4 x5) ?_) (answer_apply x2 h0 h1 h3 h4 h5 _ _ _ _)
  have hi0 : (i 0).val < 32768 := (i 0).isLt
  have hi1 : (i 1).val < 512 := (i 1).isLt
  funext a; refine Fin.ext ?_
  fin_cases a
  · show ((i 0).val * 512 + (i 1).val) / 1048576 = (i 0).val / 2048
    omega
  · show ((i 0).val * 512 + (i 1).val) / 512 % 2048 = (i 0).val % 2048
    omega
  · show ((i 0).val * 512 + (i 1).val) / 256 % 2 = (i 1).val / 64 / 4
    omega
  · show ((i 0).val * 512 + (i 1).val) / 64 % 4 = (i 1).val / 64 % 4
    omega
  · show ((i 0).val * 512 + (i 1).val) % 64 = (i 1).val % 64
    omega

end Attn
-- ==== Proof.Real.lean ====
/-
  What the precondition says: every entry of the queries, the keys and the indexer's queries, keys and weights is real.
-/
module

public import proofs.«01_k».proof.Pre_finite
public import proofs.«01_k».proof.Proof.Spec
public import proofs.«01_k».proof.Proof.RowOps
public import Idealize.ShloMosaic.Lib.ReduceAll

@[expose] public section

set_option maxRecDepth 16384

noncomputable section

namespace Attn

open Idealize.ShloMosaic Cert.Pre_finite

/-- The precondition's shape facts. -/
instance preFacts : Cert.Pre_finite.Facts where
  bcast_S_S16x2048x8x64 := by decide
  reducesTo_S16x2048x8x64_S_d0_1_2_3 := by decide
  h_S_ := by decide
  bcast_S_S16x2048x2x64 := by decide
  reducesTo_S16x2048x2x64_S_d0_1_2_3 := by decide
  bcast_S_S16x2048x64 := by decide
  reducesTo_S16x2048x64_S_d0_1_2 := by decide
  bcast_S_S16x2048x8 := by decide
  reducesTo_S16x2048x8_S_d0_1_2 := by decide

instance : Subsingleton S_.Idx := ⟨fun _ _ => funext fun a => a.elim0⟩

/-- An extended real of magnitude less than infinity is real. -/
theorem isReal_of_abs {x : EReal} (h : max x (-x) < ⊤) : IsReal x := by
  refine ⟨?_, ?_⟩ <;> rintro rfl <;> simp at h

/-- An array all of whose magnitudes compare less than infinity is real everywhere. -/
theorem real_of_all {s : Shape} {axes : List (Fin s.rank)} (x : FVec Ideal s .f32) (hb : S_.BroadcastsInDim s (![] : Fin 0 → Fin s.rank))
    (h : s.ReducesTo axes S_) (hu : 0 < S_.numel) (j : S_.Idx)
    (e : Host.reduce IntOp.andi (cmpf .olt (Host.absf x) (broadcastInDim s ![] hb (constant S_ .f32 0x7F800000#32))) (constantI S_ 1 1#1) h hu j = 1#1)
    (i : s.Idx) : IsReal (x i) := by
  have := (olt_one _ _ i).1 (Host.reduce_andi_all _ _ h hu j e i)
  refine isReal_of_abs ?_
  rw [← ofBits_top]
  exact this

/-- The precondition, read entry by entry. -/
theorem real_of_pre [Cert.Pre_finite.Facts] {x0 : FVec Ideal S16x2048x8x64 .f32} {x1 x2 : FVec Ideal S16x2048x2x64 .f32} {x3 : FVec Ideal S16x2048x8x64 .f32}
    {x4 : FVec Ideal S16x2048x64 .f32} {x5 : FVec Ideal S16x2048x8 .f32} (e : Cert.Pre_finite.fn (F := Ideal) x0 x1 x2 x3 x4 x5 = fun _ => 1#1) :
    (∀ i, IsReal (x0 i)) ∧ (∀ i, IsReal (x1 i)) ∧ (∀ i, IsReal (x3 i)) ∧ (∀ i, IsReal (x4 i)) ∧ ∀ i, IsReal (x5 i) := by
  have j : S_.Idx := fun a => a.elim0
  have h := congrFun e j
  unfold Cert.Pre_finite.fn Cert.Pre_finite.fn_part1 at h
  obtain ⟨h, h5⟩ := andi_one.1 h
  obtain ⟨h, h4⟩ := andi_one.1 h
  obtain ⟨h, h3⟩ := andi_one.1 h
  obtain ⟨h0, h1⟩ := andi_one.1 h
  exact ⟨real_of_all _ _ _ _ j h0, real_of_all _ _ _ _ j h1, real_of_all _ _ _ _ j h3, real_of_all _ _ _ _ j h4, real_of_all _ _ _ _ j h5⟩

end Attn
-- ==== Proof.Ffn.lean ====
/-
  A feed-forward half-step over the extended reals, row by row, and the blocked operations that compute it read at an entry: the
  hidden layer's product over a block of the hidden features, and the layer norm of a block of rows.
-/
module

public import Idealize.ShloMosaic.PureOps
public import Idealize.ShloMosaic.Lib.IdealHost
public import Idealize.ShloMosaic.Lib.ValueIdx
public import Idealize.ShloMosaic.Lib.ValueLayout
public import Idealize.ShloMosaic.Lib.MatmulPlain
public import Idealize.ShloMosaic.Lib.Pipeline.Value

@[expose] public section

noncomputable section

namespace Ffn

open Idealize.ShloMosaic Idealize.ShloMosaic.ValueIdx

/-! ## One row -/

/-- The mean of a row's 1024 entries. -/
def mean (s : Fin 1024 → EReal) : EReal := Ideal.div (∑ k, s k) (Ideal.ofBits .f32 0x44800000#32)

/-- The layer norm of a row, with gain `g` and bias `b`. -/
def norm (s g b : Fin 1024 → EReal) (d : Fin 1024) : EReal :=
  (s d - mean s) * Ideal.rsqrt (mean (fun k => (s k - mean s) * (s k - mean s)) + Ideal.ofBits .f32 0x3727C5AC#32) * g d + b d

/-- A row against a column. -/
def dot {n : ℕ} (x w : Fin n → EReal) : EReal := ∑ k, x k * w k

/-- A hidden feature: its gate `a · logistic a`, times its value `u`. -/
def gated (a u : EReal) : EReal := a * Ideal.logistic a * u

/-- What the hidden features of `W` give at a model feature: their gated values against the column of `wd`. -/
def part {n : ℕ} (x : Fin 1024 → EReal) (wg wu : Fin 1024 → Fin n → EReal) (wd : Fin n → EReal) : EReal :=
  ∑ h, gated (dot x fun k => wg k h) (dot x fun k => wu k h) * wd h

/-- The row normalised by a half-step: the row scaled, plus half of its feed-forward. -/
def stepped (x f : Fin 1024 → EReal) (d : Fin 1024) : EReal := Ideal.ofBits .f32 0x3F9837F0#32 * x d + Ideal.ofBits .f32 0x3F000000#32 * f d

/-- A feed-forward half-step of a row. -/
def half (x : Fin 1024 → EReal) (wg wu : Fin 1024 → Fin 2816 → EReal) (wd : Fin 2816 → Fin 1024 → EReal) (g b : Fin 1024 → EReal) : Fin 1024 → EReal :=
  norm (stepped x fun d => part x wg wu fun h => wd h d) g b

/-- The row the mixing normalises: the row scaled, plus the two mixers' rows against the two halves of the output projection. -/
def merged (x : Fin 1024 → EReal) (a n : Fin 512 → EReal) (w : Fin 1024 → Fin 1024 → EReal) (d : Fin 1024) : EReal :=
  Ideal.ofBits .f32 0x3F9837F0#32 * x d + (dot a (fun k => w ⟨k.val, by omega⟩ d) + dot n fun k => w ⟨512 + k.val, by omega⟩ d)

/-- The mixed row: the layer norm of that. -/
def mixed (x : Fin 1024 → EReal) (a n : Fin 512 → EReal) (w : Fin 1024 → Fin 1024 → EReal) (g b : Fin 1024 → EReal) : Fin 1024 → EReal :=
  norm (merged x a n w) g b

/-- A sum over twice as many is the sum over the first half and the sum over the second. -/
theorem sum_halves {n N : ℕ} (hN : N = n + n) (f : Fin N → EReal) :
    ∑ k, f k = (∑ k : Fin n, f ⟨k.val, by omega⟩) + ∑ k : Fin n, f ⟨n + k.val, by omega⟩ := by
  subst hN
  exact Fin.sum_univ_add f

/-- The hidden features in two halves. -/
theorem part_halves (x : Fin 1024 → EReal) (wg wu : Fin 1024 → Fin 2816 → EReal) (wd : Fin 2816 → EReal) :
    part x wg wu wd = part x (fun k (h : Fin 1408) => wg k ⟨h.val, by omega⟩) (fun k h => wu k ⟨h.val, by omega⟩) (fun h => wd ⟨h.val, by omega⟩)
      + part x (fun k (h : Fin 1408) => wg k ⟨1408 + h.val, by omega⟩) (fun k h => wu k ⟨1408 + h.val, by omega⟩) (fun h => wd ⟨1408 + h.val, by omega⟩) :=
  sum_halves (n := 1408) rfl _

/-! ## A block of 512 rows -/

abbrev Rows : Shape := ⟨2, ![512, 1024]⟩
abbrev Col : Shape := ⟨2, ![512, 1]⟩
abbrev Lst : Shape := ⟨1, ![512]⟩
abbrev Vct : Shape := ⟨2, ![1, 1024]⟩
abbrev In : Shape := ⟨2, ![1024, 1408]⟩
abbrev Hid : Shape := ⟨2, ![512, 1408]⟩
abbrev Out : Shape := ⟨2, ![1408, 1024]⟩
abbrev Narrow : Shape := ⟨2, ![512, 512]⟩

/-- A row of a block, and the one row of a vector. -/
abbrev row (x : Rows.Idx → EReal) (r : Fin 512) : Fin 1024 → EReal := fun k => x (ix2 r k)
abbrev vct (g : Vct.Idx → EReal) : Fin 1024 → EReal := fun k => g (ix2 0 k)

theorem matmul_zero_apply {M K N : ℕ} (lhs : FVec Ideal ⟨2, ![M, K]⟩ .bf16) (rhs : FVec Ideal ⟨2, ![K, N]⟩ .bf16) (r : Fin M) (c : Fin N) :
    matmul (DotDims.plain M K N) none lhs rhs (constant ⟨2, ![M, N]⟩ .f32 0x00000000#32) (ix2 r c) = dot (fun k => lhs (ix2 r k)) (fun k => rhs (ix2 k c)) := by
  refine (Ideal.matmul_plain_apply _ _ _ _ r c).trans ?_
  rw [show constant (F := Ideal) ⟨2, ![M, N]⟩ .f32 0x00000000#32 (ix2 r c) = (0 : EReal) from Ideal.ofBits_zero_f32, zero_add]
  rfl

section ops
variable (hb : Col.Broadcasts Rows) (hv : Vct.Broadcasts Rows) (hr : Rows.Reduces [1] Lst) (hc : Lst.ShapeCasts Col) (ht : FTy.bf16.bits < FTy.f32.bits)

/-- The feed-forward of a block over a block of the hidden features. -/
def feed (x : FVec Ideal Rows .bf16) (wg wu : FVec Ideal In .bf16) (wd : FVec Ideal Out .bf16) : FVec Ideal Rows .f32 :=
  matmul (DotDims.plain 512 1408 1024) none
    (truncf .bf16 (mulf (mulf (matmul (DotDims.plain 512 1024 1408) none x wg (constant Hid .f32 0x00000000#32))
      (logistic (matmul (DotDims.plain 512 1024 1408) none x wg (constant Hid .f32 0x00000000#32))))
      (matmul (DotDims.plain 512 1024 1408) none x wu (constant Hid .f32 0x00000000#32))) ht) wd (constant Rows .f32 0x00000000#32)

theorem feed_apply (x : FVec Ideal Rows .bf16) (wg wu : FVec Ideal In .bf16) (wd : FVec Ideal Out .bf16) (r : Fin 512) (d : Fin 1024) :
    feed ht x wg wu wd (ix2 r d) = part (row x r) (fun k h => wg (ix2 k h)) (fun k h => wu (ix2 k h)) (fun h => wd (ix2 h d)) := by
  unfold feed
  refine (matmul_zero_apply _ _ r d).trans ?_
  refine Finset.sum_congr rfl fun h _ => congrArg (· * wd (ix2 h d)) ?_
  exact congrArg₂ gated (matmul_zero_apply x wg r h) (matmul_zero_apply x wu r h)

/-- A row's sum over 1024, as a column. -/
def means (s : FVec Ideal Rows .f32) : FVec Ideal Col .f32 :=
  divf (shapeCast Col (multiReduction .add [1] Lst s 0x00000000#32 hr (.inl rfl) rfl) hc) (broadcast Col (Scalar.ofBits .f32 0x44800000#32))

theorem means_apply (s : FVec Ideal Rows .f32) (r : Fin 512) : means hr hc s (ix2 r 0) = mean (row s r) := by
  show Ideal.div (shapeCast Col (multiReduction .add [1] Lst s 0x00000000#32 hr (.inl rfl) rfl) hc (ix2 r 0)) (Ideal.ofBits .f32 0x44800000#32) = _
  rw [shapeCast_apply _ _ _ (ix1 r) (by rw [Shape.rowMajor_val_two]; simp [Shape.rowMajor_val_one, ix1, ix2])]
  refine congrArg (Ideal.div · _) ((Ideal.multiReduction_add_single _ _ _ _ _ _).trans ?_)
  refine Finset.sum_congr rfl fun k _ => congrArg s ?_
  funext c; apply Fin.ext; fin_cases c <;> rfl

/-- A block less its rows' means. -/
def centred (s : FVec Ideal Rows .f32) : FVec Ideal Rows .f32 := subf s (broadcastTo Rows (means hr hc s) hb)

theorem spread_apply (t : Col.Idx → EReal) (r : Fin 512) (d : Fin 1024) : broadcastTo Rows t hb (ix2 r d) = t (ix2 r 0) :=
  broadcastTo_apply _ _ _ _ fun a => by fin_cases a <;> rfl

theorem vector_apply (t : Vct.Idx → EReal) (r : Fin 512) (d : Fin 1024) : broadcastTo Rows t hv (ix2 r d) = vct t d :=
  broadcastTo_apply _ _ _ _ fun a => by fin_cases a <;> rfl

theorem centred_apply (s : FVec Ideal Rows .f32) (r : Fin 512) (d : Fin 1024) : centred hb hr hc s (ix2 r d) = s (ix2 r d) - mean (row s r) := by
  show s (ix2 r d) - broadcastTo Rows (means hr hc s) hb (ix2 r d) = _
  rw [spread_apply, means_apply]

/-- The layer norm of a block, before its bias. -/
def scaled (s : FVec Ideal Rows .f32) (g : FVec Ideal Vct .f32) : FVec Ideal Rows .f32 :=
  mulf (mulf (centred hb hr hc s) (broadcastTo Rows (rsqrt (addf (means hr hc (mulf (centred hb hr hc s) (centred hb hr hc s)))
    (broadcast Col (Scalar.ofBits .f32 0x3727C5AC#32)))) hb)) (broadcastTo Rows g hv)

/-- The layer norm of a block. -/
def normed (s : FVec Ideal Rows .f32) (g b : FVec Ideal Vct .f32) : FVec Ideal Rows .f32 := addf (scaled hb hv hr hc s g) (broadcastTo Rows b hv)

theorem normed_apply (s : FVec Ideal Rows .f32) (g b : FVec Ideal Vct .f32) (r : Fin 512) (d : Fin 1024) :
    normed hb hv hr hc s g b (ix2 r d) = norm (row s r) (vct g) (vct b) d := by
  show centred hb hr hc s (ix2 r d) * broadcastTo Rows (rsqrt (addf (means hr hc (mulf (centred hb hr hc s) (centred hb hr hc s)))
    (broadcast Col (Scalar.ofBits .f32 0x3727C5AC#32)))) hb (ix2 r d) * broadcastTo Rows g hv (ix2 r d) + broadcastTo Rows b hv (ix2 r d) = _
  rw [centred_apply, spread_apply, vector_apply, vector_apply]
  show _ * Ideal.rsqrt (means hr hc (mulf (centred hb hr hc s) (centred hb hr hc s)) (ix2 r 0) + Ideal.ofBits .f32 0x3727C5AC#32) * _ + _ = _
  rw [means_apply]
  refine congrArg (fun v => (s (ix2 r d) - mean (row s r)) * Ideal.rsqrt (mean v + Ideal.ofBits .f32 0x3727C5AC#32) * vct g d + vct b d) (funext fun k => ?_)
  show centred hb hr hc s (ix2 r k) * centred hb hr hc s (ix2 r k) = _
  rw [centred_apply]

/-- The rows a half-step normalises, of the rows `x` and their feed-forward `f`. -/
def steppedRows (x f : FVec Ideal Rows .f32) : FVec Ideal Rows .f32 :=
  addf (mulf (broadcast Rows (Scalar.ofBits .f32 0x3F9837F0#32)) x) (mulf (broadcast Rows (Scalar.ofBits .f32 0x3F000000#32)) f)

theorem normed_stepped_apply (x f : FVec Ideal Rows .f32) (g b : FVec Ideal Vct .f32) (r : Fin 512) (d : Fin 1024) :
    normed hb hv hr hc (steppedRows x f) g b (ix2 r d) = norm (stepped (row x r) (row f r)) (vct g) (vct b) d :=
  normed_apply hb hv hr hc _ g b r d

/-- The rows the mixing normalises. -/
def mergedRows (x : FVec Ideal Rows .f32) (a n : FVec Ideal Narrow .f32) (wa wn : FVec Ideal Rows .bf16) : FVec Ideal Rows .f32 :=
  addf (mulf (broadcast Rows (Scalar.ofBits .f32 0x3F9837F0#32)) x)
    (addf (matmul (DotDims.plain 512 512 1024) none (truncf .bf16 a ht) wa (constant Rows .f32 0x00000000#32))
      (matmul (DotDims.plain 512 512 1024) none (truncf .bf16 n ht) wn (constant Rows .f32 0x00000000#32)))

theorem mergedRows_apply (x : FVec Ideal Rows .f32) (a n : FVec Ideal Narrow .f32) (wa wn : FVec Ideal Rows .bf16) (r : Fin 512) (d : Fin 1024) :
    mergedRows ht x a n wa wn (ix2 r d) = Ideal.ofBits .f32 0x3F9837F0#32 * x (ix2 r d)
      + (dot (fun k => a (ix2 r k)) (fun k => wa (ix2 k d)) + dot (fun k => n (ix2 r k)) fun k => wn (ix2 k d)) :=
  congrArg (Ideal.ofBits .f32 0x3F9837F0#32 * x (ix2 r d) + ·) (congrArg₂ (· + ·) (matmul_zero_apply _ wa r d) (matmul_zero_apply _ wn r d))
end ops

/-! ## Arrays -/

abbrev Toks : Shape := ⟨3, ![16, 2048, 1024]⟩
abbrev Flat : Shape := ⟨2, ![32768, 1024]⟩
abbrev Wide : Shape := ⟨3, ![1, 1024, 2816]⟩
abbrev Tall : Shape := ⟨3, ![1, 2816, 1024]⟩
abbrev Heads : Shape := ⟨3, ![16, 2048, 512]⟩
abbrev Proj : Shape := ⟨3, ![1, 1024, 1024]⟩

/-- A token's row: its sequence and its position in it. -/
abbrev tok {n : ℕ} (x : (⟨3, ![16, 2048, n]⟩ : Shape).Idx → EReal) (i : Fin 32768) : Fin n → EReal :=
  fun k => x (ix3 ⟨i.val / 2048, by omega⟩ ⟨i.val % 2048, by omega⟩ k)
/-- The one matrix of a stack of one. -/
abbrev inner {n k : ℕ} (w : (⟨3, ![1, n, k]⟩ : Shape).Idx → EReal) : Fin n → Fin k → EReal := fun i j => w (ix3 0 i j)

theorem rows_apply {n : ℕ} (x : (⟨3, ![16, 2048, n]⟩ : Shape).Idx → EReal) (h : (⟨3, ![16, 2048, n]⟩ : Shape).ShapeCasts ⟨2, ![32768, n]⟩)
    (i : (⟨2, ![32768, n]⟩ : Shape).Idx) (r : Fin 32768) (k : Fin n) (h0 : (i 0).val = r.val) (h1 : (i 1).val = k.val) :
    shapeCast ⟨2, ![32768, n]⟩ x h i = tok x r k := by
  refine shapeCast_apply _ _ _ _ ?_
  rw [Shape.rowMajor_val_three, Shape.rowMajor_val_two]
  show (r.val / 2048 * 2048 + r.val % 2048) * n + k.val = (i 0).val * n + (i 1).val
  rw [h0, h1, Nat.div_add_mod']

theorem matrix_apply {n k : ℕ} (w : (⟨3, ![1, n, k]⟩ : Shape).Idx → EReal) (h : (⟨3, ![1, n, k]⟩ : Shape).ShapeCasts ⟨2, ![n, k]⟩)
    (i : (⟨2, ![n, k]⟩ : Shape).Idx) (a : Fin n) (b : Fin k) (h0 : (i 0).val = a.val) (h1 : (i 1).val = b.val) :
    shapeCast ⟨2, ![n, k]⟩ w h i = w (ix3 0 a b) := by
  refine shapeCast_apply _ _ _ _ ?_
  rw [Shape.rowMajor_val_three, Shape.rowMajor_val_two]
  show (0 * n + a.val) * k + b.val = (i 0).val * k + (i 1).val
  rw [h0, h1, Nat.zero_mul, Nat.zero_add]

/-- The first half-step of every token. -/
def firstStep (x : Toks.Idx → EReal) (wg wu : Wide.Idx → EReal) (wd : Tall.Idx → EReal) (g b : Vct.Idx → EReal) : Flat.Idx → EReal :=
  fun y => half (tok x (y 0)) (inner wg) (inner wu) (inner wd) (vct g) (vct b) (y 1)

theorem firstStep_at (x : Toks.Idx → EReal) (wg wu : Wide.Idx → EReal) (wd : Tall.Idx → EReal) (g b : Vct.Idx → EReal) (y : Flat.Idx) (i : Fin 32768)
    (d : Fin 1024) (h0 : (y 0).val = i.val) (h1 : (y 1).val = d.val) :
    firstStep x wg wu wd g b y = half (tok x i) (inner wg) (inner wu) (inner wd) (vct g) (vct b) d := by
  unfold firstStep
  rw [show y 0 = i from Fin.ext h0, show y 1 = d from Fin.ext h1]

/-- The mixing and the second half-step of every token. -/
def secondStep (x : Toks.Idx → EReal) (a n : Heads.Idx → EReal) (w : Proj.Idx → EReal) (g₂ b₂ : Vct.Idx → EReal) (wg wu : Wide.Idx → EReal)
    (wd : Tall.Idx → EReal) (g b : Vct.Idx → EReal) : Flat.Idx → EReal :=
  fun y => half (mixed (tok x (y 0)) (tok a (y 0)) (tok n (y 0)) (inner w) (vct g₂) (vct b₂)) (inner wg) (inner wu) (inner wd) (vct g) (vct b) (y 1)

theorem secondStep_at (x : Toks.Idx → EReal) (a n : Heads.Idx → EReal) (w : Proj.Idx → EReal) (g₂ b₂ : Vct.Idx → EReal) (wg wu : Wide.Idx → EReal)
    (wd : Tall.Idx → EReal) (g b : Vct.Idx → EReal) (y : Flat.Idx) (i : Fin 32768) (d : Fin 1024) (h0 : (y 0).val = i.val) (h1 : (y 1).val = d.val) :
    secondStep x a n w g₂ b₂ wg wu wd g b y
      = half (mixed (tok x i) (tok a i) (tok n i) (inner w) (vct g₂) (vct b₂)) (inner wg) (inner wu) (inner wd) (vct g) (vct b) d := by
  unfold secondStep
  rw [show y 0 = i from Fin.ext h0, show y 1 = d from Fin.ext h1]

end Ffn
-- ==== Proof.FfnFirst.lean ====
/-
  The first half-step's kernel: what its body leaves, block by block, and the array it leaves.
-/
module

public import proofs.«01_k».proof.Proof.Ffn
public import proofs.«01_k».proof.Proof.Gen.Kernel2Ideal.Value
public import Idealize.ShloMosaic.Lib.Pipeline.ValueKit.Geometry
public import Idealize.ShloMosaic.Lib.Pipeline.ValueKit.Acc
public import Idealize.ShloMosaic.Lib.Claim

@[expose] public section

set_option maxRecDepth 16384

noncomputable section

namespace Ffn.First

open Idealize.ShloMosaic Idealize.ShloMosaic.TcCoe Idealize.SL.Sem
open Idealize.ShloMosaic.Pipeline (Dat)
open Idealize.ShloMosaic.ValueIdx
open Cert.Kernel2Ideal Cert.Kernel2Ideal.Gen

variable (m : (ℓ : Loc nD τ sig) → Buf (Elt Ideal) ℓ) (c : Dev nD)

/-- The body's feed-forward over one half of the hidden features. -/
theorem feed_pay (x : Vec Ideal S512x1024 .f32) (wg wu : Vec Ideal S1024x1408 .bf16) (wd : Vec Ideal S1408x1024 .bf16) (r : Fin 512) (d : Fin 1024) :
    k0_pay1 x wg wu wd (ix2 r d) = part (row x r) (fun k h => wg (ix2 k h)) (fun k h => wu (ix2 k h)) (fun h => wd (ix2 h d)) := by
  unfold k0_pay1
  simp only [shapeCast_self]
  exact feed_apply bitsLt_bf16_f32 x wg wu wd r d

/-- The body's layer norm. -/
theorem norm_pay (x f : Vec Ideal S512x1024 .f32) (g b : Vec Ideal S1x1024 .f32) (r : Fin 512) (d : Fin 1024) :
    k0_pay4 x f g b (ix2 r d) = norm (stepped (row x r) (row f r)) (vct g) (vct b) d := by
  unfold k0_pay4
  simp only [shapeCast_self]
  exact normed_stepped_apply broadcasts_S512x1_S512x1024 broadcasts_S1x1024_S512x1024 reduces_S512x1024_S512 shapeCasts_S512_S512x1 x f g b r d

/-- After an even point: the scratch holds the first half's feed-forward. -/
theorem even_at (t : Fin cfg0.N) (h : t.val % 2 = 0) :
    (outsAt0 m c t.val t.isLt).2 = k0_pay1 (iblk m c 0 t) (iblk m c 1 t) (iblk m c 2 t) (iblk m c 3 t) := by
  rw [outsAt0_A m c t h (by omega) (by omega)]
  frame_out
  unfold k0_pay2
  exact shapeCast_self _ _

/-- After an odd point: the output's block holds the layer norm, of the scratch with the second half's feed-forward added. -/
theorem odd_at (t : Fin cfg0.N) (h : t.val % 2 = 1) :
    (outsAt0 m c t.val t.isLt).1 = k0_pay4 (iblk m c 0 t)
      (addf (outsAt0 m c (t.val - 1) (Nat.lt_of_le_of_lt (Nat.sub_le _ _) t.isLt)).2 (k0_pay1 (iblk m c 0 t) (iblk m c 1 t) (iblk m c 2 t) (iblk m c 3 t)))
      (iblk m c 4 t) (iblk m c 5 t) := by
  rw [outsAt0_B m c t (by omega) h h]
  frame_out
  unfold k0_pay3
  simp only [shapeCast_self]
  exact congrArg (fun s => k0_pay4 (iblk m c 0 t) (addf s (k0_pay1 (iblk m c 0 t) (iblk m c 1 t) (iblk m c 2 t) (iblk m c 3 t))) (iblk m c 4 t) (iblk m c 5 t))
    (Memref.IsWhole.read_unread _ _)

/-! ## The blocks -/

/-- The arguments, as arrays. -/
abbrev argX : Toks.Idx → EReal := m ((c : Thread nD τ).loc main_arg0)
abbrev argG : Wide.Idx → EReal := m ((c : Thread nD τ).loc main_arg1)
abbrev argU : Wide.Idx → EReal := m ((c : Thread nD τ).loc main_arg2)
abbrev argD : Tall.Idx → EReal := m ((c : Thread nD τ).loc main_arg3)
abbrev argN : Vct.Idx → EReal := m ((c : Thread nD τ).loc main_arg4)
abbrev argB : Vct.Idx → EReal := m ((c : Thread nD τ).loc main_arg5)

/-- The windows' index maps. -/
theorem idx : ∀ t : Fin cfg0.N, win0_0.index t = ![t.val / 2, 0] ∧ win0_1.index t = ![0, t.val % 2] ∧ win0_2.index t = ![0, t.val % 2]
    ∧ win0_3.index t = ![t.val % 2, 0] ∧ win0_4.index t = ![0, 0] ∧ win0_5.index t = ![0, 0] ∧ win0_6.index t = ![t.val / 2, 0] :=
  (by decide +kernel : ∀ t : Fin grid0.N, _)

/-- The token of row `r` of the block at point `t`. -/
abbrev tokAt (t : Fin cfg0.N) (r : Fin 512) : Fin 32768 := ⟨t.val / 2 * 512 + r.val, by have : t.val < 128 := t.isLt; omega⟩
/-- The hidden feature of column `h` of the block at point `t`. -/
abbrev hidAt (t : Fin cfg0.N) (h : Fin 1408) : Fin 2816 := ⟨t.val % 2 * 1408 + h.val, by omega⟩

/-- What the region finds in the arrays the blocks are read from. -/
theorem V_x : (V m c main_v0 : S32768x1024.Idx → EReal) = shapeCast S32768x1024 (argX m c) shapeCasts_S16x2048x1024_S32768x1024 := rfl
theorem V_g : (V m c main_v2 : S1024x2816.Idx → EReal) = shapeCast S1024x2816 (argG m c) shapeCasts_S1x1024x2816_S1024x2816 := rfl
theorem V_u : (V m c main_v4 : S1024x2816.Idx → EReal) = shapeCast S1024x2816 (argU m c) shapeCasts_S1x1024x2816_S1024x2816 := rfl
theorem V_d : (V m c main_v6 : S2816x1024.Idx → EReal) = shapeCast S2816x1024 (argD m c) shapeCasts_S1x2816x1024_S2816x1024 := rfl

theorem x_at (t : Fin cfg0.N) (r : Fin 512) : row (iblk m c 0 t) r = tok (argX m c) (tokAt t r) := by
  funext k
  show (V m c main_v0 : S32768x1024.Idx → EReal) (((cfg0.win 0).blk t).view.emb (ix2 r k)) = _
  rw [V_x]
  refine rows_apply _ _ _ _ k ?_ ?_
  · blk_simp [idx t]
  · blk_simp [idx t]

theorem g_at (t : Fin cfg0.N) (k : Fin 1024) (h : Fin 1408) : (show Vec Ideal S1024x1408 .bf16 from iblk m c 1 t) (ix2 k h) = argG m c (ix3 0 k (hidAt t h)) := by
  show (V m c main_v2 : S1024x2816.Idx → EReal) (((cfg0.win 1).blk t).view.emb (ix2 k h)) = _
  rw [V_g]
  refine matrix_apply _ _ _ _ _ ?_ ?_
  · blk_simp [idx t]
  · blk_simp [idx t]

theorem u_at (t : Fin cfg0.N) (k : Fin 1024) (h : Fin 1408) : (show Vec Ideal S1024x1408 .bf16 from iblk m c 2 t) (ix2 k h) = argU m c (ix3 0 k (hidAt t h)) := by
  show (V m c main_v4 : S1024x2816.Idx → EReal) (((cfg0.win 2).blk t).view.emb (ix2 k h)) = _
  rw [V_u]
  refine matrix_apply _ _ _ _ _ ?_ ?_
  · blk_simp [idx t]
  · blk_simp [idx t]

theorem d_at (t : Fin cfg0.N) (h : Fin 1408) (k : Fin 1024) : (show Vec Ideal S1408x1024 .bf16 from iblk m c 3 t) (ix2 h k) = argD m c (ix3 0 (hidAt t h) k) := by
  show (V m c main_v6 : S2816x1024.Idx → EReal) (((cfg0.win 3).blk t).view.emb (ix2 h k)) = _
  rw [V_d]
  refine matrix_apply _ _ _ _ _ ?_ ?_
  · blk_simp [idx t]
  · blk_simp [idx t]

theorem n_at (t : Fin cfg0.N) : vct (iblk m c 4 t) = vct (argN m c) := by
  funext k
  show (V m c main_arg4 : S1x1024.Idx → EReal) (((cfg0.win 4).blk t).view.emb (ix2 0 k)) = _
  rw [V_main_arg4]
  exact congrArg (argN m c) (by funext a; apply Fin.ext; fin_cases a <;> blk_simp [idx t])

theorem b_at (t : Fin cfg0.N) : vct (iblk m c 5 t) = vct (argB m c) := by
  funext k
  show (V m c main_arg5 : S1x1024.Idx → EReal) (((cfg0.win 5).blk t).view.emb (ix2 0 k)) = _
  rw [V_main_arg5]
  exact congrArg (argB m c) (by funext a; apply Fin.ext; fin_cases a <;> blk_simp [idx t])

/-- The feed-forward of a point's block of rows over its block of hidden features. -/
theorem part_at (t : Fin cfg0.N) (r : Fin 512) (d : Fin 1024) :
    (k0_pay1 (iblk m c 0 t) (iblk m c 1 t) (iblk m c 2 t) (iblk m c 3 t) : FVec Ideal S512x1024 .f32) (ix2 r d)
      = part (tok (argX m c) (tokAt t r)) (fun k h => argG m c (ix3 0 k (hidAt t h))) (fun k h => argU m c (ix3 0 k (hidAt t h)))
          (fun h => argD m c (ix3 0 (hidAt t h) d)) := by
  refine (feed_pay _ _ _ _ r d).trans ?_
  rw [x_at]
  refine Finset.sum_congr rfl fun h _ => congrArg₂ (· * ·) (congrArg₂ gated ?_ ?_) (d_at m c t h d)
  · exact Finset.sum_congr rfl fun k _ => congrArg (_ * ·) (g_at m c t k h)
  · exact Finset.sum_congr rfl fun k _ => congrArg (_ * ·) (u_at m c t k h)

/-- What an odd point leaves of a row: its half-step. -/
theorem row_at (t : Fin cfg0.N) (h : t.val % 2 = 1) (r : Fin 512) (d : Fin 1024) :
    (outsAt0 m c t.val t.isLt).1 (ix2 r d) = half (tok (argX m c) (tokAt t r)) (inner (argG m c)) (inner (argU m c)) (inner (argD m c)) (vct (argN m c)) (vct (argB m c)) d := by
  rw [odd_at m c t h]
  refine (norm_pay _ _ _ _ r d).trans ?_
  rw [x_at, n_at, b_at]
  unfold half
  refine congrArg (fun f => norm (stepped _ f) _ _ d) (funext fun e => ?_)
  have ht : t.val < 128 := t.isLt
  let t' : Fin cfg0.N := ⟨t.val - 1, Nat.lt_of_le_of_lt (Nat.sub_le _ _) t.isLt⟩
  have h' : t'.val % 2 = 0 := by show (t.val - 1) % 2 = 0; omega
  show (outsAt0 m c t'.val t'.isLt).2 (ix2 r e) + _ = _
  rw [even_at m c t' h', part_at, part_at, part_halves]
  have et : tokAt t' r = tokAt t r := Fin.ext (by show (t.val - 1) / 2 * 512 + r.val = t.val / 2 * 512 + r.val; omega)
  have e0 : ∀ k : Fin 1408, hidAt t' k = ⟨k.val, by omega⟩ := fun k => Fin.ext (by show t'.val % 2 * 1408 + k.val = k.val; rw [h', Nat.zero_mul, Nat.zero_add])
  have e1 : ∀ k : Fin 1408, hidAt t k = ⟨1408 + k.val, by omega⟩ := fun k => Fin.ext (by show t.val % 2 * 1408 + k.val = 1408 + k.val; rw [h, Nat.one_mul])
  simp only [et, e0, e1]

/-- The array the kernel leaves. -/
theorem array_eq : (dats m 0 c).arrAt 6 (cfgs 0).N = firstStep (argX m c) (argG m c) (argU m c) (argD m c) (argN m c) (argB m c) := by
  refine (dats m 0 c).arrAt_eq_of_covers 6 _ (by decide +kernel) fun t hf y => ?_
  blk_simp
  rw [after0_6]
  have h : t.val % 2 = 1 := (flush0_6 t).1 hf
  rw [show y = ix2 (y 0) (y 1) from eq_ix2 y]
  refine (row_at m c t h (y 0) (y 1)).trans ?_
  refine (firstStep_at _ _ _ _ _ _ _ (tokAt t (y 0)) (y 1) ?_ ?_).symm
  · blk_simp [idx t]
  · blk_simp [idx t]

end Ffn.First
-- ==== Proof.FfnSecond.lean ====
/-
  The second half-step's kernel: what its body leaves, block by block, and the array it leaves. An even point mixes the rows and
  takes the feed-forward of the first half of the hidden features; the odd point after it adds the second half's and normalises.
-/
module

public import proofs.«01_k».proof.Proof.Ffn
public import proofs.«01_k».proof.Proof.Gen.Kernel3Ideal.Value
public import Idealize.ShloMosaic.Lib.Pipeline.ValueKit.Geometry
public import Idealize.ShloMosaic.Lib.Pipeline.ValueKit.Acc
public import Idealize.ShloMosaic.Lib.Claim

@[expose] public section

set_option maxRecDepth 16384

noncomputable section

namespace Ffn.Second

open Idealize.ShloMosaic Idealize.ShloMosaic.TcCoe Idealize.SL.Sem
open Idealize.ShloMosaic.Pipeline (Dat)
open Idealize.ShloMosaic.ValueIdx
open Cert.Kernel3Ideal Cert.Kernel3Ideal.Gen

variable (m : (ℓ : Loc nD τ sig) → Buf (Elt Ideal) ℓ) (c : Dev nD)

/-- The body's feed-forward over one half of the hidden features. -/
theorem feed_pay (x : Vec Ideal S512x1024 .f32) (wg wu : Vec Ideal S1024x1408 .bf16) (wd : Vec Ideal S1408x1024 .bf16) (r : Fin 512) (d : Fin 1024) :
    k0_pay2 x wg wu wd (ix2 r d) = part (row x r) (fun k h => wg (ix2 k h)) (fun k h => wu (ix2 k h)) (fun h => wd (ix2 h d)) := by
  unfold k0_pay2
  simp only [shapeCast_self]
  exact feed_apply bitsLt_bf16_f32 x wg wu wd r d

/-- The body's layer norm. -/
theorem norm_pay (x f : Vec Ideal S512x1024 .f32) (g b : Vec Ideal S1x1024 .f32) (r : Fin 512) (d : Fin 1024) :
    k0_pay5 x f g b (ix2 r d) = norm (stepped (row x r) (row f r)) (vct g) (vct b) d :=
  normed_stepped_apply broadcasts_S512x1_S512x1024 broadcasts_S1x1024_S512x1024 reduces_S512x1024_S512 shapeCasts_S512_S512x1 x f g b r d

/-- The body's mixing. -/
theorem mix_pay (a : Vec Ideal S512x512 .f32) (wa : Vec Ideal S512x1024 .bf16) (n : Vec Ideal S512x512 .f32) (wn : Vec Ideal S512x1024 .bf16)
    (x : Vec Ideal S512x1024 .f32) (g b : Vec Ideal S1x1024 .f32) (r : Fin 512) (d : Fin 1024) :
    k0_pay1 b (k0_pay6 a wa n wn x g) (ix2 r d) = norm (row (mergedRows bitsLt_bf16_f32 x a n wa wn) r) (vct g) (vct b) d := by
  unfold k0_pay1 k0_pay6
  simp only [shapeCast_self]
  exact normed_apply broadcasts_S512x1_S512x1024 broadcasts_S1x1024_S512x1024 reduces_S512x1024_S512 shapeCasts_S512_S512x1 _ g b r d

/-- The block an even point mixes. -/
abbrev mix (t : Fin cfg0.N) : FVec Ideal S512x1024 .f32 :=
  k0_pay1 (iblk m c 6 t) (k0_pay6 (iblk m c 1 t) (iblk m c 3 t) (iblk m c 2 t) (iblk m c 4 t) (iblk m c 0 t) (iblk m c 5 t))

/-- After an even point: one scratch holds the mixed rows, -/
theorem even_mix (t : Fin cfg0.N) (h : t.val % 2 = 0) : (outsAt0 m c t.val t.isLt).2.2 = mix m c t := by
  rw [outsAt0_A m c t h h (by omega) (by omega)]
  frame_out

/-- and the other the first half's feed-forward of them. -/
theorem even_at (t : Fin cfg0.N) (h : t.val % 2 = 0) :
    (outsAt0 m c t.val t.isLt).2.1 = k0_pay2 (mix m c t) (iblk m c 7 t) (iblk m c 8 t) (iblk m c 9 t) := by
  rw [outsAt0_A m c t h h (by omega) (by omega)]
  frame_out
  unfold k0_pay3
  exact shapeCast_self _ _

/-- After an odd point: the output's block holds the layer norm, of the scratch with the second half's feed-forward added. -/
theorem odd_at (t : Fin cfg0.N) (h : t.val % 2 = 1) (x f : FVec Ideal S512x1024 .f32)
    (hx : (outsAt0 m c (t.val - 1) (Nat.lt_of_le_of_lt (Nat.sub_le _ _) t.isLt)).2.2 = x)
    (hf : (outsAt0 m c (t.val - 1) (Nat.lt_of_le_of_lt (Nat.sub_le _ _) t.isLt)).2.1 = f) :
    (outsAt0 m c t.val t.isLt).1 = k0_pay5 x (addf f (k0_pay2 x (iblk m c 7 t) (iblk m c 8 t) (iblk m c 9 t))) (iblk m c 10 t) (iblk m c 11 t) := by
  rw [outsAt0_B m c t (by omega) (by omega) h h, hx, hf]
  frame_out
  unfold k0_pay4
  simp only [shapeCast_self]
  exact congrArg₂ (fun x f => k0_pay5 x (addf f (k0_pay2 x (iblk m c 7 t) (iblk m c 8 t) (iblk m c 9 t))) (iblk m c 10 t) (iblk m c 11 t))
    (Memref.IsWhole.read_unread _ _) (Memref.IsWhole.read_unread _ _)

/-! ## The blocks -/

/-- The arguments, as arrays. -/
abbrev argX : Toks.Idx → EReal := m ((c : Thread nD τ).loc main_arg0)
abbrev argA : Heads.Idx → EReal := m ((c : Thread nD τ).loc main_arg1)
abbrev argR : Heads.Idx → EReal := m ((c : Thread nD τ).loc main_arg2)
abbrev argO : Proj.Idx → EReal := m ((c : Thread nD τ).loc main_arg3)
abbrev argN₂ : Vct.Idx → EReal := m ((c : Thread nD τ).loc main_arg4)
abbrev argB₂ : Vct.Idx → EReal := m ((c : Thread nD τ).loc main_arg5)
abbrev argG : Wide.Idx → EReal := m ((c : Thread nD τ).loc main_arg6)
abbrev argU : Wide.Idx → EReal := m ((c : Thread nD τ).loc main_arg7)
abbrev argD : Tall.Idx → EReal := m ((c : Thread nD τ).loc main_arg8)
abbrev argN : Vct.Idx → EReal := m ((c : Thread nD τ).loc main_arg9)
abbrev argB : Vct.Idx → EReal := m ((c : Thread nD τ).loc main_arg10)

/-- The windows' index maps. -/
theorem idx : ∀ t : Fin cfg0.N, (win0_0.index t = ![t.val / 2, 0] ∧ win0_1.index t = ![t.val / 2, 0] ∧ win0_2.index t = ![t.val / 2, 0])
    ∧ (win0_3.index t = ![0, 0] ∧ win0_4.index t = ![0, 0] ∧ win0_5.index t = ![0, 0] ∧ win0_6.index t = ![0, 0])
    ∧ (win0_7.index t = ![0, t.val % 2] ∧ win0_8.index t = ![0, t.val % 2] ∧ win0_9.index t = ![t.val % 2, 0])
    ∧ win0_10.index t = ![0, 0] ∧ win0_11.index t = ![0, 0] ∧ win0_12.index t = ![t.val / 2, 0] :=
  (by decide +kernel : ∀ t : Fin grid0.N, _)

/-- The token of row `r` of the block at point `t`. -/
abbrev tokAt (t : Fin cfg0.N) (r : Fin 512) : Fin 32768 := ⟨t.val / 2 * 512 + r.val, by have : t.val < 128 := t.isLt; omega⟩
/-- The hidden feature of column `h` of the block at point `t`. -/
abbrev hidAt (t : Fin cfg0.N) (h : Fin 1408) : Fin 2816 := ⟨t.val % 2 * 1408 + h.val, by omega⟩

/-- What the region finds in the arrays the blocks are read from. -/
theorem V_x : (V m c main_v6 : S32768x1024.Idx → EReal) = shapeCast S32768x1024 (argX m c) shapeCasts_S16x2048x1024_S32768x1024 := rfl
theorem V_a : (V m c main_v13 : S32768x512.Idx → EReal) = shapeCast S32768x512 (argA m c) shapeCasts_S16x2048x512_S32768x512 := rfl
theorem V_r : (V m c main_v14 : S32768x512.Idx → EReal) = shapeCast S32768x512 (argR m c) shapeCasts_S16x2048x512_S32768x512 := rfl
theorem V_top : (V m c main_v2 : S512x1024.Idx → EReal)
    = extractStridedSlice S512x1024 ![0, 0] (shapeCast S1024x1024 (argO m c) shapeCasts_S1x1024x1024_S1024x1024) slices_S1024x1024_S512x1024_0_0 := rfl
theorem V_bot : (V m c main_v5 : S512x1024.Idx → EReal)
    = extractStridedSlice S512x1024 ![512, 0] (shapeCast S1024x1024 (argO m c) shapeCasts_S1x1024x1024_S1024x1024) slices_S1024x1024_S512x1024_512_0 := rfl
theorem V_g : (V m c main_v8 : S1024x2816.Idx → EReal) = shapeCast S1024x2816 (argG m c) shapeCasts_S1x1024x2816_S1024x2816 := rfl
theorem V_u : (V m c main_v10 : S1024x2816.Idx → EReal) = shapeCast S1024x2816 (argU m c) shapeCasts_S1x1024x2816_S1024x2816 := rfl
theorem V_d : (V m c main_v12 : S2816x1024.Idx → EReal) = shapeCast S2816x1024 (argD m c) shapeCasts_S1x2816x1024_S2816x1024 := rfl

theorem x_at (t : Fin cfg0.N) (r : Fin 512) : row (iblk m c 0 t) r = tok (argX m c) (tokAt t r) := by
  funext k
  show (V m c main_v6 : S32768x1024.Idx → EReal) (((cfg0.win 0).blk t).view.emb (ix2 r k)) = _
  rw [V_x]
  refine rows_apply _ _ _ _ k ?_ ?_
  · blk_simp [idx t]
  · blk_simp [idx t]

theorem a_at (t : Fin cfg0.N) (r : Fin 512) (k : Fin 512) : (show Vec Ideal S512x512 .f32 from iblk m c 1 t) (ix2 r k) = tok (argA m c) (tokAt t r) k := by
  show (V m c main_v13 : S32768x512.Idx → EReal) (((cfg0.win 1).blk t).view.emb (ix2 r k)) = _
  rw [V_a]
  refine rows_apply _ _ _ _ k ?_ ?_
  · blk_simp [idx t]
  · blk_simp [idx t]

theorem r_at (t : Fin cfg0.N) (r : Fin 512) (k : Fin 512) : (show Vec Ideal S512x512 .f32 from iblk m c 2 t) (ix2 r k) = tok (argR m c) (tokAt t r) k := by
  show (V m c main_v14 : S32768x512.Idx → EReal) (((cfg0.win 2).blk t).view.emb (ix2 r k)) = _
  rw [V_r]
  refine rows_apply _ _ _ _ k ?_ ?_
  · blk_simp [idx t]
  · blk_simp [idx t]

theorem top_at (t : Fin cfg0.N) (k : Fin 512) (d : Fin 1024) : (show Vec Ideal S512x1024 .bf16 from iblk m c 3 t) (ix2 k d) = argO m c (ix3 0 ⟨k.val, by omega⟩ d) := by
  show (V m c main_v2 : S512x1024.Idx → EReal) (((cfg0.win 3).blk t).view.emb (ix2 k d)) = _
  have e : ((cfg0.win 3).blk t).view.emb (ix2 k d) = ix2 k d := by funext a; apply Fin.ext; fin_cases a <;> blk_simp [idx t]
  rw [V_top]
  refine (congrArg _ e).trans ?_
  refine (extractStridedSlice_apply _ _ _ _ (ix2 (⟨k.val, by omega⟩ : Fin 1024) d) (fun a => ?_)).trans (matrix_apply _ _ _ _ _ rfl rfl)
  fin_cases a
  · show k.val = 0 + k.val; omega
  · show d.val = 0 + d.val; omega

theorem bot_at (t : Fin cfg0.N) (k : Fin 512) (d : Fin 1024) : (show Vec Ideal S512x1024 .bf16 from iblk m c 4 t) (ix2 k d) = argO m c (ix3 0 ⟨512 + k.val, by omega⟩ d) := by
  show (V m c main_v5 : S512x1024.Idx → EReal) (((cfg0.win 4).blk t).view.emb (ix2 k d)) = _
  have e : ((cfg0.win 4).blk t).view.emb (ix2 k d) = ix2 k d := by funext a; apply Fin.ext; fin_cases a <;> blk_simp [idx t]
  rw [V_bot]
  refine (congrArg _ e).trans ?_
  refine (extractStridedSlice_apply _ _ _ _ (ix2 (⟨512 + k.val, by omega⟩ : Fin 1024) d) (fun a => ?_)).trans (matrix_apply _ _ _ _ _ rfl rfl)
  fin_cases a
  · show 512 + k.val = 512 + k.val; omega
  · show d.val = 0 + d.val; omega

theorem g_at (t : Fin cfg0.N) (k : Fin 1024) (h : Fin 1408) : (show Vec Ideal S1024x1408 .bf16 from iblk m c 7 t) (ix2 k h) = argG m c (ix3 0 k (hidAt t h)) := by
  show (V m c main_v8 : S1024x2816.Idx → EReal) (((cfg0.win 7).blk t).view.emb (ix2 k h)) = _
  rw [V_g]
  refine matrix_apply _ _ _ _ _ ?_ ?_
  · blk_simp [idx t]
  · blk_simp [idx t]

theorem u_at (t : Fin cfg0.N) (k : Fin 1024) (h : Fin 1408) : (show Vec Ideal S1024x1408 .bf16 from iblk m c 8 t) (ix2 k h) = argU m c (ix3 0 k (hidAt t h)) := by
  show (V m c main_v10 : S1024x2816.Idx → EReal) (((cfg0.win 8).blk t).view.emb (ix2 k h)) = _
  rw [V_u]
  refine matrix_apply _ _ _ _ _ ?_ ?_
  · blk_simp [idx t]
  · blk_simp [idx t]

theorem d_at (t : Fin cfg0.N) (h : Fin 1408) (k : Fin 1024) : (show Vec Ideal S1408x1024 .bf16 from iblk m c 9 t) (ix2 h k) = argD m c (ix3 0 (hidAt t h) k) := by
  show (V m c main_v12 : S2816x1024.Idx → EReal) (((cfg0.win 9).blk t).view.emb (ix2 h k)) = _
  rw [V_d]
  refine matrix_apply _ _ _ _ _ ?_ ?_
  · blk_simp [idx t]
  · blk_simp [idx t]

theorem n₂_at (t : Fin cfg0.N) : vct (iblk m c 5 t) = vct (argN₂ m c) := by
  funext k
  show (V m c main_arg4 : S1x1024.Idx → EReal) (((cfg0.win 5).blk t).view.emb (ix2 0 k)) = _
  rw [V_main_arg4]
  exact congrArg (argN₂ m c) (by funext a; apply Fin.ext; fin_cases a <;> blk_simp [idx t])

theorem b₂_at (t : Fin cfg0.N) : vct (iblk m c 6 t) = vct (argB₂ m c) := by
  funext k
  show (V m c main_arg5 : S1x1024.Idx → EReal) (((cfg0.win 6).blk t).view.emb (ix2 0 k)) = _
  rw [V_main_arg5]
  exact congrArg (argB₂ m c) (by funext a; apply Fin.ext; fin_cases a <;> blk_simp [idx t])

theorem n_at (t : Fin cfg0.N) : vct (iblk m c 10 t) = vct (argN m c) := by
  funext k
  show (V m c main_arg9 : S1x1024.Idx → EReal) (((cfg0.win 10).blk t).view.emb (ix2 0 k)) = _
  rw [V_main_arg9]
  exact congrArg (argN m c) (by funext a; apply Fin.ext; fin_cases a <;> blk_simp [idx t])

theorem b_at (t : Fin cfg0.N) : vct (iblk m c 11 t) = vct (argB m c) := by
  funext k
  show (V m c main_arg10 : S1x1024.Idx → EReal) (((cfg0.win 11).blk t).view.emb (ix2 0 k)) = _
  rw [V_main_arg10]
  exact congrArg (argB m c) (by funext a; apply Fin.ext; fin_cases a <;> blk_simp [idx t])

/-! ## The array -/

/-- A token's mixed row. -/
abbrev mixedAt (i : Fin 32768) : Fin 1024 → EReal :=
  mixed (tok (argX m c) i) (tok (argA m c) i) (tok (argR m c) i) (inner (argO m c)) (vct (argN₂ m c)) (vct (argB₂ m c))

theorem mix_at (t : Fin cfg0.N) (r : Fin 512) : row (mix m c t) r = mixedAt m c (tokAt t r) := by
  funext d
  refine (mix_pay _ _ _ _ _ _ _ r d).trans ?_
  rw [n₂_at, b₂_at]
  refine congrArg (fun s => norm s _ _ d) (funext fun e => (mergedRows_apply _ _ _ _ _ _ r e).trans ?_)
  refine congrArg₂ (· + ·) (congrArg (_ * ·) (congrFun (x_at m c t r) e)) (congrArg₂ (· + ·) ?_ ?_)
  · exact Finset.sum_congr rfl fun k _ => congrArg₂ (· * ·) (a_at m c t r k) (top_at m c t k e)
  · exact Finset.sum_congr rfl fun k _ => congrArg₂ (· * ·) (r_at m c t r k) (bot_at m c t k e)

/-- The feed-forward of rows over a point's block of hidden features. -/
theorem part_at (t : Fin cfg0.N) (x : FVec Ideal S512x1024 .f32) (r : Fin 512) (d : Fin 1024) :
    (k0_pay2 x (iblk m c 7 t) (iblk m c 8 t) (iblk m c 9 t) : FVec Ideal S512x1024 .f32) (ix2 r d)
      = part (row x r) (fun k h => argG m c (ix3 0 k (hidAt t h))) (fun k h => argU m c (ix3 0 k (hidAt t h))) (fun h => argD m c (ix3 0 (hidAt t h) d)) := by
  refine (feed_pay _ _ _ _ r d).trans ?_
  refine Finset.sum_congr rfl fun h _ => congrArg₂ (· * ·) (congrArg₂ gated ?_ ?_) (d_at m c t h d)
  · exact Finset.sum_congr rfl fun k _ => congrArg (_ * ·) (g_at m c t k h)
  · exact Finset.sum_congr rfl fun k _ => congrArg (_ * ·) (u_at m c t k h)

/-- What an odd point leaves of a row, after the even point before it: the half-step of its mixed row. -/
theorem row_after (t t' : Fin cfg0.N) (h : t.val % 2 = 1) (h' : t'.val % 2 = 0) (r : Fin 512) (et : tokAt t' r = tokAt t r) (d : Fin 1024) :
    k0_pay5 (mix m c t') (addf (k0_pay2 (mix m c t') (iblk m c 7 t') (iblk m c 8 t') (iblk m c 9 t'))
        (k0_pay2 (mix m c t') (iblk m c 7 t) (iblk m c 8 t) (iblk m c 9 t))) (iblk m c 10 t) (iblk m c 11 t) (ix2 r d)
      = half (mixedAt m c (tokAt t r)) (inner (argG m c)) (inner (argU m c)) (inner (argD m c)) (vct (argN m c)) (vct (argB m c)) d := by
  have e0 : ∀ k : Fin 1408, hidAt t' k = ⟨k.val, by omega⟩ := fun k => Fin.ext (by show t'.val % 2 * 1408 + k.val = k.val; rw [h', Nat.zero_mul, Nat.zero_add])
  have e1 : ∀ k : Fin 1408, hidAt t k = ⟨1408 + k.val, by omega⟩ := fun k => Fin.ext (by show t.val % 2 * 1408 + k.val = 1408 + k.val; rw [h, Nat.one_mul])
  have hm : row (mix m c t') r = mixedAt m c (tokAt t r) := (mix_at m c t' r).trans (congrArg (mixedAt m c) et)
  generalize mix m c t' = x at hm ⊢
  generalize mixedAt m c (tokAt t r) = y at hm ⊢
  refine (norm_pay _ _ _ _ r d).trans ?_
  rw [hm, n_at, b_at]
  refine congrArg (fun f => norm (stepped y f) (vct (argN m c)) (vct (argB m c)) d) (?_ : _ = fun e => part y (inner (argG m c)) (inner (argU m c)) fun h => inner (argD m c) h e)
  funext e
  show k0_pay2 x (iblk m c 7 t') (iblk m c 8 t') (iblk m c 9 t') (ix2 r e) + k0_pay2 x (iblk m c 7 t) (iblk m c 8 t) (iblk m c 9 t) (ix2 r e) = _
  rw [part_at, part_at, hm, part_halves]
  simp only [e0, e1]

/-- What an odd point leaves of a row. -/
theorem row_at (t : Fin cfg0.N) (h : t.val % 2 = 1) (r : Fin 512) (d : Fin 1024) :
    (outsAt0 m c t.val t.isLt).1 (ix2 r d)
      = half (mixedAt m c (tokAt t r)) (inner (argG m c)) (inner (argU m c)) (inner (argD m c)) (vct (argN m c)) (vct (argB m c)) d := by
  have ht : t.val < 128 := t.isLt
  have h' : (t.val - 1) % 2 = 0 := by omega
  refine (congrFun (odd_at m c t h _ _ (even_mix m c ⟨t.val - 1, by omega⟩ h') (even_at m c ⟨t.val - 1, by omega⟩ h')) (ix2 r d)).trans ?_
  exact row_after m c t ⟨t.val - 1, by omega⟩ h h' r (Fin.ext (by show (t.val - 1) / 2 * 512 + r.val = t.val / 2 * 512 + r.val; omega)) d

/-- The array the kernel leaves. -/
theorem array_eq : (dats m 0 c).arrAt 12 (cfgs 0).N = secondStep (argX m c) (argA m c) (argR m c) (argO m c) (argN₂ m c) (argB₂ m c) (argG m c) (argU m c)
    (argD m c) (argN m c) (argB m c) := by
  refine (dats m 0 c).arrAt_eq_of_covers 12 _ (by decide +kernel) fun t hf y => ?_
  blk_simp
  rw [after0_12]
  have h : t.val % 2 = 1 := (flush0_12 t).1 hf
  rw [show y = ix2 (y 0) (y 1) from eq_ix2 y]
  refine (row_at m c t h (y 0) (y 1)).trans ?_
  refine (secondStep_at _ _ _ _ _ _ _ _ _ _ _ _ (tokAt t (y 0)) (y 1) ?_ ?_).symm
  · blk_simp [idx t]
  · blk_simp [idx t]

end Ffn.Second
-- ==== Proof.FfnRef.lean ====
/-
  The reference of the first half-step: the array it leaves is the half-step of every token.
-/
module

public import proofs.«01_k».proof.Proof.Ffn
public import proofs.«01_k».proof.Proof.Gen.Reference2Ideal.Read

@[expose] public section

noncomputable section

namespace Ffn

open Idealize.ShloMosaic Idealize.ShloMosaic.ValueIdx
open Cert.Reference2Ideal Cert.Reference2Ideal.Gen Cert.Reference2Ideal.Read

/-! ## The layer norm of an array -/

abbrev One : Shape := ⟨3, ![16, 2048, 1]⟩

/-- A token's row, by its sequence and its position. -/
abbrev line {n : ℕ} (x : (⟨3, ![16, 2048, n]⟩ : Shape).Idx → EReal) (a : Fin 16) (p : Fin 2048) : Fin n → EReal := fun k => x (ix3 a p k)

/-- The rows' means. -/
def hostMeans (s : FVec Ideal Toks .f32) : FVec Ideal One .f32 :=
  Host.divf (broadcastInDim S16x2048x1 ![0, 1] bcast_S16x2048_S16x2048x1_0_1
      (Host.reduceAdd s (constant S_ .f32 0x00000000#32) reducesTo_S16x2048x1024_S16x2048_d2 h_S_))
    (broadcastInDim S16x2048x1 ![] bcast_S_S16x2048x1 (constant S_ .f32 0x44800000#32))

theorem hostMeans_apply (s : FVec Ideal Toks .f32) (a : Fin 16) (p : Fin 2048) : hostMeans s (ix3 a p 0) = mean (line s a p) := by
  show Ideal.div (broadcastInDim S16x2048x1 ![0, 1] bcast_S16x2048_S16x2048x1_0_1
    (Host.reduceAdd s (constant S_ .f32 0x00000000#32) reducesTo_S16x2048x1024_S16x2048_d2 h_S_) (ix3 a p 0)) (Ideal.ofBits .f32 0x44800000#32) = _
  refine congrArg (Ideal.div · _) ?_
  refine (broadcastInDim_apply _ _ _ _ (ix2 a p) (fun k => by fin_cases k <;> rfl)).trans ?_
  simp only [Host.reduceAdd, Ideal.hostReduceAdd_def]
  rw [Ideal.hostReduceAdd_single reducesTo_S16x2048x1024_S16x2048_d2 (by decide)]
  rw [show constant (F := Ideal) S_ .f32 0x00000000#32 _ = (0 : EReal) from Ideal.ofBits_zero_f32, zero_add]
  exact Finset.sum_congr rfl fun k _ => congrArg s (funext fun c => Fin.ext (by fin_cases c <;> rfl))

/-- An array less its rows' means. -/
def hostCentred (s : FVec Ideal Toks .f32) : FVec Ideal Toks .f32 :=
  subf s (broadcastInDim S16x2048x1024 ![0, 1, 2] bcast_S16x2048x1_S16x2048x1024_0_1_2 (hostMeans s))

theorem hostSpread_apply (t : One.Idx → EReal) (a : Fin 16) (p : Fin 2048) (d : Fin 1024) :
    broadcastInDim S16x2048x1024 ![0, 1, 2] bcast_S16x2048x1_S16x2048x1024_0_1_2 t (ix3 a p d) = t (ix3 a p 0) :=
  broadcastInDim_apply _ _ _ _ _ fun k => by fin_cases k <;> rfl

theorem hostCentred_apply (s : FVec Ideal Toks .f32) (a : Fin 16) (p : Fin 2048) (d : Fin 1024) :
    hostCentred s (ix3 a p d) = s (ix3 a p d) - mean (line s a p) := by
  show s (ix3 a p d) - broadcastInDim S16x2048x1024 ![0, 1, 2] bcast_S16x2048x1_S16x2048x1024_0_1_2 (hostMeans s) (ix3 a p d) = _
  rw [hostSpread_apply, hostMeans_apply]

/-- A vector along the rows. -/
def hostVector (g : FVec Ideal Vct .f32) : FVec Ideal Toks .f32 :=
  broadcastInDim S16x2048x1024 ![0, 1, 2] bcast_S1x1x1024_S16x2048x1024_0_1_2
    (broadcastInDim S1x1x1024 ![2] bcast_S1024_S1x1x1024_2 (shapeCast S1024 g shapeCasts_S1x1024_S1024))

theorem hostVector_apply (g : FVec Ideal Vct .f32) (a : Fin 16) (p : Fin 2048) (d : Fin 1024) : hostVector g (ix3 a p d) = vct g d := by
  refine (broadcastInDim_apply _ _ _ _ (ix3 0 0 d) (fun k => by fin_cases k <;> rfl)).trans ?_
  refine (broadcastInDim_apply _ _ _ _ (ix1 d) (fun k => by fin_cases k <;> rfl)).trans ?_
  exact shapeCast_apply _ _ _ (ix2 0 d) (by rw [Shape.rowMajor_val_two]; simp [Shape.rowMajor_val_one, ix1, ix2])

/-- The layer norm of an array. -/
def hostNorm (s : FVec Ideal Toks .f32) (g b : FVec Ideal Vct .f32) : FVec Ideal Toks .f32 :=
  addf (mulf (mulf (hostCentred s) (broadcastInDim S16x2048x1024 ![0, 1, 2] bcast_S16x2048x1_S16x2048x1024_0_1_2
    (Host.rsqrt (addf (hostMeans (mulf (hostCentred s) (hostCentred s))) (broadcastInDim S16x2048x1 ![] bcast_S_S16x2048x1 (constant S_ .f32 0x3727C5AC#32))))))
    (hostVector g)) (hostVector b)

theorem hostNorm_apply (s : FVec Ideal Toks .f32) (g b : FVec Ideal Vct .f32) (a : Fin 16) (p : Fin 2048) (d : Fin 1024) :
    hostNorm s g b (ix3 a p d) = norm (line s a p) (vct g) (vct b) d := by
  show hostCentred s (ix3 a p d) * broadcastInDim S16x2048x1024 ![0, 1, 2] bcast_S16x2048x1_S16x2048x1024_0_1_2
    (Host.rsqrt (addf (hostMeans (mulf (hostCentred s) (hostCentred s))) (broadcastInDim S16x2048x1 ![] bcast_S_S16x2048x1 (constant S_ .f32 0x3727C5AC#32)))) (ix3 a p d)
    * hostVector g (ix3 a p d) + hostVector b (ix3 a p d) = _
  rw [hostCentred_apply, hostSpread_apply, hostVector_apply, hostVector_apply]
  show _ * Ideal.rsqrt (hostMeans (mulf (hostCentred s) (hostCentred s)) (ix3 a p 0) + Ideal.ofBits .f32 0x3727C5AC#32) * _ + _ = _
  rw [hostMeans_apply]
  refine congrArg (fun v => (s (ix3 a p d) - mean (line s a p)) * Ideal.rsqrt (mean v + Ideal.ofBits .f32 0x3727C5AC#32) * vct g d + vct b d) (funext fun k => ?_)
  show hostCentred s (ix3 a p k) * hostCentred s (ix3 a p k) = _
  rw [hostCentred_apply]

/-! ## The reference -/

variable (x : FVec Ideal Toks .f32) (wg wu : FVec Ideal Wide .f32) (wd : FVec Ideal Tall .f32) (g b : FVec Ideal Vct .f32)

theorem gate_line (a : Fin 16) (p : Fin 2048) (h : Fin 2816) : val_main_v7 (F := Ideal) x wg (ix3 a p h) = dot (line x a p) fun k => inner wg k h := by
  rw [val_main_v7_apply]
  refine Finset.sum_congr rfl fun k _ => congrArg₂ (· * ·) (congrArg x (funext fun c => by fin_cases c <;> rfl)) ?_
  exact matrix_apply wg _ _ k h rfl rfl

theorem up_line (a : Fin 16) (p : Fin 2048) (h : Fin 2816) : val_main_v9 (F := Ideal) x wu (ix3 a p h) = dot (line x a p) fun k => inner wu k h := by
  rw [val_main_v9_apply]
  refine Finset.sum_congr rfl fun k _ => congrArg₂ (· * ·) (congrArg x (funext fun c => by fin_cases c <;> rfl)) ?_
  exact matrix_apply wu _ _ k h rfl rfl

theorem gated_line (a : Fin 16) (p : Fin 2048) (h : Fin 2816) :
    val_main_v10 (F := Ideal) x wg wu (ix3 a p h) = gated (dot (line x a p) fun k => inner wg k h) (dot (line x a p) fun k => inner wu k h) := by
  rw [← gate_line, ← up_line]
  generalize hv : val_main_v7 (F := Ideal) x wg (ix3 a p h) = v
  generalize hu : val_main_v9 (F := Ideal) x wu (ix3 a p h) = u
  show val_main_v7 (F := Ideal) x wg (ix3 a p h) * Ideal.div (Ideal.ofBits .f32 0x3F800000#32) (Ideal.ofBits .f32 0x3F800000#32
    + Ideal.exp (-val_main_v7 (F := Ideal) x wg (ix3 a p h))) * val_main_v9 (F := Ideal) x wu (ix3 a p h) = _
  rw [hv, hu, Ideal.ofBits_one_f32]
  rfl

theorem feed_line (a : Fin 16) (p : Fin 2048) (d : Fin 1024) :
    val_main_v11 (F := Ideal) x wg wu wd (ix3 a p d) = part (line x a p) (inner wg) (inner wu) fun h => inner wd h d := by
  rw [val_main_v11_apply]
  refine Finset.sum_congr rfl fun h _ => congrArg₂ (· * ·) ?_ ?_
  · refine (congrArg (val_main_v10 (F := Ideal) x wg wu) (?_ : _ = ix3 a p h)).trans (gated_line x wg wu a p h)
    funext c; fin_cases c <;> rfl
  · exact matrix_apply wd _ _ h d rfl rfl

theorem stepped_line (a : Fin 16) (p : Fin 2048) :
    line (val_main_v14 (F := Ideal) x wg wu wd) a p = stepped (line x a p) fun d => part (line x a p) (inner wg) (inner wu) fun h => inner wd h d := by
  funext d
  show Ideal.ofBits .f32 0x3F9837F0#32 * x (ix3 a p d) + Ideal.ofBits .f32 0x3F000000#32 * val_main_v11 (F := Ideal) x wg wu wd (ix3 a p d) = _
  rw [feed_line]
  rfl

theorem normed_eq : val_main_v38 (F := Ideal) x wg wu wd g b = hostNorm (val_main_v14 (F := Ideal) x wg wu wd) g b := rfl

/-- The half-step of every token. -/
theorem reference_eq : val_main_v39 (F := Ideal) x wg wu wd g b = firstStep x wg wu wd g b := by
  funext y
  refine (rows_apply _ _ y (y 0) (y 1) rfl rfl).trans ?_
  rw [normed_eq]
  refine (hostNorm_apply _ g b _ _ _).trans ?_
  rw [stepped_line]
  rfl

end Ffn
-- ==== Proof.FfnMixRef.lean ====
/-
  The reference of the second half-step: it mixes the rows, and takes the first reference's half-step of them.
-/
module

public import proofs.«01_k».proof.Proof.FfnRef
public import proofs.«01_k».proof.Proof.Gen.Reference3Ideal.Read

@[expose] public section

noncomputable section

namespace Ffn

open Idealize.ShloMosaic Idealize.ShloMosaic.ValueIdx
open Cert.Reference3Ideal Cert.Reference3Ideal.Gen Cert.Reference3Ideal.Read

variable (x : FVec Ideal Toks .f32) (a n : FVec Ideal Heads .f32) (w : FVec Ideal Proj .f32) (g₂ b₂ : FVec Ideal Vct .f32)
  (wg wu : FVec Ideal Wide .f32) (wd : FVec Ideal Tall .f32) (g b : FVec Ideal Vct .f32)

/-- The two mixers' rows side by side. -/
theorem beside_left (s : Fin 16) (p : Fin 2048) (k : Fin 512) : val_main_v5 (F := Ideal) a n (ix3 s p ⟨k.val, by omega⟩) = line a s p k :=
  concatenate_pair_apply_left (t := S16x2048x1024) 2 a n concatenates_S16x2048x512_S16x2048x512_S16x2048x1024_d2 (ix3 s p ⟨k.val, by omega⟩) rfl (ix3 s p k)
    fun c => by fin_cases c <;> rfl

theorem beside_right (s : Fin 16) (p : Fin 2048) (k : Fin 512) : val_main_v5 (F := Ideal) a n (ix3 s p ⟨512 + k.val, by omega⟩) = line n s p k := by
  refine concatenate_pair_apply_right (t := S16x2048x1024) 2 a n concatenates_S16x2048x512_S16x2048x512_S16x2048x1024_d2 (ix3 s p ⟨512 + k.val, by omega⟩) rfl rfl
    (ix3 s p k) (fun c hc => ?_) (Nat.add_comm _ _)
  fin_cases c
  · rfl
  · rfl
  · exact absurd rfl hc

theorem merged_line (s : Fin 16) (p : Fin 2048) : line (val_main_v7 (F := Ideal) x a n w) s p = merged (line x s p) (line a s p) (line n s p) (inner w) := by
  funext d
  show Ideal.ofBits .f32 0x3F9837F0#32 * x (ix3 s p d) + val_main_v6 (F := Ideal) a n w (ix3 s p d) = _
  refine congrArg (Ideal.ofBits .f32 0x3F9837F0#32 * x (ix3 s p d) + ·) ?_
  rw [val_main_v6_apply]
  refine (sum_halves (n := 512) rfl _).trans (congrArg₂ (· + ·) ?_ ?_)
  · refine Finset.sum_congr rfl fun k _ => congrArg₂ (· * ·) ?_ (matrix_apply w _ _ ⟨k.val, by omega⟩ d rfl rfl)
    exact (congrArg (val_main_v5 (F := Ideal) a n) (by funext c; fin_cases c <;> rfl)).trans (beside_left a n s p k)
  · refine Finset.sum_congr rfl fun k _ => congrArg₂ (· * ·) ?_ (matrix_apply w _ _ ⟨512 + k.val, by omega⟩ d rfl rfl)
    exact (congrArg (val_main_v5 (F := Ideal) a n) (by funext c; fin_cases c <;> rfl)).trans (beside_right a n s p k)

/-- The mixed rows. -/
theorem mixed_eq : val_main_v31 (F := Ideal) x a n w g₂ b₂ = hostNorm (val_main_v7 (F := Ideal) x a n w) g₂ b₂ := rfl

theorem mixed_line (s : Fin 16) (p : Fin 2048) :
    line (val_main_v31 (F := Ideal) x a n w g₂ b₂) s p = mixed (line x s p) (line a s p) (line n s p) (inner w) (vct g₂) (vct b₂) := by
  rw [mixed_eq]
  funext d
  refine (hostNorm_apply _ g₂ b₂ s p d).trans ?_
  rw [merged_line]
  rfl

/-- The rest is the first reference, of the mixed rows. -/
theorem rest_eq : val_main_v71 (F := Ideal) x a n w g₂ b₂ wg wu wd g b
    = Cert.Reference2Ideal.Read.val_main_v39 (F := Ideal) (val_main_v31 (F := Ideal) x a n w g₂ b₂) wg wu wd g b := rfl

/-- The mixing and the half-step of every token. -/
theorem mixReference_eq : val_main_v71 (F := Ideal) x a n w g₂ b₂ wg wu wd g b = secondStep x a n w g₂ b₂ wg wu wd g b := by
  rw [rest_eq, reference_eq]
  funext y
  exact congrArg (fun r => half r (inner wg) (inner wu) (inner wd) (vct g) (vct b) (y 1)) (mixed_line x a n w g₂ b₂ _ _)

end Ffn
-- ==== Proof.Rotary.lean ====
/-
  The input projection over the extended reals, entry by entry: a token's row against a column of the weights, the rotary
  embedding of a head's 64 columns, and the arrays they give. The blocked operations that compute them, read at an entry.
-/
module

public import proofs.«01_k».proof.Proof.Ffn
public import Idealize.ShloMosaic.Lib.KernelVsHost

@[expose] public section

noncomputable section

namespace Inp

open Idealize.ShloMosaic Idealize.ShloMosaic.ValueIdx
open Ffn (dot)

/-! ## One entry -/

/-- The rotary embedding of a head's 64 features `a` at an angle's cosines `cs` and sines `sn`: the first eight features turn
    against the next eight, and the rest are kept. -/
def rope (cs sn : Fin 8 → EReal) (a : Fin 64 → EReal) (d : Fin 64) : EReal :=
  if h : d.val < 8 then a d * cs ⟨d.val, h⟩ - a ⟨d.val + 8, by omega⟩ * sn ⟨d.val, h⟩
  else if h' : d.val < 16 then a d * cs ⟨d.val - 8, by omega⟩ + a ⟨d.val - 8, by omega⟩ * sn ⟨d.val - 8, by omega⟩
  else a d

/-- The three rows a kernel multiplies with: the cosines at both halves and one elsewhere, the sines negated at the first
    half, the sines at the second. -/
def three (u v : Fin 8 → EReal) (w : EReal) (d : Fin 64) : EReal :=
  if h : d.val < 8 then u ⟨d.val, h⟩ else if h' : d.val < 16 then v ⟨d.val - 8, by omega⟩ else w

abbrev cosRow (cs : Fin 8 → EReal) : Fin 64 → EReal := three cs cs 1
abbrev lowRow (sn : Fin 8 → EReal) : Fin 64 → EReal := three (fun e => -sn e) (fun _ => 0) 0
abbrev highRow (sn : Fin 8 → EReal) : Fin 64 → EReal := three (fun _ => 0) sn 0

/-- The column of a lane within its head. -/
abbrev off (l : ℕ) : Fin 64 := ⟨l % 64, Nat.mod_lt _ (by omega)⟩

/-- Over 128 lanes of two heads, the lane times its cosine, the lane eight on times its row and the lane eight back times its
    row are the rotary embedding of the lane's head. -/
theorem rope_lane (a : Fin 128 → EReal) (cs sn : Fin 8 → EReal) (l : Fin 128) :
    a l * cosRow cs (off l.val) + a ⟨(l.val + 8) % 128, by omega⟩ * lowRow sn (off l.val) + a ⟨(l.val + 120) % 128, by omega⟩ * highRow sn (off l.val)
      = rope cs sn (fun e => a ⟨l.val / 64 * 64 + e.val, by omega⟩) (off l.val) := by
  have e0 : a l = a ⟨l.val / 64 * 64 + (off l.val).val, by have := (off l.val).isLt; omega⟩ := congrArg a (Fin.ext (by show l.val = l.val / 64 * 64 + l.val % 64; omega))
  unfold cosRow lowRow highRow three rope
  by_cases h : (off l.val).val < 8
  · have h1 : l.val % 64 < 8 := h
    simp only [dif_pos h]
    rw [mul_zero, add_zero, mul_neg, ← sub_eq_add_neg, e0]
    refine congrArg₂ (· - ·) rfl (congrArg (· * sn _) (congrArg a (Fin.ext ?_)))
    show (l.val + 8) % 128 = l.val / 64 * 64 + (l.val % 64 + 8)
    omega
  · have h1 : ¬ l.val % 64 < 8 := h
    by_cases h' : (off l.val).val < 16
    · have h2 : l.val % 64 < 16 := h'
      simp only [dif_neg h, dif_pos h']
      rw [mul_zero, add_zero, e0]
      refine congrArg₂ (· + ·) rfl (congrArg (· * sn _) (congrArg a (Fin.ext ?_)))
      show (l.val + 120) % 128 = l.val / 64 * 64 + (l.val % 64 - 8)
      omega
    · simp only [dif_neg h, dif_neg h']
      rw [mul_zero, mul_zero, add_zero, add_zero, mul_one, e0]

/-! ## A block of 512 rows -/

abbrev Slab : Shape := ⟨2, ![512, 128]⟩
abbrev All : Shape := ⟨2, ![512, 1280]⟩
abbrev Tab : Shape := ⟨2, ![2048, 8]⟩
abbrev Rest : Shape := ⟨2, ![2048, 48]⟩
abbrev Head : Shape := ⟨2, ![2048, 64]⟩
abbrev Lanes : Shape := ⟨2, ![2048, 128]⟩

/-- A slab of 128 lanes, turned. -/
def turned (hr : Slab.Rotates 1 none) (s c u v : FVec Ideal Slab .f32) : FVec Ideal Slab .f32 :=
  addf (addf (mulf s c) (mulf (dynamicRotate 1 120#32 none s hr) u)) (mulf (dynamicRotate 1 8#32 none s hr) v)

theorem turned_apply (hr : Slab.Rotates 1 none) (s c u v : FVec Ideal Slab .f32) (cs sn : Fin 8 → EReal) (r : Fin 512) (l : Fin 128)
    (hc : c (ix2 r l) = cosRow cs (off l.val)) (hu : u (ix2 r l) = lowRow sn (off l.val)) (hv : v (ix2 r l) = highRow sn (off l.val)) :
    turned hr s c u v (ix2 r l) = rope cs sn (fun e => s (ix2 r ⟨l.val / 64 * 64 + e.val, by omega⟩)) (off l.val) := by
  have h1 : dynamicRotate 1 120#32 none s hr (ix2 r l) = s (ix2 r ⟨(l.val + 8) % 128, by omega⟩) := by
    refine dynamicRotate_apply _ _ _ _ _ _ ?_
    intro b; fin_cases b
    · rfl
    · show (l.val + 8) % 128 = (l.val + 128 - 120) % 128
      omega
  have h2 : dynamicRotate 1 8#32 none s hr (ix2 r l) = s (ix2 r ⟨(l.val + 120) % 128, by omega⟩) := by
    refine dynamicRotate_apply _ _ _ _ _ _ ?_
    intro b; fin_cases b
    · rfl
    · show (l.val + 120) % 128 = (l.val + 128 - 8) % 128
      omega
  show s (ix2 r l) * c (ix2 r l) + dynamicRotate 1 120#32 none s hr (ix2 r l) * u (ix2 r l) + dynamicRotate 1 8#32 none s hr (ix2 r l) * v (ix2 r l) = _
  rw [h1, h2, hc, hu, hv]
  exact rope_lane (fun k => s (ix2 r k)) cs sn l

/-- A slab cut from a wide block. -/
theorem slab_apply (y : FVec Ideal All .f32) (o : ℕ) (ho : o + 128 ≤ 1280) (hs : All.Slices ![0, o] Slab) (r : Fin 512) (l : Fin 128) :
    extractStridedSlice Slab ![0, o] y hs (ix2 r l) = y (ix2 r ⟨o + l.val, by omega⟩) := by
  refine extractStridedSlice_apply _ _ _ _ _ fun a => ?_
  fin_cases a
  · show r.val = 0 + r.val; omega
  · rfl

/-- Arrays side by side, read in one of them. -/
theorem piece_apply {n N W : ℕ} (xs : List ((s : Shape) × (s.Idx → EReal))) (h : Shape.Concatenates (xs.map (·.1)) ⟨2, ![n, N]⟩ 1) (k : ℕ) (hk : k < xs.length)
    (x : (⟨2, ![n, W]⟩ : Shape).Idx → EReal) (hx : xs[k] = ⟨⟨2, ![n, W]⟩, x⟩) (pre : ℕ)
    (hpre : (((xs.take k).map (·.1)).map fun s => if h : s.rank = 2 then s.size ((1 : Fin 2).cast h.symm) else 0).sum = pre)
    (p : Fin n) (j : Fin N) (d : Fin W) (hd : pre + d.val = j.val) : concatenate ⟨2, ![n, N]⟩ 1 xs h (ix2 p j) = x (ix2 p d) := by
  refine concatenate_apply_piece (t := ⟨2, ![n, N]⟩) 1 xs h (ix2 p j) k hk ⟨2, ![n, W]⟩ x hx rfl pre hpre (ix2 p d) ?_ hd
  intro b hb; fin_cases b
  · rfl
  · exact absurd rfl hb

/-- Three tables side by side. -/
theorem three_apply (x y : Tab.Idx → EReal) (z : Rest.Idx → EReal) (h : Shape.Concatenates [Tab, Tab, Rest] Head 1) (p : Fin 2048) (d : Fin 64) (w : EReal)
    (hz : ∀ e, z (ix2 p e) = w) :
    concatenate Head 1 [⟨Tab, x⟩, ⟨Tab, y⟩, ⟨Rest, z⟩] h (ix2 p d) = three (fun e => x (ix2 p e)) (fun e => y (ix2 p e)) w d := by
  unfold three
  by_cases h1 : d.val < 8
  · rw [dif_pos h1]
    exact piece_apply [⟨Tab, x⟩, ⟨Tab, y⟩, ⟨Rest, z⟩] h 0 (by simp) x rfl 0 rfl p d ⟨d.val, h1⟩ (Nat.zero_add _)
  · rw [dif_neg h1]
    by_cases h2 : d.val < 16
    · rw [dif_pos h2]
      exact piece_apply [⟨Tab, x⟩, ⟨Tab, y⟩, ⟨Rest, z⟩] h 1 (by simp) y rfl 8 rfl p d ⟨d.val - 8, by omega⟩ (by show 8 + (d.val - 8) = d.val; omega)
    · rw [dif_neg h2]
      exact (piece_apply [⟨Tab, x⟩, ⟨Tab, y⟩, ⟨Rest, z⟩] h 2 (by simp) z rfl 16 rfl p d ⟨d.val - 16, by omega⟩ (by show 16 + (d.val - 16) = d.val; omega)).trans (hz _)

/-- A table of 64 columns repeated over the two heads of a slab. -/
def twice (h1 : Head.ShapeCasts ⟨4, ![1, 2048, 1, 64]⟩) (h2 : (⟨4, ![1, 2048, 1, 64]⟩ : Shape).BroadcastsInDim ⟨4, ![1, 2048, 2, 64]⟩ ![0, 1, 2, 3])
    (h3 : (⟨4, ![1, 2048, 2, 64]⟩ : Shape).ShapeCasts Lanes) (x : Head.Idx → EReal) : Lanes.Idx → EReal :=
  shapeCast Lanes (broadcastInDim ⟨4, ![1, 2048, 2, 64]⟩ ![0, 1, 2, 3] h2 (shapeCast ⟨4, ![1, 2048, 1, 64]⟩ x h1)) h3

theorem twice_apply (h1 : Head.ShapeCasts ⟨4, ![1, 2048, 1, 64]⟩) (h2 : (⟨4, ![1, 2048, 1, 64]⟩ : Shape).BroadcastsInDim ⟨4, ![1, 2048, 2, 64]⟩ ![0, 1, 2, 3])
    (h3 : (⟨4, ![1, 2048, 2, 64]⟩ : Shape).ShapeCasts Lanes) (x : Head.Idx → EReal) (p : Fin 2048) (l : Fin 128) : twice h1 h2 h3 x (ix2 p l) = x (ix2 p (off l.val)) := by
  unfold twice
  refine (shapeCast_apply _ _ _ (ix4 0 p ⟨l.val / 64, by omega⟩ (off l.val)) ?_).trans ?_
  · rw [Shape.rowMajor_val_four, Shape.rowMajor_val_two]
    show ((0 * 2048 + p.val) * 2 + l.val / 64) * 64 + l.val % 64 = p.val * 128 + l.val
    omega
  refine (broadcastInDim_apply _ _ _ _ (ix4 0 p 0 (off l.val)) (fun k => by fin_cases k <;> rfl)).trans ?_
  refine shapeCast_apply _ _ _ (ix2 p (off l.val)) ?_
  rw [Shape.rowMajor_val_four, Shape.rowMajor_val_two]
  show p.val * 64 + l.val % 64 = ((0 * 2048 + p.val) * 1 + 0) * 64 + l.val % 64
  omega

/-! ## The arrays -/

abbrev Win : Shape := ⟨3, ![1, 1024, 3408]⟩

/-- Token `p` of batch `b` against column `j` of the weights. -/
def col (x : Ffn.Toks.Idx → EReal) (w : Win.Idx → EReal) (b : Fin 16) (p : Fin 2048) (j : Fin 3408) : EReal :=
  dot (fun k : Fin 1024 => x (ix3 b p k)) fun k => w (ix3 0 k j)

/-- That token's rotary embedding of the head whose columns begin at `o`. -/
def emb (C S : Tab.Idx → EReal) (x : Ffn.Toks.Idx → EReal) (w : Win.Idx → EReal) (b : Fin 16) (p : Fin 2048) (o : Fin 3345) (d : Fin 64) : EReal :=
  rope (fun e => C (ix2 p e)) (fun e => S (ix2 p e)) (fun e => col x w b p ⟨o.val + e.val, by omega⟩) d

/-- A flat row's batch and token. -/
abbrev bat (i : Fin 32768) : Fin 16 := ⟨i.val / 2048, by omega⟩
abbrev pos (i : Fin 32768) : Fin 2048 := ⟨i.val % 2048, by omega⟩

variable (C S : Tab.Idx → EReal) (x : Ffn.Toks.Idx → EReal) (w : Win.Idx → EReal)

/-- The eight embedded heads whose columns begin at `o`. -/
def heads (o : ℕ) (ho : o + 512 ≤ 3408) : (⟨2, ![32768, 512]⟩ : Shape).Idx → EReal := fun i =>
  emb C S x w (bat (i 0)) (pos (i 0)) ⟨o + (i 1).val / 64 * 64, by have : (i 1).val < 512 := (i 1).isLt; omega⟩ (off (i 1).val)

/-- The embedded heads whose columns begin at `o`, `n` features by tokens. -/
def headsT (n o : ℕ) (hn : n % 64 = 0) (ho : o + n ≤ 3408) : (⟨3, ![16, n, 2048]⟩ : Shape).Idx → EReal := fun i =>
  emb C S x w (i 0) (i 2) ⟨o + (i 1).val / 64 * 64, by have : (i 1).val < n := (i 1).isLt; omega⟩ (off (i 1).val)

/-- The columns from `o`, features by tokens. -/
def colsT (o : ℕ) (ho : o + 128 ≤ 3408) : (⟨3, ![16, 128, 2048]⟩ : Shape).Idx → EReal := fun i =>
  col x w (i 0) (i 2) ⟨o + (i 1).val, by have : (i 1).val < 128 := (i 1).isLt; omega⟩

/-- The `n` columns from `o`. -/
def cols (n o : ℕ) (ho : o + n ≤ 3408) : (⟨2, ![32768, n]⟩ : Shape).Idx → EReal := fun i =>
  col x w (bat (i 0)) (pos (i 0)) ⟨o + (i 1).val, by have : (i 1).val < n := (i 1).isLt; omega⟩

/-- The small array: the indexer's eight weights scaled, the eight gates, and zeros. -/
def small : (⟨2, ![32768, 128]⟩ : Shape).Idx → EReal := fun i =>
  if h : (i 1).val < 8 then col x w (bat (i 0)) (pos (i 0)) ⟨1344 + (i 1).val, by omega⟩ * Ideal.ofBits .f32 0x3EB504F3#32
  else if h' : (i 1).val < 16 then col x w (bat (i 0)) (pos (i 0)) ⟨3392 + (i 1).val, by omega⟩
  else 0

variable {C S x w}

theorem heads_at {o : ℕ} {ho : o + 512 ≤ 3408} (i : (⟨2, ![32768, 512]⟩ : Shape).Idx) (b : Fin 16) (p : Fin 2048) (l : Fin 512) (h0 : (i 0).val = b.val * 2048 + p.val)
    (h1 : (i 1).val = l.val) : heads C S x w o ho i = emb C S x w b p ⟨o + l.val / 64 * 64, by omega⟩ (off l.val) := by
  have eb : bat (i 0) = b := Fin.ext (by show (i 0).val / 2048 = b.val; omega)
  have ep : pos (i 0) = p := Fin.ext (by show (i 0).val % 2048 = p.val; omega)
  have el : (i 1) = l := Fin.ext h1
  unfold heads
  rw [eb, ep]
  simp only [el]

theorem headsT_at {n o : ℕ} {hn : n % 64 = 0} {ho : o + n ≤ 3408} (i : (⟨3, ![16, n, 2048]⟩ : Shape).Idx) (b : Fin 16) (p : Fin 2048) (l : Fin n) (h0 : (i 0).val = b.val)
    (h1 : (i 1).val = l.val) (h2 : (i 2).val = p.val) : headsT C S x w n o hn ho i = emb C S x w b p ⟨o + l.val / 64 * 64, by omega⟩ (off l.val) := by
  have eb : (i 0) = b := Fin.ext h0
  have ep : (i 2) = p := Fin.ext h2
  have el : (i 1) = l := Fin.ext h1
  unfold headsT
  rw [eb, ep]
  simp only [el]

theorem colsT_at {o : ℕ} {ho : o + 128 ≤ 3408} (i : (⟨3, ![16, 128, 2048]⟩ : Shape).Idx) (b : Fin 16) (p : Fin 2048) (l : Fin 128) (h0 : (i 0).val = b.val)
    (h1 : (i 1).val = l.val) (h2 : (i 2).val = p.val) : colsT x w o ho i = col x w b p ⟨o + l.val, by omega⟩ := by
  have eb : (i 0) = b := Fin.ext h0
  have ep : (i 2) = p := Fin.ext h2
  have el : (i 1) = l := Fin.ext h1
  unfold colsT
  rw [eb, ep]
  simp only [el]

theorem cols_at {n o : ℕ} {ho : o + n ≤ 3408} (i : (⟨2, ![32768, n]⟩ : Shape).Idx) (b : Fin 16) (p : Fin 2048) (l : Fin n) (h0 : (i 0).val = b.val * 2048 + p.val)
    (h1 : (i 1).val = l.val) : cols x w n o ho i = col x w b p ⟨o + l.val, by omega⟩ := by
  have eb : bat (i 0) = b := Fin.ext (by show (i 0).val / 2048 = b.val; omega)
  have ep : pos (i 0) = p := Fin.ext (by show (i 0).val % 2048 = p.val; omega)
  have el : (i 1) = l := Fin.ext h1
  unfold cols
  rw [eb, ep]
  simp only [el]

theorem small_at (i : (⟨2, ![32768, 128]⟩ : Shape).Idx) (b : Fin 16) (p : Fin 2048) (l : Fin 128) (h0 : (i 0).val = b.val * 2048 + p.val)
    (h1 : (i 1).val = l.val) : small x w i = if h : l.val < 8 then col x w b p ⟨1344 + l.val, by omega⟩ * Ideal.ofBits .f32 0x3EB504F3#32
      else if h' : l.val < 16 then col x w b p ⟨3392 + l.val, by omega⟩ else 0 := by
  have eb : bat (i 0) = b := Fin.ext (by show (i 0).val / 2048 = b.val; omega)
  have ep : pos (i 0) = p := Fin.ext (by show (i 0).val % 2048 = p.val; omega)
  have el : (i 1) = l := Fin.ext h1
  unfold small
  rw [eb, ep]
  simp only [el]

end Inp
-- ==== Proof.InpLaunch.lean ====
/-
  The input projection's kernel, its launch: the layout of its windows and of their staging buffers, and its host program as
  the operations before the kernel followed by the kernel.
-/
module

public import proofs.«01_k».proof.Proof.Gen.Kernel4Ideal
public import Idealize.ShloMosaic.Lib.Pipeline.Kit
public import Idealize.ShloMosaic.Lib.Pipeline.Regions

@[expose] public section

-- the enumerations over 20 windows recurse past the default depth
set_option maxRecDepth 3072

noncomputable section

namespace Cert.Kernel4Ideal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## The staging cells -/

/-- Each custom_call's staging semaphores, listed window by window and slot by slot. -/
abbrev semTab : Fin 1 → List (DmaSem sig) :=
  fun | 0 => Pipeline.specSems spec0 | ⟨_ + 1, h⟩ => absurd h (Nat.not_lt.2 (Nat.le_add_left _ _))
/-- Within each custom_call, no two staging buffers complete on one DMA semaphore. -/
theorem semsDistinct : ∀ p : Fin 1, (semTab p).Nodup := by decide
/-- No two custom_calls' staging buffers share a DMA semaphore. -/
theorem semsDisjoint : ∀ p p' : Fin 1, p ≠ p' → (semTab p).Forall (· ∉ semTab p') := by decide
/-- The program's staging cells are pairwise distinct. -/
theorem cellOf_inj : Function.Injective (Pipeline.cellOf (nD := nD) (τ := τ) cfgs) :=
  Pipeline.cellOf_injective_of_table cfgs semTab (fun | 0 => rfl | ⟨_ + 1, h⟩ => absurd h (Nat.not_lt.2 (Nat.le_add_left _ _))) semsDistinct semsDisjoint

/-! ## custom_call 0 (pipeline 0 of @main) -/

/-- The layout the launch needs: the windows' arrays unscoped, distinct buffers, the staging buffers scoped and
    distinct, the staging semaphores scoped. -/
theorem winFacts0 : Pipeline.WinFacts spec0 := by decide
/-- No window's block is empty. -/
theorem block_pos0 : ∀ w : Fin 20, 0 < (spec0 w).block.numel := by decide
/-- The windows' arrays and the staging memrefs are whole buffers. -/
theorem arr_whole0 : ∀ w : Fin 20, (spec0 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _ | 8 => Memref.isWhole_whole _ | 9 => Memref.isWhole_whole _ | 10 => Memref.isWhole_whole _ | 11 => Memref.isWhole_whole _ | 12 => Memref.isWhole_whole _ | 13 => Memref.isWhole_whole _ | 14 => Memref.isWhole_whole _ | 15 => Memref.isWhole_whole _ | 16 => Memref.isWhole_whole _ | 17 => Memref.isWhole_whole _ | 18 => Memref.isWhole_whole _ | 19 => Memref.isWhole_whole _ | ⟨_ + 20, h⟩ => absurd h (Nat.not_lt.2 (Nat.le_add_left _ _))
theorem stage_whole0 : ∀ (w : Fin 20) (s : Fin (spec0 w).nbuf), ((spec0 w).stage s).IsWhole := fun | 0 => fun s => hstage0_0 (s.cast nbuf0_0) | 1 => fun s => hstage0_1 (s.cast nbuf0_1) | 2 => fun s => hstage0_2 (s.cast nbuf0_2) | 3 => fun s => hstage0_3 (s.cast nbuf0_3) | 4 => fun s => hstage0_4 (s.cast nbuf0_4) | 5 => fun s => hstage0_5 (s.cast nbuf0_5) | 6 => fun s => hstage0_6 (s.cast nbuf0_6) | 7 => fun s => hstage0_7 (s.cast nbuf0_7) | 8 => fun s => hstage0_8 (s.cast nbuf0_8) | 9 => fun s => hstage0_9 (s.cast nbuf0_9) | 10 => fun s => hstage0_10 (s.cast nbuf0_10) | 11 => fun s => hstage0_11 (s.cast nbuf0_11) | 12 => fun s => hstage0_12 (s.cast nbuf0_12) | 13 => fun s => hstage0_13 (s.cast nbuf0_13) | 14 => fun s => hstage0_14 (s.cast nbuf0_14) | 15 => fun s => hstage0_15 (s.cast nbuf0_15) | 16 => fun s => hstage0_16 (s.cast nbuf0_16) | 17 => fun s => hstage0_17 (s.cast nbuf0_17) | 18 => fun s => hstage0_18 (s.cast nbuf0_18) | 19 => fun s => hstage0_19 (s.cast nbuf0_19) | ⟨_ + 20, h⟩ => absurd h (Nat.not_lt.2 (Nat.le_add_left _ _))
/-- The five, bundled. -/
theorem launch0 : Pipeline.LaunchFacts (nD := nD) (τ := τ) cfgs 0 := ⟨cellOf_inj, winFacts0, block_pos0, arr_whole0, stage_whole0⟩

/-- The grid has 64 points. -/
theorem N_0 : grid0.N = 64 := by decide

/-- The windows conjoined one by one. -/
theorem bigSep_W0 {M : Type} [URA M] (Φ : Fin 20 → sProp M) : bigSep Finset.univ Φ = iprop(Φ (0 : Fin 20) ∗ Φ (1 : Fin 20) ∗ Φ (2 : Fin 20) ∗ Φ (3 : Fin 20) ∗ Φ (4 : Fin 20) ∗ Φ (5 : Fin 20) ∗ Φ (6 : Fin 20) ∗ Φ (7 : Fin 20) ∗ Φ (8 : Fin 20) ∗ Φ (9 : Fin 20) ∗ Φ (10 : Fin 20) ∗ Φ (11 : Fin 20) ∗ Φ (12 : Fin 20) ∗ Φ (13 : Fin 20) ∗ Φ (14 : Fin 20) ∗ Φ (15 : Fin 20) ∗ Φ (16 : Fin 20) ∗ Φ (17 : Fin 20) ∗ Φ (18 : Fin 20) ∗ Φ (19 : Fin 20)) :=
  bigSep_univ_eq_bigSepL [(0 : Fin 20), (1 : Fin 20), (2 : Fin 20), (3 : Fin 20), (4 : Fin 20), (5 : Fin 20), (6 : Fin 20), (7 : Fin 20), (8 : Fin 20), (9 : Fin 20), (10 : Fin 20), (11 : Fin 20), (12 : Fin 20), (13 : Fin 20), (14 : Fin 20), (15 : Fin 20), (16 : Fin 20), (17 : Fin 20), (18 : Fin 20), (19 : Fin 20)] (by decide) (by decide) Φ
/-- The core's scoped buffers that are no staging buffer of custom_call 0, each whole at some contents:
    none. -/
theorem scopedRest0_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = (BI.emp : sProp (MT nD τ sig Ix Val Name U Lvl)) :=
  Pipeline.scopedRest_eq_of_list spec0 c [] (by decide) (by decide)

/-! ## @main as segments and as a chain of items -/

/-- 59 host operations of @main, in order. -/
abbrev hostOps0 : List (HloOp τ sig (Elt F)) :=
  ( StableHlo.reshape main_arg0 main_v0 (rfl : (.f32 : EltTy) = .f32) shapeCasts_S16x2048x1024_S32768x1024
  :: StableHlo.reshape main_arg1 main_v1 (rfl : (.f32 : EltTy) = .f32) shapeCasts_S1x1024x3408_S1024x3408
  :: StableHlo.unary main_v1 main_v2 ((extractStridedSlice S1024x512 ![0, 0] · slices_S1024x3408_S1024x512_0_0) : (⟨S1024x3408, .f32⟩ : BufTy).Contents (Elt F) → (⟨S1024x512, .f32⟩ : BufTy).Contents (Elt F))
  :: StableHlo.unary main_v1 main_v3 ((extractStridedSlice S1024x128 ![0, 512] · slices_S1024x3408_S1024x128_0_512) : (⟨S1024x3408, .f32⟩ : BufTy).Contents (Elt F) → (⟨S1024x128, .f32⟩ : BufTy).Contents (Elt F))
  :: StableHlo.unary main_v1 main_v4 ((extractStridedSlice S1024x128 ![0, 640] · slices_S1024x3408_S1024x128_0_640) : (⟨S1024x3408, .f32⟩ : BufTy).Contents (Elt F) → (⟨S1024x128, .f32⟩ : BufTy).Contents (Elt F))
  :: StableHlo.unary main_v1 main_v5 ((extractStridedSlice S1024x512 ![0, 768] · slices_S1024x3408_S1024x512_0_768) : (⟨S1024x3408, .f32⟩ : BufTy).Contents (Elt F) → (⟨S1024x512, .f32⟩ : BufTy).Contents (Elt F))
  :: StableHlo.unary main_v1 main_v6 ((extractStridedSlice S1024x64 ![0, 1280] · slices_S1024x3408_S1024x64_0_1280) : (⟨S1024x3408, .f32⟩ : BufTy).Contents (Elt F) → (⟨S1024x64, .f32⟩ : BufTy).Contents (Elt F))
  :: StableHlo.unary main_v1 main_v7 ((extractStridedSlice S1024x8 ![0, 1344] · slices_S1024x3408_S1024x8_0_1344) : (⟨S1024x3408, .f32⟩ : BufTy).Contents (Elt F) → (⟨S1024x8, .f32⟩ : BufTy).Contents (Elt F))
  :: StableHlo.unary main_v1 main_v8 ((extractStridedSlice S1024x1536 ![0, 1352] · slices_S1024x3408_S1024x1536_0_1352) : (⟨S1024x3408, .f32⟩ : BufTy).Contents (Elt F) → (⟨S1024x1536, .f32⟩ : BufTy).Contents (Elt F))
  :: StableHlo.unary main_v1 main_v9 ((extractStridedSlice S1024x512 ![0, 2888] · slices_S1024x3408_S1024x512_0_2888) : (⟨S1024x3408, .f32⟩ : BufTy).Contents (Elt F) → (⟨S1024x512, .f32⟩ : BufTy).Contents (Elt F))
  :: StableHlo.unary main_v1 main_v10 ((extractStridedSlice S1024x4 ![0, 3400] · slices_S1024x3408_S1024x4_0_3400) : (⟨S1024x3408, .f32⟩ : BufTy).Contents (Elt F) → (⟨S1024x4, .f32⟩ : BufTy).Contents (Elt F))
  :: StableHlo.unary main_v1 main_v11 ((extractStridedSlice S1024x4 ![0, 3404] · slices_S1024x3408_S1024x4_0_3404) : (⟨S1024x3408, .f32⟩ : BufTy).Contents (Elt F) → (⟨S1024x4, .f32⟩ : BufTy).Contents (Elt F))
  :: StableHlo.nullary main_cst (constant S_ .f32 0x00000000#32)
  :: StableHlo.unary main_cst main_v12 (broadcastInDim S1024x64 ![] bcast_S_S1024x64 : (⟨S_, .f32⟩ : BufTy).Contents (Elt F) → (⟨S1024x64, .f32⟩ : BufTy).Contents (Elt F))
  :: StableHlo.nary ![main_v2, main_v5, main_v3, main_v6, main_v12] main_v13 (fun u => (concatenate S1024x1280 1 [⟨S1024x512, (u 0 : (⟨S1024x512, .f32⟩ : BufTy).Contents (Elt F))⟩, ⟨S1024x512, (u 1 : (⟨S1024x512, .f32⟩ : BufTy).Contents (Elt F))⟩, ⟨S1024x128, (u 2 : (⟨S1024x128, .f32⟩ : BufTy).Contents (Elt F))⟩, ⟨S1024x64, (u 3 : (⟨S1024x64, .f32⟩ : BufTy).Contents (Elt F))⟩, ⟨S1024x64, (u 4 : (⟨S1024x64, .f32⟩ : BufTy).Contents (Elt F))⟩] concatenates_S1024x512_S1024x512_S1024x128_S1024x64_S1024x64_S1024x1280_d1 : (⟨S1024x1280, .f32⟩ : BufTy).Contents (Elt F)))
  :: StableHlo.nullary main_cst_0 (constant S_ .f32 0x00000000#32)
  :: StableHlo.unary main_cst_0 main_v14 (broadcastInDim S1024x112 ![] bcast_S_S1024x112 : (⟨S_, .f32⟩ : BufTy).Contents (Elt F) → (⟨S1024x112, .f32⟩ : BufTy).Contents (Elt F))
  :: StableHlo.nary ![main_v7, main_v10, main_v11, main_v14] main_v15 (fun u => (concatenate S1024x128 1 [⟨S1024x8, (u 0 : (⟨S1024x8, .f32⟩ : BufTy).Contents (Elt F))⟩, ⟨S1024x4, (u 1 : (⟨S1024x4, .f32⟩ : BufTy).Contents (Elt F))⟩, ⟨S1024x4, (u 2 : (⟨S1024x4, .f32⟩ : BufTy).Contents (Elt F))⟩, ⟨S1024x112, (u 3 : (⟨S1024x112, .f32⟩ : BufTy).Contents (Elt F))⟩] concatenates_S1024x8_S1024x4_S1024x4_S1024x112_S1024x128_d1 : (⟨S1024x128, .f32⟩ : BufTy).Contents (Elt F)))
  :: StableHlo.unary main_v13 main_v16 ((truncf .bf16 · bitsLt_bf16_f32) : (⟨S1024x1280, .f32⟩ : BufTy).Contents (Elt F) → (⟨S1024x1280, .bf16⟩ : BufTy).Contents (Elt F))
  :: StableHlo.unary main_v4 main_v17 ((truncf .bf16 · bitsLt_bf16_f32) : (⟨S1024x128, .f32⟩ : BufTy).Contents (Elt F) → (⟨S1024x128, .bf16⟩ : BufTy).Contents (Elt F))
  :: StableHlo.unary main_v15 main_v18 ((truncf .bf16 · bitsLt_bf16_f32) : (⟨S1024x128, .f32⟩ : BufTy).Contents (Elt F) → (⟨S1024x128, .bf16⟩ : BufTy).Contents (Elt F))
  :: StableHlo.unary main_v8 main_v19 ((truncf .bf16 · bitsLt_bf16_f32) : (⟨S1024x1536, .f32⟩ : BufTy).Contents (Elt F) → (⟨S1024x1536, .bf16⟩ : BufTy).Contents (Elt F))
  :: StableHlo.unary main_v9 main_v20 ((truncf .bf16 · bitsLt_bf16_f32) : (⟨S1024x512, .f32⟩ : BufTy).Contents (Elt F) → (⟨S1024x512, .bf16⟩ : BufTy).Contents (Elt F))
  :: StableHlo.nullary main_v21 (iotaInDim S2048 32 0)
  :: StableHlo.nullary main_v22 (sitofp .f32 (iotaInDim S8 32 0))
  :: StableHlo.unary main_v22 main_v23 (Host.negf : (⟨S8, .f32⟩ : BufTy).Contents (Elt F) → (⟨S8, .f32⟩ : BufTy).Contents (Elt F))
  :: StableHlo.nullary main_cst_1 (constant S_ .f32 0x41000000#32)
  :: StableHlo.unary main_cst_1 main_v24 (broadcastInDim S8 ![] bcast_S_S8 : (⟨S_, .f32⟩ : BufTy).Contents (Elt F) → (⟨S8, .f32⟩ : BufTy).Contents (Elt F))
  :: StableHlo.binary main_v23 main_v24 main_v25 (Host.divf : (⟨S8, .f32⟩ : BufTy).Contents (Elt F) → (⟨S8, .f32⟩ : BufTy).Contents (Elt F) → (⟨S8, .f32⟩ : BufTy).Contents (Elt F))
  :: StableHlo.nullary main_cst_2 (constant S_ .f32 0x48F42400#32)
  :: StableHlo.unary main_cst_2 main_v26 (broadcastInDim S8 ![] bcast_S_S8 : (⟨S_, .f32⟩ : BufTy).Contents (Elt F) → (⟨S8, .f32⟩ : BufTy).Contents (Elt F))
  :: StableHlo.binary main_v26 main_v25 main_v27 (Host.powf : (⟨S8, .f32⟩ : BufTy).Contents (Elt F) → (⟨S8, .f32⟩ : BufTy).Contents (Elt F) → (⟨S8, .f32⟩ : BufTy).Contents (Elt F))
  :: StableHlo.unary main_v21 main_v28 (sitofp .f32 : (⟨S2048, .i32⟩ : BufTy).Contents (Elt F) → (⟨S2048, .f32⟩ : BufTy).Contents (Elt F))
  :: StableHlo.unary main_v28 main_v29 (broadcastInDim S2048x1 ![0] bcast_S2048_S2048x1_0 : (⟨S2048, .f32⟩ : BufTy).Contents (Elt F) → (⟨S2048x1, .f32⟩ : BufTy).Contents (Elt F))
  :: StableHlo.unary main_v27 main_v30 (broadcastInDim S1x8 ![1] bcast_S8_S1x8_1 : (⟨S8, .f32⟩ : BufTy).Contents (Elt F) → (⟨S1x8, .f32⟩ : BufTy).Contents (Elt F))
  :: StableHlo.unary main_v29 main_v31 (broadcastInDim S2048x8 ![0, 1] bcast_S2048x1_S2048x8_0_1 : (⟨S2048x1, .f32⟩ : BufTy).Contents (Elt F) → (⟨S2048x8, .f32⟩ : BufTy).Contents (Elt F))
  :: StableHlo.unary main_v30 main_v32 (broadcastInDim S2048x8 ![0, 1] bcast_S1x8_S2048x8_0_1 : (⟨S1x8, .f32⟩ : BufTy).Contents (Elt F) → (⟨S2048x8, .f32⟩ : BufTy).Contents (Elt F))
  :: StableHlo.binary main_v31 main_v32 main_v33 (mulf : (⟨S2048x8, .f32⟩ : BufTy).Contents (Elt F) → (⟨S2048x8, .f32⟩ : BufTy).Contents (Elt F) → (⟨S2048x8, .f32⟩ : BufTy).Contents (Elt F))
  :: StableHlo.unary main_v33 main_v34 (Host.cos : (⟨S2048x8, .f32⟩ : BufTy).Contents (Elt F) → (⟨S2048x8, .f32⟩ : BufTy).Contents (Elt F))
  :: StableHlo.unary main_v33 main_v35 (Host.sin : (⟨S2048x8, .f32⟩ : BufTy).Contents (Elt F) → (⟨S2048x8, .f32⟩ : BufTy).Contents (Elt F))
  :: StableHlo.nullary main_cst_3 (constant S_ .f32 0x3F800000#32)
  :: StableHlo.unary main_cst_3 main_v36 (broadcastInDim S2048x48 ![] bcast_S_S2048x48 : (⟨S_, .f32⟩ : BufTy).Contents (Elt F) → (⟨S2048x48, .f32⟩ : BufTy).Contents (Elt F))
  :: StableHlo.nullary main_cst_4 (constant S_ .f32 0x00000000#32)
  :: StableHlo.unary main_cst_4 main_v37 (broadcastInDim S2048x48 ![] bcast_S_S2048x48 : (⟨S_, .f32⟩ : BufTy).Contents (Elt F) → (⟨S2048x48, .f32⟩ : BufTy).Contents (Elt F))
  :: StableHlo.nullary main_cst_5 (constant S_ .f32 0x00000000#32)
  :: StableHlo.unary main_cst_5 main_v38 (broadcastInDim S2048x8 ![] bcast_S_S2048x8 : (⟨S_, .f32⟩ : BufTy).Contents (Elt F) → (⟨S2048x8, .f32⟩ : BufTy).Contents (Elt F))
  :: StableHlo.nary ![main_v34, main_v34, main_v36] main_v39 (fun u => (concatenate S2048x64 1 [⟨S2048x8, (u 0 : (⟨S2048x8, .f32⟩ : BufTy).Contents (Elt F))⟩, ⟨S2048x8, (u 1 : (⟨S2048x8, .f32⟩ : BufTy).Contents (Elt F))⟩, ⟨S2048x48, (u 2 : (⟨S2048x48, .f32⟩ : BufTy).Contents (Elt F))⟩] concatenates_S2048x8_S2048x8_S2048x48_S2048x64_d1 : (⟨S2048x64, .f32⟩ : BufTy).Contents (Elt F)))
  :: StableHlo.unary main_v35 main_v40 (Host.negf : (⟨S2048x8, .f32⟩ : BufTy).Contents (Elt F) → (⟨S2048x8, .f32⟩ : BufTy).Contents (Elt F))
  :: StableHlo.nary ![main_v40, main_v38, main_v37] main_v41 (fun u => (concatenate S2048x64 1 [⟨S2048x8, (u 0 : (⟨S2048x8, .f32⟩ : BufTy).Contents (Elt F))⟩, ⟨S2048x8, (u 1 : (⟨S2048x8, .f32⟩ : BufTy).Contents (Elt F))⟩, ⟨S2048x48, (u 2 : (⟨S2048x48, .f32⟩ : BufTy).Contents (Elt F))⟩] concatenates_S2048x8_S2048x8_S2048x48_S2048x64_d1 : (⟨S2048x64, .f32⟩ : BufTy).Contents (Elt F)))
  :: StableHlo.nary ![main_v38, main_v35, main_v37] main_v42 (fun u => (concatenate S2048x64 1 [⟨S2048x8, (u 0 : (⟨S2048x8, .f32⟩ : BufTy).Contents (Elt F))⟩, ⟨S2048x8, (u 1 : (⟨S2048x8, .f32⟩ : BufTy).Contents (Elt F))⟩, ⟨S2048x48, (u 2 : (⟨S2048x48, .f32⟩ : BufTy).Contents (Elt F))⟩] concatenates_S2048x8_S2048x8_S2048x48_S2048x64_d1 : (⟨S2048x64, .f32⟩ : BufTy).Contents (Elt F)))
  :: StableHlo.reshape main_v39 main_v43 (rfl : (.f32 : EltTy) = .f32) shapeCasts_S2048x64_S1x2048x1x64
  :: StableHlo.unary main_v43 main_v44 (broadcastInDim S1x2048x2x64 ![0, 1, 2, 3] bcast_S1x2048x1x64_S1x2048x2x64_0_1_2_3 : (⟨S1x2048x1x64, .f32⟩ : BufTy).Contents (Elt F) → (⟨S1x2048x2x64, .f32⟩ : BufTy).Contents (Elt F))
  :: StableHlo.reshape main_v44 main_v45 (rfl : (.f32 : EltTy) = .f32) shapeCasts_S1x2048x2x64_S2048x128
  :: StableHlo.reshape main_v41 main_v46 (rfl : (.f32 : EltTy) = .f32) shapeCasts_S2048x64_S1x2048x1x64
  :: StableHlo.unary main_v46 main_v47 (broadcastInDim S1x2048x2x64 ![0, 1, 2, 3] bcast_S1x2048x1x64_S1x2048x2x64_0_1_2_3 : (⟨S1x2048x1x64, .f32⟩ : BufTy).Contents (Elt F) → (⟨S1x2048x2x64, .f32⟩ : BufTy).Contents (Elt F))
  :: StableHlo.reshape main_v47 main_v48 (rfl : (.f32 : EltTy) = .f32) shapeCasts_S1x2048x2x64_S2048x128
  :: StableHlo.reshape main_v42 main_v49 (rfl : (.f32 : EltTy) = .f32) shapeCasts_S2048x64_S1x2048x1x64
  :: StableHlo.unary main_v49 main_v50 (broadcastInDim S1x2048x2x64 ![0, 1, 2, 3] bcast_S1x2048x1x64_S1x2048x2x64_0_1_2_3 : (⟨S1x2048x1x64, .f32⟩ : BufTy).Contents (Elt F) → (⟨S1x2048x2x64, .f32⟩ : BufTy).Contents (Elt F))
  :: StableHlo.reshape main_v50 main_v51 (rfl : (.f32 : EltTy) = .f32) shapeCasts_S1x2048x2x64_S2048x128
  :: [] )
/-- Each touches TensorCore references only. -/
theorem hostOps0_sub : (hostOps0 : List (HloOp τ sig (Elt F))).Forall fun op => op.bufs ⊆ StableHlo.tcRefs τ sig :=
  ⟨StableHlo.reshape_bufs_sub .., StableHlo.reshape_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.nary_bufs_sub .., StableHlo.nullary_bufs_sub .., StableHlo.unary_bufs_sub .., StableHlo.nary_bufs_sub .., StableHlo.unary_bufs_sub .., StableHlo.unary_bufs_sub .., StableHlo.unary_bufs_sub .., StableHlo.unary_bufs_sub .., StableHlo.unary_bufs_sub .., StableHlo.nullary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nary_bufs_sub .., StableHlo.unary_bufs_sub .., StableHlo.nary_bufs_sub .., StableHlo.nary_bufs_sub .., StableHlo.reshape_bufs_sub .., StableHlo.unary_bufs_sub .., StableHlo.reshape_bufs_sub .., StableHlo.reshape_bufs_sub .., StableHlo.unary_bufs_sub .., StableHlo.reshape_bufs_sub .., StableHlo.reshape_bufs_sub .., StableHlo.unary_bufs_sub .., StableHlo.reshape_bufs_sub ..⟩
/-- The 59 host operations of @main's first part, in order. -/
abbrev main_part0_ops0 : List (HloOp τ sig (Elt F)) :=
  ( StableHlo.reshape main_arg0 main_v0 (rfl : (.f32 : EltTy) = .f32) shapeCasts_S16x2048x1024_S32768x1024
  :: StableHlo.reshape main_arg1 main_v1 (rfl : (.f32 : EltTy) = .f32) shapeCasts_S1x1024x3408_S1024x3408
  :: StableHlo.unary main_v1 main_v2 ((extractStridedSlice S1024x512 ![0, 0] · slices_S1024x3408_S1024x512_0_0) : (⟨S1024x3408, .f32⟩ : BufTy).Contents (Elt F) → (⟨S1024x512, .f32⟩ : BufTy).Contents (Elt F))
  :: StableHlo.unary main_v1 main_v3 ((extractStridedSlice S1024x128 ![0, 512] · slices_S1024x3408_S1024x128_0_512) : (⟨S1024x3408, .f32⟩ : BufTy).Contents (Elt F) → (⟨S1024x128, .f32⟩ : BufTy).Contents (Elt F))
  :: StableHlo.unary main_v1 main_v4 ((extractStridedSlice S1024x128 ![0, 640] · slices_S1024x3408_S1024x128_0_640) : (⟨S1024x3408, .f32⟩ : BufTy).Contents (Elt F) → (⟨S1024x128, .f32⟩ : BufTy).Contents (Elt F))
  :: StableHlo.unary main_v1 main_v5 ((extractStridedSlice S1024x512 ![0, 768] · slices_S1024x3408_S1024x512_0_768) : (⟨S1024x3408, .f32⟩ : BufTy).Contents (Elt F) → (⟨S1024x512, .f32⟩ : BufTy).Contents (Elt F))
  :: StableHlo.unary main_v1 main_v6 ((extractStridedSlice S1024x64 ![0, 1280] · slices_S1024x3408_S1024x64_0_1280) : (⟨S1024x3408, .f32⟩ : BufTy).Contents (Elt F) → (⟨S1024x64, .f32⟩ : BufTy).Contents (Elt F))
  :: StableHlo.unary main_v1 main_v7 ((extractStridedSlice S1024x8 ![0, 1344] · slices_S1024x3408_S1024x8_0_1344) : (⟨S1024x3408, .f32⟩ : BufTy).Contents (Elt F) → (⟨S1024x8, .f32⟩ : BufTy).Contents (Elt F))
  :: StableHlo.unary main_v1 main_v8 ((extractStridedSlice S1024x1536 ![0, 1352] · slices_S1024x3408_S1024x1536_0_1352) : (⟨S1024x3408, .f32⟩ : BufTy).Contents (Elt F) → (⟨S1024x1536, .f32⟩ : BufTy).Contents (Elt F))
  :: StableHlo.unary main_v1 main_v9 ((extractStridedSlice S1024x512 ![0, 2888] · slices_S1024x3408_S1024x512_0_2888) : (⟨S1024x3408, .f32⟩ : BufTy).Contents (Elt F) → (⟨S1024x512, .f32⟩ : BufTy).Contents (Elt F))
  :: StableHlo.unary main_v1 main_v10 ((extractStridedSlice S1024x4 ![0, 3400] · slices_S1024x3408_S1024x4_0_3400) : (⟨S1024x3408, .f32⟩ : BufTy).Contents (Elt F) → (⟨S1024x4, .f32⟩ : BufTy).Contents (Elt F))
  :: StableHlo.unary main_v1 main_v11 ((extractStridedSlice S1024x4 ![0, 3404] · slices_S1024x3408_S1024x4_0_3404) : (⟨S1024x3408, .f32⟩ : BufTy).Contents (Elt F) → (⟨S1024x4, .f32⟩ : BufTy).Contents (Elt F))
  :: StableHlo.nullary main_cst (constant S_ .f32 0x00000000#32)
  :: StableHlo.unary main_cst main_v12 (broadcastInDim S1024x64 ![] bcast_S_S1024x64 : (⟨S_, .f32⟩ : BufTy).Contents (Elt F) → (⟨S1024x64, .f32⟩ : BufTy).Contents (Elt F))
  :: StableHlo.nary ![main_v2, main_v5, main_v3, main_v6, main_v12] main_v13 (fun u => (concatenate S1024x1280 1 [⟨S1024x512, (u 0 : (⟨S1024x512, .f32⟩ : BufTy).Contents (Elt F))⟩, ⟨S1024x512, (u 1 : (⟨S1024x512, .f32⟩ : BufTy).Contents (Elt F))⟩, ⟨S1024x128, (u 2 : (⟨S1024x128, .f32⟩ : BufTy).Contents (Elt F))⟩, ⟨S1024x64, (u 3 : (⟨S1024x64, .f32⟩ : BufTy).Contents (Elt F))⟩, ⟨S1024x64, (u 4 : (⟨S1024x64, .f32⟩ : BufTy).Contents (Elt F))⟩] concatenates_S1024x512_S1024x512_S1024x128_S1024x64_S1024x64_S1024x1280_d1 : (⟨S1024x1280, .f32⟩ : BufTy).Contents (Elt F)))
  :: StableHlo.nullary main_cst_0 (constant S_ .f32 0x00000000#32)
  :: StableHlo.unary main_cst_0 main_v14 (broadcastInDim S1024x112 ![] bcast_S_S1024x112 : (⟨S_, .f32⟩ : BufTy).Contents (Elt F) → (⟨S1024x112, .f32⟩ : BufTy).Contents (Elt F))
  :: StableHlo.nary ![main_v7, main_v10, main_v11, main_v14] main_v15 (fun u => (concatenate S1024x128 1 [⟨S1024x8, (u 0 : (⟨S1024x8, .f32⟩ : BufTy).Contents (Elt F))⟩, ⟨S1024x4, (u 1 : (⟨S1024x4, .f32⟩ : BufTy).Contents (Elt F))⟩, ⟨S1024x4, (u 2 : (⟨S1024x4, .f32⟩ : BufTy).Contents (Elt F))⟩, ⟨S1024x112, (u 3 : (⟨S1024x112, .f32⟩ : BufTy).Contents (Elt F))⟩] concatenates_S1024x8_S1024x4_S1024x4_S1024x112_S1024x128_d1 : (⟨S1024x128, .f32⟩ : BufTy).Contents (Elt F)))
  :: StableHlo.unary main_v13 main_v16 ((truncf .bf16 · bitsLt_bf16_f32) : (⟨S1024x1280, .f32⟩ : BufTy).Contents (Elt F) → (⟨S1024x1280, .bf16⟩ : BufTy).Contents (Elt F))
  :: StableHlo.unary main_v4 main_v17 ((truncf .bf16 · bitsLt_bf16_f32) : (⟨S1024x128, .f32⟩ : BufTy).Contents (Elt F) → (⟨S1024x128, .bf16⟩ : BufTy).Contents (Elt F))
  :: StableHlo.unary main_v15 main_v18 ((truncf .bf16 · bitsLt_bf16_f32) : (⟨S1024x128, .f32⟩ : BufTy).Contents (Elt F) → (⟨S1024x128, .bf16⟩ : BufTy).Contents (Elt F))
  :: StableHlo.unary main_v8 main_v19 ((truncf .bf16 · bitsLt_bf16_f32) : (⟨S1024x1536, .f32⟩ : BufTy).Contents (Elt F) → (⟨S1024x1536, .bf16⟩ : BufTy).Contents (Elt F))
  :: StableHlo.unary main_v9 main_v20 ((truncf .bf16 · bitsLt_bf16_f32) : (⟨S1024x512, .f32⟩ : BufTy).Contents (Elt F) → (⟨S1024x512, .bf16⟩ : BufTy).Contents (Elt F))
  :: StableHlo.nullary main_v21 (iotaInDim S2048 32 0)
  :: StableHlo.nullary main_v22 (sitofp .f32 (iotaInDim S8 32 0))
  :: StableHlo.unary main_v22 main_v23 (Host.negf : (⟨S8, .f32⟩ : BufTy).Contents (Elt F) → (⟨S8, .f32⟩ : BufTy).Contents (Elt F))
  :: StableHlo.nullary main_cst_1 (constant S_ .f32 0x41000000#32)
  :: StableHlo.unary main_cst_1 main_v24 (broadcastInDim S8 ![] bcast_S_S8 : (⟨S_, .f32⟩ : BufTy).Contents (Elt F) → (⟨S8, .f32⟩ : BufTy).Contents (Elt F))
  :: StableHlo.binary main_v23 main_v24 main_v25 (Host.divf : (⟨S8, .f32⟩ : BufTy).Contents (Elt F) → (⟨S8, .f32⟩ : BufTy).Contents (Elt F) → (⟨S8, .f32⟩ : BufTy).Contents (Elt F))
  :: StableHlo.nullary main_cst_2 (constant S_ .f32 0x48F42400#32)
  :: StableHlo.unary main_cst_2 main_v26 (broadcastInDim S8 ![] bcast_S_S8 : (⟨S_, .f32⟩ : BufTy).Contents (Elt F) → (⟨S8, .f32⟩ : BufTy).Contents (Elt F))
  :: StableHlo.binary main_v26 main_v25 main_v27 (Host.powf : (⟨S8, .f32⟩ : BufTy).Contents (Elt F) → (⟨S8, .f32⟩ : BufTy).Contents (Elt F) → (⟨S8, .f32⟩ : BufTy).Contents (Elt F))
  :: StableHlo.unary main_v21 main_v28 (sitofp .f32 : (⟨S2048, .i32⟩ : BufTy).Contents (Elt F) → (⟨S2048, .f32⟩ : BufTy).Contents (Elt F))
  :: StableHlo.unary main_v28 main_v29 (broadcastInDim S2048x1 ![0] bcast_S2048_S2048x1_0 : (⟨S2048, .f32⟩ : BufTy).Contents (Elt F) → (⟨S2048x1, .f32⟩ : BufTy).Contents (Elt F))
  :: StableHlo.unary main_v27 main_v30 (broadcastInDim S1x8 ![1] bcast_S8_S1x8_1 : (⟨S8, .f32⟩ : BufTy).Contents (Elt F) → (⟨S1x8, .f32⟩ : BufTy).Contents (Elt F))
  :: StableHlo.unary main_v29 main_v31 (broadcastInDim S2048x8 ![0, 1] bcast_S2048x1_S2048x8_0_1 : (⟨S2048x1, .f32⟩ : BufTy).Contents (Elt F) → (⟨S2048x8, .f32⟩ : BufTy).Contents (Elt F))
  :: StableHlo.unary main_v30 main_v32 (broadcastInDim S2048x8 ![0, 1] bcast_S1x8_S2048x8_0_1 : (⟨S1x8, .f32⟩ : BufTy).Contents (Elt F) → (⟨S2048x8, .f32⟩ : BufTy).Contents (Elt F))
  :: StableHlo.binary main_v31 main_v32 main_v33 (mulf : (⟨S2048x8, .f32⟩ : BufTy).Contents (Elt F) → (⟨S2048x8, .f32⟩ : BufTy).Contents (Elt F) → (⟨S2048x8, .f32⟩ : BufTy).Contents (Elt F))
  :: StableHlo.unary main_v33 main_v34 (Host.cos : (⟨S2048x8, .f32⟩ : BufTy).Contents (Elt F) → (⟨S2048x8, .f32⟩ : BufTy).Contents (Elt F))
  :: StableHlo.unary main_v33 main_v35 (Host.sin : (⟨S2048x8, .f32⟩ : BufTy).Contents (Elt F) → (⟨S2048x8, .f32⟩ : BufTy).Contents (Elt F))
  :: StableHlo.nullary main_cst_3 (constant S_ .f32 0x3F800000#32)
  :: StableHlo.unary main_cst_3 main_v36 (broadcastInDim S2048x48 ![] bcast_S_S2048x48 : (⟨S_, .f32⟩ : BufTy).Contents (Elt F) → (⟨S2048x48, .f32⟩ : BufTy).Contents (Elt F))
  :: StableHlo.nullary main_cst_4 (constant S_ .f32 0x00000000#32)
  :: StableHlo.unary main_cst_4 main_v37 (broadcastInDim S2048x48 ![] bcast_S_S2048x48 : (⟨S_, .f32⟩ : BufTy).Contents (Elt F) → (⟨S2048x48, .f32⟩ : BufTy).Contents (Elt F))
  :: StableHlo.nullary main_cst_5 (constant S_ .f32 0x00000000#32)
  :: StableHlo.unary main_cst_5 main_v38 (broadcastInDim S2048x8 ![] bcast_S_S2048x8 : (⟨S_, .f32⟩ : BufTy).Contents (Elt F) → (⟨S2048x8, .f32⟩ : BufTy).Contents (Elt F))
  :: StableHlo.nary ![main_v34, main_v34, main_v36] main_v39 (fun u => (concatenate S2048x64 1 [⟨S2048x8, (u 0 : (⟨S2048x8, .f32⟩ : BufTy).Contents (Elt F))⟩, ⟨S2048x8, (u 1 : (⟨S2048x8, .f32⟩ : BufTy).Contents (Elt F))⟩, ⟨S2048x48, (u 2 : (⟨S2048x48, .f32⟩ : BufTy).Contents (Elt F))⟩] concatenates_S2048x8_S2048x8_S2048x48_S2048x64_d1 : (⟨S2048x64, .f32⟩ : BufTy).Contents (Elt F)))
  :: StableHlo.unary main_v35 main_v40 (Host.negf : (⟨S2048x8, .f32⟩ : BufTy).Contents (Elt F) → (⟨S2048x8, .f32⟩ : BufTy).Contents (Elt F))
  :: StableHlo.nary ![main_v40, main_v38, main_v37] main_v41 (fun u => (concatenate S2048x64 1 [⟨S2048x8, (u 0 : (⟨S2048x8, .f32⟩ : BufTy).Contents (Elt F))⟩, ⟨S2048x8, (u 1 : (⟨S2048x8, .f32⟩ : BufTy).Contents (Elt F))⟩, ⟨S2048x48, (u 2 : (⟨S2048x48, .f32⟩ : BufTy).Contents (Elt F))⟩] concatenates_S2048x8_S2048x8_S2048x48_S2048x64_d1 : (⟨S2048x64, .f32⟩ : BufTy).Contents (Elt F)))
  :: StableHlo.nary ![main_v38, main_v35, main_v37] main_v42 (fun u => (concatenate S2048x64 1 [⟨S2048x8, (u 0 : (⟨S2048x8, .f32⟩ : BufTy).Contents (Elt F))⟩, ⟨S2048x8, (u 1 : (⟨S2048x8, .f32⟩ : BufTy).Contents (Elt F))⟩, ⟨S2048x48, (u 2 : (⟨S2048x48, .f32⟩ : BufTy).Contents (Elt F))⟩] concatenates_S2048x8_S2048x8_S2048x48_S2048x64_d1 : (⟨S2048x64, .f32⟩ : BufTy).Contents (Elt F)))
  :: StableHlo.reshape main_v39 main_v43 (rfl : (.f32 : EltTy) = .f32) shapeCasts_S2048x64_S1x2048x1x64
  :: StableHlo.unary main_v43 main_v44 (broadcastInDim S1x2048x2x64 ![0, 1, 2, 3] bcast_S1x2048x1x64_S1x2048x2x64_0_1_2_3 : (⟨S1x2048x1x64, .f32⟩ : BufTy).Contents (Elt F) → (⟨S1x2048x2x64, .f32⟩ : BufTy).Contents (Elt F))
  :: StableHlo.reshape main_v44 main_v45 (rfl : (.f32 : EltTy) = .f32) shapeCasts_S1x2048x2x64_S2048x128
  :: StableHlo.reshape main_v41 main_v46 (rfl : (.f32 : EltTy) = .f32) shapeCasts_S2048x64_S1x2048x1x64
  :: StableHlo.unary main_v46 main_v47 (broadcastInDim S1x2048x2x64 ![0, 1, 2, 3] bcast_S1x2048x1x64_S1x2048x2x64_0_1_2_3 : (⟨S1x2048x1x64, .f32⟩ : BufTy).Contents (Elt F) → (⟨S1x2048x2x64, .f32⟩ : BufTy).Contents (Elt F))
  :: StableHlo.reshape main_v47 main_v48 (rfl : (.f32 : EltTy) = .f32) shapeCasts_S1x2048x2x64_S2048x128
  :: StableHlo.reshape main_v42 main_v49 (rfl : (.f32 : EltTy) = .f32) shapeCasts_S2048x64_S1x2048x1x64
  :: StableHlo.unary main_v49 main_v50 (broadcastInDim S1x2048x2x64 ![0, 1, 2, 3] bcast_S1x2048x1x64_S1x2048x2x64_0_1_2_3 : (⟨S1x2048x1x64, .f32⟩ : BufTy).Contents (Elt F) → (⟨S1x2048x2x64, .f32⟩ : BufTy).Contents (Elt F))
  :: StableHlo.reshape main_v50 main_v51 (rfl : (.f32 : EltTy) = .f32) shapeCasts_S1x2048x2x64_S2048x128
  :: [] )
/-- Each touches TensorCore references only. -/
theorem main_part0_ops0_sub : (main_part0_ops0 : List (HloOp τ sig (Elt F))).Forall fun op => op.bufs ⊆ StableHlo.tcRefs τ sig :=
  ⟨StableHlo.reshape_bufs_sub .., StableHlo.reshape_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.nary_bufs_sub .., StableHlo.nullary_bufs_sub .., StableHlo.unary_bufs_sub .., StableHlo.nary_bufs_sub .., StableHlo.unary_bufs_sub .., StableHlo.unary_bufs_sub .., StableHlo.unary_bufs_sub .., StableHlo.unary_bufs_sub .., StableHlo.unary_bufs_sub .., StableHlo.nullary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nary_bufs_sub .., StableHlo.unary_bufs_sub .., StableHlo.nary_bufs_sub .., StableHlo.nary_bufs_sub .., StableHlo.reshape_bufs_sub .., StableHlo.unary_bufs_sub .., StableHlo.reshape_bufs_sub .., StableHlo.reshape_bufs_sub .., StableHlo.unary_bufs_sub .., StableHlo.reshape_bufs_sub .., StableHlo.reshape_bufs_sub .., StableHlo.unary_bufs_sub .., StableHlo.reshape_bufs_sub ..⟩
/-- The first part of `main` (`main_part0`, statements 1 … 60) is the chain of its items. -/
theorem main_part0_chain (c : Dev nD) : main_part0 (F := F) c = (Pipeline.chainK
  [ StableHlo.seq main_part0_ops0 ]
  (Prog.lift (.customCall (Pipeline.entry 0) ())) : Prog (TpuEff nD τ sig (Elt F) (Pipeline.Sig Λ₀ (Fin 1) fun p => (pcfgs (F := F) p).Adm) .tc) PUnit) := by
  rewrite [StableHlo.chainK_seq_cons]
  chain_rfl

/-- The last part of `main` (`main_part1`, statement 61) is the chain of its items. -/
theorem main_part1_chain (c : Dev nD) : main_part1 (F := F) c = (Pipeline.chain
  [  ] : Prog (TpuEff nD τ sig (Elt F) (Pipeline.Sig Λ₀ (Fin 1) fun p => (pcfgs (F := F) p).Adm) .tc) PUnit) := by
  chain_rfl

/-- `main` is the chain of its parts' items. -/
theorem main_chain_windows (c : Dev nD) : main (F := F) c = (Pipeline.chain
  [ StableHlo.seq main_part0_ops0,
    Prog.lift (.customCall (Pipeline.entry 0) ()) ] : Prog (TpuEff nD τ sig (Elt F) (Pipeline.Sig Λ₀ (Fin 1) fun p => (pcfgs (F := F) p).Adm) .tc) PUnit) := by
  show (main_part0 (F := F) c >>= fun _ => main_part1 (F := F) c) = _
  rewrite [main_part1_chain, main_part0_chain, Pipeline.chainK_bind_chain]
  chain_rfl

/-- `main`'s items, each with the pieces its parts cut it into: a stretch of operations as the lists that make it up, in order, any
    other item as itself. -/
abbrev main_groups (c : Dev nD) : List (StableHlo.Group nD τ sig (Elt F) (Pipeline.Sig Λ₀ (Fin 1) fun p => (pcfgs (F := F) p).Adm)) :=
  [ .ops [main_part0_ops0],
    .prog (Prog.lift (.customCall (Pipeline.entry 0) ())) ]

/-- The parts' item list is `main_groups` with each stretch cut into its pieces. -/
theorem main_chain_cut (c : Dev nD) : (Pipeline.chain
  [ StableHlo.seq main_part0_ops0,
    Prog.lift (.customCall (Pipeline.entry 0) ()) ] : Prog (TpuEff nD τ sig (Elt F) (Pipeline.Sig Λ₀ (Fin 1) fun p => (pcfgs (F := F) p).Adm) .tc) PUnit) = Pipeline.chain ((main_groups (F := F) c).flatMap StableHlo.Group.cut) := by
  chain_rfl

/-- `main_groups` with each stretch's pieces joined is `main`'s item list. -/
theorem main_chain_whole (c : Dev nD) : Pipeline.chain ((main_groups (F := F) c).map StableHlo.Group.whole) = (Pipeline.chain
  [ StableHlo.seq hostOps0,
    Prog.lift (.customCall (Pipeline.entry 0) ()) ] : Prog (TpuEff nD τ sig (Elt F) (Pipeline.Sig Λ₀ (Fin 1) fun p => (pcfgs (F := F) p).Adm) .tc) PUnit) := by
  chain_rfl

/-- `main` is the chain of its items: the host operations, then the region. -/
theorem main_chain (c : Dev nD) : main (F := F) c = (Pipeline.chain
  [ StableHlo.seq hostOps0,
    Prog.lift (.customCall (Pipeline.entry 0) ()) ] : Prog (TpuEff nD τ sig (Elt F) (Pipeline.Sig Λ₀ (Fin 1) fun p => (pcfgs (F := F) p).Adm) .tc) PUnit) :=
  (main_chain_windows (F := F) c).trans <| (main_chain_cut (F := F) c).trans <|
    (StableHlo.chain_cut_eq_whole (main_groups (F := F) c)).trans (main_chain_whole (F := F) c)

/-- @main is the run of its segments: the host operations, then the region. -/
theorem main_segs {Ix : Type} [DecidableEq Ix] {Name : Type} [DecidableEq Name] {U : Type} [URA U] {Lvl : Type} [Preorder Lvl]
    (a : (p : Fin 1) → (pcfgs (F := F) p).Adm) (pdats : (p : Fin 1) → (c : Dev nD) → Pipeline.Dat τ (Elt F) Ix Name U Lvl (Pipeline.pin (pcfgs (F := F)) a p) c)
    (ι : Ix) (𝒱 : Variants) (L : GSem nD τ sig → Finset Ix) (lv : GSem nD τ sig → Ix → Lvl)
    (H0 : Pipeline.HostSeg (Ix := Ix) (Name := Name) (U := U) (Lvl := Lvl) (pcfgs (F := F)) defs₀ 𝒱 L lv)
    (R0 : Pipeline.RegionSeg (pcfgs (F := F)) a pdats ι defs₀ 𝒱 L lv 0)
    (h0 : H0.prog = StableHlo.seq hostOps0)
    (c : Dev nD) :
    main c = Pipeline.Seg.run [.host H0, .region R0] := by
  simp only [Pipeline.Seg.run]
  rw [h0]
  refine (main_chain c).trans ?_
  rfl

end Cert.Kernel4Ideal.Gen

end
-- ==== Proof.InpRun.lean ====
/-
  The input projection's kernel, its run: the body's triple on whole staging buffers, what it leaves in each output's buffer,
  the run of the pipeline over its 64 points, and the arrays after it.
-/
module

public import proofs.«01_k».proof.Proof.InpLaunch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region: its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is `V`'s (`hA`) and whose body leaves the block in place (`hafter`): where it is not fetched, the block's
    index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is `V`'s (`hA`) and whose body leaves the block in place (`hafter`): where it is not fetched, the block's
    index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is `V`'s (`hA`) and whose body leaves the block in place (`hafter`): where it is not fetched, the block's
    index has not moved. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is `V`'s (`hA`) and whose body leaves the block in place (`hafter`): where it is not fetched, the block's
    index has not moved. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data whose array is `V`'s (`hA`) and whose body leaves the block in place (`hafter`): where it is not fetched, the block's
    index has not moved. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof
    data whose array is `V`'s (`hA`) and whose body leaves the block in place (`hafter`): where it is not fetched, the block's
    index has not moved. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof
    data whose array is `V`'s (`hA`) and whose body leaves the block in place (`hafter`): where it is not fetched, the block's
    index has not moved. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for any proof
    data whose array is `V`'s (`hA`) and whose body leaves the block in place (`hafter`): where it is not fetched, the block's
    index has not moved. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for any proof
    data whose array is `V`'s (`hA`) and whose body leaves the block in place (`hafter`): where it is not fetched, the block's
    index has not moved. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

set_option maxHeartbeats 1200000 in
/-- The arguments end unchanged, from a run of the pipeline: for any proof data whose arrays are those at the region's entry
    (`hA`), no window stages an argument, so the run leaves it, and no host operation before the region writes it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) h

/-! ## The body's accesses -/

abbrev r0_0 : Rect S512x1024 := Rect.unit (s := S512x1024) ![0, 0] S512x1024.size inb_S512x1024_S512x1024_0_0
abbrev r0_1 : Rect S1024x1280 := Rect.unit (s := S1024x1280) ![0, 0] S1024x1280.size inb_S1024x1280_S1024x1280_0_0
abbrev r0_2 : Rect S512x128 := Rect.unit (s := S512x128) ![0, 0] S512x128.size inb_S512x128_S512x128_0_0
abbrev r0_3 : Rect S512x512 := Rect.unit (s := S512x512) ![0, 0] S512x128.size inb_S512x512_S512x128_0_0
abbrev r0_4 : Rect S512x512 := Rect.unit (s := S512x512) ![0, 128] S512x128.size inb_S512x512_S512x128_0_128
abbrev r0_5 : Rect S512x512 := Rect.unit (s := S512x512) ![0, 256] S512x128.size inb_S512x512_S512x128_0_256
abbrev r0_6 : Rect S512x512 := Rect.unit (s := S512x512) ![0, 384] S512x128.size inb_S512x512_S512x128_0_384
abbrev r0_7 : Rect S1024x128 := Rect.unit (s := S1024x128) ![0, 0] S1024x128.size inb_S1024x128_S1024x128_0_0
abbrev r0_8 : Rect S1x128x512 := Rect.unit (s := S1x128x512) ![0, 0, 0] S1x128x512.size inb_S1x128x512_S1x128x512_0_0_0
abbrev r0_9 : Rect S1x64x512 := Rect.unit (s := S1x64x512) ![0, 0, 0] S1x64x512.size inb_S1x64x512_S1x64x512_0_0_0
abbrev r0_10 : Rect S1024x1536 := Rect.unit (s := S1024x1536) ![0, 0] S1024x1536.size inb_S1024x1536_S1024x1536_0_0
abbrev r0_11 : Rect S512x1536 := Rect.unit (s := S512x1536) ![0, 0] S512x1536.size inb_S512x1536_S512x1536_0_0
abbrev r0_12 : Rect S1024x512 := Rect.unit (s := S1024x512) ![0, 0] S1024x512.size inb_S1024x512_S1024x512_0_0
abbrev r0_13 : Rect S512x512 := Rect.unit (s := S512x512) ![0, 0] S512x512.size inb_S512x512_S512x512_0_0

/-! ## What the body leaves in each output window's buffer -/

/-! ### Values of the body that the stores' payloads, spelt out, would write more than once

    Each is a vector the body binds, stated over the input windows' blocks and numbered on from `k0_pay28`; the comment after
    each is the printed function's name for the value. -/

def k0_pay29 (x0 : Vec F S512x1024 .f32) (x1 : Vec F S1024x1280 .bf16) (x2 : Vec F S1024x128 .bf16) (x3 : Vec F S1024x128 .bf16) (x4 : Vec F S1024x1536 .bf16) (x5 : Vec F S1024x512 .bf16) (x6 : Vec F S512x128 .f32) (x7 : Vec F S512x128 .f32) (x8 : Vec F S512x128 .f32) : FVec F S512x1024 .bf16 :=
  k0_pay2 (View.ld x0 r0_0) -- `v2`
def k0_pay30 (x0 : Vec F S512x1024 .f32) (x1 : Vec F S1024x1280 .bf16) (x2 : Vec F S1024x128 .bf16) (x3 : Vec F S1024x128 .bf16) (x4 : Vec F S1024x1536 .bf16) (x5 : Vec F S1024x512 .bf16) (x6 : Vec F S512x128 .f32) (x7 : Vec F S512x128 .f32) (x8 : Vec F S512x128 .f32) : FVec F S512x1280 .f32 :=
  k0_pay3 (View.ld x0 r0_0) (View.ld x1 r0_1) -- `v5`
def k0_pay31 (x0 : Vec F S512x1024 .f32) (x1 : Vec F S1024x1280 .bf16) (x2 : Vec F S1024x128 .bf16) (x3 : Vec F S1024x128 .bf16) (x4 : Vec F S1024x1536 .bf16) (x5 : Vec F S1024x512 .bf16) (x6 : Vec F S512x128 .f32) (x7 : Vec F S512x128 .f32) (x8 : Vec F S512x128 .f32) : FVec F S512x128 .f32 :=
  k0_pay4 (View.ld x6 r0_2) -- `v7`
def k0_pay32 (x0 : Vec F S512x1024 .f32) (x1 : Vec F S1024x1280 .bf16) (x2 : Vec F S1024x128 .bf16) (x3 : Vec F S1024x128 .bf16) (x4 : Vec F S1024x1536 .bf16) (x5 : Vec F S1024x512 .bf16) (x6 : Vec F S512x128 .f32) (x7 : Vec F S512x128 .f32) (x8 : Vec F S512x128 .f32) : FVec F S512x128 .f32 :=
  k0_pay5 (View.ld x7 r0_2) -- `v9`
def k0_pay33 (x0 : Vec F S512x1024 .f32) (x1 : Vec F S1024x1280 .bf16) (x2 : Vec F S1024x128 .bf16) (x3 : Vec F S1024x128 .bf16) (x4 : Vec F S1024x1536 .bf16) (x5 : Vec F S1024x512 .bf16) (x6 : Vec F S512x128 .f32) (x7 : Vec F S512x128 .f32) (x8 : Vec F S512x128 .f32) : FVec F S512x128 .f32 :=
  k0_pay6 (View.ld x8 r0_2) -- `v11`
def k0_pay34 (x0 : Vec F S512x1024 .f32) (x1 : Vec F S1024x1280 .bf16) (x2 : Vec F S1024x128 .bf16) (x3 : Vec F S1024x128 .bf16) (x4 : Vec F S1024x1536 .bf16) (x5 : Vec F S1024x512 .bf16) (x6 : Vec F S512x128 .f32) (x7 : Vec F S512x128 .f32) (x8 : Vec F S512x128 .f32) : FVec F S128x512 .f32 :=
  k0_pay20 (k0_pay29 x0 x1 x2 x3 x4 x5 x6 x7 x8) (View.ld x2 r0_7) -- `v106`

/-- Window 9's staging buffer after the body, from the input windows' blocks: its 4 stores as pieces, the last
    first. -/
def out0_9 (x0 : Vec F S512x1024 .f32) (x1 : Vec F S1024x1280 .bf16) (x2 : Vec F S1024x128 .bf16) (x3 : Vec F S1024x128 .bf16) (x4 : Vec F S1024x1536 .bf16) (x5 : Vec F S1024x512 .bf16) (x6 : Vec F S512x128 .f32) (x7 : Vec F S512x128 .f32) (x8 : Vec F S512x128 .f32) : Vec F S512x512 .f32 :=
  View.canon [⟨r0_6, k0_pay13 (k0_pay30 x0 x1 x2 x3 x4 x5 x6 x7 x8) (k0_pay31 x0 x1 x2 x3 x4 x5 x6 x7 x8) (k0_pay32 x0 x1 x2 x3 x4 x5 x6 x7 x8) (k0_pay33 x0 x1 x2 x3 x4 x5 x6 x7 x8)⟩,
    ⟨r0_5, k0_pay12 (k0_pay33 x0 x1 x2 x3 x4 x5 x6 x7 x8) (k0_pay10 (View.ld x0 r0_0) (View.ld x1 r0_1) (View.ld x6 r0_2) (View.ld x7 r0_2)) (k0_pay11 (View.ld x0 r0_0) (View.ld x1 r0_1))⟩,
    ⟨r0_4, k0_pay8 (View.ld x0 r0_0) (View.ld x1 r0_1) (View.ld x6 r0_2) (View.ld x7 r0_2) (View.ld x8 r0_2)⟩,
    ⟨r0_3, k0_pay7 (View.ld x0 r0_0) (View.ld x1 r0_1) (View.ld x6 r0_2) (View.ld x7 r0_2) (View.ld x8 r0_2)⟩]

/-- Its stores tile the buffer (checked by evaluation), so they cover it. -/
theorem cover0_9 (p0 : Vec F S512x128 .f32) (p1 : Vec F S512x128 .f32) (p2 : Vec F S512x128 .f32) (p3 : Vec F S512x128 .f32) (y : S512x512.Idx) :
    ∃ pc ∈ ([⟨r0_6, p0⟩, ⟨r0_5, p1⟩, ⟨r0_4, p2⟩, ⟨r0_3, p3⟩] : List (View.Piece (Elt F) S512x512 .f32)), y ∈ pc.1.set :=
  View.cover_of_tiled [⟨r0_6, p0⟩, ⟨r0_5, p1⟩, ⟨r0_4, p2⟩, ⟨r0_3, p3⟩] S512x128.size (by rfl) y

/-- Window 10's staging buffer after the body, from the input windows' blocks: its 4 stores as pieces, the last
    first. -/
def out0_10 (x0 : Vec F S512x1024 .f32) (x1 : Vec F S1024x1280 .bf16) (x2 : Vec F S1024x128 .bf16) (x3 : Vec F S1024x128 .bf16) (x4 : Vec F S1024x1536 .bf16) (x5 : Vec F S1024x512 .bf16) (x6 : Vec F S512x128 .f32) (x7 : Vec F S512x128 .f32) (x8 : Vec F S512x128 .f32) : Vec F S512x512 .f32 :=
  View.canon [⟨r0_6, k0_pay17 (k0_pay30 x0 x1 x2 x3 x4 x5 x6 x7 x8) (k0_pay31 x0 x1 x2 x3 x4 x5 x6 x7 x8) (k0_pay32 x0 x1 x2 x3 x4 x5 x6 x7 x8) (k0_pay33 x0 x1 x2 x3 x4 x5 x6 x7 x8)⟩,
    ⟨r0_5, k0_pay16 (k0_pay30 x0 x1 x2 x3 x4 x5 x6 x7 x8) (k0_pay31 x0 x1 x2 x3 x4 x5 x6 x7 x8) (k0_pay32 x0 x1 x2 x3 x4 x5 x6 x7 x8) (k0_pay33 x0 x1 x2 x3 x4 x5 x6 x7 x8)⟩,
    ⟨r0_4, k0_pay15 (k0_pay30 x0 x1 x2 x3 x4 x5 x6 x7 x8) (k0_pay31 x0 x1 x2 x3 x4 x5 x6 x7 x8) (k0_pay32 x0 x1 x2 x3 x4 x5 x6 x7 x8) (k0_pay33 x0 x1 x2 x3 x4 x5 x6 x7 x8)⟩,
    ⟨r0_3, k0_pay14 (k0_pay30 x0 x1 x2 x3 x4 x5 x6 x7 x8) (k0_pay31 x0 x1 x2 x3 x4 x5 x6 x7 x8) (k0_pay32 x0 x1 x2 x3 x4 x5 x6 x7 x8) (k0_pay33 x0 x1 x2 x3 x4 x5 x6 x7 x8)⟩]

/-- Its stores tile the buffer (checked by evaluation), so they cover it. -/
theorem cover0_10 (p0 : Vec F S512x128 .f32) (p1 : Vec F S512x128 .f32) (p2 : Vec F S512x128 .f32) (p3 : Vec F S512x128 .f32) (y : S512x512.Idx) :
    ∃ pc ∈ ([⟨r0_6, p0⟩, ⟨r0_5, p1⟩, ⟨r0_4, p2⟩, ⟨r0_3, p3⟩] : List (View.Piece (Elt F) S512x512 .f32)), y ∈ pc.1.set :=
  View.cover_of_tiled [⟨r0_6, p0⟩, ⟨r0_5, p1⟩, ⟨r0_4, p2⟩, ⟨r0_3, p3⟩] S512x128.size (by rfl) y

/-- Window 11's staging buffer after the body, from the input windows' blocks: its 1 store as pieces, the last
    first. -/
def out0_11 (x0 : Vec F S512x1024 .f32) (x1 : Vec F S1024x1280 .bf16) (x2 : Vec F S1024x128 .bf16) (x3 : Vec F S1024x128 .bf16) (x4 : Vec F S1024x1536 .bf16) (x5 : Vec F S1024x512 .bf16) (x6 : Vec F S512x128 .f32) (x7 : Vec F S512x128 .f32) (x8 : Vec F S512x128 .f32) : Vec F S1x128x512 .f32 :=
  View.canon [⟨r0_8, k0_pay21 (k0_pay30 x0 x1 x2 x3 x4 x5 x6 x7 x8) (k0_pay31 x0 x1 x2 x3 x4 x5 x6 x7 x8) (k0_pay32 x0 x1 x2 x3 x4 x5 x6 x7 x8) (k0_pay33 x0 x1 x2 x3 x4 x5 x6 x7 x8)⟩]

/-- Its stores tile the buffer (checked by evaluation), so they cover it. -/
theorem cover0_11 (p0 : Vec F S1x128x512 .f32) (y : S1x128x512.Idx) :
    ∃ pc ∈ ([⟨r0_8, p0⟩] : List (View.Piece (Elt F) S1x128x512 .f32)), y ∈ pc.1.set :=
  View.cover_of_tiled [⟨r0_8, p0⟩] S1x128x512.size (by rfl) y

/-- Window 12's staging buffer after the body, from the input windows' blocks: its 1 store as pieces, the last
    first. -/
def out0_12 (x0 : Vec F S512x1024 .f32) (x1 : Vec F S1024x1280 .bf16) (x2 : Vec F S1024x128 .bf16) (x3 : Vec F S1024x128 .bf16) (x4 : Vec F S1024x1536 .bf16) (x5 : Vec F S1024x512 .bf16) (x6 : Vec F S512x128 .f32) (x7 : Vec F S512x128 .f32) (x8 : Vec F S512x128 .f32) : Vec F S1x64x512 .f32 :=
  View.canon [⟨r0_9, k0_pay22 (k0_pay30 x0 x1 x2 x3 x4 x5 x6 x7 x8) (k0_pay31 x0 x1 x2 x3 x4 x5 x6 x7 x8) (k0_pay32 x0 x1 x2 x3 x4 x5 x6 x7 x8) (k0_pay33 x0 x1 x2 x3 x4 x5 x6 x7 x8)⟩]

/-- Its stores tile the buffer (checked by evaluation), so they cover it. -/
theorem cover0_12 (p0 : Vec F S1x64x512 .f32) (y : S1x64x512.Idx) :
    ∃ pc ∈ ([⟨r0_9, p0⟩] : List (View.Piece (Elt F) S1x64x512 .f32)), y ∈ pc.1.set :=
  View.cover_of_tiled [⟨r0_9, p0⟩] S1x64x512.size (by rfl) y

/-- Window 13's staging buffer after the body, from the input windows' blocks: its 1 store as pieces, the last
    first. -/
def out0_13 (x0 : Vec F S512x1024 .f32) (x1 : Vec F S1024x1280 .bf16) (x2 : Vec F S1024x128 .bf16) (x3 : Vec F S1024x128 .bf16) (x4 : Vec F S1024x1536 .bf16) (x5 : Vec F S1024x512 .bf16) (x6 : Vec F S512x128 .f32) (x7 : Vec F S512x128 .f32) (x8 : Vec F S512x128 .f32) : Vec F S1x128x512 .f32 :=
  View.canon [⟨r0_8, k0_pay23 (k0_pay34 x0 x1 x2 x3 x4 x5 x6 x7 x8)⟩]

/-- Its stores tile the buffer (checked by evaluation), so they cover it. -/
theorem cover0_13 (p0 : Vec F S1x128x512 .f32) (y : S1x128x512.Idx) :
    ∃ pc ∈ ([⟨r0_8, p0⟩] : List (View.Piece (Elt F) S1x128x512 .f32)), y ∈ pc.1.set :=
  View.cover_of_tiled [⟨r0_8, p0⟩] S1x128x512.size (by rfl) y

/-- Window 14's staging buffer after the body, from the input windows' blocks: its 1 store as pieces, the last
    first. -/
def out0_14 (x0 : Vec F S512x1024 .f32) (x1 : Vec F S1024x1280 .bf16) (x2 : Vec F S1024x128 .bf16) (x3 : Vec F S1024x128 .bf16) (x4 : Vec F S1024x1536 .bf16) (x5 : Vec F S1024x512 .bf16) (x6 : Vec F S512x128 .f32) (x7 : Vec F S512x128 .f32) (x8 : Vec F S512x128 .f32) : Vec F S512x128 .f32 :=
  View.canon [⟨r0_2, k0_pay27 (k0_pay29 x0 x1 x2 x3 x4 x5 x6 x7 x8) (View.ld x3 r0_7)⟩]

/-- Its stores tile the buffer (checked by evaluation), so they cover it. -/
theorem cover0_14 (p0 : Vec F S512x128 .f32) (y : S512x128.Idx) :
    ∃ pc ∈ ([⟨r0_2, p0⟩] : List (View.Piece (Elt F) S512x128 .f32)), y ∈ pc.1.set :=
  View.cover_of_tiled [⟨r0_2, p0⟩] S512x128.size (by rfl) y

/-- Window 15's staging buffer after the body, from the input windows' blocks: its 1 store as pieces, the last
    first. -/
def out0_15 (x0 : Vec F S512x1024 .f32) (x1 : Vec F S1024x1280 .bf16) (x2 : Vec F S1024x128 .bf16) (x3 : Vec F S1024x128 .bf16) (x4 : Vec F S1024x1536 .bf16) (x5 : Vec F S1024x512 .bf16) (x6 : Vec F S512x128 .f32) (x7 : Vec F S512x128 .f32) (x8 : Vec F S512x128 .f32) : Vec F S512x1536 .f32 :=
  View.canon [⟨r0_11, k0_pay28 (k0_pay29 x0 x1 x2 x3 x4 x5 x6 x7 x8) (View.ld x4 r0_10)⟩]

/-- Its stores tile the buffer (checked by evaluation), so they cover it. -/
theorem cover0_15 (p0 : Vec F S512x1536 .f32) (y : S512x1536.Idx) :
    ∃ pc ∈ ([⟨r0_11, p0⟩] : List (View.Piece (Elt F) S512x1536 .f32)), y ∈ pc.1.set :=
  View.cover_of_tiled [⟨r0_11, p0⟩] S512x1536.size (by rfl) y

/-- Window 16's staging buffer after the body, from the input windows' blocks: its 1 store as pieces, the last
    first. -/
def out0_16 (x0 : Vec F S512x1024 .f32) (x1 : Vec F S1024x1280 .bf16) (x2 : Vec F S1024x128 .bf16) (x3 : Vec F S1024x128 .bf16) (x4 : Vec F S1024x1536 .bf16) (x5 : Vec F S1024x512 .bf16) (x6 : Vec F S512x128 .f32) (x7 : Vec F S512x128 .f32) (x8 : Vec F S512x128 .f32) : Vec F S512x512 .f32 :=
  View.canon [⟨r0_13, k0_pay1 (k0_pay29 x0 x1 x2 x3 x4 x5 x6 x7 x8) (View.ld x5 r0_12)⟩]

/-- Its stores tile the buffer (checked by evaluation), so they cover it. -/
theorem cover0_16 (p0 : Vec F S512x512 .f32) (y : S512x512.Idx) :
    ∃ pc ∈ ([⟨r0_13, p0⟩] : List (View.Piece (Elt F) S512x512 .f32)), y ∈ pc.1.set :=
  View.cover_of_tiled [⟨r0_13, p0⟩] S512x512.size (by rfl) y

/-- Window 17's staging buffer after the body, from the input windows' blocks: its 1 store as pieces, the last
    first. -/
def out0_17 (x0 : Vec F S512x1024 .f32) (x1 : Vec F S1024x1280 .bf16) (x2 : Vec F S1024x128 .bf16) (x3 : Vec F S1024x128 .bf16) (x4 : Vec F S1024x1536 .bf16) (x5 : Vec F S1024x512 .bf16) (x6 : Vec F S512x128 .f32) (x7 : Vec F S512x128 .f32) (x8 : Vec F S512x128 .f32) : Vec F S1x128x512 .bf16 :=
  View.canon [⟨r0_8, k0_pay24 (k0_pay18 (k0_pay30 x0 x1 x2 x3 x4 x5 x6 x7 x8) (k0_pay31 x0 x1 x2 x3 x4 x5 x6 x7 x8) (k0_pay32 x0 x1 x2 x3 x4 x5 x6 x7 x8) (k0_pay33 x0 x1 x2 x3 x4 x5 x6 x7 x8))⟩]

/-- Its stores tile the buffer (checked by evaluation), so they cover it. -/
theorem cover0_17 (p0 : Vec F S1x128x512 .bf16) (y : S1x128x512.Idx) :
    ∃ pc ∈ ([⟨r0_8, p0⟩] : List (View.Piece (Elt F) S1x128x512 .bf16)), y ∈ pc.1.set :=
  View.cover_of_tiled [⟨r0_8, p0⟩] S1x128x512.size (by rfl) y

/-- Window 18's staging buffer after the body, from the input windows' blocks: its 1 store as pieces, the last
    first. -/
def out0_18 (x0 : Vec F S512x1024 .f32) (x1 : Vec F S1024x1280 .bf16) (x2 : Vec F S1024x128 .bf16) (x3 : Vec F S1024x128 .bf16) (x4 : Vec F S1024x1536 .bf16) (x5 : Vec F S1024x512 .bf16) (x6 : Vec F S512x128 .f32) (x7 : Vec F S512x128 .f32) (x8 : Vec F S512x128 .f32) : Vec F S1x64x512 .bf16 :=
  View.canon [⟨r0_9, k0_pay25 (k0_pay19 (k0_pay30 x0 x1 x2 x3 x4 x5 x6 x7 x8) (k0_pay31 x0 x1 x2 x3 x4 x5 x6 x7 x8) (k0_pay32 x0 x1 x2 x3 x4 x5 x6 x7 x8) (k0_pay33 x0 x1 x2 x3 x4 x5 x6 x7 x8))⟩]

/-- Its stores tile the buffer (checked by evaluation), so they cover it. -/
theorem cover0_18 (p0 : Vec F S1x64x512 .bf16) (y : S1x64x512.Idx) :
    ∃ pc ∈ ([⟨r0_9, p0⟩] : List (View.Piece (Elt F) S1x64x512 .bf16)), y ∈ pc.1.set :=
  View.cover_of_tiled [⟨r0_9, p0⟩] S1x64x512.size (by rfl) y

/-- Window 19's staging buffer after the body, from the input windows' blocks: its 1 store as pieces, the last
    first. -/
def out0_19 (x0 : Vec F S512x1024 .f32) (x1 : Vec F S1024x1280 .bf16) (x2 : Vec F S1024x128 .bf16) (x3 : Vec F S1024x128 .bf16) (x4 : Vec F S1024x1536 .bf16) (x5 : Vec F S1024x512 .bf16) (x6 : Vec F S512x128 .f32) (x7 : Vec F S512x128 .f32) (x8 : Vec F S512x128 .f32) : Vec F S1x128x512 .bf16 :=
  View.canon [⟨r0_8, k0_pay26 (k0_pay34 x0 x1 x2 x3 x4 x5 x6 x7 x8)⟩]

/-- Its stores tile the buffer (checked by evaluation), so they cover it. -/
theorem cover0_19 (p0 : Vec F S1x128x512 .bf16) (y : S1x128x512.Idx) :
    ∃ pc ∈ ([⟨r0_8, p0⟩] : List (View.Piece (Elt F) S1x128x512 .bf16)), y ∈ pc.1.set :=
  View.cover_of_tiled [⟨r0_8, p0⟩] S1x128x512.size (by rfl) y

/-! ## The body's triple -/

set_option maxHeartbeats 1000000 in
/-- The kernel body on whole staging buffers, the inputs' at contents `xW` and the outputs' at anything, runs to the continuation
    that holds the inputs' as they were and each output's at `out0_W` of the inputs'. -/
theorem sound_kernel (c : Dev nD) (E : Set ℕ) (i : grid0.Coords) (arg1 : Memref sig .tc .vmem S512x1024 .f32) (harg1 : arg1.IsWhole) (arg2 : Memref sig .tc .vmem S1024x1280 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1536 .bf16) (harg5 : arg5.IsWhole) (arg6 : Memref sig .tc .vmem S1024x512 .bf16) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1x128x512 .f32) (harg12 : arg12.IsWhole) (arg13 : Memref sig .tc .vmem S1x64x512 .f32) (harg13 : arg13.IsWhole) (arg14 : Memref sig .tc .vmem S1x128x512 .f32) (harg14 : arg14.IsWhole) (arg15 : Memref sig .tc .vmem S512x128 .f32) (harg15 : arg15.IsWhole) (arg16 : Memref sig .tc .vmem S512x1536 .f32) (harg16 : arg16.IsWhole) (arg17 : Memref sig .tc .vmem S512x512 .f32) (harg17 : arg17.IsWhole) (arg18 : Memref sig .tc .vmem S1x128x512 .bf16) (harg18 : arg18.IsWhole) (arg19 : Memref sig .tc .vmem S1x64x512 .bf16) (harg19 : arg19.IsWhole) (arg20 : Memref sig .tc .vmem S1x128x512 .bf16) (harg20 : arg20.IsWhole)
    (x0 : Vec F S512x1024 .f32) (x1 : Vec F S1024x1280 .bf16) (x2 : Vec F S1024x128 .bf16) (x3 : Vec F S1024x128 .bf16) (x4 : Vec F S1024x1536 .bf16) (x5 : Vec F S1024x512 .bf16) (x6 : Vec F S512x128 .f32) (x7 : Vec F S512x128 .f32) (x8 : Vec F S512x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8) ∗ owns (c : Thread nD τ) arg11 fullShare (out0_10 x0 x1 x2 x3 x4 x5 x6 x7 x8) ∗ owns (c : Thread nD τ) arg12 fullShare (out0_11 x0 x1 x2 x3 x4 x5 x6 x7 x8) ∗ owns (c : Thread nD τ) arg13 fullShare (out0_12 x0 x1 x2 x3 x4 x5 x6 x7 x8) ∗ owns (c : Thread nD τ) arg14 fullShare (out0_13 x0 x1 x2 x3 x4 x5 x6 x7 x8) ∗ owns (c : Thread nD τ) arg15 fullShare (out0_14 x0 x1 x2 x3 x4 x5 x6 x7 x8) ∗ owns (c : Thread nD τ) arg16 fullShare (out0_15 x0 x1 x2 x3 x4 x5 x6 x7 x8) ∗ owns (c : Thread nD τ) arg17 fullShare (out0_16 x0 x1 x2 x3 x4 x5 x6 x7 x8) ∗ owns (c : Thread nD τ) arg18 fullShare (out0_17 x0 x1 x2 x3 x4 x5 x6 x7 x8) ∗ owns (c : Thread nD τ) arg19 fullShare (out0_18 x0 x1 x2 x3 x4 x5 x6 x7 x8) ∗ owns (c : Thread nD τ) arg20 fullShare (out0_19 x0 x1 x2 x3 x4 x5 x6 x7 x8)) -∗ K ⟨⟩))
      ⊢ wp frame (wpE (defs₀ (F := F)) Variants.none c none) E (cc0_mix_projection i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_mix_projection_eq_skeleton]; unfold cc0_mix_projection_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (cover0_9 _ _ _ _)).trans ?_
    rfl
  isplitl [H10]
  · iexists _; isplitr
    swap; · iexact H10
    ipureintro
    refine (View.read_writes_eq_canon _ _ _ (cover0_10 _ _ _ _)).trans ?_
    rfl
  isplitl [H11]
  · iexists _; isplitr
    swap; · iexact H11
    ipureintro
    refine (View.read_writes_eq_canon _ _ _ (cover0_11 _)).trans ?_
    rfl
  isplitl [H12]
  · iexists _; isplitr
    swap; · iexact H12
    ipureintro
    refine (View.read_writes_eq_canon _ _ _ (cover0_12 _)).trans ?_
    rfl
  isplitl [H13]
  · iexists _; isplitr
    swap; · iexact H13
    ipureintro
    refine (View.read_writes_eq_canon _ _ _ (cover0_13 _)).trans ?_
    rfl
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  iexists _; isplitr
  swap; · iexact H19
  ipureintro
  refine (View.read_writes_eq_canon _ _ _ (cover0_19 _)).trans ?_
  rfl

/-! ## The pipeline's proof data -/

/-- The proof data of the one pipeline on core `c`: the arrays as the region finds them (`V`); after the body at
    point `t` each input's buffer at its block and each output's at `out0_W` of the input blocks; the invariant is the scoped rest
    and the generator's register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
    | ⟨10, _⟩ => out0_10 (iblk m c 0 t) (iblk m c 1 t) (iblk m c 2 t) (iblk m c 3 t) (iblk m c 4 t) (iblk m c 5 t) (iblk m c 6 t) (iblk m c 7 t) (iblk m c 8 t)
    | ⟨11, _⟩ => out0_11 (iblk m c 0 t) (iblk m c 1 t) (iblk m c 2 t) (iblk m c 3 t) (iblk m c 4 t) (iblk m c 5 t) (iblk m c 6 t) (iblk m c 7 t) (iblk m c 8 t)
    | ⟨12, _⟩ => out0_12 (iblk m c 0 t) (iblk m c 1 t) (iblk m c 2 t) (iblk m c 3 t) (iblk m c 4 t) (iblk m c 5 t) (iblk m c 6 t) (iblk m c 7 t) (iblk m c 8 t)
    | ⟨13, _⟩ => out0_13 (iblk m c 0 t) (iblk m c 1 t) (iblk m c 2 t) (iblk m c 3 t) (iblk m c 4 t) (iblk m c 5 t) (iblk m c 6 t) (iblk m c 7 t) (iblk m c 8 t)
    | ⟨14, _⟩ => out0_14 (iblk m c 0 t) (iblk m c 1 t) (iblk m c 2 t) (iblk m c 3 t) (iblk m c 4 t) (iblk m c 5 t) (iblk m c 6 t) (iblk m c 7 t) (iblk m c 8 t)
    | ⟨15, _⟩ => out0_15 (iblk m c 0 t) (iblk m c 1 t) (iblk m c 2 t) (iblk m c 3 t) (iblk m c 4 t) (iblk m c 5 t) (iblk m c 6 t) (iblk m c 7 t) (iblk m c 8 t)
    | ⟨16, _⟩ => out0_16 (iblk m c 0 t) (iblk m c 1 t) (iblk m c 2 t) (iblk m c 3 t) (iblk m c 4 t) (iblk m c 5 t) (iblk m c 6 t) (iblk m c 7 t) (iblk m c 8 t)
    | ⟨17, _⟩ => out0_17 (iblk m c 0 t) (iblk m c 1 t) (iblk m c 2 t) (iblk m c 3 t) (iblk m c 4 t) (iblk m c 5 t) (iblk m c 6 t) (iblk m c 7 t) (iblk m c 8 t)
    | ⟨18, _⟩ => out0_18 (iblk m c 0 t) (iblk m c 1 t) (iblk m c 2 t) (iblk m c 3 t) (iblk m c 4 t) (iblk m c 5 t) (iblk m c 6 t) (iblk m c 7 t) (iblk m c 8 t)
    | ⟨19, _⟩ => out0_19 (iblk m c 0 t) (iblk m c 1 t) (iblk m c 2 t) (iblk m c 3 t) (iblk m c 4 t) (iblk m c 5 t) (iblk m c 6 t) (iblk m c 7 t) (iblk m c 8 t)
    | ⟨_ + 20, h⟩ => absurd h (Nat.not_lt.2 (Nat.le_add_left _ _))
  Φ _ := Pipeline.ΦA spec0 c
  q _ := fullShare
  owed _ := 0

/-- The proof data's arrays are those at the region's entry. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) (iblk m c 8 t) := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) (iblk m c 7 t) (iblk m c 8 t) := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (sound_kernel c Set.univ (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  iintro ⟨H0, H1, H2, H3, H4, H5, H6, H7, H8, H9, H10, H11, H12, H13, H14, H15, H16, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The run, and every counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- From any memory with zero counters every weakly fair execution of @main terminates, and every final state has every array of
    the pipeline at what follows from the proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: the arguments end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Kernel4Ideal.Gen

namespace Cert.Kernel4Ideal.Value

open Cert.Kernel4Ideal Cert.Kernel4Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v52_0) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v52_1) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v52_2) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v52_3) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v52_4) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v52_5) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v52_6) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v52_7) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v52_8) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v52_9) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v52_10) = (dats m 0 c).arrAt 19 cfg0.N :=
  (h c).1 19

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

set_option maxHeartbeats 250280 in
/-- The run, with each output array after it as `(dats m 0 c).arrAt w N`, and the arguments unchanged. -/
theorem run_blocks : θ_run defs (onTc (τ := τ) (main (F := F))) ⟨m, fun _ => 0, ρ⟩ fun r => ∀ c : Dev nD,
      r.2.mem ((c : Thread nD τ).loc main_v52_0) = (dats m 0 c).arrAt 9 cfg0.N
      ∧ r.2.mem ((c : Thread nD τ).loc main_v52_1) = (dats m 0 c).arrAt 10 cfg0.N
      ∧ r.2.mem ((c : Thread nD τ).loc main_v52_2) = (dats m 0 c).arrAt 11 cfg0.N
      ∧ r.2.mem ((c : Thread nD τ).loc main_v52_3) = (dats m 0 c).arrAt 12 cfg0.N
      ∧ r.2.mem ((c : Thread nD τ).loc main_v52_4) = (dats m 0 c).arrAt 13 cfg0.N
      ∧ r.2.mem ((c : Thread nD τ).loc main_v52_5) = (dats m 0 c).arrAt 14 cfg0.N
      ∧ r.2.mem ((c : Thread nD τ).loc main_v52_6) = (dats m 0 c).arrAt 15 cfg0.N
      ∧ r.2.mem ((c : Thread nD τ).loc main_v52_7) = (dats m 0 c).arrAt 16 cfg0.N
      ∧ r.2.mem ((c : Thread nD τ).loc main_v52_8) = (dats m 0 c).arrAt 17 cfg0.N
      ∧ r.2.mem ((c : Thread nD τ).loc main_v52_9) = (dats m 0 c).arrAt 18 cfg0.N
      ∧ r.2.mem ((c : Thread nD τ).loc main_v52_10) = (dats m 0 c).arrAt 19 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨post9 m r h c,
      post10 m r h c,
      post11 m r h c,
      post12 m r h c,
      post13 m r h c,
      post14 m r h c,
      post15 m r h c,
      post16 m r h c,
      post17 m r h c,
      post18 m r h c,
      post19 m r h c,
      kept_main_arg0 m r h c,
      kept_main_arg1 m r h c⟩)
    (run_main m ρ)

end Cert.Kernel4Ideal.Value

end
-- ==== Proof.RotaryKernel.lean ====
/-
  The input projection's kernel: its windows' blocks over its grid, and the arrays its host code prepares for them.
-/
module

public import proofs.«01_k».proof.Proof.Rotary
public import proofs.«01_k».proof.Proof.InpRun
public import proofs.«01_k».proof.Proof.Gen.Reference4Ideal.Read
public import Idealize.ShloMosaic.Lib.Pipeline.ValueKit.Geometry
public import Idealize.ShloMosaic.Lib.Pipeline.ValueKit.Acc
public import Idealize.ShloMosaic.Lib.Claim

@[expose] public section

set_option maxRecDepth 16384

noncomputable section

namespace Inp.Kernel

open Idealize.ShloMosaic Idealize.ShloMosaic.TcCoe Idealize.SL.Sem
open Idealize.ShloMosaic.Pipeline (Dat)
open Idealize.ShloMosaic.ValueIdx
open Cert.Kernel4Ideal Cert.Kernel4Ideal.Gen
open Ffn (dot)

variable (m : (ℓ : Loc nD τ sig) → Buf (Elt Ideal) ℓ) (c : Dev nD)

/-- The arguments, as arrays. -/
abbrev argX : Ffn.Toks.Idx → EReal := m ((c : Thread nD τ).loc main_arg0)
abbrev argW : Win.Idx → EReal := m ((c : Thread nD τ).loc main_arg1)

/-- The angles' cosines and sines. -/
abbrev cosT : Tab.Idx → EReal := Cert.Reference4Ideal.Read.val_main_v26 (F := Ideal)
abbrev sinT : Tab.Idx → EReal := Cert.Reference4Ideal.Read.val_main_v28 (F := Ideal)

/-- The windows' index maps. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![t.val % 4, 0] ∧ win0_7.index t = ![t.val % 4, 0] ∧ win0_8.index t = ![t.val % 4, 0] :=
  (by decide +kernel : ∀ t : Fin grid0.N, _)

theorem idxOut : ∀ t : Fin cfg0.N, win0_9.index t = ![t.val, 0] ∧ win0_10.index t = ![t.val, 0] ∧ win0_11.index t = ![t.val / 4, 0, t.val % 4]
    ∧ win0_12.index t = ![t.val / 4, 0, t.val % 4] ∧ win0_13.index t = ![t.val / 4, 0, t.val % 4] ∧ win0_14.index t = ![t.val, 0] ∧ win0_15.index t = ![t.val, 0]
    ∧ win0_16.index t = ![t.val, 0] ∧ win0_17.index t = ![t.val / 4, 0, t.val % 4] ∧ win0_18.index t = ![t.val / 4, 0, t.val % 4]
    ∧ win0_19.index t = ![t.val / 4, 0, t.val % 4] :=
  (by decide +kernel : ∀ t : Fin grid0.N, _)

/-- The batch and the token of row `r` of the block at point `t`. -/
abbrev bt (t : Fin cfg0.N) : Fin 16 := ⟨t.val / 4, by have : t.val < 64 := t.isLt; omega⟩
abbrev ps (t : Fin cfg0.N) (r : Fin 512) : Fin 2048 := ⟨t.val % 4 * 512 + r.val, by omega⟩

/-! ## What the region finds in the arrays the blocks are read from -/

/-- The weights as a matrix, and columns of them. -/
abbrev mat : S1024x3408.Idx → EReal := shapeCast S1024x3408 (argW m c) shapeCasts_S1x1024x3408_S1024x3408

theorem cut_apply {n o : ℕ} (ho : o + n ≤ 3408) (h : S1024x3408.Slices ![0, o] ⟨2, ![1024, n]⟩) (k : Fin 1024) (j : Fin n) :
    extractStridedSlice ⟨2, ![1024, n]⟩ ![0, o] (mat m c) h (ix2 k j) = argW m c (ix3 0 k ⟨o + j.val, by omega⟩) := by
  refine (extractStridedSlice_apply _ _ _ _ (ix2 k ⟨o + j.val, by omega⟩) fun a => ?_).trans ?_
  · fin_cases a
    · show k.val = 0 + k.val; omega
    · rfl
  · exact Ffn.matrix_apply _ _ _ _ _ rfl rfl

theorem V_x : (V m c main_v0 : S32768x1024.Idx → EReal) = shapeCast S32768x1024 (argX m c) shapeCasts_S16x2048x1024_S32768x1024 := rfl

/-- The five groups of columns side by side: the queries, the indexer's queries, the keys, the indexer's keys, zeros. -/
abbrev groups : List ((s : Shape) × (s.Idx → EReal)) :=
  [⟨S1024x512, extractStridedSlice S1024x512 ![0, 0] (mat m c) slices_S1024x3408_S1024x512_0_0⟩,
   ⟨S1024x512, extractStridedSlice S1024x512 ![0, 768] (mat m c) slices_S1024x3408_S1024x512_0_768⟩,
   ⟨S1024x128, extractStridedSlice S1024x128 ![0, 512] (mat m c) slices_S1024x3408_S1024x128_0_512⟩,
   ⟨S1024x64, extractStridedSlice S1024x64 ![0, 1280] (mat m c) slices_S1024x3408_S1024x64_0_1280⟩,
   ⟨S1024x64, broadcastInDim S1024x64 ![] bcast_S_S1024x64 (constant (F := Ideal) S_ .f32 0x00000000#32)⟩]

theorem V_wr : (V m c main_v16 : S1024x1280.Idx → EReal) = concatenate S1024x1280 1 (groups m c) concatenates_S1024x512_S1024x512_S1024x128_S1024x64_S1024x64_S1024x1280_d1 := rfl

theorem V_wv : (V m c main_v17 : S1024x128.Idx → EReal) = extractStridedSlice S1024x128 ![0, 640] (mat m c) slices_S1024x3408_S1024x128_0_640 := rfl

/-- The small groups side by side: the indexer's weights, the two kinds of gates, zeros. -/
abbrev gates : List ((s : Shape) × (s.Idx → EReal)) :=
  [⟨S1024x8, extractStridedSlice S1024x8 ![0, 1344] (mat m c) slices_S1024x3408_S1024x8_0_1344⟩,
   ⟨S1024x4, extractStridedSlice S1024x4 ![0, 3400] (mat m c) slices_S1024x3408_S1024x4_0_3400⟩,
   ⟨S1024x4, extractStridedSlice S1024x4 ![0, 3404] (mat m c) slices_S1024x3408_S1024x4_0_3404⟩,
   ⟨S1024x112, broadcastInDim S1024x112 ![] bcast_S_S1024x112 (constant (F := Ideal) S_ .f32 0x00000000#32)⟩]

theorem V_ws : (V m c main_v18 : S1024x128.Idx → EReal) = concatenate S1024x128 1 (gates m c) concatenates_S1024x8_S1024x4_S1024x4_S1024x112_S1024x128_d1 := rfl

theorem V_wqkv : (V m c main_v19 : S1024x1536.Idx → EReal) = extractStridedSlice S1024x1536 ![0, 1352] (mat m c) slices_S1024x3408_S1024x1536_0_1352 := rfl
theorem V_wz : (V m c main_v20 : S1024x512.Idx → EReal) = extractStridedSlice S1024x512 ![0, 2888] (mat m c) slices_S1024x3408_S1024x512_0_2888 := rfl

abbrev both (x : Head.Idx → EReal) : Lanes.Idx → EReal := twice shapeCasts_S2048x64_S1x2048x1x64 bcast_S1x2048x1x64_S1x2048x2x64_0_1_2_3 shapeCasts_S1x2048x2x64_S2048x128 x
abbrev fill8 (v : BitVec 32) : Tab.Idx → EReal := broadcastInDim S2048x8 ![] bcast_S_S2048x8 (constant (F := Ideal) S_ .f32 v)
abbrev fill48 (v : BitVec 32) : Rest.Idx → EReal := broadcastInDim S2048x48 ![] bcast_S_S2048x48 (constant (F := Ideal) S_ .f32 v)

theorem V_cos : (V m c main_v45 : S2048x128.Idx → EReal) = both (concatenate Head 1 [⟨Tab, cosT⟩, ⟨Tab, cosT⟩, ⟨Rest, fill48 0x3F800000#32⟩] concatenates_S2048x8_S2048x8_S2048x48_S2048x64_d1) := rfl
theorem V_low : (V m c main_v48 : S2048x128.Idx → EReal)
    = both (concatenate Head 1 [⟨Tab, fun i => -sinT i⟩, ⟨Tab, fill8 0x00000000#32⟩, ⟨Rest, fill48 0x00000000#32⟩] concatenates_S2048x8_S2048x8_S2048x48_S2048x64_d1) := rfl
theorem V_high : (V m c main_v51 : S2048x128.Idx → EReal)
    = both (concatenate Head 1 [⟨Tab, fill8 0x00000000#32⟩, ⟨Tab, sinT⟩, ⟨Rest, fill48 0x00000000#32⟩] concatenates_S2048x8_S2048x8_S2048x48_S2048x64_d1) := rfl

end Inp.Kernel
-- ==== Proof.RotaryBlock.lean ====
/-
  The input projection's kernel: its blocks and its body, read at an entry.
-/
module

public import proofs.«01_k».proof.Proof.RotaryKernel

@[expose] public section

set_option maxRecDepth 16384

noncomputable section

namespace Inp.Kernel

open Idealize.ShloMosaic Idealize.ShloMosaic.TcCoe Idealize.SL.Sem
open Idealize.ShloMosaic.Pipeline (Dat)
open Idealize.ShloMosaic.ValueIdx
open Cert.Kernel4Ideal Cert.Kernel4Ideal.Gen
open Ffn (dot)

variable (m : (ℓ : Loc nD τ sig) → Buf (Elt Ideal) ℓ) (c : Dev nD)

/-! ## The blocks -/

abbrev tokAt (t : Fin cfg0.N) (r : Fin 512) : Fin 32768 := ⟨t.val * 512 + r.val, by have : t.val < 64 := t.isLt; omega⟩

theorem x_at (t : Fin cfg0.N) (r : Fin 512) (k : Fin 1024) : (show Vec Ideal S512x1024 .f32 from iblk m c 0 t) (ix2 r k) = argX m c (ix3 (bt t) (ps t r) k) := by
  show (V m c main_v0 : S32768x1024.Idx → EReal) (((cfg0.win 0).blk t).view.emb (ix2 r k)) = _
  rw [V_x]
  refine (Ffn.rows_apply _ _ _ (tokAt t r) k ?_ ?_).trans ?_
  · blk_simp [idx t]
  · blk_simp [idx t]
  have ht : t.val < 64 := t.isLt
  refine congrArg (argX m c) (congrArg₂ (fun b p => ix3 b p k) (Fin.ext ?_) (Fin.ext ?_))
  · show (t.val * 512 + r.val) / 2048 = t.val / 4
    omega
  · show (t.val * 512 + r.val) % 2048 = t.val % 4 * 512 + r.val
    omega

/-- Where a column of the grouped weights comes from. -/
def Src (a b : ℕ) : Prop := a < 512 ∧ b = a ∨ (512 ≤ a ∧ a < 1024) ∧ b = a + 256 ∨ (1024 ≤ a ∧ a < 1152) ∧ b + 512 = a ∨ (1152 ≤ a ∧ a < 1216) ∧ b = a + 128

theorem wr_at (t : Fin cfg0.N) (k : Fin 1024) (j : Fin 1280) (J : Fin 3408) (h : Src j.val J.val) :
    (show Vec Ideal S1024x1280 .bf16 from iblk m c 1 t) (ix2 k j) = argW m c (ix3 0 k J) := by
  show (V m c main_v16 : S1024x1280.Idx → EReal) (((cfg0.win 1).blk t).view.emb (ix2 k j)) = _
  rw [show ((cfg0.win 1).blk t).view.emb (ix2 k j) = (ix2 k j : S1024x1280.Idx) from by
    funext a; apply Fin.ext; fin_cases a <;> blk_simp [idx t], V_wr]
  rcases h with ⟨h1, h2⟩ | ⟨h1, h2⟩ | ⟨h1, h2⟩ | ⟨h1, h2⟩
  · refine (piece_apply (groups m c) _ 0 (by simp) _ rfl 0 rfl k j (⟨j.val, h1⟩ : Fin 512) (Nat.zero_add _)).trans ((cut_apply m c (by omega) _ _ _).trans ?_)
    exact congrArg (fun J => argW m c (ix3 0 k J)) (Fin.ext (by show 0 + j.val = J.val; omega))
  · refine (piece_apply (groups m c) _ 1 (by simp) _ rfl 512 rfl k j (⟨j.val - 512, by omega⟩ : Fin 512) (by show 512 + (j.val - 512) = j.val; omega)).trans ((cut_apply m c (by omega) _ _ _).trans ?_)
    exact congrArg (fun J => argW m c (ix3 0 k J)) (Fin.ext (by show 768 + (j.val - 512) = J.val; omega))
  · refine (piece_apply (groups m c) _ 2 (by simp) _ rfl 1024 rfl k j (⟨j.val - 1024, by omega⟩ : Fin 128) (by show 1024 + (j.val - 1024) = j.val; omega)).trans ((cut_apply m c (by omega) _ _ _).trans ?_)
    exact congrArg (fun J => argW m c (ix3 0 k J)) (Fin.ext (by show 512 + (j.val - 1024) = J.val; omega))
  · refine (piece_apply (groups m c) _ 3 (by simp) _ rfl 1152 rfl k j (⟨j.val - 1152, by omega⟩ : Fin 64) (by show 1152 + (j.val - 1152) = j.val; omega)).trans ((cut_apply m c (by omega) _ _ _).trans ?_)
    exact congrArg (fun J => argW m c (ix3 0 k J)) (Fin.ext (by show 1280 + (j.val - 1152) = J.val; omega))

theorem wv_at (t : Fin cfg0.N) (k : Fin 1024) (j : Fin 128) :
    (show Vec Ideal S1024x128 .bf16 from iblk m c 2 t) (ix2 k j) = argW m c (ix3 0 k ⟨640 + j.val, by omega⟩) := by
  show (V m c main_v17 : S1024x128.Idx → EReal) (((cfg0.win 2).blk t).view.emb (ix2 k j)) = _
  rw [show ((cfg0.win 2).blk t).view.emb (ix2 k j) = (ix2 k j : S1024x128.Idx) from by
    funext a; apply Fin.ext; fin_cases a <;> blk_simp [idx t], V_wv]
  exact cut_apply m c (by omega) _ _ _

theorem wqkv_at (t : Fin cfg0.N) (k : Fin 1024) (j : Fin 1536) :
    (show Vec Ideal S1024x1536 .bf16 from iblk m c 4 t) (ix2 k j) = argW m c (ix3 0 k ⟨1352 + j.val, by omega⟩) := by
  show (V m c main_v19 : S1024x1536.Idx → EReal) (((cfg0.win 4).blk t).view.emb (ix2 k j)) = _
  rw [show ((cfg0.win 4).blk t).view.emb (ix2 k j) = (ix2 k j : S1024x1536.Idx) from by
    funext a; apply Fin.ext; fin_cases a <;> blk_simp [idx t], V_wqkv]
  exact cut_apply m c (by omega) _ _ _

theorem wz_at (t : Fin cfg0.N) (k : Fin 1024) (j : Fin 512) :
    (show Vec Ideal S1024x512 .bf16 from iblk m c 5 t) (ix2 k j) = argW m c (ix3 0 k ⟨2888 + j.val, by omega⟩) := by
  show (V m c main_v20 : S1024x512.Idx → EReal) (((cfg0.win 5).blk t).view.emb (ix2 k j)) = _
  rw [show ((cfg0.win 5).blk t).view.emb (ix2 k j) = (ix2 k j : S1024x512.Idx) from by
    funext a; apply Fin.ext; fin_cases a <;> blk_simp [idx t], V_wz]
  exact cut_apply m c (by omega) _ _ _

theorem ws_at (t : Fin cfg0.N) (k : Fin 1024) (j : Fin 128) :
    (show Vec Ideal S1024x128 .bf16 from iblk m c 3 t) (ix2 k j) = if h : j.val < 8 then argW m c (ix3 0 k ⟨1344 + j.val, by omega⟩)
      else if h' : j.val < 16 then argW m c (ix3 0 k ⟨3392 + j.val, by omega⟩) else 0 := by
  show (V m c main_v18 : S1024x128.Idx → EReal) (((cfg0.win 3).blk t).view.emb (ix2 k j)) = _
  rw [show ((cfg0.win 3).blk t).view.emb (ix2 k j) = (ix2 k j : S1024x128.Idx) from by
    funext a; apply Fin.ext; fin_cases a <;> blk_simp [idx t], V_ws]
  by_cases h : j.val < 8
  · rw [dif_pos h]
    exact (piece_apply (gates m c) _ 0 (by simp) _ rfl 0 rfl k j (⟨j.val, h⟩ : Fin 8) (Nat.zero_add _)).trans (cut_apply m c (by omega) _ _ _)
  rw [dif_neg h]
  by_cases h' : j.val < 16
  · rw [dif_pos h']
    by_cases h2 : j.val < 12
    · refine (piece_apply (gates m c) _ 1 (by simp) _ rfl 8 rfl k j (⟨j.val - 8, by omega⟩ : Fin 4) (by show 8 + (j.val - 8) = j.val; omega)).trans ((cut_apply m c (by omega) _ _ _).trans ?_)
      exact congrArg (fun J => argW m c (ix3 0 k J)) (Fin.ext (by show 3400 + (j.val - 8) = 3392 + j.val; omega))
    · refine (piece_apply (gates m c) _ 2 (by simp) _ rfl 12 rfl k j (⟨j.val - 12, by omega⟩ : Fin 4) (by show 12 + (j.val - 12) = j.val; omega)).trans ((cut_apply m c (by omega) _ _ _).trans ?_)
      exact congrArg (fun J => argW m c (ix3 0 k J)) (Fin.ext (by show 3404 + (j.val - 12) = 3392 + j.val; omega))
  rw [dif_neg h']
  refine (piece_apply (gates m c) _ 3 (by simp) _ rfl 16 rfl k j (⟨j.val - 16, by omega⟩ : Fin 112) (by show 16 + (j.val - 16) = j.val; omega)).trans ?_
  exact Ideal.ofBits_zero_f32

/-- The cosines and sines of the token of a row. -/
abbrev cs (t : Fin cfg0.N) (r : Fin 512) : Fin 8 → EReal := fun e => cosT (ix2 (ps t r) e)
abbrev sn (t : Fin cfg0.N) (r : Fin 512) : Fin 8 → EReal := fun e => sinT (ix2 (ps t r) e)

theorem cos_at (t : Fin cfg0.N) (r : Fin 512) (l : Fin 128) : (show Vec Ideal S512x128 .f32 from iblk m c 6 t) (ix2 r l) = cosRow (cs t r) (off l.val) := by
  show (V m c main_v45 : S2048x128.Idx → EReal) (((cfg0.win 6).blk t).view.emb (ix2 r l)) = _
  rw [show ((cfg0.win 6).blk t).view.emb (ix2 r l) = (ix2 (ps t r) l : S2048x128.Idx) from by
    funext a; apply Fin.ext; fin_cases a <;> blk_simp [idx t], V_cos]
  exact (twice_apply _ _ _ _ _ _).trans (three_apply _ _ _ _ _ _ 1 fun e => Ideal.ofBits_one_f32)

theorem low_at (t : Fin cfg0.N) (r : Fin 512) (l : Fin 128) : (show Vec Ideal S512x128 .f32 from iblk m c 7 t) (ix2 r l) = lowRow (sn t r) (off l.val) := by
  show (V m c main_v48 : S2048x128.Idx → EReal) (((cfg0.win 7).blk t).view.emb (ix2 r l)) = _
  rw [show ((cfg0.win 7).blk t).view.emb (ix2 r l) = (ix2 (ps t r) l : S2048x128.Idx) from by
    funext a; apply Fin.ext; fin_cases a <;> blk_simp [idx t], V_low]
  refine (twice_apply _ _ _ _ _ _).trans ((three_apply _ _ _ _ _ _ 0 fun e => Ideal.ofBits_zero_f32).trans ?_)
  exact congrArg (fun v => three (fun e => -sn t r e) v 0 (off l.val)) (funext fun e => Ideal.ofBits_zero_f32)

theorem high_at (t : Fin cfg0.N) (r : Fin 512) (l : Fin 128) : (show Vec Ideal S512x128 .f32 from iblk m c 8 t) (ix2 r l) = highRow (sn t r) (off l.val) := by
  show (V m c main_v51 : S2048x128.Idx → EReal) (((cfg0.win 8).blk t).view.emb (ix2 r l)) = _
  rw [show ((cfg0.win 8).blk t).view.emb (ix2 r l) = (ix2 (ps t r) l : S2048x128.Idx) from by
    funext a; apply Fin.ext; fin_cases a <;> blk_simp [idx t], V_high]
  refine (twice_apply _ _ _ _ _ _).trans ((three_apply _ _ _ _ _ _ 0 fun e => Ideal.ofBits_zero_f32).trans ?_)
  exact congrArg (fun v => three v (sn t r) 0 (off l.val)) (funext fun e => Ideal.ofBits_zero_f32)

/-! ## The products -/

theorem all_at (t : Fin cfg0.N) (r : Fin 512) (j : Fin 1280) (J : Fin 3408) (h : Src j.val J.val) :
    k0_pay3 (iblk m c 0 t) (iblk m c 1 t) (ix2 r j) = col (argX m c) (argW m c) (bt t) (ps t r) J := by
  unfold k0_pay3 k0_pay2
  simp only [shapeCast_self]
  refine (Ffn.matmul_zero_apply _ _ r j).trans ?_
  exact Finset.sum_congr rfl fun k _ => congrArg₂ (· * ·) (x_at m c t r k) (wr_at m c t k j J h)

theorem qkv_at (t : Fin cfg0.N) (r : Fin 512) (j : Fin 1536) :
    k0_pay28 (k0_pay2 (iblk m c 0 t)) (iblk m c 4 t) (ix2 r j) = col (argX m c) (argW m c) (bt t) (ps t r) ⟨1352 + j.val, by omega⟩ := by
  unfold k0_pay28 k0_pay2
  simp only [shapeCast_self]
  refine (Ffn.matmul_zero_apply _ _ r j).trans ?_
  exact Finset.sum_congr rfl fun k _ => congrArg₂ (· * ·) (x_at m c t r k) (wqkv_at m c t k j)

theorem z_at (t : Fin cfg0.N) (r : Fin 512) (j : Fin 512) :
    k0_pay1 (k0_pay2 (iblk m c 0 t)) (iblk m c 5 t) (ix2 r j) = col (argX m c) (argW m c) (bt t) (ps t r) ⟨2888 + j.val, by omega⟩ := by
  unfold k0_pay1 k0_pay2
  simp only [shapeCast_self]
  refine (Ffn.matmul_zero_apply _ _ r j).trans ?_
  exact Finset.sum_congr rfl fun k _ => congrArg₂ (· * ·) (x_at m c t r k) (wz_at m c t k j)

theorem v_at (t : Fin cfg0.N) (j : Fin 128) (r : Fin 512) :
    k0_pay20 (k0_pay2 (iblk m c 0 t)) (iblk m c 2 t) (ix2 j r) = col (argX m c) (argW m c) (bt t) (ps t r) ⟨640 + j.val, by omega⟩ := by
  unfold k0_pay20 k0_pay2
  simp only [shapeCast_self]
  refine (transpose_apply _ _ _ _ (ix2 r j) fun b => by fin_cases b <;> rfl).trans ?_
  refine (Ffn.matmul_zero_apply _ _ r j).trans ?_
  exact Finset.sum_congr rfl fun k _ => congrArg₂ (· * ·) (x_at m c t r k) (wv_at m c t k j)

theorem small_block (t : Fin cfg0.N) (r : Fin 512) (j : Fin 128) :
    k0_pay27 (k0_pay2 (iblk m c 0 t)) (iblk m c 3 t) (ix2 r j)
      = if h : j.val < 8 then col (argX m c) (argW m c) (bt t) (ps t r) ⟨1344 + j.val, by omega⟩ * Ideal.ofBits .f32 0x3EB504F3#32
        else if h' : j.val < 16 then col (argX m c) (argW m c) (bt t) (ps t r) ⟨3392 + j.val, by omega⟩ else 0 := by
  have hl : IntOp.cmpi .slt (iota .tc S512x128 32 [1] iota_S512x128_d1_w32 (ix2 r j)) 8#32 = 1#1 ↔ j.val < 8 := by
    rw [iota_single_apply]
    show IntOp.cmpi .slt (BitVec.ofNat 32 j.val) 8#32 = 1#1 ↔ j.val < 8
    revert j; decide
  have hp : matmul (DotDims.plain 512 1024 128) none (show FVec Ideal S512x1024 .bf16 from iblk m c 0 t) (show FVec Ideal S1024x128 .bf16 from iblk m c 3 t)
      (constant S512x128 .f32 0x00000000#32) (ix2 r j) = if h : j.val < 8 then col (argX m c) (argW m c) (bt t) (ps t r) ⟨1344 + j.val, by omega⟩
        else if h' : j.val < 16 then col (argX m c) (argW m c) (bt t) (ps t r) ⟨3392 + j.val, by omega⟩ else 0 := by
    refine (Ffn.matmul_zero_apply _ _ r j).trans ?_
    refine (Finset.sum_congr rfl fun k _ => congrArg₂ (· * ·) (x_at m c t r k) (ws_at m c t k j)).trans ?_
    by_cases h : j.val < 8
    · simp only [dif_pos h]; rfl
    by_cases h' : j.val < 16
    · simp only [dif_neg h, dif_pos h']; rfl
    simp only [dif_neg h, dif_neg h', mul_zero, Finset.sum_const_zero]
  unfold k0_pay27 k0_pay2
  simp only [shapeCast_self]
  refine (if_congr hl (congrArg (· * Ideal.ofBits .f32 0x3EB504F3#32) hp) hp).trans ?_
  by_cases h : j.val < 8
  · simp only [if_pos h, dif_pos h]
  · simp only [if_neg h, dif_neg h]

/-! ## The embedded slabs -/

/-- The slab whose lanes begin at column `o` of the grouped product, turned. -/
abbrev slab (t : Fin cfg0.N) (o : ℕ) (hs : S512x1280.Slices ![0, o] S512x128) : FVec Ideal S512x128 .f32 :=
  turned rotates_S512x128_d1 (extractStridedSlice S512x128 ![0, o] (k0_pay3 (iblk m c 0 t) (iblk m c 1 t)) hs) (iblk m c 6 t) (iblk m c 7 t) (iblk m c 8 t)

theorem slab_at (t : Fin cfg0.N) (o : ℕ) (ho : o + 128 ≤ 1280) (hs : S512x1280.Slices ![0, o] S512x128) (r : Fin 512) (l : Fin 128) (O : Fin 3345) (d : Fin 64)
    (hd : d.val = l.val % 64) (hO : ∀ e : Fin 64, Src (o + (l.val / 64 * 64 + e.val)) (O.val + e.val)) :
    slab m c t o hs (ix2 r l) = emb cosT sinT (argX m c) (argW m c) (bt t) (ps t r) O d := by
  refine (turned_apply _ _ _ _ _ (cs t r) (sn t r) r l (cos_at m c t r l) (low_at m c t r l) (high_at m c t r l)).trans ?_
  rw [show off l.val = d from Fin.ext hd.symm]
  unfold emb
  refine congrArg (fun a => rope (cs t r) (sn t r) a d) (funext fun e => ?_)
  refine (slab_apply _ o ho hs r _).trans ?_
  exact all_at m c t r _ _ (hO e)

end Inp.Kernel
-- ==== Proof.RotaryOut.lean ====
/-
  The input projection's kernel: the eleven arrays it leaves.
-/
module

public import proofs.«01_k».proof.Proof.RotaryBlock

@[expose] public section

set_option maxRecDepth 16384

noncomputable section

namespace Inp.Kernel

open Idealize.ShloMosaic Idealize.ShloMosaic.TcCoe Idealize.SL.Sem
open Idealize.ShloMosaic.Pipeline (Dat)
open Idealize.ShloMosaic.ValueIdx
open Cert.Kernel4Ideal Cert.Kernel4Ideal.Gen

variable (m : (ℓ : Loc nD τ sig) → Buf (Elt Ideal) ℓ) (c : Dev nD)

theorem zero2 : (![0, 0] : Fin 2 → ℕ) = fun _ => 0 := by
  funext a; fin_cases a <;> rfl

theorem zero3 : (![0, 0, 0] : Fin 3 → ℕ) = fun _ => 0 := by
  funext a; fin_cases a <;> rfl

/-! Each input's buffer is read whole. -/

theorem ld0 (x : Vec Ideal S512x1024 .f32) : View.ld (Val := Elt Ideal) (e' := .f32) x r0_0 = x := View.ld_unit_zero zero2 _ x
theorem ld1 (x : Vec Ideal S1024x1280 .bf16) : View.ld (Val := Elt Ideal) (e' := .bf16) x r0_1 = x := View.ld_unit_zero zero2 _ x
theorem ld2 (x : Vec Ideal S512x128 .f32) : View.ld (Val := Elt Ideal) (e' := .f32) x r0_2 = x := View.ld_unit_zero zero2 _ x
theorem ld7 (x : Vec Ideal S1024x128 .bf16) : View.ld (Val := Elt Ideal) (e' := .bf16) x r0_7 = x := View.ld_unit_zero zero2 _ x
theorem ld10 (x : Vec Ideal S1024x1536 .bf16) : View.ld (Val := Elt Ideal) (e' := .bf16) x r0_10 = x := View.ld_unit_zero zero2 _ x
theorem ld12 (x : Vec Ideal S1024x512 .bf16) : View.ld (Val := Elt Ideal) (e' := .bf16) x r0_12 = x := View.ld_unit_zero zero2 _ x

/-! ## Four slabs side by side -/

/-- Eight embedded heads of the block's tokens, the columns from `O`. -/
def spread (t : Fin cfg0.N) (O : ℕ) (hO : O + 512 ≤ 3408) : S512x512.Idx → EReal := fun y =>
  emb cosT sinT (argX m c) (argW m c) (bt t) (ps t (y 0)) ⟨O + (y 1).val / 64 * 64, by have : (y 1).val < 512 := (y 1).isLt; omega⟩ (off (y 1).val)

theorem spread_emb (t : Fin cfg0.N) (O : ℕ) (hO : O + 512 ≤ 3408) (q : ℕ) (hq : 64 * q + 128 ≤ 512)
    (inb : ∀ a, (![0, 64 * q] : Fin 2 → ℕ) a + S512x128.size a ≤ S512x512.size a) (r : Fin 512) (l : Fin 128) :
    spread m c t O hO ((Rect.unit (s := S512x512) ![0, 64 * q] S512x128.size inb).emb (ix2 r l))
      = emb cosT sinT (argX m c) (argW m c) (bt t) (ps t r) ⟨O + (64 * q + l.val) / 64 * 64, by omega⟩ (off l.val) := by
  have e0 : (Rect.unit (s := S512x512) ![0, 64 * q] S512x128.size inb).emb (ix2 r l) 0 = r := Fin.ext (by
    show 0 + 1 * r.val = r.val; omega)
  have e1 : (Rect.unit (s := S512x512) ![0, 64 * q] S512x128.size inb).emb (ix2 r l) 1 = (⟨64 * q + l.val, by omega⟩ : Fin 512) := Fin.ext (by
    show 64 * q + 1 * l.val = 64 * q + l.val; omega)
  have e2 : off (64 * q + l.val) = off l.val := Fin.ext (by show (64 * q + l.val) % 64 = l.val % 64; omega)
  unfold spread
  rw [e0]
  simp only [e1, e2]

/-- A slab stored at lane `64 * q`. -/
theorem stored (t : Fin cfg0.N) (O : ℕ) (hO : O + 512 ≤ 3408) (q : ℕ) (hq : 64 * q + 128 ≤ 512)
    (inb : ∀ a, (![0, 64 * q] : Fin 2 → ℕ) a + S512x128.size a ≤ S512x512.size a) (o : ℕ) (ho : o + 128 ≤ 1280) (hs : S512x1280.Slices ![0, o] S512x128)
    (h : ∀ a : ℕ, a < 128 → Src (o + a) (O + 64 * q + a)) (p : S512x128.Idx → EReal) (hp : p = slab m c t o hs) (x : S512x128.Idx) :
    p x = spread m c t O hO ((Rect.unit (s := S512x512) ![0, 64 * q] S512x128.size inb).emb x) := by
  rw [hp, show x = ix2 (x 0) (x 1) from eq_ix2 x]
  refine Eq.trans ?_ (spread_emb m c t O hO q hq inb (x 0) (x 1)).symm
  have h1 : (x 1).val < 128 := (x 1).isLt
  refine slab_at m c t o ho hs (x 0) (x 1) _ _ rfl fun e => ?_
  have := h ((x 1).val / 64 * 64 + e.val) (by omega)
  rwa [show O + (64 * q + (x 1).val) / 64 * 64 + e.val = O + 64 * q + ((x 1).val / 64 * 64 + e.val) from by omega]

theorem out9_at (t : Fin cfg0.N) (y : S512x512.Idx) : out0_9 (iblk m c 0 t) (iblk m c 1 t) (iblk m c 2 t) (iblk m c 3 t) (iblk m c 4 t) (iblk m c 5 t) (iblk m c 6 t) (iblk m c 7 t)
    (iblk m c 8 t) y = spread m c t 0 (by omega) y := by
  unfold out0_9 k0_pay33 k0_pay32 k0_pay31 k0_pay30
  simp only [ld0, ld1, ld2, ld7, ld10, ld12]
  refine View.canon_apply_of_pieces (Val := Elt Ideal) (e := .f32) (spread m c t 0 (by omega)) _ ?_ y (cover0_9 (F := Ideal) _ _ _ _ y)
  intro p hp x
  simp only [List.mem_cons, List.mem_nil_iff, or_false] at hp
  rcases hp with rfl | rfl | rfl | rfl
  · refine stored m c t 0 (by omega) 6 (by omega) inb_S512x512_S512x128_0_384 384 (by omega) slices_S512x1280_o0_384_S512x128 (fun a ha => by unfold Src; omega) _ ?_ x
    simp only [k0_pay4, k0_pay5, k0_pay6, shapeCast_self]; rfl
  · refine stored m c t 0 (by omega) 4 (by omega) inb_S512x512_S512x128_0_256 256 (by omega) slices_S512x1280_o0_256_S512x128 (fun a ha => by unfold Src; omega) _ ?_ x
    simp only [k0_pay10, k0_pay11, k0_pay9, k0_pay4, k0_pay5, k0_pay6, shapeCast_self]; rfl
  · refine stored m c t 0 (by omega) 2 (by omega) inb_S512x512_S512x128_0_128 128 (by omega) slices_S512x1280_o0_128_S512x128 (fun a ha => by unfold Src; omega) _ ?_ x
    simp only [k0_pay8, k0_pay4, k0_pay5, k0_pay6, shapeCast_self]; rfl
  · refine stored m c t 0 (by omega) 0 (by omega) inb_S512x512_S512x128_0_0 0 (by omega) slices_S512x1280_o0_0_S512x128 (fun a ha => by unfold Src; omega) _ ?_ x
    simp only [k0_pay7, k0_pay4, k0_pay5, k0_pay6, shapeCast_self]; rfl

theorem out10_at (t : Fin cfg0.N) (y : S512x512.Idx) : out0_10 (iblk m c 0 t) (iblk m c 1 t) (iblk m c 2 t) (iblk m c 3 t) (iblk m c 4 t) (iblk m c 5 t) (iblk m c 6 t) (iblk m c 7 t)
    (iblk m c 8 t) y = spread m c t 768 (by omega) y := by
  unfold out0_10 k0_pay33 k0_pay32 k0_pay31 k0_pay30
  simp only [ld0, ld1, ld2, ld7, ld10, ld12]
  refine View.canon_apply_of_pieces (Val := Elt Ideal) (e := .f32) (spread m c t 768 (by omega)) _ ?_ y (cover0_10 (F := Ideal) _ _ _ _ y)
  intro p hp x
  simp only [List.mem_cons, List.mem_nil_iff, or_false] at hp
  rcases hp with rfl | rfl | rfl | rfl
  · refine stored m c t 768 (by omega) 6 (by omega) inb_S512x512_S512x128_0_384 896 (by omega) slices_S512x1280_o0_896_S512x128 (fun a ha => by unfold Src; omega) _ ?_ x
    simp only [k0_pay17, k0_pay4, k0_pay5, k0_pay6, shapeCast_self]; rfl
  · refine stored m c t 768 (by omega) 4 (by omega) inb_S512x512_S512x128_0_256 768 (by omega) slices_S512x1280_o0_768_S512x128 (fun a ha => by unfold Src; omega) _ ?_ x
    simp only [k0_pay16, k0_pay4, k0_pay5, k0_pay6, shapeCast_self]; rfl
  · refine stored m c t 768 (by omega) 2 (by omega) inb_S512x512_S512x128_0_128 640 (by omega) slices_S512x1280_o0_640_S512x128 (fun a ha => by unfold Src; omega) _ ?_ x
    simp only [k0_pay15, k0_pay4, k0_pay5, k0_pay6, shapeCast_self]; rfl
  · refine stored m c t 768 (by omega) 0 (by omega) inb_S512x512_S512x128_0_0 512 (by omega) slices_S512x1280_o0_512_S512x128 (fun a ha => by unfold Src; omega) _ ?_ x
    simp only [k0_pay14, k0_pay4, k0_pay5, k0_pay6, shapeCast_self]; rfl

theorem array9 : (dats m 0 c).arrAt 9 (cfgs 0).N = heads cosT sinT (argX m c) (argW m c) 0 (by omega) := by
  refine (dats m 0 c).arrAt_eq_of_covers 9 _ (by decide +kernel) fun t _ y => ?_
  blk_simp
  rw [after0_9]
  refine (out9_at m c t y).trans (heads_at _ (bt t) (ps t (y 0)) (y 1) ?_ ?_).symm
  · blk_simp [idxOut t]
    show t.val * 512 + (y 0).val = t.val / 4 * 2048 + (t.val % 4 * 512 + (y 0).val)
    omega
  · blk_simp [idxOut t]

theorem array10 : (dats m 0 c).arrAt 10 (cfgs 0).N = heads cosT sinT (argX m c) (argW m c) 768 (by omega) := by
  refine (dats m 0 c).arrAt_eq_of_covers 10 _ (by decide +kernel) fun t _ y => ?_
  blk_simp
  rw [after0_10]
  refine (out10_at m c t y).trans (heads_at _ (bt t) (ps t (y 0)) (y 1) ?_ ?_).symm
  · blk_simp [idxOut t]
    show t.val * 512 + (y 0).val = t.val / 4 * 2048 + (t.val % 4 * 512 + (y 0).val)
    omega
  · blk_simp [idxOut t]

/-! ## The slabs turned over -/

theorem lift_apply {N M : ℕ} {α : Type} (x : (⟨2, ![N, M]⟩ : Shape).Idx → α) (h : (⟨2, ![N, M]⟩ : Shape).ShapeCasts ⟨3, ![1, N, M]⟩) (a : Fin 1) (i : Fin N) (j : Fin M) :
    shapeCast ⟨3, ![1, N, M]⟩ x h (ix3 a i j) = x (ix2 i j) := by
  refine shapeCast_apply _ _ _ (ix2 i j) ?_
  rw [Shape.rowMajor_val_two, Shape.rowMajor_val_three]
  have : a.val = 0 := by omega
  show i.val * M + j.val = (a.val * N + i.val) * M + j.val
  rw [this, Nat.zero_mul, Nat.zero_add]

theorem k_at (t : Fin cfg0.N) (l : Fin 128) (r : Fin 512) :
    k0_pay18 (k0_pay3 (iblk m c 0 t) (iblk m c 1 t)) (iblk m c 6 t) (iblk m c 7 t) (iblk m c 8 t) (ix2 l r)
      = emb cosT sinT (argX m c) (argW m c) (bt t) (ps t r) ⟨512 + l.val / 64 * 64, by omega⟩ (off l.val) := by
  unfold k0_pay18
  refine (transpose_apply _ _ _ _ (ix2 r l) fun b => by fin_cases b <;> rfl).trans ?_
  refine slab_at m c t 1024 (by omega) slices_S512x1280_o0_1024_S512x128 r l _ _ rfl fun e => ?_
  unfold Src
  have h1 := l.isLt
  have h2 := e.isLt
  right; right; left
  refine ⟨⟨by omega, by omega⟩, ?_⟩
  show 512 + l.val / 64 * 64 + e.val + 512 = _
  omega

theorem ki_at (t : Fin cfg0.N) (l : Fin 64) (r : Fin 512) :
    k0_pay19 (k0_pay3 (iblk m c 0 t) (iblk m c 1 t)) (iblk m c 6 t) (iblk m c 7 t) (iblk m c 8 t) (ix2 l r)
      = emb cosT sinT (argX m c) (argW m c) (bt t) (ps t r) ⟨1280 + l.val / 64 * 64, by omega⟩ (off l.val) := by
  unfold k0_pay19
  refine (extractStridedSlice_apply _ _ _ _ (ix2 (⟨l.val, by omega⟩ : Fin 128) r) fun a => by fin_cases a <;> simp [ix2]).trans ?_
  refine (transpose_apply _ _ _ _ (ix2 r (⟨l.val, by omega⟩ : Fin 128)) fun b => by fin_cases b <;> rfl).trans ?_
  refine slab_at m c t 1152 (by omega) slices_S512x1280_o0_1152_S512x128 r (⟨l.val, by omega⟩ : Fin 128) _ _ rfl fun e => ?_
  unfold Src
  have h1 := l.isLt
  have h2 := e.isLt
  right; right; right
  refine ⟨⟨by omega, ?_⟩, ?_⟩
  · show 1152 + (l.val / 64 * 64 + e.val) < 1216
    omega
  · show 1280 + l.val / 64 * 64 + e.val = 1152 + (l.val / 64 * 64 + e.val) + 128
    omega

theorem out11_at (t : Fin cfg0.N) (y : S1x128x512.Idx) : out0_11 (iblk m c 0 t) (iblk m c 1 t) (iblk m c 2 t) (iblk m c 3 t) (iblk m c 4 t) (iblk m c 5 t) (iblk m c 6 t) (iblk m c 7 t)
    (iblk m c 8 t) y = emb cosT sinT (argX m c) (argW m c) (bt t) (ps t (y 2)) ⟨512 + (y 1).val / 64 * 64, by have : (y 1).val < 128 := (y 1).isLt; omega⟩ (off (y 1).val) := by
  unfold out0_11 k0_pay33 k0_pay32 k0_pay31 k0_pay30 k0_pay21
  simp only [ld0, ld1, ld2, k0_pay4, k0_pay5, k0_pay6, shapeCast_self]
  rw [View.canon_unit_zero zero3]
  exact (congrArg _ (eq_ix3 y)).trans ((lift_apply _ _ _ _ _).trans (k_at m c t (y 1) (y 2)))

theorem out17_at (t : Fin cfg0.N) (y : S1x128x512.Idx) : out0_17 (iblk m c 0 t) (iblk m c 1 t) (iblk m c 2 t) (iblk m c 3 t) (iblk m c 4 t) (iblk m c 5 t) (iblk m c 6 t) (iblk m c 7 t)
    (iblk m c 8 t) y = emb cosT sinT (argX m c) (argW m c) (bt t) (ps t (y 2)) ⟨512 + (y 1).val / 64 * 64, by have : (y 1).val < 128 := (y 1).isLt; omega⟩ (off (y 1).val) := by
  unfold out0_17 k0_pay33 k0_pay32 k0_pay31 k0_pay30 k0_pay24
  simp only [ld0, ld1, ld2, k0_pay4, k0_pay5, k0_pay6, shapeCast_self]
  rw [View.canon_unit_zero zero3]
  exact (congrArg _ (eq_ix3 y)).trans ((lift_apply _ _ _ _ _).trans (k_at m c t (y 1) (y 2)))

theorem out12_at (t : Fin cfg0.N) (y : S1x64x512.Idx) : out0_12 (iblk m c 0 t) (iblk m c 1 t) (iblk m c 2 t) (iblk m c 3 t) (iblk m c 4 t) (iblk m c 5 t) (iblk m c 6 t) (iblk m c 7 t)
    (iblk m c 8 t) y = emb cosT sinT (argX m c) (argW m c) (bt t) (ps t (y 2)) ⟨1280 + (y 1).val / 64 * 64, by have : (y 1).val < 64 := (y 1).isLt; omega⟩ (off (y 1).val) := by
  unfold out0_12 k0_pay33 k0_pay32 k0_pay31 k0_pay30 k0_pay22
  simp only [ld0, ld1, ld2, k0_pay4, k0_pay5, k0_pay6, shapeCast_self]
  rw [View.canon_unit_zero zero3]
  exact (congrArg _ (eq_ix3 y)).trans ((lift_apply _ _ _ _ _).trans (ki_at m c t (y 1) (y 2)))

theorem out18_at (t : Fin cfg0.N) (y : S1x64x512.Idx) : out0_18 (iblk m c 0 t) (iblk m c 1 t) (iblk m c 2 t) (iblk m c 3 t) (iblk m c 4 t) (iblk m c 5 t) (iblk m c 6 t) (iblk m c 7 t)
    (iblk m c 8 t) y = emb cosT sinT (argX m c) (argW m c) (bt t) (ps t (y 2)) ⟨1280 + (y 1).val / 64 * 64, by have : (y 1).val < 64 := (y 1).isLt; omega⟩ (off (y 1).val) := by
  unfold out0_18 k0_pay33 k0_pay32 k0_pay31 k0_pay30 k0_pay25
  simp only [ld0, ld1, ld2, k0_pay4, k0_pay5, k0_pay6, shapeCast_self]
  rw [View.canon_unit_zero zero3]
  exact (congrArg _ (eq_ix3 y)).trans ((lift_apply _ _ _ _ _).trans (ki_at m c t (y 1) (y 2)))

theorem out13_at (t : Fin cfg0.N) (y : S1x128x512.Idx) : out0_13 (iblk m c 0 t) (iblk m c 1 t) (iblk m c 2 t) (iblk m c 3 t) (iblk m c 4 t) (iblk m c 5 t) (iblk m c 6 t) (iblk m c 7 t)
    (iblk m c 8 t) y = col (argX m c) (argW m c) (bt t) (ps t (y 2)) ⟨640 + (y 1).val, by have : (y 1).val < 128 := (y 1).isLt; omega⟩ := by
  unfold out0_13 k0_pay34 k0_pay29 k0_pay23
  simp only [ld0, ld1, ld2, ld7, ld10, ld12]
  rw [View.canon_unit_zero zero3]
  exact (congrArg _ (eq_ix3 y)).trans ((lift_apply _ _ _ _ _).trans (v_at m c t (y 1) (y 2)))

theorem out19_at (t : Fin cfg0.N) (y : S1x128x512.Idx) : out0_19 (iblk m c 0 t) (iblk m c 1 t) (iblk m c 2 t) (iblk m c 3 t) (iblk m c 4 t) (iblk m c 5 t) (iblk m c 6 t) (iblk m c 7 t)
    (iblk m c 8 t) y = col (argX m c) (argW m c) (bt t) (ps t (y 2)) ⟨640 + (y 1).val, by have : (y 1).val < 128 := (y 1).isLt; omega⟩ := by
  unfold out0_19 k0_pay34 k0_pay29 k0_pay26
  simp only [ld0, ld1, ld2, ld7, ld10, ld12]
  rw [View.canon_unit_zero zero3]
  exact (congrArg _ (eq_ix3 y)).trans ((lift_apply _ _ _ _ _).trans (v_at m c t (y 1) (y 2)))

theorem array11 : (dats m 0 c).arrAt 11 (cfgs 0).N = headsT cosT sinT (argX m c) (argW m c) 128 512 (by omega) (by omega) := by
  refine (dats m 0 c).arrAt_eq_of_covers 11 _ (by decide +kernel) fun t _ y => ?_
  blk_simp
  rw [after0_11]
  refine (out11_at m c t y).trans (headsT_at _ (bt t) (ps t (y 2)) (y 1) ?_ ?_ ?_).symm <;> blk_simp [idxOut t] <;> omega

theorem array12 : (dats m 0 c).arrAt 12 (cfgs 0).N = headsT cosT sinT (argX m c) (argW m c) 64 1280 (by omega) (by omega) := by
  refine (dats m 0 c).arrAt_eq_of_covers 12 _ (by decide +kernel) fun t _ y => ?_
  blk_simp
  rw [after0_12]
  refine (out12_at m c t y).trans (headsT_at _ (bt t) (ps t (y 2)) (y 1) ?_ ?_ ?_).symm <;> blk_simp [idxOut t] <;> omega

theorem array17 : (dats m 0 c).arrAt 17 (cfgs 0).N = headsT cosT sinT (argX m c) (argW m c) 128 512 (by omega) (by omega) := by
  refine (dats m 0 c).arrAt_eq_of_covers 17 _ (by decide +kernel) fun t _ y => ?_
  blk_simp
  rw [after0_17]
  refine (out17_at m c t y).trans (headsT_at _ (bt t) (ps t (y 2)) (y 1) ?_ ?_ ?_).symm <;> blk_simp [idxOut t] <;> omega

theorem array18 : (dats m 0 c).arrAt 18 (cfgs 0).N = headsT cosT sinT (argX m c) (argW m c) 64 1280 (by omega) (by omega) := by
  refine (dats m 0 c).arrAt_eq_of_covers 18 _ (by decide +kernel) fun t _ y => ?_
  blk_simp
  rw [after0_18]
  refine (out18_at m c t y).trans (headsT_at _ (bt t) (ps t (y 2)) (y 1) ?_ ?_ ?_).symm <;> blk_simp [idxOut t] <;> omega

theorem array13 : (dats m 0 c).arrAt 13 (cfgs 0).N = colsT (argX m c) (argW m c) 640 (by omega) := by
  refine (dats m 0 c).arrAt_eq_of_covers 13 _ (by decide +kernel) fun t _ y => ?_
  blk_simp
  rw [after0_13]
  refine (out13_at m c t y).trans (colsT_at _ (bt t) (ps t (y 2)) (y 1) ?_ ?_ ?_).symm <;> blk_simp [idxOut t] <;> omega

theorem array19 : (dats m 0 c).arrAt 19 (cfgs 0).N = colsT (argX m c) (argW m c) 640 (by omega) := by
  refine (dats m 0 c).arrAt_eq_of_covers 19 _ (by decide +kernel) fun t _ y => ?_
  blk_simp
  rw [after0_19]
  refine (out19_at m c t y).trans (colsT_at _ (bt t) (ps t (y 2)) (y 1) ?_ ?_ ?_).symm <;> blk_simp [idxOut t] <;> omega

/-! ## The flat columns -/

theorem array14 : (dats m 0 c).arrAt 14 (cfgs 0).N = small (argX m c) (argW m c) := by
  refine (dats m 0 c).arrAt_eq_of_covers 14 _ (by decide +kernel) fun t _ y => ?_
  blk_simp
  rw [after0_14]
  unfold out0_14 k0_pay29
  simp only [ld0, ld1, ld2, ld7, ld10, ld12]
  rw [View.canon_unit_zero zero2, show y = ix2 (y 0) (y 1) from eq_ix2 y]
  refine (small_block m c t (y 0) (y 1)).trans (small_at _ (bt t) (ps t (y 0)) (y 1) ?_ ?_).symm
  · blk_simp [idxOut t]
    show t.val * 512 + (y 0).val = t.val / 4 * 2048 + (t.val % 4 * 512 + (y 0).val)
    omega
  · blk_simp [idxOut t]

theorem array15 : (dats m 0 c).arrAt 15 (cfgs 0).N = cols (argX m c) (argW m c) 1536 1352 (by omega) := by
  refine (dats m 0 c).arrAt_eq_of_covers 15 _ (by decide +kernel) fun t _ y => ?_
  blk_simp
  rw [after0_15]
  unfold out0_15 k0_pay29
  simp only [ld0, ld1, ld2, ld7, ld10, ld12]
  rw [View.canon_unit_zero zero2, show y = ix2 (y 0) (y 1) from eq_ix2 y]
  refine (qkv_at m c t (y 0) (y 1)).trans (cols_at _ (bt t) (ps t (y 0)) (y 1) ?_ ?_).symm
  · blk_simp [idxOut t]
    show t.val * 512 + (y 0).val = t.val / 4 * 2048 + (t.val % 4 * 512 + (y 0).val)
    omega
  · blk_simp [idxOut t]
    rfl

theorem array16 : (dats m 0 c).arrAt 16 (cfgs 0).N = cols (argX m c) (argW m c) 512 2888 (by omega) := by
  refine (dats m 0 c).arrAt_eq_of_covers 16 _ (by decide +kernel) fun t _ y => ?_
  blk_simp
  rw [after0_16]
  unfold out0_16 k0_pay29
  simp only [ld0, ld1, ld2, ld7, ld10, ld12]
  rw [View.canon_unit_zero zero2, show y = ix2 (y 0) (y 1) from eq_ix2 y]
  refine (z_at m c t (y 0) (y 1)).trans (cols_at _ (bt t) (ps t (y 0)) (y 1) ?_ ?_).symm
  · blk_simp [idxOut t]
    show t.val * 512 + (y 0).val = t.val / 4 * 2048 + (t.val % 4 * 512 + (y 0).val)
    omega
  · blk_simp [idxOut t]
    rfl

end Inp.Kernel
-- ==== Proof.RotaryRef.lean ====
/-
  The input projection's reference: its eleven results.
-/
module

public import proofs.«01_k».proof.Proof.Rotary
public import proofs.«01_k».proof.Proof.Gen.Reference4Ideal.Read
public import Idealize.ShloMosaic.Lib.KernelVsHost
public import Idealize.ShloMosaic.Lib.Claim

@[expose] public section

set_option maxRecDepth 16384

noncomputable section

namespace Inp.Ref

open Idealize.ShloMosaic Idealize.ShloMosaic.TcCoe
open Idealize.ShloMosaic.ValueIdx
open Cert.Reference4Ideal Cert.Reference4Ideal.Read

abbrev cosT : Tab.Idx → EReal := val_main_v26 (F := Ideal)
abbrev sinT : Tab.Idx → EReal := val_main_v28 (F := Ideal)

/-! ## The embedding of `H` heads -/

/-- Sequences by tokens by heads by features. -/
abbrev H4 (H W : ℕ) : Shape := ⟨4, ![16, 2048, H, W]⟩
abbrev Ang : Shape := ⟨4, ![1, 2048, 1, 8]⟩

theorem left4 {H A B N : ℕ} (u : (H4 H A).Idx → EReal) (v : (H4 H B).Idx → EReal) (c : Shape.Concatenates [H4 H A, H4 H B] (H4 H N) 3) (b : Fin 16) (p : Fin 2048) (h : Fin H)
    (d : Fin N) (e : Fin A) (he : e.val = d.val) : concatenate (H4 H N) 3 [⟨H4 H A, u⟩, ⟨H4 H B, v⟩] c (ix4 b p h d) = u (ix4 b p h e) := by
  refine concatenate_pair_apply_left (t := H4 H N) (s₁ := H4 H A) (s₂ := H4 H B) 3 u v c (ix4 b p h d) rfl (ix4 b p h e) fun a => ?_
  fin_cases a
  · rfl
  · rfl
  · rfl
  · exact he

theorem right4 {H A B N : ℕ} (u : (H4 H A).Idx → EReal) (v : (H4 H B).Idx → EReal) (c : Shape.Concatenates [H4 H A, H4 H B] (H4 H N) 3) (b : Fin 16) (p : Fin 2048) (h : Fin H)
    (d : Fin N) (e : Fin B) (he : e.val + A = d.val) : concatenate (H4 H N) 3 [⟨H4 H A, u⟩, ⟨H4 H B, v⟩] c (ix4 b p h d) = v (ix4 b p h e) := by
  refine concatenate_pair_apply_right (t := H4 H N) (s₁ := H4 H A) (s₂ := H4 H B) 3 u v c (ix4 b p h d) rfl rfl (ix4 b p h e) (fun a ha => ?_) he
  fin_cases a
  · rfl
  · rfl
  · rfl
  · exact absurd rfl ha

section spin

variable (H : ℕ) (h1 : (H4 H 64).Slices ![0, 0, 0, 0] (H4 H 16)) (h2 : (H4 H 16).Slices ![0, 0, 0, 0] (H4 H 8)) (h3 : (H4 H 16).Slices ![0, 0, 0, 8] (H4 H 8))
  (hb : Ang.BroadcastsInDim (H4 H 8) (![0, 1, 2, 3] : Fin 4 → Fin (H4 H 8).rank)) (c1 : Shape.Concatenates [H4 H 8, H4 H 8] (H4 H 16) 3)
  (h4 : (H4 H 64).Slices ![0, 0, 0, 16] (H4 H 48)) (c2 : Shape.Concatenates [H4 H 16, H4 H 48] (H4 H 64) 3)
  (y : FVec Ideal (H4 H 64) .f32) (C S : FVec Ideal Ang .f32)

/-- The first eight features, the next eight, and an angle's table over the heads. -/
def near : FVec Ideal (H4 H 8) .f32 := extractStridedSlice (H4 H 8) ![0, 0, 0, 0] (extractStridedSlice (H4 H 16) ![0, 0, 0, 0] y h1) h2
def far : FVec Ideal (H4 H 8) .f32 := extractStridedSlice (H4 H 8) ![0, 0, 0, 8] (extractStridedSlice (H4 H 16) ![0, 0, 0, 0] y h1) h3
def over : FVec Ideal (H4 H 8) .f32 := broadcastInDim (H4 H 8) ![0, 1, 2, 3] hb C

/-- The embedding, as the reference writes it. -/
def spin : FVec Ideal (H4 H 64) .f32 :=
  concatenate (H4 H 64) 3 [⟨H4 H 16, concatenate (H4 H 16) 3
    [⟨H4 H 8, subf (mulf (near H h1 h2 y) (over H hb C)) (mulf (far H h1 h3 y) (over H hb S))⟩,
     ⟨H4 H 8, addf (mulf (far H h1 h3 y) (over H hb C)) (mulf (near H h1 h2 y) (over H hb S))⟩] c1⟩,
    ⟨H4 H 48, extractStridedSlice (H4 H 48) ![0, 0, 0, 16] y h4⟩] c2

variable {H}

theorem near_apply (b : Fin 16) (p : Fin 2048) (h : Fin H) (e : Fin 8) : near H h1 h2 y (ix4 b p h e) = y (ix4 b p h ⟨e.val, by omega⟩) := by
  unfold near
  refine (extractStridedSlice_apply _ _ _ _ (ix4 b p h (⟨e.val, by omega⟩ : Fin 16)) fun a => ?_).trans (extractStridedSlice_apply _ _ _ _ (ix4 b p h (⟨e.val, by omega⟩ : Fin 64)) fun a => ?_)
  all_goals fin_cases a <;> exact (Nat.zero_add _).symm

theorem far_apply (b : Fin 16) (p : Fin 2048) (h : Fin H) (e : Fin 8) : far H h1 h3 y (ix4 b p h e) = y (ix4 b p h ⟨8 + e.val, by omega⟩) := by
  unfold far
  refine (extractStridedSlice_apply _ _ _ _ (ix4 b p h (⟨8 + e.val, by omega⟩ : Fin 16)) fun a => ?_).trans (extractStridedSlice_apply _ _ _ _ (ix4 b p h (⟨8 + e.val, by omega⟩ : Fin 64)) fun a => ?_)
  · fin_cases a
    · exact (Nat.zero_add _).symm
    · exact (Nat.zero_add _).symm
    · exact (Nat.zero_add _).symm
    · rfl
  · fin_cases a <;> exact (Nat.zero_add _).symm

theorem over_apply (b : Fin 16) (p : Fin 2048) (h : Fin H) (e : Fin 8) : over H hb C (ix4 b p h e) = C (ix4 0 p 0 e) := by
  unfold over
  refine broadcastInDim_apply _ _ _ _ (ix4 0 p 0 e) fun a => ?_
  fin_cases a <;> rfl

theorem spin_apply (b : Fin 16) (p : Fin 2048) (h : Fin H) (d : Fin 64) : spin H h1 h2 h3 hb c1 h4 c2 y C S (ix4 b p h d)
    = rope (fun e => C (ix4 0 p 0 e)) (fun e => S (ix4 0 p 0 e)) (fun e => y (ix4 b p h e)) d := by
  unfold spin rope
  by_cases hd : d.val < 8
  · rw [dif_pos hd]
    refine (left4 _ _ _ b p h d (⟨d.val, by omega⟩ : Fin 16) rfl).trans ((left4 _ _ _ b p h (⟨d.val, by omega⟩ : Fin 16) (⟨d.val, hd⟩ : Fin 8) rfl).trans ?_)
    refine congrArg₂ (· - ·) (congrArg₂ (· * ·) (near_apply h1 h2 y b p h _) (over_apply hb C b p h _))
      (congrArg₂ (· * ·) ((far_apply h1 h3 y b p h _).trans (congrArg (fun e => y (ix4 b p h e)) (Fin.ext ?_))) (over_apply hb S b p h _))
    exact Nat.add_comm _ _
  rw [dif_neg hd]
  by_cases hd' : d.val < 16
  · rw [dif_pos hd']
    refine (left4 _ _ _ b p h d (⟨d.val, hd'⟩ : Fin 16) rfl).trans ((right4 _ _ _ b p h _ (⟨d.val - 8, by omega⟩ : Fin 8) ?_).trans ?_)
    · show d.val - 8 + 8 = d.val
      omega
    refine congrArg₂ (· + ·) (congrArg₂ (· * ·) ((far_apply h1 h3 y b p h _).trans (congrArg (fun e => y (ix4 b p h e)) (Fin.ext ?_))) (over_apply hb C b p h _))
      (congrArg₂ (· * ·) (near_apply h1 h2 y b p h _) (over_apply hb S b p h _))
    show 8 + (d.val - 8) = d.val
    omega
  rw [dif_neg hd']
  refine (right4 _ _ _ b p h d (⟨d.val - 16, by omega⟩ : Fin 48) (by show d.val - 16 + 16 = d.val; omega)).trans ?_
  refine extractStridedSlice_apply _ _ _ _ (ix4 b p h d) fun a => ?_
  fin_cases a
  · exact (Nat.zero_add _).symm
  · exact (Nat.zero_add _).symm
  · exact (Nat.zero_add _).symm
  · show d.val = 16 + (d.val - 16)
    omega

end spin

/-! ## The product and its parts -/

variable (x : Ffn.Toks.Idx → EReal) (w : Win.Idx → EReal)

theorem prod_at (b : Fin 16) (p : Fin 2048) (j : Fin 3408) : val_main_v2 (F := Ideal) x w (ix3 b p j) = col x w b p j := by
  refine (val_main_v2_apply x w _).trans ?_
  unfold col Ffn.dot
  refine Finset.sum_congr rfl fun k _ => congrArg₂ (· * ·) (congrArg x ?_) ?_
  · funext a; fin_cases a <;> rfl
  · refine (shapeCast_apply _ _ _ (ix3 0 k j) ?_)
    rw [Shape.rowMajor_val_three, Shape.rowMajor_val_two]
    show (0 * 1024 + k.val) * 3408 + j.val = k.val * 3408 + j.val
    omega

theorem part_at {n : ℕ} (o : ℕ) (ho : o + n ≤ 3408) (hs : (⟨3, ![16, 2048, 3408]⟩ : Shape).Slices ![0, 0, o] ⟨3, ![16, 2048, n]⟩) (b : Fin 16) (p : Fin 2048) (j : Fin n) :
    extractStridedSlice ⟨3, ![16, 2048, n]⟩ ![0, 0, o] (val_main_v2 (F := Ideal) x w) hs (ix3 b p j) = col x w b p ⟨o + j.val, by omega⟩ := by
  refine (extractStridedSlice_apply _ _ _ _ (ix3 b p (⟨o + j.val, by omega⟩ : Fin 3408)) fun a => ?_).trans (prod_at x w b p _)
  fin_cases a
  · exact (Nat.zero_add _).symm
  · exact (Nat.zero_add _).symm
  · rfl

/-- A part's columns as heads of 64. -/
theorem part_heads {H n : ℕ} (hn : n = H * 64) (o : ℕ) (ho : o + n ≤ 3408) (hs : (⟨3, ![16, 2048, 3408]⟩ : Shape).Slices ![0, 0, o] ⟨3, ![16, 2048, n]⟩)
    (hc : (⟨3, ![16, 2048, n]⟩ : Shape).ShapeCasts (H4 H 64)) (b : Fin 16) (p : Fin 2048) (h : Fin H) (e : Fin 64) (J : Fin 3408) (hJ : J.val = o + h.val * 64 + e.val) :
    shapeCast (H4 H 64) (extractStridedSlice ⟨3, ![16, 2048, n]⟩ ![0, 0, o] (val_main_v2 (F := Ideal) x w) hs) hc (ix4 b p h e) = col x w b p J := by
  subst hn
  refine (shapeCast_apply _ _ _ (ix3 b p (⟨h.val * 64 + e.val, by have := h.isLt; have := e.isLt; omega⟩ : Fin (H * 64))) ?_).trans ?_
  · rw [Shape.rowMajor_val_three, Shape.rowMajor_val_four]
    show (b.val * 2048 + p.val) * (H * 64) + (h.val * 64 + e.val) = ((b.val * 2048 + p.val) * H + h.val) * 64 + e.val
    ring
  refine (part_at x w o ho hs b p _).trans (congrArg (col x w b p) (Fin.ext ?_))
  show o + (h.val * 64 + e.val) = J.val
  omega

theorem table_at (T : Tab.Idx → EReal) (hT : Tab.BroadcastsInDim Ang (![1, 3] : Fin 2 → Fin Ang.rank)) (p : Fin 2048) (e : Fin 8) :
    broadcastInDim Ang ![1, 3] hT T (ix4 0 p 0 e) = T (ix2 p e) := by
  refine broadcastInDim_apply _ _ _ _ (ix2 p e) fun a => ?_
  fin_cases a <;> rfl

/-! ## The embedded parts -/

theorem q_at (b : Fin 16) (p : Fin 2048) (h : Fin 8) (d : Fin 64) : val_main_v45 (F := Ideal) x w (ix4 b p h d) = emb cosT sinT x w b p ⟨0 + h.val * 64, by omega⟩ d := by
  refine (spin_apply _ _ _ _ _ _ _ (val_main_v13 (F := Ideal) x w) (val_main_v27 (F := Ideal)) (val_main_v29 (F := Ideal)) b p h d).trans ?_
  unfold emb
  rw [show (fun e => val_main_v27 (F := Ideal) (ix4 0 p 0 e)) = fun e => cosT (ix2 p e) from funext fun e => table_at cosT _ p e,
    show (fun e => val_main_v29 (F := Ideal) (ix4 0 p 0 e)) = fun e => sinT (ix2 p e) from funext fun e => table_at sinT _ p e]
  exact congrArg (fun a => rope _ _ a d) (funext fun e => part_heads x w (by rfl) 0 (by omega) _ _ b p h e _ rfl)

theorem k_at (b : Fin 16) (p : Fin 2048) (h : Fin 2) (d : Fin 64) : val_main_v78 (F := Ideal) x w (ix4 b p h d) = emb cosT sinT x w b p ⟨512 + h.val * 64, by omega⟩ d := by
  refine (spin_apply _ _ _ _ _ _ _ (val_main_v46 (F := Ideal) x w) (val_main_v60 (F := Ideal)) (val_main_v62 (F := Ideal)) b p h d).trans ?_
  unfold emb
  rw [show (fun e => val_main_v60 (F := Ideal) (ix4 0 p 0 e)) = fun e => cosT (ix2 p e) from funext fun e => table_at cosT _ p e,
    show (fun e => val_main_v62 (F := Ideal) (ix4 0 p 0 e)) = fun e => sinT (ix2 p e) from funext fun e => table_at sinT _ p e]
  exact congrArg (fun a => rope _ _ a d) (funext fun e => part_heads x w (by rfl) 512 (by omega) _ _ b p h e _ rfl)

theorem qi_at (b : Fin 16) (p : Fin 2048) (h : Fin 8) (d : Fin 64) : val_main_v112 (F := Ideal) x w (ix4 b p h d) = emb cosT sinT x w b p ⟨768 + h.val * 64, by omega⟩ d := by
  refine (spin_apply _ _ _ _ _ _ _ (val_main_v80 (F := Ideal) x w) (val_main_v94 (F := Ideal)) (val_main_v96 (F := Ideal)) b p h d).trans ?_
  unfold emb
  rw [show (fun e => val_main_v94 (F := Ideal) (ix4 0 p 0 e)) = fun e => cosT (ix2 p e) from funext fun e => table_at cosT _ p e,
    show (fun e => val_main_v96 (F := Ideal) (ix4 0 p 0 e)) = fun e => sinT (ix2 p e) from funext fun e => table_at sinT _ p e]
  exact congrArg (fun a => rope _ _ a d) (funext fun e => part_heads x w (by rfl) 768 (by omega) _ _ b p h e _ rfl)

theorem ki_at (b : Fin 16) (p : Fin 2048) (h : Fin 1) (d : Fin 64) : val_main_v145 (F := Ideal) x w (ix4 b p h d) = emb cosT sinT x w b p ⟨1280 + h.val * 64, by omega⟩ d := by
  refine (spin_apply _ _ _ _ _ _ _ (val_main_v113 (F := Ideal) x w) (val_main_v127 (F := Ideal)) (val_main_v129 (F := Ideal)) b p h d).trans ?_
  unfold emb
  rw [show (fun e => val_main_v127 (F := Ideal) (ix4 0 p 0 e)) = fun e => cosT (ix2 p e) from funext fun e => table_at cosT _ p e,
    show (fun e => val_main_v129 (F := Ideal) (ix4 0 p 0 e)) = fun e => sinT (ix2 p e) from funext fun e => table_at sinT _ p e]
  exact congrArg (fun a => rope _ _ a d) (funext fun e => part_heads x w (by rfl) 1280 (by omega) _ _ b p h e _ rfl)

theorem v_at (b : Fin 16) (p : Fin 2048) (h : Fin 2) (d : Fin 64) : val_main_v79 (F := Ideal) x w (ix4 b p h d) = col x w b p ⟨640 + h.val * 64 + d.val, by omega⟩ :=
  part_heads x w (by rfl) 640 (by omega) _ _ b p h d _ rfl

/-! ## The results -/

/-- Heads laid side by side, tokens one after another. -/
theorem flat_heads (y : (H4 8 64).Idx → EReal) (h : (H4 8 64).ShapeCasts ⟨2, ![32768, 512]⟩) (f : Fin 32768) (l : Fin 512) :
    shapeCast ⟨2, ![32768, 512]⟩ y h (ix2 f l) = y (ix4 (bat f) (pos f) ⟨l.val / 64, by omega⟩ (off l.val)) := by
  refine shapeCast_apply _ _ _ _ ?_
  rw [Shape.rowMajor_val_four, Shape.rowMajor_val_two]
  show ((f.val / 2048 * 2048 + f.val % 2048) * 8 + l.val / 64) * 64 + l.val % 64 = f.val * 512 + l.val
  omega

/-- Heads and features before tokens. -/
theorem turned_heads (y : (H4 2 64).Idx → EReal) (ht : (H4 2 64).Transposes [0, 2, 3, 1] ⟨4, ![16, 2, 64, 2048]⟩) (h : (⟨4, ![16, 2, 64, 2048]⟩ : Shape).ShapeCasts ⟨3, ![16, 128, 2048]⟩)
    (b : Fin 16) (l : Fin 128) (p : Fin 2048) :
    shapeCast ⟨3, ![16, 128, 2048]⟩ (transpose ⟨4, ![16, 2, 64, 2048]⟩ [0, 2, 3, 1] y ht) h (ix3 b l p) = y (ix4 b p ⟨l.val / 64, by omega⟩ (off l.val)) := by
  refine (shapeCast_apply _ _ _ (ix4 b (⟨l.val / 64, by omega⟩ : Fin 2) (off l.val) p) ?_).trans ?_
  · rw [Shape.rowMajor_val_four, Shape.rowMajor_val_three]
    show ((b.val * 2 + l.val / 64) * 64 + l.val % 64) * 2048 + p.val = (b.val * 128 + l.val) * 2048 + p.val
    omega
  · exact transpose_apply _ _ _ _ _ fun a => by fin_cases a <;> rfl

theorem turned_head (y : (H4 1 64).Idx → EReal) (h : (H4 1 64).ShapeCasts ⟨3, ![16, 2048, 64]⟩) (ht : (⟨3, ![16, 2048, 64]⟩ : Shape).Transposes [0, 2, 1] ⟨3, ![16, 64, 2048]⟩)
    (b : Fin 16) (l : Fin 64) (p : Fin 2048) :
    transpose ⟨3, ![16, 64, 2048]⟩ [0, 2, 1] (shapeCast ⟨3, ![16, 2048, 64]⟩ y h) ht (ix3 b l p) = y (ix4 b p 0 l) := by
  refine (transpose_apply _ _ _ _ (ix3 b p l) fun a => by fin_cases a <;> rfl).trans (shapeCast_apply _ _ _ _ ?_)
  rw [Shape.rowMajor_val_four, Shape.rowMajor_val_three]
  show ((b.val * 2048 + p.val) * 1 + 0) * 64 + l.val = (b.val * 2048 + p.val) * 64 + l.val
  omega

theorem flat_cols {n : ℕ} (y : (⟨3, ![16, 2048, n]⟩ : Shape).Idx → EReal) (h : (⟨3, ![16, 2048, n]⟩ : Shape).ShapeCasts ⟨2, ![32768, n]⟩) (f : Fin 32768) (l : Fin n) :
    shapeCast ⟨2, ![32768, n]⟩ y h (ix2 f l) = y (ix3 (bat f) (pos f) l) := by
  refine shapeCast_apply _ _ _ _ ?_
  rw [Shape.rowMajor_val_three, Shape.rowMajor_val_two]
  show (f.val / 2048 * 2048 + f.val % 2048) * n + l.val = f.val * n + l.val
  rw [show f.val / 2048 * 2048 + f.val % 2048 = f.val from by omega]

theorem res0 : val_main_v157 (F := Ideal) x w = heads cosT sinT x w 0 (by omega) := by
  funext i
  exact (congrArg _ (eq_ix2 i)).trans ((flat_heads _ _ _ _).trans (q_at x w _ _ _ _))

theorem res1 : val_main_v158 (F := Ideal) x w = heads cosT sinT x w 768 (by omega) := by
  funext i
  exact (congrArg _ (eq_ix2 i)).trans ((flat_heads _ _ _ _).trans (qi_at x w _ _ _ _))

theorem res2 : val_main_v150 (F := Ideal) x w = headsT cosT sinT x w 128 512 (by omega) (by omega) := by
  funext i
  exact (congrArg _ (eq_ix3 i)).trans ((turned_heads _ _ _ _ _ _).trans (k_at x w _ _ _ _))

theorem res3 : val_main_v153 (F := Ideal) x w = headsT cosT sinT x w 64 1280 (by omega) (by omega) := by
  funext i
  refine (congrArg (val_main_v153 (F := Ideal) x w) (eq_ix3 i)).trans ?_
  have hl : (i 1).val < 64 := (i 1).isLt
  refine (turned_head _ _ _ (i 0) (i 1) (i 2)).trans ((ki_at x w (i 0) (i 2) 0 (i 1)).trans ?_)
  · refine congrArg₂ (fun o d => emb cosT sinT x w (i 0) (i 2) o d) (Fin.ext ?_) (Fin.ext ?_)
    · show 1280 + 0 * 64 = 1280 + (i 1).val / 64 * 64
      omega
    · show (i 1).val = (i 1).val % 64
      omega

theorem res4 : val_main_v152 (F := Ideal) x w = colsT x w 640 (by omega) := by
  funext i
  refine (congrArg _ (eq_ix3 i)).trans ((turned_heads _ _ _ _ _ _).trans ((v_at x w _ _ _ _).trans ?_))
  refine congrArg (col x w (i 0) (i 2)) (Fin.ext ?_)
  show 640 + (i 1).val / 64 * 64 + (i 1).val % 64 = 640 + (i 1).val
  omega

theorem gate_at (b : Fin 16) (p : Fin 2048) (l : Fin 16) : val_main_v154 (F := Ideal) x w (ix3 b p l)
    = if h : l.val < 8 then col x w b p ⟨1344 + l.val, by omega⟩ * Ideal.ofBits .f32 0x3EB504F3#32 else col x w b p ⟨3392 + l.val, by omega⟩ := by
  by_cases h : l.val < 8
  · rw [dif_pos h]
    refine (concatenate_apply_piece (t := ⟨3, ![16, 2048, 16]⟩) 2 [⟨⟨3, ![16, 2048, 8]⟩, val_main_v148 (F := Ideal) x w⟩, ⟨⟨3, ![16, 2048, 4]⟩, val_main_v11 (F := Ideal) x w⟩, ⟨⟨3, ![16, 2048, 4]⟩, val_main_v12 (F := Ideal) x w⟩]
      _ (ix3 b p l) 0 (by simp) _ _ rfl rfl 0 rfl (ix3 b p (⟨l.val, h⟩ : Fin 8)) ?_ ?_).trans ?_
    · intro a ha; fin_cases a
      · rfl
      · rfl
      · exact absurd rfl ha
    · exact Nat.zero_add _
    exact congrArg₂ (· * ·) (part_at x w 1344 (by omega) _ b p _) ((val_main_v147_apply _).trans rfl)
  rw [dif_neg h]
  by_cases h' : l.val < 12
  · refine (concatenate_apply_piece (t := ⟨3, ![16, 2048, 16]⟩) 2 [⟨⟨3, ![16, 2048, 8]⟩, val_main_v148 (F := Ideal) x w⟩, ⟨⟨3, ![16, 2048, 4]⟩, val_main_v11 (F := Ideal) x w⟩, ⟨⟨3, ![16, 2048, 4]⟩, val_main_v12 (F := Ideal) x w⟩]
      _ (ix3 b p l) 1 (by simp) _ _ rfl rfl 8 rfl (ix3 b p (⟨l.val - 8, by omega⟩ : Fin 4)) ?_ ?_).trans ?_
    · intro a ha; fin_cases a
      · rfl
      · rfl
      · exact absurd rfl ha
    · show 8 + (l.val - 8) = l.val
      omega
    refine (part_at x w 3400 (by omega) _ b p _).trans (congrArg (col x w b p) (Fin.ext ?_))
    show 3400 + (l.val - 8) = 3392 + l.val
    omega
  · refine (concatenate_apply_piece (t := ⟨3, ![16, 2048, 16]⟩) 2 [⟨⟨3, ![16, 2048, 8]⟩, val_main_v148 (F := Ideal) x w⟩, ⟨⟨3, ![16, 2048, 4]⟩, val_main_v11 (F := Ideal) x w⟩, ⟨⟨3, ![16, 2048, 4]⟩, val_main_v12 (F := Ideal) x w⟩]
      _ (ix3 b p l) 2 (by simp) _ _ rfl rfl 12 rfl (ix3 b p (⟨l.val - 12, by omega⟩ : Fin 4)) ?_ ?_).trans ?_
    · intro a ha; fin_cases a
      · rfl
      · rfl
      · exact absurd rfl ha
    · show 12 + (l.val - 12) = l.val
      omega
    refine (part_at x w 3404 (by omega) _ b p _).trans (congrArg (col x w b p) (Fin.ext ?_))
    show 3404 + (l.val - 12) = 3392 + l.val
    omega

theorem res5 : val_main_v156 (F := Ideal) x w = small x w := by
  funext i
  refine (congrArg (val_main_v156 (F := Ideal) x w) (eq_ix2 i)).trans ?_
  have hl : (i 1).val < 128 := (i 1).isLt
  unfold small
  by_cases h' : (i 1).val < 16
  · refine (pad_apply_of_inside _ _ _ _ _ _ _ _ (ix2 (i 0) (⟨(i 1).val, h'⟩ : Fin 16)) fun a => by fin_cases a <;> simp [ix2]).trans ?_
    refine (flat_cols _ _ _ _).trans ((gate_at x w _ _ _).trans ?_)
    by_cases h : (i 1).val < 8
    · rw [dif_pos h, dif_pos h]
    · rw [dif_neg h, dif_neg h, dif_pos h']
  · rw [dif_neg (by omega), dif_neg h']
    refine (pad_apply_of_not_inside _ _ _ _ _ _ _ _ 1 ?_).trans ?_
    · rintro ⟨-, -, h3⟩
      have h3 : ((i 1).val - 0) / 1 < 16 := h3
      omega
    · rw [val_main_call0_v0_apply]
      show (((0#32 : BitVec 32).toInt : ℝ) : EReal) = 0
      simp

theorem res6 : val_main_v159 (F := Ideal) x w = cols x w 1536 1352 (by omega) := by
  funext i
  exact (congrArg _ (eq_ix2 i)).trans ((flat_cols _ _ _ _).trans (part_at x w 1352 (by omega) _ _ _ _))

theorem res7 : val_main_v160 (F := Ideal) x w = cols x w 512 2888 (by omega) := by
  funext i
  exact (congrArg _ (eq_ix2 i)).trans ((flat_cols _ _ _ _).trans (part_at x w 2888 (by omega) _ _ _ _))

theorem res8 : val_main_v161 (F := Ideal) x w = headsT cosT sinT x w 128 512 (by omega) (by omega) := res2 x w

theorem res9 : val_main_v162 (F := Ideal) x w = headsT cosT sinT x w 64 1280 (by omega) (by omega) := res3 x w

theorem res10 : val_main_v163 (F := Ideal) x w = colsT x w 640 (by omega) := res4 x w

end Inp.Ref
-- ==== Proof.FfnSample.lean ====
/-
  The half-steps of the sampled tokens: 128 sequences of 8 tokens each.
-/
module

public import proofs.«01_k».proof.Proof.Ffn

@[expose] public section

noncomputable section

namespace Ffn.Sample

open Idealize.ShloMosaic Idealize.ShloMosaic.ValueIdx

/-! ## Arrays -/

abbrev Toks : Shape := ⟨3, ![128, 8, 1024]⟩
abbrev Flat : Shape := ⟨2, ![1024, 1024]⟩
abbrev Heads : Shape := ⟨3, ![128, 8, 512]⟩

/-- A token's row: its sequence and its position in it. -/
abbrev tok {n : ℕ} (x : (⟨3, ![128, 8, n]⟩ : Shape).Idx → EReal) (i : Fin 1024) : Fin n → EReal :=
  fun k => x (ix3 ⟨i.val / 8, by omega⟩ ⟨i.val % 8, by omega⟩ k)

theorem rows_apply {n : ℕ} (x : (⟨3, ![128, 8, n]⟩ : Shape).Idx → EReal) (h : (⟨3, ![128, 8, n]⟩ : Shape).ShapeCasts ⟨2, ![1024, n]⟩)
    (i : (⟨2, ![1024, n]⟩ : Shape).Idx) (r : Fin 1024) (k : Fin n) (h0 : (i 0).val = r.val) (h1 : (i 1).val = k.val) :
    shapeCast ⟨2, ![1024, n]⟩ x h i = tok x r k := by
  refine shapeCast_apply _ _ _ _ ?_
  rw [Shape.rowMajor_val_three, Shape.rowMajor_val_two]
  show (r.val / 8 * 8 + r.val % 8) * n + k.val = (i 0).val * n + (i 1).val
  rw [h0, h1, Nat.div_add_mod']

/-- The first half-step of every token. -/
def firstStep (x : Toks.Idx → EReal) (wg wu : Wide.Idx → EReal) (wd : Tall.Idx → EReal) (g b : Vct.Idx → EReal) : Flat.Idx → EReal :=
  fun y => half (tok x (y 0)) (inner wg) (inner wu) (inner wd) (vct g) (vct b) (y 1)

theorem firstStep_at (x : Toks.Idx → EReal) (wg wu : Wide.Idx → EReal) (wd : Tall.Idx → EReal) (g b : Vct.Idx → EReal) (y : Flat.Idx) (i : Fin 1024)
    (d : Fin 1024) (h0 : (y 0).val = i.val) (h1 : (y 1).val = d.val) :
    firstStep x wg wu wd g b y = half (tok x i) (inner wg) (inner wu) (inner wd) (vct g) (vct b) d := by
  unfold firstStep
  rw [show y 0 = i from Fin.ext h0, show y 1 = d from Fin.ext h1]

/-- The mixing and the second half-step of every token. -/
def secondStep (x : Toks.Idx → EReal) (a n : Heads.Idx → EReal) (w : Proj.Idx → EReal) (g₂ b₂ : Vct.Idx → EReal) (wg wu : Wide.Idx → EReal)
    (wd : Tall.Idx → EReal) (g b : Vct.Idx → EReal) : Flat.Idx → EReal :=
  fun y => half (mixed (tok x (y 0)) (tok a (y 0)) (tok n (y 0)) (inner w) (vct g₂) (vct b₂)) (inner wg) (inner wu) (inner wd) (vct g) (vct b) (y 1)

theorem secondStep_at (x : Toks.Idx → EReal) (a n : Heads.Idx → EReal) (w : Proj.Idx → EReal) (g₂ b₂ : Vct.Idx → EReal) (wg wu : Wide.Idx → EReal)
    (wd : Tall.Idx → EReal) (g b : Vct.Idx → EReal) (y : Flat.Idx) (i : Fin 1024) (d : Fin 1024) (h0 : (y 0).val = i.val) (h1 : (y 1).val = d.val) :
    secondStep x a n w g₂ b₂ wg wu wd g b y
      = half (mixed (tok x i) (tok a i) (tok n i) (inner w) (vct g₂) (vct b₂)) (inner wg) (inner wu) (inner wd) (vct g) (vct b) d := by
  unfold secondStep
  rw [show y 0 = i from Fin.ext h0, show y 1 = d from Fin.ext h1]

end Ffn.Sample
-- ==== Proof.FfnSampleKernel.lean ====
/-
  The second half-step's kernel on the sampled tokens: what its body leaves, block by block, and the array it leaves. An even point mixes the rows and
  takes the feed-forward of the first half of the hidden features; the odd point after it adds the second half's and normalises.
-/
module

public import proofs.«01_k».proof.Proof.FfnSample
public import proofs.«01_k».proof.Proof.Gen.Kernel5Ideal.Value
public import Idealize.ShloMosaic.Lib.Pipeline.ValueKit.Geometry
public import Idealize.ShloMosaic.Lib.Pipeline.ValueKit.Acc
public import Idealize.ShloMosaic.Lib.Claim

@[expose] public section

set_option maxRecDepth 16384

noncomputable section

namespace Ffn.Sample.Kernel

open Idealize.ShloMosaic Idealize.ShloMosaic.TcCoe Idealize.SL.Sem
open Idealize.ShloMosaic.Pipeline (Dat)
open Idealize.ShloMosaic.ValueIdx
open Cert.Kernel5Ideal Cert.Kernel5Ideal.Gen

variable (m : (ℓ : Loc nD τ sig) → Buf (Elt Ideal) ℓ) (c : Dev nD)

/-- The body's feed-forward over one half of the hidden features. -/
theorem feed_pay (x : Vec Ideal S512x1024 .f32) (wg wu : Vec Ideal S1024x1408 .bf16) (wd : Vec Ideal S1408x1024 .bf16) (r : Fin 512) (d : Fin 1024) :
    k0_pay2 x wg wu wd (ix2 r d) = part (row x r) (fun k h => wg (ix2 k h)) (fun k h => wu (ix2 k h)) (fun h => wd (ix2 h d)) := by
  unfold k0_pay2
  simp only [shapeCast_self]
  exact feed_apply bitsLt_bf16_f32 x wg wu wd r d

/-- The body's layer norm. -/
theorem norm_pay (x f : Vec Ideal S512x1024 .f32) (g b : Vec Ideal S1x1024 .f32) (r : Fin 512) (d : Fin 1024) :
    k0_pay5 x f g b (ix2 r d) = norm (stepped (row x r) (row f r)) (vct g) (vct b) d :=
  normed_stepped_apply broadcasts_S512x1_S512x1024 broadcasts_S1x1024_S512x1024 reduces_S512x1024_S512 shapeCasts_S512_S512x1 x f g b r d

/-- The body's mixing. -/
theorem mix_pay (a : Vec Ideal S512x512 .f32) (wa : Vec Ideal S512x1024 .bf16) (n : Vec Ideal S512x512 .f32) (wn : Vec Ideal S512x1024 .bf16)
    (x : Vec Ideal S512x1024 .f32) (g b : Vec Ideal S1x1024 .f32) (r : Fin 512) (d : Fin 1024) :
    k0_pay1 b (k0_pay6 a wa n wn x g) (ix2 r d) = norm (row (mergedRows bitsLt_bf16_f32 x a n wa wn) r) (vct g) (vct b) d := by
  unfold k0_pay1 k0_pay6
  simp only [shapeCast_self]
  exact normed_apply broadcasts_S512x1_S512x1024 broadcasts_S1x1024_S512x1024 reduces_S512x1024_S512 shapeCasts_S512_S512x1 _ g b r d

/-- The block an even point mixes. -/
abbrev mix (t : Fin cfg0.N) : FVec Ideal S512x1024 .f32 :=
  k0_pay1 (iblk m c 6 t) (k0_pay6 (iblk m c 1 t) (iblk m c 3 t) (iblk m c 2 t) (iblk m c 4 t) (iblk m c 0 t) (iblk m c 5 t))

/-- After an even point: one scratch holds the mixed rows, -/
theorem even_mix (t : Fin cfg0.N) (h : t.val % 2 = 0) : (outsAt0 m c t.val t.isLt).2.2 = mix m c t := by
  rw [outsAt0_A m c t h h (by omega) (by omega)]
  frame_out

/-- and the other the first half's feed-forward of them. -/
theorem even_at (t : Fin cfg0.N) (h : t.val % 2 = 0) :
    (outsAt0 m c t.val t.isLt).2.1 = k0_pay2 (mix m c t) (iblk m c 7 t) (iblk m c 8 t) (iblk m c 9 t) := by
  rw [outsAt0_A m c t h h (by omega) (by omega)]
  frame_out
  unfold k0_pay3
  exact shapeCast_self _ _

/-- After an odd point: the output's block holds the layer norm, of the scratch with the second half's feed-forward added. -/
theorem odd_at (t : Fin cfg0.N) (h : t.val % 2 = 1) (x f : FVec Ideal S512x1024 .f32)
    (hx : (outsAt0 m c (t.val - 1) (Nat.lt_of_le_of_lt (Nat.sub_le _ _) t.isLt)).2.2 = x)
    (hf : (outsAt0 m c (t.val - 1) (Nat.lt_of_le_of_lt (Nat.sub_le _ _) t.isLt)).2.1 = f) :
    (outsAt0 m c t.val t.isLt).1 = k0_pay5 x (addf f (k0_pay2 x (iblk m c 7 t) (iblk m c 8 t) (iblk m c 9 t))) (iblk m c 10 t) (iblk m c 11 t) := by
  rw [outsAt0_B m c t (by omega) (by omega) h h, hx, hf]
  frame_out
  unfold k0_pay4
  simp only [shapeCast_self]
  exact congrArg₂ (fun x f => k0_pay5 x (addf f (k0_pay2 x (iblk m c 7 t) (iblk m c 8 t) (iblk m c 9 t))) (iblk m c 10 t) (iblk m c 11 t))
    (Memref.IsWhole.read_unread _ _) (Memref.IsWhole.read_unread _ _)

/-! ## The blocks -/

/-- The arguments, as arrays. -/
abbrev argX : Toks.Idx → EReal := m ((c : Thread nD τ).loc main_arg0)
abbrev argA : Heads.Idx → EReal := m ((c : Thread nD τ).loc main_arg1)
abbrev argR : Heads.Idx → EReal := m ((c : Thread nD τ).loc main_arg2)
abbrev argO : Proj.Idx → EReal := m ((c : Thread nD τ).loc main_arg3)
abbrev argN₂ : Vct.Idx → EReal := m ((c : Thread nD τ).loc main_arg4)
abbrev argB₂ : Vct.Idx → EReal := m ((c : Thread nD τ).loc main_arg5)
abbrev argG : Wide.Idx → EReal := m ((c : Thread nD τ).loc main_arg6)
abbrev argU : Wide.Idx → EReal := m ((c : Thread nD τ).loc main_arg7)
abbrev argD : Tall.Idx → EReal := m ((c : Thread nD τ).loc main_arg8)
abbrev argN : Vct.Idx → EReal := m ((c : Thread nD τ).loc main_arg9)
abbrev argB : Vct.Idx → EReal := m ((c : Thread nD τ).loc main_arg10)

/-- The windows' index maps. -/
theorem idx : ∀ t : Fin cfg0.N, (win0_0.index t = ![t.val / 2, 0] ∧ win0_1.index t = ![t.val / 2, 0] ∧ win0_2.index t = ![t.val / 2, 0])
    ∧ (win0_3.index t = ![0, 0] ∧ win0_4.index t = ![0, 0] ∧ win0_5.index t = ![0, 0] ∧ win0_6.index t = ![0, 0])
    ∧ (win0_7.index t = ![0, t.val % 2] ∧ win0_8.index t = ![0, t.val % 2] ∧ win0_9.index t = ![t.val % 2, 0])
    ∧ win0_10.index t = ![0, 0] ∧ win0_11.index t = ![0, 0] ∧ win0_12.index t = ![t.val / 2, 0] :=
  (by decide +kernel : ∀ t : Fin grid0.N, _)

/-- The token of row `r` of the block at point `t`. -/
abbrev tokAt (t : Fin cfg0.N) (r : Fin 512) : Fin 1024 := ⟨t.val / 2 * 512 + r.val, by have : t.val < 4 := t.isLt; omega⟩
/-- The hidden feature of column `h` of the block at point `t`. -/
abbrev hidAt (t : Fin cfg0.N) (h : Fin 1408) : Fin 2816 := ⟨t.val % 2 * 1408 + h.val, by omega⟩

/-- What the region finds in the arrays the blocks are read from. -/
theorem V_x : (V m c main_v6 : S1024x1024.Idx → EReal) = shapeCast S1024x1024 (argX m c) shapeCasts_S128x8x1024_S1024x1024 := rfl
theorem V_a : (V m c main_v13 : S1024x512.Idx → EReal) = shapeCast S1024x512 (argA m c) shapeCasts_S128x8x512_S1024x512 := rfl
theorem V_r : (V m c main_v14 : S1024x512.Idx → EReal) = shapeCast S1024x512 (argR m c) shapeCasts_S128x8x512_S1024x512 := rfl
theorem V_top : (V m c main_v2 : S512x1024.Idx → EReal)
    = extractStridedSlice S512x1024 ![0, 0] (shapeCast S1024x1024 (argO m c) shapeCasts_S1x1024x1024_S1024x1024) slices_S1024x1024_S512x1024_0_0 := rfl
theorem V_bot : (V m c main_v5 : S512x1024.Idx → EReal)
    = extractStridedSlice S512x1024 ![512, 0] (shapeCast S1024x1024 (argO m c) shapeCasts_S1x1024x1024_S1024x1024) slices_S1024x1024_S512x1024_512_0 := rfl
theorem V_g : (V m c main_v8 : S1024x2816.Idx → EReal) = shapeCast S1024x2816 (argG m c) shapeCasts_S1x1024x2816_S1024x2816 := rfl
theorem V_u : (V m c main_v10 : S1024x2816.Idx → EReal) = shapeCast S1024x2816 (argU m c) shapeCasts_S1x1024x2816_S1024x2816 := rfl
theorem V_d : (V m c main_v12 : S2816x1024.Idx → EReal) = shapeCast S2816x1024 (argD m c) shapeCasts_S1x2816x1024_S2816x1024 := rfl

theorem x_at (t : Fin cfg0.N) (r : Fin 512) : row (iblk m c 0 t) r = tok (argX m c) (tokAt t r) := by
  funext k
  show (V m c main_v6 : S1024x1024.Idx → EReal) (((cfg0.win 0).blk t).view.emb (ix2 r k)) = _
  rw [V_x]
  refine rows_apply _ _ _ _ k ?_ ?_
  · blk_simp [idx t]
  · blk_simp [idx t]

theorem a_at (t : Fin cfg0.N) (r : Fin 512) (k : Fin 512) : (show Vec Ideal S512x512 .f32 from iblk m c 1 t) (ix2 r k) = tok (argA m c) (tokAt t r) k := by
  show (V m c main_v13 : S1024x512.Idx → EReal) (((cfg0.win 1).blk t).view.emb (ix2 r k)) = _
  rw [V_a]
  refine rows_apply _ _ _ _ k ?_ ?_
  · blk_simp [idx t]
  · blk_simp [idx t]

theorem r_at (t : Fin cfg0.N) (r : Fin 512) (k : Fin 512) : (show Vec Ideal S512x512 .f32 from iblk m c 2 t) (ix2 r k) = tok (argR m c) (tokAt t r) k := by
  show (V m c main_v14 : S1024x512.Idx → EReal) (((cfg0.win 2).blk t).view.emb (ix2 r k)) = _
  rw [V_r]
  refine rows_apply _ _ _ _ k ?_ ?_
  · blk_simp [idx t]
  · blk_simp [idx t]

theorem top_at (t : Fin cfg0.N) (k : Fin 512) (d : Fin 1024) : (show Vec Ideal S512x1024 .bf16 from iblk m c 3 t) (ix2 k d) = argO m c (ix3 0 ⟨k.val, by omega⟩ d) := by
  show (V m c main_v2 : S512x1024.Idx → EReal) (((cfg0.win 3).blk t).view.emb (ix2 k d)) = _
  have e : ((cfg0.win 3).blk t).view.emb (ix2 k d) = ix2 k d := by funext a; apply Fin.ext; fin_cases a <;> blk_simp [idx t]
  rw [V_top]
  refine (congrArg _ e).trans ?_
  refine (extractStridedSlice_apply _ _ _ _ (ix2 (⟨k.val, by omega⟩ : Fin 1024) d) (fun a => ?_)).trans (matrix_apply _ _ _ _ _ rfl rfl)
  fin_cases a
  · show k.val = 0 + k.val; omega
  · show d.val = 0 + d.val; omega

theorem bot_at (t : Fin cfg0.N) (k : Fin 512) (d : Fin 1024) : (show Vec Ideal S512x1024 .bf16 from iblk m c 4 t) (ix2 k d) = argO m c (ix3 0 ⟨512 + k.val, by omega⟩ d) := by
  show (V m c main_v5 : S512x1024.Idx → EReal) (((cfg0.win 4).blk t).view.emb (ix2 k d)) = _
  have e : ((cfg0.win 4).blk t).view.emb (ix2 k d) = ix2 k d := by funext a; apply Fin.ext; fin_cases a <;> blk_simp [idx t]
  rw [V_bot]
  refine (congrArg _ e).trans ?_
  refine (extractStridedSlice_apply _ _ _ _ (ix2 (⟨512 + k.val, by omega⟩ : Fin 1024) d) (fun a => ?_)).trans (matrix_apply _ _ _ _ _ rfl rfl)
  fin_cases a
  · show 512 + k.val = 512 + k.val; omega
  · show d.val = 0 + d.val; omega

theorem g_at (t : Fin cfg0.N) (k : Fin 1024) (h : Fin 1408) : (show Vec Ideal S1024x1408 .bf16 from iblk m c 7 t) (ix2 k h) = argG m c (ix3 0 k (hidAt t h)) := by
  show (V m c main_v8 : S1024x2816.Idx → EReal) (((cfg0.win 7).blk t).view.emb (ix2 k h)) = _
  rw [V_g]
  refine matrix_apply _ _ _ _ _ ?_ ?_
  · blk_simp [idx t]
  · blk_simp [idx t]

theorem u_at (t : Fin cfg0.N) (k : Fin 1024) (h : Fin 1408) : (show Vec Ideal S1024x1408 .bf16 from iblk m c 8 t) (ix2 k h) = argU m c (ix3 0 k (hidAt t h)) := by
  show (V m c main_v10 : S1024x2816.Idx → EReal) (((cfg0.win 8).blk t).view.emb (ix2 k h)) = _
  rw [V_u]
  refine matrix_apply _ _ _ _ _ ?_ ?_
  · blk_simp [idx t]
  · blk_simp [idx t]

theorem d_at (t : Fin cfg0.N) (h : Fin 1408) (k : Fin 1024) : (show Vec Ideal S1408x1024 .bf16 from iblk m c 9 t) (ix2 h k) = argD m c (ix3 0 (hidAt t h) k) := by
  show (V m c main_v12 : S2816x1024.Idx → EReal) (((cfg0.win 9).blk t).view.emb (ix2 h k)) = _
  rw [V_d]
  refine matrix_apply _ _ _ _ _ ?_ ?_
  · blk_simp [idx t]
  · blk_simp [idx t]

theorem n₂_at (t : Fin cfg0.N) : vct (iblk m c 5 t) = vct (argN₂ m c) := by
  funext k
  show (V m c main_arg4 : S1x1024.Idx → EReal) (((cfg0.win 5).blk t).view.emb (ix2 0 k)) = _
  rw [V_main_arg4]
  exact congrArg (argN₂ m c) (by funext a; apply Fin.ext; fin_cases a <;> blk_simp [idx t])

theorem b₂_at (t : Fin cfg0.N) : vct (iblk m c 6 t) = vct (argB₂ m c) := by
  funext k
  show (V m c main_arg5 : S1x1024.Idx → EReal) (((cfg0.win 6).blk t).view.emb (ix2 0 k)) = _
  rw [V_main_arg5]
  exact congrArg (argB₂ m c) (by funext a; apply Fin.ext; fin_cases a <;> blk_simp [idx t])

theorem n_at (t : Fin cfg0.N) : vct (iblk m c 10 t) = vct (argN m c) := by
  funext k
  show (V m c main_arg9 : S1x1024.Idx → EReal) (((cfg0.win 10).blk t).view.emb (ix2 0 k)) = _
  rw [V_main_arg9]
  exact congrArg (argN m c) (by funext a; apply Fin.ext; fin_cases a <;> blk_simp [idx t])

theorem b_at (t : Fin cfg0.N) : vct (iblk m c 11 t) = vct (argB m c) := by
  funext k
  show (V m c main_arg10 : S1x1024.Idx → EReal) (((cfg0.win 11).blk t).view.emb (ix2 0 k)) = _
  rw [V_main_arg10]
  exact congrArg (argB m c) (by funext a; apply Fin.ext; fin_cases a <;> blk_simp [idx t])

/-! ## The array -/

/-- A token's mixed row. -/
abbrev mixedAt (i : Fin 1024) : Fin 1024 → EReal :=
  mixed (tok (argX m c) i) (tok (argA m c) i) (tok (argR m c) i) (inner (argO m c)) (vct (argN₂ m c)) (vct (argB₂ m c))

theorem mix_at (t : Fin cfg0.N) (r : Fin 512) : row (mix m c t) r = mixedAt m c (tokAt t r) := by
  funext d
  refine (mix_pay _ _ _ _ _ _ _ r d).trans ?_
  rw [n₂_at, b₂_at]
  refine congrArg (fun s => norm s _ _ d) (funext fun e => (mergedRows_apply _ _ _ _ _ _ r e).trans ?_)
  refine congrArg₂ (· + ·) (congrArg (_ * ·) (congrFun (x_at m c t r) e)) (congrArg₂ (· + ·) ?_ ?_)
  · exact Finset.sum_congr rfl fun k _ => congrArg₂ (· * ·) (a_at m c t r k) (top_at m c t k e)
  · exact Finset.sum_congr rfl fun k _ => congrArg₂ (· * ·) (r_at m c t r k) (bot_at m c t k e)

/-- The feed-forward of rows over a point's block of hidden features. -/
theorem part_at (t : Fin cfg0.N) (x : FVec Ideal S512x1024 .f32) (r : Fin 512) (d : Fin 1024) :
    (k0_pay2 x (iblk m c 7 t) (iblk m c 8 t) (iblk m c 9 t) : FVec Ideal S512x1024 .f32) (ix2 r d)
      = part (row x r) (fun k h => argG m c (ix3 0 k (hidAt t h))) (fun k h => argU m c (ix3 0 k (hidAt t h))) (fun h => argD m c (ix3 0 (hidAt t h) d)) := by
  refine (feed_pay _ _ _ _ r d).trans ?_
  refine Finset.sum_congr rfl fun h _ => congrArg₂ (· * ·) (congrArg₂ gated ?_ ?_) (d_at m c t h d)
  · exact Finset.sum_congr rfl fun k _ => congrArg (_ * ·) (g_at m c t k h)
  · exact Finset.sum_congr rfl fun k _ => congrArg (_ * ·) (u_at m c t k h)

/-- What an odd point leaves of a row, after the even point before it: the half-step of its mixed row. -/
theorem row_after (t t' : Fin cfg0.N) (h : t.val % 2 = 1) (h' : t'.val % 2 = 0) (r : Fin 512) (et : tokAt t' r = tokAt t r) (d : Fin 1024) :
    k0_pay5 (mix m c t') (addf (k0_pay2 (mix m c t') (iblk m c 7 t') (iblk m c 8 t') (iblk m c 9 t'))
        (k0_pay2 (mix m c t') (iblk m c 7 t) (iblk m c 8 t) (iblk m c 9 t))) (iblk m c 10 t) (iblk m c 11 t) (ix2 r d)
      = half (mixedAt m c (tokAt t r)) (inner (argG m c)) (inner (argU m c)) (inner (argD m c)) (vct (argN m c)) (vct (argB m c)) d := by
  have e0 : ∀ k : Fin 1408, hidAt t' k = ⟨k.val, by omega⟩ := fun k => Fin.ext (by show t'.val % 2 * 1408 + k.val = k.val; rw [h', Nat.zero_mul, Nat.zero_add])
  have e1 : ∀ k : Fin 1408, hidAt t k = ⟨1408 + k.val, by omega⟩ := fun k => Fin.ext (by show t.val % 2 * 1408 + k.val = 1408 + k.val; rw [h, Nat.one_mul])
  have hm : row (mix m c t') r = mixedAt m c (tokAt t r) := (mix_at m c t' r).trans (congrArg (mixedAt m c) et)
  generalize mix m c t' = x at hm ⊢
  generalize mixedAt m c (tokAt t r) = y at hm ⊢
  refine (norm_pay _ _ _ _ r d).trans ?_
  rw [hm, n_at, b_at]
  refine congrArg (fun f => norm (stepped y f) (vct (argN m c)) (vct (argB m c)) d) (?_ : _ = fun e => part y (inner (argG m c)) (inner (argU m c)) fun h => inner (argD m c) h e)
  funext e
  show k0_pay2 x (iblk m c 7 t') (iblk m c 8 t') (iblk m c 9 t') (ix2 r e) + k0_pay2 x (iblk m c 7 t) (iblk m c 8 t) (iblk m c 9 t) (ix2 r e) = _
  rw [part_at, part_at, hm, part_halves]
  simp only [e0, e1]

/-- What an odd point leaves of a row. -/
theorem row_at (t : Fin cfg0.N) (h : t.val % 2 = 1) (r : Fin 512) (d : Fin 1024) :
    (outsAt0 m c t.val t.isLt).1 (ix2 r d)
      = half (mixedAt m c (tokAt t r)) (inner (argG m c)) (inner (argU m c)) (inner (argD m c)) (vct (argN m c)) (vct (argB m c)) d := by
  have ht : t.val < 4 := t.isLt
  have h' : (t.val - 1) % 2 = 0 := by omega
  refine (congrFun (odd_at m c t h _ _ (even_mix m c ⟨t.val - 1, by omega⟩ h') (even_at m c ⟨t.val - 1, by omega⟩ h')) (ix2 r d)).trans ?_
  exact row_after m c t ⟨t.val - 1, by omega⟩ h h' r (Fin.ext (by show (t.val - 1) / 2 * 512 + r.val = t.val / 2 * 512 + r.val; omega)) d

/-- The array the kernel leaves. -/
theorem array_eq : (dats m 0 c).arrAt 12 (cfgs 0).N = secondStep (argX m c) (argA m c) (argR m c) (argO m c) (argN₂ m c) (argB₂ m c) (argG m c) (argU m c)
    (argD m c) (argN m c) (argB m c) := by
  refine (dats m 0 c).arrAt_eq_of_covers 12 _ (by decide +kernel) fun t hf y => ?_
  blk_simp
  rw [after0_12]
  have h : t.val % 2 = 1 := (flush0_12 t).1 hf
  rw [show y = ix2 (y 0) (y 1) from eq_ix2 y]
  refine (row_at m c t h (y 0) (y 1)).trans ?_
  refine (secondStep_at _ _ _ _ _ _ _ _ _ _ _ _ (tokAt t (y 0)) (y 1) ?_ ?_).symm
  · blk_simp [idx t]
  · blk_simp [idx t]

end Ffn.Sample.Kernel
-- ==== Proof.FfnSampleRef.lean ====
/-
  The reference of the second half-step on the sampled tokens: the array it leaves is the mixing and the half-step of every token.
-/
module

public import proofs.«01_k».proof.Proof.FfnSample
public import proofs.«01_k».proof.Proof.Gen.Reference5Ideal.Read

@[expose] public section

noncomputable section

namespace Ffn.Sample

open Idealize.ShloMosaic Idealize.ShloMosaic.ValueIdx
open Cert.Reference5Ideal Cert.Reference5Ideal.Gen Cert.Reference5Ideal.Read

/-! ## The layer norm of an array -/

abbrev One : Shape := ⟨3, ![128, 8, 1]⟩

/-- A token's row, by its sequence and its position. -/
abbrev line {n : ℕ} (x : (⟨3, ![128, 8, n]⟩ : Shape).Idx → EReal) (a : Fin 128) (p : Fin 8) : Fin n → EReal := fun k => x (ix3 a p k)

/-- The rows' means. -/
def hostMeans (s : FVec Ideal Toks .f32) : FVec Ideal One .f32 :=
  Host.divf (broadcastInDim S128x8x1 ![0, 1] bcast_S128x8_S128x8x1_0_1
      (Host.reduceAdd s (constant S_ .f32 0x00000000#32) reducesTo_S128x8x1024_S128x8_d2 h_S_))
    (broadcastInDim S128x8x1 ![] bcast_S_S128x8x1 (constant S_ .f32 0x44800000#32))

theorem hostMeans_apply (s : FVec Ideal Toks .f32) (a : Fin 128) (p : Fin 8) : hostMeans s (ix3 a p 0) = mean (line s a p) := by
  show Ideal.div (broadcastInDim S128x8x1 ![0, 1] bcast_S128x8_S128x8x1_0_1
    (Host.reduceAdd s (constant S_ .f32 0x00000000#32) reducesTo_S128x8x1024_S128x8_d2 h_S_) (ix3 a p 0)) (Ideal.ofBits .f32 0x44800000#32) = _
  refine congrArg (Ideal.div · _) ?_
  refine (broadcastInDim_apply _ _ _ _ (ix2 a p) (fun k => by fin_cases k <;> rfl)).trans ?_
  simp only [Host.reduceAdd, Ideal.hostReduceAdd_def]
  rw [Ideal.hostReduceAdd_single reducesTo_S128x8x1024_S128x8_d2 (by decide)]
  rw [show constant (F := Ideal) S_ .f32 0x00000000#32 _ = (0 : EReal) from Ideal.ofBits_zero_f32, zero_add]
  exact Finset.sum_congr rfl fun k _ => congrArg s (funext fun c => Fin.ext (by fin_cases c <;> rfl))

/-- An array less its rows' means. -/
def hostCentred (s : FVec Ideal Toks .f32) : FVec Ideal Toks .f32 :=
  subf s (broadcastInDim S128x8x1024 ![0, 1, 2] bcast_S128x8x1_S128x8x1024_0_1_2 (hostMeans s))

theorem hostSpread_apply (t : One.Idx → EReal) (a : Fin 128) (p : Fin 8) (d : Fin 1024) :
    broadcastInDim S128x8x1024 ![0, 1, 2] bcast_S128x8x1_S128x8x1024_0_1_2 t (ix3 a p d) = t (ix3 a p 0) :=
  broadcastInDim_apply _ _ _ _ _ fun k => by fin_cases k <;> rfl

theorem hostCentred_apply (s : FVec Ideal Toks .f32) (a : Fin 128) (p : Fin 8) (d : Fin 1024) :
    hostCentred s (ix3 a p d) = s (ix3 a p d) - mean (line s a p) := by
  show s (ix3 a p d) - broadcastInDim S128x8x1024 ![0, 1, 2] bcast_S128x8x1_S128x8x1024_0_1_2 (hostMeans s) (ix3 a p d) = _
  rw [hostSpread_apply, hostMeans_apply]

/-- A vector along the rows. -/
def hostVector (g : FVec Ideal Vct .f32) : FVec Ideal Toks .f32 :=
  broadcastInDim S128x8x1024 ![0, 1, 2] bcast_S1x1x1024_S128x8x1024_0_1_2
    (broadcastInDim S1x1x1024 ![2] bcast_S1024_S1x1x1024_2 (shapeCast S1024 g shapeCasts_S1x1024_S1024))

theorem hostVector_apply (g : FVec Ideal Vct .f32) (a : Fin 128) (p : Fin 8) (d : Fin 1024) : hostVector g (ix3 a p d) = vct g d := by
  refine (broadcastInDim_apply _ _ _ _ (ix3 0 0 d) (fun k => by fin_cases k <;> rfl)).trans ?_
  refine (broadcastInDim_apply _ _ _ _ (ix1 d) (fun k => by fin_cases k <;> rfl)).trans ?_
  exact shapeCast_apply _ _ _ (ix2 0 d) (by rw [Shape.rowMajor_val_two]; simp [Shape.rowMajor_val_one, ix1, ix2])

/-- The layer norm of an array. -/
def hostNorm (s : FVec Ideal Toks .f32) (g b : FVec Ideal Vct .f32) : FVec Ideal Toks .f32 :=
  addf (mulf (mulf (hostCentred s) (broadcastInDim S128x8x1024 ![0, 1, 2] bcast_S128x8x1_S128x8x1024_0_1_2
    (Host.rsqrt (addf (hostMeans (mulf (hostCentred s) (hostCentred s))) (broadcastInDim S128x8x1 ![] bcast_S_S128x8x1 (constant S_ .f32 0x3727C5AC#32))))))
    (hostVector g)) (hostVector b)

theorem hostNorm_apply (s : FVec Ideal Toks .f32) (g b : FVec Ideal Vct .f32) (a : Fin 128) (p : Fin 8) (d : Fin 1024) :
    hostNorm s g b (ix3 a p d) = norm (line s a p) (vct g) (vct b) d := by
  show hostCentred s (ix3 a p d) * broadcastInDim S128x8x1024 ![0, 1, 2] bcast_S128x8x1_S128x8x1024_0_1_2
    (Host.rsqrt (addf (hostMeans (mulf (hostCentred s) (hostCentred s))) (broadcastInDim S128x8x1 ![] bcast_S_S128x8x1 (constant S_ .f32 0x3727C5AC#32)))) (ix3 a p d)
    * hostVector g (ix3 a p d) + hostVector b (ix3 a p d) = _
  rw [hostCentred_apply, hostSpread_apply, hostVector_apply, hostVector_apply]
  show _ * Ideal.rsqrt (hostMeans (mulf (hostCentred s) (hostCentred s)) (ix3 a p 0) + Ideal.ofBits .f32 0x3727C5AC#32) * _ + _ = _
  rw [hostMeans_apply]
  refine congrArg (fun v => (s (ix3 a p d) - mean (line s a p)) * Ideal.rsqrt (mean v + Ideal.ofBits .f32 0x3727C5AC#32) * vct g d + vct b d) (funext fun k => ?_)
  show hostCentred s (ix3 a p k) * hostCentred s (ix3 a p k) = _
  rw [hostCentred_apply]

/-! ## The reference -/

variable (x : FVec Ideal Toks .f32) (a n : FVec Ideal Heads .f32) (w : FVec Ideal Proj .f32) (g₂ b₂ : FVec Ideal Vct .f32)
  (wg wu : FVec Ideal Wide .f32) (wd : FVec Ideal Tall .f32) (g b : FVec Ideal Vct .f32)

/-- The two mixers' rows side by side. -/
theorem beside_left (s : Fin 128) (p : Fin 8) (k : Fin 512) : val_main_v5 (F := Ideal) a n (ix3 s p ⟨k.val, by omega⟩) = line a s p k :=
  concatenate_pair_apply_left (t := S128x8x1024) 2 a n concatenates_S128x8x512_S128x8x512_S128x8x1024_d2 (ix3 s p ⟨k.val, by omega⟩) rfl (ix3 s p k)
    fun c => by fin_cases c <;> rfl

theorem beside_right (s : Fin 128) (p : Fin 8) (k : Fin 512) : val_main_v5 (F := Ideal) a n (ix3 s p ⟨512 + k.val, by omega⟩) = line n s p k := by
  refine concatenate_pair_apply_right (t := S128x8x1024) 2 a n concatenates_S128x8x512_S128x8x512_S128x8x1024_d2 (ix3 s p ⟨512 + k.val, by omega⟩) rfl rfl
    (ix3 s p k) (fun c hc => ?_) (Nat.add_comm _ _)
  fin_cases c
  · rfl
  · rfl
  · exact absurd rfl hc

theorem merged_line (s : Fin 128) (p : Fin 8) : line (val_main_v7 (F := Ideal) x a n w) s p = merged (line x s p) (line a s p) (line n s p) (inner w) := by
  funext d
  show Ideal.ofBits .f32 0x3F9837F0#32 * x (ix3 s p d) + val_main_v6 (F := Ideal) a n w (ix3 s p d) = _
  refine congrArg (Ideal.ofBits .f32 0x3F9837F0#32 * x (ix3 s p d) + ·) ?_
  rw [val_main_v6_apply]
  refine (sum_halves (n := 512) rfl _).trans (congrArg₂ (· + ·) ?_ ?_)
  · refine Finset.sum_congr rfl fun k _ => congrArg₂ (· * ·) ?_ (matrix_apply w _ _ ⟨k.val, by omega⟩ d rfl rfl)
    exact (congrArg (val_main_v5 (F := Ideal) a n) (by funext c; fin_cases c <;> rfl)).trans (beside_left a n s p k)
  · refine Finset.sum_congr rfl fun k _ => congrArg₂ (· * ·) ?_ (matrix_apply w _ _ ⟨512 + k.val, by omega⟩ d rfl rfl)
    exact (congrArg (val_main_v5 (F := Ideal) a n) (by funext c; fin_cases c <;> rfl)).trans (beside_right a n s p k)

/-- The mixed rows. -/
theorem mixed_eq : val_main_v31 (F := Ideal) x a n w g₂ b₂ = hostNorm (val_main_v7 (F := Ideal) x a n w) g₂ b₂ := rfl

theorem mixed_line (s : Fin 128) (p : Fin 8) :
    line (val_main_v31 (F := Ideal) x a n w g₂ b₂) s p = mixed (line x s p) (line a s p) (line n s p) (inner w) (vct g₂) (vct b₂) := by
  rw [mixed_eq]
  funext d
  refine (hostNorm_apply _ g₂ b₂ s p d).trans ?_
  rw [merged_line]
  rfl

theorem gate_line (s : Fin 128) (p : Fin 8) (h : Fin 2816) : val_main_v39 (F := Ideal) x a n w g₂ b₂ wg (ix3 s p h) = dot (line (val_main_v31 (F := Ideal) x a n w g₂ b₂) s p) fun k => inner wg k h := by
  rw [val_main_v39_apply]
  refine Finset.sum_congr rfl fun k _ => congrArg₂ (· * ·) (congrArg (val_main_v31 (F := Ideal) x a n w g₂ b₂) (funext fun c => by fin_cases c <;> rfl)) ?_
  exact matrix_apply wg _ _ k h rfl rfl

theorem up_line (s : Fin 128) (p : Fin 8) (h : Fin 2816) : val_main_v41 (F := Ideal) x a n w g₂ b₂ wu (ix3 s p h) = dot (line (val_main_v31 (F := Ideal) x a n w g₂ b₂) s p) fun k => inner wu k h := by
  rw [val_main_v41_apply]
  refine Finset.sum_congr rfl fun k _ => congrArg₂ (· * ·) (congrArg (val_main_v31 (F := Ideal) x a n w g₂ b₂) (funext fun c => by fin_cases c <;> rfl)) ?_
  exact matrix_apply wu _ _ k h rfl rfl

theorem gated_line (s : Fin 128) (p : Fin 8) (h : Fin 2816) :
    val_main_v42 (F := Ideal) x a n w g₂ b₂ wg wu (ix3 s p h) = gated (dot (line (val_main_v31 (F := Ideal) x a n w g₂ b₂) s p) fun k => inner wg k h) (dot (line (val_main_v31 (F := Ideal) x a n w g₂ b₂) s p) fun k => inner wu k h) := by
  rw [← gate_line, ← up_line]
  generalize hv : val_main_v39 (F := Ideal) x a n w g₂ b₂ wg (ix3 s p h) = v
  generalize hu : val_main_v41 (F := Ideal) x a n w g₂ b₂ wu (ix3 s p h) = u
  show val_main_v39 (F := Ideal) x a n w g₂ b₂ wg (ix3 s p h) * Ideal.div (Ideal.ofBits .f32 0x3F800000#32) (Ideal.ofBits .f32 0x3F800000#32
    + Ideal.exp (-val_main_v39 (F := Ideal) x a n w g₂ b₂ wg (ix3 s p h))) * val_main_v41 (F := Ideal) x a n w g₂ b₂ wu (ix3 s p h) = _
  rw [hv, hu, Ideal.ofBits_one_f32]
  rfl

theorem feed_line (s : Fin 128) (p : Fin 8) (d : Fin 1024) :
    val_main_v43 (F := Ideal) x a n w g₂ b₂ wg wu wd (ix3 s p d) = part (line (val_main_v31 (F := Ideal) x a n w g₂ b₂) s p) (inner wg) (inner wu) fun h => inner wd h d := by
  rw [val_main_v43_apply]
  refine Finset.sum_congr rfl fun h _ => congrArg₂ (· * ·) ?_ ?_
  · refine (congrArg (val_main_v42 (F := Ideal) x a n w g₂ b₂ wg wu) (?_ : _ = ix3 s p h)).trans (gated_line x a n w g₂ b₂ wg wu s p h)
    funext c; fin_cases c <;> rfl
  · exact matrix_apply wd _ _ h d rfl rfl

theorem stepped_line (s : Fin 128) (p : Fin 8) :
    line (val_main_v46 (F := Ideal) x a n w g₂ b₂ wg wu wd) s p = stepped (line (val_main_v31 (F := Ideal) x a n w g₂ b₂) s p) fun d => part (line (val_main_v31 (F := Ideal) x a n w g₂ b₂) s p) (inner wg) (inner wu) fun h => inner wd h d := by
  funext d
  show Ideal.ofBits .f32 0x3F9837F0#32 * (val_main_v31 (F := Ideal) x a n w g₂ b₂) (ix3 s p d) + Ideal.ofBits .f32 0x3F000000#32 * val_main_v43 (F := Ideal) x a n w g₂ b₂ wg wu wd (ix3 s p d) = _
  rw [feed_line]
  rfl

theorem normed_eq : val_main_v70 (F := Ideal) x a n w g₂ b₂ wg wu wd g b = hostNorm (val_main_v46 (F := Ideal) x a n w g₂ b₂ wg wu wd) g b := rfl

/-- The mixing and the half-step of every token. -/
theorem reference_eq : val_main_v71 (F := Ideal) x a n w g₂ b₂ wg wu wd g b = secondStep x a n w g₂ b₂ wg wu wd g b := by
  funext y
  refine (rows_apply _ _ y (y 0) (y 1) rfl rfl).trans ?_
  rw [normed_eq]
  refine (hostNorm_apply _ g b _ _ _).trans ?_
  rw [stepped_line, mixed_line]
  rfl

end Ffn.Sample
-- ==== Proof.RotarySample.lean ====
/-
  The input projection of the sampled tokens over the extended reals: 128 sequences of 8 tokens, whose 8 positions share the
  rotary tables' rows.
-/
module

public import proofs.«01_k».proof.Proof.Rotary
public import proofs.«01_k».proof.Proof.FfnSample

@[expose] public section

noncomputable section

namespace Inp.Sample

open Idealize.ShloMosaic Idealize.ShloMosaic.ValueIdx
open Ffn (dot)

/-! ## The tables of all 1024 rows -/

abbrev Tab : Shape := ⟨2, ![1024, 8]⟩
abbrev Rest : Shape := ⟨2, ![1024, 48]⟩
abbrev Head : Shape := ⟨2, ![1024, 64]⟩
abbrev Lanes : Shape := ⟨2, ![1024, 128]⟩

/-- Three tables side by side. -/
theorem three_apply (x y : Tab.Idx → EReal) (z : Rest.Idx → EReal) (h : Shape.Concatenates [Tab, Tab, Rest] Head 1) (p : Fin 1024) (d : Fin 64) (w : EReal)
    (hz : ∀ e, z (ix2 p e) = w) :
    concatenate Head 1 [⟨Tab, x⟩, ⟨Tab, y⟩, ⟨Rest, z⟩] h (ix2 p d) = three (fun e => x (ix2 p e)) (fun e => y (ix2 p e)) w d := by
  unfold three
  by_cases h1 : d.val < 8
  · rw [dif_pos h1]
    exact piece_apply [⟨Tab, x⟩, ⟨Tab, y⟩, ⟨Rest, z⟩] h 0 (by simp) x rfl 0 rfl p d ⟨d.val, h1⟩ (Nat.zero_add _)
  · rw [dif_neg h1]
    by_cases h2 : d.val < 16
    · rw [dif_pos h2]
      exact piece_apply [⟨Tab, x⟩, ⟨Tab, y⟩, ⟨Rest, z⟩] h 1 (by simp) y rfl 8 rfl p d ⟨d.val - 8, by omega⟩ (by show 8 + (d.val - 8) = d.val; omega)
    · rw [dif_neg h2]
      exact (piece_apply [⟨Tab, x⟩, ⟨Tab, y⟩, ⟨Rest, z⟩] h 2 (by simp) z rfl 16 rfl p d ⟨d.val - 16, by omega⟩ (by show 16 + (d.val - 16) = d.val; omega)).trans (hz _)

/-- A table of 64 columns repeated over the two heads of a slab. -/
def twice (h1 : Head.ShapeCasts ⟨4, ![1, 1024, 1, 64]⟩) (h2 : (⟨4, ![1, 1024, 1, 64]⟩ : Shape).BroadcastsInDim ⟨4, ![1, 1024, 2, 64]⟩ ![0, 1, 2, 3])
    (h3 : (⟨4, ![1, 1024, 2, 64]⟩ : Shape).ShapeCasts Lanes) (x : Head.Idx → EReal) : Lanes.Idx → EReal :=
  shapeCast Lanes (broadcastInDim ⟨4, ![1, 1024, 2, 64]⟩ ![0, 1, 2, 3] h2 (shapeCast ⟨4, ![1, 1024, 1, 64]⟩ x h1)) h3

theorem twice_apply (h1 : Head.ShapeCasts ⟨4, ![1, 1024, 1, 64]⟩) (h2 : (⟨4, ![1, 1024, 1, 64]⟩ : Shape).BroadcastsInDim ⟨4, ![1, 1024, 2, 64]⟩ ![0, 1, 2, 3])
    (h3 : (⟨4, ![1, 1024, 2, 64]⟩ : Shape).ShapeCasts Lanes) (x : Head.Idx → EReal) (p : Fin 1024) (l : Fin 128) : twice h1 h2 h3 x (ix2 p l) = x (ix2 p (off l.val)) := by
  unfold twice
  refine (shapeCast_apply _ _ _ (ix4 0 p ⟨l.val / 64, by omega⟩ (off l.val)) ?_).trans ?_
  · rw [Shape.rowMajor_val_four, Shape.rowMajor_val_two]
    show ((0 * 1024 + p.val) * 2 + l.val / 64) * 64 + l.val % 64 = p.val * 128 + l.val
    omega
  refine (broadcastInDim_apply _ _ _ _ (ix4 0 p 0 (off l.val)) (fun k => by fin_cases k <;> rfl)).trans ?_
  refine shapeCast_apply _ _ _ (ix2 p (off l.val)) ?_
  rw [Shape.rowMajor_val_four, Shape.rowMajor_val_two]
  show p.val * 64 + l.val % 64 = ((0 * 1024 + p.val) * 1 + 0) * 64 + l.val % 64
  omega

/-! ## The arrays -/

abbrev Turns : Shape := ⟨2, ![8, 8]⟩

/-- Token `p` of batch `b` against column `j` of the weights. -/
def col (x : Ffn.Sample.Toks.Idx → EReal) (w : Win.Idx → EReal) (b : Fin 128) (p : Fin 8) (j : Fin 3408) : EReal :=
  dot (fun k : Fin 1024 => x (ix3 b p k)) fun k => w (ix3 0 k j)

/-- That token's rotary embedding of the head whose columns begin at `o`. -/
def emb (C S : Turns.Idx → EReal) (x : Ffn.Sample.Toks.Idx → EReal) (w : Win.Idx → EReal) (b : Fin 128) (p : Fin 8) (o : Fin 3345) (d : Fin 64) : EReal :=
  rope (fun e => C (ix2 p e)) (fun e => S (ix2 p e)) (fun e => col x w b p ⟨o.val + e.val, by omega⟩) d

/-- A flat row's batch and token. -/
abbrev bat (i : Fin 1024) : Fin 128 := ⟨i.val / 8, by omega⟩
abbrev pos (i : Fin 1024) : Fin 8 := ⟨i.val % 8, by omega⟩

variable (C S : Turns.Idx → EReal) (x : Ffn.Sample.Toks.Idx → EReal) (w : Win.Idx → EReal)

/-- The embedded heads whose columns begin at `o`, `n` columns of them. -/
def heads (n o : ℕ) (hn : n % 64 = 0) (ho : o + n ≤ 3408) : (⟨2, ![1024, n]⟩ : Shape).Idx → EReal := fun i =>
  emb C S x w (bat (i 0)) (pos (i 0)) ⟨o + (i 1).val / 64 * 64, by have : (i 1).val < n := (i 1).isLt; omega⟩ (off (i 1).val)

/-- The `n` columns from `o`. -/
def cols (n o : ℕ) (ho : o + n ≤ 3408) : (⟨2, ![1024, n]⟩ : Shape).Idx → EReal := fun i =>
  col x w (bat (i 0)) (pos (i 0)) ⟨o + (i 1).val, by have : (i 1).val < n := (i 1).isLt; omega⟩

/-- The small array: the indexer's eight weights scaled, the eight gates, and zeros. -/
def small : (⟨2, ![1024, 128]⟩ : Shape).Idx → EReal := fun i =>
  if h : (i 1).val < 8 then col x w (bat (i 0)) (pos (i 0)) ⟨1344 + (i 1).val, by omega⟩ * Ideal.ofBits .f32 0x3EB504F3#32
  else if h' : (i 1).val < 16 then col x w (bat (i 0)) (pos (i 0)) ⟨3392 + (i 1).val, by omega⟩
  else 0

variable {C S x w}

theorem heads_at {n o : ℕ} {hn : n % 64 = 0} {ho : o + n ≤ 3408} (i : (⟨2, ![1024, n]⟩ : Shape).Idx) (f : Fin 1024) (l : Fin n) (h0 : (i 0).val = f.val)
    (h1 : (i 1).val = l.val) : heads C S x w n o hn ho i = emb C S x w (bat f) (pos f) ⟨o + l.val / 64 * 64, by omega⟩ (off l.val) := by
  have ef : (i 0) = f := Fin.ext h0
  have el : (i 1) = l := Fin.ext h1
  unfold heads
  rw [ef]
  simp only [el]

theorem cols_at {n o : ℕ} {ho : o + n ≤ 3408} (i : (⟨2, ![1024, n]⟩ : Shape).Idx) (f : Fin 1024) (l : Fin n) (h0 : (i 0).val = f.val)
    (h1 : (i 1).val = l.val) : cols x w n o ho i = col x w (bat f) (pos f) ⟨o + l.val, by omega⟩ := by
  have ef : (i 0) = f := Fin.ext h0
  have el : (i 1) = l := Fin.ext h1
  unfold cols
  rw [ef]
  simp only [el]

theorem small_at (i : (⟨2, ![1024, 128]⟩ : Shape).Idx) (f : Fin 1024) (l : Fin 128) (h0 : (i 0).val = f.val)
    (h1 : (i 1).val = l.val) : small x w i = if h : l.val < 8 then col x w (bat f) (pos f) ⟨1344 + l.val, by omega⟩ * Ideal.ofBits .f32 0x3EB504F3#32
      else if h' : l.val < 16 then col x w (bat f) (pos f) ⟨3392 + l.val, by omega⟩ else 0 := by
  have ef : (i 0) = f := Fin.ext h0
  have el : (i 1) = l := Fin.ext h1
  unfold small
  rw [ef]
  simp only [el]

end Inp.Sample
-- ==== Proof.RotarySampleKernel.lean ====
/-
  The kernel of the sampled tokens' input projection: its windows' blocks over its grid, and the arrays its host code prepares for them.
-/
module

public import proofs.«01_k».proof.Proof.RotarySample
public import proofs.«01_k».proof.Proof.Gen.Kernel6Ideal.Value
public import proofs.«01_k».proof.Proof.Gen.Reference6Ideal.Read
public import Idealize.ShloMosaic.Lib.Pipeline.ValueKit.Geometry
public import Idealize.ShloMosaic.Lib.Pipeline.ValueKit.Acc
public import Idealize.ShloMosaic.Lib.Claim

@[expose] public section

set_option maxRecDepth 16384

noncomputable section

namespace Inp.Sample.Kernel

open Idealize.ShloMosaic Idealize.ShloMosaic.TcCoe Idealize.SL.Sem
open Idealize.ShloMosaic.Pipeline (Dat)
open Idealize.ShloMosaic.ValueIdx
open Cert.Kernel6Ideal Cert.Kernel6Ideal.Gen
open Ffn (dot)

variable (m : (ℓ : Loc nD τ sig) → Buf (Elt Ideal) ℓ) (c : Dev nD)

/-- The arguments, as arrays. -/
abbrev argX : Ffn.Sample.Toks.Idx → EReal := m ((c : Thread nD τ).loc main_arg0)
abbrev argW : Win.Idx → EReal := m ((c : Thread nD τ).loc main_arg1)

/-- The angles' cosines and sines. -/
abbrev cosT : Turns.Idx → EReal := Cert.Reference6Ideal.Read.val_main_v28 (F := Ideal)
abbrev sinT : Turns.Idx → EReal := Cert.Reference6Ideal.Read.val_main_v30 (F := Ideal)

/-- The windows' index maps. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![t.val, 0] ∧ win0_7.index t = ![t.val, 0] ∧ win0_8.index t = ![t.val, 0] :=
  (by decide +kernel : ∀ t : Fin grid0.N, _)

theorem idxOut : ∀ t : Fin cfg0.N, win0_9.index t = ![t.val, 0] ∧ win0_10.index t = ![t.val, 0] ∧ win0_11.index t = ![t.val, 0]
    ∧ win0_12.index t = ![t.val, 0] ∧ win0_13.index t = ![t.val, 0] ∧ win0_14.index t = ![t.val, 0] ∧ win0_15.index t = ![t.val, 0]
    ∧ win0_16.index t = ![t.val, 0] :=
  (by decide +kernel : ∀ t : Fin grid0.N, _)

/-- Row `r` of the block at point `t`, its sequence and its token. -/
abbrev tokAt (t : Fin cfg0.N) (r : Fin 512) : Fin 1024 := ⟨t.val * 512 + r.val, by have : t.val < 2 := t.isLt; omega⟩
abbrev bt (t : Fin cfg0.N) (r : Fin 512) : Fin 128 := bat (tokAt t r)
abbrev ps (t : Fin cfg0.N) (r : Fin 512) : Fin 8 := pos (tokAt t r)

/-! ## What the region finds in the arrays the blocks are read from -/

/-- The weights as a matrix, and columns of them. -/
abbrev mat : S1024x3408.Idx → EReal := shapeCast S1024x3408 (argW m c) shapeCasts_S1x1024x3408_S1024x3408

theorem cut_apply {n o : ℕ} (ho : o + n ≤ 3408) (h : S1024x3408.Slices ![0, o] ⟨2, ![1024, n]⟩) (k : Fin 1024) (j : Fin n) :
    extractStridedSlice ⟨2, ![1024, n]⟩ ![0, o] (mat m c) h (ix2 k j) = argW m c (ix3 0 k ⟨o + j.val, by omega⟩) := by
  refine (extractStridedSlice_apply _ _ _ _ (ix2 k ⟨o + j.val, by omega⟩) fun a => ?_).trans ?_
  · fin_cases a
    · show k.val = 0 + k.val; omega
    · rfl
  · exact Ffn.matrix_apply _ _ _ _ _ rfl rfl

theorem V_x : (V m c main_v6 : S1024x1024.Idx → EReal) = shapeCast S1024x1024 (argX m c) shapeCasts_S128x8x1024_S1024x1024 := rfl

/-- The five groups of columns side by side: the queries, the indexer's queries, the keys, the indexer's keys, zeros. -/
abbrev groups : List ((s : Shape) × (s.Idx → EReal)) :=
  [⟨S1024x512, extractStridedSlice S1024x512 ![0, 0] (mat m c) slices_S1024x3408_S1024x512_0_0⟩,
   ⟨S1024x512, extractStridedSlice S1024x512 ![0, 768] (mat m c) slices_S1024x3408_S1024x512_0_768⟩,
   ⟨S1024x128, extractStridedSlice S1024x128 ![0, 512] (mat m c) slices_S1024x3408_S1024x128_0_512⟩,
   ⟨S1024x64, extractStridedSlice S1024x64 ![0, 1280] (mat m c) slices_S1024x3408_S1024x64_0_1280⟩,
   ⟨S1024x64, broadcastInDim S1024x64 ![] bcast_S_S1024x64 (constant (F := Ideal) S_ .f32 0x00000000#32)⟩]

theorem V_wr : (V m c main_v22 : S1024x1280.Idx → EReal) = concatenate S1024x1280 1 (groups m c) concatenates_S1024x512_S1024x512_S1024x128_S1024x64_S1024x64_S1024x1280_d1 := rfl

theorem V_wv : (V m c main_v23 : S1024x128.Idx → EReal) = extractStridedSlice S1024x128 ![0, 640] (mat m c) slices_S1024x3408_S1024x128_0_640 := rfl

/-- The small groups side by side: the indexer's weights, the two kinds of gates, zeros. -/
abbrev gates : List ((s : Shape) × (s.Idx → EReal)) :=
  [⟨S1024x8, extractStridedSlice S1024x8 ![0, 1344] (mat m c) slices_S1024x3408_S1024x8_0_1344⟩,
   ⟨S1024x4, extractStridedSlice S1024x4 ![0, 3400] (mat m c) slices_S1024x3408_S1024x4_0_3400⟩,
   ⟨S1024x4, extractStridedSlice S1024x4 ![0, 3404] (mat m c) slices_S1024x3408_S1024x4_0_3404⟩,
   ⟨S1024x112, broadcastInDim S1024x112 ![] bcast_S_S1024x112 (constant (F := Ideal) S_ .f32 0x00000000#32)⟩]

theorem V_ws : (V m c main_v24 : S1024x128.Idx → EReal) = concatenate S1024x128 1 (gates m c) concatenates_S1024x8_S1024x4_S1024x4_S1024x112_S1024x128_d1 := rfl

theorem V_wqkv : (V m c main_v25 : S1024x1536.Idx → EReal) = extractStridedSlice S1024x1536 ![0, 1352] (mat m c) slices_S1024x3408_S1024x1536_0_1352 := rfl
theorem V_wz : (V m c main_v26 : S1024x512.Idx → EReal) = extractStridedSlice S1024x512 ![0, 2888] (mat m c) slices_S1024x3408_S1024x512_0_2888 := rfl

abbrev both (x : Head.Idx → EReal) : Lanes.Idx → EReal := twice shapeCasts_S1024x64_S1x1024x1x64 bcast_S1x1024x1x64_S1x1024x2x64_0_1_2_3 shapeCasts_S1x1024x2x64_S1024x128 x
abbrev fill8 (v : BitVec 32) : Tab.Idx → EReal := broadcastInDim S1024x8 ![] bcast_S_S1024x8 (constant (F := Ideal) S_ .f32 v)
abbrev fill48 (v : BitVec 32) : Rest.Idx → EReal := broadcastInDim S1024x48 ![] bcast_S_S1024x48 (constant (F := Ideal) S_ .f32 v)

/-- The positions of all rows, their angles, and the angles' cosines and sines, as the host code writes them. -/
def count : S1024.Idx → BitVec 32 :=
  shapeCast S1024 (broadcastInDim S128x8 ![0, 1] bcast_S1x8_S128x8_0_1 (shapeCast S1x8 (Cert.Reference6Ideal.Read.val_main_v3 (F := Ideal)) shapeCasts_S8_S1x8)) shapeCasts_S128x8_S1024
def left : FVec Ideal S1024x8 .f32 :=
  broadcastInDim S1024x8 ![0, 1] bcast_S1024x1_S1024x8_0_1 (broadcastInDim S1024x1 ![0] bcast_S1024_S1024x1_0 (sitofp (F := Ideal) .f32 count))
def right : FVec Ideal S1024x8 .f32 :=
  broadcastInDim S1024x8 ![0, 1] bcast_S1x8_S1024x8_0_1 (broadcastInDim S1x8 ![1] bcast_S8_S1x8_1 (Cert.Reference6Ideal.Read.val_main_v21 (F := Ideal)))
def angK : FVec Ideal S1024x8 .f32 := mulf left right
def cosK : Tab.Idx → EReal := Host.cos angK
def sinK : Tab.Idx → EReal := Host.sin angK

theorem V_cos : (V m c main_v50 : S1024x128.Idx → EReal) = both (concatenate Head 1 [⟨Tab, cosK⟩, ⟨Tab, cosK⟩, ⟨Rest, fill48 0x3F800000#32⟩] concatenates_S1024x8_S1024x8_S1024x48_S1024x64_d1) := rfl
theorem V_low : (V m c main_v53 : S1024x128.Idx → EReal)
    = both (concatenate Head 1 [⟨Tab, fun i => -sinK i⟩, ⟨Tab, fill8 0x00000000#32⟩, ⟨Rest, fill48 0x00000000#32⟩] concatenates_S1024x8_S1024x8_S1024x48_S1024x64_d1) := rfl
theorem V_high : (V m c main_v56 : S1024x128.Idx → EReal)
    = both (concatenate Head 1 [⟨Tab, fill8 0x00000000#32⟩, ⟨Tab, sinK⟩, ⟨Rest, fill48 0x00000000#32⟩] concatenates_S1024x8_S1024x8_S1024x48_S1024x64_d1) := rfl

/-! ## The angles -/

theorem count_at (f : Fin 1024) : count (ix1 f) = Cert.Reference6Ideal.Read.val_main_v3 (F := Ideal) (ix1 (pos f)) := by
  unfold count
  generalize Cert.Reference6Ideal.Read.val_main_v3 (F := Ideal) = y
  refine (shapeCast_apply _ _ _ (ix2 (bat f) (pos f)) ?_).trans ?_
  · rw [Shape.rowMajor_val_two, Shape.rowMajor_val_one]
    show f.val / 8 * 8 + f.val % 8 = f.val
    omega
  refine (broadcastInDim_apply _ _ _ _ (ix2 (0 : Fin 1) (pos f)) (fun k => by fin_cases k <;> rfl)).trans ?_
  refine shapeCast_apply _ _ _ (ix1 (pos f)) ?_
  rw [Shape.rowMajor_val_two, Shape.rowMajor_val_one]
  show f.val % 8 = 0 * 8 + f.val % 8
  omega

theorem left_at (f : Fin 1024) (e : Fin 8) : left (ix2 f e) = Cert.Reference6Ideal.Read.val_main_v25 (F := Ideal) (ix2 (pos f) e) := by
  unfold left
  refine (broadcastInDim_apply _ _ _ _ (ix2 f (0 : Fin 1)) (fun k => by fin_cases k <;> rfl)).trans ?_
  refine (broadcastInDim_apply _ _ _ _ (ix1 f) (fun k => by fin_cases k; rfl)).trans ?_
  refine Eq.trans ?_ (Cert.Reference6Ideal.Read.val_main_v25_apply (F := Ideal) _).symm
  refine Eq.trans ?_ (Cert.Reference6Ideal.Read.val_main_v23_apply (F := Ideal) _).symm
  refine Eq.trans ?_ (Cert.Reference6Ideal.Read.val_main_v22_apply (F := Ideal) _).symm
  refine congrArg (FloatOps.sitofp (F := Ideal) .f32) ((count_at f).trans (congrArg _ ?_))
  funext a; fin_cases a; rfl

theorem right_at (f : Fin 1024) (e : Fin 8) : right (ix2 f e) = Cert.Reference6Ideal.Read.val_main_v26 (F := Ideal) (ix2 (pos f) e) := by
  unfold right
  refine (broadcastInDim_apply _ _ _ _ (ix2 (0 : Fin 1) e) (fun k => by fin_cases k <;> rfl)).trans ?_
  refine (broadcastInDim_apply _ _ _ _ (ix1 e) (fun k => by fin_cases k; rfl)).trans ?_
  refine Eq.trans ?_ (Cert.Reference6Ideal.Read.val_main_v26_apply (F := Ideal) _).symm
  refine Eq.trans ?_ (Cert.Reference6Ideal.Read.val_main_v24_apply (F := Ideal) _).symm
  refine congrArg _ ?_
  funext a; fin_cases a; rfl

theorem angK_at (f : Fin 1024) (e : Fin 8) : angK (ix2 f e) = Cert.Reference6Ideal.Read.val_main_v27 (F := Ideal) (ix2 (pos f) e) :=
  congrArg₂ (· * ·) (left_at f e) (right_at f e)

/-- A row's cosines and sines are its position's. -/
theorem cosK_at (f : Fin 1024) (e : Fin 8) : cosK (ix2 f e) = cosT (ix2 (pos f) e) :=
  congrArg (FloatOps.hostUnary (F := Ideal) (φ := .f32) .cos) (angK_at f e)

theorem sinK_at (f : Fin 1024) (e : Fin 8) : sinK (ix2 f e) = sinT (ix2 (pos f) e) :=
  congrArg (FloatOps.hostUnary (F := Ideal) (φ := .f32) .sin) (angK_at f e)

end Inp.Sample.Kernel
-- ==== Proof.RotarySampleBlock.lean ====
/-
  The kernel of the sampled tokens' input projection: its blocks and its body, read at an entry.
-/
module

public import proofs.«01_k».proof.Proof.RotarySampleKernel

@[expose] public section

set_option maxRecDepth 16384

noncomputable section

namespace Inp.Sample.Kernel

open Idealize.ShloMosaic Idealize.ShloMosaic.TcCoe Idealize.SL.Sem
open Idealize.ShloMosaic.Pipeline (Dat)
open Idealize.ShloMosaic.ValueIdx
open Cert.Kernel6Ideal Cert.Kernel6Ideal.Gen
open Ffn (dot)

variable (m : (ℓ : Loc nD τ sig) → Buf (Elt Ideal) ℓ) (c : Dev nD)

/-! ## The blocks -/

theorem x_at (t : Fin cfg0.N) (r : Fin 512) (k : Fin 1024) : (show Vec Ideal S512x1024 .f32 from iblk m c 0 t) (ix2 r k) = argX m c (ix3 (bt t r) (ps t r) k) := by
  show (V m c main_v6 : S1024x1024.Idx → EReal) (((cfg0.win 0).blk t).view.emb (ix2 r k)) = _
  rw [V_x]
  refine Ffn.Sample.rows_apply _ _ _ (tokAt t r) k ?_ ?_
  · blk_simp [idx t]
  · blk_simp [idx t]

/-- Where a column of the grouped weights comes from. -/
def Src (a b : ℕ) : Prop := a < 512 ∧ b = a ∨ (512 ≤ a ∧ a < 1024) ∧ b = a + 256 ∨ (1024 ≤ a ∧ a < 1152) ∧ b + 512 = a ∨ (1152 ≤ a ∧ a < 1216) ∧ b = a + 128

theorem wr_at (t : Fin cfg0.N) (k : Fin 1024) (j : Fin 1280) (J : Fin 3408) (h : Src j.val J.val) :
    (show Vec Ideal S1024x1280 .bf16 from iblk m c 1 t) (ix2 k j) = argW m c (ix3 0 k J) := by
  show (V m c main_v22 : S1024x1280.Idx → EReal) (((cfg0.win 1).blk t).view.emb (ix2 k j)) = _
  rw [show ((cfg0.win 1).blk t).view.emb (ix2 k j) = (ix2 k j : S1024x1280.Idx) from by
    funext a; apply Fin.ext; fin_cases a <;> blk_simp [idx t], V_wr]
  rcases h with ⟨h1, h2⟩ | ⟨h1, h2⟩ | ⟨h1, h2⟩ | ⟨h1, h2⟩
  · refine (piece_apply (groups m c) _ 0 (by simp) _ rfl 0 rfl k j (⟨j.val, h1⟩ : Fin 512) (Nat.zero_add _)).trans ((cut_apply m c (by omega) _ _ _).trans ?_)
    exact congrArg (fun J => argW m c (ix3 0 k J)) (Fin.ext (by show 0 + j.val = J.val; omega))
  · refine (piece_apply (groups m c) _ 1 (by simp) _ rfl 512 rfl k j (⟨j.val - 512, by omega⟩ : Fin 512) (by show 512 + (j.val - 512) = j.val; omega)).trans ((cut_apply m c (by omega) _ _ _).trans ?_)
    exact congrArg (fun J => argW m c (ix3 0 k J)) (Fin.ext (by show 768 + (j.val - 512) = J.val; omega))
  · refine (piece_apply (groups m c) _ 2 (by simp) _ rfl 1024 rfl k j (⟨j.val - 1024, by omega⟩ : Fin 128) (by show 1024 + (j.val - 1024) = j.val; omega)).trans ((cut_apply m c (by omega) _ _ _).trans ?_)
    exact congrArg (fun J => argW m c (ix3 0 k J)) (Fin.ext (by show 512 + (j.val - 1024) = J.val; omega))
  · refine (piece_apply (groups m c) _ 3 (by simp) _ rfl 1152 rfl k j (⟨j.val - 1152, by omega⟩ : Fin 64) (by show 1152 + (j.val - 1152) = j.val; omega)).trans ((cut_apply m c (by omega) _ _ _).trans ?_)
    exact congrArg (fun J => argW m c (ix3 0 k J)) (Fin.ext (by show 1280 + (j.val - 1152) = J.val; omega))

theorem wv_at (t : Fin cfg0.N) (k : Fin 1024) (j : Fin 128) :
    (show Vec Ideal S1024x128 .bf16 from iblk m c 2 t) (ix2 k j) = argW m c (ix3 0 k ⟨640 + j.val, by omega⟩) := by
  show (V m c main_v23 : S1024x128.Idx → EReal) (((cfg0.win 2).blk t).view.emb (ix2 k j)) = _
  rw [show ((cfg0.win 2).blk t).view.emb (ix2 k j) = (ix2 k j : S1024x128.Idx) from by
    funext a; apply Fin.ext; fin_cases a <;> blk_simp [idx t], V_wv]
  exact cut_apply m c (by omega) _ _ _

theorem wqkv_at (t : Fin cfg0.N) (k : Fin 1024) (j : Fin 1536) :
    (show Vec Ideal S1024x1536 .bf16 from iblk m c 4 t) (ix2 k j) = argW m c (ix3 0 k ⟨1352 + j.val, by omega⟩) := by
  show (V m c main_v25 : S1024x1536.Idx → EReal) (((cfg0.win 4).blk t).view.emb (ix2 k j)) = _
  rw [show ((cfg0.win 4).blk t).view.emb (ix2 k j) = (ix2 k j : S1024x1536.Idx) from by
    funext a; apply Fin.ext; fin_cases a <;> blk_simp [idx t], V_wqkv]
  exact cut_apply m c (by omega) _ _ _

theorem wz_at (t : Fin cfg0.N) (k : Fin 1024) (j : Fin 512) :
    (show Vec Ideal S1024x512 .bf16 from iblk m c 5 t) (ix2 k j) = argW m c (ix3 0 k ⟨2888 + j.val, by omega⟩) := by
  show (V m c main_v26 : S1024x512.Idx → EReal) (((cfg0.win 5).blk t).view.emb (ix2 k j)) = _
  rw [show ((cfg0.win 5).blk t).view.emb (ix2 k j) = (ix2 k j : S1024x512.Idx) from by
    funext a; apply Fin.ext; fin_cases a <;> blk_simp [idx t], V_wz]
  exact cut_apply m c (by omega) _ _ _

theorem ws_at (t : Fin cfg0.N) (k : Fin 1024) (j : Fin 128) :
    (show Vec Ideal S1024x128 .bf16 from iblk m c 3 t) (ix2 k j) = if h : j.val < 8 then argW m c (ix3 0 k ⟨1344 + j.val, by omega⟩)
      else if h' : j.val < 16 then argW m c (ix3 0 k ⟨3392 + j.val, by omega⟩) else 0 := by
  show (V m c main_v24 : S1024x128.Idx → EReal) (((cfg0.win 3).blk t).view.emb (ix2 k j)) = _
  rw [show ((cfg0.win 3).blk t).view.emb (ix2 k j) = (ix2 k j : S1024x128.Idx) from by
    funext a; apply Fin.ext; fin_cases a <;> blk_simp [idx t], V_ws]
  by_cases h : j.val < 8
  · rw [dif_pos h]
    exact (piece_apply (gates m c) _ 0 (by simp) _ rfl 0 rfl k j (⟨j.val, h⟩ : Fin 8) (Nat.zero_add _)).trans (cut_apply m c (by omega) _ _ _)
  rw [dif_neg h]
  by_cases h' : j.val < 16
  · rw [dif_pos h']
    by_cases h2 : j.val < 12
    · refine (piece_apply (gates m c) _ 1 (by simp) _ rfl 8 rfl k j (⟨j.val - 8, by omega⟩ : Fin 4) (by show 8 + (j.val - 8) = j.val; omega)).trans ((cut_apply m c (by omega) _ _ _).trans ?_)
      exact congrArg (fun J => argW m c (ix3 0 k J)) (Fin.ext (by show 3400 + (j.val - 8) = 3392 + j.val; omega))
    · refine (piece_apply (gates m c) _ 2 (by simp) _ rfl 12 rfl k j (⟨j.val - 12, by omega⟩ : Fin 4) (by show 12 + (j.val - 12) = j.val; omega)).trans ((cut_apply m c (by omega) _ _ _).trans ?_)
      exact congrArg (fun J => argW m c (ix3 0 k J)) (Fin.ext (by show 3404 + (j.val - 12) = 3392 + j.val; omega))
  rw [dif_neg h']
  refine (piece_apply (gates m c) _ 3 (by simp) _ rfl 16 rfl k j (⟨j.val - 16, by omega⟩ : Fin 112) (by show 16 + (j.val - 16) = j.val; omega)).trans ?_
  exact Ideal.ofBits_zero_f32

/-- The cosines and sines of the token of a row. -/
abbrev cs (t : Fin cfg0.N) (r : Fin 512) : Fin 8 → EReal := fun e => cosT (ix2 (ps t r) e)
abbrev sn (t : Fin cfg0.N) (r : Fin 512) : Fin 8 → EReal := fun e => sinT (ix2 (ps t r) e)

theorem cos_at (t : Fin cfg0.N) (r : Fin 512) (l : Fin 128) : (show Vec Ideal S512x128 .f32 from iblk m c 6 t) (ix2 r l) = cosRow (cs t r) (off l.val) := by
  show (V m c main_v50 : S1024x128.Idx → EReal) (((cfg0.win 6).blk t).view.emb (ix2 r l)) = _
  rw [show ((cfg0.win 6).blk t).view.emb (ix2 r l) = (ix2 (tokAt t r) l : S1024x128.Idx) from by
    funext a; apply Fin.ext; fin_cases a <;> blk_simp [idx t], V_cos]
  refine (twice_apply _ _ _ _ _ _).trans ((three_apply _ _ _ _ _ _ 1 fun e => Ideal.ofBits_one_f32).trans ?_)
  exact congrArg (fun u => three u u 1 (off l.val)) (funext fun e => cosK_at (tokAt t r) e)

theorem low_at (t : Fin cfg0.N) (r : Fin 512) (l : Fin 128) : (show Vec Ideal S512x128 .f32 from iblk m c 7 t) (ix2 r l) = lowRow (sn t r) (off l.val) := by
  show (V m c main_v53 : S1024x128.Idx → EReal) (((cfg0.win 7).blk t).view.emb (ix2 r l)) = _
  rw [show ((cfg0.win 7).blk t).view.emb (ix2 r l) = (ix2 (tokAt t r) l : S1024x128.Idx) from by
    funext a; apply Fin.ext; fin_cases a <;> blk_simp [idx t], V_low]
  refine (twice_apply _ _ _ _ _ _).trans ((three_apply _ _ _ _ _ _ 0 fun e => Ideal.ofBits_zero_f32).trans ?_)
  exact congrArg₂ (fun u v => three u v 0 (off l.val)) (funext fun e => congrArg Neg.neg (sinK_at (tokAt t r) e)) (funext fun e => Ideal.ofBits_zero_f32)

theorem high_at (t : Fin cfg0.N) (r : Fin 512) (l : Fin 128) : (show Vec Ideal S512x128 .f32 from iblk m c 8 t) (ix2 r l) = highRow (sn t r) (off l.val) := by
  show (V m c main_v56 : S1024x128.Idx → EReal) (((cfg0.win 8).blk t).view.emb (ix2 r l)) = _
  rw [show ((cfg0.win 8).blk t).view.emb (ix2 r l) = (ix2 (tokAt t r) l : S1024x128.Idx) from by
    funext a; apply Fin.ext; fin_cases a <;> blk_simp [idx t], V_high]
  refine (twice_apply _ _ _ _ _ _).trans ((three_apply _ _ _ _ _ _ 0 fun e => Ideal.ofBits_zero_f32).trans ?_)
  exact congrArg₂ (fun u v => three u v 0 (off l.val)) (funext fun e => Ideal.ofBits_zero_f32) (funext fun e => sinK_at (tokAt t r) e)

/-! ## The products -/

theorem all_at (t : Fin cfg0.N) (r : Fin 512) (j : Fin 1280) (J : Fin 3408) (h : Src j.val J.val) :
    k0_pay5 (iblk m c 0 t) (iblk m c 1 t) (ix2 r j) = col (argX m c) (argW m c) (bt t r) (ps t r) J := by
  unfold k0_pay5 k0_pay4
  simp only [shapeCast_self]
  refine (Ffn.matmul_zero_apply _ _ r j).trans ?_
  exact Finset.sum_congr rfl fun k _ => congrArg₂ (· * ·) (x_at m c t r k) (wr_at m c t k j J h)

theorem qkv_at (t : Fin cfg0.N) (r : Fin 512) (j : Fin 1536) :
    k0_pay2 (k0_pay4 (iblk m c 0 t)) (iblk m c 4 t) (ix2 r j) = col (argX m c) (argW m c) (bt t r) (ps t r) ⟨1352 + j.val, by omega⟩ := by
  unfold k0_pay2 k0_pay4
  simp only [shapeCast_self]
  refine (Ffn.matmul_zero_apply _ _ r j).trans ?_
  exact Finset.sum_congr rfl fun k _ => congrArg₂ (· * ·) (x_at m c t r k) (wqkv_at m c t k j)

theorem z_at (t : Fin cfg0.N) (r : Fin 512) (j : Fin 512) :
    k0_pay3 (k0_pay4 (iblk m c 0 t)) (iblk m c 5 t) (ix2 r j) = col (argX m c) (argW m c) (bt t r) (ps t r) ⟨2888 + j.val, by omega⟩ := by
  unfold k0_pay3 k0_pay4
  simp only [shapeCast_self]
  refine (Ffn.matmul_zero_apply _ _ r j).trans ?_
  exact Finset.sum_congr rfl fun k _ => congrArg₂ (· * ·) (x_at m c t r k) (wz_at m c t k j)

theorem v_at (t : Fin cfg0.N) (r : Fin 512) (j : Fin 128) :
    k0_pay21 (k0_pay4 (iblk m c 0 t)) (iblk m c 2 t) (ix2 r j) = col (argX m c) (argW m c) (bt t r) (ps t r) ⟨640 + j.val, by omega⟩ := by
  unfold k0_pay21 k0_pay4
  simp only [shapeCast_self]
  refine (Ffn.matmul_zero_apply _ _ r j).trans ?_
  exact Finset.sum_congr rfl fun k _ => congrArg₂ (· * ·) (x_at m c t r k) (wv_at m c t k j)

theorem small_block (t : Fin cfg0.N) (r : Fin 512) (j : Fin 128) :
    k0_pay1 (k0_pay4 (iblk m c 0 t)) (k0_pay23 (iblk m c 3 t)) (constant S512x128 .f32 0x00000000#32) (ix2 r j)
      = if h : j.val < 8 then col (argX m c) (argW m c) (bt t r) (ps t r) ⟨1344 + j.val, by omega⟩ * Ideal.ofBits .f32 0x3EB504F3#32
        else if h' : j.val < 16 then col (argX m c) (argW m c) (bt t r) (ps t r) ⟨3392 + j.val, by omega⟩ else 0 := by
  have hl : IntOp.cmpi .slt (iota .tc S512x128 32 [1] iota_S512x128_d1_w32 (ix2 r j)) 8#32 = 1#1 ↔ j.val < 8 := by
    rw [iota_single_apply]
    show IntOp.cmpi .slt (BitVec.ofNat 32 j.val) 8#32 = 1#1 ↔ j.val < 8
    revert j; decide
  have hp : matmul (DotDims.plain 512 1024 128) none (show FVec Ideal S512x1024 .bf16 from iblk m c 0 t) (show FVec Ideal S1024x128 .bf16 from iblk m c 3 t)
      (constant S512x128 .f32 0x00000000#32) (ix2 r j) = if h : j.val < 8 then col (argX m c) (argW m c) (bt t r) (ps t r) ⟨1344 + j.val, by omega⟩
        else if h' : j.val < 16 then col (argX m c) (argW m c) (bt t r) (ps t r) ⟨3392 + j.val, by omega⟩ else 0 := by
    refine (Ffn.matmul_zero_apply _ _ r j).trans ?_
    refine (Finset.sum_congr rfl fun k _ => congrArg₂ (· * ·) (x_at m c t r k) (ws_at m c t k j)).trans ?_
    by_cases h : j.val < 8
    · simp only [dif_pos h]; rfl
    by_cases h' : j.val < 16
    · simp only [dif_neg h, dif_pos h']; rfl
    simp only [dif_neg h, dif_neg h', mul_zero, Finset.sum_const_zero]
  unfold k0_pay1 k0_pay4 k0_pay23
  simp only [shapeCast_self]
  refine (if_congr hl (congrArg (· * Ideal.ofBits .f32 0x3EB504F3#32) hp) hp).trans ?_
  by_cases h : j.val < 8
  · simp only [if_pos h, dif_pos h]
  · simp only [if_neg h, dif_neg h]

/-! ## The embedded slabs -/

/-- The slab whose lanes begin at column `o` of the grouped product, turned. -/
abbrev slab (t : Fin cfg0.N) (o : ℕ) (hs : S512x1280.Slices ![0, o] S512x128) : FVec Ideal S512x128 .f32 :=
  turned rotates_S512x128_d1 (extractStridedSlice S512x128 ![0, o] (k0_pay5 (iblk m c 0 t) (iblk m c 1 t)) hs) (iblk m c 6 t) (iblk m c 7 t) (iblk m c 8 t)

theorem slab_at (t : Fin cfg0.N) (o : ℕ) (ho : o + 128 ≤ 1280) (hs : S512x1280.Slices ![0, o] S512x128) (r : Fin 512) (l : Fin 128) (O : Fin 3345) (d : Fin 64)
    (hd : d.val = l.val % 64) (hO : ∀ e : Fin 64, Src (o + (l.val / 64 * 64 + e.val)) (O.val + e.val)) :
    slab m c t o hs (ix2 r l) = emb cosT sinT (argX m c) (argW m c) (bt t r) (ps t r) O d := by
  refine (turned_apply _ _ _ _ _ (cs t r) (sn t r) r l (cos_at m c t r l) (low_at m c t r l) (high_at m c t r l)).trans ?_
  rw [show off l.val = d from Fin.ext hd.symm]
  unfold emb
  refine congrArg (fun a => rope (cs t r) (sn t r) a d) (funext fun e => ?_)
  refine (slab_apply _ o ho hs r _).trans ?_
  exact all_at m c t r _ _ (hO e)

end Inp.Sample.Kernel
-- ==== Proof.RotarySampleOut.lean ====
/-
  The kernel of the sampled tokens' input projection: the eight arrays it leaves.
-/
module

public import proofs.«01_k».proof.Proof.RotarySampleBlock

@[expose] public section

set_option maxRecDepth 16384

noncomputable section

namespace Inp.Sample.Kernel

open Idealize.ShloMosaic Idealize.ShloMosaic.TcCoe Idealize.SL.Sem
open Idealize.ShloMosaic.Pipeline (Dat)
open Idealize.ShloMosaic.ValueIdx
open Cert.Kernel6Ideal Cert.Kernel6Ideal.Gen

variable (m : (ℓ : Loc nD τ sig) → Buf (Elt Ideal) ℓ) (c : Dev nD)

theorem zero2 : (![0, 0] : Fin 2 → ℕ) = fun _ => 0 := by
  funext a; fin_cases a <;> rfl

/-! Each input's buffer is read whole. -/

theorem ld0 (x : Vec Ideal S512x1024 .f32) : View.ld (Val := Elt Ideal) (e' := .f32) x r0_0 = x := View.ld_unit_zero zero2 _ x
theorem ld1 (x : Vec Ideal S1024x1280 .bf16) : View.ld (Val := Elt Ideal) (e' := .bf16) x r0_1 = x := View.ld_unit_zero zero2 _ x
theorem ld2 (x : Vec Ideal S512x128 .f32) : View.ld (Val := Elt Ideal) (e' := .f32) x r0_2 = x := View.ld_unit_zero zero2 _ x
theorem ld7 (x : Vec Ideal S1024x128 .bf16) : View.ld (Val := Elt Ideal) (e' := .bf16) x r0_7 = x := View.ld_unit_zero zero2 _ x
theorem ld9 (x : Vec Ideal S1024x1536 .bf16) : View.ld (Val := Elt Ideal) (e' := .bf16) x r0_9 = x := View.ld_unit_zero zero2 _ x
theorem ld11 (x : Vec Ideal S1024x512 .bf16) : View.ld (Val := Elt Ideal) (e' := .bf16) x r0_11 = x := View.ld_unit_zero zero2 _ x

/-! ## Four slabs side by side -/

/-- Eight embedded heads of the block's tokens, the columns from `O`. -/
def spread (t : Fin cfg0.N) (O : ℕ) (hO : O + 512 ≤ 3408) : S512x512.Idx → EReal := fun y =>
  emb cosT sinT (argX m c) (argW m c) (bt t (y 0)) (ps t (y 0)) ⟨O + (y 1).val / 64 * 64, by have : (y 1).val < 512 := (y 1).isLt; omega⟩ (off (y 1).val)

theorem spread_emb (t : Fin cfg0.N) (O : ℕ) (hO : O + 512 ≤ 3408) (q : ℕ) (hq : 64 * q + 128 ≤ 512)
    (inb : ∀ a, (![0, 64 * q] : Fin 2 → ℕ) a + S512x128.size a ≤ S512x512.size a) (r : Fin 512) (l : Fin 128) :
    spread m c t O hO ((Rect.unit (s := S512x512) ![0, 64 * q] S512x128.size inb).emb (ix2 r l))
      = emb cosT sinT (argX m c) (argW m c) (bt t r) (ps t r) ⟨O + (64 * q + l.val) / 64 * 64, by omega⟩ (off l.val) := by
  have e0 : (Rect.unit (s := S512x512) ![0, 64 * q] S512x128.size inb).emb (ix2 r l) 0 = r := Fin.ext (by
    show 0 + 1 * r.val = r.val; omega)
  have e1 : (Rect.unit (s := S512x512) ![0, 64 * q] S512x128.size inb).emb (ix2 r l) 1 = (⟨64 * q + l.val, by omega⟩ : Fin 512) := Fin.ext (by
    show 64 * q + 1 * l.val = 64 * q + l.val; omega)
  have e2 : off (64 * q + l.val) = off l.val := Fin.ext (by show (64 * q + l.val) % 64 = l.val % 64; omega)
  unfold spread
  rw [e0]
  simp only [e1, e2]

/-- A slab stored at lane `64 * q`. -/
theorem stored (t : Fin cfg0.N) (O : ℕ) (hO : O + 512 ≤ 3408) (q : ℕ) (hq : 64 * q + 128 ≤ 512)
    (inb : ∀ a, (![0, 64 * q] : Fin 2 → ℕ) a + S512x128.size a ≤ S512x512.size a) (o : ℕ) (ho : o + 128 ≤ 1280) (hs : S512x1280.Slices ![0, o] S512x128)
    (h : ∀ a : ℕ, a < 128 → Src (o + a) (O + 64 * q + a)) (p : S512x128.Idx → EReal) (hp : p = slab m c t o hs) (x : S512x128.Idx) :
    p x = spread m c t O hO ((Rect.unit (s := S512x512) ![0, 64 * q] S512x128.size inb).emb x) := by
  rw [hp, show x = ix2 (x 0) (x 1) from eq_ix2 x]
  refine Eq.trans ?_ (spread_emb m c t O hO q hq inb (x 0) (x 1)).symm
  have h1 : (x 1).val < 128 := (x 1).isLt
  refine slab_at m c t o ho hs (x 0) (x 1) _ _ rfl fun e => ?_
  have := h ((x 1).val / 64 * 64 + e.val) (by omega)
  rwa [show O + (64 * q + (x 1).val) / 64 * 64 + e.val = O + 64 * q + ((x 1).val / 64 * 64 + e.val) from by omega]

theorem out9_at (t : Fin cfg0.N) (y : S512x512.Idx) : out0_9 (iblk m c 0 t) (iblk m c 1 t) (iblk m c 2 t) (iblk m c 3 t) (iblk m c 4 t) (iblk m c 5 t) (iblk m c 6 t) (iblk m c 7 t)
    (iblk m c 8 t) y = spread m c t 0 (by omega) y := by
  unfold out0_9 k0_pay28 k0_pay27 k0_pay26 k0_pay25
  simp only [ld0, ld1, ld2, ld7, ld9, ld11]
  refine View.canon_apply_of_pieces (Val := Elt Ideal) (e := .f32) (spread m c t 0 (by omega)) _ ?_ y (cover0_9 (F := Ideal) _ _ _ _ y)
  intro p hp x
  simp only [List.mem_cons, List.mem_nil_iff, or_false] at hp
  rcases hp with rfl | rfl | rfl | rfl
  · refine stored m c t 0 (by omega) 6 (by omega) inb_S512x512_S512x128_0_384 384 (by omega) slices_S512x1280_o0_384_S512x128 (fun a ha => by unfold Src; omega) _ ?_ x
    simp only [k0_pay15, k0_pay6, k0_pay7, k0_pay8, shapeCast_self]; rfl
  · refine stored m c t 0 (by omega) 4 (by omega) inb_S512x512_S512x128_0_256 256 (by omega) slices_S512x1280_o0_256_S512x128 (fun a ha => by unfold Src; omega) _ ?_ x
    simp only [k0_pay14, k0_pay13, k0_pay12, k0_pay11, k0_pay6, k0_pay7, k0_pay8, shapeCast_self]; rfl
  · refine stored m c t 0 (by omega) 2 (by omega) inb_S512x512_S512x128_0_128 128 (by omega) slices_S512x1280_o0_128_S512x128 (fun a ha => by unfold Src; omega) _ ?_ x
    simp only [k0_pay10, k0_pay6, k0_pay7, k0_pay8, shapeCast_self]; rfl
  · refine stored m c t 0 (by omega) 0 (by omega) inb_S512x512_S512x128_0_0 0 (by omega) slices_S512x1280_o0_0_S512x128 (fun a ha => by unfold Src; omega) _ ?_ x
    simp only [k0_pay9, k0_pay6, k0_pay7, k0_pay8, shapeCast_self]; rfl

theorem out10_at (t : Fin cfg0.N) (y : S512x512.Idx) : out0_10 (iblk m c 0 t) (iblk m c 1 t) (iblk m c 2 t) (iblk m c 3 t) (iblk m c 4 t) (iblk m c 5 t) (iblk m c 6 t) (iblk m c 7 t)
    (iblk m c 8 t) y = spread m c t 768 (by omega) y := by
  unfold out0_10 k0_pay28 k0_pay27 k0_pay26 k0_pay25
  simp only [ld0, ld1, ld2, ld7, ld9, ld11]
  refine View.canon_apply_of_pieces (Val := Elt Ideal) (e := .f32) (spread m c t 768 (by omega)) _ ?_ y (cover0_10 (F := Ideal) _ _ _ _ y)
  intro p hp x
  simp only [List.mem_cons, List.mem_nil_iff, or_false] at hp
  rcases hp with rfl | rfl | rfl | rfl
  · refine stored m c t 768 (by omega) 6 (by omega) inb_S512x512_S512x128_0_384 896 (by omega) slices_S512x1280_o0_896_S512x128 (fun a ha => by unfold Src; omega) _ ?_ x
    simp only [k0_pay19, k0_pay6, k0_pay7, k0_pay8, shapeCast_self]; rfl
  · refine stored m c t 768 (by omega) 4 (by omega) inb_S512x512_S512x128_0_256 768 (by omega) slices_S512x1280_o0_768_S512x128 (fun a ha => by unfold Src; omega) _ ?_ x
    simp only [k0_pay18, k0_pay6, k0_pay7, k0_pay8, shapeCast_self]; rfl
  · refine stored m c t 768 (by omega) 2 (by omega) inb_S512x512_S512x128_0_128 640 (by omega) slices_S512x1280_o0_640_S512x128 (fun a ha => by unfold Src; omega) _ ?_ x
    simp only [k0_pay17, k0_pay6, k0_pay7, k0_pay8, shapeCast_self]; rfl
  · refine stored m c t 768 (by omega) 0 (by omega) inb_S512x512_S512x128_0_0 512 (by omega) slices_S512x1280_o0_512_S512x128 (fun a ha => by unfold Src; omega) _ ?_ x
    simp only [k0_pay16, k0_pay6, k0_pay7, k0_pay8, shapeCast_self]; rfl

theorem array9 : (dats m 0 c).arrAt 9 (cfgs 0).N = heads cosT sinT (argX m c) (argW m c) 512 0 (by omega) (by omega) := by
  refine (dats m 0 c).arrAt_eq_of_covers 9 _ (by decide +kernel) fun t _ y => ?_
  blk_simp
  rw [after0_9]
  refine (out9_at m c t y).trans (heads_at _ (tokAt t (y 0)) (y 1) ?_ ?_).symm <;> blk_simp [idxOut t]

theorem array10 : (dats m 0 c).arrAt 10 (cfgs 0).N = heads cosT sinT (argX m c) (argW m c) 512 768 (by omega) (by omega) := by
  refine (dats m 0 c).arrAt_eq_of_covers 10 _ (by decide +kernel) fun t _ y => ?_
  blk_simp
  rw [after0_10]
  refine (out10_at m c t y).trans (heads_at _ (tokAt t (y 0)) (y 1) ?_ ?_).symm <;> blk_simp [idxOut t]

/-! ## The keys' slabs -/

theorem k_at (t : Fin cfg0.N) (r : Fin 512) (l : Fin 128) :
    k0_pay20 (k0_pay5 (iblk m c 0 t) (iblk m c 1 t)) (iblk m c 6 t) (iblk m c 7 t) (iblk m c 8 t) (ix2 r l)
      = emb cosT sinT (argX m c) (argW m c) (bt t r) (ps t r) ⟨512 + l.val / 64 * 64, by omega⟩ (off l.val) := by
  unfold k0_pay20
  refine slab_at m c t 1024 (by omega) slices_S512x1280_o0_1024_S512x128 r l _ _ rfl fun e => ?_
  unfold Src
  have h1 := l.isLt
  have h2 := e.isLt
  right; right; left
  refine ⟨⟨by omega, by omega⟩, ?_⟩
  show 512 + l.val / 64 * 64 + e.val + 512 = _
  omega

theorem ki_at (t : Fin cfg0.N) (r : Fin 512) (l : Fin 64) :
    k0_pay22 (k0_pay5 (iblk m c 0 t) (iblk m c 1 t)) (iblk m c 6 t) (iblk m c 7 t) (iblk m c 8 t) (ix2 r l)
      = emb cosT sinT (argX m c) (argW m c) (bt t r) (ps t r) ⟨1280 + l.val / 64 * 64, by omega⟩ (off l.val) := by
  unfold k0_pay22
  refine (extractStridedSlice_apply _ _ _ _ (ix2 r (⟨l.val, by omega⟩ : Fin 128)) fun a => by fin_cases a <;> simp [ix2]).trans ?_
  refine slab_at m c t 1152 (by omega) slices_S512x1280_o0_1152_S512x128 r (⟨l.val, by omega⟩ : Fin 128) _ _ rfl fun e => ?_
  unfold Src
  have h1 := l.isLt
  have h2 := e.isLt
  right; right; right
  refine ⟨⟨by omega, ?_⟩, ?_⟩
  · show 1152 + (l.val / 64 * 64 + e.val) < 1216
    omega
  · show 1280 + l.val / 64 * 64 + e.val = 1152 + (l.val / 64 * 64 + e.val) + 128
    omega

theorem array11 : (dats m 0 c).arrAt 11 (cfgs 0).N = heads cosT sinT (argX m c) (argW m c) 128 512 (by omega) (by omega) := by
  refine (dats m 0 c).arrAt_eq_of_covers 11 _ (by decide +kernel) fun t _ y => ?_
  blk_simp
  rw [after0_11]
  unfold out0_11 k0_pay28 k0_pay27 k0_pay26 k0_pay25
  simp only [ld0, ld1, ld2, k0_pay6, k0_pay7, k0_pay8, shapeCast_self]
  rw [View.canon_unit_zero zero2, show y = ix2 (y 0) (y 1) from eq_ix2 y]
  refine (k_at m c t (y 0) (y 1)).trans (heads_at _ (tokAt t (y 0)) (y 1) ?_ ?_).symm <;> blk_simp [idxOut t] <;> rfl

theorem array12 : (dats m 0 c).arrAt 12 (cfgs 0).N = heads cosT sinT (argX m c) (argW m c) 64 1280 (by omega) (by omega) := by
  refine (dats m 0 c).arrAt_eq_of_covers 12 _ (by decide +kernel) fun t _ y => ?_
  blk_simp
  rw [after0_12]
  unfold out0_12 k0_pay28 k0_pay27 k0_pay26 k0_pay25
  simp only [ld0, ld1, ld2, k0_pay6, k0_pay7, k0_pay8, shapeCast_self]
  rw [View.canon_unit_zero zero2, show y = ix2 (y 0) (y 1) from eq_ix2 y]
  refine (ki_at m c t (y 0) (y 1)).trans (heads_at _ (tokAt t (y 0)) (y 1) ?_ ?_).symm <;> blk_simp [idxOut t] <;> rfl

/-! ## The flat columns -/

theorem array13 : (dats m 0 c).arrAt 13 (cfgs 0).N = cols (argX m c) (argW m c) 128 640 (by omega) := by
  refine (dats m 0 c).arrAt_eq_of_covers 13 _ (by decide +kernel) fun t _ y => ?_
  blk_simp
  rw [after0_13]
  unfold out0_13 k0_pay24
  simp only [ld0, ld1, ld2, ld7, ld9, ld11]
  rw [View.canon_unit_zero zero2, show y = ix2 (y 0) (y 1) from eq_ix2 y]
  refine (v_at m c t (y 0) (y 1)).trans (cols_at _ (tokAt t (y 0)) (y 1) ?_ ?_).symm <;> blk_simp [idxOut t] <;> rfl

theorem array14 : (dats m 0 c).arrAt 14 (cfgs 0).N = small (argX m c) (argW m c) := by
  refine (dats m 0 c).arrAt_eq_of_covers 14 _ (by decide +kernel) fun t _ y => ?_
  blk_simp
  rw [after0_14]
  unfold out0_14 k0_pay24
  simp only [ld0, ld1, ld2, ld7, ld9, ld11]
  rw [View.canon_unit_zero zero2, show y = ix2 (y 0) (y 1) from eq_ix2 y]
  refine (small_block m c t (y 0) (y 1)).trans (small_at _ (tokAt t (y 0)) (y 1) ?_ ?_).symm <;> blk_simp [idxOut t]

theorem array15 : (dats m 0 c).arrAt 15 (cfgs 0).N = cols (argX m c) (argW m c) 1536 1352 (by omega) := by
  refine (dats m 0 c).arrAt_eq_of_covers 15 _ (by decide +kernel) fun t _ y => ?_
  blk_simp
  rw [after0_15]
  unfold out0_15 k0_pay24
  simp only [ld0, ld1, ld2, ld7, ld9, ld11]
  rw [View.canon_unit_zero zero2, show y = ix2 (y 0) (y 1) from eq_ix2 y]
  refine (qkv_at m c t (y 0) (y 1)).trans (cols_at _ (tokAt t (y 0)) (y 1) ?_ ?_).symm <;> blk_simp [idxOut t] <;> rfl

theorem array16 : (dats m 0 c).arrAt 16 (cfgs 0).N = cols (argX m c) (argW m c) 512 2888 (by omega) := by
  refine (dats m 0 c).arrAt_eq_of_covers 16 _ (by decide +kernel) fun t _ y => ?_
  blk_simp
  rw [after0_16]
  unfold out0_16 k0_pay24
  simp only [ld0, ld1, ld2, ld7, ld9, ld11]
  rw [View.canon_unit_zero zero2, show y = ix2 (y 0) (y 1) from eq_ix2 y]
  refine (z_at m c t (y 0) (y 1)).trans (cols_at _ (tokAt t (y 0)) (y 1) ?_ ?_).symm <;> blk_simp [idxOut t] <;> rfl

end Inp.Sample.Kernel
-- ==== Proof.RotarySampleRef.lean ====
/-
  The reference of the sampled tokens' input projection: its eight results.
-/
module

public import proofs.«01_k».proof.Proof.RotarySample
public import proofs.«01_k».proof.Proof.Gen.Reference6Ideal.Read
public import Idealize.ShloMosaic.Lib.KernelVsHost
public import Idealize.ShloMosaic.Lib.Claim

@[expose] public section

set_option maxRecDepth 16384

noncomputable section

namespace Inp.Sample.Ref

open Idealize.ShloMosaic Idealize.ShloMosaic.TcCoe
open Idealize.ShloMosaic.ValueIdx
open Cert.Reference6Ideal Cert.Reference6Ideal.Read

abbrev cosT : Turns.Idx → EReal := val_main_v28 (F := Ideal)
abbrev sinT : Turns.Idx → EReal := val_main_v30 (F := Ideal)

/-! ## The embedding of `H` heads -/

/-- Sequences by tokens by heads by features. -/
abbrev H4 (H W : ℕ) : Shape := ⟨4, ![128, 8, H, W]⟩
abbrev Ang : Shape := ⟨4, ![1, 8, 1, 8]⟩

theorem left4 {H A B N : ℕ} (u : (H4 H A).Idx → EReal) (v : (H4 H B).Idx → EReal) (c : Shape.Concatenates [H4 H A, H4 H B] (H4 H N) 3) (b : Fin 128) (p : Fin 8) (h : Fin H)
    (d : Fin N) (e : Fin A) (he : e.val = d.val) : concatenate (H4 H N) 3 [⟨H4 H A, u⟩, ⟨H4 H B, v⟩] c (ix4 b p h d) = u (ix4 b p h e) := by
  refine concatenate_pair_apply_left (t := H4 H N) (s₁ := H4 H A) (s₂ := H4 H B) 3 u v c (ix4 b p h d) rfl (ix4 b p h e) fun a => ?_
  fin_cases a
  · rfl
  · rfl
  · rfl
  · exact he

theorem right4 {H A B N : ℕ} (u : (H4 H A).Idx → EReal) (v : (H4 H B).Idx → EReal) (c : Shape.Concatenates [H4 H A, H4 H B] (H4 H N) 3) (b : Fin 128) (p : Fin 8) (h : Fin H)
    (d : Fin N) (e : Fin B) (he : e.val + A = d.val) : concatenate (H4 H N) 3 [⟨H4 H A, u⟩, ⟨H4 H B, v⟩] c (ix4 b p h d) = v (ix4 b p h e) := by
  refine concatenate_pair_apply_right (t := H4 H N) (s₁ := H4 H A) (s₂ := H4 H B) 3 u v c (ix4 b p h d) rfl rfl (ix4 b p h e) (fun a ha => ?_) he
  fin_cases a
  · rfl
  · rfl
  · rfl
  · exact absurd rfl ha

section spin

variable (H : ℕ) (h1 : (H4 H 64).Slices ![0, 0, 0, 0] (H4 H 16)) (h2 : (H4 H 16).Slices ![0, 0, 0, 0] (H4 H 8)) (h3 : (H4 H 16).Slices ![0, 0, 0, 8] (H4 H 8))
  (hb : Ang.BroadcastsInDim (H4 H 8) (![0, 1, 2, 3] : Fin 4 → Fin (H4 H 8).rank)) (c1 : Shape.Concatenates [H4 H 8, H4 H 8] (H4 H 16) 3)
  (h4 : (H4 H 64).Slices ![0, 0, 0, 16] (H4 H 48)) (c2 : Shape.Concatenates [H4 H 16, H4 H 48] (H4 H 64) 3)
  (y : FVec Ideal (H4 H 64) .f32) (C S : FVec Ideal Ang .f32)

/-- The first eight features, the next eight, and an angle's table over the heads. -/
def near : FVec Ideal (H4 H 8) .f32 := extractStridedSlice (H4 H 8) ![0, 0, 0, 0] (extractStridedSlice (H4 H 16) ![0, 0, 0, 0] y h1) h2
def far : FVec Ideal (H4 H 8) .f32 := extractStridedSlice (H4 H 8) ![0, 0, 0, 8] (extractStridedSlice (H4 H 16) ![0, 0, 0, 0] y h1) h3
def over : FVec Ideal (H4 H 8) .f32 := broadcastInDim (H4 H 8) ![0, 1, 2, 3] hb C

/-- The embedding, as the reference writes it. -/
def spin : FVec Ideal (H4 H 64) .f32 :=
  concatenate (H4 H 64) 3 [⟨H4 H 16, concatenate (H4 H 16) 3
    [⟨H4 H 8, subf (mulf (near H h1 h2 y) (over H hb C)) (mulf (far H h1 h3 y) (over H hb S))⟩,
     ⟨H4 H 8, addf (mulf (far H h1 h3 y) (over H hb C)) (mulf (near H h1 h2 y) (over H hb S))⟩] c1⟩,
    ⟨H4 H 48, extractStridedSlice (H4 H 48) ![0, 0, 0, 16] y h4⟩] c2

variable {H}

theorem near_apply (b : Fin 128) (p : Fin 8) (h : Fin H) (e : Fin 8) : near H h1 h2 y (ix4 b p h e) = y (ix4 b p h ⟨e.val, by omega⟩) := by
  unfold near
  refine (extractStridedSlice_apply _ _ _ _ (ix4 b p h (⟨e.val, by omega⟩ : Fin 16)) fun a => ?_).trans (extractStridedSlice_apply _ _ _ _ (ix4 b p h (⟨e.val, by omega⟩ : Fin 64)) fun a => ?_)
  all_goals fin_cases a <;> exact (Nat.zero_add _).symm

theorem far_apply (b : Fin 128) (p : Fin 8) (h : Fin H) (e : Fin 8) : far H h1 h3 y (ix4 b p h e) = y (ix4 b p h ⟨8 + e.val, by omega⟩) := by
  unfold far
  refine (extractStridedSlice_apply _ _ _ _ (ix4 b p h (⟨8 + e.val, by omega⟩ : Fin 16)) fun a => ?_).trans (extractStridedSlice_apply _ _ _ _ (ix4 b p h (⟨8 + e.val, by omega⟩ : Fin 64)) fun a => ?_)
  · fin_cases a
    · exact (Nat.zero_add _).symm
    · exact (Nat.zero_add _).symm
    · exact (Nat.zero_add _).symm
    · rfl
  · fin_cases a <;> exact (Nat.zero_add _).symm

theorem over_apply (b : Fin 128) (p : Fin 8) (h : Fin H) (e : Fin 8) : over H hb C (ix4 b p h e) = C (ix4 0 p 0 e) := by
  unfold over
  refine broadcastInDim_apply _ _ _ _ (ix4 0 p 0 e) fun a => ?_
  fin_cases a <;> rfl

theorem spin_apply (b : Fin 128) (p : Fin 8) (h : Fin H) (d : Fin 64) : spin H h1 h2 h3 hb c1 h4 c2 y C S (ix4 b p h d)
    = rope (fun e => C (ix4 0 p 0 e)) (fun e => S (ix4 0 p 0 e)) (fun e => y (ix4 b p h e)) d := by
  unfold spin rope
  by_cases hd : d.val < 8
  · rw [dif_pos hd]
    refine (left4 _ _ _ b p h d (⟨d.val, by omega⟩ : Fin 16) rfl).trans ((left4 _ _ _ b p h (⟨d.val, by omega⟩ : Fin 16) (⟨d.val, hd⟩ : Fin 8) rfl).trans ?_)
    refine congrArg₂ (· - ·) (congrArg₂ (· * ·) (near_apply h1 h2 y b p h _) (over_apply hb C b p h _))
      (congrArg₂ (· * ·) ((far_apply h1 h3 y b p h _).trans (congrArg (fun e => y (ix4 b p h e)) (Fin.ext ?_))) (over_apply hb S b p h _))
    exact Nat.add_comm _ _
  rw [dif_neg hd]
  by_cases hd' : d.val < 16
  · rw [dif_pos hd']
    refine (left4 _ _ _ b p h d (⟨d.val, hd'⟩ : Fin 16) rfl).trans ((right4 _ _ _ b p h _ (⟨d.val - 8, by omega⟩ : Fin 8) ?_).trans ?_)
    · show d.val - 8 + 8 = d.val
      omega
    refine congrArg₂ (· + ·) (congrArg₂ (· * ·) ((far_apply h1 h3 y b p h _).trans (congrArg (fun e => y (ix4 b p h e)) (Fin.ext ?_))) (over_apply hb C b p h _))
      (congrArg₂ (· * ·) (near_apply h1 h2 y b p h _) (over_apply hb S b p h _))
    show 8 + (d.val - 8) = d.val
    omega
  rw [dif_neg hd']
  refine (right4 _ _ _ b p h d (⟨d.val - 16, by omega⟩ : Fin 48) (by show d.val - 16 + 16 = d.val; omega)).trans ?_
  refine extractStridedSlice_apply _ _ _ _ (ix4 b p h d) fun a => ?_
  fin_cases a
  · exact (Nat.zero_add _).symm
  · exact (Nat.zero_add _).symm
  · exact (Nat.zero_add _).symm
  · show d.val = 16 + (d.val - 16)
    omega

end spin

/-! ## The product and its parts -/

variable (x : Ffn.Sample.Toks.Idx → EReal) (w : Win.Idx → EReal)

theorem prod_at (b : Fin 128) (p : Fin 8) (j : Fin 3408) : val_main_v4 (F := Ideal) x w (ix3 b p j) = col x w b p j := by
  refine (val_main_v4_apply x w _).trans ?_
  unfold col Ffn.dot
  refine Finset.sum_congr rfl fun k _ => congrArg₂ (· * ·) (congrArg x ?_) ?_
  · funext a; fin_cases a <;> rfl
  · refine (shapeCast_apply _ _ _ (ix3 0 k j) ?_)
    rw [Shape.rowMajor_val_three, Shape.rowMajor_val_two]
    show (0 * 1024 + k.val) * 3408 + j.val = k.val * 3408 + j.val
    omega

theorem part_at {n : ℕ} (o : ℕ) (ho : o + n ≤ 3408) (hs : (⟨3, ![128, 8, 3408]⟩ : Shape).Slices ![0, 0, o] ⟨3, ![128, 8, n]⟩) (b : Fin 128) (p : Fin 8) (j : Fin n) :
    extractStridedSlice ⟨3, ![128, 8, n]⟩ ![0, 0, o] (val_main_v4 (F := Ideal) x w) hs (ix3 b p j) = col x w b p ⟨o + j.val, by omega⟩ := by
  refine (extractStridedSlice_apply _ _ _ _ (ix3 b p (⟨o + j.val, by omega⟩ : Fin 3408)) fun a => ?_).trans (prod_at x w b p _)
  fin_cases a
  · exact (Nat.zero_add _).symm
  · exact (Nat.zero_add _).symm
  · rfl

/-- A part's columns as heads of 64. -/
theorem part_heads {H n : ℕ} (hn : n = H * 64) (o : ℕ) (ho : o + n ≤ 3408) (hs : (⟨3, ![128, 8, 3408]⟩ : Shape).Slices ![0, 0, o] ⟨3, ![128, 8, n]⟩)
    (hc : (⟨3, ![128, 8, n]⟩ : Shape).ShapeCasts (H4 H 64)) (b : Fin 128) (p : Fin 8) (h : Fin H) (e : Fin 64) (J : Fin 3408) (hJ : J.val = o + h.val * 64 + e.val) :
    shapeCast (H4 H 64) (extractStridedSlice ⟨3, ![128, 8, n]⟩ ![0, 0, o] (val_main_v4 (F := Ideal) x w) hs) hc (ix4 b p h e) = col x w b p J := by
  subst hn
  refine (shapeCast_apply _ _ _ (ix3 b p (⟨h.val * 64 + e.val, by have := h.isLt; have := e.isLt; omega⟩ : Fin (H * 64))) ?_).trans ?_
  · rw [Shape.rowMajor_val_three, Shape.rowMajor_val_four]
    show (b.val * 8 + p.val) * (H * 64) + (h.val * 64 + e.val) = ((b.val * 8 + p.val) * H + h.val) * 64 + e.val
    ring
  refine (part_at x w o ho hs b p _).trans (congrArg (col x w b p) (Fin.ext ?_))
  show o + (h.val * 64 + e.val) = J.val
  omega

theorem table_at (T : Turns.Idx → EReal) (hT : Turns.BroadcastsInDim Ang (![1, 3] : Fin 2 → Fin Ang.rank)) (p : Fin 8) (e : Fin 8) :
    broadcastInDim Ang ![1, 3] hT T (ix4 0 p 0 e) = T (ix2 p e) := by
  refine broadcastInDim_apply _ _ _ _ (ix2 p e) fun a => ?_
  fin_cases a <;> rfl

/-! ## The embedded parts -/

theorem q_at (b : Fin 128) (p : Fin 8) (h : Fin 8) (d : Fin 64) : val_main_v47 (F := Ideal) x w (ix4 b p h d) = emb cosT sinT x w b p ⟨0 + h.val * 64, by omega⟩ d := by
  refine (spin_apply _ _ _ _ _ _ _ (val_main_v15 (F := Ideal) x w) (val_main_v29 (F := Ideal)) (val_main_v31 (F := Ideal)) b p h d).trans ?_
  unfold emb
  rw [show (fun e => val_main_v29 (F := Ideal) (ix4 0 p 0 e)) = fun e => cosT (ix2 p e) from funext fun e => table_at cosT _ p e,
    show (fun e => val_main_v31 (F := Ideal) (ix4 0 p 0 e)) = fun e => sinT (ix2 p e) from funext fun e => table_at sinT _ p e]
  exact congrArg (fun a => rope _ _ a d) (funext fun e => part_heads x w (by rfl) 0 (by omega) _ _ b p h e _ rfl)

theorem k_at (b : Fin 128) (p : Fin 8) (h : Fin 2) (d : Fin 64) : val_main_v80 (F := Ideal) x w (ix4 b p h d) = emb cosT sinT x w b p ⟨512 + h.val * 64, by omega⟩ d := by
  refine (spin_apply _ _ _ _ _ _ _ (val_main_v48 (F := Ideal) x w) (val_main_v62 (F := Ideal)) (val_main_v64 (F := Ideal)) b p h d).trans ?_
  unfold emb
  rw [show (fun e => val_main_v62 (F := Ideal) (ix4 0 p 0 e)) = fun e => cosT (ix2 p e) from funext fun e => table_at cosT _ p e,
    show (fun e => val_main_v64 (F := Ideal) (ix4 0 p 0 e)) = fun e => sinT (ix2 p e) from funext fun e => table_at sinT _ p e]
  exact congrArg (fun a => rope _ _ a d) (funext fun e => part_heads x w (by rfl) 512 (by omega) _ _ b p h e _ rfl)

theorem qi_at (b : Fin 128) (p : Fin 8) (h : Fin 8) (d : Fin 64) : val_main_v114 (F := Ideal) x w (ix4 b p h d) = emb cosT sinT x w b p ⟨768 + h.val * 64, by omega⟩ d := by
  refine (spin_apply _ _ _ _ _ _ _ (val_main_v82 (F := Ideal) x w) (val_main_v96 (F := Ideal)) (val_main_v98 (F := Ideal)) b p h d).trans ?_
  unfold emb
  rw [show (fun e => val_main_v96 (F := Ideal) (ix4 0 p 0 e)) = fun e => cosT (ix2 p e) from funext fun e => table_at cosT _ p e,
    show (fun e => val_main_v98 (F := Ideal) (ix4 0 p 0 e)) = fun e => sinT (ix2 p e) from funext fun e => table_at sinT _ p e]
  exact congrArg (fun a => rope _ _ a d) (funext fun e => part_heads x w (by rfl) 768 (by omega) _ _ b p h e _ rfl)

theorem ki_at (b : Fin 128) (p : Fin 8) (h : Fin 1) (d : Fin 64) : val_main_v147 (F := Ideal) x w (ix4 b p h d) = emb cosT sinT x w b p ⟨1280 + h.val * 64, by omega⟩ d := by
  refine (spin_apply _ _ _ _ _ _ _ (val_main_v115 (F := Ideal) x w) (val_main_v129 (F := Ideal)) (val_main_v131 (F := Ideal)) b p h d).trans ?_
  unfold emb
  rw [show (fun e => val_main_v129 (F := Ideal) (ix4 0 p 0 e)) = fun e => cosT (ix2 p e) from funext fun e => table_at cosT _ p e,
    show (fun e => val_main_v131 (F := Ideal) (ix4 0 p 0 e)) = fun e => sinT (ix2 p e) from funext fun e => table_at sinT _ p e]
  exact congrArg (fun a => rope _ _ a d) (funext fun e => part_heads x w (by rfl) 1280 (by omega) _ _ b p h e _ rfl)

theorem v_at (b : Fin 128) (p : Fin 8) (h : Fin 2) (d : Fin 64) : val_main_v81 (F := Ideal) x w (ix4 b p h d) = col x w b p ⟨640 + h.val * 64 + d.val, by omega⟩ :=
  part_heads x w (by rfl) 640 (by omega) _ _ b p h d _ rfl

/-! ## The results -/

theorem whole (f : Fin 1024) : f.val / 8 * 8 + f.val % 8 = f.val := Nat.div_add_mod' _ _

/-- Heads laid side by side, tokens one after another. -/
theorem flat_heads {H n : ℕ} (hn : n = H * 64) (y : (H4 H 64).Idx → EReal) (h : (H4 H 64).ShapeCasts ⟨2, ![1024, n]⟩) (f : Fin 1024) (l : Fin n) :
    shapeCast ⟨2, ![1024, n]⟩ y h (ix2 f l) = y (ix4 (bat f) (pos f) ⟨l.val / 64, by omega⟩ (off l.val)) := by
  subst hn
  refine shapeCast_apply _ _ _ _ ?_
  rw [Shape.rowMajor_val_four, Shape.rowMajor_val_two]
  show ((f.val / 8 * 8 + f.val % 8) * H + l.val / 64) * 64 + l.val % 64 = f.val * (H * 64) + l.val
  rw [whole, Nat.add_mul, Nat.add_assoc, Nat.div_add_mod', Nat.mul_assoc]

theorem flat_cols {n : ℕ} (y : (⟨3, ![128, 8, n]⟩ : Shape).Idx → EReal) (h : (⟨3, ![128, 8, n]⟩ : Shape).ShapeCasts ⟨2, ![1024, n]⟩) (f : Fin 1024) (l : Fin n) :
    shapeCast ⟨2, ![1024, n]⟩ y h (ix2 f l) = y (ix3 (bat f) (pos f) l) := by
  refine shapeCast_apply _ _ _ _ ?_
  rw [Shape.rowMajor_val_three, Shape.rowMajor_val_two]
  show (f.val / 8 * 8 + f.val % 8) * n + l.val = f.val * n + l.val
  rw [whole]

theorem one_head (y : (H4 1 64).Idx → EReal) (h : (H4 1 64).ShapeCasts ⟨3, ![128, 8, 64]⟩) (b : Fin 128) (p : Fin 8) (l : Fin 64) :
    shapeCast ⟨3, ![128, 8, 64]⟩ y h (ix3 b p l) = y (ix4 b p 0 l) := by
  refine shapeCast_apply _ _ _ _ ?_
  rw [Shape.rowMajor_val_four, Shape.rowMajor_val_three]
  show ((b.val * 8 + p.val) * 1 + 0) * 64 + l.val = (b.val * 8 + p.val) * 64 + l.val
  omega

theorem res0 : val_main_v154 (F := Ideal) x w = heads cosT sinT x w 512 0 (by omega) (by omega) := by
  funext i
  exact (congrArg _ (eq_ix2 i)).trans ((flat_heads (by rfl) _ _ _ _).trans (q_at x w _ _ _ _))

theorem res1 : val_main_v155 (F := Ideal) x w = heads cosT sinT x w 512 768 (by omega) (by omega) := by
  funext i
  exact (congrArg _ (eq_ix2 i)).trans ((flat_heads (by rfl) _ _ _ _).trans (qi_at x w _ _ _ _))

theorem res2 : val_main_v156 (F := Ideal) x w = heads cosT sinT x w 128 512 (by omega) (by omega) := by
  funext i
  exact (congrArg _ (eq_ix2 i)).trans ((flat_heads (by rfl) _ _ _ _).trans (k_at x w _ _ _ _))

theorem res3 : val_main_v157 (F := Ideal) x w = heads cosT sinT x w 64 1280 (by omega) (by omega) := by
  funext i
  refine (congrArg (val_main_v157 (F := Ideal) x w) (eq_ix2 i)).trans ?_
  have hl : (i 1).val < 64 := (i 1).isLt
  refine (flat_cols _ _ (i 0) (i 1)).trans ((one_head _ _ _ _ _).trans ((ki_at x w _ _ 0 (i 1)).trans ?_))
  refine congrArg₂ (fun o d => emb cosT sinT x w (bat (i 0)) (pos (i 0)) o d) (Fin.ext ?_) (Fin.ext ?_)
  · show 1280 + 0 * 64 = 1280 + (i 1).val / 64 * 64
    omega
  · show (i 1).val = (i 1).val % 64
    omega

theorem res4 : val_main_v158 (F := Ideal) x w = cols x w 128 640 (by omega) := by
  funext i
  refine (congrArg _ (eq_ix2 i)).trans ((flat_heads (by rfl) _ _ _ _).trans ((v_at x w _ _ _ _).trans ?_))
  refine congrArg (col x w (bat (i 0)) (pos (i 0))) (Fin.ext ?_)
  show 640 + (i 1).val / 64 * 64 + (i 1).val % 64 = 640 + (i 1).val
  omega

theorem gate_at (b : Fin 128) (p : Fin 8) (l : Fin 16) : val_main_v151 (F := Ideal) x w (ix3 b p l)
    = if h : l.val < 8 then col x w b p ⟨1344 + l.val, by omega⟩ * Ideal.ofBits .f32 0x3EB504F3#32 else col x w b p ⟨3392 + l.val, by omega⟩ := by
  by_cases h : l.val < 8
  · rw [dif_pos h]
    refine (concatenate_apply_piece (t := ⟨3, ![128, 8, 16]⟩) 2 [⟨⟨3, ![128, 8, 8]⟩, val_main_v150 (F := Ideal) x w⟩, ⟨⟨3, ![128, 8, 4]⟩, val_main_v13 (F := Ideal) x w⟩, ⟨⟨3, ![128, 8, 4]⟩, val_main_v14 (F := Ideal) x w⟩]
      _ (ix3 b p l) 0 (by simp) _ _ rfl rfl 0 rfl (ix3 b p (⟨l.val, h⟩ : Fin 8)) ?_ ?_).trans ?_
    · intro a ha; fin_cases a
      · rfl
      · rfl
      · exact absurd rfl ha
    · exact Nat.zero_add _
    exact congrArg₂ (· * ·) (part_at x w 1344 (by omega) _ b p _) ((val_main_v149_apply _).trans rfl)
  rw [dif_neg h]
  by_cases h' : l.val < 12
  · refine (concatenate_apply_piece (t := ⟨3, ![128, 8, 16]⟩) 2 [⟨⟨3, ![128, 8, 8]⟩, val_main_v150 (F := Ideal) x w⟩, ⟨⟨3, ![128, 8, 4]⟩, val_main_v13 (F := Ideal) x w⟩, ⟨⟨3, ![128, 8, 4]⟩, val_main_v14 (F := Ideal) x w⟩]
      _ (ix3 b p l) 1 (by simp) _ _ rfl rfl 8 rfl (ix3 b p (⟨l.val - 8, by omega⟩ : Fin 4)) ?_ ?_).trans ?_
    · intro a ha; fin_cases a
      · rfl
      · rfl
      · exact absurd rfl ha
    · show 8 + (l.val - 8) = l.val
      omega
    refine (part_at x w 3400 (by omega) _ b p _).trans (congrArg (col x w b p) (Fin.ext ?_))
    show 3400 + (l.val - 8) = 3392 + l.val
    omega
  · refine (concatenate_apply_piece (t := ⟨3, ![128, 8, 16]⟩) 2 [⟨⟨3, ![128, 8, 8]⟩, val_main_v150 (F := Ideal) x w⟩, ⟨⟨3, ![128, 8, 4]⟩, val_main_v13 (F := Ideal) x w⟩, ⟨⟨3, ![128, 8, 4]⟩, val_main_v14 (F := Ideal) x w⟩]
      _ (ix3 b p l) 2 (by simp) _ _ rfl rfl 12 rfl (ix3 b p (⟨l.val - 12, by omega⟩ : Fin 4)) ?_ ?_).trans ?_
    · intro a ha; fin_cases a
      · rfl
      · rfl
      · exact absurd rfl ha
    · show 12 + (l.val - 12) = l.val
      omega
    refine (part_at x w 3404 (by omega) _ b p _).trans (congrArg (col x w b p) (Fin.ext ?_))
    show 3404 + (l.val - 12) = 3392 + l.val
    omega

theorem res5 : val_main_v153 (F := Ideal) x w = small x w := by
  funext i
  refine (congrArg (val_main_v153 (F := Ideal) x w) (eq_ix2 i)).trans ?_
  have hl : (i 1).val < 128 := (i 1).isLt
  unfold small
  by_cases h' : (i 1).val < 16
  · refine (pad_apply_of_inside _ _ _ _ _ _ _ _ (ix2 (i 0) (⟨(i 1).val, h'⟩ : Fin 16)) fun a => by fin_cases a <;> simp [ix2]).trans ?_
    refine (flat_cols _ _ _ _).trans ((gate_at x w _ _ _).trans ?_)
    by_cases h : (i 1).val < 8
    · rw [dif_pos h, dif_pos h]
    · rw [dif_neg h, dif_neg h, dif_pos h']
  · rw [dif_neg (by omega), dif_neg h']
    refine (pad_apply_of_not_inside _ _ _ _ _ _ _ _ 1 ?_).trans ?_
    · rintro ⟨-, -, h3⟩
      have h3 : ((i 1).val - 0) / 1 < 16 := h3
      omega
    · rw [val_main_call0_v0_apply]
      show (((0#32 : BitVec 32).toInt : ℝ) : EReal) = 0
      simp

theorem res6 : val_main_v159 (F := Ideal) x w = cols x w 1536 1352 (by omega) := by
  funext i
  exact (congrArg _ (eq_ix2 i)).trans ((flat_cols _ _ _ _).trans (part_at x w 1352 (by omega) _ _ _ _))

theorem res7 : val_main_v160 (F := Ideal) x w = cols x w 512 2888 (by omega) := by
  funext i
  exact (congrArg _ (eq_ix2 i)).trans ((flat_cols _ _ _ _).trans (part_at x w 2888 (by omega) _ _ _ _))

end Inp.Sample.Ref
-- ==== Proof.FfnSampleFirst.lean ====
/-
  The first half-step's kernel on the sampled tokens: what its body leaves, block by block, and the array it leaves.
-/
module

public import proofs.«01_k».proof.Proof.FfnSample
public import proofs.«01_k».proof.Proof.Gen.Kernel7Ideal.Value
public import Idealize.ShloMosaic.Lib.Pipeline.ValueKit.Geometry
public import Idealize.ShloMosaic.Lib.Pipeline.ValueKit.Acc
public import Idealize.ShloMosaic.Lib.Claim

@[expose] public section

set_option maxRecDepth 16384

noncomputable section

namespace Ffn.Sample.First

open Idealize.ShloMosaic Idealize.ShloMosaic.TcCoe Idealize.SL.Sem
open Idealize.ShloMosaic.Pipeline (Dat)
open Idealize.ShloMosaic.ValueIdx
open Cert.Kernel7Ideal Cert.Kernel7Ideal.Gen

variable (m : (ℓ : Loc nD τ sig) → Buf (Elt Ideal) ℓ) (c : Dev nD)

/-- The body's feed-forward over one half of the hidden features. -/
theorem feed_pay (x : Vec Ideal S512x1024 .f32) (wg wu : Vec Ideal S1024x1408 .bf16) (wd : Vec Ideal S1408x1024 .bf16) (r : Fin 512) (d : Fin 1024) :
    k0_pay1 x wg wu wd (ix2 r d) = part (row x r) (fun k h => wg (ix2 k h)) (fun k h => wu (ix2 k h)) (fun h => wd (ix2 h d)) := by
  unfold k0_pay1
  simp only [shapeCast_self]
  exact feed_apply bitsLt_bf16_f32 x wg wu wd r d

/-- The body's layer norm. -/
theorem norm_pay (x f : Vec Ideal S512x1024 .f32) (g b : Vec Ideal S1x1024 .f32) (r : Fin 512) (d : Fin 1024) :
    k0_pay4 x f g b (ix2 r d) = norm (stepped (row x r) (row f r)) (vct g) (vct b) d := by
  unfold k0_pay4
  simp only [shapeCast_self]
  exact normed_stepped_apply broadcasts_S512x1_S512x1024 broadcasts_S1x1024_S512x1024 reduces_S512x1024_S512 shapeCasts_S512_S512x1 x f g b r d

/-- After an even point: the scratch holds the first half's feed-forward. -/
theorem even_at (t : Fin cfg0.N) (h : t.val % 2 = 0) :
    (outsAt0 m c t.val t.isLt).2 = k0_pay1 (iblk m c 0 t) (iblk m c 1 t) (iblk m c 2 t) (iblk m c 3 t) := by
  rw [outsAt0_A m c t h (by omega) (by omega)]
  frame_out
  unfold k0_pay2
  exact shapeCast_self _ _

/-- After an odd point: the output's block holds the layer norm, of the scratch with the second half's feed-forward added. -/
theorem odd_at (t : Fin cfg0.N) (h : t.val % 2 = 1) :
    (outsAt0 m c t.val t.isLt).1 = k0_pay4 (iblk m c 0 t)
      (addf (outsAt0 m c (t.val - 1) (Nat.lt_of_le_of_lt (Nat.sub_le _ _) t.isLt)).2 (k0_pay1 (iblk m c 0 t) (iblk m c 1 t) (iblk m c 2 t) (iblk m c 3 t)))
      (iblk m c 4 t) (iblk m c 5 t) := by
  rw [outsAt0_B m c t (by omega) h h]
  frame_out
  unfold k0_pay3
  simp only [shapeCast_self]
  exact congrArg (fun s => k0_pay4 (iblk m c 0 t) (addf s (k0_pay1 (iblk m c 0 t) (iblk m c 1 t) (iblk m c 2 t) (iblk m c 3 t))) (iblk m c 4 t) (iblk m c 5 t))
    (Memref.IsWhole.read_unread _ _)

/-! ## The blocks -/

/-- The arguments, as arrays. -/
abbrev argX : Toks.Idx → EReal := m ((c : Thread nD τ).loc main_arg0)
abbrev argG : Wide.Idx → EReal := m ((c : Thread nD τ).loc main_arg1)
abbrev argU : Wide.Idx → EReal := m ((c : Thread nD τ).loc main_arg2)
abbrev argD : Tall.Idx → EReal := m ((c : Thread nD τ).loc main_arg3)
abbrev argN : Vct.Idx → EReal := m ((c : Thread nD τ).loc main_arg4)
abbrev argB : Vct.Idx → EReal := m ((c : Thread nD τ).loc main_arg5)

/-- The windows' index maps. -/
theorem idx : ∀ t : Fin cfg0.N, win0_0.index t = ![t.val / 2, 0] ∧ win0_1.index t = ![0, t.val % 2] ∧ win0_2.index t = ![0, t.val % 2]
    ∧ win0_3.index t = ![t.val % 2, 0] ∧ win0_4.index t = ![0, 0] ∧ win0_5.index t = ![0, 0] ∧ win0_6.index t = ![t.val / 2, 0] :=
  (by decide +kernel : ∀ t : Fin grid0.N, _)

/-- The token of row `r` of the block at point `t`. -/
abbrev tokAt (t : Fin cfg0.N) (r : Fin 512) : Fin 1024 := ⟨t.val / 2 * 512 + r.val, by have : t.val < 4 := t.isLt; omega⟩
/-- The hidden feature of column `h` of the block at point `t`. -/
abbrev hidAt (t : Fin cfg0.N) (h : Fin 1408) : Fin 2816 := ⟨t.val % 2 * 1408 + h.val, by omega⟩

/-- What the region finds in the arrays the blocks are read from. -/
theorem V_x : (V m c main_v0 : S1024x1024.Idx → EReal) = shapeCast S1024x1024 (argX m c) shapeCasts_S128x8x1024_S1024x1024 := rfl
theorem V_g : (V m c main_v2 : S1024x2816.Idx → EReal) = shapeCast S1024x2816 (argG m c) shapeCasts_S1x1024x2816_S1024x2816 := rfl
theorem V_u : (V m c main_v4 : S1024x2816.Idx → EReal) = shapeCast S1024x2816 (argU m c) shapeCasts_S1x1024x2816_S1024x2816 := rfl
theorem V_d : (V m c main_v6 : S2816x1024.Idx → EReal) = shapeCast S2816x1024 (argD m c) shapeCasts_S1x2816x1024_S2816x1024 := rfl

theorem x_at (t : Fin cfg0.N) (r : Fin 512) : row (iblk m c 0 t) r = tok (argX m c) (tokAt t r) := by
  funext k
  show (V m c main_v0 : S1024x1024.Idx → EReal) (((cfg0.win 0).blk t).view.emb (ix2 r k)) = _
  rw [V_x]
  refine rows_apply _ _ _ _ k ?_ ?_
  · blk_simp [idx t]
  · blk_simp [idx t]

theorem g_at (t : Fin cfg0.N) (k : Fin 1024) (h : Fin 1408) : (show Vec Ideal S1024x1408 .bf16 from iblk m c 1 t) (ix2 k h) = argG m c (ix3 0 k (hidAt t h)) := by
  show (V m c main_v2 : S1024x2816.Idx → EReal) (((cfg0.win 1).blk t).view.emb (ix2 k h)) = _
  rw [V_g]
  refine matrix_apply _ _ _ _ _ ?_ ?_
  · blk_simp [idx t]
  · blk_simp [idx t]

theorem u_at (t : Fin cfg0.N) (k : Fin 1024) (h : Fin 1408) : (show Vec Ideal S1024x1408 .bf16 from iblk m c 2 t) (ix2 k h) = argU m c (ix3 0 k (hidAt t h)) := by
  show (V m c main_v4 : S1024x2816.Idx → EReal) (((cfg0.win 2).blk t).view.emb (ix2 k h)) = _
  rw [V_u]
  refine matrix_apply _ _ _ _ _ ?_ ?_
  · blk_simp [idx t]
  · blk_simp [idx t]

theorem d_at (t : Fin cfg0.N) (h : Fin 1408) (k : Fin 1024) : (show Vec Ideal S1408x1024 .bf16 from iblk m c 3 t) (ix2 h k) = argD m c (ix3 0 (hidAt t h) k) := by
  show (V m c main_v6 : S2816x1024.Idx → EReal) (((cfg0.win 3).blk t).view.emb (ix2 h k)) = _
  rw [V_d]
  refine matrix_apply _ _ _ _ _ ?_ ?_
  · blk_simp [idx t]
  · blk_simp [idx t]

theorem n_at (t : Fin cfg0.N) : vct (iblk m c 4 t) = vct (argN m c) := by
  funext k
  show (V m c main_arg4 : S1x1024.Idx → EReal) (((cfg0.win 4).blk t).view.emb (ix2 0 k)) = _
  rw [V_main_arg4]
  exact congrArg (argN m c) (by funext a; apply Fin.ext; fin_cases a <;> blk_simp [idx t])

theorem b_at (t : Fin cfg0.N) : vct (iblk m c 5 t) = vct (argB m c) := by
  funext k
  show (V m c main_arg5 : S1x1024.Idx → EReal) (((cfg0.win 5).blk t).view.emb (ix2 0 k)) = _
  rw [V_main_arg5]
  exact congrArg (argB m c) (by funext a; apply Fin.ext; fin_cases a <;> blk_simp [idx t])

/-- The feed-forward of a point's block of rows over its block of hidden features. -/
theorem part_at (t : Fin cfg0.N) (r : Fin 512) (d : Fin 1024) :
    (k0_pay1 (iblk m c 0 t) (iblk m c 1 t) (iblk m c 2 t) (iblk m c 3 t) : FVec Ideal S512x1024 .f32) (ix2 r d)
      = part (tok (argX m c) (tokAt t r)) (fun k h => argG m c (ix3 0 k (hidAt t h))) (fun k h => argU m c (ix3 0 k (hidAt t h)))
          (fun h => argD m c (ix3 0 (hidAt t h) d)) := by
  refine (feed_pay _ _ _ _ r d).trans ?_
  rw [x_at]
  refine Finset.sum_congr rfl fun h _ => congrArg₂ (· * ·) (congrArg₂ gated ?_ ?_) (d_at m c t h d)
  · exact Finset.sum_congr rfl fun k _ => congrArg (_ * ·) (g_at m c t k h)
  · exact Finset.sum_congr rfl fun k _ => congrArg (_ * ·) (u_at m c t k h)

/-- What an odd point leaves of a row: its half-step. -/
theorem row_at (t : Fin cfg0.N) (h : t.val % 2 = 1) (r : Fin 512) (d : Fin 1024) :
    (outsAt0 m c t.val t.isLt).1 (ix2 r d) = half (tok (argX m c) (tokAt t r)) (inner (argG m c)) (inner (argU m c)) (inner (argD m c)) (vct (argN m c)) (vct (argB m c)) d := by
  rw [odd_at m c t h]
  refine (norm_pay _ _ _ _ r d).trans ?_
  rw [x_at, n_at, b_at]
  unfold half
  refine congrArg (fun f => norm (stepped _ f) _ _ d) (funext fun e => ?_)
  have ht : t.val < 4 := t.isLt
  let t' : Fin cfg0.N := ⟨t.val - 1, Nat.lt_of_le_of_lt (Nat.sub_le _ _) t.isLt⟩
  have h' : t'.val % 2 = 0 := by show (t.val - 1) % 2 = 0; omega
  show (outsAt0 m c t'.val t'.isLt).2 (ix2 r e) + _ = _
  rw [even_at m c t' h', part_at, part_at, part_halves]
  have et : tokAt t' r = tokAt t r := Fin.ext (by show (t.val - 1) / 2 * 512 + r.val = t.val / 2 * 512 + r.val; omega)
  have e0 : ∀ k : Fin 1408, hidAt t' k = ⟨k.val, by omega⟩ := fun k => Fin.ext (by show t'.val % 2 * 1408 + k.val = k.val; rw [h', Nat.zero_mul, Nat.zero_add])
  have e1 : ∀ k : Fin 1408, hidAt t k = ⟨1408 + k.val, by omega⟩ := fun k => Fin.ext (by show t.val % 2 * 1408 + k.val = 1408 + k.val; rw [h, Nat.one_mul])
  simp only [et, e0, e1]

/-- The array the kernel leaves. -/
theorem array_eq : (dats m 0 c).arrAt 6 (cfgs 0).N = firstStep (argX m c) (argG m c) (argU m c) (argD m c) (argN m c) (argB m c) := by
  refine (dats m 0 c).arrAt_eq_of_covers 6 _ (by decide +kernel) fun t hf y => ?_
  blk_simp
  rw [after0_6]
  have h : t.val % 2 = 1 := (flush0_6 t).1 hf
  rw [show y = ix2 (y 0) (y 1) from eq_ix2 y]
  refine (row_at m c t h (y 0) (y 1)).trans ?_
  refine (firstStep_at _ _ _ _ _ _ _ (tokAt t (y 0)) (y 1) ?_ ?_).symm
  · blk_simp [idx t]
  · blk_simp [idx t]

end Ffn.Sample.First
-- ==== Proof.FfnSampleFirstRef.lean ====
/-
  The reference of the first half-step on the sampled tokens: the array it leaves is the half-step of every token.
-/
module

public import proofs.«01_k».proof.Proof.FfnSampleRef
public import proofs.«01_k».proof.Proof.Gen.Reference7Ideal.Read

@[expose] public section

noncomputable section

namespace Ffn.Sample.FirstRef

open Idealize.ShloMosaic Idealize.ShloMosaic.ValueIdx
open Cert.Reference7Ideal Cert.Reference7Ideal.Gen Cert.Reference7Ideal.Read

variable (x : FVec Ideal Toks .f32) (wg wu : FVec Ideal Wide .f32) (wd : FVec Ideal Tall .f32) (g b : FVec Ideal Vct .f32)

theorem gate_line (a : Fin 128) (p : Fin 8) (h : Fin 2816) : val_main_v7 (F := Ideal) x wg (ix3 a p h) = dot (line x a p) fun k => inner wg k h := by
  rw [val_main_v7_apply]
  refine Finset.sum_congr rfl fun k _ => congrArg₂ (· * ·) (congrArg x (funext fun c => by fin_cases c <;> rfl)) ?_
  exact matrix_apply wg _ _ k h rfl rfl

theorem up_line (a : Fin 128) (p : Fin 8) (h : Fin 2816) : val_main_v9 (F := Ideal) x wu (ix3 a p h) = dot (line x a p) fun k => inner wu k h := by
  rw [val_main_v9_apply]
  refine Finset.sum_congr rfl fun k _ => congrArg₂ (· * ·) (congrArg x (funext fun c => by fin_cases c <;> rfl)) ?_
  exact matrix_apply wu _ _ k h rfl rfl

theorem gated_line (a : Fin 128) (p : Fin 8) (h : Fin 2816) :
    val_main_v10 (F := Ideal) x wg wu (ix3 a p h) = gated (dot (line x a p) fun k => inner wg k h) (dot (line x a p) fun k => inner wu k h) := by
  rw [← gate_line, ← up_line]
  generalize hv : val_main_v7 (F := Ideal) x wg (ix3 a p h) = v
  generalize hu : val_main_v9 (F := Ideal) x wu (ix3 a p h) = u
  show val_main_v7 (F := Ideal) x wg (ix3 a p h) * Ideal.div (Ideal.ofBits .f32 0x3F800000#32) (Ideal.ofBits .f32 0x3F800000#32
    + Ideal.exp (-val_main_v7 (F := Ideal) x wg (ix3 a p h))) * val_main_v9 (F := Ideal) x wu (ix3 a p h) = _
  rw [hv, hu, Ideal.ofBits_one_f32]
  rfl

theorem feed_line (a : Fin 128) (p : Fin 8) (d : Fin 1024) :
    val_main_v11 (F := Ideal) x wg wu wd (ix3 a p d) = part (line x a p) (inner wg) (inner wu) fun h => inner wd h d := by
  rw [val_main_v11_apply]
  refine Finset.sum_congr rfl fun h _ => congrArg₂ (· * ·) ?_ ?_
  · refine (congrArg (val_main_v10 (F := Ideal) x wg wu) (?_ : _ = ix3 a p h)).trans (gated_line x wg wu a p h)
    funext c; fin_cases c <;> rfl
  · exact matrix_apply wd _ _ h d rfl rfl

theorem stepped_line (a : Fin 128) (p : Fin 8) :
    line (val_main_v14 (F := Ideal) x wg wu wd) a p = stepped (line x a p) fun d => part (line x a p) (inner wg) (inner wu) fun h => inner wd h d := by
  funext d
  show Ideal.ofBits .f32 0x3F9837F0#32 * x (ix3 a p d) + Ideal.ofBits .f32 0x3F000000#32 * val_main_v11 (F := Ideal) x wg wu wd (ix3 a p d) = _
  rw [feed_line]
  rfl

theorem normed_eq : val_main_v38 (F := Ideal) x wg wu wd g b = hostNorm (val_main_v14 (F := Ideal) x wg wu wd) g b := rfl

/-- The half-step of every token. -/
theorem reference_eq : val_main_v39 (F := Ideal) x wg wu wd g b = firstStep x wg wu wd g b := by
  funext y
  refine (rows_apply _ _ y (y 0) (y 1) rfl rfl).trans ?_
  rw [normed_eq]
  refine (hostNorm_apply _ g b _ _ _).trans ?_
  rw [stepped_line]
  rfl

end Ffn.Sample.FirstRef
-- ==== Proof.lean ====
/-
  The claims of seven calls of the layer's kernels, the sparse attention of the prompt, and of the prompt and of the sampled
  tokens the two feed-forward half-steps and the input projection: each runs to completion and leaves its arguments as they
  were, as printed and with exact arithmetic, and so does its reference; and with exact arithmetic the kernel and the reference
  leave the same arrays, the attention of real arguments and the others of any.
-/
module

public import proofs.«01_k».proof.Defs
public import proofs.«01_k».proof.Proof.Gen.Kernel
public import proofs.«01_k».proof.Proof.Launch
public import proofs.«01_k».proof.Proof.Arrays
public import proofs.«01_k».proof.Proof.Answer
public import proofs.«01_k».proof.Proof.Real
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel3
public import proofs.«01_k».proof.Proof.Gen.Kernel4
public import proofs.«01_k».proof.Proof.Gen.Reference4Ideal.Run
public import proofs.«01_k».proof.Proof.Gen.Reference4Ideal.Read
public import proofs.«01_k».proof.Proof.FfnFirst
public import proofs.«01_k».proof.Proof.FfnSecond
public import proofs.«01_k».proof.Proof.FfnRef
public import proofs.«01_k».proof.Proof.FfnMixRef
public import proofs.«01_k».proof.Proof.RotaryOut
public import proofs.«01_k».proof.Proof.RotaryRef
public import proofs.«01_k».proof.Proof.Gen.Kernel5
public import proofs.«01_k».proof.Proof.Gen.Kernel5Ideal.Value
public import proofs.«01_k».proof.Proof.Gen.Reference5Ideal.Run
public import proofs.«01_k».proof.Proof.Gen.Reference5Ideal.Read
public import proofs.«01_k».proof.Proof.FfnSampleKernel
public import proofs.«01_k».proof.Proof.FfnSampleRef
public import proofs.«01_k».proof.Proof.Gen.Kernel6
public import proofs.«01_k».proof.Proof.Gen.Kernel6Ideal.Value
public import proofs.«01_k».proof.Proof.Gen.Reference6Ideal.Run
public import proofs.«01_k».proof.Proof.Gen.Reference6Ideal.Read
public import proofs.«01_k».proof.Proof.RotarySampleOut
public import proofs.«01_k».proof.Proof.RotarySampleRef
public import proofs.«01_k».proof.Proof.Gen.Kernel7
public import proofs.«01_k».proof.Proof.Gen.Kernel7Ideal.Value
public import proofs.«01_k».proof.Proof.Gen.Reference7Ideal.Run
public import proofs.«01_k».proof.Proof.Gen.Reference7Ideal.Read
public import proofs.«01_k».proof.Proof.FfnSampleFirst
public import proofs.«01_k».proof.Proof.FfnSampleFirstRef
public import Idealize.ShloMosaic.Adequacy
public import Idealize.ShloMosaic.Init

@[expose] public section

noncomputable section

namespace Cert.Proof

open Idealize.ShloMosaic Idealize.SL.Sem

/-! ## The sparse attention -/

/-- The two printed body tables are one table. -/
theorem defs₀_eq : Cert.Kernel.defs₀ (F := Bits) = Cert.KernelIdeal.defs₀ (F := Bits) := by
  unfold Cert.Kernel.defs₀ Cert.KernelIdeal.defs₀
  congr 1
  funext l x
  match l, x with
  | 0, (t, s) => rfl
  | ⟨_ + 1, h⟩, _ => exact absurd h (Nat.not_lt.2 (Nat.le_add_left _ _))

/-- So are the programs' tables. -/
theorem defs_eq : Cert.Kernel.defs (F := Bits) = Cert.KernelIdeal.defs (F := Bits) := by
  unfold Cert.Kernel.defs Cert.KernelIdeal.defs
  rw [defs₀_eq]
  rfl

/-- The kernel as printed runs, its arguments end unchanged and every counter at zero. -/
theorem frame_kernel : Cert.quiescent_Kernel (hKernel := Cert.Kernel.Gen.facts) := by
  intro m ρ _
  rw [defs_eq]
  exact Attn.frame (F := Bits) m ρ

/-- So does the kernel with exact arithmetic. -/
theorem frame_kernelIdeal : Cert.quiescent_KernelIdeal (hKernelIdeal := Cert.KernelIdeal.Gen.facts) :=
  fun m ρ _ => Attn.frame (F := Ideal) m ρ

/-- The reference runs, its arguments end unchanged; it has no counter. -/
theorem frame_referenceIdeal : Cert.quiescent_ReferenceIdeal (hReferenceIdeal := Cert.ReferenceIdeal.Gen.facts) := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- With exact arithmetic the kernel leaves the attention of its arguments, and its arguments as they were. -/
theorem kernel_value (m : (ℓ : Loc Cert.KernelIdeal.nD Cert.KernelIdeal.τ Cert.KernelIdeal.sig) → Buf (Elt Ideal) ℓ) (ρ : Dev Cert.KernelIdeal.nD → PrngReg)
    (hS : ∀ c b p j, Attn.IsReal (Attn.indexScore (Attn.argQi m c) (Attn.argKi m c) (Attn.argWi m c) b p j)) :
    θ_run (Cert.KernelIdeal.defs (F := Ideal)) (onTc (τ := Cert.KernelIdeal.τ) (Cert.KernelIdeal.main (F := Ideal))) ⟨m, fun _ => 0, ρ⟩
      fun r => ∀ c : Dev Cert.KernelIdeal.nD, r.2.mem ((c.tc : Thread Cert.KernelIdeal.nD Cert.KernelIdeal.τ).loc Cert.KernelIdeal.main_v12)
        = Attn.result (Attn.argQ m c) (Attn.argK m c) (Attn.argV m c) (Attn.argQi m c) (Attn.argKi m c) (Attn.argWi m c) :=
  (θ_run Cert.KernelIdeal.defs _ _).mono (fun r h c => ((h c).1 6).trans (Attn.array_eq m c (hS c))) (Attn.run_main m ρ)

/-- Of real arguments the kernel and the reference leave one array. -/
theorem algebraic : Cert.algebraic_KernelIdeal_ReferenceIdeal_pre_finite (hKernelIdeal := Cert.KernelIdeal.Gen.facts)
    (hReferenceIdeal := Cert.ReferenceIdeal.Gen.facts) (hPre_finite := Attn.preFacts) := by
  intro m ρ m' ρ' hpre hag
  have hr := fun c => Attn.real_of_pre (hpre c)
  refine ⟨fun c => Attn.result (Attn.argQ m c) (Attn.argK m c) (Attn.argV m c) (Attn.argQi m c) (Attn.argKi m c) (Attn.argWi m c), ?_, ?_⟩
  · refine (θ_run Cert.KernelIdeal.defs _ _).mono (fun r h c => ⟨h.1 c, h.2.1 c⟩)
      (θ_run_and (kernel_value m ρ fun c => Attn.indexScore_real (hr c).2.2.1 (hr c).2.2.2.1 (hr c).2.2.2.2) (Attn.frame (F := Ideal) m ρ))
  · refine (θ_run Cert.ReferenceIdeal.defs _ _).mono (fun r h c => ⟨(h c).1.trans ?_, (h c).2⟩) (Cert.ReferenceIdeal.Value.run (F := Ideal) m' ρ')
    obtain ⟨h0, h1, h2, h3, h4, h5⟩ := hag c
    rw [Cert.ReferenceIdeal.Read.val_main_v65_eq, h0, h1, h2, h3, h4, h5]
    exact Attn.answer_eq _ (hr c).1 (hr c).2.1 (hr c).2.2.1 (hr c).2.2.2.1 (hr c).2.2.2.2

/-! ## The first half-step -/

/-- The two printed body tables are one table. -/
theorem defs₀_eq2 : Cert.Kernel2.defs₀ (F := Bits) = Cert.Kernel2Ideal.defs₀ (F := Bits) := by
  unfold Cert.Kernel2.defs₀ Cert.Kernel2Ideal.defs₀
  congr 1
  funext l x
  match l, x with
  | 0, (t, s) => rfl
  | ⟨_ + 1, h⟩, _ => exact absurd h (Nat.not_lt.2 (Nat.le_add_left _ _))

/-- So are the programs' tables. -/
theorem defs_eq2 : Cert.Kernel2.defs (F := Bits) = Cert.Kernel2Ideal.defs (F := Bits) := by
  unfold Cert.Kernel2.defs Cert.Kernel2Ideal.defs
  rw [defs₀_eq2]
  rfl

/-- The kernel as printed runs, its arguments end unchanged and every counter at zero. -/
theorem frame_kernel2 : Cert.quiescent_Kernel2 (hKernel2 := Cert.Kernel2.Gen.facts) := by
  intro m ρ _
  rw [defs_eq2]
  exact Cert.Kernel2Ideal.Gen.frame (F := Bits) m ρ

/-- So does the kernel with exact arithmetic. -/
theorem frame_kernel2Ideal : Cert.quiescent_Kernel2Ideal (hKernel2Ideal := Cert.Kernel2Ideal.Gen.facts) :=
  fun m ρ _ => Cert.Kernel2Ideal.Gen.frame (F := Ideal) m ρ

/-- The reference runs, its arguments end unchanged; it has no counter. -/
theorem frame_reference2Ideal : Cert.quiescent_Reference2Ideal (hReference2Ideal := Cert.Reference2Ideal.Gen.facts) := by
  intro m ρ _
  exact (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The kernel and the reference leave one array. -/
theorem algebraic2 : Cert.algebraic_Kernel2Ideal_Reference2Ideal (hKernel2Ideal := Cert.Kernel2Ideal.Gen.facts)
    (hReference2Ideal := Cert.Reference2Ideal.Gen.facts) := by
  intro m ρ m' ρ' _ hag
  refine ⟨fun c => Ffn.firstStep (Ffn.First.argX m c) (Ffn.First.argG m c) (Ffn.First.argU m c) (Ffn.First.argD m c) (Ffn.First.argN m c) (Ffn.First.argB m c), ?_, ?_⟩
  · exact (θ_run Cert.Kernel2Ideal.defs _ _).mono (fun r h c => ⟨(h c).1.trans (Ffn.First.array_eq m c), (h c).2⟩)
      (Cert.Kernel2Ideal.Value.run_blocks (F := Ideal) m ρ)
  · refine (θ_run Cert.Reference2Ideal.defs _ _).mono (fun r h c => ⟨(h c).1.trans ?_, (h c).2⟩) (Cert.Reference2Ideal.Value.run (F := Ideal) m' ρ')
    obtain ⟨h0, h1, h2, h3, h4, h5⟩ := hag c
    refine (Cert.Reference2Ideal.Read.val_main_v39_eq m' c).trans ?_
    rw [h0, h1, h2, h3, h4, h5]
    exact Ffn.reference_eq _ _ _ _ _ _

/-! ## The second half-step -/

/-- The two printed body tables are one table. -/
theorem defs₀_eq3 : Cert.Kernel3.defs₀ (F := Bits) = Cert.Kernel3Ideal.defs₀ (F := Bits) := by
  unfold Cert.Kernel3.defs₀ Cert.Kernel3Ideal.defs₀
  congr 1
  funext l x
  match l, x with
  | 0, (t, s) => rfl
  | ⟨_ + 1, h⟩, _ => exact absurd h (Nat.not_lt.2 (Nat.le_add_left _ _))

/-- So are the programs' tables. -/
theorem defs_eq3 : Cert.Kernel3.defs (F := Bits) = Cert.Kernel3Ideal.defs (F := Bits) := by
  unfold Cert.Kernel3.defs Cert.Kernel3Ideal.defs
  rw [defs₀_eq3]
  rfl

/-- The kernel as printed runs, its arguments end unchanged and every counter at zero. -/
theorem frame_kernel3 : Cert.quiescent_Kernel3 (hKernel3 := Cert.Kernel3.Gen.facts) := by
  intro m ρ _
  rw [defs_eq3]
  exact Cert.Kernel3Ideal.Gen.frame (F := Bits) m ρ

/-- So does the kernel with exact arithmetic. -/
theorem frame_kernel3Ideal : Cert.quiescent_Kernel3Ideal (hKernel3Ideal := Cert.Kernel3Ideal.Gen.facts) :=
  fun m ρ _ => Cert.Kernel3Ideal.Gen.frame (F := Ideal) m ρ

/-- The reference runs, its arguments end unchanged; it has no counter. -/
theorem frame_reference3Ideal : Cert.quiescent_Reference3Ideal (hReference3Ideal := Cert.Reference3Ideal.Gen.facts) := by
  intro m ρ _
  exact (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- The kernel and the reference leave one array. -/
theorem algebraic3 : Cert.algebraic_Kernel3Ideal_Reference3Ideal (hKernel3Ideal := Cert.Kernel3Ideal.Gen.facts)
    (hReference3Ideal := Cert.Reference3Ideal.Gen.facts) := by
  intro m ρ m' ρ' _ hag
  refine ⟨fun c => Ffn.secondStep (Ffn.Second.argX m c) (Ffn.Second.argA m c) (Ffn.Second.argR m c) (Ffn.Second.argO m c) (Ffn.Second.argN₂ m c) (Ffn.Second.argB₂ m c) (Ffn.Second.argG m c) (Ffn.Second.argU m c) (Ffn.Second.argD m c) (Ffn.Second.argN m c) (Ffn.Second.argB m c), ?_, ?_⟩
  · exact (θ_run Cert.Kernel3Ideal.defs _ _).mono (fun r h c => ⟨(h c).1.trans (Ffn.Second.array_eq m c), (h c).2⟩)
      (Cert.Kernel3Ideal.Value.run_blocks (F := Ideal) m ρ)
  · refine (θ_run Cert.Reference3Ideal.defs _ _).mono (fun r h c => ⟨(h c).1.trans ?_, (h c).2⟩) (Cert.Reference3Ideal.Value.run (F := Ideal) m' ρ')
    obtain ⟨h0, h1, h2, h3, h4, h5, h6, h7, h8, h9, h10⟩ := hag c
    refine (Cert.Reference3Ideal.Read.val_main_v71_eq _).trans ?_
    refine (Ffn.mixReference_eq (m' (c.tc.loc Cert.Reference3Ideal.main_arg0)) (m' (c.tc.loc Cert.Reference3Ideal.main_arg1)) (m' (c.tc.loc Cert.Reference3Ideal.main_arg2))
      (m' (c.tc.loc Cert.Reference3Ideal.main_arg3)) (m' (c.tc.loc Cert.Reference3Ideal.main_arg4)) (m' (c.tc.loc Cert.Reference3Ideal.main_arg5))
      (m' (c.tc.loc Cert.Reference3Ideal.main_arg6)) (m' (c.tc.loc Cert.Reference3Ideal.main_arg7)) (m' (c.tc.loc Cert.Reference3Ideal.main_arg8))
      (m' (c.tc.loc Cert.Reference3Ideal.main_arg9)) (m' (c.tc.loc Cert.Reference3Ideal.main_arg10))).trans ?_
    rw [h0, h1, h2, h3, h4, h5, h6, h7, h8, h9, h10]

/-! ## The input projection -/

set_option maxHeartbeats 2000000 in
/-- The two printed body tables are one table. -/
theorem defs₀_eq4 : Cert.Kernel4.defs₀ (F := Bits) = Cert.Kernel4Ideal.defs₀ (F := Bits) := by
  unfold Cert.Kernel4.defs₀ Cert.Kernel4Ideal.defs₀
  congr 1
  funext l x
  match l, x with
  | 0, (t, s) => rfl
  | ⟨_ + 1, h⟩, _ => exact absurd h (Nat.not_lt.2 (Nat.le_add_left _ _))

set_option maxHeartbeats 2000000 in
/-- So are the programs' tables. -/
theorem defs_eq4 : Cert.Kernel4.defs (F := Bits) = Cert.Kernel4Ideal.defs (F := Bits) := by
  unfold Cert.Kernel4.defs Cert.Kernel4Ideal.defs
  rw [defs₀_eq4]
  rfl

set_option maxHeartbeats 2000000 in
/-- The kernel as printed runs, its arguments end unchanged and every counter at zero. -/
theorem frame_kernel4 : Cert.quiescent_Kernel4 (hKernel4 := Cert.Kernel4.Gen.facts) := by
  intro m ρ _
  rw [defs_eq4]
  exact Cert.Kernel4Ideal.Gen.frame (F := Bits) m ρ

/-- So does the kernel with exact arithmetic. -/
theorem frame_kernel4Ideal : Cert.quiescent_Kernel4Ideal (hKernel4Ideal := Cert.Kernel4Ideal.Gen.facts) :=
  fun m ρ _ => Cert.Kernel4Ideal.Gen.frame (F := Ideal) m ρ

/-- The reference runs, its arguments end unchanged; it has no counter. -/
theorem frame_reference4Ideal : Cert.quiescent_Reference4Ideal (hReference4Ideal := Cert.Reference4Ideal.Gen.facts) := by
  intro m ρ _
  exact (θ_run Cert.Reference4Ideal.defs _ _).mono
    (fun r h => ⟨fun c => (h c).2.2.2.2.2.2.2.2.2.2.2, Idealize.ShloMosaic.sem_eq_zero_of_no_sems (by decide) r.2⟩)
    (Cert.Reference4Ideal.Value.run (F := Ideal) m ρ)

/-- The kernel and the reference leave the same eleven arrays. -/
theorem algebraic4 : Cert.algebraic_Kernel4Ideal_Reference4Ideal (hKernel4Ideal := Cert.Kernel4Ideal.Gen.facts)
    (hReference4Ideal := Cert.Reference4Ideal.Gen.facts) := by
  intro m ρ m' ρ' _ hag
  refine ⟨fun c => Inp.heads Inp.Kernel.cosT Inp.Kernel.sinT (Inp.Kernel.argX m c) (Inp.Kernel.argW m c) 0 (by omega),
    fun c => Inp.heads Inp.Kernel.cosT Inp.Kernel.sinT (Inp.Kernel.argX m c) (Inp.Kernel.argW m c) 768 (by omega),
    fun c => Inp.headsT Inp.Kernel.cosT Inp.Kernel.sinT (Inp.Kernel.argX m c) (Inp.Kernel.argW m c) 128 512 (by omega) (by omega),
    fun c => Inp.headsT Inp.Kernel.cosT Inp.Kernel.sinT (Inp.Kernel.argX m c) (Inp.Kernel.argW m c) 64 1280 (by omega) (by omega),
    fun c => Inp.colsT (Inp.Kernel.argX m c) (Inp.Kernel.argW m c) 640 (by omega),
    fun c => Inp.small (Inp.Kernel.argX m c) (Inp.Kernel.argW m c),
    fun c => Inp.cols (Inp.Kernel.argX m c) (Inp.Kernel.argW m c) 1536 1352 (by omega),
    fun c => Inp.cols (Inp.Kernel.argX m c) (Inp.Kernel.argW m c) 512 2888 (by omega),
    fun c => Inp.headsT Inp.Kernel.cosT Inp.Kernel.sinT (Inp.Kernel.argX m c) (Inp.Kernel.argW m c) 128 512 (by omega) (by omega),
    fun c => Inp.headsT Inp.Kernel.cosT Inp.Kernel.sinT (Inp.Kernel.argX m c) (Inp.Kernel.argW m c) 64 1280 (by omega) (by omega),
    fun c => Inp.colsT (Inp.Kernel.argX m c) (Inp.Kernel.argW m c) 640 (by omega), ?_, ?_⟩
  · refine (θ_run Cert.Kernel4Ideal.defs _ _).mono (fun r h c => ?_) (Cert.Kernel4Ideal.Value.run_blocks (F := Ideal) m ρ)
    obtain ⟨h0, h1, h2, h3, h4, h5, h6, h7, h8, h9, h10, hr⟩ := h c
    exact ⟨h0.trans (Inp.Kernel.array9 m c),
      h1.trans (Inp.Kernel.array10 m c),
      h2.trans (Inp.Kernel.array11 m c),
      h3.trans (Inp.Kernel.array12 m c),
      h4.trans (Inp.Kernel.array13 m c),
      h5.trans (Inp.Kernel.array14 m c),
      h6.trans (Inp.Kernel.array15 m c),
      h7.trans (Inp.Kernel.array16 m c),
      h8.trans (Inp.Kernel.array17 m c),
      h9.trans (Inp.Kernel.array18 m c),
      h10.trans (Inp.Kernel.array19 m c), hr⟩
  · refine (θ_run Cert.Reference4Ideal.defs _ _).mono (fun r h c => ?_) (Cert.Reference4Ideal.Value.run (F := Ideal) m' ρ')
    obtain ⟨h0, h1, h2, h3, h4, h5, h6, h7, h8, h9, h10, hr⟩ := h c
    obtain ⟨e0, e1⟩ := hag c
    refine ⟨h0.trans ((Cert.Reference4Ideal.Read.val_main_v157_eq m' c).trans ?_),
      h1.trans ((Cert.Reference4Ideal.Read.val_main_v158_eq m' c).trans ?_),
      h2.trans ((Cert.Reference4Ideal.Read.val_main_v150_eq m' c).trans ?_),
      h3.trans ((Cert.Reference4Ideal.Read.val_main_v153_eq m' c).trans ?_),
      h4.trans ((Cert.Reference4Ideal.Read.val_main_v152_eq _ _).trans ?_),
      h5.trans ((Cert.Reference4Ideal.Read.val_main_v156_eq _ _).trans ?_),
      h6.trans ((Cert.Reference4Ideal.Read.val_main_v159_eq _ _).trans ?_),
      h7.trans ((Cert.Reference4Ideal.Read.val_main_v160_eq _ _).trans ?_),
      h8.trans ((Cert.Reference4Ideal.Read.val_main_v161_eq m' c).trans ?_),
      h9.trans ((Cert.Reference4Ideal.Read.val_main_v162_eq m' c).trans ?_),
      h10.trans ((Cert.Reference4Ideal.Read.val_main_v163_eq _ _).trans ?_), hr⟩
    · rw [e0, e1]; exact Inp.Ref.res0 _ _
    · rw [e0, e1]; exact Inp.Ref.res1 _ _
    · rw [e0, e1]; exact Inp.Ref.res2 _ _
    · rw [e0, e1]; exact Inp.Ref.res3 _ _
    · rw [e0, e1]; exact Inp.Ref.res4 _ _
    · rw [e0, e1]; exact Inp.Ref.res5 _ _
    · rw [e0, e1]; exact Inp.Ref.res6 _ _
    · rw [e0, e1]; exact Inp.Ref.res7 _ _
    · rw [e0, e1]; exact Inp.Ref.res8 _ _
    · rw [e0, e1]; exact Inp.Ref.res9 _ _
    · rw [e0, e1]; exact Inp.Ref.res10 _ _

/-! ## The second half-step of the sampled tokens -/

/-- The two printed body tables are one table. -/
theorem defs₀_eq5 : Cert.Kernel5.defs₀ (F := Bits) = Cert.Kernel5Ideal.defs₀ (F := Bits) := by
  unfold Cert.Kernel5.defs₀ Cert.Kernel5Ideal.defs₀
  congr 1
  funext l x
  match l, x with
  | 0, (t, s) => rfl
  | ⟨_ + 1, h⟩, _ => exact absurd h (Nat.not_lt.2 (Nat.le_add_left _ _))

/-- So are the programs' tables. -/
theorem defs_eq5 : Cert.Kernel5.defs (F := Bits) = Cert.Kernel5Ideal.defs (F := Bits) := by
  unfold Cert.Kernel5.defs Cert.Kernel5Ideal.defs
  rw [defs₀_eq5]
  rfl

/-- The kernel as printed runs, its arguments end unchanged and every counter at zero. -/
theorem frame_kernel5 : Cert.quiescent_Kernel5 (hKernel5 := Cert.Kernel5.Gen.facts) := by
  intro m ρ _
  rw [defs_eq5]
  exact Cert.Kernel5Ideal.Gen.frame (F := Bits) m ρ

/-- So does the kernel with exact arithmetic. -/
theorem frame_kernel5Ideal : Cert.quiescent_Kernel5Ideal (hKernel5Ideal := Cert.Kernel5Ideal.Gen.facts) :=
  fun m ρ _ => Cert.Kernel5Ideal.Gen.frame (F := Ideal) m ρ

/-- The reference runs, its arguments end unchanged; it has no counter. -/
theorem frame_reference5Ideal : Cert.quiescent_Reference5Ideal (hReference5Ideal := Cert.Reference5Ideal.Gen.facts) := by
  intro m ρ _
  exact (θ_run Cert.Reference5Ideal.defs _ _).mono
    (fun r h => ⟨fun c => (h c).2, Idealize.ShloMosaic.sem_eq_zero_of_no_sems (by decide) r.2⟩)
    (Cert.Reference5Ideal.Value.run (F := Ideal) m ρ)

/-- The kernel and the reference leave one array. -/
theorem algebraic5 : Cert.algebraic_Kernel5Ideal_Reference5Ideal (hKernel5Ideal := Cert.Kernel5Ideal.Gen.facts)
    (hReference5Ideal := Cert.Reference5Ideal.Gen.facts) := by
  intro m ρ m' ρ' _ hag
  refine ⟨fun c => Ffn.Sample.secondStep (Ffn.Sample.Kernel.argX m c) (Ffn.Sample.Kernel.argA m c) (Ffn.Sample.Kernel.argR m c) (Ffn.Sample.Kernel.argO m c) (Ffn.Sample.Kernel.argN₂ m c) (Ffn.Sample.Kernel.argB₂ m c) (Ffn.Sample.Kernel.argG m c) (Ffn.Sample.Kernel.argU m c) (Ffn.Sample.Kernel.argD m c) (Ffn.Sample.Kernel.argN m c) (Ffn.Sample.Kernel.argB m c), ?_, ?_⟩
  · exact (θ_run Cert.Kernel5Ideal.defs _ _).mono (fun r h c => ⟨(h c).1.trans (Ffn.Sample.Kernel.array_eq m c), (h c).2⟩)
      (Cert.Kernel5Ideal.Value.run_blocks (F := Ideal) m ρ)
  · refine (θ_run Cert.Reference5Ideal.defs _ _).mono (fun r h c => ⟨(h c).1.trans ?_, (h c).2⟩) (Cert.Reference5Ideal.Value.run (F := Ideal) m' ρ')
    obtain ⟨h0, h1, h2, h3, h4, h5, h6, h7, h8, h9, h10⟩ := hag c
    refine (Cert.Reference5Ideal.Read.val_main_v71_eq _).trans ?_
    refine (Ffn.Sample.reference_eq (m' (c.tc.loc Cert.Reference5Ideal.main_arg0)) (m' (c.tc.loc Cert.Reference5Ideal.main_arg1)) (m' (c.tc.loc Cert.Reference5Ideal.main_arg2))
      (m' (c.tc.loc Cert.Reference5Ideal.main_arg3)) (m' (c.tc.loc Cert.Reference5Ideal.main_arg4)) (m' (c.tc.loc Cert.Reference5Ideal.main_arg5))
      (m' (c.tc.loc Cert.Reference5Ideal.main_arg6)) (m' (c.tc.loc Cert.Reference5Ideal.main_arg7)) (m' (c.tc.loc Cert.Reference5Ideal.main_arg8))
      (m' (c.tc.loc Cert.Reference5Ideal.main_arg9)) (m' (c.tc.loc Cert.Reference5Ideal.main_arg10))).trans ?_
    rw [h0, h1, h2, h3, h4, h5, h6, h7, h8, h9, h10]

/-! ## The input projection of the sampled tokens -/

set_option maxHeartbeats 2000000 in
/-- The two printed body tables are one table. -/
theorem defs₀_eq6 : Cert.Kernel6.defs₀ (F := Bits) = Cert.Kernel6Ideal.defs₀ (F := Bits) := by
  unfold Cert.Kernel6.defs₀ Cert.Kernel6Ideal.defs₀
  congr 1
  funext l x
  match l, x with
  | 0, (t, s) => rfl
  | ⟨_ + 1, h⟩, _ => exact absurd h (Nat.not_lt.2 (Nat.le_add_left _ _))

set_option maxHeartbeats 2000000 in
/-- So are the programs' tables. -/
theorem defs_eq6 : Cert.Kernel6.defs (F := Bits) = Cert.Kernel6Ideal.defs (F := Bits) := by
  unfold Cert.Kernel6.defs Cert.Kernel6Ideal.defs
  rw [defs₀_eq6]
  rfl

set_option maxHeartbeats 2000000 in
/-- The kernel as printed runs, its arguments end unchanged and every counter at zero. -/
theorem frame_kernel6 : Cert.quiescent_Kernel6 (hKernel6 := Cert.Kernel6.Gen.facts) := by
  intro m ρ _
  rw [defs_eq6]
  exact Cert.Kernel6Ideal.Gen.frame (F := Bits) m ρ

/-- So does the kernel with exact arithmetic. -/
theorem frame_kernel6Ideal : Cert.quiescent_Kernel6Ideal (hKernel6Ideal := Cert.Kernel6Ideal.Gen.facts) :=
  fun m ρ _ => Cert.Kernel6Ideal.Gen.frame (F := Ideal) m ρ

/-- The reference runs, its arguments end unchanged; it has no counter. -/
theorem frame_reference6Ideal : Cert.quiescent_Reference6Ideal (hReference6Ideal := Cert.Reference6Ideal.Gen.facts) := by
  intro m ρ _
  exact (θ_run Cert.Reference6Ideal.defs _ _).mono
    (fun r h => ⟨fun c => (h c).2.2.2.2.2.2.2.2, Idealize.ShloMosaic.sem_eq_zero_of_no_sems (by decide) r.2⟩)
    (Cert.Reference6Ideal.Value.run (F := Ideal) m ρ)

/-- The kernel and the reference leave the same eight arrays. -/
theorem algebraic6 : Cert.algebraic_Kernel6Ideal_Reference6Ideal (hKernel6Ideal := Cert.Kernel6Ideal.Gen.facts)
    (hReference6Ideal := Cert.Reference6Ideal.Gen.facts) := by
  intro m ρ m' ρ' _ hag
  refine ⟨fun c => Inp.Sample.heads Inp.Sample.Kernel.cosT Inp.Sample.Kernel.sinT (Inp.Sample.Kernel.argX m c) (Inp.Sample.Kernel.argW m c) 512 0 (by omega) (by omega),
    fun c => Inp.Sample.heads Inp.Sample.Kernel.cosT Inp.Sample.Kernel.sinT (Inp.Sample.Kernel.argX m c) (Inp.Sample.Kernel.argW m c) 512 768 (by omega) (by omega),
    fun c => Inp.Sample.heads Inp.Sample.Kernel.cosT Inp.Sample.Kernel.sinT (Inp.Sample.Kernel.argX m c) (Inp.Sample.Kernel.argW m c) 128 512 (by omega) (by omega),
    fun c => Inp.Sample.heads Inp.Sample.Kernel.cosT Inp.Sample.Kernel.sinT (Inp.Sample.Kernel.argX m c) (Inp.Sample.Kernel.argW m c) 64 1280 (by omega) (by omega),
    fun c => Inp.Sample.cols (Inp.Sample.Kernel.argX m c) (Inp.Sample.Kernel.argW m c) 128 640 (by omega),
    fun c => Inp.Sample.small (Inp.Sample.Kernel.argX m c) (Inp.Sample.Kernel.argW m c),
    fun c => Inp.Sample.cols (Inp.Sample.Kernel.argX m c) (Inp.Sample.Kernel.argW m c) 1536 1352 (by omega),
    fun c => Inp.Sample.cols (Inp.Sample.Kernel.argX m c) (Inp.Sample.Kernel.argW m c) 512 2888 (by omega), ?_, ?_⟩
  · refine (θ_run Cert.Kernel6Ideal.defs _ _).mono (fun r h c => ?_) (Cert.Kernel6Ideal.Value.run_blocks (F := Ideal) m ρ)
    obtain ⟨h0, h1, h2, h3, h4, h5, h6, h7, hr⟩ := h c
    exact ⟨h0.trans (Inp.Sample.Kernel.array9 m c),
      h1.trans (Inp.Sample.Kernel.array10 m c),
      h2.trans (Inp.Sample.Kernel.array11 m c),
      h3.trans (Inp.Sample.Kernel.array12 m c),
      h4.trans (Inp.Sample.Kernel.array13 m c),
      h5.trans (Inp.Sample.Kernel.array14 m c),
      h6.trans (Inp.Sample.Kernel.array15 m c),
      h7.trans (Inp.Sample.Kernel.array16 m c), hr⟩
  · refine (θ_run Cert.Reference6Ideal.defs _ _).mono (fun r h c => ?_) (Cert.Reference6Ideal.Value.run (F := Ideal) m' ρ')
    obtain ⟨h0, h1, h2, h3, h4, h5, h6, h7, hr⟩ := h c
    obtain ⟨e0, e1⟩ := hag c
    refine ⟨h0.trans ((Cert.Reference6Ideal.Read.val_main_v154_eq m' c).trans ?_),
      h1.trans ((Cert.Reference6Ideal.Read.val_main_v155_eq m' c).trans ?_),
      h2.trans ((Cert.Reference6Ideal.Read.val_main_v156_eq m' c).trans ?_),
      h3.trans ((Cert.Reference6Ideal.Read.val_main_v157_eq m' c).trans ?_),
      h4.trans ((Cert.Reference6Ideal.Read.val_main_v158_eq _ _).trans ?_),
      h5.trans ((Cert.Reference6Ideal.Read.val_main_v153_eq _ _).trans ?_),
      h6.trans ((Cert.Reference6Ideal.Read.val_main_v159_eq _ _).trans ?_),
      h7.trans ((Cert.Reference6Ideal.Read.val_main_v160_eq _ _).trans ?_), hr⟩
    · rw [e0, e1]; exact Inp.Sample.Ref.res0 _ _
    · rw [e0, e1]; exact Inp.Sample.Ref.res1 _ _
    · rw [e0, e1]; exact Inp.Sample.Ref.res2 _ _
    · rw [e0, e1]; exact Inp.Sample.Ref.res3 _ _
    · rw [e0, e1]; exact Inp.Sample.Ref.res4 _ _
    · rw [e0, e1]; exact Inp.Sample.Ref.res5 _ _
    · rw [e0, e1]; exact Inp.Sample.Ref.res6 _ _
    · rw [e0, e1]; exact Inp.Sample.Ref.res7 _ _

/-! ## The first half-step of the sampled tokens -/

/-- The two printed body tables are one table. -/
theorem defs₀_eq7 : Cert.Kernel7.defs₀ (F := Bits) = Cert.Kernel7Ideal.defs₀ (F := Bits) := by
  unfold Cert.Kernel7.defs₀ Cert.Kernel7Ideal.defs₀
  congr 1
  funext l x
  match l, x with
  | 0, (t, s) => rfl
  | ⟨_ + 1, h⟩, _ => exact absurd h (Nat.not_lt.2 (Nat.le_add_left _ _))

/-- So are the programs' tables. -/
theorem defs_eq7 : Cert.Kernel7.defs (F := Bits) = Cert.Kernel7Ideal.defs (F := Bits) := by
  unfold Cert.Kernel7.defs Cert.Kernel7Ideal.defs
  rw [defs₀_eq7]
  rfl

/-- The kernel as printed runs, its arguments end unchanged and every counter at zero. -/
theorem frame_kernel7 : Cert.quiescent_Kernel7 (hKernel7 := Cert.Kernel7.Gen.facts) := by
  intro m ρ _
  rw [defs_eq7]
  exact Cert.Kernel7Ideal.Gen.frame (F := Bits) m ρ

/-- So does the kernel with exact arithmetic. -/
theorem frame_kernel7Ideal : Cert.quiescent_Kernel7Ideal (hKernel7Ideal := Cert.Kernel7Ideal.Gen.facts) :=
  fun m ρ _ => Cert.Kernel7Ideal.Gen.frame (F := Ideal) m ρ

/-- The reference runs, its arguments end unchanged; it has no counter. -/
theorem frame_reference7Ideal : Cert.quiescent_Reference7Ideal (hReference7Ideal := Cert.Reference7Ideal.Gen.facts) := by
  intro m ρ _
  exact (θ_run Cert.Reference7Ideal.defs _ _).mono
    (fun r h => ⟨fun c => (h c).2, Idealize.ShloMosaic.sem_eq_zero_of_no_sems (by decide) r.2⟩)
    (Cert.Reference7Ideal.Value.run (F := Ideal) m ρ)

/-- The kernel and the reference leave one array. -/
theorem algebraic7 : Cert.algebraic_Kernel7Ideal_Reference7Ideal (hKernel7Ideal := Cert.Kernel7Ideal.Gen.facts)
    (hReference7Ideal := Cert.Reference7Ideal.Gen.facts) := by
  intro m ρ m' ρ' _ hag
  refine ⟨fun c => Ffn.Sample.firstStep (Ffn.Sample.First.argX m c) (Ffn.Sample.First.argG m c) (Ffn.Sample.First.argU m c) (Ffn.Sample.First.argD m c) (Ffn.Sample.First.argN m c) (Ffn.Sample.First.argB m c), ?_, ?_⟩
  · exact (θ_run Cert.Kernel7Ideal.defs _ _).mono (fun r h c => ⟨(h c).1.trans (Ffn.Sample.First.array_eq m c), (h c).2⟩)
      (Cert.Kernel7Ideal.Value.run_blocks (F := Ideal) m ρ)
  · refine (θ_run Cert.Reference7Ideal.defs _ _).mono (fun r h c => ⟨(h c).1.trans ?_, (h c).2⟩) (Cert.Reference7Ideal.Value.run (F := Ideal) m' ρ')
    obtain ⟨h0, h1, h2, h3, h4, h5⟩ := hag c
    refine (Cert.Reference7Ideal.Read.val_main_v39_eq m' c).trans ?_
    rw [h0, h1, h2, h3, h4, h5]
    exact Ffn.Sample.FirstRef.reference_eq _ _ _ _ _ _

/-- The claims. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts, Cert.Kernel4Ideal.Gen.facts,
    Cert.Reference4Ideal.Gen.facts, Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts, Attn.preFacts,
    frame_kernel, frame_kernelIdeal, fun m ρ _ => frame_kernelIdeal m ρ trivial, frame_referenceIdeal, fun m ρ _ => frame_referenceIdeal m ρ trivial,
    frame_kernel2, frame_kernel2Ideal, frame_reference2Ideal, frame_kernel3, frame_kernel3Ideal, frame_reference3Ideal,
    frame_kernel4, frame_kernel4Ideal, frame_reference4Ideal, frame_kernel5, frame_kernel5Ideal, frame_reference5Ideal, frame_kernel6, frame_kernel6Ideal, frame_reference6Ideal,
    frame_kernel7, frame_kernel7Ideal, frame_reference7Ideal, trivial, algebraic, trivial, algebraic2, trivial, algebraic3, trivial, algebraic4,
    trivial, algebraic5, trivial, algebraic6, trivial, algebraic7⟩

end Cert.Proof

end
